-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_MlpOutDx (m : (ℓ : Loc Cert.MlpOutDx.nD Cert.MlpOutDx.τ Cert.MlpOutDx.sig) → Buf (Elt Bits) ℓ) : Prop :=
  True

def Pre_MlpOutDxIdeal (m : (ℓ : Loc Cert.MlpOutDxIdeal.nD Cert.MlpOutDxIdeal.τ Cert.MlpOutDxIdeal.sig) → Buf (Elt Ideal) ℓ) : Prop :=
  True

def Pre_MlpOutDxRefIdeal (m : (ℓ : Loc Cert.MlpOutDxRefIdeal.nD Cert.MlpOutDxRefIdeal.τ Cert.MlpOutDxRefIdeal.sig) → Buf (Elt Ideal) ℓ) : Prop :=
  True

def Pre_ProjDx (m : (ℓ : Loc Cert.ProjDx.nD Cert.ProjDx.τ Cert.ProjDx.sig) → Buf (Elt Bits) ℓ) : Prop :=
  True

def Pre_ProjDxIdeal (m : (ℓ : Loc Cert.ProjDxIdeal.nD Cert.ProjDxIdeal.τ Cert.ProjDxIdeal.sig) → Buf (Elt Ideal) ℓ) : Prop :=
  True

def Pre_ProjDxRefIdeal (m : (ℓ : Loc Cert.ProjDxRefIdeal.nD Cert.ProjDxRefIdeal.τ Cert.ProjDxRefIdeal.sig) → Buf (Elt Ideal) ℓ) : Prop :=
  True

def Pre_MlpInDx (m : (ℓ : Loc Cert.MlpInDx.nD Cert.MlpInDx.τ Cert.MlpInDx.sig) → Buf (Elt Bits) ℓ) : Prop :=
  True

def Pre_MlpInDxIdeal (m : (ℓ : Loc Cert.MlpInDxIdeal.nD Cert.MlpInDxIdeal.τ Cert.MlpInDxIdeal.sig) → Buf (Elt Ideal) ℓ) : Prop :=
  True

def Pre_MlpInDxRefIdeal (m : (ℓ : Loc Cert.MlpInDxRefIdeal.nD Cert.MlpInDxRefIdeal.τ Cert.MlpInDxRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_MlpIn (m : (ℓ : Loc Cert.MlpIn.nD Cert.MlpIn.τ Cert.MlpIn.sig) → Buf (Elt Bits) ℓ) : Prop :=
  True

def Pre_MlpInIdeal (m : (ℓ : Loc Cert.MlpInIdeal.nD Cert.MlpInIdeal.τ Cert.MlpInIdeal.sig) → Buf (Elt Ideal) ℓ) : Prop :=
  True

def Pre_MlpInRefIdeal (m : (ℓ : Loc Cert.MlpInRefIdeal.nD Cert.MlpInRefIdeal.τ Cert.MlpInRefIdeal.sig) → Buf (Elt Ideal) ℓ) : Prop :=
  True

def Pre_MlpOut (m : (ℓ : Loc Cert.MlpOut.nD Cert.MlpOut.τ Cert.MlpOut.sig) → Buf (Elt Bits) ℓ) : Prop :=
  True

def Pre_MlpOutIdeal (m : (ℓ : Loc Cert.MlpOutIdeal.nD Cert.MlpOutIdeal.τ Cert.MlpOutIdeal.sig) → Buf (Elt Ideal) ℓ) : Prop :=
  True

def Pre_MlpOutRefIdeal (m : (ℓ : Loc Cert.MlpOutRefIdeal.nD Cert.MlpOutRefIdeal.τ Cert.MlpOutRefIdeal.sig) → Buf (Elt Ideal) ℓ) : Prop :=
  True

def Pre_OutProjDx (m : (ℓ : Loc Cert.OutProjDx.nD Cert.OutProjDx.τ Cert.OutProjDx.sig) → Buf (Elt Bits) ℓ) : Prop :=
  True

def Pre_OutProjDxIdeal (m : (ℓ : Loc Cert.OutProjDxIdeal.nD Cert.OutProjDxIdeal.τ Cert.OutProjDxIdeal.sig) → Buf (Elt Ideal) ℓ) : Prop :=
  True

def Pre_OutProjDxRefIdeal (m : (ℓ : Loc Cert.OutProjDxRefIdeal.nD Cert.OutProjDxRefIdeal.τ Cert.OutProjDxRefIdeal.sig) → Buf (Elt Ideal) ℓ) : Prop :=
  True

def Pre_UpDx (m : (ℓ : Loc Cert.UpDx.nD Cert.UpDx.τ Cert.UpDx.sig) → Buf (Elt Bits) ℓ) : Prop :=
  True

def Pre_UpDxIdeal (m : (ℓ : Loc Cert.UpDxIdeal.nD Cert.UpDxIdeal.τ Cert.UpDxIdeal.sig) → Buf (Elt Ideal) ℓ) : Prop :=
  True

def Pre_UpDxRefIdeal (m : (ℓ : Loc Cert.UpDxRefIdeal.nD Cert.UpDxRefIdeal.τ Cert.UpDxRefIdeal.sig) → Buf (Elt Ideal) ℓ) : Prop :=
  True

def Pre_UpDilDx (m : (ℓ : Loc Cert.UpDilDx.nD Cert.UpDilDx.τ Cert.UpDilDx.sig) → Buf (Elt Bits) ℓ) : Prop :=
  True

def Pre_UpDilDxIdeal (m : (ℓ : Loc Cert.UpDilDxIdeal.nD Cert.UpDilDxIdeal.τ Cert.UpDilDxIdeal.sig) → Buf (Elt Ideal) ℓ) : Prop :=
  True

def Pre_UpDilDxRefIdeal (m : (ℓ : Loc Cert.UpDilDxRefIdeal.nD Cert.UpDilDxRefIdeal.τ Cert.UpDilDxRefIdeal.sig) → Buf (Elt Ideal) ℓ) : Prop :=
  True

def Pre_MlpOutDw (m : (ℓ : Loc Cert.MlpOutDw.nD Cert.MlpOutDw.τ Cert.MlpOutDw.sig) → Buf (Elt Bits) ℓ) : Prop :=
  True

def Pre_MlpOutDwIdeal (m : (ℓ : Loc Cert.MlpOutDwIdeal.nD Cert.MlpOutDwIdeal.τ Cert.MlpOutDwIdeal.sig) → Buf (Elt Ideal) ℓ) : Prop :=
  True

def Pre_MlpOutDwRefIdeal (m : (ℓ : Loc Cert.MlpOutDwRefIdeal.nD Cert.MlpOutDwRefIdeal.τ Cert.MlpOutDwRefIdeal.sig) → Buf (Elt Ideal) ℓ) : Prop :=
  True

def Pre_MlpOutDwLast (m : (ℓ : Loc Cert.MlpOutDwLast.nD Cert.MlpOutDwLast.τ Cert.MlpOutDwLast.sig) → Buf (Elt Bits) ℓ) : Prop :=
  True

def Pre_MlpOutDwLastIdeal (m : (ℓ : Loc Cert.MlpOutDwLastIdeal.nD Cert.MlpOutDwLastIdeal.τ Cert.MlpOutDwLastIdeal.sig) → Buf (Elt Ideal) ℓ) : Prop :=
  True

def Pre_MlpOutDwLastRefIdeal (m : (ℓ : Loc Cert.MlpOutDwLastRefIdeal.nD Cert.MlpOutDwLastRefIdeal.τ Cert.MlpOutDwLastRefIdeal.sig) → Buf (Elt Ideal) ℓ) : Prop :=
  True

def Pre_MlpInDw (m : (ℓ : Loc Cert.MlpInDw.nD Cert.MlpInDw.τ Cert.MlpInDw.sig) → Buf (Elt Bits) ℓ) : Prop :=
  True

def Pre_MlpInDwIdeal (m : (ℓ : Loc Cert.MlpInDwIdeal.nD Cert.MlpInDwIdeal.τ Cert.MlpInDwIdeal.sig) → Buf (Elt Ideal) ℓ) : Prop :=
  True

def Pre_MlpInDwRefIdeal (m : (ℓ : Loc Cert.MlpInDwRefIdeal.nD Cert.MlpInDwRefIdeal.τ Cert.MlpInDwRefIdeal.sig) → Buf (Elt Ideal) ℓ) : Prop :=
  True

def Pre_MlpInDwLast (m : (ℓ : Loc Cert.MlpInDwLast.nD Cert.MlpInDwLast.τ Cert.MlpInDwLast.sig) → Buf (Elt Bits) ℓ) : Prop :=
  True

def Pre_MlpInDwLastIdeal (m : (ℓ : Loc Cert.MlpInDwLastIdeal.nD Cert.MlpInDwLastIdeal.τ Cert.MlpInDwLastIdeal.sig) → Buf (Elt Ideal) ℓ) : Prop :=
  True

def Pre_MlpInDwLastRefIdeal (m : (ℓ : Loc Cert.MlpInDwLastRefIdeal.nD Cert.MlpInDwLastRefIdeal.τ Cert.MlpInDwLastRefIdeal.sig) → Buf (Elt Ideal) ℓ) : Prop :=
  True

def Pre_ProjDw (m : (ℓ : Loc Cert.ProjDw.nD Cert.ProjDw.τ Cert.ProjDw.sig) → Buf (Elt Bits) ℓ) : Prop :=
  True

def Pre_ProjDwIdeal (m : (ℓ : Loc Cert.ProjDwIdeal.nD Cert.ProjDwIdeal.τ Cert.ProjDwIdeal.sig) → Buf (Elt Ideal) ℓ) : Prop :=
  True

def Pre_ProjDwRefIdeal (m : (ℓ : Loc Cert.ProjDwRefIdeal.nD Cert.ProjDwRefIdeal.τ Cert.ProjDwRefIdeal.sig) → Buf (Elt Ideal) ℓ) : Prop :=
  True

def Pre_ProjDwLast (m : (ℓ : Loc Cert.ProjDwLast.nD Cert.ProjDwLast.τ Cert.ProjDwLast.sig) → Buf (Elt Bits) ℓ) : Prop :=
  True

def Pre_ProjDwLastIdeal (m : (ℓ : Loc Cert.ProjDwLastIdeal.nD Cert.ProjDwLastIdeal.τ Cert.ProjDwLastIdeal.sig) → Buf (Elt Ideal) ℓ) : Prop :=
  True

def Pre_ProjDwLastRefIdeal (m : (ℓ : Loc Cert.ProjDwLastRefIdeal.nD Cert.ProjDwLastRefIdeal.τ Cert.ProjDwLastRefIdeal.sig) → Buf (Elt Ideal) ℓ) : Prop :=
  True

def Pre_ForgetDw (m : (ℓ : Loc Cert.ForgetDw.nD Cert.ForgetDw.τ Cert.ForgetDw.sig) → Buf (Elt Bits) ℓ) : Prop :=
  True

def Pre_ForgetDwIdeal (m : (ℓ : Loc Cert.ForgetDwIdeal.nD Cert.ForgetDwIdeal.τ Cert.ForgetDwIdeal.sig) → Buf (Elt Ideal) ℓ) : Prop :=
  True

def Pre_ForgetDwRefIdeal (m : (ℓ : Loc Cert.ForgetDwRefIdeal.nD Cert.ForgetDwRefIdeal.τ Cert.ForgetDwRefIdeal.sig) → Buf (Elt Ideal) ℓ) : Prop :=
  True

def Pre_OutProjDw (m : (ℓ : Loc Cert.OutProjDw.nD Cert.OutProjDw.τ Cert.OutProjDw.sig) → Buf (Elt Bits) ℓ) : Prop :=
  True

def Pre_OutProjDwIdeal (m : (ℓ : Loc Cert.OutProjDwIdeal.nD Cert.OutProjDwIdeal.τ Cert.OutProjDwIdeal.sig) → Buf (Elt Ideal) ℓ) : Prop :=
  True

def Pre_OutProjDwRefIdeal (m : (ℓ : Loc Cert.OutProjDwRefIdeal.nD Cert.OutProjDwRefIdeal.τ Cert.OutProjDwRefIdeal.sig) → Buf (Elt Ideal) ℓ) : Prop :=
  True

def Pre_OutProjDwLast (m : (ℓ : Loc Cert.OutProjDwLast.nD Cert.OutProjDwLast.τ Cert.OutProjDwLast.sig) → Buf (Elt Bits) ℓ) : Prop :=
  True

def Pre_OutProjDwLastIdeal (m : (ℓ : Loc Cert.OutProjDwLastIdeal.nD Cert.OutProjDwLastIdeal.τ Cert.OutProjDwLastIdeal.sig) → Buf (Elt Ideal) ℓ) : Prop :=
  True

def Pre_OutProjDwLastRefIdeal (m : (ℓ : Loc Cert.OutProjDwLastRefIdeal.nD Cert.OutProjDwLastRefIdeal.τ Cert.OutProjDwLastRefIdeal.sig) → Buf (Elt Ideal) ℓ) : Prop :=
  True

def Pre_UpFoxDw (m : (ℓ : Loc Cert.UpFoxDw.nD Cert.UpFoxDw.τ Cert.UpFoxDw.sig) → Buf (Elt Bits) ℓ) : Prop :=
  True

def Pre_UpFoxDwIdeal (m : (ℓ : Loc Cert.UpFoxDwIdeal.nD Cert.UpFoxDwIdeal.τ Cert.UpFoxDwIdeal.sig) → Buf (Elt Ideal) ℓ) : Prop :=
  True

def Pre_UpFoxDwRefIdeal (m : (ℓ : Loc Cert.UpFoxDwRefIdeal.nD Cert.UpFoxDwRefIdeal.τ Cert.UpFoxDwRefIdeal.sig) → Buf (Elt Ideal) ℓ) : Prop :=
  True

def Pre_UpFoxDwLast (m : (ℓ : Loc Cert.UpFoxDwLast.nD Cert.UpFoxDwLast.τ Cert.UpFoxDwLast.sig) → Buf (Elt Bits) ℓ) : Prop :=
  True

def Pre_UpFoxDwLastIdeal (m : (ℓ : Loc Cert.UpFoxDwLastIdeal.nD Cert.UpFoxDwLastIdeal.τ Cert.UpFoxDwLastIdeal.sig) → Buf (Elt Ideal) ℓ) : Prop :=
  True

def Pre_UpFoxDwLastRefIdeal (m : (ℓ : Loc Cert.UpFoxDwLastRefIdeal.nD Cert.UpFoxDwLastRefIdeal.τ Cert.UpFoxDwLastRefIdeal.sig) → Buf (Elt Ideal) ℓ) : Prop :=
  True

def Pre_UpSbDw (m : (ℓ : Loc Cert.UpSbDw.nD Cert.UpSbDw.τ Cert.UpSbDw.sig) → Buf (Elt Bits) ℓ) : Prop :=
  True

def Pre_UpSbDwIdeal (m : (ℓ : Loc Cert.UpSbDwIdeal.nD Cert.UpSbDwIdeal.τ Cert.UpSbDwIdeal.sig) → Buf (Elt Ideal) ℓ) : Prop :=
  True

def Pre_UpSbDwRefIdeal (m : (ℓ : Loc Cert.UpSbDwRefIdeal.nD Cert.UpSbDwRefIdeal.τ Cert.UpSbDwRefIdeal.sig) → Buf (Elt Ideal) ℓ) : Prop :=
  True

def Pre_UpSbDwLast (m : (ℓ : Loc Cert.UpSbDwLast.nD Cert.UpSbDwLast.τ Cert.UpSbDwLast.sig) → Buf (Elt Bits) ℓ) : Prop :=
  True

def Pre_UpSbDwLastIdeal (m : (ℓ : Loc Cert.UpSbDwLastIdeal.nD Cert.UpSbDwLastIdeal.τ Cert.UpSbDwLastIdeal.sig) → Buf (Elt Ideal) ℓ) : Prop :=
  True

def Pre_UpSbDwLastRefIdeal (m : (ℓ : Loc Cert.UpSbDwLastRefIdeal.nD Cert.UpSbDwLastRefIdeal.τ Cert.UpSbDwLastRefIdeal.sig) → Buf (Elt Ideal) ℓ) : Prop :=
  True

def Pre_UpDilDw (m : (ℓ : Loc Cert.UpDilDw.nD Cert.UpDilDw.τ Cert.UpDilDw.sig) → Buf (Elt Bits) ℓ) : Prop :=
  True

def Pre_UpDilDwIdeal (m : (ℓ : Loc Cert.UpDilDwIdeal.nD Cert.UpDilDwIdeal.τ Cert.UpDilDwIdeal.sig) → Buf (Elt Ideal) ℓ) : Prop :=
  True

def Pre_UpDilDwRefIdeal (m : (ℓ : Loc Cert.UpDilDwRefIdeal.nD Cert.UpDilDwRefIdeal.τ Cert.UpDilDwRefIdeal.sig) → Buf (Elt Ideal) ℓ) : Prop :=
  True

def Pre_UpDilDwLast (m : (ℓ : Loc Cert.UpDilDwLast.nD Cert.UpDilDwLast.τ Cert.UpDilDwLast.sig) → Buf (Elt Bits) ℓ) : Prop :=
  True

def Pre_UpDilDwLastIdeal (m : (ℓ : Loc Cert.UpDilDwLastIdeal.nD Cert.UpDilDwLastIdeal.τ Cert.UpDilDwLastIdeal.sig) → Buf (Elt Ideal) ℓ) : Prop :=
  True

def Pre_UpDilDwLastRefIdeal (m : (ℓ : Loc Cert.UpDilDwLastRefIdeal.nD Cert.UpDilDwLastRefIdeal.τ Cert.UpDilDwLastRefIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpRefIdeal (m : (ℓ : Loc Cert.UpRefIdeal.nD Cert.UpRefIdeal.τ Cert.UpRefIdeal.sig) → Buf (Elt Ideal) ℓ) : Prop :=
  True

def Pre_UpDil (m : (ℓ : Loc Cert.UpDil.nD Cert.UpDil.τ Cert.UpDil.sig) → Buf (Elt Bits) ℓ) : Prop :=
  True

def Pre_UpDilIdeal (m : (ℓ : Loc Cert.UpDilIdeal.nD Cert.UpDilIdeal.τ Cert.UpDilIdeal.sig) → Buf (Elt Ideal) ℓ) : Prop :=
  True

def Pre_UpDilRefIdeal (m : (ℓ : Loc Cert.UpDilRefIdeal.nD Cert.UpDilRefIdeal.τ Cert.UpDilRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_SbAttn (m : (ℓ : Loc Cert.SbAttn.nD Cert.SbAttn.τ Cert.SbAttn.sig) → Buf (Elt Bits) ℓ) : Prop :=
  True

def Pre_SbAttnIdeal (m : (ℓ : Loc Cert.SbAttnIdeal.nD Cert.SbAttnIdeal.τ Cert.SbAttnIdeal.sig) → Buf (Elt Ideal) ℓ) : Prop :=
  True

def Pre_SbAttnRefIdeal (m : (ℓ : Loc Cert.SbAttnRefIdeal.nD Cert.SbAttnRefIdeal.τ Cert.SbAttnRefIdeal.sig) → Buf (Elt Ideal) ℓ) : Prop :=
  True

def Pre_FoxAttn (m : (ℓ : Loc Cert.FoxAttn.nD Cert.FoxAttn.τ Cert.FoxAttn.sig) → Buf (Elt Bits) ℓ) : Prop :=
  True

def Pre_FoxAttnIdeal (m : (ℓ : Loc Cert.FoxAttnIdeal.nD Cert.FoxAttnIdeal.τ Cert.FoxAttnIdeal.sig) → Buf (Elt Ideal) ℓ) : Prop :=
  True

def Pre_FoxAttnIdeal_finite_scores [hPre_finite_scores : Cert.Pre_finite_scores.Facts] (m : (ℓ : Loc Cert.FoxAttnIdeal.nD Cert.FoxAttnIdeal.τ Cert.FoxAttnIdeal.sig) → Buf (Elt Ideal) ℓ) : Prop :=
  ∀ c : Dev Cert.FoxAttnIdeal.nD,
    (Cert.Pre_finite_scores.fn (F := Ideal) (m ((c.tc : Thread Cert.FoxAttnIdeal.nD Cert.FoxAttnIdeal.τ).loc Cert.FoxAttnIdeal.main_arg0)) (m ((c.tc : Thread Cert.FoxAttnIdeal.nD Cert.FoxAttnIdeal.τ).loc Cert.FoxAttnIdeal.main_arg1)) (m ((c.tc : Thread Cert.FoxAttnIdeal.nD Cert.FoxAttnIdeal.τ).loc Cert.FoxAttnIdeal.main_arg2)) (m ((c.tc : Thread Cert.FoxAttnIdeal.nD Cert.FoxAttnIdeal.τ).loc Cert.FoxAttnIdeal.main_arg3))) = (fun _ => 1#1)

def Pre_FoxAttnRefIdeal (m : (ℓ : Loc Cert.FoxAttnRefIdeal.nD Cert.FoxAttnRefIdeal.τ Cert.FoxAttnRefIdeal.sig) → Buf (Elt Ideal) ℓ) : Prop :=
  True

def Pre_FoxAttnRefIdeal_finite_scores [hPre_finite_scores : Cert.Pre_finite_scores.Facts] (m : (ℓ : Loc Cert.FoxAttnRefIdeal.nD Cert.FoxAttnRefIdeal.τ Cert.FoxAttnRefIdeal.sig) → Buf (Elt Ideal) ℓ) : Prop :=
  ∀ c : Dev Cert.FoxAttnRefIdeal.nD,
    (Cert.Pre_finite_scores.fn (F := Ideal) (m ((c.tc : Thread Cert.FoxAttnRefIdeal.nD Cert.FoxAttnRefIdeal.τ).loc Cert.FoxAttnRefIdeal.main_arg0)) (m ((c.tc : Thread Cert.FoxAttnRefIdeal.nD Cert.FoxAttnRefIdeal.τ).loc Cert.FoxAttnRefIdeal.main_arg1)) (m ((c.tc : Thread Cert.FoxAttnRefIdeal.nD Cert.FoxAttnRefIdeal.τ).loc Cert.FoxAttnRefIdeal.main_arg2)) (m ((c.tc : Thread Cert.FoxAttnRefIdeal.nD Cert.FoxAttnRefIdeal.τ).loc Cert.FoxAttnRefIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_MlpOutDx [hMlpOutDx : Cert.MlpOutDx.Facts] : Prop :=
  ∀ (m : (ℓ : Loc Cert.MlpOutDx.nD Cert.MlpOutDx.τ Cert.MlpOutDx.sig) → Buf (Elt Bits) ℓ) (g : Dev Cert.MlpOutDx.nD → PrngReg), Pre_MlpOutDx m →
    θ_run (Cert.MlpOutDx.defs (F := Bits)) (onTc (τ := Cert.MlpOutDx.τ) (Cert.MlpOutDx.main (F := Bits))) ⟨m, fun _ => 0, g⟩ (fun r => (∀ c : Dev Cert.MlpOutDx.nD,
      r.2.mem ((c.tc : Thread Cert.MlpOutDx.nD Cert.MlpOutDx.τ).loc Cert.MlpOutDx.main_arg0) = m ((c.tc : Thread Cert.MlpOutDx.nD Cert.MlpOutDx.τ).loc Cert.MlpOutDx.main_arg0)
      ∧ r.2.mem ((c.tc : Thread Cert.MlpOutDx.nD Cert.MlpOutDx.τ).loc Cert.MlpOutDx.main_arg1) = m ((c.tc : Thread Cert.MlpOutDx.nD Cert.MlpOutDx.τ).loc Cert.MlpOutDx.main_arg1)
      ∧ r.2.mem ((c.tc : Thread Cert.MlpOutDx.nD Cert.MlpOutDx.τ).loc Cert.MlpOutDx.main_arg2) = m ((c.tc : Thread Cert.MlpOutDx.nD Cert.MlpOutDx.τ).loc Cert.MlpOutDx.main_arg2))
      ∧ r.2.sem = fun _ => 0)

def quiescent_MlpOutDxIdeal [hMlpOutDxIdeal : Cert.MlpOutDxIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg), Pre_MlpOutDxIdeal m →
    θ_run (Cert.MlpOutDxIdeal.defs (F := Ideal)) (onTc (τ := Cert.MlpOutDxIdeal.τ) (Cert.MlpOutDxIdeal.main (F := Ideal))) ⟨m, fun _ => 0, g⟩ (fun r => (∀ c : Dev Cert.MlpOutDxIdeal.nD,
      r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
      ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
      ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ r.2.sem = fun _ => 0)

def quiescent_MlpOutDxRefIdeal [hMlpOutDxRefIdeal : Cert.MlpOutDxRefIdeal.Facts] : Prop :=
  ∀ (m : (ℓ : Loc Cert.MlpOutDxRefIdeal.nD Cert.MlpOutDxRefIdeal.τ Cert.MlpOutDxRefIdeal.sig) → Buf (Elt Ideal) ℓ) (g : Dev Cert.MlpOutDxRefIdeal.nD → PrngReg), Pre_MlpOutDxRefIdeal m →
    θ_run (Cert.MlpOutDxRefIdeal.defs (F := Ideal)) (onTc (τ := Cert.MlpOutDxRefIdeal.τ) (Cert.MlpOutDxRefIdeal.main (F := Ideal))) ⟨m, fun _ => 0, g⟩ (fun r => (∀ c : Dev Cert.MlpOutDxRefIdeal.nD,
      r.2.mem ((c.tc : Thread Cert.MlpOutDxRefIdeal.nD Cert.MlpOutDxRefIdeal.τ).loc Cert.MlpOutDxRefIdeal.main_arg0) = m ((c.tc : Thread Cert.MlpOutDxRefIdeal.nD Cert.MlpOutDxRefIdeal.τ).loc Cert.MlpOutDxRefIdeal.main_arg0)
      ∧ r.2.mem ((c.tc : Thread Cert.MlpOutDxRefIdeal.nD Cert.MlpOutDxRefIdeal.τ).loc Cert.MlpOutDxRefIdeal.main_arg1) = m ((c.tc : Thread Cert.MlpOutDxRefIdeal.nD Cert.MlpOutDxRefIdeal.τ).loc Cert.MlpOutDxRefIdeal.main_arg1)
      ∧ r.2.mem ((c.tc : Thread Cert.MlpOutDxRefIdeal.nD Cert.MlpOutDxRefIdeal.τ).loc Cert.MlpOutDxRefIdeal.main_arg2) = m ((c.tc : Thread Cert.MlpOutDxRefIdeal.nD Cert.MlpOutDxRefIdeal.τ).loc Cert.MlpOutDxRefIdeal.main_arg2))
      ∧ r.2.sem = fun _ => 0)

def quiescent_ProjDx [hProjDx : Cert.ProjDx.Facts] : Prop :=
  ∀ (m : (ℓ : Loc Cert.ProjDx.nD Cert.ProjDx.τ Cert.ProjDx.sig) → Buf (Elt Bits) ℓ) (g : Dev Cert.ProjDx.nD → PrngReg), Pre_ProjDx m →
    θ_run (Cert.ProjDx.defs (F := Bits)) (onTc (τ := Cert.ProjDx.τ) (Cert.ProjDx.main (F := Bits))) ⟨m, fun _ => 0, g⟩ (fun r => (∀ c : Dev Cert.ProjDx.nD,
      r.2.mem ((c.tc : Thread Cert.ProjDx.nD Cert.ProjDx.τ).loc Cert.ProjDx.main_arg0) = m ((c.tc : Thread Cert.ProjDx.nD Cert.ProjDx.τ).loc Cert.ProjDx.main_arg0)
      ∧ r.2.mem ((c.tc : Thread Cert.ProjDx.nD Cert.ProjDx.τ).loc Cert.ProjDx.main_arg1) = m ((c.tc : Thread Cert.ProjDx.nD Cert.ProjDx.τ).loc Cert.ProjDx.main_arg1))
      ∧ r.2.sem = fun _ => 0)

def quiescent_ProjDxIdeal [hProjDxIdeal : Cert.ProjDxIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg), Pre_ProjDxIdeal m →
    θ_run (Cert.ProjDxIdeal.defs (F := Ideal)) (onTc (τ := Cert.ProjDxIdeal.τ) (Cert.ProjDxIdeal.main (F := Ideal))) ⟨m, fun _ => 0, g⟩ (fun r => (∀ c : Dev Cert.ProjDxIdeal.nD,
      r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
      ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ r.2.sem = fun _ => 0)

def quiescent_ProjDxRefIdeal [hProjDxRefIdeal : Cert.ProjDxRefIdeal.Facts] : Prop :=
  ∀ (m : (ℓ : Loc Cert.ProjDxRefIdeal.nD Cert.ProjDxRefIdeal.τ Cert.ProjDxRefIdeal.sig) → Buf (Elt Ideal) ℓ) (g : Dev Cert.ProjDxRefIdeal.nD → PrngReg), Pre_ProjDxRefIdeal m →
    θ_run (Cert.ProjDxRefIdeal.defs (F := Ideal)) (onTc (τ := Cert.ProjDxRefIdeal.τ) (Cert.ProjDxRefIdeal.main (F := Ideal))) ⟨m, fun _ => 0, g⟩ (fun r => (∀ c : Dev Cert.ProjDxRefIdeal.nD,
      r.2.mem ((c.tc : Thread Cert.ProjDxRefIdeal.nD Cert.ProjDxRefIdeal.τ).loc Cert.ProjDxRefIdeal.main_arg0) = m ((c.tc : Thread Cert.ProjDxRefIdeal.nD Cert.ProjDxRefIdeal.τ).loc Cert.ProjDxRefIdeal.main_arg0)
      ∧ r.2.mem ((c.tc : Thread Cert.ProjDxRefIdeal.nD Cert.ProjDxRefIdeal.τ).loc Cert.ProjDxRefIdeal.main_arg1) = m ((c.tc : Thread Cert.ProjDxRefIdeal.nD Cert.ProjDxRefIdeal.τ).loc Cert.ProjDxRefIdeal.main_arg1))
      ∧ r.2.sem = fun _ => 0)

def quiescent_MlpInDx [hMlpInDx : Cert.MlpInDx.Facts] : Prop :=
  ∀ (m : (ℓ : Loc Cert.MlpInDx.nD Cert.MlpInDx.τ Cert.MlpInDx.sig) → Buf (Elt Bits) ℓ) (g : Dev Cert.MlpInDx.nD → PrngReg), Pre_MlpInDx m →
    θ_run (Cert.MlpInDx.defs (F := Bits)) (onTc (τ := Cert.MlpInDx.τ) (Cert.MlpInDx.main (F := Bits))) ⟨m, fun _ => 0, g⟩ (fun r => (∀ c : Dev Cert.MlpInDx.nD,
      r.2.mem ((c.tc : Thread Cert.MlpInDx.nD Cert.MlpInDx.τ).loc Cert.MlpInDx.main_arg0) = m ((c.tc : Thread Cert.MlpInDx.nD Cert.MlpInDx.τ).loc Cert.MlpInDx.main_arg0)
      ∧ r.2.mem ((c.tc : Thread Cert.MlpInDx.nD Cert.MlpInDx.τ).loc Cert.MlpInDx.main_arg1) = m ((c.tc : Thread Cert.MlpInDx.nD Cert.MlpInDx.τ).loc Cert.MlpInDx.main_arg1))
      ∧ r.2.sem = fun _ => 0)

def quiescent_MlpInDxIdeal [hMlpInDxIdeal : Cert.MlpInDxIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg), Pre_MlpInDxIdeal m →
    θ_run (Cert.MlpInDxIdeal.defs (F := Ideal)) (onTc (τ := Cert.MlpInDxIdeal.τ) (Cert.MlpInDxIdeal.main (F := Ideal))) ⟨m, fun _ => 0, g⟩ (fun r => (∀ c : Dev Cert.MlpInDxIdeal.nD,
      r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
      ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ r.2.sem = fun _ => 0)

def quiescent_MlpInDxRefIdeal [hMlpInDxRefIdeal : Cert.MlpInDxRefIdeal.Facts] : Prop :=
  ∀ (m : (ℓ : Loc Cert.MlpInDxRefIdeal.nD Cert.MlpInDxRefIdeal.τ Cert.MlpInDxRefIdeal.sig) → Buf (Elt Ideal) ℓ) (g : Dev Cert.MlpInDxRefIdeal.nD → PrngReg), Pre_MlpInDxRefIdeal m →
    θ_run (Cert.MlpInDxRefIdeal.defs (F := Ideal)) (onTc (τ := Cert.MlpInDxRefIdeal.τ) (Cert.MlpInDxRefIdeal.main (F := Ideal))) ⟨m, fun _ => 0, g⟩ (fun r => (∀ c : Dev Cert.MlpInDxRefIdeal.nD,
      r.2.mem ((c.tc : Thread Cert.MlpInDxRefIdeal.nD Cert.MlpInDxRefIdeal.τ).loc Cert.MlpInDxRefIdeal.main_arg0) = m ((c.tc : Thread Cert.MlpInDxRefIdeal.nD Cert.MlpInDxRefIdeal.τ).loc Cert.MlpInDxRefIdeal.main_arg0)
      ∧ r.2.mem ((c.tc : Thread Cert.MlpInDxRefIdeal.nD Cert.MlpInDxRefIdeal.τ).loc Cert.MlpInDxRefIdeal.main_arg1) = m ((c.tc : Thread Cert.MlpInDxRefIdeal.nD Cert.MlpInDxRefIdeal.τ).loc Cert.MlpInDxRefIdeal.main_arg1))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_MlpIn [hMlpIn : Cert.MlpIn.Facts] : Prop :=
  ∀ (m : (ℓ : Loc Cert.MlpIn.nD Cert.MlpIn.τ Cert.MlpIn.sig) → Buf (Elt Bits) ℓ) (g : Dev Cert.MlpIn.nD → PrngReg), Pre_MlpIn m →
    θ_run (Cert.MlpIn.defs (F := Bits)) (onTc (τ := Cert.MlpIn.τ) (Cert.MlpIn.main (F := Bits))) ⟨m, fun _ => 0, g⟩ (fun r => (∀ c : Dev Cert.MlpIn.nD,
      r.2.mem ((c.tc : Thread Cert.MlpIn.nD Cert.MlpIn.τ).loc Cert.MlpIn.main_arg0) = m ((c.tc : Thread Cert.MlpIn.nD Cert.MlpIn.τ).loc Cert.MlpIn.main_arg0)
      ∧ r.2.mem ((c.tc : Thread Cert.MlpIn.nD Cert.MlpIn.τ).loc Cert.MlpIn.main_arg1) = m ((c.tc : Thread Cert.MlpIn.nD Cert.MlpIn.τ).loc Cert.MlpIn.main_arg1))
      ∧ r.2.sem = fun _ => 0)

def quiescent_MlpInIdeal [hMlpInIdeal : Cert.MlpInIdeal.Facts] : Prop :=
  ∀ (m : (ℓ : Loc Cert.MlpInIdeal.nD Cert.MlpInIdeal.τ Cert.MlpInIdeal.sig) → Buf (Elt Ideal) ℓ) (g : Dev Cert.MlpInIdeal.nD → PrngReg), Pre_MlpInIdeal m →
    θ_run (Cert.MlpInIdeal.defs (F := Ideal)) (onTc (τ := Cert.MlpInIdeal.τ) (Cert.MlpInIdeal.main (F := Ideal))) ⟨m, fun _ => 0, g⟩ (fun r => (∀ c : Dev Cert.MlpInIdeal.nD,
      r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
      ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ r.2.sem = fun _ => 0)

def quiescent_MlpInRefIdeal [hMlpInRefIdeal : Cert.MlpInRefIdeal.Facts] : Prop :=
  ∀ (m : (ℓ : Loc Cert.MlpInRefIdeal.nD Cert.MlpInRefIdeal.τ Cert.MlpInRefIdeal.sig) → Buf (Elt Ideal) ℓ) (g : Dev Cert.MlpInRefIdeal.nD → PrngReg), Pre_MlpInRefIdeal m →
    θ_run (Cert.MlpInRefIdeal.defs (F := Ideal)) (onTc (τ := Cert.MlpInRefIdeal.τ) (Cert.MlpInRefIdeal.main (F := Ideal))) ⟨m, fun _ => 0, g⟩ (fun r => (∀ c : Dev Cert.MlpInRefIdeal.nD,
      r.2.mem ((c.tc : Thread Cert.MlpInRefIdeal.nD Cert.MlpInRefIdeal.τ).loc Cert.MlpInRefIdeal.main_arg0) = m ((c.tc : Thread Cert.MlpInRefIdeal.nD Cert.MlpInRefIdeal.τ).loc Cert.MlpInRefIdeal.main_arg0)
      ∧ r.2.mem ((c.tc : Thread Cert.MlpInRefIdeal.nD Cert.MlpInRefIdeal.τ).loc Cert.MlpInRefIdeal.main_arg1) = m ((c.tc : Thread Cert.MlpInRefIdeal.nD Cert.MlpInRefIdeal.τ).loc Cert.MlpInRefIdeal.main_arg1))
      ∧ r.2.sem = fun _ => 0)

def quiescent_MlpOut [hMlpOut : Cert.MlpOut.Facts] : Prop :=
  ∀ (m : (ℓ : Loc Cert.MlpOut.nD Cert.MlpOut.τ Cert.MlpOut.sig) → Buf (Elt Bits) ℓ) (g : Dev Cert.MlpOut.nD → PrngReg), Pre_MlpOut m →
    θ_run (Cert.MlpOut.defs (F := Bits)) (onTc (τ := Cert.MlpOut.τ) (Cert.MlpOut.main (F := Bits))) ⟨m, fun _ => 0, g⟩ (fun r => (∀ c : Dev Cert.MlpOut.nD,
      r.2.mem ((c.tc : Thread Cert.MlpOut.nD Cert.MlpOut.τ).loc Cert.MlpOut.main_arg0) = m ((c.tc : Thread Cert.MlpOut.nD Cert.MlpOut.τ).loc Cert.MlpOut.main_arg0)
      ∧ r.2.mem ((c.tc : Thread Cert.MlpOut.nD Cert.MlpOut.τ).loc Cert.MlpOut.main_arg1) = m ((c.tc : Thread Cert.MlpOut.nD Cert.MlpOut.τ).loc Cert.MlpOut.main_arg1)
      ∧ r.2.mem ((c.tc : Thread Cert.MlpOut.nD Cert.MlpOut.τ).loc Cert.MlpOut.main_arg2) = m ((c.tc : Thread Cert.MlpOut.nD Cert.MlpOut.τ).loc Cert.MlpOut.main_arg2))
      ∧ r.2.sem = fun _ => 0)

def quiescent_MlpOutIdeal [hMlpOutIdeal : Cert.MlpOutIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg), Pre_MlpOutIdeal m →
    θ_run (Cert.MlpOutIdeal.defs (F := Ideal)) (onTc (τ := Cert.MlpOutIdeal.τ) (Cert.MlpOutIdeal.main (F := Ideal))) ⟨m, fun _ => 0, g⟩ (fun r => (∀ c : Dev Cert.MlpOutIdeal.nD,
      r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
      ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
      ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ r.2.sem = fun _ => 0)

def quiescent_MlpOutRefIdeal [hMlpOutRefIdeal : Cert.MlpOutRefIdeal.Facts] : Prop :=
  ∀ (m : (ℓ : Loc Cert.MlpOutRefIdeal.nD Cert.MlpOutRefIdeal.τ Cert.MlpOutRefIdeal.sig) → Buf (Elt Ideal) ℓ) (g : Dev Cert.MlpOutRefIdeal.nD → PrngReg), Pre_MlpOutRefIdeal m →
    θ_run (Cert.MlpOutRefIdeal.defs (F := Ideal)) (onTc (τ := Cert.MlpOutRefIdeal.τ) (Cert.MlpOutRefIdeal.main (F := Ideal))) ⟨m, fun _ => 0, g⟩ (fun r => (∀ c : Dev Cert.MlpOutRefIdeal.nD,
      r.2.mem ((c.tc : Thread Cert.MlpOutRefIdeal.nD Cert.MlpOutRefIdeal.τ).loc Cert.MlpOutRefIdeal.main_arg0) = m ((c.tc : Thread Cert.MlpOutRefIdeal.nD Cert.MlpOutRefIdeal.τ).loc Cert.MlpOutRefIdeal.main_arg0)
      ∧ r.2.mem ((c.tc : Thread Cert.MlpOutRefIdeal.nD Cert.MlpOutRefIdeal.τ).loc Cert.MlpOutRefIdeal.main_arg1) = m ((c.tc : Thread Cert.MlpOutRefIdeal.nD Cert.MlpOutRefIdeal.τ).loc Cert.MlpOutRefIdeal.main_arg1)
      ∧ r.2.mem ((c.tc : Thread Cert.MlpOutRefIdeal.nD Cert.MlpOutRefIdeal.τ).loc Cert.MlpOutRefIdeal.main_arg2) = m ((c.tc : Thread Cert.MlpOutRefIdeal.nD Cert.MlpOutRefIdeal.τ).loc Cert.MlpOutRefIdeal.main_arg2))
      ∧ r.2.sem = fun _ => 0)

def quiescent_OutProjDx [hOutProjDx : Cert.OutProjDx.Facts] : Prop :=
  ∀ (m : (ℓ : Loc Cert.OutProjDx.nD Cert.OutProjDx.τ Cert.OutProjDx.sig) → Buf (Elt Bits) ℓ) (g : Dev Cert.OutProjDx.nD → PrngReg), Pre_OutProjDx m →
    θ_run (Cert.OutProjDx.defs (F := Bits)) (onTc (τ := Cert.OutProjDx.τ) (Cert.OutProjDx.main (F := Bits))) ⟨m, fun _ => 0, g⟩ (fun r => (∀ c : Dev Cert.OutProjDx.nD,
      r.2.mem ((c.tc : Thread Cert.OutProjDx.nD Cert.OutProjDx.τ).loc Cert.OutProjDx.main_arg0) = m ((c.tc : Thread Cert.OutProjDx.nD Cert.OutProjDx.τ).loc Cert.OutProjDx.main_arg0)
      ∧ r.2.mem ((c.tc : Thread Cert.OutProjDx.nD Cert.OutProjDx.τ).loc Cert.OutProjDx.main_arg1) = m ((c.tc : Thread Cert.OutProjDx.nD Cert.OutProjDx.τ).loc Cert.OutProjDx.main_arg1))
      ∧ r.2.sem = fun _ => 0)

def quiescent_OutProjDxIdeal [hOutProjDxIdeal : Cert.OutProjDxIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg), Pre_OutProjDxIdeal m →
    θ_run (Cert.OutProjDxIdeal.defs (F := Ideal)) (onTc (τ := Cert.OutProjDxIdeal.τ) (Cert.OutProjDxIdeal.main (F := Ideal))) ⟨m, fun _ => 0, g⟩ (fun r => (∀ c : Dev Cert.OutProjDxIdeal.nD,
      r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
      ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ r.2.sem = fun _ => 0)

def quiescent_OutProjDxRefIdeal [hOutProjDxRefIdeal : Cert.OutProjDxRefIdeal.Facts] : Prop :=
  ∀ (m : (ℓ : Loc Cert.OutProjDxRefIdeal.nD Cert.OutProjDxRefIdeal.τ Cert.OutProjDxRefIdeal.sig) → Buf (Elt Ideal) ℓ) (g : Dev Cert.OutProjDxRefIdeal.nD → PrngReg), Pre_OutProjDxRefIdeal m →
    θ_run (Cert.OutProjDxRefIdeal.defs (F := Ideal)) (onTc (τ := Cert.OutProjDxRefIdeal.τ) (Cert.OutProjDxRefIdeal.main (F := Ideal))) ⟨m, fun _ => 0, g⟩ (fun r => (∀ c : Dev Cert.OutProjDxRefIdeal.nD,
      r.2.mem ((c.tc : Thread Cert.OutProjDxRefIdeal.nD Cert.OutProjDxRefIdeal.τ).loc Cert.OutProjDxRefIdeal.main_arg0) = m ((c.tc : Thread Cert.OutProjDxRefIdeal.nD Cert.OutProjDxRefIdeal.τ).loc Cert.OutProjDxRefIdeal.main_arg0)
      ∧ r.2.mem ((c.tc : Thread Cert.OutProjDxRefIdeal.nD Cert.OutProjDxRefIdeal.τ).loc Cert.OutProjDxRefIdeal.main_arg1) = m ((c.tc : Thread Cert.OutProjDxRefIdeal.nD Cert.OutProjDxRefIdeal.τ).loc Cert.OutProjDxRefIdeal.main_arg1))
      ∧ r.2.sem = fun _ => 0)

def quiescent_UpDx [hUpDx : Cert.UpDx.Facts] : Prop :=
  ∀ (m : (ℓ : Loc Cert.UpDx.nD Cert.UpDx.τ Cert.UpDx.sig) → Buf (Elt Bits) ℓ) (g : Dev Cert.UpDx.nD → PrngReg), Pre_UpDx m →
    θ_run (Cert.UpDx.defs (F := Bits)) (onTc (τ := Cert.UpDx.τ) (Cert.UpDx.main (F := Bits))) ⟨m, fun _ => 0, g⟩ (fun r => (∀ c : Dev Cert.UpDx.nD,
      r.2.mem ((c.tc : Thread Cert.UpDx.nD Cert.UpDx.τ).loc Cert.UpDx.main_arg0) = m ((c.tc : Thread Cert.UpDx.nD Cert.UpDx.τ).loc Cert.UpDx.main_arg0)
      ∧ r.2.mem ((c.tc : Thread Cert.UpDx.nD Cert.UpDx.τ).loc Cert.UpDx.main_arg1) = m ((c.tc : Thread Cert.UpDx.nD Cert.UpDx.τ).loc Cert.UpDx.main_arg1))
      ∧ r.2.sem = fun _ => 0)

def quiescent_UpDxIdeal [hUpDxIdeal : Cert.UpDxIdeal.Facts] : Prop :=
  ∀ (m : (ℓ : Loc Cert.UpDxIdeal.nD Cert.UpDxIdeal.τ Cert.UpDxIdeal.sig) → Buf (Elt Ideal) ℓ) (g : Dev Cert.UpDxIdeal.nD → PrngReg), Pre_UpDxIdeal m →
    θ_run (Cert.UpDxIdeal.defs (F := Ideal)) (onTc (τ := Cert.UpDxIdeal.τ) (Cert.UpDxIdeal.main (F := Ideal))) ⟨m, fun _ => 0, g⟩ (fun r => (∀ c : Dev Cert.UpDxIdeal.nD,
      r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
      ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ r.2.sem = fun _ => 0)

def quiescent_UpDxRefIdeal [hUpDxRefIdeal : Cert.UpDxRefIdeal.Facts] : Prop :=
  ∀ (m : (ℓ : Loc Cert.UpDxRefIdeal.nD Cert.UpDxRefIdeal.τ Cert.UpDxRefIdeal.sig) → Buf (Elt Ideal) ℓ) (g : Dev Cert.UpDxRefIdeal.nD → PrngReg), Pre_UpDxRefIdeal m →
    θ_run (Cert.UpDxRefIdeal.defs (F := Ideal)) (onTc (τ := Cert.UpDxRefIdeal.τ) (Cert.UpDxRefIdeal.main (F := Ideal))) ⟨m, fun _ => 0, g⟩ (fun r => (∀ c : Dev Cert.UpDxRefIdeal.nD,
      r.2.mem ((c.tc : Thread Cert.UpDxRefIdeal.nD Cert.UpDxRefIdeal.τ).loc Cert.UpDxRefIdeal.main_arg0) = m ((c.tc : Thread Cert.UpDxRefIdeal.nD Cert.UpDxRefIdeal.τ).loc Cert.UpDxRefIdeal.main_arg0)
      ∧ r.2.mem ((c.tc : Thread Cert.UpDxRefIdeal.nD Cert.UpDxRefIdeal.τ).loc Cert.UpDxRefIdeal.main_arg1) = m ((c.tc : Thread Cert.UpDxRefIdeal.nD Cert.UpDxRefIdeal.τ).loc Cert.UpDxRefIdeal.main_arg1))
      ∧ r.2.sem = fun _ => 0)

def quiescent_UpDilDx [hUpDilDx : Cert.UpDilDx.Facts] : Prop :=
  ∀ (m : (ℓ : Loc Cert.UpDilDx.nD Cert.UpDilDx.τ Cert.UpDilDx.sig) → Buf (Elt Bits) ℓ) (g : Dev Cert.UpDilDx.nD → PrngReg), Pre_UpDilDx m →
    θ_run (Cert.UpDilDx.defs (F := Bits)) (onTc (τ := Cert.UpDilDx.τ) (Cert.UpDilDx.main (F := Bits))) ⟨m, fun _ => 0, g⟩ (fun r => (∀ c : Dev Cert.UpDilDx.nD,
      r.2.mem ((c.tc : Thread Cert.UpDilDx.nD Cert.UpDilDx.τ).loc Cert.UpDilDx.main_arg0) = m ((c.tc : Thread Cert.UpDilDx.nD Cert.UpDilDx.τ).loc Cert.UpDilDx.main_arg0)
      ∧ r.2.mem ((c.tc : Thread Cert.UpDilDx.nD Cert.UpDilDx.τ).loc Cert.UpDilDx.main_arg1) = m ((c.tc : Thread Cert.UpDilDx.nD Cert.UpDilDx.τ).loc Cert.UpDilDx.main_arg1))
      ∧ r.2.sem = fun _ => 0)

def quiescent_UpDilDxIdeal [hUpDilDxIdeal : Cert.UpDilDxIdeal.Facts] : Prop :=
  ∀ (m : (ℓ : Loc Cert.UpDilDxIdeal.nD Cert.UpDilDxIdeal.τ Cert.UpDilDxIdeal.sig) → Buf (Elt Ideal) ℓ) (g : Dev Cert.UpDilDxIdeal.nD → PrngReg), Pre_UpDilDxIdeal m →
    θ_run (Cert.UpDilDxIdeal.defs (F := Ideal)) (onTc (τ := Cert.UpDilDxIdeal.τ) (Cert.UpDilDxIdeal.main (F := Ideal))) ⟨m, fun _ => 0, g⟩ (fun r => (∀ c : Dev Cert.UpDilDxIdeal.nD,
      r.2.mem ((c.tc : Thread Cert.UpDilDxIdeal.nD Cert.UpDilDxIdeal.τ).loc Cert.UpDilDxIdeal.main_arg0) = m ((c.tc : Thread Cert.UpDilDxIdeal.nD Cert.UpDilDxIdeal.τ).loc Cert.UpDilDxIdeal.main_arg0)
      ∧ r.2.mem ((c.tc : Thread Cert.UpDilDxIdeal.nD Cert.UpDilDxIdeal.τ).loc Cert.UpDilDxIdeal.main_arg1) = m ((c.tc : Thread Cert.UpDilDxIdeal.nD Cert.UpDilDxIdeal.τ).loc Cert.UpDilDxIdeal.main_arg1))
      ∧ r.2.sem = fun _ => 0)

def quiescent_UpDilDxRefIdeal [hUpDilDxRefIdeal : Cert.UpDilDxRefIdeal.Facts] : Prop :=
  ∀ (m : (ℓ : Loc Cert.UpDilDxRefIdeal.nD Cert.UpDilDxRefIdeal.τ Cert.UpDilDxRefIdeal.sig) → Buf (Elt Ideal) ℓ) (g : Dev Cert.UpDilDxRefIdeal.nD → PrngReg), Pre_UpDilDxRefIdeal m →
    θ_run (Cert.UpDilDxRefIdeal.defs (F := Ideal)) (onTc (τ := Cert.UpDilDxRefIdeal.τ) (Cert.UpDilDxRefIdeal.main (F := Ideal))) ⟨m, fun _ => 0, g⟩ (fun r => (∀ c : Dev Cert.UpDilDxRefIdeal.nD,
      r.2.mem ((c.tc : Thread Cert.UpDilDxRefIdeal.nD Cert.UpDilDxRefIdeal.τ).loc Cert.UpDilDxRefIdeal.main_arg0) = m ((c.tc : Thread Cert.UpDilDxRefIdeal.nD Cert.UpDilDxRefIdeal.τ).loc Cert.UpDilDxRefIdeal.main_arg0)
      ∧ r.2.mem ((c.tc : Thread Cert.UpDilDxRefIdeal.nD Cert.UpDilDxRefIdeal.τ).loc Cert.UpDilDxRefIdeal.main_arg1) = m ((c.tc : Thread Cert.UpDilDxRefIdeal.nD Cert.UpDilDxRefIdeal.τ).loc Cert.UpDilDxRefIdeal.main_arg1))
      ∧ r.2.sem = fun _ => 0)

def quiescent_MlpOutDw [hMlpOutDw : Cert.MlpOutDw.Facts] : Prop :=
  ∀ (m : (ℓ : Loc Cert.MlpOutDw.nD Cert.MlpOutDw.τ Cert.MlpOutDw.sig) → Buf (Elt Bits) ℓ) (g : Dev Cert.MlpOutDw.nD → PrngReg), Pre_MlpOutDw m →
    θ_run (Cert.MlpOutDw.defs (F := Bits)) (onTc (τ := Cert.MlpOutDw.τ) (Cert.MlpOutDw.main (F := Bits))) ⟨m, fun _ => 0, g⟩ (fun r => (∀ c : Dev Cert.MlpOutDw.nD,
      r.2.mem ((c.tc : Thread Cert.MlpOutDw.nD Cert.MlpOutDw.τ).loc Cert.MlpOutDw.main_arg0) = m ((c.tc : Thread Cert.MlpOutDw.nD Cert.MlpOutDw.τ).loc Cert.MlpOutDw.main_arg0)
      ∧ r.2.mem ((c.tc : Thread Cert.MlpOutDw.nD Cert.MlpOutDw.τ).loc Cert.MlpOutDw.main_arg1) = m ((c.tc : Thread Cert.MlpOutDw.nD Cert.MlpOutDw.τ).loc Cert.MlpOutDw.main_arg1)
      ∧ r.2.mem ((c.tc : Thread Cert.MlpOutDw.nD Cert.MlpOutDw.τ).loc Cert.MlpOutDw.main_arg2) = m ((c.tc : Thread Cert.MlpOutDw.nD Cert.MlpOutDw.τ).loc Cert.MlpOutDw.main_arg2))
      ∧ r.2.sem = fun _ => 0)

def quiescent_MlpOutDwIdeal [hMlpOutDwIdeal : Cert.MlpOutDwIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg), Pre_MlpOutDwIdeal m →
    θ_run (Cert.MlpOutDwIdeal.defs (F := Ideal)) (onTc (τ := Cert.MlpOutDwIdeal.τ) (Cert.MlpOutDwIdeal.main (F := Ideal))) ⟨m, fun _ => 0, g⟩ (fun r => (∀ c : Dev Cert.MlpOutDwIdeal.nD,
      r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
      ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1)
      ∧ r.2.mem ((c.tc : Thread Cert.MlpOutDwIdeal.nD Cert.MlpOutDwIdeal.τ).loc Cert.MlpOutDwIdeal.main_arg2) = m ((c.tc : Thread Cert.MlpOutDwIdeal.nD Cert.MlpOutDwIdeal.τ).loc Cert.MlpOutDwIdeal.main_arg2))
      ∧ r.2.sem = fun _ => 0)

def quiescent_MlpOutDwRefIdeal [hMlpOutDwRefIdeal : Cert.MlpOutDwRefIdeal.Facts] : Prop :=
  ∀ (m : (ℓ : Loc Cert.MlpOutDwRefIdeal.nD Cert.MlpOutDwRefIdeal.τ Cert.MlpOutDwRefIdeal.sig) → Buf (Elt Ideal) ℓ) (g : Dev Cert.MlpOutDwRefIdeal.nD → PrngReg), Pre_MlpOutDwRefIdeal m →
    θ_run (Cert.MlpOutDwRefIdeal.defs (F := Ideal)) (onTc (τ := Cert.MlpOutDwRefIdeal.τ) (Cert.MlpOutDwRefIdeal.main (F := Ideal))) ⟨m, fun _ => 0, g⟩ (fun r => (∀ c : Dev Cert.MlpOutDwRefIdeal.nD,
      r.2.mem ((c.tc : Thread Cert.MlpOutDwRefIdeal.nD Cert.MlpOutDwRefIdeal.τ).loc Cert.MlpOutDwRefIdeal.main_arg0) = m ((c.tc : Thread Cert.MlpOutDwRefIdeal.nD Cert.MlpOutDwRefIdeal.τ).loc Cert.MlpOutDwRefIdeal.main_arg0)
      ∧ r.2.mem ((c.tc : Thread Cert.MlpOutDwRefIdeal.nD Cert.MlpOutDwRefIdeal.τ).loc Cert.MlpOutDwRefIdeal.main_arg1) = m ((c.tc : Thread Cert.MlpOutDwRefIdeal.nD Cert.MlpOutDwRefIdeal.τ).loc Cert.MlpOutDwRefIdeal.main_arg1)
      ∧ r.2.mem ((c.tc : Thread Cert.MlpOutDwRefIdeal.nD Cert.MlpOutDwRefIdeal.τ).loc Cert.MlpOutDwRefIdeal.main_arg2) = m ((c.tc : Thread Cert.MlpOutDwRefIdeal.nD Cert.MlpOutDwRefIdeal.τ).loc Cert.MlpOutDwRefIdeal.main_arg2))
      ∧ r.2.sem = fun _ => 0)

def quiescent_MlpOutDwLast [hMlpOutDwLast : Cert.MlpOutDwLast.Facts] : Prop :=
  ∀ (m : (ℓ : Loc Cert.MlpOutDwLast.nD Cert.MlpOutDwLast.τ Cert.MlpOutDwLast.sig) → Buf (Elt Bits) ℓ) (g : Dev Cert.MlpOutDwLast.nD → PrngReg), Pre_MlpOutDwLast m →
    θ_run (Cert.MlpOutDwLast.defs (F := Bits)) (onTc (τ := Cert.MlpOutDwLast.τ) (Cert.MlpOutDwLast.main (F := Bits))) ⟨m, fun _ => 0, g⟩ (fun r => (∀ c : Dev Cert.MlpOutDwLast.nD,
      r.2.mem ((c.tc : Thread Cert.MlpOutDwLast.nD Cert.MlpOutDwLast.τ).loc Cert.MlpOutDwLast.main_arg0) = m ((c.tc : Thread Cert.MlpOutDwLast.nD Cert.MlpOutDwLast.τ).loc Cert.MlpOutDwLast.main_arg0)
      ∧ r.2.mem ((c.tc : Thread Cert.MlpOutDwLast.nD Cert.MlpOutDwLast.τ).loc Cert.MlpOutDwLast.main_arg1) = m ((c.tc : Thread Cert.MlpOutDwLast.nD Cert.MlpOutDwLast.τ).loc Cert.MlpOutDwLast.main_arg1)
      ∧ r.2.mem ((c.tc : Thread Cert.MlpOutDwLast.nD Cert.MlpOutDwLast.τ).loc Cert.MlpOutDwLast.main_arg2) = m ((c.tc : Thread Cert.MlpOutDwLast.nD Cert.MlpOutDwLast.τ).loc Cert.MlpOutDwLast.main_arg2))
      ∧ r.2.sem = fun _ => 0)

def quiescent_MlpOutDwLastIdeal [hMlpOutDwLastIdeal : Cert.MlpOutDwLastIdeal.Facts] : Prop :=
  ∀ (m : (ℓ : Loc Cert.MlpOutDwLastIdeal.nD Cert.MlpOutDwLastIdeal.τ Cert.MlpOutDwLastIdeal.sig) → Buf (Elt Ideal) ℓ) (g : Dev Cert.MlpOutDwLastIdeal.nD → PrngReg), Pre_MlpOutDwLastIdeal m →
    θ_run (Cert.MlpOutDwLastIdeal.defs (F := Ideal)) (onTc (τ := Cert.MlpOutDwLastIdeal.τ) (Cert.MlpOutDwLastIdeal.main (F := Ideal))) ⟨m, fun _ => 0, g⟩ (fun r => (∀ c : Dev Cert.MlpOutDwLastIdeal.nD,
      r.2.mem ((c.tc : Thread Cert.MlpOutDwLastIdeal.nD Cert.MlpOutDwLastIdeal.τ).loc Cert.MlpOutDwLastIdeal.main_arg0) = m ((c.tc : Thread Cert.MlpOutDwLastIdeal.nD Cert.MlpOutDwLastIdeal.τ).loc Cert.MlpOutDwLastIdeal.main_arg0)
      ∧ r.2.mem ((c.tc : Thread Cert.MlpOutDwLastIdeal.nD Cert.MlpOutDwLastIdeal.τ).loc Cert.MlpOutDwLastIdeal.main_arg1) = m ((c.tc : Thread Cert.MlpOutDwLastIdeal.nD Cert.MlpOutDwLastIdeal.τ).loc Cert.MlpOutDwLastIdeal.main_arg1)
      ∧ r.2.mem ((c.tc : Thread Cert.MlpOutDwLastIdeal.nD Cert.MlpOutDwLastIdeal.τ).loc Cert.MlpOutDwLastIdeal.main_arg2) = m ((c.tc : Thread Cert.MlpOutDwLastIdeal.nD Cert.MlpOutDwLastIdeal.τ).loc Cert.MlpOutDwLastIdeal.main_arg2))
      ∧ r.2.sem = fun _ => 0)

def quiescent_MlpOutDwLastRefIdeal [hMlpOutDwLastRefIdeal : Cert.MlpOutDwLastRefIdeal.Facts] : Prop :=
  ∀ (m : (ℓ : Loc Cert.MlpOutDwLastRefIdeal.nD Cert.MlpOutDwLastRefIdeal.τ Cert.MlpOutDwLastRefIdeal.sig) → Buf (Elt Ideal) ℓ) (g : Dev Cert.MlpOutDwLastRefIdeal.nD → PrngReg), Pre_MlpOutDwLastRefIdeal m →
    θ_run (Cert.MlpOutDwLastRefIdeal.defs (F := Ideal)) (onTc (τ := Cert.MlpOutDwLastRefIdeal.τ) (Cert.MlpOutDwLastRefIdeal.main (F := Ideal))) ⟨m, fun _ => 0, g⟩ (fun r => (∀ c : Dev Cert.MlpOutDwLastRefIdeal.nD,
      r.2.mem ((c.tc : Thread Cert.MlpOutDwLastRefIdeal.nD Cert.MlpOutDwLastRefIdeal.τ).loc Cert.MlpOutDwLastRefIdeal.main_arg0) = m ((c.tc : Thread Cert.MlpOutDwLastRefIdeal.nD Cert.MlpOutDwLastRefIdeal.τ).loc Cert.MlpOutDwLastRefIdeal.main_arg0)
      ∧ r.2.mem ((c.tc : Thread Cert.MlpOutDwLastRefIdeal.nD Cert.MlpOutDwLastRefIdeal.τ).loc Cert.MlpOutDwLastRefIdeal.main_arg1) = m ((c.tc : Thread Cert.MlpOutDwLastRefIdeal.nD Cert.MlpOutDwLastRefIdeal.τ).loc Cert.MlpOutDwLastRefIdeal.main_arg1)
      ∧ r.2.mem ((c.tc : Thread Cert.MlpOutDwLastRefIdeal.nD Cert.MlpOutDwLastRefIdeal.τ).loc Cert.MlpOutDwLastRefIdeal.main_arg2) = m ((c.tc : Thread Cert.MlpOutDwLastRefIdeal.nD Cert.MlpOutDwLastRefIdeal.τ).loc Cert.MlpOutDwLastRefIdeal.main_arg2))
      ∧ r.2.sem = fun _ => 0)

def quiescent_MlpInDw [hMlpInDw : Cert.MlpInDw.Facts] : Prop :=
  ∀ (m : (ℓ : Loc Cert.MlpInDw.nD Cert.MlpInDw.τ Cert.MlpInDw.sig) → Buf (Elt Bits) ℓ) (g : Dev Cert.MlpInDw.nD → PrngReg), Pre_MlpInDw m →
    θ_run (Cert.MlpInDw.defs (F := Bits)) (onTc (τ := Cert.MlpInDw.τ) (Cert.MlpInDw.main (F := Bits))) ⟨m, fun _ => 0, g⟩ (fun r => (∀ c : Dev Cert.MlpInDw.nD,
      r.2.mem ((c.tc : Thread Cert.MlpInDw.nD Cert.MlpInDw.τ).loc Cert.MlpInDw.main_arg0) = m ((c.tc : Thread Cert.MlpInDw.nD Cert.MlpInDw.τ).loc Cert.MlpInDw.main_arg0)
      ∧ r.2.mem ((c.tc : Thread Cert.MlpInDw.nD Cert.MlpInDw.τ).loc Cert.MlpInDw.main_arg1) = m ((c.tc : Thread Cert.MlpInDw.nD Cert.MlpInDw.τ).loc Cert.MlpInDw.main_arg1)
      ∧ r.2.mem ((c.tc : Thread Cert.MlpInDw.nD Cert.MlpInDw.τ).loc Cert.MlpInDw.main_arg2) = m ((c.tc : Thread Cert.MlpInDw.nD Cert.MlpInDw.τ).loc Cert.MlpInDw.main_arg2))
      ∧ r.2.sem = fun _ => 0)

def quiescent_MlpInDwIdeal [hMlpInDwIdeal : Cert.MlpInDwIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg), Pre_MlpInDwIdeal m →
    θ_run (Cert.MlpInDwIdeal.defs (F := Ideal)) (onTc (τ := Cert.MlpInDwIdeal.τ) (Cert.MlpInDwIdeal.main (F := Ideal))) ⟨m, fun _ => 0, g⟩ (fun r => (∀ c : Dev Cert.MlpInDwIdeal.nD,
      r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
      ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1)
      ∧ r.2.mem ((c.tc : Thread Cert.MlpInDwIdeal.nD Cert.MlpInDwIdeal.τ).loc Cert.MlpInDwIdeal.main_arg2) = m ((c.tc : Thread Cert.MlpInDwIdeal.nD Cert.MlpInDwIdeal.τ).loc Cert.MlpInDwIdeal.main_arg2))
      ∧ r.2.sem = fun _ => 0)

def quiescent_MlpInDwRefIdeal [hMlpInDwRefIdeal : Cert.MlpInDwRefIdeal.Facts] : Prop :=
  ∀ (m : (ℓ : Loc Cert.MlpInDwRefIdeal.nD Cert.MlpInDwRefIdeal.τ Cert.MlpInDwRefIdeal.sig) → Buf (Elt Ideal) ℓ) (g : Dev Cert.MlpInDwRefIdeal.nD → PrngReg), Pre_MlpInDwRefIdeal m →
    θ_run (Cert.MlpInDwRefIdeal.defs (F := Ideal)) (onTc (τ := Cert.MlpInDwRefIdeal.τ) (Cert.MlpInDwRefIdeal.main (F := Ideal))) ⟨m, fun _ => 0, g⟩ (fun r => (∀ c : Dev Cert.MlpInDwRefIdeal.nD,
      r.2.mem ((c.tc : Thread Cert.MlpInDwRefIdeal.nD Cert.MlpInDwRefIdeal.τ).loc Cert.MlpInDwRefIdeal.main_arg0) = m ((c.tc : Thread Cert.MlpInDwRefIdeal.nD Cert.MlpInDwRefIdeal.τ).loc Cert.MlpInDwRefIdeal.main_arg0)
      ∧ r.2.mem ((c.tc : Thread Cert.MlpInDwRefIdeal.nD Cert.MlpInDwRefIdeal.τ).loc Cert.MlpInDwRefIdeal.main_arg1) = m ((c.tc : Thread Cert.MlpInDwRefIdeal.nD Cert.MlpInDwRefIdeal.τ).loc Cert.MlpInDwRefIdeal.main_arg1)
      ∧ r.2.mem ((c.tc : Thread Cert.MlpInDwRefIdeal.nD Cert.MlpInDwRefIdeal.τ).loc Cert.MlpInDwRefIdeal.main_arg2) = m ((c.tc : Thread Cert.MlpInDwRefIdeal.nD Cert.MlpInDwRefIdeal.τ).loc Cert.MlpInDwRefIdeal.main_arg2))
      ∧ r.2.sem = fun _ => 0)

def quiescent_MlpInDwLast [hMlpInDwLast : Cert.MlpInDwLast.Facts] : Prop :=
  ∀ (m : (ℓ : Loc Cert.MlpInDwLast.nD Cert.MlpInDwLast.τ Cert.MlpInDwLast.sig) → Buf (Elt Bits) ℓ) (g : Dev Cert.MlpInDwLast.nD → PrngReg), Pre_MlpInDwLast m →
    θ_run (Cert.MlpInDwLast.defs (F := Bits)) (onTc (τ := Cert.MlpInDwLast.τ) (Cert.MlpInDwLast.main (F := Bits))) ⟨m, fun _ => 0, g⟩ (fun r => (∀ c : Dev Cert.MlpInDwLast.nD,
      r.2.mem ((c.tc : Thread Cert.MlpInDwLast.nD Cert.MlpInDwLast.τ).loc Cert.MlpInDwLast.main_arg0) = m ((c.tc : Thread Cert.MlpInDwLast.nD Cert.MlpInDwLast.τ).loc Cert.MlpInDwLast.main_arg0)
      ∧ r.2.mem ((c.tc : Thread Cert.MlpInDwLast.nD Cert.MlpInDwLast.τ).loc Cert.MlpInDwLast.main_arg1) = m ((c.tc : Thread Cert.MlpInDwLast.nD Cert.MlpInDwLast.τ).loc Cert.MlpInDwLast.main_arg1)
      ∧ r.2.mem ((c.tc : Thread Cert.MlpInDwLast.nD Cert.MlpInDwLast.τ).loc Cert.MlpInDwLast.main_arg2) = m ((c.tc : Thread Cert.MlpInDwLast.nD Cert.MlpInDwLast.τ).loc Cert.MlpInDwLast.main_arg2))
      ∧ r.2.sem = fun _ => 0)

def quiescent_MlpInDwLastIdeal [hMlpInDwLastIdeal : Cert.MlpInDwLastIdeal.Facts] : Prop :=
  ∀ (m : (ℓ : Loc Cert.MlpInDwLastIdeal.nD Cert.MlpInDwLastIdeal.τ Cert.MlpInDwLastIdeal.sig) → Buf (Elt Ideal) ℓ) (g : Dev Cert.MlpInDwLastIdeal.nD → PrngReg), Pre_MlpInDwLastIdeal m →
    θ_run (Cert.MlpInDwLastIdeal.defs (F := Ideal)) (onTc (τ := Cert.MlpInDwLastIdeal.τ) (Cert.MlpInDwLastIdeal.main (F := Ideal))) ⟨m, fun _ => 0, g⟩ (fun r => (∀ c : Dev Cert.MlpInDwLastIdeal.nD,
      r.2.mem ((c.tc : Thread Cert.MlpInDwLastIdeal.nD Cert.MlpInDwLastIdeal.τ).loc Cert.MlpInDwLastIdeal.main_arg0) = m ((c.tc : Thread Cert.MlpInDwLastIdeal.nD Cert.MlpInDwLastIdeal.τ).loc Cert.MlpInDwLastIdeal.main_arg0)
      ∧ r.2.mem ((c.tc : Thread Cert.MlpInDwLastIdeal.nD Cert.MlpInDwLastIdeal.τ).loc Cert.MlpInDwLastIdeal.main_arg1) = m ((c.tc : Thread Cert.MlpInDwLastIdeal.nD Cert.MlpInDwLastIdeal.τ).loc Cert.MlpInDwLastIdeal.main_arg1)
      ∧ r.2.mem ((c.tc : Thread Cert.MlpInDwLastIdeal.nD Cert.MlpInDwLastIdeal.τ).loc Cert.MlpInDwLastIdeal.main_arg2) = m ((c.tc : Thread Cert.MlpInDwLastIdeal.nD Cert.MlpInDwLastIdeal.τ).loc Cert.MlpInDwLastIdeal.main_arg2))
      ∧ r.2.sem = fun _ => 0)

def quiescent_MlpInDwLastRefIdeal [hMlpInDwLastRefIdeal : Cert.MlpInDwLastRefIdeal.Facts] : Prop :=
  ∀ (m : (ℓ : Loc Cert.MlpInDwLastRefIdeal.nD Cert.MlpInDwLastRefIdeal.τ Cert.MlpInDwLastRefIdeal.sig) → Buf (Elt Ideal) ℓ) (g : Dev Cert.MlpInDwLastRefIdeal.nD → PrngReg), Pre_MlpInDwLastRefIdeal m →
    θ_run (Cert.MlpInDwLastRefIdeal.defs (F := Ideal)) (onTc (τ := Cert.MlpInDwLastRefIdeal.τ) (Cert.MlpInDwLastRefIdeal.main (F := Ideal))) ⟨m, fun _ => 0, g⟩ (fun r => (∀ c : Dev Cert.MlpInDwLastRefIdeal.nD,
      r.2.mem ((c.tc : Thread Cert.MlpInDwLastRefIdeal.nD Cert.MlpInDwLastRefIdeal.τ).loc Cert.MlpInDwLastRefIdeal.main_arg0) = m ((c.tc : Thread Cert.MlpInDwLastRefIdeal.nD Cert.MlpInDwLastRefIdeal.τ).loc Cert.MlpInDwLastRefIdeal.main_arg0)
      ∧ r.2.mem ((c.tc : Thread Cert.MlpInDwLastRefIdeal.nD Cert.MlpInDwLastRefIdeal.τ).loc Cert.MlpInDwLastRefIdeal.main_arg1) = m ((c.tc : Thread Cert.MlpInDwLastRefIdeal.nD Cert.MlpInDwLastRefIdeal.τ).loc Cert.MlpInDwLastRefIdeal.main_arg1)
      ∧ r.2.mem ((c.tc : Thread Cert.MlpInDwLastRefIdeal.nD Cert.MlpInDwLastRefIdeal.τ).loc Cert.MlpInDwLastRefIdeal.main_arg2) = m ((c.tc : Thread Cert.MlpInDwLastRefIdeal.nD Cert.MlpInDwLastRefIdeal.τ).loc Cert.MlpInDwLastRefIdeal.main_arg2))
      ∧ r.2.sem = fun _ => 0)

def quiescent_ProjDw [hProjDw : Cert.ProjDw.Facts] : Prop :=
  ∀ (m : (ℓ : Loc Cert.ProjDw.nD Cert.ProjDw.τ Cert.ProjDw.sig) → Buf (Elt Bits) ℓ) (g : Dev Cert.ProjDw.nD → PrngReg), Pre_ProjDw m →
    θ_run (Cert.ProjDw.defs (F := Bits)) (onTc (τ := Cert.ProjDw.τ) (Cert.ProjDw.main (F := Bits))) ⟨m, fun _ => 0, g⟩ (fun r => (∀ c : Dev Cert.ProjDw.nD,
      r.2.mem ((c.tc : Thread Cert.ProjDw.nD Cert.ProjDw.τ).loc Cert.ProjDw.main_arg0) = m ((c.tc : Thread Cert.ProjDw.nD Cert.ProjDw.τ).loc Cert.ProjDw.main_arg0)
      ∧ r.2.mem ((c.tc : Thread Cert.ProjDw.nD Cert.ProjDw.τ).loc Cert.ProjDw.main_arg1) = m ((c.tc : Thread Cert.ProjDw.nD Cert.ProjDw.τ).loc Cert.ProjDw.main_arg1)
      ∧ r.2.mem ((c.tc : Thread Cert.ProjDw.nD Cert.ProjDw.τ).loc Cert.ProjDw.main_arg2) = m ((c.tc : Thread Cert.ProjDw.nD Cert.ProjDw.τ).loc Cert.ProjDw.main_arg2))
      ∧ r.2.sem = fun _ => 0)

def quiescent_ProjDwIdeal [hProjDwIdeal : Cert.ProjDwIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg), Pre_ProjDwIdeal m →
    θ_run (Cert.ProjDwIdeal.defs (F := Ideal)) (onTc (τ := Cert.ProjDwIdeal.τ) (Cert.ProjDwIdeal.main (F := Ideal))) ⟨m, fun _ => 0, g⟩ (fun r => (∀ c : Dev Cert.ProjDwIdeal.nD,
      r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
      ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
      ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ r.2.sem = fun _ => 0)

def quiescent_ProjDwRefIdeal [hProjDwRefIdeal : Cert.ProjDwRefIdeal.Facts] : Prop :=
  ∀ (m : (ℓ : Loc Cert.ProjDwRefIdeal.nD Cert.ProjDwRefIdeal.τ Cert.ProjDwRefIdeal.sig) → Buf (Elt Ideal) ℓ) (g : Dev Cert.ProjDwRefIdeal.nD → PrngReg), Pre_ProjDwRefIdeal m →
    θ_run (Cert.ProjDwRefIdeal.defs (F := Ideal)) (onTc (τ := Cert.ProjDwRefIdeal.τ) (Cert.ProjDwRefIdeal.main (F := Ideal))) ⟨m, fun _ => 0, g⟩ (fun r => (∀ c : Dev Cert.ProjDwRefIdeal.nD,
      r.2.mem ((c.tc : Thread Cert.ProjDwRefIdeal.nD Cert.ProjDwRefIdeal.τ).loc Cert.ProjDwRefIdeal.main_arg0) = m ((c.tc : Thread Cert.ProjDwRefIdeal.nD Cert.ProjDwRefIdeal.τ).loc Cert.ProjDwRefIdeal.main_arg0)
      ∧ r.2.mem ((c.tc : Thread Cert.ProjDwRefIdeal.nD Cert.ProjDwRefIdeal.τ).loc Cert.ProjDwRefIdeal.main_arg1) = m ((c.tc : Thread Cert.ProjDwRefIdeal.nD Cert.ProjDwRefIdeal.τ).loc Cert.ProjDwRefIdeal.main_arg1)
      ∧ r.2.mem ((c.tc : Thread Cert.ProjDwRefIdeal.nD Cert.ProjDwRefIdeal.τ).loc Cert.ProjDwRefIdeal.main_arg2) = m ((c.tc : Thread Cert.ProjDwRefIdeal.nD Cert.ProjDwRefIdeal.τ).loc Cert.ProjDwRefIdeal.main_arg2))
      ∧ r.2.sem = fun _ => 0)

def quiescent_ProjDwLast [hProjDwLast : Cert.ProjDwLast.Facts] : Prop :=
  ∀ (m : (ℓ : Loc Cert.ProjDwLast.nD Cert.ProjDwLast.τ Cert.ProjDwLast.sig) → Buf (Elt Bits) ℓ) (g : Dev Cert.ProjDwLast.nD → PrngReg), Pre_ProjDwLast m →
    θ_run (Cert.ProjDwLast.defs (F := Bits)) (onTc (τ := Cert.ProjDwLast.τ) (Cert.ProjDwLast.main (F := Bits))) ⟨m, fun _ => 0, g⟩ (fun r => (∀ c : Dev Cert.ProjDwLast.nD,
      r.2.mem ((c.tc : Thread Cert.ProjDwLast.nD Cert.ProjDwLast.τ).loc Cert.ProjDwLast.main_arg0) = m ((c.tc : Thread Cert.ProjDwLast.nD Cert.ProjDwLast.τ).loc Cert.ProjDwLast.main_arg0)
      ∧ r.2.mem ((c.tc : Thread Cert.ProjDwLast.nD Cert.ProjDwLast.τ).loc Cert.ProjDwLast.main_arg1) = m ((c.tc : Thread Cert.ProjDwLast.nD Cert.ProjDwLast.τ).loc Cert.ProjDwLast.main_arg1)
      ∧ r.2.mem ((c.tc : Thread Cert.ProjDwLast.nD Cert.ProjDwLast.τ).loc Cert.ProjDwLast.main_arg2) = m ((c.tc : Thread Cert.ProjDwLast.nD Cert.ProjDwLast.τ).loc Cert.ProjDwLast.main_arg2))
      ∧ r.2.sem = fun _ => 0)

def quiescent_ProjDwLastIdeal [hProjDwLastIdeal : Cert.ProjDwLastIdeal.Facts] : Prop :=
  ∀ (m : (ℓ : Loc Cert.ProjDwLastIdeal.nD Cert.ProjDwLastIdeal.τ Cert.ProjDwLastIdeal.sig) → Buf (Elt Ideal) ℓ) (g : Dev Cert.ProjDwLastIdeal.nD → PrngReg), Pre_ProjDwLastIdeal m →
    θ_run (Cert.ProjDwLastIdeal.defs (F := Ideal)) (onTc (τ := Cert.ProjDwLastIdeal.τ) (Cert.ProjDwLastIdeal.main (F := Ideal))) ⟨m, fun _ => 0, g⟩ (fun r => (∀ c : Dev Cert.ProjDwLastIdeal.nD,
      r.2.mem ((c.tc : Thread Cert.ProjDwLastIdeal.nD Cert.ProjDwLastIdeal.τ).loc Cert.ProjDwLastIdeal.main_arg0) = m ((c.tc : Thread Cert.ProjDwLastIdeal.nD Cert.ProjDwLastIdeal.τ).loc Cert.ProjDwLastIdeal.main_arg0)
      ∧ r.2.mem ((c.tc : Thread Cert.ProjDwLastIdeal.nD Cert.ProjDwLastIdeal.τ).loc Cert.ProjDwLastIdeal.main_arg1) = m ((c.tc : Thread Cert.ProjDwLastIdeal.nD Cert.ProjDwLastIdeal.τ).loc Cert.ProjDwLastIdeal.main_arg1)
      ∧ r.2.mem ((c.tc : Thread Cert.ProjDwLastIdeal.nD Cert.ProjDwLastIdeal.τ).loc Cert.ProjDwLastIdeal.main_arg2) = m ((c.tc : Thread Cert.ProjDwLastIdeal.nD Cert.ProjDwLastIdeal.τ).loc Cert.ProjDwLastIdeal.main_arg2))
      ∧ r.2.sem = fun _ => 0)

def quiescent_ProjDwLastRefIdeal [hProjDwLastRefIdeal : Cert.ProjDwLastRefIdeal.Facts] : Prop :=
  ∀ (m : (ℓ : Loc Cert.ProjDwLastRefIdeal.nD Cert.ProjDwLastRefIdeal.τ Cert.ProjDwLastRefIdeal.sig) → Buf (Elt Ideal) ℓ) (g : Dev Cert.ProjDwLastRefIdeal.nD → PrngReg), Pre_ProjDwLastRefIdeal m →
    θ_run (Cert.ProjDwLastRefIdeal.defs (F := Ideal)) (onTc (τ := Cert.ProjDwLastRefIdeal.τ) (Cert.ProjDwLastRefIdeal.main (F := Ideal))) ⟨m, fun _ => 0, g⟩ (fun r => (∀ c : Dev Cert.ProjDwLastRefIdeal.nD,
      r.2.mem ((c.tc : Thread Cert.ProjDwLastRefIdeal.nD Cert.ProjDwLastRefIdeal.τ).loc Cert.ProjDwLastRefIdeal.main_arg0) = m ((c.tc : Thread Cert.ProjDwLastRefIdeal.nD Cert.ProjDwLastRefIdeal.τ).loc Cert.ProjDwLastRefIdeal.main_arg0)
      ∧ r.2.mem ((c.tc : Thread Cert.ProjDwLastRefIdeal.nD Cert.ProjDwLastRefIdeal.τ).loc Cert.ProjDwLastRefIdeal.main_arg1) = m ((c.tc : Thread Cert.ProjDwLastRefIdeal.nD Cert.ProjDwLastRefIdeal.τ).loc Cert.ProjDwLastRefIdeal.main_arg1)
      ∧ r.2.mem ((c.tc : Thread Cert.ProjDwLastRefIdeal.nD Cert.ProjDwLastRefIdeal.τ).loc Cert.ProjDwLastRefIdeal.main_arg2) = m ((c.tc : Thread Cert.ProjDwLastRefIdeal.nD Cert.ProjDwLastRefIdeal.τ).loc Cert.ProjDwLastRefIdeal.main_arg2))
      ∧ r.2.sem = fun _ => 0)

def quiescent_ForgetDw [hForgetDw : Cert.ForgetDw.Facts] : Prop :=
  ∀ (m : (ℓ : Loc Cert.ForgetDw.nD Cert.ForgetDw.τ Cert.ForgetDw.sig) → Buf (Elt Bits) ℓ) (g : Dev Cert.ForgetDw.nD → PrngReg), Pre_ForgetDw m →
    θ_run (Cert.ForgetDw.defs (F := Bits)) (onTc (τ := Cert.ForgetDw.τ) (Cert.ForgetDw.main (F := Bits))) ⟨m, fun _ => 0, g⟩ (fun r => (∀ c : Dev Cert.ForgetDw.nD,
      r.2.mem ((c.tc : Thread Cert.ForgetDw.nD Cert.ForgetDw.τ).loc Cert.ForgetDw.main_arg0) = m ((c.tc : Thread Cert.ForgetDw.nD Cert.ForgetDw.τ).loc Cert.ForgetDw.main_arg0)
      ∧ r.2.mem ((c.tc : Thread Cert.ForgetDw.nD Cert.ForgetDw.τ).loc Cert.ForgetDw.main_arg1) = m ((c.tc : Thread Cert.ForgetDw.nD Cert.ForgetDw.τ).loc Cert.ForgetDw.main_arg1))
      ∧ r.2.sem = fun _ => 0)

def quiescent_ForgetDwIdeal [hForgetDwIdeal : Cert.ForgetDwIdeal.Facts] : Prop :=
  ∀ (m : (ℓ : Loc Cert.ForgetDwIdeal.nD Cert.ForgetDwIdeal.τ Cert.ForgetDwIdeal.sig) → Buf (Elt Ideal) ℓ) (g : Dev Cert.ForgetDwIdeal.nD → PrngReg), Pre_ForgetDwIdeal m →
    θ_run (Cert.ForgetDwIdeal.defs (F := Ideal)) (onTc (τ := Cert.ForgetDwIdeal.τ) (Cert.ForgetDwIdeal.main (F := Ideal))) ⟨m, fun _ => 0, g⟩ (fun r => (∀ c : Dev Cert.ForgetDwIdeal.nD,
      r.2.mem ((c.tc : Thread Cert.ForgetDwIdeal.nD Cert.ForgetDwIdeal.τ).loc Cert.ForgetDwIdeal.main_arg0) = m ((c.tc : Thread Cert.ForgetDwIdeal.nD Cert.ForgetDwIdeal.τ).loc Cert.ForgetDwIdeal.main_arg0)
      ∧ r.2.mem ((c.tc : Thread Cert.ForgetDwIdeal.nD Cert.ForgetDwIdeal.τ).loc Cert.ForgetDwIdeal.main_arg1) = m ((c.tc : Thread Cert.ForgetDwIdeal.nD Cert.ForgetDwIdeal.τ).loc Cert.ForgetDwIdeal.main_arg1))
      ∧ r.2.sem = fun _ => 0)

def quiescent_ForgetDwRefIdeal [hForgetDwRefIdeal : Cert.ForgetDwRefIdeal.Facts] : Prop :=
  ∀ (m : (ℓ : Loc Cert.ForgetDwRefIdeal.nD Cert.ForgetDwRefIdeal.τ Cert.ForgetDwRefIdeal.sig) → Buf (Elt Ideal) ℓ) (g : Dev Cert.ForgetDwRefIdeal.nD → PrngReg), Pre_ForgetDwRefIdeal m →
    θ_run (Cert.ForgetDwRefIdeal.defs (F := Ideal)) (onTc (τ := Cert.ForgetDwRefIdeal.τ) (Cert.ForgetDwRefIdeal.main (F := Ideal))) ⟨m, fun _ => 0, g⟩ (fun r => (∀ c : Dev Cert.ForgetDwRefIdeal.nD,
      r.2.mem ((c.tc : Thread Cert.ForgetDwRefIdeal.nD Cert.ForgetDwRefIdeal.τ).loc Cert.ForgetDwRefIdeal.main_arg0) = m ((c.tc : Thread Cert.ForgetDwRefIdeal.nD Cert.ForgetDwRefIdeal.τ).loc Cert.ForgetDwRefIdeal.main_arg0)
      ∧ r.2.mem ((c.tc : Thread Cert.ForgetDwRefIdeal.nD Cert.ForgetDwRefIdeal.τ).loc Cert.ForgetDwRefIdeal.main_arg1) = m ((c.tc : Thread Cert.ForgetDwRefIdeal.nD Cert.ForgetDwRefIdeal.τ).loc Cert.ForgetDwRefIdeal.main_arg1))
      ∧ r.2.sem = fun _ => 0)

def quiescent_OutProjDw [hOutProjDw : Cert.OutProjDw.Facts] : Prop :=
  ∀ (m : (ℓ : Loc Cert.OutProjDw.nD Cert.OutProjDw.τ Cert.OutProjDw.sig) → Buf (Elt Bits) ℓ) (g : Dev Cert.OutProjDw.nD → PrngReg), Pre_OutProjDw m →
    θ_run (Cert.OutProjDw.defs (F := Bits)) (onTc (τ := Cert.OutProjDw.τ) (Cert.OutProjDw.main (F := Bits))) ⟨m, fun _ => 0, g⟩ (fun r => (∀ c : Dev Cert.OutProjDw.nD,
      r.2.mem ((c.tc : Thread Cert.OutProjDw.nD Cert.OutProjDw.τ).loc Cert.OutProjDw.main_arg0) = m ((c.tc : Thread Cert.OutProjDw.nD Cert.OutProjDw.τ).loc Cert.OutProjDw.main_arg0)
      ∧ r.2.mem ((c.tc : Thread Cert.OutProjDw.nD Cert.OutProjDw.τ).loc Cert.OutProjDw.main_arg1) = m ((c.tc : Thread Cert.OutProjDw.nD Cert.OutProjDw.τ).loc Cert.OutProjDw.main_arg1)
      ∧ r.2.mem ((c.tc : Thread Cert.OutProjDw.nD Cert.OutProjDw.τ).loc Cert.OutProjDw.main_arg2) = m ((c.tc : Thread Cert.OutProjDw.nD Cert.OutProjDw.τ).loc Cert.OutProjDw.main_arg2))
      ∧ r.2.sem = fun _ => 0)

def quiescent_OutProjDwIdeal [hOutProjDwIdeal : Cert.OutProjDwIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg), Pre_OutProjDwIdeal m →
    θ_run (Cert.OutProjDwIdeal.defs (F := Ideal)) (onTc (τ := Cert.OutProjDwIdeal.τ) (Cert.OutProjDwIdeal.main (F := Ideal))) ⟨m, fun _ => 0, g⟩ (fun r => (∀ c : Dev Cert.OutProjDwIdeal.nD,
      r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
      ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
      ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ r.2.sem = fun _ => 0)

def quiescent_OutProjDwRefIdeal [hOutProjDwRefIdeal : Cert.OutProjDwRefIdeal.Facts] : Prop :=
  ∀ (m : (ℓ : Loc Cert.OutProjDwRefIdeal.nD Cert.OutProjDwRefIdeal.τ Cert.OutProjDwRefIdeal.sig) → Buf (Elt Ideal) ℓ) (g : Dev Cert.OutProjDwRefIdeal.nD → PrngReg), Pre_OutProjDwRefIdeal m →
    θ_run (Cert.OutProjDwRefIdeal.defs (F := Ideal)) (onTc (τ := Cert.OutProjDwRefIdeal.τ) (Cert.OutProjDwRefIdeal.main (F := Ideal))) ⟨m, fun _ => 0, g⟩ (fun r => (∀ c : Dev Cert.OutProjDwRefIdeal.nD,
      r.2.mem ((c.tc : Thread Cert.OutProjDwRefIdeal.nD Cert.OutProjDwRefIdeal.τ).loc Cert.OutProjDwRefIdeal.main_arg0) = m ((c.tc : Thread Cert.OutProjDwRefIdeal.nD Cert.OutProjDwRefIdeal.τ).loc Cert.OutProjDwRefIdeal.main_arg0)
      ∧ r.2.mem ((c.tc : Thread Cert.OutProjDwRefIdeal.nD Cert.OutProjDwRefIdeal.τ).loc Cert.OutProjDwRefIdeal.main_arg1) = m ((c.tc : Thread Cert.OutProjDwRefIdeal.nD Cert.OutProjDwRefIdeal.τ).loc Cert.OutProjDwRefIdeal.main_arg1)
      ∧ r.2.mem ((c.tc : Thread Cert.OutProjDwRefIdeal.nD Cert.OutProjDwRefIdeal.τ).loc Cert.OutProjDwRefIdeal.main_arg2) = m ((c.tc : Thread Cert.OutProjDwRefIdeal.nD Cert.OutProjDwRefIdeal.τ).loc Cert.OutProjDwRefIdeal.main_arg2))
      ∧ r.2.sem = fun _ => 0)

def quiescent_OutProjDwLast [hOutProjDwLast : Cert.OutProjDwLast.Facts] : Prop :=
  ∀ (m : (ℓ : Loc Cert.OutProjDwLast.nD Cert.OutProjDwLast.τ Cert.OutProjDwLast.sig) → Buf (Elt Bits) ℓ) (g : Dev Cert.OutProjDwLast.nD → PrngReg), Pre_OutProjDwLast m →
    θ_run (Cert.OutProjDwLast.defs (F := Bits)) (onTc (τ := Cert.OutProjDwLast.τ) (Cert.OutProjDwLast.main (F := Bits))) ⟨m, fun _ => 0, g⟩ (fun r => (∀ c : Dev Cert.OutProjDwLast.nD,
      r.2.mem ((c.tc : Thread Cert.OutProjDwLast.nD Cert.OutProjDwLast.τ).loc Cert.OutProjDwLast.main_arg0) = m ((c.tc : Thread Cert.OutProjDwLast.nD Cert.OutProjDwLast.τ).loc Cert.OutProjDwLast.main_arg0)
      ∧ r.2.mem ((c.tc : Thread Cert.OutProjDwLast.nD Cert.OutProjDwLast.τ).loc Cert.OutProjDwLast.main_arg1) = m ((c.tc : Thread Cert.OutProjDwLast.nD Cert.OutProjDwLast.τ).loc Cert.OutProjDwLast.main_arg1)
      ∧ r.2.mem ((c.tc : Thread Cert.OutProjDwLast.nD Cert.OutProjDwLast.τ).loc Cert.OutProjDwLast.main_arg2) = m ((c.tc : Thread Cert.OutProjDwLast.nD Cert.OutProjDwLast.τ).loc Cert.OutProjDwLast.main_arg2))
      ∧ r.2.sem = fun _ => 0)

def quiescent_OutProjDwLastIdeal [hOutProjDwLastIdeal : Cert.OutProjDwLastIdeal.Facts] : Prop :=
  ∀ (m : (ℓ : Loc Cert.OutProjDwLastIdeal.nD Cert.OutProjDwLastIdeal.τ Cert.OutProjDwLastIdeal.sig) → Buf (Elt Ideal) ℓ) (g : Dev Cert.OutProjDwLastIdeal.nD → PrngReg), Pre_OutProjDwLastIdeal m →
    θ_run (Cert.OutProjDwLastIdeal.defs (F := Ideal)) (onTc (τ := Cert.OutProjDwLastIdeal.τ) (Cert.OutProjDwLastIdeal.main (F := Ideal))) ⟨m, fun _ => 0, g⟩ (fun r => (∀ c : Dev Cert.OutProjDwLastIdeal.nD,
      r.2.mem ((c.tc : Thread Cert.OutProjDwLastIdeal.nD Cert.OutProjDwLastIdeal.τ).loc Cert.OutProjDwLastIdeal.main_arg0) = m ((c.tc : Thread Cert.OutProjDwLastIdeal.nD Cert.OutProjDwLastIdeal.τ).loc Cert.OutProjDwLastIdeal.main_arg0)
      ∧ r.2.mem ((c.tc : Thread Cert.OutProjDwLastIdeal.nD Cert.OutProjDwLastIdeal.τ).loc Cert.OutProjDwLastIdeal.main_arg1) = m ((c.tc : Thread Cert.OutProjDwLastIdeal.nD Cert.OutProjDwLastIdeal.τ).loc Cert.OutProjDwLastIdeal.main_arg1)
      ∧ r.2.mem ((c.tc : Thread Cert.OutProjDwLastIdeal.nD Cert.OutProjDwLastIdeal.τ).loc Cert.OutProjDwLastIdeal.main_arg2) = m ((c.tc : Thread Cert.OutProjDwLastIdeal.nD Cert.OutProjDwLastIdeal.τ).loc Cert.OutProjDwLastIdeal.main_arg2))
      ∧ r.2.sem = fun _ => 0)

def quiescent_OutProjDwLastRefIdeal [hOutProjDwLastRefIdeal : Cert.OutProjDwLastRefIdeal.Facts] : Prop :=
  ∀ (m : (ℓ : Loc Cert.OutProjDwLastRefIdeal.nD Cert.OutProjDwLastRefIdeal.τ Cert.OutProjDwLastRefIdeal.sig) → Buf (Elt Ideal) ℓ) (g : Dev Cert.OutProjDwLastRefIdeal.nD → PrngReg), Pre_OutProjDwLastRefIdeal m →
    θ_run (Cert.OutProjDwLastRefIdeal.defs (F := Ideal)) (onTc (τ := Cert.OutProjDwLastRefIdeal.τ) (Cert.OutProjDwLastRefIdeal.main (F := Ideal))) ⟨m, fun _ => 0, g⟩ (fun r => (∀ c : Dev Cert.OutProjDwLastRefIdeal.nD,
      r.2.mem ((c.tc : Thread Cert.OutProjDwLastRefIdeal.nD Cert.OutProjDwLastRefIdeal.τ).loc Cert.OutProjDwLastRefIdeal.main_arg0) = m ((c.tc : Thread Cert.OutProjDwLastRefIdeal.nD Cert.OutProjDwLastRefIdeal.τ).loc Cert.OutProjDwLastRefIdeal.main_arg0)
      ∧ r.2.mem ((c.tc : Thread Cert.OutProjDwLastRefIdeal.nD Cert.OutProjDwLastRefIdeal.τ).loc Cert.OutProjDwLastRefIdeal.main_arg1) = m ((c.tc : Thread Cert.OutProjDwLastRefIdeal.nD Cert.OutProjDwLastRefIdeal.τ).loc Cert.OutProjDwLastRefIdeal.main_arg1)
      ∧ r.2.mem ((c.tc : Thread Cert.OutProjDwLastRefIdeal.nD Cert.OutProjDwLastRefIdeal.τ).loc Cert.OutProjDwLastRefIdeal.main_arg2) = m ((c.tc : Thread Cert.OutProjDwLastRefIdeal.nD Cert.OutProjDwLastRefIdeal.τ).loc Cert.OutProjDwLastRefIdeal.main_arg2))
      ∧ r.2.sem = fun _ => 0)

def quiescent_UpFoxDw [hUpFoxDw : Cert.UpFoxDw.Facts] : Prop :=
  ∀ (m : (ℓ : Loc Cert.UpFoxDw.nD Cert.UpFoxDw.τ Cert.UpFoxDw.sig) → Buf (Elt Bits) ℓ) (g : Dev Cert.UpFoxDw.nD → PrngReg), Pre_UpFoxDw m →
    θ_run (Cert.UpFoxDw.defs (F := Bits)) (onTc (τ := Cert.UpFoxDw.τ) (Cert.UpFoxDw.main (F := Bits))) ⟨m, fun _ => 0, g⟩ (fun r => (∀ c : Dev Cert.UpFoxDw.nD,
      r.2.mem ((c.tc : Thread Cert.UpFoxDw.nD Cert.UpFoxDw.τ).loc Cert.UpFoxDw.main_arg0) = m ((c.tc : Thread Cert.UpFoxDw.nD Cert.UpFoxDw.τ).loc Cert.UpFoxDw.main_arg0)
      ∧ r.2.mem ((c.tc : Thread Cert.UpFoxDw.nD Cert.UpFoxDw.τ).loc Cert.UpFoxDw.main_arg1) = m ((c.tc : Thread Cert.UpFoxDw.nD Cert.UpFoxDw.τ).loc Cert.UpFoxDw.main_arg1)
      ∧ r.2.mem ((c.tc : Thread Cert.UpFoxDw.nD Cert.UpFoxDw.τ).loc Cert.UpFoxDw.main_arg2) = m ((c.tc : Thread Cert.UpFoxDw.nD Cert.UpFoxDw.τ).loc Cert.UpFoxDw.main_arg2))
      ∧ r.2.sem = fun _ => 0)

def quiescent_UpFoxDwIdeal [hUpFoxDwIdeal : Cert.UpFoxDwIdeal.Facts] : Prop :=
  ∀ (m : (ℓ : Loc Cert.UpFoxDwIdeal.nD Cert.UpFoxDwIdeal.τ Cert.UpFoxDwIdeal.sig) → Buf (Elt Ideal) ℓ) (g : Dev Cert.UpFoxDwIdeal.nD → PrngReg), Pre_UpFoxDwIdeal m →
    θ_run (Cert.UpFoxDwIdeal.defs (F := Ideal)) (onTc (τ := Cert.UpFoxDwIdeal.τ) (Cert.UpFoxDwIdeal.main (F := Ideal))) ⟨m, fun _ => 0, g⟩ (fun r => (∀ c : Dev Cert.UpFoxDwIdeal.nD,
      r.2.mem ((c.tc : Thread Cert.UpFoxDwIdeal.nD Cert.UpFoxDwIdeal.τ).loc Cert.UpFoxDwIdeal.main_arg0) = m ((c.tc : Thread Cert.UpFoxDwIdeal.nD Cert.UpFoxDwIdeal.τ).loc Cert.UpFoxDwIdeal.main_arg0)
      ∧ r.2.mem ((c.tc : Thread Cert.UpFoxDwIdeal.nD Cert.UpFoxDwIdeal.τ).loc Cert.UpFoxDwIdeal.main_arg1) = m ((c.tc : Thread Cert.UpFoxDwIdeal.nD Cert.UpFoxDwIdeal.τ).loc Cert.UpFoxDwIdeal.main_arg1)
      ∧ r.2.mem ((c.tc : Thread Cert.UpFoxDwIdeal.nD Cert.UpFoxDwIdeal.τ).loc Cert.UpFoxDwIdeal.main_arg2) = m ((c.tc : Thread Cert.UpFoxDwIdeal.nD Cert.UpFoxDwIdeal.τ).loc Cert.UpFoxDwIdeal.main_arg2))
      ∧ r.2.sem = fun _ => 0)

def quiescent_UpFoxDwRefIdeal [hUpFoxDwRefIdeal : Cert.UpFoxDwRefIdeal.Facts] : Prop :=
  ∀ (m : (ℓ : Loc Cert.UpFoxDwRefIdeal.nD Cert.UpFoxDwRefIdeal.τ Cert.UpFoxDwRefIdeal.sig) → Buf (Elt Ideal) ℓ) (g : Dev Cert.UpFoxDwRefIdeal.nD → PrngReg), Pre_UpFoxDwRefIdeal m →
    θ_run (Cert.UpFoxDwRefIdeal.defs (F := Ideal)) (onTc (τ := Cert.UpFoxDwRefIdeal.τ) (Cert.UpFoxDwRefIdeal.main (F := Ideal))) ⟨m, fun _ => 0, g⟩ (fun r => (∀ c : Dev Cert.UpFoxDwRefIdeal.nD,
      r.2.mem ((c.tc : Thread Cert.UpFoxDwRefIdeal.nD Cert.UpFoxDwRefIdeal.τ).loc Cert.UpFoxDwRefIdeal.main_arg0) = m ((c.tc : Thread Cert.UpFoxDwRefIdeal.nD Cert.UpFoxDwRefIdeal.τ).loc Cert.UpFoxDwRefIdeal.main_arg0)
      ∧ r.2.mem ((c.tc : Thread Cert.UpFoxDwRefIdeal.nD Cert.UpFoxDwRefIdeal.τ).loc Cert.UpFoxDwRefIdeal.main_arg1) = m ((c.tc : Thread Cert.UpFoxDwRefIdeal.nD Cert.UpFoxDwRefIdeal.τ).loc Cert.UpFoxDwRefIdeal.main_arg1)
      ∧ r.2.mem ((c.tc : Thread Cert.UpFoxDwRefIdeal.nD Cert.UpFoxDwRefIdeal.τ).loc Cert.UpFoxDwRefIdeal.main_arg2) = m ((c.tc : Thread Cert.UpFoxDwRefIdeal.nD Cert.UpFoxDwRefIdeal.τ).loc Cert.UpFoxDwRefIdeal.main_arg2))
      ∧ r.2.sem = fun _ => 0)

def quiescent_UpFoxDwLast [hUpFoxDwLast : Cert.UpFoxDwLast.Facts] : Prop :=
  ∀ (m : (ℓ : Loc Cert.UpFoxDwLast.nD Cert.UpFoxDwLast.τ Cert.UpFoxDwLast.sig) → Buf (Elt Bits) ℓ) (g : Dev Cert.UpFoxDwLast.nD → PrngReg), Pre_UpFoxDwLast m →
    θ_run (Cert.UpFoxDwLast.defs (F := Bits)) (onTc (τ := Cert.UpFoxDwLast.τ) (Cert.UpFoxDwLast.main (F := Bits))) ⟨m, fun _ => 0, g⟩ (fun r => (∀ c : Dev Cert.UpFoxDwLast.nD,
      r.2.mem ((c.tc : Thread Cert.UpFoxDwLast.nD Cert.UpFoxDwLast.τ).loc Cert.UpFoxDwLast.main_arg0) = m ((c.tc : Thread Cert.UpFoxDwLast.nD Cert.UpFoxDwLast.τ).loc Cert.UpFoxDwLast.main_arg0)
      ∧ r.2.mem ((c.tc : Thread Cert.UpFoxDwLast.nD Cert.UpFoxDwLast.τ).loc Cert.UpFoxDwLast.main_arg1) = m ((c.tc : Thread Cert.UpFoxDwLast.nD Cert.UpFoxDwLast.τ).loc Cert.UpFoxDwLast.main_arg1)
      ∧ r.2.mem ((c.tc : Thread Cert.UpFoxDwLast.nD Cert.UpFoxDwLast.τ).loc Cert.UpFoxDwLast.main_arg2) = m ((c.tc : Thread Cert.UpFoxDwLast.nD Cert.UpFoxDwLast.τ).loc Cert.UpFoxDwLast.main_arg2))
      ∧ r.2.sem = fun _ => 0)

def quiescent_UpFoxDwLastIdeal [hUpFoxDwLastIdeal : Cert.UpFoxDwLastIdeal.Facts] : Prop :=
  ∀ (m : (ℓ : Loc Cert.UpFoxDwLastIdeal.nD Cert.UpFoxDwLastIdeal.τ Cert.UpFoxDwLastIdeal.sig) → Buf (Elt Ideal) ℓ) (g : Dev Cert.UpFoxDwLastIdeal.nD → PrngReg), Pre_UpFoxDwLastIdeal m →
    θ_run (Cert.UpFoxDwLastIdeal.defs (F := Ideal)) (onTc (τ := Cert.UpFoxDwLastIdeal.τ) (Cert.UpFoxDwLastIdeal.main (F := Ideal))) ⟨m, fun _ => 0, g⟩ (fun r => (∀ c : Dev Cert.UpFoxDwLastIdeal.nD,
      r.2.mem ((c.tc : Thread Cert.UpFoxDwLastIdeal.nD Cert.UpFoxDwLastIdeal.τ).loc Cert.UpFoxDwLastIdeal.main_arg0) = m ((c.tc : Thread Cert.UpFoxDwLastIdeal.nD Cert.UpFoxDwLastIdeal.τ).loc Cert.UpFoxDwLastIdeal.main_arg0)
      ∧ r.2.mem ((c.tc : Thread Cert.UpFoxDwLastIdeal.nD Cert.UpFoxDwLastIdeal.τ).loc Cert.UpFoxDwLastIdeal.main_arg1) = m ((c.tc : Thread Cert.UpFoxDwLastIdeal.nD Cert.UpFoxDwLastIdeal.τ).loc Cert.UpFoxDwLastIdeal.main_arg1)
      ∧ r.2.mem ((c.tc : Thread Cert.UpFoxDwLastIdeal.nD Cert.UpFoxDwLastIdeal.τ).loc Cert.UpFoxDwLastIdeal.main_arg2) = m ((c.tc : Thread Cert.UpFoxDwLastIdeal.nD Cert.UpFoxDwLastIdeal.τ).loc Cert.UpFoxDwLastIdeal.main_arg2))
      ∧ r.2.sem = fun _ => 0)

def quiescent_UpFoxDwLastRefIdeal [hUpFoxDwLastRefIdeal : Cert.UpFoxDwLastRefIdeal.Facts] : Prop :=
  ∀ (m : (ℓ : Loc Cert.UpFoxDwLastRefIdeal.nD Cert.UpFoxDwLastRefIdeal.τ Cert.UpFoxDwLastRefIdeal.sig) → Buf (Elt Ideal) ℓ) (g : Dev Cert.UpFoxDwLastRefIdeal.nD → PrngReg), Pre_UpFoxDwLastRefIdeal m →
    θ_run (Cert.UpFoxDwLastRefIdeal.defs (F := Ideal)) (onTc (τ := Cert.UpFoxDwLastRefIdeal.τ) (Cert.UpFoxDwLastRefIdeal.main (F := Ideal))) ⟨m, fun _ => 0, g⟩ (fun r => (∀ c : Dev Cert.UpFoxDwLastRefIdeal.nD,
      r.2.mem ((c.tc : Thread Cert.UpFoxDwLastRefIdeal.nD Cert.UpFoxDwLastRefIdeal.τ).loc Cert.UpFoxDwLastRefIdeal.main_arg0) = m ((c.tc : Thread Cert.UpFoxDwLastRefIdeal.nD Cert.UpFoxDwLastRefIdeal.τ).loc Cert.UpFoxDwLastRefIdeal.main_arg0)
      ∧ r.2.mem ((c.tc : Thread Cert.UpFoxDwLastRefIdeal.nD Cert.UpFoxDwLastRefIdeal.τ).loc Cert.UpFoxDwLastRefIdeal.main_arg1) = m ((c.tc : Thread Cert.UpFoxDwLastRefIdeal.nD Cert.UpFoxDwLastRefIdeal.τ).loc Cert.UpFoxDwLastRefIdeal.main_arg1)
      ∧ r.2.mem ((c.tc : Thread Cert.UpFoxDwLastRefIdeal.nD Cert.UpFoxDwLastRefIdeal.τ).loc Cert.UpFoxDwLastRefIdeal.main_arg2) = m ((c.tc : Thread Cert.UpFoxDwLastRefIdeal.nD Cert.UpFoxDwLastRefIdeal.τ).loc Cert.UpFoxDwLastRefIdeal.main_arg2))
      ∧ r.2.sem = fun _ => 0)

def quiescent_UpSbDw [hUpSbDw : Cert.UpSbDw.Facts] : Prop :=
  ∀ (m : (ℓ : Loc Cert.UpSbDw.nD Cert.UpSbDw.τ Cert.UpSbDw.sig) → Buf (Elt Bits) ℓ) (g : Dev Cert.UpSbDw.nD → PrngReg), Pre_UpSbDw m →
    θ_run (Cert.UpSbDw.defs (F := Bits)) (onTc (τ := Cert.UpSbDw.τ) (Cert.UpSbDw.main (F := Bits))) ⟨m, fun _ => 0, g⟩ (fun r => (∀ c : Dev Cert.UpSbDw.nD,
      r.2.mem ((c.tc : Thread Cert.UpSbDw.nD Cert.UpSbDw.τ).loc Cert.UpSbDw.main_arg0) = m ((c.tc : Thread Cert.UpSbDw.nD Cert.UpSbDw.τ).loc Cert.UpSbDw.main_arg0)
      ∧ r.2.mem ((c.tc : Thread Cert.UpSbDw.nD Cert.UpSbDw.τ).loc Cert.UpSbDw.main_arg1) = m ((c.tc : Thread Cert.UpSbDw.nD Cert.UpSbDw.τ).loc Cert.UpSbDw.main_arg1)
      ∧ r.2.mem ((c.tc : Thread Cert.UpSbDw.nD Cert.UpSbDw.τ).loc Cert.UpSbDw.main_arg2) = m ((c.tc : Thread Cert.UpSbDw.nD Cert.UpSbDw.τ).loc Cert.UpSbDw.main_arg2))
      ∧ r.2.sem = fun _ => 0)

def quiescent_UpSbDwIdeal [hUpSbDwIdeal : Cert.UpSbDwIdeal.Facts] : Prop :=
  ∀ (m : (ℓ : Loc Cert.UpSbDwIdeal.nD Cert.UpSbDwIdeal.τ Cert.UpSbDwIdeal.sig) → Buf (Elt Ideal) ℓ) (g : Dev Cert.UpSbDwIdeal.nD → PrngReg), Pre_UpSbDwIdeal m →
    θ_run (Cert.UpSbDwIdeal.defs (F := Ideal)) (onTc (τ := Cert.UpSbDwIdeal.τ) (Cert.UpSbDwIdeal.main (F := Ideal))) ⟨m, fun _ => 0, g⟩ (fun r => (∀ c : Dev Cert.UpSbDwIdeal.nD,
      r.2.mem ((c.tc : Thread Cert.UpSbDwIdeal.nD Cert.UpSbDwIdeal.τ).loc Cert.UpSbDwIdeal.main_arg0) = m ((c.tc : Thread Cert.UpSbDwIdeal.nD Cert.UpSbDwIdeal.τ).loc Cert.UpSbDwIdeal.main_arg0)
      ∧ r.2.mem ((c.tc : Thread Cert.UpSbDwIdeal.nD Cert.UpSbDwIdeal.τ).loc Cert.UpSbDwIdeal.main_arg1) = m ((c.tc : Thread Cert.UpSbDwIdeal.nD Cert.UpSbDwIdeal.τ).loc Cert.UpSbDwIdeal.main_arg1)
      ∧ r.2.mem ((c.tc : Thread Cert.UpSbDwIdeal.nD Cert.UpSbDwIdeal.τ).loc Cert.UpSbDwIdeal.main_arg2) = m ((c.tc : Thread Cert.UpSbDwIdeal.nD Cert.UpSbDwIdeal.τ).loc Cert.UpSbDwIdeal.main_arg2))
      ∧ r.2.sem = fun _ => 0)

def quiescent_UpSbDwRefIdeal [hUpSbDwRefIdeal : Cert.UpSbDwRefIdeal.Facts] : Prop :=
  ∀ (m : (ℓ : Loc Cert.UpSbDwRefIdeal.nD Cert.UpSbDwRefIdeal.τ Cert.UpSbDwRefIdeal.sig) → Buf (Elt Ideal) ℓ) (g : Dev Cert.UpSbDwRefIdeal.nD → PrngReg), Pre_UpSbDwRefIdeal m →
    θ_run (Cert.UpSbDwRefIdeal.defs (F := Ideal)) (onTc (τ := Cert.UpSbDwRefIdeal.τ) (Cert.UpSbDwRefIdeal.main (F := Ideal))) ⟨m, fun _ => 0, g⟩ (fun r => (∀ c : Dev Cert.UpSbDwRefIdeal.nD,
      r.2.mem ((c.tc : Thread Cert.UpSbDwRefIdeal.nD Cert.UpSbDwRefIdeal.τ).loc Cert.UpSbDwRefIdeal.main_arg0) = m ((c.tc : Thread Cert.UpSbDwRefIdeal.nD Cert.UpSbDwRefIdeal.τ).loc Cert.UpSbDwRefIdeal.main_arg0)
      ∧ r.2.mem ((c.tc : Thread Cert.UpSbDwRefIdeal.nD Cert.UpSbDwRefIdeal.τ).loc Cert.UpSbDwRefIdeal.main_arg1) = m ((c.tc : Thread Cert.UpSbDwRefIdeal.nD Cert.UpSbDwRefIdeal.τ).loc Cert.UpSbDwRefIdeal.main_arg1)
      ∧ r.2.mem ((c.tc : Thread Cert.UpSbDwRefIdeal.nD Cert.UpSbDwRefIdeal.τ).loc Cert.UpSbDwRefIdeal.main_arg2) = m ((c.tc : Thread Cert.UpSbDwRefIdeal.nD Cert.UpSbDwRefIdeal.τ).loc Cert.UpSbDwRefIdeal.main_arg2))
      ∧ r.2.sem = fun _ => 0)

def quiescent_UpSbDwLast [hUpSbDwLast : Cert.UpSbDwLast.Facts] : Prop :=
  ∀ (m : (ℓ : Loc Cert.UpSbDwLast.nD Cert.UpSbDwLast.τ Cert.UpSbDwLast.sig) → Buf (Elt Bits) ℓ) (g : Dev Cert.UpSbDwLast.nD → PrngReg), Pre_UpSbDwLast m →
    θ_run (Cert.UpSbDwLast.defs (F := Bits)) (onTc (τ := Cert.UpSbDwLast.τ) (Cert.UpSbDwLast.main (F := Bits))) ⟨m, fun _ => 0, g⟩ (fun r => (∀ c : Dev Cert.UpSbDwLast.nD,
      r.2.mem ((c.tc : Thread Cert.UpSbDwLast.nD Cert.UpSbDwLast.τ).loc Cert.UpSbDwLast.main_arg0) = m ((c.tc : Thread Cert.UpSbDwLast.nD Cert.UpSbDwLast.τ).loc Cert.UpSbDwLast.main_arg0)
      ∧ r.2.mem ((c.tc : Thread Cert.UpSbDwLast.nD Cert.UpSbDwLast.τ).loc Cert.UpSbDwLast.main_arg1) = m ((c.tc : Thread Cert.UpSbDwLast.nD Cert.UpSbDwLast.τ).loc Cert.UpSbDwLast.main_arg1)
      ∧ r.2.mem ((c.tc : Thread Cert.UpSbDwLast.nD Cert.UpSbDwLast.τ).loc Cert.UpSbDwLast.main_arg2) = m ((c.tc : Thread Cert.UpSbDwLast.nD Cert.UpSbDwLast.τ).loc Cert.UpSbDwLast.main_arg2))
      ∧ r.2.sem = fun _ => 0)

def quiescent_UpSbDwLastIdeal [hUpSbDwLastIdeal : Cert.UpSbDwLastIdeal.Facts] : Prop :=
  ∀ (m : (ℓ : Loc Cert.UpSbDwLastIdeal.nD Cert.UpSbDwLastIdeal.τ Cert.UpSbDwLastIdeal.sig) → Buf (Elt Ideal) ℓ) (g : Dev Cert.UpSbDwLastIdeal.nD → PrngReg), Pre_UpSbDwLastIdeal m →
    θ_run (Cert.UpSbDwLastIdeal.defs (F := Ideal)) (onTc (τ := Cert.UpSbDwLastIdeal.τ) (Cert.UpSbDwLastIdeal.main (F := Ideal))) ⟨m, fun _ => 0, g⟩ (fun r => (∀ c : Dev Cert.UpSbDwLastIdeal.nD,
      r.2.mem ((c.tc : Thread Cert.UpSbDwLastIdeal.nD Cert.UpSbDwLastIdeal.τ).loc Cert.UpSbDwLastIdeal.main_arg0) = m ((c.tc : Thread Cert.UpSbDwLastIdeal.nD Cert.UpSbDwLastIdeal.τ).loc Cert.UpSbDwLastIdeal.main_arg0)
      ∧ r.2.mem ((c.tc : Thread Cert.UpSbDwLastIdeal.nD Cert.UpSbDwLastIdeal.τ).loc Cert.UpSbDwLastIdeal.main_arg1) = m ((c.tc : Thread Cert.UpSbDwLastIdeal.nD Cert.UpSbDwLastIdeal.τ).loc Cert.UpSbDwLastIdeal.main_arg1)
      ∧ r.2.mem ((c.tc : Thread Cert.UpSbDwLastIdeal.nD Cert.UpSbDwLastIdeal.τ).loc Cert.UpSbDwLastIdeal.main_arg2) = m ((c.tc : Thread Cert.UpSbDwLastIdeal.nD Cert.UpSbDwLastIdeal.τ).loc Cert.UpSbDwLastIdeal.main_arg2))
      ∧ r.2.sem = fun _ => 0)

def quiescent_UpSbDwLastRefIdeal [hUpSbDwLastRefIdeal : Cert.UpSbDwLastRefIdeal.Facts] : Prop :=
  ∀ (m : (ℓ : Loc Cert.UpSbDwLastRefIdeal.nD Cert.UpSbDwLastRefIdeal.τ Cert.UpSbDwLastRefIdeal.sig) → Buf (Elt Ideal) ℓ) (g : Dev Cert.UpSbDwLastRefIdeal.nD → PrngReg), Pre_UpSbDwLastRefIdeal m →
    θ_run (Cert.UpSbDwLastRefIdeal.defs (F := Ideal)) (onTc (τ := Cert.UpSbDwLastRefIdeal.τ) (Cert.UpSbDwLastRefIdeal.main (F := Ideal))) ⟨m, fun _ => 0, g⟩ (fun r => (∀ c : Dev Cert.UpSbDwLastRefIdeal.nD,
      r.2.mem ((c.tc : Thread Cert.UpSbDwLastRefIdeal.nD Cert.UpSbDwLastRefIdeal.τ).loc Cert.UpSbDwLastRefIdeal.main_arg0) = m ((c.tc : Thread Cert.UpSbDwLastRefIdeal.nD Cert.UpSbDwLastRefIdeal.τ).loc Cert.UpSbDwLastRefIdeal.main_arg0)
      ∧ r.2.mem ((c.tc : Thread Cert.UpSbDwLastRefIdeal.nD Cert.UpSbDwLastRefIdeal.τ).loc Cert.UpSbDwLastRefIdeal.main_arg1) = m ((c.tc : Thread Cert.UpSbDwLastRefIdeal.nD Cert.UpSbDwLastRefIdeal.τ).loc Cert.UpSbDwLastRefIdeal.main_arg1)
      ∧ r.2.mem ((c.tc : Thread Cert.UpSbDwLastRefIdeal.nD Cert.UpSbDwLastRefIdeal.τ).loc Cert.UpSbDwLastRefIdeal.main_arg2) = m ((c.tc : Thread Cert.UpSbDwLastRefIdeal.nD Cert.UpSbDwLastRefIdeal.τ).loc Cert.UpSbDwLastRefIdeal.main_arg2))
      ∧ r.2.sem = fun _ => 0)

def quiescent_UpDilDw [hUpDilDw : Cert.UpDilDw.Facts] : Prop :=
  ∀ (m : (ℓ : Loc Cert.UpDilDw.nD Cert.UpDilDw.τ Cert.UpDilDw.sig) → Buf (Elt Bits) ℓ) (g : Dev Cert.UpDilDw.nD → PrngReg), Pre_UpDilDw m →
    θ_run (Cert.UpDilDw.defs (F := Bits)) (onTc (τ := Cert.UpDilDw.τ) (Cert.UpDilDw.main (F := Bits))) ⟨m, fun _ => 0, g⟩ (fun r => (∀ c : Dev Cert.UpDilDw.nD,
      r.2.mem ((c.tc : Thread Cert.UpDilDw.nD Cert.UpDilDw.τ).loc Cert.UpDilDw.main_arg0) = m ((c.tc : Thread Cert.UpDilDw.nD Cert.UpDilDw.τ).loc Cert.UpDilDw.main_arg0)
      ∧ r.2.mem ((c.tc : Thread Cert.UpDilDw.nD Cert.UpDilDw.τ).loc Cert.UpDilDw.main_arg1) = m ((c.tc : Thread Cert.UpDilDw.nD Cert.UpDilDw.τ).loc Cert.UpDilDw.main_arg1)
      ∧ r.2.mem ((c.tc : Thread Cert.UpDilDw.nD Cert.UpDilDw.τ).loc Cert.UpDilDw.main_arg2) = m ((c.tc : Thread Cert.UpDilDw.nD Cert.UpDilDw.τ).loc Cert.UpDilDw.main_arg2))
      ∧ r.2.sem = fun _ => 0)

def quiescent_UpDilDwIdeal [hUpDilDwIdeal : Cert.UpDilDwIdeal.Facts] : Prop :=
  ∀ (m : (ℓ : Loc Cert.UpDilDwIdeal.nD Cert.UpDilDwIdeal.τ Cert.UpDilDwIdeal.sig) → Buf (Elt Ideal) ℓ) (g : Dev Cert.UpDilDwIdeal.nD → PrngReg), Pre_UpDilDwIdeal m →
    θ_run (Cert.UpDilDwIdeal.defs (F := Ideal)) (onTc (τ := Cert.UpDilDwIdeal.τ) (Cert.UpDilDwIdeal.main (F := Ideal))) ⟨m, fun _ => 0, g⟩ (fun r => (∀ c : Dev Cert.UpDilDwIdeal.nD,
      r.2.mem ((c.tc : Thread Cert.UpDilDwIdeal.nD Cert.UpDilDwIdeal.τ).loc Cert.UpDilDwIdeal.main_arg0) = m ((c.tc : Thread Cert.UpDilDwIdeal.nD Cert.UpDilDwIdeal.τ).loc Cert.UpDilDwIdeal.main_arg0)
      ∧ r.2.mem ((c.tc : Thread Cert.UpDilDwIdeal.nD Cert.UpDilDwIdeal.τ).loc Cert.UpDilDwIdeal.main_arg1) = m ((c.tc : Thread Cert.UpDilDwIdeal.nD Cert.UpDilDwIdeal.τ).loc Cert.UpDilDwIdeal.main_arg1)
      ∧ r.2.mem ((c.tc : Thread Cert.UpDilDwIdeal.nD Cert.UpDilDwIdeal.τ).loc Cert.UpDilDwIdeal.main_arg2) = m ((c.tc : Thread Cert.UpDilDwIdeal.nD Cert.UpDilDwIdeal.τ).loc Cert.UpDilDwIdeal.main_arg2))
      ∧ r.2.sem = fun _ => 0)

def quiescent_UpDilDwRefIdeal [hUpDilDwRefIdeal : Cert.UpDilDwRefIdeal.Facts] : Prop :=
  ∀ (m : (ℓ : Loc Cert.UpDilDwRefIdeal.nD Cert.UpDilDwRefIdeal.τ Cert.UpDilDwRefIdeal.sig) → Buf (Elt Ideal) ℓ) (g : Dev Cert.UpDilDwRefIdeal.nD → PrngReg), Pre_UpDilDwRefIdeal m →
    θ_run (Cert.UpDilDwRefIdeal.defs (F := Ideal)) (onTc (τ := Cert.UpDilDwRefIdeal.τ) (Cert.UpDilDwRefIdeal.main (F := Ideal))) ⟨m, fun _ => 0, g⟩ (fun r => (∀ c : Dev Cert.UpDilDwRefIdeal.nD,
      r.2.mem ((c.tc : Thread Cert.UpDilDwRefIdeal.nD Cert.UpDilDwRefIdeal.τ).loc Cert.UpDilDwRefIdeal.main_arg0) = m ((c.tc : Thread Cert.UpDilDwRefIdeal.nD Cert.UpDilDwRefIdeal.τ).loc Cert.UpDilDwRefIdeal.main_arg0)
      ∧ r.2.mem ((c.tc : Thread Cert.UpDilDwRefIdeal.nD Cert.UpDilDwRefIdeal.τ).loc Cert.UpDilDwRefIdeal.main_arg1) = m ((c.tc : Thread Cert.UpDilDwRefIdeal.nD Cert.UpDilDwRefIdeal.τ).loc Cert.UpDilDwRefIdeal.main_arg1)
      ∧ r.2.mem ((c.tc : Thread Cert.UpDilDwRefIdeal.nD Cert.UpDilDwRefIdeal.τ).loc Cert.UpDilDwRefIdeal.main_arg2) = m ((c.tc : Thread Cert.UpDilDwRefIdeal.nD Cert.UpDilDwRefIdeal.τ).loc Cert.UpDilDwRefIdeal.main_arg2))
      ∧ r.2.sem = fun _ => 0)

def quiescent_UpDilDwLast [hUpDilDwLast : Cert.UpDilDwLast.Facts] : Prop :=
  ∀ (m : (ℓ : Loc Cert.UpDilDwLast.nD Cert.UpDilDwLast.τ Cert.UpDilDwLast.sig) → Buf (Elt Bits) ℓ) (g : Dev Cert.UpDilDwLast.nD → PrngReg), Pre_UpDilDwLast m →
    θ_run (Cert.UpDilDwLast.defs (F := Bits)) (onTc (τ := Cert.UpDilDwLast.τ) (Cert.UpDilDwLast.main (F := Bits))) ⟨m, fun _ => 0, g⟩ (fun r => (∀ c : Dev Cert.UpDilDwLast.nD,
      r.2.mem ((c.tc : Thread Cert.UpDilDwLast.nD Cert.UpDilDwLast.τ).loc Cert.UpDilDwLast.main_arg0) = m ((c.tc : Thread Cert.UpDilDwLast.nD Cert.UpDilDwLast.τ).loc Cert.UpDilDwLast.main_arg0)
      ∧ r.2.mem ((c.tc : Thread Cert.UpDilDwLast.nD Cert.UpDilDwLast.τ).loc Cert.UpDilDwLast.main_arg1) = m ((c.tc : Thread Cert.UpDilDwLast.nD Cert.UpDilDwLast.τ).loc Cert.UpDilDwLast.main_arg1)
      ∧ r.2.mem ((c.tc : Thread Cert.UpDilDwLast.nD Cert.UpDilDwLast.τ).loc Cert.UpDilDwLast.main_arg2) = m ((c.tc : Thread Cert.UpDilDwLast.nD Cert.UpDilDwLast.τ).loc Cert.UpDilDwLast.main_arg2))
      ∧ r.2.sem = fun _ => 0)

def quiescent_UpDilDwLastIdeal [hUpDilDwLastIdeal : Cert.UpDilDwLastIdeal.Facts] : Prop :=
  ∀ (m : (ℓ : Loc Cert.UpDilDwLastIdeal.nD Cert.UpDilDwLastIdeal.τ Cert.UpDilDwLastIdeal.sig) → Buf (Elt Ideal) ℓ) (g : Dev Cert.UpDilDwLastIdeal.nD → PrngReg), Pre_UpDilDwLastIdeal m →
    θ_run (Cert.UpDilDwLastIdeal.defs (F := Ideal)) (onTc (τ := Cert.UpDilDwLastIdeal.τ) (Cert.UpDilDwLastIdeal.main (F := Ideal))) ⟨m, fun _ => 0, g⟩ (fun r => (∀ c : Dev Cert.UpDilDwLastIdeal.nD,
      r.2.mem ((c.tc : Thread Cert.UpDilDwLastIdeal.nD Cert.UpDilDwLastIdeal.τ).loc Cert.UpDilDwLastIdeal.main_arg0) = m ((c.tc : Thread Cert.UpDilDwLastIdeal.nD Cert.UpDilDwLastIdeal.τ).loc Cert.UpDilDwLastIdeal.main_arg0)
      ∧ r.2.mem ((c.tc : Thread Cert.UpDilDwLastIdeal.nD Cert.UpDilDwLastIdeal.τ).loc Cert.UpDilDwLastIdeal.main_arg1) = m ((c.tc : Thread Cert.UpDilDwLastIdeal.nD Cert.UpDilDwLastIdeal.τ).loc Cert.UpDilDwLastIdeal.main_arg1)
      ∧ r.2.mem ((c.tc : Thread Cert.UpDilDwLastIdeal.nD Cert.UpDilDwLastIdeal.τ).loc Cert.UpDilDwLastIdeal.main_arg2) = m ((c.tc : Thread Cert.UpDilDwLastIdeal.nD Cert.UpDilDwLastIdeal.τ).loc Cert.UpDilDwLastIdeal.main_arg2))
      ∧ r.2.sem = fun _ => 0)

def quiescent_UpDilDwLastRefIdeal [hUpDilDwLastRefIdeal : Cert.UpDilDwLastRefIdeal.Facts] : Prop :=
  ∀ (m : (ℓ : Loc Cert.UpDilDwLastRefIdeal.nD Cert.UpDilDwLastRefIdeal.τ Cert.UpDilDwLastRefIdeal.sig) → Buf (Elt Ideal) ℓ) (g : Dev Cert.UpDilDwLastRefIdeal.nD → PrngReg), Pre_UpDilDwLastRefIdeal m →
    θ_run (Cert.UpDilDwLastRefIdeal.defs (F := Ideal)) (onTc (τ := Cert.UpDilDwLastRefIdeal.τ) (Cert.UpDilDwLastRefIdeal.main (F := Ideal))) ⟨m, fun _ => 0, g⟩ (fun r => (∀ c : Dev Cert.UpDilDwLastRefIdeal.nD,
      r.2.mem ((c.tc : Thread Cert.UpDilDwLastRefIdeal.nD Cert.UpDilDwLastRefIdeal.τ).loc Cert.UpDilDwLastRefIdeal.main_arg0) = m ((c.tc : Thread Cert.UpDilDwLastRefIdeal.nD Cert.UpDilDwLastRefIdeal.τ).loc Cert.UpDilDwLastRefIdeal.main_arg0)
      ∧ r.2.mem ((c.tc : Thread Cert.UpDilDwLastRefIdeal.nD Cert.UpDilDwLastRefIdeal.τ).loc Cert.UpDilDwLastRefIdeal.main_arg1) = m ((c.tc : Thread Cert.UpDilDwLastRefIdeal.nD Cert.UpDilDwLastRefIdeal.τ).loc Cert.UpDilDwLastRefIdeal.main_arg1)
      ∧ r.2.mem ((c.tc : Thread Cert.UpDilDwLastRefIdeal.nD Cert.UpDilDwLastRefIdeal.τ).loc Cert.UpDilDwLastRefIdeal.main_arg2) = m ((c.tc : Thread Cert.UpDilDwLastRefIdeal.nD Cert.UpDilDwLastRefIdeal.τ).loc Cert.UpDilDwLastRefIdeal.main_arg2))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpRefIdeal [hUpRefIdeal : Cert.UpRefIdeal.Facts] : Prop :=
  ∀ (m : (ℓ : Loc Cert.UpRefIdeal.nD Cert.UpRefIdeal.τ Cert.UpRefIdeal.sig) → Buf (Elt Ideal) ℓ) (g : Dev Cert.UpRefIdeal.nD → PrngReg), Pre_UpRefIdeal m →
    θ_run (Cert.UpRefIdeal.defs (F := Ideal)) (onTc (τ := Cert.UpRefIdeal.τ) (Cert.UpRefIdeal.main (F := Ideal))) ⟨m, fun _ => 0, g⟩ (fun r => (∀ c : Dev Cert.UpRefIdeal.nD,
      r.2.mem ((c.tc : Thread Cert.UpRefIdeal.nD Cert.UpRefIdeal.τ).loc Cert.UpRefIdeal.main_arg0) = m ((c.tc : Thread Cert.UpRefIdeal.nD Cert.UpRefIdeal.τ).loc Cert.UpRefIdeal.main_arg0)
      ∧ r.2.mem ((c.tc : Thread Cert.UpRefIdeal.nD Cert.UpRefIdeal.τ).loc Cert.UpRefIdeal.main_arg1) = m ((c.tc : Thread Cert.UpRefIdeal.nD Cert.UpRefIdeal.τ).loc Cert.UpRefIdeal.main_arg1))
      ∧ r.2.sem = fun _ => 0)

def quiescent_UpDil [hUpDil : Cert.UpDil.Facts] : Prop :=
  ∀ (m : (ℓ : Loc Cert.UpDil.nD Cert.UpDil.τ Cert.UpDil.sig) → Buf (Elt Bits) ℓ) (g : Dev Cert.UpDil.nD → PrngReg), Pre_UpDil m →
    θ_run (Cert.UpDil.defs (F := Bits)) (onTc (τ := Cert.UpDil.τ) (Cert.UpDil.main (F := Bits))) ⟨m, fun _ => 0, g⟩ (fun r => (∀ c : Dev Cert.UpDil.nD,
      r.2.mem ((c.tc : Thread Cert.UpDil.nD Cert.UpDil.τ).loc Cert.UpDil.main_arg0) = m ((c.tc : Thread Cert.UpDil.nD Cert.UpDil.τ).loc Cert.UpDil.main_arg0)
      ∧ r.2.mem ((c.tc : Thread Cert.UpDil.nD Cert.UpDil.τ).loc Cert.UpDil.main_arg1) = m ((c.tc : Thread Cert.UpDil.nD Cert.UpDil.τ).loc Cert.UpDil.main_arg1))
      ∧ r.2.sem = fun _ => 0)

def quiescent_UpDilIdeal [hUpDilIdeal : Cert.UpDilIdeal.Facts] : Prop :=
  ∀ (m : (ℓ : Loc Cert.UpDilIdeal.nD Cert.UpDilIdeal.τ Cert.UpDilIdeal.sig) → Buf (Elt Ideal) ℓ) (g : Dev Cert.UpDilIdeal.nD → PrngReg), Pre_UpDilIdeal m →
    θ_run (Cert.UpDilIdeal.defs (F := Ideal)) (onTc (τ := Cert.UpDilIdeal.τ) (Cert.UpDilIdeal.main (F := Ideal))) ⟨m, fun _ => 0, g⟩ (fun r => (∀ c : Dev Cert.UpDilIdeal.nD,
      r.2.mem ((c.tc : Thread Cert.UpDilIdeal.nD Cert.UpDilIdeal.τ).loc Cert.UpDilIdeal.main_arg0) = m ((c.tc : Thread Cert.UpDilIdeal.nD Cert.UpDilIdeal.τ).loc Cert.UpDilIdeal.main_arg0)
      ∧ r.2.mem ((c.tc : Thread Cert.UpDilIdeal.nD Cert.UpDilIdeal.τ).loc Cert.UpDilIdeal.main_arg1) = m ((c.tc : Thread Cert.UpDilIdeal.nD Cert.UpDilIdeal.τ).loc Cert.UpDilIdeal.main_arg1))
      ∧ r.2.sem = fun _ => 0)

def quiescent_UpDilRefIdeal [hUpDilRefIdeal : Cert.UpDilRefIdeal.Facts] : Prop :=
  ∀ (m : (ℓ : Loc Cert.UpDilRefIdeal.nD Cert.UpDilRefIdeal.τ Cert.UpDilRefIdeal.sig) → Buf (Elt Ideal) ℓ) (g : Dev Cert.UpDilRefIdeal.nD → PrngReg), Pre_UpDilRefIdeal m →
    θ_run (Cert.UpDilRefIdeal.defs (F := Ideal)) (onTc (τ := Cert.UpDilRefIdeal.τ) (Cert.UpDilRefIdeal.main (F := Ideal))) ⟨m, fun _ => 0, g⟩ (fun r => (∀ c : Dev Cert.UpDilRefIdeal.nD,
      r.2.mem ((c.tc : Thread Cert.UpDilRefIdeal.nD Cert.UpDilRefIdeal.τ).loc Cert.UpDilRefIdeal.main_arg0) = m ((c.tc : Thread Cert.UpDilRefIdeal.nD Cert.UpDilRefIdeal.τ).loc Cert.UpDilRefIdeal.main_arg0)
      ∧ r.2.mem ((c.tc : Thread Cert.UpDilRefIdeal.nD Cert.UpDilRefIdeal.τ).loc Cert.UpDilRefIdeal.main_arg1) = m ((c.tc : Thread Cert.UpDilRefIdeal.nD Cert.UpDilRefIdeal.τ).loc Cert.UpDilRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2))
      ∧ r.2.sem = fun _ => 0)

def quiescent_SbAttn [hSbAttn : Cert.SbAttn.Facts] : Prop :=
  ∀ (m : (ℓ : Loc Cert.SbAttn.nD Cert.SbAttn.τ Cert.SbAttn.sig) → Buf (Elt Bits) ℓ) (g : Dev Cert.SbAttn.nD → PrngReg), Pre_SbAttn m →
    θ_run (Cert.SbAttn.defs (F := Bits)) (onTc (τ := Cert.SbAttn.τ) (Cert.SbAttn.main (F := Bits))) ⟨m, fun _ => 0, g⟩ (fun r => (∀ c : Dev Cert.SbAttn.nD,
      r.2.mem ((c.tc : Thread Cert.SbAttn.nD Cert.SbAttn.τ).loc Cert.SbAttn.main_arg0) = m ((c.tc : Thread Cert.SbAttn.nD Cert.SbAttn.τ).loc Cert.SbAttn.main_arg0))
      ∧ r.2.sem = fun _ => 0)

def quiescent_SbAttnIdeal [hSbAttnIdeal : Cert.SbAttnIdeal.Facts] : Prop :=
  ∀ (m : (ℓ : Loc Cert.SbAttnIdeal.nD Cert.SbAttnIdeal.τ Cert.SbAttnIdeal.sig) → Buf (Elt Ideal) ℓ) (g : Dev Cert.SbAttnIdeal.nD → PrngReg), Pre_SbAttnIdeal m →
    θ_run (Cert.SbAttnIdeal.defs (F := Ideal)) (onTc (τ := Cert.SbAttnIdeal.τ) (Cert.SbAttnIdeal.main (F := Ideal))) ⟨m, fun _ => 0, g⟩ (fun r => (∀ c : Dev Cert.SbAttnIdeal.nD,
      r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0))
      ∧ r.2.sem = fun _ => 0)

def quiescent_SbAttnRefIdeal [hSbAttnRefIdeal : Cert.SbAttnRefIdeal.Facts] : Prop :=
  ∀ (m : (ℓ : Loc Cert.SbAttnRefIdeal.nD Cert.SbAttnRefIdeal.τ Cert.SbAttnRefIdeal.sig) → Buf (Elt Ideal) ℓ) (g : Dev Cert.SbAttnRefIdeal.nD → PrngReg), Pre_SbAttnRefIdeal m →
    θ_run (Cert.SbAttnRefIdeal.defs (F := Ideal)) (onTc (τ := Cert.SbAttnRefIdeal.τ) (Cert.SbAttnRefIdeal.main (F := Ideal))) ⟨m, fun _ => 0, g⟩ (fun r => (∀ c : Dev Cert.SbAttnRefIdeal.nD,
      r.2.mem ((c.tc : Thread Cert.SbAttnRefIdeal.nD Cert.SbAttnRefIdeal.τ).loc Cert.SbAttnRefIdeal.main_arg0) = m ((c.tc : Thread Cert.SbAttnRefIdeal.nD Cert.SbAttnRefIdeal.τ).loc Cert.SbAttnRefIdeal.main_arg0))
      ∧ r.2.sem = fun _ => 0)

def quiescent_FoxAttn [hFoxAttn : Cert.FoxAttn.Facts] : Prop :=
  ∀ (m : (ℓ : Loc Cert.FoxAttn.nD Cert.FoxAttn.τ Cert.FoxAttn.sig) → Buf (Elt Bits) ℓ) (g : Dev Cert.FoxAttn.nD → PrngReg), Pre_FoxAttn m →
    θ_run (Cert.FoxAttn.defs (F := Bits)) (onTc (τ := Cert.FoxAttn.τ) (Cert.FoxAttn.main (F := Bits))) ⟨m, fun _ => 0, g⟩ (fun r => (∀ c : Dev Cert.FoxAttn.nD,
      r.2.mem ((c.tc : Thread Cert.FoxAttn.nD Cert.FoxAttn.τ).loc Cert.FoxAttn.main_arg0) = m ((c.tc : Thread Cert.FoxAttn.nD Cert.FoxAttn.τ).loc Cert.FoxAttn.main_arg0)
      ∧ r.2.mem ((c.tc : Thread Cert.FoxAttn.nD Cert.FoxAttn.τ).loc Cert.FoxAttn.main_arg1) = m ((c.tc : Thread Cert.FoxAttn.nD Cert.FoxAttn.τ).loc Cert.FoxAttn.main_arg1)
      ∧ r.2.mem ((c.tc : Thread Cert.FoxAttn.nD Cert.FoxAttn.τ).loc Cert.FoxAttn.main_arg2) = m ((c.tc : Thread Cert.FoxAttn.nD Cert.FoxAttn.τ).loc Cert.FoxAttn.main_arg2)
      ∧ r.2.mem ((c.tc : Thread Cert.FoxAttn.nD Cert.FoxAttn.τ).loc Cert.FoxAttn.main_arg3) = m ((c.tc : Thread Cert.FoxAttn.nD Cert.FoxAttn.τ).loc Cert.FoxAttn.main_arg3))
      ∧ r.2.sem = fun _ => 0)

def quiescent_FoxAttnIdeal [hFoxAttnIdeal : Cert.FoxAttnIdeal.Facts] : Prop :=
  ∀ (m : (ℓ : Loc Cert.FoxAttnIdeal.nD Cert.FoxAttnIdeal.τ Cert.FoxAttnIdeal.sig) → Buf (Elt Ideal) ℓ) (g : Dev Cert.FoxAttnIdeal.nD → PrngReg), Pre_FoxAttnIdeal m →
    θ_run (Cert.FoxAttnIdeal.defs (F := Ideal)) (onTc (τ := Cert.FoxAttnIdeal.τ) (Cert.FoxAttnIdeal.main (F := Ideal))) ⟨m, fun _ => 0, g⟩ (fun r => (∀ c : Dev Cert.FoxAttnIdeal.nD,
      r.2.mem ((c.tc : Thread Cert.FoxAttnIdeal.nD Cert.FoxAttnIdeal.τ).loc Cert.FoxAttnIdeal.main_arg0) = m ((c.tc : Thread Cert.FoxAttnIdeal.nD Cert.FoxAttnIdeal.τ).loc Cert.FoxAttnIdeal.main_arg0)
      ∧ r.2.mem ((c.tc : Thread Cert.FoxAttnIdeal.nD Cert.FoxAttnIdeal.τ).loc Cert.FoxAttnIdeal.main_arg1) = m ((c.tc : Thread Cert.FoxAttnIdeal.nD Cert.FoxAttnIdeal.τ).loc Cert.FoxAttnIdeal.main_arg1)
      ∧ r.2.mem ((c.tc : Thread Cert.FoxAttnIdeal.nD Cert.FoxAttnIdeal.τ).loc Cert.FoxAttnIdeal.main_arg2) = m ((c.tc : Thread Cert.FoxAttnIdeal.nD Cert.FoxAttnIdeal.τ).loc Cert.FoxAttnIdeal.main_arg2)
      ∧ r.2.mem ((c.tc : Thread Cert.FoxAttnIdeal.nD Cert.FoxAttnIdeal.τ).loc Cert.FoxAttnIdeal.main_arg3) = m ((c.tc : Thread Cert.FoxAttnIdeal.nD Cert.FoxAttnIdeal.τ).loc Cert.FoxAttnIdeal.main_arg3))
      ∧ r.2.sem = fun _ => 0)

def quiescent_FoxAttnIdeal_pre_finite_scores [hFoxAttnIdeal : Cert.FoxAttnIdeal.Facts] [hPre_finite_scores : Cert.Pre_finite_scores.Facts] : Prop :=
  ∀ (m : (ℓ : Loc Cert.FoxAttnIdeal.nD Cert.FoxAttnIdeal.τ Cert.FoxAttnIdeal.sig) → Buf (Elt Ideal) ℓ) (g : Dev Cert.FoxAttnIdeal.nD → PrngReg), Pre_FoxAttnIdeal_finite_scores m →
    θ_run (Cert.FoxAttnIdeal.defs (F := Ideal)) (onTc (τ := Cert.FoxAttnIdeal.τ) (Cert.FoxAttnIdeal.main (F := Ideal))) ⟨m, fun _ => 0, g⟩ (fun r => (∀ c : Dev Cert.FoxAttnIdeal.nD,
      r.2.mem ((c.tc : Thread Cert.FoxAttnIdeal.nD Cert.FoxAttnIdeal.τ).loc Cert.FoxAttnIdeal.main_arg0) = m ((c.tc : Thread Cert.FoxAttnIdeal.nD Cert.FoxAttnIdeal.τ).loc Cert.FoxAttnIdeal.main_arg0)
      ∧ r.2.mem ((c.tc : Thread Cert.FoxAttnIdeal.nD Cert.FoxAttnIdeal.τ).loc Cert.FoxAttnIdeal.main_arg1) = m ((c.tc : Thread Cert.FoxAttnIdeal.nD Cert.FoxAttnIdeal.τ).loc Cert.FoxAttnIdeal.main_arg1)
      ∧ r.2.mem ((c.tc : Thread Cert.FoxAttnIdeal.nD Cert.FoxAttnIdeal.τ).loc Cert.FoxAttnIdeal.main_arg2) = m ((c.tc : Thread Cert.FoxAttnIdeal.nD Cert.FoxAttnIdeal.τ).loc Cert.FoxAttnIdeal.main_arg2)
      ∧ r.2.mem ((c.tc : Thread Cert.FoxAttnIdeal.nD Cert.FoxAttnIdeal.τ).loc Cert.FoxAttnIdeal.main_arg3) = m ((c.tc : Thread Cert.FoxAttnIdeal.nD Cert.FoxAttnIdeal.τ).loc Cert.FoxAttnIdeal.main_arg3))
      ∧ r.2.sem = fun _ => 0)

def quiescent_FoxAttnRefIdeal [hFoxAttnRefIdeal : Cert.FoxAttnRefIdeal.Facts] : Prop :=
  ∀ (m : (ℓ : Loc Cert.FoxAttnRefIdeal.nD Cert.FoxAttnRefIdeal.τ Cert.FoxAttnRefIdeal.sig) → Buf (Elt Ideal) ℓ) (g : Dev Cert.FoxAttnRefIdeal.nD → PrngReg), Pre_FoxAttnRefIdeal m →
    θ_run (Cert.FoxAttnRefIdeal.defs (F := Ideal)) (onTc (τ := Cert.FoxAttnRefIdeal.τ) (Cert.FoxAttnRefIdeal.main (F := Ideal))) ⟨m, fun _ => 0, g⟩ (fun r => (∀ c : Dev Cert.FoxAttnRefIdeal.nD,
      r.2.mem ((c.tc : Thread Cert.FoxAttnRefIdeal.nD Cert.FoxAttnRefIdeal.τ).loc Cert.FoxAttnRefIdeal.main_arg0) = m ((c.tc : Thread Cert.FoxAttnRefIdeal.nD Cert.FoxAttnRefIdeal.τ).loc Cert.FoxAttnRefIdeal.main_arg0)
      ∧ r.2.mem ((c.tc : Thread Cert.FoxAttnRefIdeal.nD Cert.FoxAttnRefIdeal.τ).loc Cert.FoxAttnRefIdeal.main_arg1) = m ((c.tc : Thread Cert.FoxAttnRefIdeal.nD Cert.FoxAttnRefIdeal.τ).loc Cert.FoxAttnRefIdeal.main_arg1)
      ∧ r.2.mem ((c.tc : Thread Cert.FoxAttnRefIdeal.nD Cert.FoxAttnRefIdeal.τ).loc Cert.FoxAttnRefIdeal.main_arg2) = m ((c.tc : Thread Cert.FoxAttnRefIdeal.nD Cert.FoxAttnRefIdeal.τ).loc Cert.FoxAttnRefIdeal.main_arg2)
      ∧ r.2.mem ((c.tc : Thread Cert.FoxAttnRefIdeal.nD Cert.FoxAttnRefIdeal.τ).loc Cert.FoxAttnRefIdeal.main_arg3) = m ((c.tc : Thread Cert.FoxAttnRefIdeal.nD Cert.FoxAttnRefIdeal.τ).loc Cert.FoxAttnRefIdeal.main_arg3))
      ∧ r.2.sem = fun _ => 0)

def quiescent_FoxAttnRefIdeal_pre_finite_scores [hFoxAttnRefIdeal : Cert.FoxAttnRefIdeal.Facts] [hPre_finite_scores : Cert.Pre_finite_scores.Facts] : Prop :=
  ∀ (m : (ℓ : Loc Cert.FoxAttnRefIdeal.nD Cert.FoxAttnRefIdeal.τ Cert.FoxAttnRefIdeal.sig) → Buf (Elt Ideal) ℓ) (g : Dev Cert.FoxAttnRefIdeal.nD → PrngReg), Pre_FoxAttnRefIdeal_finite_scores m →
    θ_run (Cert.FoxAttnRefIdeal.defs (F := Ideal)) (onTc (τ := Cert.FoxAttnRefIdeal.τ) (Cert.FoxAttnRefIdeal.main (F := Ideal))) ⟨m, fun _ => 0, g⟩ (fun r => (∀ c : Dev Cert.FoxAttnRefIdeal.nD,
      r.2.mem ((c.tc : Thread Cert.FoxAttnRefIdeal.nD Cert.FoxAttnRefIdeal.τ).loc Cert.FoxAttnRefIdeal.main_arg0) = m ((c.tc : Thread Cert.FoxAttnRefIdeal.nD Cert.FoxAttnRefIdeal.τ).loc Cert.FoxAttnRefIdeal.main_arg0)
      ∧ r.2.mem ((c.tc : Thread Cert.FoxAttnRefIdeal.nD Cert.FoxAttnRefIdeal.τ).loc Cert.FoxAttnRefIdeal.main_arg1) = m ((c.tc : Thread Cert.FoxAttnRefIdeal.nD Cert.FoxAttnRefIdeal.τ).loc Cert.FoxAttnRefIdeal.main_arg1)
      ∧ r.2.mem ((c.tc : Thread Cert.FoxAttnRefIdeal.nD Cert.FoxAttnRefIdeal.τ).loc Cert.FoxAttnRefIdeal.main_arg2) = m ((c.tc : Thread Cert.FoxAttnRefIdeal.nD Cert.FoxAttnRefIdeal.τ).loc Cert.FoxAttnRefIdeal.main_arg2)
      ∧ r.2.mem ((c.tc : Thread Cert.FoxAttnRefIdeal.nD Cert.FoxAttnRefIdeal.τ).loc Cert.FoxAttnRefIdeal.main_arg3) = m ((c.tc : Thread Cert.FoxAttnRefIdeal.nD Cert.FoxAttnRefIdeal.τ).loc Cert.FoxAttnRefIdeal.main_arg3))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v47) = v1 c
          ∧ r.2.mem ((c.tc : Thread Cert.ReferenceIdeal.nD Cert.ReferenceIdeal.τ).loc Cert.ReferenceIdeal.main_v49) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_MlpOutDx_MlpOutDxIdeal : Prop :=
  True

def algebraic_MlpOutDxIdeal_MlpOutDxRefIdeal [hMlpOutDxIdeal : Cert.MlpOutDxIdeal.Facts] [hMlpOutDxRefIdeal : Cert.MlpOutDxRefIdeal.Facts] : Prop :=
  ∀ (m : (ℓ : Loc Cert.MlpOutDxIdeal.nD Cert.MlpOutDxIdeal.τ Cert.MlpOutDxIdeal.sig) → Buf (Elt Ideal) ℓ) (g : Dev Cert.MlpOutDxIdeal.nD → PrngReg)
    (m' : (ℓ : Loc Cert.MlpOutDxRefIdeal.nD Cert.MlpOutDxRefIdeal.τ Cert.MlpOutDxRefIdeal.sig) → Buf (Elt Ideal) ℓ) (g' : Dev Cert.MlpOutDxRefIdeal.nD → PrngReg), Pre_MlpOutDxIdeal m →
    (∀ c : Dev Cert.MlpOutDxIdeal.nD,
      m' ((c.tc : Thread Cert.MlpOutDxRefIdeal.nD Cert.MlpOutDxRefIdeal.τ).loc Cert.MlpOutDxRefIdeal.main_arg0) = m ((c.tc : Thread Cert.MlpOutDxIdeal.nD Cert.MlpOutDxIdeal.τ).loc Cert.MlpOutDxIdeal.main_arg0)
      ∧ m' ((c.tc : Thread Cert.MlpOutDxRefIdeal.nD Cert.MlpOutDxRefIdeal.τ).loc Cert.MlpOutDxRefIdeal.main_arg1) = m ((c.tc : Thread Cert.MlpOutDxIdeal.nD Cert.MlpOutDxIdeal.τ).loc Cert.MlpOutDxIdeal.main_arg1)
      ∧ m' ((c.tc : Thread Cert.MlpOutDxRefIdeal.nD Cert.MlpOutDxRefIdeal.τ).loc Cert.MlpOutDxRefIdeal.main_arg2) = m ((c.tc : Thread Cert.MlpOutDxIdeal.nD Cert.MlpOutDxIdeal.τ).loc Cert.MlpOutDxIdeal.main_arg2)) →
    ∃ (v0 : (c : Dev Cert.MlpOutDxIdeal.nD) → Buf (Elt Ideal) ((c.tc : Thread Cert.MlpOutDxIdeal.nD Cert.MlpOutDxIdeal.τ).loc Cert.MlpOutDxIdeal.main_v0)),
      θ_run (Cert.MlpOutDxIdeal.defs (F := Ideal)) (onTc (τ := Cert.MlpOutDxIdeal.τ) (Cert.MlpOutDxIdeal.main (F := Ideal))) ⟨m, fun _ => 0, g⟩ (fun r => ∀ c : Dev Cert.MlpOutDxIdeal.nD,
          r.2.mem ((c.tc : Thread Cert.MlpOutDxIdeal.nD Cert.MlpOutDxIdeal.τ).loc Cert.MlpOutDxIdeal.main_v0) = v0 c
          ∧ r.2.mem ((c.tc : Thread Cert.MlpOutDxIdeal.nD Cert.MlpOutDxIdeal.τ).loc Cert.MlpOutDxIdeal.main_arg0) = m ((c.tc : Thread Cert.MlpOutDxIdeal.nD Cert.MlpOutDxIdeal.τ).loc Cert.MlpOutDxIdeal.main_arg0)
          ∧ r.2.mem ((c.tc : Thread Cert.MlpOutDxIdeal.nD Cert.MlpOutDxIdeal.τ).loc Cert.MlpOutDxIdeal.main_arg1) = m ((c.tc : Thread Cert.MlpOutDxIdeal.nD Cert.MlpOutDxIdeal.τ).loc Cert.MlpOutDxIdeal.main_arg1)
          ∧ r.2.mem ((c.tc : Thread Cert.MlpOutDxIdeal.nD Cert.MlpOutDxIdeal.τ).loc Cert.MlpOutDxIdeal.main_arg2) = m ((c.tc : Thread Cert.MlpOutDxIdeal.nD Cert.MlpOutDxIdeal.τ).loc Cert.MlpOutDxIdeal.main_arg2))
      ∧ θ_run (Cert.MlpOutDxRefIdeal.defs (F := Ideal)) (onTc (τ := Cert.MlpOutDxRefIdeal.τ) (Cert.MlpOutDxRefIdeal.main (F := Ideal))) ⟨m', fun _ => 0, g'⟩ (fun r => ∀ c : Dev Cert.MlpOutDxRefIdeal.nD,
          r.2.mem ((c.tc : Thread Cert.MlpOutDxRefIdeal.nD Cert.MlpOutDxRefIdeal.τ).loc Cert.MlpOutDxRefIdeal.main_v13) = v0 c
          ∧ r.2.mem ((c.tc : Thread Cert.MlpOutDxRefIdeal.nD Cert.MlpOutDxRefIdeal.τ).loc Cert.MlpOutDxRefIdeal.main_arg0) = m' ((c.tc : Thread Cert.MlpOutDxRefIdeal.nD Cert.MlpOutDxRefIdeal.τ).loc Cert.MlpOutDxRefIdeal.main_arg0)
          ∧ r.2.mem ((c.tc : Thread Cert.MlpOutDxRefIdeal.nD Cert.MlpOutDxRefIdeal.τ).loc Cert.MlpOutDxRefIdeal.main_arg1) = m' ((c.tc : Thread Cert.MlpOutDxRefIdeal.nD Cert.MlpOutDxRefIdeal.τ).loc Cert.MlpOutDxRefIdeal.main_arg1)
          ∧ r.2.mem ((c.tc : Thread Cert.MlpOutDxRefIdeal.nD Cert.MlpOutDxRefIdeal.τ).loc Cert.MlpOutDxRefIdeal.main_arg2) = m' ((c.tc : Thread Cert.MlpOutDxRefIdeal.nD Cert.MlpOutDxRefIdeal.τ).loc Cert.MlpOutDxRefIdeal.main_arg2))

def preserves_ProjDx_ProjDxIdeal : Prop :=
  True

def algebraic_ProjDxIdeal_ProjDxRefIdeal [hProjDxIdeal : Cert.ProjDxIdeal.Facts] [hProjDxRefIdeal : Cert.ProjDxRefIdeal.Facts] : Prop :=
  ∀ (m : (ℓ : Loc Cert.ProjDxIdeal.nD Cert.ProjDxIdeal.τ Cert.ProjDxIdeal.sig) → Buf (Elt Ideal) ℓ) (g : Dev Cert.ProjDxIdeal.nD → PrngReg)
    (m' : (ℓ : Loc Cert.ProjDxRefIdeal.nD Cert.ProjDxRefIdeal.τ Cert.ProjDxRefIdeal.sig) → Buf (Elt Ideal) ℓ) (g' : Dev Cert.ProjDxRefIdeal.nD → PrngReg), Pre_ProjDxIdeal m →
    (∀ c : Dev Cert.ProjDxIdeal.nD,
      m' ((c.tc : Thread Cert.ProjDxRefIdeal.nD Cert.ProjDxRefIdeal.τ).loc Cert.ProjDxRefIdeal.main_arg0) = m ((c.tc : Thread Cert.ProjDxIdeal.nD Cert.ProjDxIdeal.τ).loc Cert.ProjDxIdeal.main_arg0)
      ∧ m' ((c.tc : Thread Cert.ProjDxRefIdeal.nD Cert.ProjDxRefIdeal.τ).loc Cert.ProjDxRefIdeal.main_arg1) = m ((c.tc : Thread Cert.ProjDxIdeal.nD Cert.ProjDxIdeal.τ).loc Cert.ProjDxIdeal.main_arg1)) →
    ∃ (v0 : (c : Dev Cert.ProjDxIdeal.nD) → Buf (Elt Ideal) ((c.tc : Thread Cert.ProjDxIdeal.nD Cert.ProjDxIdeal.τ).loc Cert.ProjDxIdeal.main_v0)),
      θ_run (Cert.ProjDxIdeal.defs (F := Ideal)) (onTc (τ := Cert.ProjDxIdeal.τ) (Cert.ProjDxIdeal.main (F := Ideal))) ⟨m, fun _ => 0, g⟩ (fun r => ∀ c : Dev Cert.ProjDxIdeal.nD,
          r.2.mem ((c.tc : Thread Cert.ProjDxIdeal.nD Cert.ProjDxIdeal.τ).loc Cert.ProjDxIdeal.main_v0) = v0 c
          ∧ r.2.mem ((c.tc : Thread Cert.ProjDxIdeal.nD Cert.ProjDxIdeal.τ).loc Cert.ProjDxIdeal.main_arg0) = m ((c.tc : Thread Cert.ProjDxIdeal.nD Cert.ProjDxIdeal.τ).loc Cert.ProjDxIdeal.main_arg0)
          ∧ r.2.mem ((c.tc : Thread Cert.ProjDxIdeal.nD Cert.ProjDxIdeal.τ).loc Cert.ProjDxIdeal.main_arg1) = m ((c.tc : Thread Cert.ProjDxIdeal.nD Cert.ProjDxIdeal.τ).loc Cert.ProjDxIdeal.main_arg1))
      ∧ θ_run (Cert.ProjDxRefIdeal.defs (F := Ideal)) (onTc (τ := Cert.ProjDxRefIdeal.τ) (Cert.ProjDxRefIdeal.main (F := Ideal))) ⟨m', fun _ => 0, g'⟩ (fun r => ∀ c : Dev Cert.ProjDxRefIdeal.nD,
          r.2.mem ((c.tc : Thread Cert.ProjDxRefIdeal.nD Cert.ProjDxRefIdeal.τ).loc Cert.ProjDxRefIdeal.main_v4) = v0 c
          ∧ r.2.mem ((c.tc : Thread Cert.ProjDxRefIdeal.nD Cert.ProjDxRefIdeal.τ).loc Cert.ProjDxRefIdeal.main_arg0) = m' ((c.tc : Thread Cert.ProjDxRefIdeal.nD Cert.ProjDxRefIdeal.τ).loc Cert.ProjDxRefIdeal.main_arg0)
          ∧ r.2.mem ((c.tc : Thread Cert.ProjDxRefIdeal.nD Cert.ProjDxRefIdeal.τ).loc Cert.ProjDxRefIdeal.main_arg1) = m' ((c.tc : Thread Cert.ProjDxRefIdeal.nD Cert.ProjDxRefIdeal.τ).loc Cert.ProjDxRefIdeal.main_arg1))

def preserves_MlpInDx_MlpInDxIdeal : Prop :=
  True

def algebraic_MlpInDxIdeal_MlpInDxRefIdeal [hMlpInDxIdeal : Cert.MlpInDxIdeal.Facts] [hMlpInDxRefIdeal : Cert.MlpInDxRefIdeal.Facts] : Prop :=
  ∀ (m : (ℓ : Loc Cert.MlpInDxIdeal.nD Cert.MlpInDxIdeal.τ Cert.MlpInDxIdeal.sig) → Buf (Elt Ideal) ℓ) (g : Dev Cert.MlpInDxIdeal.nD → PrngReg)
    (m' : (ℓ : Loc Cert.MlpInDxRefIdeal.nD Cert.MlpInDxRefIdeal.τ Cert.MlpInDxRefIdeal.sig) → Buf (Elt Ideal) ℓ) (g' : Dev Cert.MlpInDxRefIdeal.nD → PrngReg), Pre_MlpInDxIdeal m →
    (∀ c : Dev Cert.MlpInDxIdeal.nD,
      m' ((c.tc : Thread Cert.MlpInDxRefIdeal.nD Cert.MlpInDxRefIdeal.τ).loc Cert.MlpInDxRefIdeal.main_arg0) = m ((c.tc : Thread Cert.MlpInDxIdeal.nD Cert.MlpInDxIdeal.τ).loc Cert.MlpInDxIdeal.main_arg0)
      ∧ m' ((c.tc : Thread Cert.MlpInDxRefIdeal.nD Cert.MlpInDxRefIdeal.τ).loc Cert.MlpInDxRefIdeal.main_arg1) = m ((c.tc : Thread Cert.MlpInDxIdeal.nD Cert.MlpInDxIdeal.τ).loc Cert.MlpInDxIdeal.main_arg1)) →
    ∃ (v0 : (c : Dev Cert.MlpInDxIdeal.nD) → Buf (Elt Ideal) ((c.tc : Thread Cert.MlpInDxIdeal.nD Cert.MlpInDxIdeal.τ).loc Cert.MlpInDxIdeal.main_v0)),
      θ_run (Cert.MlpInDxIdeal.defs (F := Ideal)) (onTc (τ := Cert.MlpInDxIdeal.τ) (Cert.MlpInDxIdeal.main (F := Ideal))) ⟨m, fun _ => 0, g⟩ (fun r => ∀ c : Dev Cert.MlpInDxIdeal.nD,
          r.2.mem ((c.tc : Thread Cert.MlpInDxIdeal.nD Cert.MlpInDxIdeal.τ).loc Cert.MlpInDxIdeal.main_v0) = v0 c
          ∧ r.2.mem ((c.tc : Thread Cert.MlpInDxIdeal.nD Cert.MlpInDxIdeal.τ).loc Cert.MlpInDxIdeal.main_arg0) = m ((c.tc : Thread Cert.MlpInDxIdeal.nD Cert.MlpInDxIdeal.τ).loc Cert.MlpInDxIdeal.main_arg0)
          ∧ r.2.mem ((c.tc : Thread Cert.MlpInDxIdeal.nD Cert.MlpInDxIdeal.τ).loc Cert.MlpInDxIdeal.main_arg1) = m ((c.tc : Thread Cert.MlpInDxIdeal.nD Cert.MlpInDxIdeal.τ).loc Cert.MlpInDxIdeal.main_arg1))
      ∧ θ_run (Cert.MlpInDxRefIdeal.defs (F := Ideal)) (onTc (τ := Cert.MlpInDxRefIdeal.τ) (Cert.MlpInDxRefIdeal.main (F := Ideal))) ⟨m', fun _ => 0, g'⟩ (fun r => ∀ c : Dev Cert.MlpInDxRefIdeal.nD,
          r.2.mem ((c.tc : Thread Cert.MlpInDxRefIdeal.nD Cert.MlpInDxRefIdeal.τ).loc Cert.MlpInDxRefIdeal.main_v4) = v0 c
          ∧ r.2.mem ((c.tc : Thread Cert.MlpInDxRefIdeal.nD Cert.MlpInDxRefIdeal.τ).loc Cert.MlpInDxRefIdeal.main_arg0) = m' ((c.tc : Thread Cert.MlpInDxRefIdeal.nD Cert.MlpInDxRefIdeal.τ).loc Cert.MlpInDxRefIdeal.main_arg0)
          ∧ r.2.mem ((c.tc : Thread Cert.MlpInDxRefIdeal.nD Cert.MlpInDxRefIdeal.τ).loc Cert.MlpInDxRefIdeal.main_arg1) = m' ((c.tc : Thread Cert.MlpInDxRefIdeal.nD Cert.MlpInDxRefIdeal.τ).loc Cert.MlpInDxRefIdeal.main_arg1))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v2) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_MlpIn_MlpInIdeal : Prop :=
  True

def algebraic_MlpInIdeal_MlpInRefIdeal [hMlpInIdeal : Cert.MlpInIdeal.Facts] [hMlpInRefIdeal : Cert.MlpInRefIdeal.Facts] : Prop :=
  ∀ (m : (ℓ : Loc Cert.MlpInIdeal.nD Cert.MlpInIdeal.τ Cert.MlpInIdeal.sig) → Buf (Elt Ideal) ℓ) (g : Dev Cert.MlpInIdeal.nD → PrngReg)
    (m' : (ℓ : Loc Cert.MlpInRefIdeal.nD Cert.MlpInRefIdeal.τ Cert.MlpInRefIdeal.sig) → Buf (Elt Ideal) ℓ) (g' : Dev Cert.MlpInRefIdeal.nD → PrngReg), Pre_MlpInIdeal m →
    (∀ c : Dev Cert.MlpInIdeal.nD,
      m' ((c.tc : Thread Cert.MlpInRefIdeal.nD Cert.MlpInRefIdeal.τ).loc Cert.MlpInRefIdeal.main_arg0) = m ((c.tc : Thread Cert.MlpInIdeal.nD Cert.MlpInIdeal.τ).loc Cert.MlpInIdeal.main_arg0)
      ∧ m' ((c.tc : Thread Cert.MlpInRefIdeal.nD Cert.MlpInRefIdeal.τ).loc Cert.MlpInRefIdeal.main_arg1) = m ((c.tc : Thread Cert.MlpInIdeal.nD Cert.MlpInIdeal.τ).loc Cert.MlpInIdeal.main_arg1)) →
    ∃ (v0 : (c : Dev Cert.MlpInIdeal.nD) → Buf (Elt Ideal) ((c.tc : Thread Cert.MlpInIdeal.nD Cert.MlpInIdeal.τ).loc Cert.MlpInIdeal.main_v0_0)) (v1 : (c : Dev Cert.MlpInIdeal.nD) → Buf (Elt Ideal) ((c.tc : Thread Cert.MlpInIdeal.nD Cert.MlpInIdeal.τ).loc Cert.MlpInIdeal.main_v0_1)),
      θ_run (Cert.MlpInIdeal.defs (F := Ideal)) (onTc (τ := Cert.MlpInIdeal.τ) (Cert.MlpInIdeal.main (F := Ideal))) ⟨m, fun _ => 0, g⟩ (fun r => ∀ c : Dev Cert.MlpInIdeal.nD,
          r.2.mem ((c.tc : Thread Cert.MlpInIdeal.nD Cert.MlpInIdeal.τ).loc Cert.MlpInIdeal.main_v0_0) = v0 c
          ∧ r.2.mem ((c.tc : Thread Cert.MlpInIdeal.nD Cert.MlpInIdeal.τ).loc Cert.MlpInIdeal.main_v0_1) = v1 c
          ∧ r.2.mem ((c.tc : Thread Cert.MlpInIdeal.nD Cert.MlpInIdeal.τ).loc Cert.MlpInIdeal.main_arg0) = m ((c.tc : Thread Cert.MlpInIdeal.nD Cert.MlpInIdeal.τ).loc Cert.MlpInIdeal.main_arg0)
          ∧ r.2.mem ((c.tc : Thread Cert.MlpInIdeal.nD Cert.MlpInIdeal.τ).loc Cert.MlpInIdeal.main_arg1) = m ((c.tc : Thread Cert.MlpInIdeal.nD Cert.MlpInIdeal.τ).loc Cert.MlpInIdeal.main_arg1))
      ∧ θ_run (Cert.MlpInRefIdeal.defs (F := Ideal)) (onTc (τ := Cert.MlpInRefIdeal.τ) (Cert.MlpInRefIdeal.main (F := Ideal))) ⟨m', fun _ => 0, g'⟩ (fun r => ∀ c : Dev Cert.MlpInRefIdeal.nD,
          r.2.mem ((c.tc : Thread Cert.MlpInRefIdeal.nD Cert.MlpInRefIdeal.τ).loc Cert.MlpInRefIdeal.main_v2) = v0 c
          ∧ r.2.mem ((c.tc : Thread Cert.MlpInRefIdeal.nD Cert.MlpInRefIdeal.τ).loc Cert.MlpInRefIdeal.main_v5) = v1 c
          ∧ r.2.mem ((c.tc : Thread Cert.MlpInRefIdeal.nD Cert.MlpInRefIdeal.τ).loc Cert.MlpInRefIdeal.main_arg0) = m' ((c.tc : Thread Cert.MlpInRefIdeal.nD Cert.MlpInRefIdeal.τ).loc Cert.MlpInRefIdeal.main_arg0)
          ∧ r.2.mem ((c.tc : Thread Cert.MlpInRefIdeal.nD Cert.MlpInRefIdeal.τ).loc Cert.MlpInRefIdeal.main_arg1) = m' ((c.tc : Thread Cert.MlpInRefIdeal.nD Cert.MlpInRefIdeal.τ).loc Cert.MlpInRefIdeal.main_arg1))

def preserves_MlpOut_MlpOutIdeal : Prop :=
  True

def algebraic_MlpOutIdeal_MlpOutRefIdeal [hMlpOutIdeal : Cert.MlpOutIdeal.Facts] [hMlpOutRefIdeal : Cert.MlpOutRefIdeal.Facts] : Prop :=
  ∀ (m : (ℓ : Loc Cert.MlpOutIdeal.nD Cert.MlpOutIdeal.τ Cert.MlpOutIdeal.sig) → Buf (Elt Ideal) ℓ) (g : Dev Cert.MlpOutIdeal.nD → PrngReg)
    (m' : (ℓ : Loc Cert.MlpOutRefIdeal.nD Cert.MlpOutRefIdeal.τ Cert.MlpOutRefIdeal.sig) → Buf (Elt Ideal) ℓ) (g' : Dev Cert.MlpOutRefIdeal.nD → PrngReg), Pre_MlpOutIdeal m →
    (∀ c : Dev Cert.MlpOutIdeal.nD,
      m' ((c.tc : Thread Cert.MlpOutRefIdeal.nD Cert.MlpOutRefIdeal.τ).loc Cert.MlpOutRefIdeal.main_arg0) = m ((c.tc : Thread Cert.MlpOutIdeal.nD Cert.MlpOutIdeal.τ).loc Cert.MlpOutIdeal.main_arg0)
      ∧ m' ((c.tc : Thread Cert.MlpOutRefIdeal.nD Cert.MlpOutRefIdeal.τ).loc Cert.MlpOutRefIdeal.main_arg1) = m ((c.tc : Thread Cert.MlpOutIdeal.nD Cert.MlpOutIdeal.τ).loc Cert.MlpOutIdeal.main_arg1)
      ∧ m' ((c.tc : Thread Cert.MlpOutRefIdeal.nD Cert.MlpOutRefIdeal.τ).loc Cert.MlpOutRefIdeal.main_arg2) = m ((c.tc : Thread Cert.MlpOutIdeal.nD Cert.MlpOutIdeal.τ).loc Cert.MlpOutIdeal.main_arg2)) →
    ∃ (v0 : (c : Dev Cert.MlpOutIdeal.nD) → Buf (Elt Ideal) ((c.tc : Thread Cert.MlpOutIdeal.nD Cert.MlpOutIdeal.τ).loc Cert.MlpOutIdeal.main_v0)),
      θ_run (Cert.MlpOutIdeal.defs (F := Ideal)) (onTc (τ := Cert.MlpOutIdeal.τ) (Cert.MlpOutIdeal.main (F := Ideal))) ⟨m, fun _ => 0, g⟩ (fun r => ∀ c : Dev Cert.MlpOutIdeal.nD,
          r.2.mem ((c.tc : Thread Cert.MlpOutIdeal.nD Cert.MlpOutIdeal.τ).loc Cert.MlpOutIdeal.main_v0) = v0 c
          ∧ r.2.mem ((c.tc : Thread Cert.MlpOutIdeal.nD Cert.MlpOutIdeal.τ).loc Cert.MlpOutIdeal.main_arg0) = m ((c.tc : Thread Cert.MlpOutIdeal.nD Cert.MlpOutIdeal.τ).loc Cert.MlpOutIdeal.main_arg0)
          ∧ r.2.mem ((c.tc : Thread Cert.MlpOutIdeal.nD Cert.MlpOutIdeal.τ).loc Cert.MlpOutIdeal.main_arg1) = m ((c.tc : Thread Cert.MlpOutIdeal.nD Cert.MlpOutIdeal.τ).loc Cert.MlpOutIdeal.main_arg1)
          ∧ r.2.mem ((c.tc : Thread Cert.MlpOutIdeal.nD Cert.MlpOutIdeal.τ).loc Cert.MlpOutIdeal.main_arg2) = m ((c.tc : Thread Cert.MlpOutIdeal.nD Cert.MlpOutIdeal.τ).loc Cert.MlpOutIdeal.main_arg2))
      ∧ θ_run (Cert.MlpOutRefIdeal.defs (F := Ideal)) (onTc (τ := Cert.MlpOutRefIdeal.τ) (Cert.MlpOutRefIdeal.main (F := Ideal))) ⟨m', fun _ => 0, g'⟩ (fun r => ∀ c : Dev Cert.MlpOutRefIdeal.nD,
          r.2.mem ((c.tc : Thread Cert.MlpOutRefIdeal.nD Cert.MlpOutRefIdeal.τ).loc Cert.MlpOutRefIdeal.main_v3) = v0 c
          ∧ r.2.mem ((c.tc : Thread Cert.MlpOutRefIdeal.nD Cert.MlpOutRefIdeal.τ).loc Cert.MlpOutRefIdeal.main_arg0) = m' ((c.tc : Thread Cert.MlpOutRefIdeal.nD Cert.MlpOutRefIdeal.τ).loc Cert.MlpOutRefIdeal.main_arg0)
          ∧ r.2.mem ((c.tc : Thread Cert.MlpOutRefIdeal.nD Cert.MlpOutRefIdeal.τ).loc Cert.MlpOutRefIdeal.main_arg1) = m' ((c.tc : Thread Cert.MlpOutRefIdeal.nD Cert.MlpOutRefIdeal.τ).loc Cert.MlpOutRefIdeal.main_arg1)
          ∧ r.2.mem ((c.tc : Thread Cert.MlpOutRefIdeal.nD Cert.MlpOutRefIdeal.τ).loc Cert.MlpOutRefIdeal.main_arg2) = m' ((c.tc : Thread Cert.MlpOutRefIdeal.nD Cert.MlpOutRefIdeal.τ).loc Cert.MlpOutRefIdeal.main_arg2))

def preserves_OutProjDx_OutProjDxIdeal : Prop :=
  True

def algebraic_OutProjDxIdeal_OutProjDxRefIdeal [hOutProjDxIdeal : Cert.OutProjDxIdeal.Facts] [hOutProjDxRefIdeal : Cert.OutProjDxRefIdeal.Facts] : Prop :=
  ∀ (m : (ℓ : Loc Cert.OutProjDxIdeal.nD Cert.OutProjDxIdeal.τ Cert.OutProjDxIdeal.sig) → Buf (Elt Ideal) ℓ) (g : Dev Cert.OutProjDxIdeal.nD → PrngReg)
    (m' : (ℓ : Loc Cert.OutProjDxRefIdeal.nD Cert.OutProjDxRefIdeal.τ Cert.OutProjDxRefIdeal.sig) → Buf (Elt Ideal) ℓ) (g' : Dev Cert.OutProjDxRefIdeal.nD → PrngReg), Pre_OutProjDxIdeal m →
    (∀ c : Dev Cert.OutProjDxIdeal.nD,
      m' ((c.tc : Thread Cert.OutProjDxRefIdeal.nD Cert.OutProjDxRefIdeal.τ).loc Cert.OutProjDxRefIdeal.main_arg0) = m ((c.tc : Thread Cert.OutProjDxIdeal.nD Cert.OutProjDxIdeal.τ).loc Cert.OutProjDxIdeal.main_arg0)
      ∧ m' ((c.tc : Thread Cert.OutProjDxRefIdeal.nD Cert.OutProjDxRefIdeal.τ).loc Cert.OutProjDxRefIdeal.main_arg1) = m ((c.tc : Thread Cert.OutProjDxIdeal.nD Cert.OutProjDxIdeal.τ).loc Cert.OutProjDxIdeal.main_arg1)) →
    ∃ (v0 : (c : Dev Cert.OutProjDxIdeal.nD) → Buf (Elt Ideal) ((c.tc : Thread Cert.OutProjDxIdeal.nD Cert.OutProjDxIdeal.τ).loc Cert.OutProjDxIdeal.main_v0)),
      θ_run (Cert.OutProjDxIdeal.defs (F := Ideal)) (onTc (τ := Cert.OutProjDxIdeal.τ) (Cert.OutProjDxIdeal.main (F := Ideal))) ⟨m, fun _ => 0, g⟩ (fun r => ∀ c : Dev Cert.OutProjDxIdeal.nD,
          r.2.mem ((c.tc : Thread Cert.OutProjDxIdeal.nD Cert.OutProjDxIdeal.τ).loc Cert.OutProjDxIdeal.main_v0) = v0 c
          ∧ r.2.mem ((c.tc : Thread Cert.OutProjDxIdeal.nD Cert.OutProjDxIdeal.τ).loc Cert.OutProjDxIdeal.main_arg0) = m ((c.tc : Thread Cert.OutProjDxIdeal.nD Cert.OutProjDxIdeal.τ).loc Cert.OutProjDxIdeal.main_arg0)
          ∧ r.2.mem ((c.tc : Thread Cert.OutProjDxIdeal.nD Cert.OutProjDxIdeal.τ).loc Cert.OutProjDxIdeal.main_arg1) = m ((c.tc : Thread Cert.OutProjDxIdeal.nD Cert.OutProjDxIdeal.τ).loc Cert.OutProjDxIdeal.main_arg1))
      ∧ θ_run (Cert.OutProjDxRefIdeal.defs (F := Ideal)) (onTc (τ := Cert.OutProjDxRefIdeal.τ) (Cert.OutProjDxRefIdeal.main (F := Ideal))) ⟨m', fun _ => 0, g'⟩ (fun r => ∀ c : Dev Cert.OutProjDxRefIdeal.nD,
          r.2.mem ((c.tc : Thread Cert.OutProjDxRefIdeal.nD Cert.OutProjDxRefIdeal.τ).loc Cert.OutProjDxRefIdeal.main_v3) = v0 c
          ∧ r.2.mem ((c.tc : Thread Cert.OutProjDxRefIdeal.nD Cert.OutProjDxRefIdeal.τ).loc Cert.OutProjDxRefIdeal.main_arg0) = m' ((c.tc : Thread Cert.OutProjDxRefIdeal.nD Cert.OutProjDxRefIdeal.τ).loc Cert.OutProjDxRefIdeal.main_arg0)
          ∧ r.2.mem ((c.tc : Thread Cert.OutProjDxRefIdeal.nD Cert.OutProjDxRefIdeal.τ).loc Cert.OutProjDxRefIdeal.main_arg1) = m' ((c.tc : Thread Cert.OutProjDxRefIdeal.nD Cert.OutProjDxRefIdeal.τ).loc Cert.OutProjDxRefIdeal.main_arg1))

def preserves_UpDx_UpDxIdeal : Prop :=
  True

def algebraic_UpDxIdeal_UpDxRefIdeal [hUpDxIdeal : Cert.UpDxIdeal.Facts] [hUpDxRefIdeal : Cert.UpDxRefIdeal.Facts] : Prop :=
  ∀ (m : (ℓ : Loc Cert.UpDxIdeal.nD Cert.UpDxIdeal.τ Cert.UpDxIdeal.sig) → Buf (Elt Ideal) ℓ) (g : Dev Cert.UpDxIdeal.nD → PrngReg)
    (m' : (ℓ : Loc Cert.UpDxRefIdeal.nD Cert.UpDxRefIdeal.τ Cert.UpDxRefIdeal.sig) → Buf (Elt Ideal) ℓ) (g' : Dev Cert.UpDxRefIdeal.nD → PrngReg), Pre_UpDxIdeal m →
    (∀ c : Dev Cert.UpDxIdeal.nD,
      m' ((c.tc : Thread Cert.UpDxRefIdeal.nD Cert.UpDxRefIdeal.τ).loc Cert.UpDxRefIdeal.main_arg0) = m ((c.tc : Thread Cert.UpDxIdeal.nD Cert.UpDxIdeal.τ).loc Cert.UpDxIdeal.main_arg0)
      ∧ m' ((c.tc : Thread Cert.UpDxRefIdeal.nD Cert.UpDxRefIdeal.τ).loc Cert.UpDxRefIdeal.main_arg1) = m ((c.tc : Thread Cert.UpDxIdeal.nD Cert.UpDxIdeal.τ).loc Cert.UpDxIdeal.main_arg1)) →
    ∃ (v0 : (c : Dev Cert.UpDxIdeal.nD) → Buf (Elt Ideal) ((c.tc : Thread Cert.UpDxIdeal.nD Cert.UpDxIdeal.τ).loc Cert.UpDxIdeal.main_v0)),
      θ_run (Cert.UpDxIdeal.defs (F := Ideal)) (onTc (τ := Cert.UpDxIdeal.τ) (Cert.UpDxIdeal.main (F := Ideal))) ⟨m, fun _ => 0, g⟩ (fun r => ∀ c : Dev Cert.UpDxIdeal.nD,
          r.2.mem ((c.tc : Thread Cert.UpDxIdeal.nD Cert.UpDxIdeal.τ).loc Cert.UpDxIdeal.main_v0) = v0 c
          ∧ r.2.mem ((c.tc : Thread Cert.UpDxIdeal.nD Cert.UpDxIdeal.τ).loc Cert.UpDxIdeal.main_arg0) = m ((c.tc : Thread Cert.UpDxIdeal.nD Cert.UpDxIdeal.τ).loc Cert.UpDxIdeal.main_arg0)
          ∧ r.2.mem ((c.tc : Thread Cert.UpDxIdeal.nD Cert.UpDxIdeal.τ).loc Cert.UpDxIdeal.main_arg1) = m ((c.tc : Thread Cert.UpDxIdeal.nD Cert.UpDxIdeal.τ).loc Cert.UpDxIdeal.main_arg1))
      ∧ θ_run (Cert.UpDxRefIdeal.defs (F := Ideal)) (onTc (τ := Cert.UpDxRefIdeal.τ) (Cert.UpDxRefIdeal.main (F := Ideal))) ⟨m', fun _ => 0, g'⟩ (fun r => ∀ c : Dev Cert.UpDxRefIdeal.nD,
          r.2.mem ((c.tc : Thread Cert.UpDxRefIdeal.nD Cert.UpDxRefIdeal.τ).loc Cert.UpDxRefIdeal.main_v4) = v0 c
          ∧ r.2.mem ((c.tc : Thread Cert.UpDxRefIdeal.nD Cert.UpDxRefIdeal.τ).loc Cert.UpDxRefIdeal.main_arg0) = m' ((c.tc : Thread Cert.UpDxRefIdeal.nD Cert.UpDxRefIdeal.τ).loc Cert.UpDxRefIdeal.main_arg0)
          ∧ r.2.mem ((c.tc : Thread Cert.UpDxRefIdeal.nD Cert.UpDxRefIdeal.τ).loc Cert.UpDxRefIdeal.main_arg1) = m' ((c.tc : Thread Cert.UpDxRefIdeal.nD Cert.UpDxRefIdeal.τ).loc Cert.UpDxRefIdeal.main_arg1))

def preserves_UpDilDx_UpDilDxIdeal : Prop :=
  True

def algebraic_UpDilDxIdeal_UpDilDxRefIdeal [hUpDilDxIdeal : Cert.UpDilDxIdeal.Facts] [hUpDilDxRefIdeal : Cert.UpDilDxRefIdeal.Facts] : Prop :=
  ∀ (m : (ℓ : Loc Cert.UpDilDxIdeal.nD Cert.UpDilDxIdeal.τ Cert.UpDilDxIdeal.sig) → Buf (Elt Ideal) ℓ) (g : Dev Cert.UpDilDxIdeal.nD → PrngReg)
    (m' : (ℓ : Loc Cert.UpDilDxRefIdeal.nD Cert.UpDilDxRefIdeal.τ Cert.UpDilDxRefIdeal.sig) → Buf (Elt Ideal) ℓ) (g' : Dev Cert.UpDilDxRefIdeal.nD → PrngReg), Pre_UpDilDxIdeal m →
    (∀ c : Dev Cert.UpDilDxIdeal.nD,
      m' ((c.tc : Thread Cert.UpDilDxRefIdeal.nD Cert.UpDilDxRefIdeal.τ).loc Cert.UpDilDxRefIdeal.main_arg0) = m ((c.tc : Thread Cert.UpDilDxIdeal.nD Cert.UpDilDxIdeal.τ).loc Cert.UpDilDxIdeal.main_arg0)
      ∧ m' ((c.tc : Thread Cert.UpDilDxRefIdeal.nD Cert.UpDilDxRefIdeal.τ).loc Cert.UpDilDxRefIdeal.main_arg1) = m ((c.tc : Thread Cert.UpDilDxIdeal.nD Cert.UpDilDxIdeal.τ).loc Cert.UpDilDxIdeal.main_arg1)) →
    ∃ (v0 : (c : Dev Cert.UpDilDxIdeal.nD) → Buf (Elt Ideal) ((c.tc : Thread Cert.UpDilDxIdeal.nD Cert.UpDilDxIdeal.τ).loc Cert.UpDilDxIdeal.main_v0)),
      θ_run (Cert.UpDilDxIdeal.defs (F := Ideal)) (onTc (τ := Cert.UpDilDxIdeal.τ) (Cert.UpDilDxIdeal.main (F := Ideal))) ⟨m, fun _ => 0, g⟩ (fun r => ∀ c : Dev Cert.UpDilDxIdeal.nD,
          r.2.mem ((c.tc : Thread Cert.UpDilDxIdeal.nD Cert.UpDilDxIdeal.τ).loc Cert.UpDilDxIdeal.main_v0) = v0 c
          ∧ r.2.mem ((c.tc : Thread Cert.UpDilDxIdeal.nD Cert.UpDilDxIdeal.τ).loc Cert.UpDilDxIdeal.main_arg0) = m ((c.tc : Thread Cert.UpDilDxIdeal.nD Cert.UpDilDxIdeal.τ).loc Cert.UpDilDxIdeal.main_arg0)
          ∧ r.2.mem ((c.tc : Thread Cert.UpDilDxIdeal.nD Cert.UpDilDxIdeal.τ).loc Cert.UpDilDxIdeal.main_arg1) = m ((c.tc : Thread Cert.UpDilDxIdeal.nD Cert.UpDilDxIdeal.τ).loc Cert.UpDilDxIdeal.main_arg1))
      ∧ θ_run (Cert.UpDilDxRefIdeal.defs (F := Ideal)) (onTc (τ := Cert.UpDilDxRefIdeal.τ) (Cert.UpDilDxRefIdeal.main (F := Ideal))) ⟨m', fun _ => 0, g'⟩ (fun r => ∀ c : Dev Cert.UpDilDxRefIdeal.nD,
          r.2.mem ((c.tc : Thread Cert.UpDilDxRefIdeal.nD Cert.UpDilDxRefIdeal.τ).loc Cert.UpDilDxRefIdeal.main_v4) = v0 c
          ∧ r.2.mem ((c.tc : Thread Cert.UpDilDxRefIdeal.nD Cert.UpDilDxRefIdeal.τ).loc Cert.UpDilDxRefIdeal.main_arg0) = m' ((c.tc : Thread Cert.UpDilDxRefIdeal.nD Cert.UpDilDxRefIdeal.τ).loc Cert.UpDilDxRefIdeal.main_arg0)
          ∧ r.2.mem ((c.tc : Thread Cert.UpDilDxRefIdeal.nD Cert.UpDilDxRefIdeal.τ).loc Cert.UpDilDxRefIdeal.main_arg1) = m' ((c.tc : Thread Cert.UpDilDxRefIdeal.nD Cert.UpDilDxRefIdeal.τ).loc Cert.UpDilDxRefIdeal.main_arg1))

def preserves_MlpOutDw_MlpOutDwIdeal : Prop :=
  True

def algebraic_MlpOutDwIdeal_MlpOutDwRefIdeal [hMlpOutDwIdeal : Cert.MlpOutDwIdeal.Facts] [hMlpOutDwRefIdeal : Cert.MlpOutDwRefIdeal.Facts] : Prop :=
  ∀ (m : (ℓ : Loc Cert.MlpOutDwIdeal.nD Cert.MlpOutDwIdeal.τ Cert.MlpOutDwIdeal.sig) → Buf (Elt Ideal) ℓ) (g : Dev Cert.MlpOutDwIdeal.nD → PrngReg)
    (m' : (ℓ : Loc Cert.MlpOutDwRefIdeal.nD Cert.MlpOutDwRefIdeal.τ Cert.MlpOutDwRefIdeal.sig) → Buf (Elt Ideal) ℓ) (g' : Dev Cert.MlpOutDwRefIdeal.nD → PrngReg), Pre_MlpOutDwIdeal m →
    (∀ c : Dev Cert.MlpOutDwIdeal.nD,
      m' ((c.tc : Thread Cert.MlpOutDwRefIdeal.nD Cert.MlpOutDwRefIdeal.τ).loc Cert.MlpOutDwRefIdeal.main_arg0) = m ((c.tc : Thread Cert.MlpOutDwIdeal.nD Cert.MlpOutDwIdeal.τ).loc Cert.MlpOutDwIdeal.main_arg0)
      ∧ m' ((c.tc : Thread Cert.MlpOutDwRefIdeal.nD Cert.MlpOutDwRefIdeal.τ).loc Cert.MlpOutDwRefIdeal.main_arg1) = m ((c.tc : Thread Cert.MlpOutDwIdeal.nD Cert.MlpOutDwIdeal.τ).loc Cert.MlpOutDwIdeal.main_arg1)
      ∧ m' ((c.tc : Thread Cert.MlpOutDwRefIdeal.nD Cert.MlpOutDwRefIdeal.τ).loc Cert.MlpOutDwRefIdeal.main_arg2) = m ((c.tc : Thread Cert.MlpOutDwIdeal.nD Cert.MlpOutDwIdeal.τ).loc Cert.MlpOutDwIdeal.main_arg2)) →
    ∃ (v0 : (c : Dev Cert.MlpOutDwIdeal.nD) → Buf (Elt Ideal) ((c.tc : Thread Cert.MlpOutDwIdeal.nD Cert.MlpOutDwIdeal.τ).loc Cert.MlpOutDwIdeal.main_v0)),
      θ_run (Cert.MlpOutDwIdeal.defs (F := Ideal)) (onTc (τ := Cert.MlpOutDwIdeal.τ) (Cert.MlpOutDwIdeal.main (F := Ideal))) ⟨m, fun _ => 0, g⟩ (fun r => ∀ c : Dev Cert.MlpOutDwIdeal.nD,
          r.2.mem ((c.tc : Thread Cert.MlpOutDwIdeal.nD Cert.MlpOutDwIdeal.τ).loc Cert.MlpOutDwIdeal.main_v0) = v0 c
          ∧ r.2.mem ((c.tc : Thread Cert.MlpOutDwIdeal.nD Cert.MlpOutDwIdeal.τ).loc Cert.MlpOutDwIdeal.main_arg0) = m ((c.tc : Thread Cert.MlpOutDwIdeal.nD Cert.MlpOutDwIdeal.τ).loc Cert.MlpOutDwIdeal.main_arg0)
          ∧ r.2.mem ((c.tc : Thread Cert.MlpOutDwIdeal.nD Cert.MlpOutDwIdeal.τ).loc Cert.MlpOutDwIdeal.main_arg1) = m ((c.tc : Thread Cert.MlpOutDwIdeal.nD Cert.MlpOutDwIdeal.τ).loc Cert.MlpOutDwIdeal.main_arg1)
          ∧ r.2.mem ((c.tc : Thread Cert.MlpOutDwIdeal.nD Cert.MlpOutDwIdeal.τ).loc Cert.MlpOutDwIdeal.main_arg2) = m ((c.tc : Thread Cert.MlpOutDwIdeal.nD Cert.MlpOutDwIdeal.τ).loc Cert.MlpOutDwIdeal.main_arg2))
      ∧ θ_run (Cert.MlpOutDwRefIdeal.defs (F := Ideal)) (onTc (τ := Cert.MlpOutDwRefIdeal.τ) (Cert.MlpOutDwRefIdeal.main (F := Ideal))) ⟨m', fun _ => 0, g'⟩ (fun r => ∀ c : Dev Cert.MlpOutDwRefIdeal.nD,
          r.2.mem ((c.tc : Thread Cert.MlpOutDwRefIdeal.nD Cert.MlpOutDwRefIdeal.τ).loc Cert.MlpOutDwRefIdeal.main_v6) = v0 c
          ∧ r.2.mem ((c.tc : Thread Cert.MlpOutDwRefIdeal.nD Cert.MlpOutDwRefIdeal.τ).loc Cert.MlpOutDwRefIdeal.main_arg0) = m' ((c.tc : Thread Cert.MlpOutDwRefIdeal.nD Cert.MlpOutDwRefIdeal.τ).loc Cert.MlpOutDwRefIdeal.main_arg0)
          ∧ r.2.mem ((c.tc : Thread Cert.MlpOutDwRefIdeal.nD Cert.MlpOutDwRefIdeal.τ).loc Cert.MlpOutDwRefIdeal.main_arg1) = m' ((c.tc : Thread Cert.MlpOutDwRefIdeal.nD Cert.MlpOutDwRefIdeal.τ).loc Cert.MlpOutDwRefIdeal.main_arg1)
          ∧ r.2.mem ((c.tc : Thread Cert.MlpOutDwRefIdeal.nD Cert.MlpOutDwRefIdeal.τ).loc Cert.MlpOutDwRefIdeal.main_arg2) = m' ((c.tc : Thread Cert.MlpOutDwRefIdeal.nD Cert.MlpOutDwRefIdeal.τ).loc Cert.MlpOutDwRefIdeal.main_arg2))

def preserves_MlpOutDwLast_MlpOutDwLastIdeal : Prop :=
  True

def algebraic_MlpOutDwLastIdeal_MlpOutDwLastRefIdeal [hMlpOutDwLastIdeal : Cert.MlpOutDwLastIdeal.Facts] [hMlpOutDwLastRefIdeal : Cert.MlpOutDwLastRefIdeal.Facts] : Prop :=
  ∀ (m : (ℓ : Loc Cert.MlpOutDwLastIdeal.nD Cert.MlpOutDwLastIdeal.τ Cert.MlpOutDwLastIdeal.sig) → Buf (Elt Ideal) ℓ) (g : Dev Cert.MlpOutDwLastIdeal.nD → PrngReg)
    (m' : (ℓ : Loc Cert.MlpOutDwLastRefIdeal.nD Cert.MlpOutDwLastRefIdeal.τ Cert.MlpOutDwLastRefIdeal.sig) → Buf (Elt Ideal) ℓ) (g' : Dev Cert.MlpOutDwLastRefIdeal.nD → PrngReg), Pre_MlpOutDwLastIdeal m →
    (∀ c : Dev Cert.MlpOutDwLastIdeal.nD,
      m' ((c.tc : Thread Cert.MlpOutDwLastRefIdeal.nD Cert.MlpOutDwLastRefIdeal.τ).loc Cert.MlpOutDwLastRefIdeal.main_arg0) = m ((c.tc : Thread Cert.MlpOutDwLastIdeal.nD Cert.MlpOutDwLastIdeal.τ).loc Cert.MlpOutDwLastIdeal.main_arg0)
      ∧ m' ((c.tc : Thread Cert.MlpOutDwLastRefIdeal.nD Cert.MlpOutDwLastRefIdeal.τ).loc Cert.MlpOutDwLastRefIdeal.main_arg1) = m ((c.tc : Thread Cert.MlpOutDwLastIdeal.nD Cert.MlpOutDwLastIdeal.τ).loc Cert.MlpOutDwLastIdeal.main_arg1)
      ∧ m' ((c.tc : Thread Cert.MlpOutDwLastRefIdeal.nD Cert.MlpOutDwLastRefIdeal.τ).loc Cert.MlpOutDwLastRefIdeal.main_arg2) = m ((c.tc : Thread Cert.MlpOutDwLastIdeal.nD Cert.MlpOutDwLastIdeal.τ).loc Cert.MlpOutDwLastIdeal.main_arg2)) →
    ∃ (v0 : (c : Dev Cert.MlpOutDwLastIdeal.nD) → Buf (Elt Ideal) ((c.tc : Thread Cert.MlpOutDwLastIdeal.nD Cert.MlpOutDwLastIdeal.τ).loc Cert.MlpOutDwLastIdeal.main_v0)),
      θ_run (Cert.MlpOutDwLastIdeal.defs (F := Ideal)) (onTc (τ := Cert.MlpOutDwLastIdeal.τ) (Cert.MlpOutDwLastIdeal.main (F := Ideal))) ⟨m, fun _ => 0, g⟩ (fun r => ∀ c : Dev Cert.MlpOutDwLastIdeal.nD,
          r.2.mem ((c.tc : Thread Cert.MlpOutDwLastIdeal.nD Cert.MlpOutDwLastIdeal.τ).loc Cert.MlpOutDwLastIdeal.main_v0) = v0 c
          ∧ r.2.mem ((c.tc : Thread Cert.MlpOutDwLastIdeal.nD Cert.MlpOutDwLastIdeal.τ).loc Cert.MlpOutDwLastIdeal.main_arg0) = m ((c.tc : Thread Cert.MlpOutDwLastIdeal.nD Cert.MlpOutDwLastIdeal.τ).loc Cert.MlpOutDwLastIdeal.main_arg0)
          ∧ r.2.mem ((c.tc : Thread Cert.MlpOutDwLastIdeal.nD Cert.MlpOutDwLastIdeal.τ).loc Cert.MlpOutDwLastIdeal.main_arg1) = m ((c.tc : Thread Cert.MlpOutDwLastIdeal.nD Cert.MlpOutDwLastIdeal.τ).loc Cert.MlpOutDwLastIdeal.main_arg1)
          ∧ r.2.mem ((c.tc : Thread Cert.MlpOutDwLastIdeal.nD Cert.MlpOutDwLastIdeal.τ).loc Cert.MlpOutDwLastIdeal.main_arg2) = m ((c.tc : Thread Cert.MlpOutDwLastIdeal.nD Cert.MlpOutDwLastIdeal.τ).loc Cert.MlpOutDwLastIdeal.main_arg2))
      ∧ θ_run (Cert.MlpOutDwLastRefIdeal.defs (F := Ideal)) (onTc (τ := Cert.MlpOutDwLastRefIdeal.τ) (Cert.MlpOutDwLastRefIdeal.main (F := Ideal))) ⟨m', fun _ => 0, g'⟩ (fun r => ∀ c : Dev Cert.MlpOutDwLastRefIdeal.nD,
          r.2.mem ((c.tc : Thread Cert.MlpOutDwLastRefIdeal.nD Cert.MlpOutDwLastRefIdeal.τ).loc Cert.MlpOutDwLastRefIdeal.main_v6) = v0 c
          ∧ r.2.mem ((c.tc : Thread Cert.MlpOutDwLastRefIdeal.nD Cert.MlpOutDwLastRefIdeal.τ).loc Cert.MlpOutDwLastRefIdeal.main_arg0) = m' ((c.tc : Thread Cert.MlpOutDwLastRefIdeal.nD Cert.MlpOutDwLastRefIdeal.τ).loc Cert.MlpOutDwLastRefIdeal.main_arg0)
          ∧ r.2.mem ((c.tc : Thread Cert.MlpOutDwLastRefIdeal.nD Cert.MlpOutDwLastRefIdeal.τ).loc Cert.MlpOutDwLastRefIdeal.main_arg1) = m' ((c.tc : Thread Cert.MlpOutDwLastRefIdeal.nD Cert.MlpOutDwLastRefIdeal.τ).loc Cert.MlpOutDwLastRefIdeal.main_arg1)
          ∧ r.2.mem ((c.tc : Thread Cert.MlpOutDwLastRefIdeal.nD Cert.MlpOutDwLastRefIdeal.τ).loc Cert.MlpOutDwLastRefIdeal.main_arg2) = m' ((c.tc : Thread Cert.MlpOutDwLastRefIdeal.nD Cert.MlpOutDwLastRefIdeal.τ).loc Cert.MlpOutDwLastRefIdeal.main_arg2))

def preserves_MlpInDw_MlpInDwIdeal : Prop :=
  True

def algebraic_MlpInDwIdeal_MlpInDwRefIdeal [hMlpInDwIdeal : Cert.MlpInDwIdeal.Facts] [hMlpInDwRefIdeal : Cert.MlpInDwRefIdeal.Facts] : Prop :=
  ∀ (m : (ℓ : Loc Cert.MlpInDwIdeal.nD Cert.MlpInDwIdeal.τ Cert.MlpInDwIdeal.sig) → Buf (Elt Ideal) ℓ) (g : Dev Cert.MlpInDwIdeal.nD → PrngReg)
    (m' : (ℓ : Loc Cert.MlpInDwRefIdeal.nD Cert.MlpInDwRefIdeal.τ Cert.MlpInDwRefIdeal.sig) → Buf (Elt Ideal) ℓ) (g' : Dev Cert.MlpInDwRefIdeal.nD → PrngReg), Pre_MlpInDwIdeal m →
    (∀ c : Dev Cert.MlpInDwIdeal.nD,
      m' ((c.tc : Thread Cert.MlpInDwRefIdeal.nD Cert.MlpInDwRefIdeal.τ).loc Cert.MlpInDwRefIdeal.main_arg0) = m ((c.tc : Thread Cert.MlpInDwIdeal.nD Cert.MlpInDwIdeal.τ).loc Cert.MlpInDwIdeal.main_arg0)
      ∧ m' ((c.tc : Thread Cert.MlpInDwRefIdeal.nD Cert.MlpInDwRefIdeal.τ).loc Cert.MlpInDwRefIdeal.main_arg1) = m ((c.tc : Thread Cert.MlpInDwIdeal.nD Cert.MlpInDwIdeal.τ).loc Cert.MlpInDwIdeal.main_arg1)
      ∧ m' ((c.tc : Thread Cert.MlpInDwRefIdeal.nD Cert.MlpInDwRefIdeal.τ).loc Cert.MlpInDwRefIdeal.main_arg2) = m ((c.tc : Thread Cert.MlpInDwIdeal.nD Cert.MlpInDwIdeal.τ).loc Cert.MlpInDwIdeal.main_arg2)) →
    ∃ (v0 : (c : Dev Cert.MlpInDwIdeal.nD) → Buf (Elt Ideal) ((c.tc : Thread Cert.MlpInDwIdeal.nD Cert.MlpInDwIdeal.τ).loc Cert.MlpInDwIdeal.main_v0)),
      θ_run (Cert.MlpInDwIdeal.defs (F := Ideal)) (onTc (τ := Cert.MlpInDwIdeal.τ) (Cert.MlpInDwIdeal.main (F := Ideal))) ⟨m, fun _ => 0, g⟩ (fun r => ∀ c : Dev Cert.MlpInDwIdeal.nD,
          r.2.mem ((c.tc : Thread Cert.MlpInDwIdeal.nD Cert.MlpInDwIdeal.τ).loc Cert.MlpInDwIdeal.main_v0) = v0 c
          ∧ r.2.mem ((c.tc : Thread Cert.MlpInDwIdeal.nD Cert.MlpInDwIdeal.τ).loc Cert.MlpInDwIdeal.main_arg0) = m ((c.tc : Thread Cert.MlpInDwIdeal.nD Cert.MlpInDwIdeal.τ).loc Cert.MlpInDwIdeal.main_arg0)
          ∧ r.2.mem ((c.tc : Thread Cert.MlpInDwIdeal.nD Cert.MlpInDwIdeal.τ).loc Cert.MlpInDwIdeal.main_arg1) = m ((c.tc : Thread Cert.MlpInDwIdeal.nD Cert.MlpInDwIdeal.τ).loc Cert.MlpInDwIdeal.main_arg1)
          ∧ r.2.mem ((c.tc : Thread Cert.MlpInDwIdeal.nD Cert.MlpInDwIdeal.τ).loc Cert.MlpInDwIdeal.main_arg2) = m ((c.tc : Thread Cert.MlpInDwIdeal.nD Cert.MlpInDwIdeal.τ).loc Cert.MlpInDwIdeal.main_arg2))
      ∧ θ_run (Cert.MlpInDwRefIdeal.defs (F := Ideal)) (onTc (τ := Cert.MlpInDwRefIdeal.τ) (Cert.MlpInDwRefIdeal.main (F := Ideal))) ⟨m', fun _ => 0, g'⟩ (fun r => ∀ c : Dev Cert.MlpInDwRefIdeal.nD,
          r.2.mem ((c.tc : Thread Cert.MlpInDwRefIdeal.nD Cert.MlpInDwRefIdeal.τ).loc Cert.MlpInDwRefIdeal.main_v9) = v0 c
          ∧ r.2.mem ((c.tc : Thread Cert.MlpInDwRefIdeal.nD Cert.MlpInDwRefIdeal.τ).loc Cert.MlpInDwRefIdeal.main_arg0) = m' ((c.tc : Thread Cert.MlpInDwRefIdeal.nD Cert.MlpInDwRefIdeal.τ).loc Cert.MlpInDwRefIdeal.main_arg0)
          ∧ r.2.mem ((c.tc : Thread Cert.MlpInDwRefIdeal.nD Cert.MlpInDwRefIdeal.τ).loc Cert.MlpInDwRefIdeal.main_arg1) = m' ((c.tc : Thread Cert.MlpInDwRefIdeal.nD Cert.MlpInDwRefIdeal.τ).loc Cert.MlpInDwRefIdeal.main_arg1)
          ∧ r.2.mem ((c.tc : Thread Cert.MlpInDwRefIdeal.nD Cert.MlpInDwRefIdeal.τ).loc Cert.MlpInDwRefIdeal.main_arg2) = m' ((c.tc : Thread Cert.MlpInDwRefIdeal.nD Cert.MlpInDwRefIdeal.τ).loc Cert.MlpInDwRefIdeal.main_arg2))

def preserves_MlpInDwLast_MlpInDwLastIdeal : Prop :=
  True

def algebraic_MlpInDwLastIdeal_MlpInDwLastRefIdeal [hMlpInDwLastIdeal : Cert.MlpInDwLastIdeal.Facts] [hMlpInDwLastRefIdeal : Cert.MlpInDwLastRefIdeal.Facts] : Prop :=
  ∀ (m : (ℓ : Loc Cert.MlpInDwLastIdeal.nD Cert.MlpInDwLastIdeal.τ Cert.MlpInDwLastIdeal.sig) → Buf (Elt Ideal) ℓ) (g : Dev Cert.MlpInDwLastIdeal.nD → PrngReg)
    (m' : (ℓ : Loc Cert.MlpInDwLastRefIdeal.nD Cert.MlpInDwLastRefIdeal.τ Cert.MlpInDwLastRefIdeal.sig) → Buf (Elt Ideal) ℓ) (g' : Dev Cert.MlpInDwLastRefIdeal.nD → PrngReg), Pre_MlpInDwLastIdeal m →
    (∀ c : Dev Cert.MlpInDwLastIdeal.nD,
      m' ((c.tc : Thread Cert.MlpInDwLastRefIdeal.nD Cert.MlpInDwLastRefIdeal.τ).loc Cert.MlpInDwLastRefIdeal.main_arg0) = m ((c.tc : Thread Cert.MlpInDwLastIdeal.nD Cert.MlpInDwLastIdeal.τ).loc Cert.MlpInDwLastIdeal.main_arg0)
      ∧ m' ((c.tc : Thread Cert.MlpInDwLastRefIdeal.nD Cert.MlpInDwLastRefIdeal.τ).loc Cert.MlpInDwLastRefIdeal.main_arg1) = m ((c.tc : Thread Cert.MlpInDwLastIdeal.nD Cert.MlpInDwLastIdeal.τ).loc Cert.MlpInDwLastIdeal.main_arg1)
      ∧ m' ((c.tc : Thread Cert.MlpInDwLastRefIdeal.nD Cert.MlpInDwLastRefIdeal.τ).loc Cert.MlpInDwLastRefIdeal.main_arg2) = m ((c.tc : Thread Cert.MlpInDwLastIdeal.nD Cert.MlpInDwLastIdeal.τ).loc Cert.MlpInDwLastIdeal.main_arg2)) →
    ∃ (v0 : (c : Dev Cert.MlpInDwLastIdeal.nD) → Buf (Elt Ideal) ((c.tc : Thread Cert.MlpInDwLastIdeal.nD Cert.MlpInDwLastIdeal.τ).loc Cert.MlpInDwLastIdeal.main_v0)),
      θ_run (Cert.MlpInDwLastIdeal.defs (F := Ideal)) (onTc (τ := Cert.MlpInDwLastIdeal.τ) (Cert.MlpInDwLastIdeal.main (F := Ideal))) ⟨m, fun _ => 0, g⟩ (fun r => ∀ c : Dev Cert.MlpInDwLastIdeal.nD,
          r.2.mem ((c.tc : Thread Cert.MlpInDwLastIdeal.nD Cert.MlpInDwLastIdeal.τ).loc Cert.MlpInDwLastIdeal.main_v0) = v0 c
          ∧ r.2.mem ((c.tc : Thread Cert.MlpInDwLastIdeal.nD Cert.MlpInDwLastIdeal.τ).loc Cert.MlpInDwLastIdeal.main_arg0) = m ((c.tc : Thread Cert.MlpInDwLastIdeal.nD Cert.MlpInDwLastIdeal.τ).loc Cert.MlpInDwLastIdeal.main_arg0)
          ∧ r.2.mem ((c.tc : Thread Cert.MlpInDwLastIdeal.nD Cert.MlpInDwLastIdeal.τ).loc Cert.MlpInDwLastIdeal.main_arg1) = m ((c.tc : Thread Cert.MlpInDwLastIdeal.nD Cert.MlpInDwLastIdeal.τ).loc Cert.MlpInDwLastIdeal.main_arg1)
          ∧ r.2.mem ((c.tc : Thread Cert.MlpInDwLastIdeal.nD Cert.MlpInDwLastIdeal.τ).loc Cert.MlpInDwLastIdeal.main_arg2) = m ((c.tc : Thread Cert.MlpInDwLastIdeal.nD Cert.MlpInDwLastIdeal.τ).loc Cert.MlpInDwLastIdeal.main_arg2))
      ∧ θ_run (Cert.MlpInDwLastRefIdeal.defs (F := Ideal)) (onTc (τ := Cert.MlpInDwLastRefIdeal.τ) (Cert.MlpInDwLastRefIdeal.main (F := Ideal))) ⟨m', fun _ => 0, g'⟩ (fun r => ∀ c : Dev Cert.MlpInDwLastRefIdeal.nD,
          r.2.mem ((c.tc : Thread Cert.MlpInDwLastRefIdeal.nD Cert.MlpInDwLastRefIdeal.τ).loc Cert.MlpInDwLastRefIdeal.main_v9) = v0 c
          ∧ r.2.mem ((c.tc : Thread Cert.MlpInDwLastRefIdeal.nD Cert.MlpInDwLastRefIdeal.τ).loc Cert.MlpInDwLastRefIdeal.main_arg0) = m' ((c.tc : Thread Cert.MlpInDwLastRefIdeal.nD Cert.MlpInDwLastRefIdeal.τ).loc Cert.MlpInDwLastRefIdeal.main_arg0)
          ∧ r.2.mem ((c.tc : Thread Cert.MlpInDwLastRefIdeal.nD Cert.MlpInDwLastRefIdeal.τ).loc Cert.MlpInDwLastRefIdeal.main_arg1) = m' ((c.tc : Thread Cert.MlpInDwLastRefIdeal.nD Cert.MlpInDwLastRefIdeal.τ).loc Cert.MlpInDwLastRefIdeal.main_arg1)
          ∧ r.2.mem ((c.tc : Thread Cert.MlpInDwLastRefIdeal.nD Cert.MlpInDwLastRefIdeal.τ).loc Cert.MlpInDwLastRefIdeal.main_arg2) = m' ((c.tc : Thread Cert.MlpInDwLastRefIdeal.nD Cert.MlpInDwLastRefIdeal.τ).loc Cert.MlpInDwLastRefIdeal.main_arg2))

def preserves_ProjDw_ProjDwIdeal : Prop :=
  True

def algebraic_ProjDwIdeal_ProjDwRefIdeal [hProjDwIdeal : Cert.ProjDwIdeal.Facts] [hProjDwRefIdeal : Cert.ProjDwRefIdeal.Facts] : Prop :=
  ∀ (m : (ℓ : Loc Cert.ProjDwIdeal.nD Cert.ProjDwIdeal.τ Cert.ProjDwIdeal.sig) → Buf (Elt Ideal) ℓ) (g : Dev Cert.ProjDwIdeal.nD → PrngReg)
    (m' : (ℓ : Loc Cert.ProjDwRefIdeal.nD Cert.ProjDwRefIdeal.τ Cert.ProjDwRefIdeal.sig) → Buf (Elt Ideal) ℓ) (g' : Dev Cert.ProjDwRefIdeal.nD → PrngReg), Pre_ProjDwIdeal m →
    (∀ c : Dev Cert.ProjDwIdeal.nD,
      m' ((c.tc : Thread Cert.ProjDwRefIdeal.nD Cert.ProjDwRefIdeal.τ).loc Cert.ProjDwRefIdeal.main_arg0) = m ((c.tc : Thread Cert.ProjDwIdeal.nD Cert.ProjDwIdeal.τ).loc Cert.ProjDwIdeal.main_arg0)
      ∧ m' ((c.tc : Thread Cert.ProjDwRefIdeal.nD Cert.ProjDwRefIdeal.τ).loc Cert.ProjDwRefIdeal.main_arg1) = m ((c.tc : Thread Cert.ProjDwIdeal.nD Cert.ProjDwIdeal.τ).loc Cert.ProjDwIdeal.main_arg1)
      ∧ m' ((c.tc : Thread Cert.ProjDwRefIdeal.nD Cert.ProjDwRefIdeal.τ).loc Cert.ProjDwRefIdeal.main_arg2) = m ((c.tc : Thread Cert.ProjDwIdeal.nD Cert.ProjDwIdeal.τ).loc Cert.ProjDwIdeal.main_arg2)) →
    ∃ (v0 : (c : Dev Cert.ProjDwIdeal.nD) → Buf (Elt Ideal) ((c.tc : Thread Cert.ProjDwIdeal.nD Cert.ProjDwIdeal.τ).loc Cert.ProjDwIdeal.main_v0)),
      θ_run (Cert.ProjDwIdeal.defs (F := Ideal)) (onTc (τ := Cert.ProjDwIdeal.τ) (Cert.ProjDwIdeal.main (F := Ideal))) ⟨m, fun _ => 0, g⟩ (fun r => ∀ c : Dev Cert.ProjDwIdeal.nD,
          r.2.mem ((c.tc : Thread Cert.ProjDwIdeal.nD Cert.ProjDwIdeal.τ).loc Cert.ProjDwIdeal.main_v0) = v0 c
          ∧ r.2.mem ((c.tc : Thread Cert.ProjDwIdeal.nD Cert.ProjDwIdeal.τ).loc Cert.ProjDwIdeal.main_arg0) = m ((c.tc : Thread Cert.ProjDwIdeal.nD Cert.ProjDwIdeal.τ).loc Cert.ProjDwIdeal.main_arg0)
          ∧ r.2.mem ((c.tc : Thread Cert.ProjDwIdeal.nD Cert.ProjDwIdeal.τ).loc Cert.ProjDwIdeal.main_arg1) = m ((c.tc : Thread Cert.ProjDwIdeal.nD Cert.ProjDwIdeal.τ).loc Cert.ProjDwIdeal.main_arg1)
          ∧ r.2.mem ((c.tc : Thread Cert.ProjDwIdeal.nD Cert.ProjDwIdeal.τ).loc Cert.ProjDwIdeal.main_arg2) = m ((c.tc : Thread Cert.ProjDwIdeal.nD Cert.ProjDwIdeal.τ).loc Cert.ProjDwIdeal.main_arg2))
      ∧ θ_run (Cert.ProjDwRefIdeal.defs (F := Ideal)) (onTc (τ := Cert.ProjDwRefIdeal.τ) (Cert.ProjDwRefIdeal.main (F := Ideal))) ⟨m', fun _ => 0, g'⟩ (fun r => ∀ c : Dev Cert.ProjDwRefIdeal.nD,
          r.2.mem ((c.tc : Thread Cert.ProjDwRefIdeal.nD Cert.ProjDwRefIdeal.τ).loc Cert.ProjDwRefIdeal.main_v16) = v0 c
          ∧ r.2.mem ((c.tc : Thread Cert.ProjDwRefIdeal.nD Cert.ProjDwRefIdeal.τ).loc Cert.ProjDwRefIdeal.main_arg0) = m' ((c.tc : Thread Cert.ProjDwRefIdeal.nD Cert.ProjDwRefIdeal.τ).loc Cert.ProjDwRefIdeal.main_arg0)
          ∧ r.2.mem ((c.tc : Thread Cert.ProjDwRefIdeal.nD Cert.ProjDwRefIdeal.τ).loc Cert.ProjDwRefIdeal.main_arg1) = m' ((c.tc : Thread Cert.ProjDwRefIdeal.nD Cert.ProjDwRefIdeal.τ).loc Cert.ProjDwRefIdeal.main_arg1)
          ∧ r.2.mem ((c.tc : Thread Cert.ProjDwRefIdeal.nD Cert.ProjDwRefIdeal.τ).loc Cert.ProjDwRefIdeal.main_arg2) = m' ((c.tc : Thread Cert.ProjDwRefIdeal.nD Cert.ProjDwRefIdeal.τ).loc Cert.ProjDwRefIdeal.main_arg2))

def preserves_ProjDwLast_ProjDwLastIdeal : Prop :=
  True

def algebraic_ProjDwLastIdeal_ProjDwLastRefIdeal [hProjDwLastIdeal : Cert.ProjDwLastIdeal.Facts] [hProjDwLastRefIdeal : Cert.ProjDwLastRefIdeal.Facts] : Prop :=
  ∀ (m : (ℓ : Loc Cert.ProjDwLastIdeal.nD Cert.ProjDwLastIdeal.τ Cert.ProjDwLastIdeal.sig) → Buf (Elt Ideal) ℓ) (g : Dev Cert.ProjDwLastIdeal.nD → PrngReg)
    (m' : (ℓ : Loc Cert.ProjDwLastRefIdeal.nD Cert.ProjDwLastRefIdeal.τ Cert.ProjDwLastRefIdeal.sig) → Buf (Elt Ideal) ℓ) (g' : Dev Cert.ProjDwLastRefIdeal.nD → PrngReg), Pre_ProjDwLastIdeal m →
    (∀ c : Dev Cert.ProjDwLastIdeal.nD,
      m' ((c.tc : Thread Cert.ProjDwLastRefIdeal.nD Cert.ProjDwLastRefIdeal.τ).loc Cert.ProjDwLastRefIdeal.main_arg0) = m ((c.tc : Thread Cert.ProjDwLastIdeal.nD Cert.ProjDwLastIdeal.τ).loc Cert.ProjDwLastIdeal.main_arg0)
      ∧ m' ((c.tc : Thread Cert.ProjDwLastRefIdeal.nD Cert.ProjDwLastRefIdeal.τ).loc Cert.ProjDwLastRefIdeal.main_arg1) = m ((c.tc : Thread Cert.ProjDwLastIdeal.nD Cert.ProjDwLastIdeal.τ).loc Cert.ProjDwLastIdeal.main_arg1)
      ∧ m' ((c.tc : Thread Cert.ProjDwLastRefIdeal.nD Cert.ProjDwLastRefIdeal.τ).loc Cert.ProjDwLastRefIdeal.main_arg2) = m ((c.tc : Thread Cert.ProjDwLastIdeal.nD Cert.ProjDwLastIdeal.τ).loc Cert.ProjDwLastIdeal.main_arg2)) →
    ∃ (v0 : (c : Dev Cert.ProjDwLastIdeal.nD) → Buf (Elt Ideal) ((c.tc : Thread Cert.ProjDwLastIdeal.nD Cert.ProjDwLastIdeal.τ).loc Cert.ProjDwLastIdeal.main_v0)),
      θ_run (Cert.ProjDwLastIdeal.defs (F := Ideal)) (onTc (τ := Cert.ProjDwLastIdeal.τ) (Cert.ProjDwLastIdeal.main (F := Ideal))) ⟨m, fun _ => 0, g⟩ (fun r => ∀ c : Dev Cert.ProjDwLastIdeal.nD,
          r.2.mem ((c.tc : Thread Cert.ProjDwLastIdeal.nD Cert.ProjDwLastIdeal.τ).loc Cert.ProjDwLastIdeal.main_v0) = v0 c
          ∧ r.2.mem ((c.tc : Thread Cert.ProjDwLastIdeal.nD Cert.ProjDwLastIdeal.τ).loc Cert.ProjDwLastIdeal.main_arg0) = m ((c.tc : Thread Cert.ProjDwLastIdeal.nD Cert.ProjDwLastIdeal.τ).loc Cert.ProjDwLastIdeal.main_arg0)
          ∧ r.2.mem ((c.tc : Thread Cert.ProjDwLastIdeal.nD Cert.ProjDwLastIdeal.τ).loc Cert.ProjDwLastIdeal.main_arg1) = m ((c.tc : Thread Cert.ProjDwLastIdeal.nD Cert.ProjDwLastIdeal.τ).loc Cert.ProjDwLastIdeal.main_arg1)
          ∧ r.2.mem ((c.tc : Thread Cert.ProjDwLastIdeal.nD Cert.ProjDwLastIdeal.τ).loc Cert.ProjDwLastIdeal.main_arg2) = m ((c.tc : Thread Cert.ProjDwLastIdeal.nD Cert.ProjDwLastIdeal.τ).loc Cert.ProjDwLastIdeal.main_arg2))
      ∧ θ_run (Cert.ProjDwLastRefIdeal.defs (F := Ideal)) (onTc (τ := Cert.ProjDwLastRefIdeal.τ) (Cert.ProjDwLastRefIdeal.main (F := Ideal))) ⟨m', fun _ => 0, g'⟩ (fun r => ∀ c : Dev Cert.ProjDwLastRefIdeal.nD,
          r.2.mem ((c.tc : Thread Cert.ProjDwLastRefIdeal.nD Cert.ProjDwLastRefIdeal.τ).loc Cert.ProjDwLastRefIdeal.main_v16) = v0 c
          ∧ r.2.mem ((c.tc : Thread Cert.ProjDwLastRefIdeal.nD Cert.ProjDwLastRefIdeal.τ).loc Cert.ProjDwLastRefIdeal.main_arg0) = m' ((c.tc : Thread Cert.ProjDwLastRefIdeal.nD Cert.ProjDwLastRefIdeal.τ).loc Cert.ProjDwLastRefIdeal.main_arg0)
          ∧ r.2.mem ((c.tc : Thread Cert.ProjDwLastRefIdeal.nD Cert.ProjDwLastRefIdeal.τ).loc Cert.ProjDwLastRefIdeal.main_arg1) = m' ((c.tc : Thread Cert.ProjDwLastRefIdeal.nD Cert.ProjDwLastRefIdeal.τ).loc Cert.ProjDwLastRefIdeal.main_arg1)
          ∧ r.2.mem ((c.tc : Thread Cert.ProjDwLastRefIdeal.nD Cert.ProjDwLastRefIdeal.τ).loc Cert.ProjDwLastRefIdeal.main_arg2) = m' ((c.tc : Thread Cert.ProjDwLastRefIdeal.nD Cert.ProjDwLastRefIdeal.τ).loc Cert.ProjDwLastRefIdeal.main_arg2))

def preserves_ForgetDw_ForgetDwIdeal : Prop :=
  True

def algebraic_ForgetDwIdeal_ForgetDwRefIdeal [hForgetDwIdeal : Cert.ForgetDwIdeal.Facts] [hForgetDwRefIdeal : Cert.ForgetDwRefIdeal.Facts] : Prop :=
  ∀ (m : (ℓ : Loc Cert.ForgetDwIdeal.nD Cert.ForgetDwIdeal.τ Cert.ForgetDwIdeal.sig) → Buf (Elt Ideal) ℓ) (g : Dev Cert.ForgetDwIdeal.nD → PrngReg)
    (m' : (ℓ : Loc Cert.ForgetDwRefIdeal.nD Cert.ForgetDwRefIdeal.τ Cert.ForgetDwRefIdeal.sig) → Buf (Elt Ideal) ℓ) (g' : Dev Cert.ForgetDwRefIdeal.nD → PrngReg), Pre_ForgetDwIdeal m →
    (∀ c : Dev Cert.ForgetDwIdeal.nD,
      m' ((c.tc : Thread Cert.ForgetDwRefIdeal.nD Cert.ForgetDwRefIdeal.τ).loc Cert.ForgetDwRefIdeal.main_arg0) = m ((c.tc : Thread Cert.ForgetDwIdeal.nD Cert.ForgetDwIdeal.τ).loc Cert.ForgetDwIdeal.main_arg0)
      ∧ m' ((c.tc : Thread Cert.ForgetDwRefIdeal.nD Cert.ForgetDwRefIdeal.τ).loc Cert.ForgetDwRefIdeal.main_arg1) = m ((c.tc : Thread Cert.ForgetDwIdeal.nD Cert.ForgetDwIdeal.τ).loc Cert.ForgetDwIdeal.main_arg1)) →
    ∃ (v0 : (c : Dev Cert.ForgetDwIdeal.nD) → Buf (Elt Ideal) ((c.tc : Thread Cert.ForgetDwIdeal.nD Cert.ForgetDwIdeal.τ).loc Cert.ForgetDwIdeal.main_v0)),
      θ_run (Cert.ForgetDwIdeal.defs (F := Ideal)) (onTc (τ := Cert.ForgetDwIdeal.τ) (Cert.ForgetDwIdeal.main (F := Ideal))) ⟨m, fun _ => 0, g⟩ (fun r => ∀ c : Dev Cert.ForgetDwIdeal.nD,
          r.2.mem ((c.tc : Thread Cert.ForgetDwIdeal.nD Cert.ForgetDwIdeal.τ).loc Cert.ForgetDwIdeal.main_v0) = v0 c
          ∧ r.2.mem ((c.tc : Thread Cert.ForgetDwIdeal.nD Cert.ForgetDwIdeal.τ).loc Cert.ForgetDwIdeal.main_arg0) = m ((c.tc : Thread Cert.ForgetDwIdeal.nD Cert.ForgetDwIdeal.τ).loc Cert.ForgetDwIdeal.main_arg0)
          ∧ r.2.mem ((c.tc : Thread Cert.ForgetDwIdeal.nD Cert.ForgetDwIdeal.τ).loc Cert.ForgetDwIdeal.main_arg1) = m ((c.tc : Thread Cert.ForgetDwIdeal.nD Cert.ForgetDwIdeal.τ).loc Cert.ForgetDwIdeal.main_arg1))
      ∧ θ_run (Cert.ForgetDwRefIdeal.defs (F := Ideal)) (onTc (τ := Cert.ForgetDwRefIdeal.τ) (Cert.ForgetDwRefIdeal.main (F := Ideal))) ⟨m', fun _ => 0, g'⟩ (fun r => ∀ c : Dev Cert.ForgetDwRefIdeal.nD,
          r.2.mem ((c.tc : Thread Cert.ForgetDwRefIdeal.nD Cert.ForgetDwRefIdeal.τ).loc Cert.ForgetDwRefIdeal.main_v6) = v0 c
          ∧ r.2.mem ((c.tc : Thread Cert.ForgetDwRefIdeal.nD Cert.ForgetDwRefIdeal.τ).loc Cert.ForgetDwRefIdeal.main_arg0) = m' ((c.tc : Thread Cert.ForgetDwRefIdeal.nD Cert.ForgetDwRefIdeal.τ).loc Cert.ForgetDwRefIdeal.main_arg0)
          ∧ r.2.mem ((c.tc : Thread Cert.ForgetDwRefIdeal.nD Cert.ForgetDwRefIdeal.τ).loc Cert.ForgetDwRefIdeal.main_arg1) = m' ((c.tc : Thread Cert.ForgetDwRefIdeal.nD Cert.ForgetDwRefIdeal.τ).loc Cert.ForgetDwRefIdeal.main_arg1))

def preserves_OutProjDw_OutProjDwIdeal : Prop :=
  True

def algebraic_OutProjDwIdeal_OutProjDwRefIdeal [hOutProjDwIdeal : Cert.OutProjDwIdeal.Facts] [hOutProjDwRefIdeal : Cert.OutProjDwRefIdeal.Facts] : Prop :=
  ∀ (m : (ℓ : Loc Cert.OutProjDwIdeal.nD Cert.OutProjDwIdeal.τ Cert.OutProjDwIdeal.sig) → Buf (Elt Ideal) ℓ) (g : Dev Cert.OutProjDwIdeal.nD → PrngReg)
    (m' : (ℓ : Loc Cert.OutProjDwRefIdeal.nD Cert.OutProjDwRefIdeal.τ Cert.OutProjDwRefIdeal.sig) → Buf (Elt Ideal) ℓ) (g' : Dev Cert.OutProjDwRefIdeal.nD → PrngReg), Pre_OutProjDwIdeal m →
    (∀ c : Dev Cert.OutProjDwIdeal.nD,
      m' ((c.tc : Thread Cert.OutProjDwRefIdeal.nD Cert.OutProjDwRefIdeal.τ).loc Cert.OutProjDwRefIdeal.main_arg0) = m ((c.tc : Thread Cert.OutProjDwIdeal.nD Cert.OutProjDwIdeal.τ).loc Cert.OutProjDwIdeal.main_arg0)
      ∧ m' ((c.tc : Thread Cert.OutProjDwRefIdeal.nD Cert.OutProjDwRefIdeal.τ).loc Cert.OutProjDwRefIdeal.main_arg1) = m ((c.tc : Thread Cert.OutProjDwIdeal.nD Cert.OutProjDwIdeal.τ).loc Cert.OutProjDwIdeal.main_arg1)
      ∧ m' ((c.tc : Thread Cert.OutProjDwRefIdeal.nD Cert.OutProjDwRefIdeal.τ).loc Cert.OutProjDwRefIdeal.main_arg2) = m ((c.tc : Thread Cert.OutProjDwIdeal.nD Cert.OutProjDwIdeal.τ).loc Cert.OutProjDwIdeal.main_arg2)) →
    ∃ (v0 : (c : Dev Cert.OutProjDwIdeal.nD) → Buf (Elt Ideal) ((c.tc : Thread Cert.OutProjDwIdeal.nD Cert.OutProjDwIdeal.τ).loc Cert.OutProjDwIdeal.main_v0)),
      θ_run (Cert.OutProjDwIdeal.defs (F := Ideal)) (onTc (τ := Cert.OutProjDwIdeal.τ) (Cert.OutProjDwIdeal.main (F := Ideal))) ⟨m, fun _ => 0, g⟩ (fun r => ∀ c : Dev Cert.OutProjDwIdeal.nD,
          r.2.mem ((c.tc : Thread Cert.OutProjDwIdeal.nD Cert.OutProjDwIdeal.τ).loc Cert.OutProjDwIdeal.main_v0) = v0 c
          ∧ r.2.mem ((c.tc : Thread Cert.OutProjDwIdeal.nD Cert.OutProjDwIdeal.τ).loc Cert.OutProjDwIdeal.main_arg0) = m ((c.tc : Thread Cert.OutProjDwIdeal.nD Cert.OutProjDwIdeal.τ).loc Cert.OutProjDwIdeal.main_arg0)
          ∧ r.2.mem ((c.tc : Thread Cert.OutProjDwIdeal.nD Cert.OutProjDwIdeal.τ).loc Cert.OutProjDwIdeal.main_arg1) = m ((c.tc : Thread Cert.OutProjDwIdeal.nD Cert.OutProjDwIdeal.τ).loc Cert.OutProjDwIdeal.main_arg1)
          ∧ r.2.mem ((c.tc : Thread Cert.OutProjDwIdeal.nD Cert.OutProjDwIdeal.τ).loc Cert.OutProjDwIdeal.main_arg2) = m ((c.tc : Thread Cert.OutProjDwIdeal.nD Cert.OutProjDwIdeal.τ).loc Cert.OutProjDwIdeal.main_arg2))
      ∧ θ_run (Cert.OutProjDwRefIdeal.defs (F := Ideal)) (onTc (τ := Cert.OutProjDwRefIdeal.τ) (Cert.OutProjDwRefIdeal.main (F := Ideal))) ⟨m', fun _ => 0, g'⟩ (fun r => ∀ c : Dev Cert.OutProjDwRefIdeal.nD,
          r.2.mem ((c.tc : Thread Cert.OutProjDwRefIdeal.nD Cert.OutProjDwRefIdeal.τ).loc Cert.OutProjDwRefIdeal.main_v6) = v0 c
          ∧ r.2.mem ((c.tc : Thread Cert.OutProjDwRefIdeal.nD Cert.OutProjDwRefIdeal.τ).loc Cert.OutProjDwRefIdeal.main_arg0) = m' ((c.tc : Thread Cert.OutProjDwRefIdeal.nD Cert.OutProjDwRefIdeal.τ).loc Cert.OutProjDwRefIdeal.main_arg0)
          ∧ r.2.mem ((c.tc : Thread Cert.OutProjDwRefIdeal.nD Cert.OutProjDwRefIdeal.τ).loc Cert.OutProjDwRefIdeal.main_arg1) = m' ((c.tc : Thread Cert.OutProjDwRefIdeal.nD Cert.OutProjDwRefIdeal.τ).loc Cert.OutProjDwRefIdeal.main_arg1)
          ∧ r.2.mem ((c.tc : Thread Cert.OutProjDwRefIdeal.nD Cert.OutProjDwRefIdeal.τ).loc Cert.OutProjDwRefIdeal.main_arg2) = m' ((c.tc : Thread Cert.OutProjDwRefIdeal.nD Cert.OutProjDwRefIdeal.τ).loc Cert.OutProjDwRefIdeal.main_arg2))

def preserves_OutProjDwLast_OutProjDwLastIdeal : Prop :=
  True

def algebraic_OutProjDwLastIdeal_OutProjDwLastRefIdeal [hOutProjDwLastIdeal : Cert.OutProjDwLastIdeal.Facts] [hOutProjDwLastRefIdeal : Cert.OutProjDwLastRefIdeal.Facts] : Prop :=
  ∀ (m : (ℓ : Loc Cert.OutProjDwLastIdeal.nD Cert.OutProjDwLastIdeal.τ Cert.OutProjDwLastIdeal.sig) → Buf (Elt Ideal) ℓ) (g : Dev Cert.OutProjDwLastIdeal.nD → PrngReg)
    (m' : (ℓ : Loc Cert.OutProjDwLastRefIdeal.nD Cert.OutProjDwLastRefIdeal.τ Cert.OutProjDwLastRefIdeal.sig) → Buf (Elt Ideal) ℓ) (g' : Dev Cert.OutProjDwLastRefIdeal.nD → PrngReg), Pre_OutProjDwLastIdeal m →
    (∀ c : Dev Cert.OutProjDwLastIdeal.nD,
      m' ((c.tc : Thread Cert.OutProjDwLastRefIdeal.nD Cert.OutProjDwLastRefIdeal.τ).loc Cert.OutProjDwLastRefIdeal.main_arg0) = m ((c.tc : Thread Cert.OutProjDwLastIdeal.nD Cert.OutProjDwLastIdeal.τ).loc Cert.OutProjDwLastIdeal.main_arg0)
      ∧ m' ((c.tc : Thread Cert.OutProjDwLastRefIdeal.nD Cert.OutProjDwLastRefIdeal.τ).loc Cert.OutProjDwLastRefIdeal.main_arg1) = m ((c.tc : Thread Cert.OutProjDwLastIdeal.nD Cert.OutProjDwLastIdeal.τ).loc Cert.OutProjDwLastIdeal.main_arg1)
      ∧ m' ((c.tc : Thread Cert.OutProjDwLastRefIdeal.nD Cert.OutProjDwLastRefIdeal.τ).loc Cert.OutProjDwLastRefIdeal.main_arg2) = m ((c.tc : Thread Cert.OutProjDwLastIdeal.nD Cert.OutProjDwLastIdeal.τ).loc Cert.OutProjDwLastIdeal.main_arg2)) →
    ∃ (v0 : (c : Dev Cert.OutProjDwLastIdeal.nD) → Buf (Elt Ideal) ((c.tc : Thread Cert.OutProjDwLastIdeal.nD Cert.OutProjDwLastIdeal.τ).loc Cert.OutProjDwLastIdeal.main_v0)),
      θ_run (Cert.OutProjDwLastIdeal.defs (F := Ideal)) (onTc (τ := Cert.OutProjDwLastIdeal.τ) (Cert.OutProjDwLastIdeal.main (F := Ideal))) ⟨m, fun _ => 0, g⟩ (fun r => ∀ c : Dev Cert.OutProjDwLastIdeal.nD,
          r.2.mem ((c.tc : Thread Cert.OutProjDwLastIdeal.nD Cert.OutProjDwLastIdeal.τ).loc Cert.OutProjDwLastIdeal.main_v0) = v0 c
          ∧ r.2.mem ((c.tc : Thread Cert.OutProjDwLastIdeal.nD Cert.OutProjDwLastIdeal.τ).loc Cert.OutProjDwLastIdeal.main_arg0) = m ((c.tc : Thread Cert.OutProjDwLastIdeal.nD Cert.OutProjDwLastIdeal.τ).loc Cert.OutProjDwLastIdeal.main_arg0)
          ∧ r.2.mem ((c.tc : Thread Cert.OutProjDwLastIdeal.nD Cert.OutProjDwLastIdeal.τ).loc Cert.OutProjDwLastIdeal.main_arg1) = m ((c.tc : Thread Cert.OutProjDwLastIdeal.nD Cert.OutProjDwLastIdeal.τ).loc Cert.OutProjDwLastIdeal.main_arg1)
          ∧ r.2.mem ((c.tc : Thread Cert.OutProjDwLastIdeal.nD Cert.OutProjDwLastIdeal.τ).loc Cert.OutProjDwLastIdeal.main_arg2) = m ((c.tc : Thread Cert.OutProjDwLastIdeal.nD Cert.OutProjDwLastIdeal.τ).loc Cert.OutProjDwLastIdeal.main_arg2))
      ∧ θ_run (Cert.OutProjDwLastRefIdeal.defs (F := Ideal)) (onTc (τ := Cert.OutProjDwLastRefIdeal.τ) (Cert.OutProjDwLastRefIdeal.main (F := Ideal))) ⟨m', fun _ => 0, g'⟩ (fun r => ∀ c : Dev Cert.OutProjDwLastRefIdeal.nD,
          r.2.mem ((c.tc : Thread Cert.OutProjDwLastRefIdeal.nD Cert.OutProjDwLastRefIdeal.τ).loc Cert.OutProjDwLastRefIdeal.main_v6) = v0 c
          ∧ r.2.mem ((c.tc : Thread Cert.OutProjDwLastRefIdeal.nD Cert.OutProjDwLastRefIdeal.τ).loc Cert.OutProjDwLastRefIdeal.main_arg0) = m' ((c.tc : Thread Cert.OutProjDwLastRefIdeal.nD Cert.OutProjDwLastRefIdeal.τ).loc Cert.OutProjDwLastRefIdeal.main_arg0)
          ∧ r.2.mem ((c.tc : Thread Cert.OutProjDwLastRefIdeal.nD Cert.OutProjDwLastRefIdeal.τ).loc Cert.OutProjDwLastRefIdeal.main_arg1) = m' ((c.tc : Thread Cert.OutProjDwLastRefIdeal.nD Cert.OutProjDwLastRefIdeal.τ).loc Cert.OutProjDwLastRefIdeal.main_arg1)
          ∧ r.2.mem ((c.tc : Thread Cert.OutProjDwLastRefIdeal.nD Cert.OutProjDwLastRefIdeal.τ).loc Cert.OutProjDwLastRefIdeal.main_arg2) = m' ((c.tc : Thread Cert.OutProjDwLastRefIdeal.nD Cert.OutProjDwLastRefIdeal.τ).loc Cert.OutProjDwLastRefIdeal.main_arg2))

def preserves_UpFoxDw_UpFoxDwIdeal : Prop :=
  True

def algebraic_UpFoxDwIdeal_UpFoxDwRefIdeal [hUpFoxDwIdeal : Cert.UpFoxDwIdeal.Facts] [hUpFoxDwRefIdeal : Cert.UpFoxDwRefIdeal.Facts] : Prop :=
  ∀ (m : (ℓ : Loc Cert.UpFoxDwIdeal.nD Cert.UpFoxDwIdeal.τ Cert.UpFoxDwIdeal.sig) → Buf (Elt Ideal) ℓ) (g : Dev Cert.UpFoxDwIdeal.nD → PrngReg)
    (m' : (ℓ : Loc Cert.UpFoxDwRefIdeal.nD Cert.UpFoxDwRefIdeal.τ Cert.UpFoxDwRefIdeal.sig) → Buf (Elt Ideal) ℓ) (g' : Dev Cert.UpFoxDwRefIdeal.nD → PrngReg), Pre_UpFoxDwIdeal m →
    (∀ c : Dev Cert.UpFoxDwIdeal.nD,
      m' ((c.tc : Thread Cert.UpFoxDwRefIdeal.nD Cert.UpFoxDwRefIdeal.τ).loc Cert.UpFoxDwRefIdeal.main_arg0) = m ((c.tc : Thread Cert.UpFoxDwIdeal.nD Cert.UpFoxDwIdeal.τ).loc Cert.UpFoxDwIdeal.main_arg0)
      ∧ m' ((c.tc : Thread Cert.UpFoxDwRefIdeal.nD Cert.UpFoxDwRefIdeal.τ).loc Cert.UpFoxDwRefIdeal.main_arg1) = m ((c.tc : Thread Cert.UpFoxDwIdeal.nD Cert.UpFoxDwIdeal.τ).loc Cert.UpFoxDwIdeal.main_arg1)
      ∧ m' ((c.tc : Thread Cert.UpFoxDwRefIdeal.nD Cert.UpFoxDwRefIdeal.τ).loc Cert.UpFoxDwRefIdeal.main_arg2) = m ((c.tc : Thread Cert.UpFoxDwIdeal.nD Cert.UpFoxDwIdeal.τ).loc Cert.UpFoxDwIdeal.main_arg2)) →
    ∃ (v0 : (c : Dev Cert.UpFoxDwIdeal.nD) → Buf (Elt Ideal) ((c.tc : Thread Cert.UpFoxDwIdeal.nD Cert.UpFoxDwIdeal.τ).loc Cert.UpFoxDwIdeal.main_v0)),
      θ_run (Cert.UpFoxDwIdeal.defs (F := Ideal)) (onTc (τ := Cert.UpFoxDwIdeal.τ) (Cert.UpFoxDwIdeal.main (F := Ideal))) ⟨m, fun _ => 0, g⟩ (fun r => ∀ c : Dev Cert.UpFoxDwIdeal.nD,
          r.2.mem ((c.tc : Thread Cert.UpFoxDwIdeal.nD Cert.UpFoxDwIdeal.τ).loc Cert.UpFoxDwIdeal.main_v0) = v0 c
          ∧ r.2.mem ((c.tc : Thread Cert.UpFoxDwIdeal.nD Cert.UpFoxDwIdeal.τ).loc Cert.UpFoxDwIdeal.main_arg0) = m ((c.tc : Thread Cert.UpFoxDwIdeal.nD Cert.UpFoxDwIdeal.τ).loc Cert.UpFoxDwIdeal.main_arg0)
          ∧ r.2.mem ((c.tc : Thread Cert.UpFoxDwIdeal.nD Cert.UpFoxDwIdeal.τ).loc Cert.UpFoxDwIdeal.main_arg1) = m ((c.tc : Thread Cert.UpFoxDwIdeal.nD Cert.UpFoxDwIdeal.τ).loc Cert.UpFoxDwIdeal.main_arg1)
          ∧ r.2.mem ((c.tc : Thread Cert.UpFoxDwIdeal.nD Cert.UpFoxDwIdeal.τ).loc Cert.UpFoxDwIdeal.main_arg2) = m ((c.tc : Thread Cert.UpFoxDwIdeal.nD Cert.UpFoxDwIdeal.τ).loc Cert.UpFoxDwIdeal.main_arg2))
      ∧ θ_run (Cert.UpFoxDwRefIdeal.defs (F := Ideal)) (onTc (τ := Cert.UpFoxDwRefIdeal.τ) (Cert.UpFoxDwRefIdeal.main (F := Ideal))) ⟨m', fun _ => 0, g'⟩ (fun r => ∀ c : Dev Cert.UpFoxDwRefIdeal.nD,
          r.2.mem ((c.tc : Thread Cert.UpFoxDwRefIdeal.nD Cert.UpFoxDwRefIdeal.τ).loc Cert.UpFoxDwRefIdeal.main_v8) = v0 c
          ∧ r.2.mem ((c.tc : Thread Cert.UpFoxDwRefIdeal.nD Cert.UpFoxDwRefIdeal.τ).loc Cert.UpFoxDwRefIdeal.main_arg0) = m' ((c.tc : Thread Cert.UpFoxDwRefIdeal.nD Cert.UpFoxDwRefIdeal.τ).loc Cert.UpFoxDwRefIdeal.main_arg0)
          ∧ r.2.mem ((c.tc : Thread Cert.UpFoxDwRefIdeal.nD Cert.UpFoxDwRefIdeal.τ).loc Cert.UpFoxDwRefIdeal.main_arg1) = m' ((c.tc : Thread Cert.UpFoxDwRefIdeal.nD Cert.UpFoxDwRefIdeal.τ).loc Cert.UpFoxDwRefIdeal.main_arg1)
          ∧ r.2.mem ((c.tc : Thread Cert.UpFoxDwRefIdeal.nD Cert.UpFoxDwRefIdeal.τ).loc Cert.UpFoxDwRefIdeal.main_arg2) = m' ((c.tc : Thread Cert.UpFoxDwRefIdeal.nD Cert.UpFoxDwRefIdeal.τ).loc Cert.UpFoxDwRefIdeal.main_arg2))

def preserves_UpFoxDwLast_UpFoxDwLastIdeal : Prop :=
  True

def algebraic_UpFoxDwLastIdeal_UpFoxDwLastRefIdeal [hUpFoxDwLastIdeal : Cert.UpFoxDwLastIdeal.Facts] [hUpFoxDwLastRefIdeal : Cert.UpFoxDwLastRefIdeal.Facts] : Prop :=
  ∀ (m : (ℓ : Loc Cert.UpFoxDwLastIdeal.nD Cert.UpFoxDwLastIdeal.τ Cert.UpFoxDwLastIdeal.sig) → Buf (Elt Ideal) ℓ) (g : Dev Cert.UpFoxDwLastIdeal.nD → PrngReg)
    (m' : (ℓ : Loc Cert.UpFoxDwLastRefIdeal.nD Cert.UpFoxDwLastRefIdeal.τ Cert.UpFoxDwLastRefIdeal.sig) → Buf (Elt Ideal) ℓ) (g' : Dev Cert.UpFoxDwLastRefIdeal.nD → PrngReg), Pre_UpFoxDwLastIdeal m →
    (∀ c : Dev Cert.UpFoxDwLastIdeal.nD,
      m' ((c.tc : Thread Cert.UpFoxDwLastRefIdeal.nD Cert.UpFoxDwLastRefIdeal.τ).loc Cert.UpFoxDwLastRefIdeal.main_arg0) = m ((c.tc : Thread Cert.UpFoxDwLastIdeal.nD Cert.UpFoxDwLastIdeal.τ).loc Cert.UpFoxDwLastIdeal.main_arg0)
      ∧ m' ((c.tc : Thread Cert.UpFoxDwLastRefIdeal.nD Cert.UpFoxDwLastRefIdeal.τ).loc Cert.UpFoxDwLastRefIdeal.main_arg1) = m ((c.tc : Thread Cert.UpFoxDwLastIdeal.nD Cert.UpFoxDwLastIdeal.τ).loc Cert.UpFoxDwLastIdeal.main_arg1)
      ∧ m' ((c.tc : Thread Cert.UpFoxDwLastRefIdeal.nD Cert.UpFoxDwLastRefIdeal.τ).loc Cert.UpFoxDwLastRefIdeal.main_arg2) = m ((c.tc : Thread Cert.UpFoxDwLastIdeal.nD Cert.UpFoxDwLastIdeal.τ).loc Cert.UpFoxDwLastIdeal.main_arg2)) →
    ∃ (v0 : (c : Dev Cert.UpFoxDwLastIdeal.nD) → Buf (Elt Ideal) ((c.tc : Thread Cert.UpFoxDwLastIdeal.nD Cert.UpFoxDwLastIdeal.τ).loc Cert.UpFoxDwLastIdeal.main_v0)),
      θ_run (Cert.UpFoxDwLastIdeal.defs (F := Ideal)) (onTc (τ := Cert.UpFoxDwLastIdeal.τ) (Cert.UpFoxDwLastIdeal.main (F := Ideal))) ⟨m, fun _ => 0, g⟩ (fun r => ∀ c : Dev Cert.UpFoxDwLastIdeal.nD,
          r.2.mem ((c.tc : Thread Cert.UpFoxDwLastIdeal.nD Cert.UpFoxDwLastIdeal.τ).loc Cert.UpFoxDwLastIdeal.main_v0) = v0 c
          ∧ r.2.mem ((c.tc : Thread Cert.UpFoxDwLastIdeal.nD Cert.UpFoxDwLastIdeal.τ).loc Cert.UpFoxDwLastIdeal.main_arg0) = m ((c.tc : Thread Cert.UpFoxDwLastIdeal.nD Cert.UpFoxDwLastIdeal.τ).loc Cert.UpFoxDwLastIdeal.main_arg0)
          ∧ r.2.mem ((c.tc : Thread Cert.UpFoxDwLastIdeal.nD Cert.UpFoxDwLastIdeal.τ).loc Cert.UpFoxDwLastIdeal.main_arg1) = m ((c.tc : Thread Cert.UpFoxDwLastIdeal.nD Cert.UpFoxDwLastIdeal.τ).loc Cert.UpFoxDwLastIdeal.main_arg1)
          ∧ r.2.mem ((c.tc : Thread Cert.UpFoxDwLastIdeal.nD Cert.UpFoxDwLastIdeal.τ).loc Cert.UpFoxDwLastIdeal.main_arg2) = m ((c.tc : Thread Cert.UpFoxDwLastIdeal.nD Cert.UpFoxDwLastIdeal.τ).loc Cert.UpFoxDwLastIdeal.main_arg2))
      ∧ θ_run (Cert.UpFoxDwLastRefIdeal.defs (F := Ideal)) (onTc (τ := Cert.UpFoxDwLastRefIdeal.τ) (Cert.UpFoxDwLastRefIdeal.main (F := Ideal))) ⟨m', fun _ => 0, g'⟩ (fun r => ∀ c : Dev Cert.UpFoxDwLastRefIdeal.nD,
          r.2.mem ((c.tc : Thread Cert.UpFoxDwLastRefIdeal.nD Cert.UpFoxDwLastRefIdeal.τ).loc Cert.UpFoxDwLastRefIdeal.main_v8) = v0 c
          ∧ r.2.mem ((c.tc : Thread Cert.UpFoxDwLastRefIdeal.nD Cert.UpFoxDwLastRefIdeal.τ).loc Cert.UpFoxDwLastRefIdeal.main_arg0) = m' ((c.tc : Thread Cert.UpFoxDwLastRefIdeal.nD Cert.UpFoxDwLastRefIdeal.τ).loc Cert.UpFoxDwLastRefIdeal.main_arg0)
          ∧ r.2.mem ((c.tc : Thread Cert.UpFoxDwLastRefIdeal.nD Cert.UpFoxDwLastRefIdeal.τ).loc Cert.UpFoxDwLastRefIdeal.main_arg1) = m' ((c.tc : Thread Cert.UpFoxDwLastRefIdeal.nD Cert.UpFoxDwLastRefIdeal.τ).loc Cert.UpFoxDwLastRefIdeal.main_arg1)
          ∧ r.2.mem ((c.tc : Thread Cert.UpFoxDwLastRefIdeal.nD Cert.UpFoxDwLastRefIdeal.τ).loc Cert.UpFoxDwLastRefIdeal.main_arg2) = m' ((c.tc : Thread Cert.UpFoxDwLastRefIdeal.nD Cert.UpFoxDwLastRefIdeal.τ).loc Cert.UpFoxDwLastRefIdeal.main_arg2))

def preserves_UpSbDw_UpSbDwIdeal : Prop :=
  True

def algebraic_UpSbDwIdeal_UpSbDwRefIdeal [hUpSbDwIdeal : Cert.UpSbDwIdeal.Facts] [hUpSbDwRefIdeal : Cert.UpSbDwRefIdeal.Facts] : Prop :=
  ∀ (m : (ℓ : Loc Cert.UpSbDwIdeal.nD Cert.UpSbDwIdeal.τ Cert.UpSbDwIdeal.sig) → Buf (Elt Ideal) ℓ) (g : Dev Cert.UpSbDwIdeal.nD → PrngReg)
    (m' : (ℓ : Loc Cert.UpSbDwRefIdeal.nD Cert.UpSbDwRefIdeal.τ Cert.UpSbDwRefIdeal.sig) → Buf (Elt Ideal) ℓ) (g' : Dev Cert.UpSbDwRefIdeal.nD → PrngReg), Pre_UpSbDwIdeal m →
    (∀ c : Dev Cert.UpSbDwIdeal.nD,
      m' ((c.tc : Thread Cert.UpSbDwRefIdeal.nD Cert.UpSbDwRefIdeal.τ).loc Cert.UpSbDwRefIdeal.main_arg0) = m ((c.tc : Thread Cert.UpSbDwIdeal.nD Cert.UpSbDwIdeal.τ).loc Cert.UpSbDwIdeal.main_arg0)
      ∧ m' ((c.tc : Thread Cert.UpSbDwRefIdeal.nD Cert.UpSbDwRefIdeal.τ).loc Cert.UpSbDwRefIdeal.main_arg1) = m ((c.tc : Thread Cert.UpSbDwIdeal.nD Cert.UpSbDwIdeal.τ).loc Cert.UpSbDwIdeal.main_arg1)
      ∧ m' ((c.tc : Thread Cert.UpSbDwRefIdeal.nD Cert.UpSbDwRefIdeal.τ).loc Cert.UpSbDwRefIdeal.main_arg2) = m ((c.tc : Thread Cert.UpSbDwIdeal.nD Cert.UpSbDwIdeal.τ).loc Cert.UpSbDwIdeal.main_arg2)) →
    ∃ (v0 : (c : Dev Cert.UpSbDwIdeal.nD) → Buf (Elt Ideal) ((c.tc : Thread Cert.UpSbDwIdeal.nD Cert.UpSbDwIdeal.τ).loc Cert.UpSbDwIdeal.main_v0)),
      θ_run (Cert.UpSbDwIdeal.defs (F := Ideal)) (onTc (τ := Cert.UpSbDwIdeal.τ) (Cert.UpSbDwIdeal.main (F := Ideal))) ⟨m, fun _ => 0, g⟩ (fun r => ∀ c : Dev Cert.UpSbDwIdeal.nD,
          r.2.mem ((c.tc : Thread Cert.UpSbDwIdeal.nD Cert.UpSbDwIdeal.τ).loc Cert.UpSbDwIdeal.main_v0) = v0 c
          ∧ r.2.mem ((c.tc : Thread Cert.UpSbDwIdeal.nD Cert.UpSbDwIdeal.τ).loc Cert.UpSbDwIdeal.main_arg0) = m ((c.tc : Thread Cert.UpSbDwIdeal.nD Cert.UpSbDwIdeal.τ).loc Cert.UpSbDwIdeal.main_arg0)
          ∧ r.2.mem ((c.tc : Thread Cert.UpSbDwIdeal.nD Cert.UpSbDwIdeal.τ).loc Cert.UpSbDwIdeal.main_arg1) = m ((c.tc : Thread Cert.UpSbDwIdeal.nD Cert.UpSbDwIdeal.τ).loc Cert.UpSbDwIdeal.main_arg1)
          ∧ r.2.mem ((c.tc : Thread Cert.UpSbDwIdeal.nD Cert.UpSbDwIdeal.τ).loc Cert.UpSbDwIdeal.main_arg2) = m ((c.tc : Thread Cert.UpSbDwIdeal.nD Cert.UpSbDwIdeal.τ).loc Cert.UpSbDwIdeal.main_arg2))
      ∧ θ_run (Cert.UpSbDwRefIdeal.defs (F := Ideal)) (onTc (τ := Cert.UpSbDwRefIdeal.τ) (Cert.UpSbDwRefIdeal.main (F := Ideal))) ⟨m', fun _ => 0, g'⟩ (fun r => ∀ c : Dev Cert.UpSbDwRefIdeal.nD,
          r.2.mem ((c.tc : Thread Cert.UpSbDwRefIdeal.nD Cert.UpSbDwRefIdeal.τ).loc Cert.UpSbDwRefIdeal.main_v8) = v0 c
          ∧ r.2.mem ((c.tc : Thread Cert.UpSbDwRefIdeal.nD Cert.UpSbDwRefIdeal.τ).loc Cert.UpSbDwRefIdeal.main_arg0) = m' ((c.tc : Thread Cert.UpSbDwRefIdeal.nD Cert.UpSbDwRefIdeal.τ).loc Cert.UpSbDwRefIdeal.main_arg0)
          ∧ r.2.mem ((c.tc : Thread Cert.UpSbDwRefIdeal.nD Cert.UpSbDwRefIdeal.τ).loc Cert.UpSbDwRefIdeal.main_arg1) = m' ((c.tc : Thread Cert.UpSbDwRefIdeal.nD Cert.UpSbDwRefIdeal.τ).loc Cert.UpSbDwRefIdeal.main_arg1)
          ∧ r.2.mem ((c.tc : Thread Cert.UpSbDwRefIdeal.nD Cert.UpSbDwRefIdeal.τ).loc Cert.UpSbDwRefIdeal.main_arg2) = m' ((c.tc : Thread Cert.UpSbDwRefIdeal.nD Cert.UpSbDwRefIdeal.τ).loc Cert.UpSbDwRefIdeal.main_arg2))

def preserves_UpSbDwLast_UpSbDwLastIdeal : Prop :=
  True

def algebraic_UpSbDwLastIdeal_UpSbDwLastRefIdeal [hUpSbDwLastIdeal : Cert.UpSbDwLastIdeal.Facts] [hUpSbDwLastRefIdeal : Cert.UpSbDwLastRefIdeal.Facts] : Prop :=
  ∀ (m : (ℓ : Loc Cert.UpSbDwLastIdeal.nD Cert.UpSbDwLastIdeal.τ Cert.UpSbDwLastIdeal.sig) → Buf (Elt Ideal) ℓ) (g : Dev Cert.UpSbDwLastIdeal.nD → PrngReg)
    (m' : (ℓ : Loc Cert.UpSbDwLastRefIdeal.nD Cert.UpSbDwLastRefIdeal.τ Cert.UpSbDwLastRefIdeal.sig) → Buf (Elt Ideal) ℓ) (g' : Dev Cert.UpSbDwLastRefIdeal.nD → PrngReg), Pre_UpSbDwLastIdeal m →
    (∀ c : Dev Cert.UpSbDwLastIdeal.nD,
      m' ((c.tc : Thread Cert.UpSbDwLastRefIdeal.nD Cert.UpSbDwLastRefIdeal.τ).loc Cert.UpSbDwLastRefIdeal.main_arg0) = m ((c.tc : Thread Cert.UpSbDwLastIdeal.nD Cert.UpSbDwLastIdeal.τ).loc Cert.UpSbDwLastIdeal.main_arg0)
      ∧ m' ((c.tc : Thread Cert.UpSbDwLastRefIdeal.nD Cert.UpSbDwLastRefIdeal.τ).loc Cert.UpSbDwLastRefIdeal.main_arg1) = m ((c.tc : Thread Cert.UpSbDwLastIdeal.nD Cert.UpSbDwLastIdeal.τ).loc Cert.UpSbDwLastIdeal.main_arg1)
      ∧ m' ((c.tc : Thread Cert.UpSbDwLastRefIdeal.nD Cert.UpSbDwLastRefIdeal.τ).loc Cert.UpSbDwLastRefIdeal.main_arg2) = m ((c.tc : Thread Cert.UpSbDwLastIdeal.nD Cert.UpSbDwLastIdeal.τ).loc Cert.UpSbDwLastIdeal.main_arg2)) →
    ∃ (v0 : (c : Dev Cert.UpSbDwLastIdeal.nD) → Buf (Elt Ideal) ((c.tc : Thread Cert.UpSbDwLastIdeal.nD Cert.UpSbDwLastIdeal.τ).loc Cert.UpSbDwLastIdeal.main_v0)),
      θ_run (Cert.UpSbDwLastIdeal.defs (F := Ideal)) (onTc (τ := Cert.UpSbDwLastIdeal.τ) (Cert.UpSbDwLastIdeal.main (F := Ideal))) ⟨m, fun _ => 0, g⟩ (fun r => ∀ c : Dev Cert.UpSbDwLastIdeal.nD,
          r.2.mem ((c.tc : Thread Cert.UpSbDwLastIdeal.nD Cert.UpSbDwLastIdeal.τ).loc Cert.UpSbDwLastIdeal.main_v0) = v0 c
          ∧ r.2.mem ((c.tc : Thread Cert.UpSbDwLastIdeal.nD Cert.UpSbDwLastIdeal.τ).loc Cert.UpSbDwLastIdeal.main_arg0) = m ((c.tc : Thread Cert.UpSbDwLastIdeal.nD Cert.UpSbDwLastIdeal.τ).loc Cert.UpSbDwLastIdeal.main_arg0)
          ∧ r.2.mem ((c.tc : Thread Cert.UpSbDwLastIdeal.nD Cert.UpSbDwLastIdeal.τ).loc Cert.UpSbDwLastIdeal.main_arg1) = m ((c.tc : Thread Cert.UpSbDwLastIdeal.nD Cert.UpSbDwLastIdeal.τ).loc Cert.UpSbDwLastIdeal.main_arg1)
          ∧ r.2.mem ((c.tc : Thread Cert.UpSbDwLastIdeal.nD Cert.UpSbDwLastIdeal.τ).loc Cert.UpSbDwLastIdeal.main_arg2) = m ((c.tc : Thread Cert.UpSbDwLastIdeal.nD Cert.UpSbDwLastIdeal.τ).loc Cert.UpSbDwLastIdeal.main_arg2))
      ∧ θ_run (Cert.UpSbDwLastRefIdeal.defs (F := Ideal)) (onTc (τ := Cert.UpSbDwLastRefIdeal.τ) (Cert.UpSbDwLastRefIdeal.main (F := Ideal))) ⟨m', fun _ => 0, g'⟩ (fun r => ∀ c : Dev Cert.UpSbDwLastRefIdeal.nD,
          r.2.mem ((c.tc : Thread Cert.UpSbDwLastRefIdeal.nD Cert.UpSbDwLastRefIdeal.τ).loc Cert.UpSbDwLastRefIdeal.main_v8) = v0 c
          ∧ r.2.mem ((c.tc : Thread Cert.UpSbDwLastRefIdeal.nD Cert.UpSbDwLastRefIdeal.τ).loc Cert.UpSbDwLastRefIdeal.main_arg0) = m' ((c.tc : Thread Cert.UpSbDwLastRefIdeal.nD Cert.UpSbDwLastRefIdeal.τ).loc Cert.UpSbDwLastRefIdeal.main_arg0)
          ∧ r.2.mem ((c.tc : Thread Cert.UpSbDwLastRefIdeal.nD Cert.UpSbDwLastRefIdeal.τ).loc Cert.UpSbDwLastRefIdeal.main_arg1) = m' ((c.tc : Thread Cert.UpSbDwLastRefIdeal.nD Cert.UpSbDwLastRefIdeal.τ).loc Cert.UpSbDwLastRefIdeal.main_arg1)
          ∧ r.2.mem ((c.tc : Thread Cert.UpSbDwLastRefIdeal.nD Cert.UpSbDwLastRefIdeal.τ).loc Cert.UpSbDwLastRefIdeal.main_arg2) = m' ((c.tc : Thread Cert.UpSbDwLastRefIdeal.nD Cert.UpSbDwLastRefIdeal.τ).loc Cert.UpSbDwLastRefIdeal.main_arg2))

def preserves_UpDilDw_UpDilDwIdeal : Prop :=
  True

def algebraic_UpDilDwIdeal_UpDilDwRefIdeal [hUpDilDwIdeal : Cert.UpDilDwIdeal.Facts] [hUpDilDwRefIdeal : Cert.UpDilDwRefIdeal.Facts] : Prop :=
  ∀ (m : (ℓ : Loc Cert.UpDilDwIdeal.nD Cert.UpDilDwIdeal.τ Cert.UpDilDwIdeal.sig) → Buf (Elt Ideal) ℓ) (g : Dev Cert.UpDilDwIdeal.nD → PrngReg)
    (m' : (ℓ : Loc Cert.UpDilDwRefIdeal.nD Cert.UpDilDwRefIdeal.τ Cert.UpDilDwRefIdeal.sig) → Buf (Elt Ideal) ℓ) (g' : Dev Cert.UpDilDwRefIdeal.nD → PrngReg), Pre_UpDilDwIdeal m →
    (∀ c : Dev Cert.UpDilDwIdeal.nD,
      m' ((c.tc : Thread Cert.UpDilDwRefIdeal.nD Cert.UpDilDwRefIdeal.τ).loc Cert.UpDilDwRefIdeal.main_arg0) = m ((c.tc : Thread Cert.UpDilDwIdeal.nD Cert.UpDilDwIdeal.τ).loc Cert.UpDilDwIdeal.main_arg0)
      ∧ m' ((c.tc : Thread Cert.UpDilDwRefIdeal.nD Cert.UpDilDwRefIdeal.τ).loc Cert.UpDilDwRefIdeal.main_arg1) = m ((c.tc : Thread Cert.UpDilDwIdeal.nD Cert.UpDilDwIdeal.τ).loc Cert.UpDilDwIdeal.main_arg1)
      ∧ m' ((c.tc : Thread Cert.UpDilDwRefIdeal.nD Cert.UpDilDwRefIdeal.τ).loc Cert.UpDilDwRefIdeal.main_arg2) = m ((c.tc : Thread Cert.UpDilDwIdeal.nD Cert.UpDilDwIdeal.τ).loc Cert.UpDilDwIdeal.main_arg2)) →
    ∃ (v0 : (c : Dev Cert.UpDilDwIdeal.nD) → Buf (Elt Ideal) ((c.tc : Thread Cert.UpDilDwIdeal.nD Cert.UpDilDwIdeal.τ).loc Cert.UpDilDwIdeal.main_v0)),
      θ_run (Cert.UpDilDwIdeal.defs (F := Ideal)) (onTc (τ := Cert.UpDilDwIdeal.τ) (Cert.UpDilDwIdeal.main (F := Ideal))) ⟨m, fun _ => 0, g⟩ (fun r => ∀ c : Dev Cert.UpDilDwIdeal.nD,
          r.2.mem ((c.tc : Thread Cert.UpDilDwIdeal.nD Cert.UpDilDwIdeal.τ).loc Cert.UpDilDwIdeal.main_v0) = v0 c
          ∧ r.2.mem ((c.tc : Thread Cert.UpDilDwIdeal.nD Cert.UpDilDwIdeal.τ).loc Cert.UpDilDwIdeal.main_arg0) = m ((c.tc : Thread Cert.UpDilDwIdeal.nD Cert.UpDilDwIdeal.τ).loc Cert.UpDilDwIdeal.main_arg0)
          ∧ r.2.mem ((c.tc : Thread Cert.UpDilDwIdeal.nD Cert.UpDilDwIdeal.τ).loc Cert.UpDilDwIdeal.main_arg1) = m ((c.tc : Thread Cert.UpDilDwIdeal.nD Cert.UpDilDwIdeal.τ).loc Cert.UpDilDwIdeal.main_arg1)
          ∧ r.2.mem ((c.tc : Thread Cert.UpDilDwIdeal.nD Cert.UpDilDwIdeal.τ).loc Cert.UpDilDwIdeal.main_arg2) = m ((c.tc : Thread Cert.UpDilDwIdeal.nD Cert.UpDilDwIdeal.τ).loc Cert.UpDilDwIdeal.main_arg2))
      ∧ θ_run (Cert.UpDilDwRefIdeal.defs (F := Ideal)) (onTc (τ := Cert.UpDilDwRefIdeal.τ) (Cert.UpDilDwRefIdeal.main (F := Ideal))) ⟨m', fun _ => 0, g'⟩ (fun r => ∀ c : Dev Cert.UpDilDwRefIdeal.nD,
          r.2.mem ((c.tc : Thread Cert.UpDilDwRefIdeal.nD Cert.UpDilDwRefIdeal.τ).loc Cert.UpDilDwRefIdeal.main_v8) = v0 c
          ∧ r.2.mem ((c.tc : Thread Cert.UpDilDwRefIdeal.nD Cert.UpDilDwRefIdeal.τ).loc Cert.UpDilDwRefIdeal.main_arg0) = m' ((c.tc : Thread Cert.UpDilDwRefIdeal.nD Cert.UpDilDwRefIdeal.τ).loc Cert.UpDilDwRefIdeal.main_arg0)
          ∧ r.2.mem ((c.tc : Thread Cert.UpDilDwRefIdeal.nD Cert.UpDilDwRefIdeal.τ).loc Cert.UpDilDwRefIdeal.main_arg1) = m' ((c.tc : Thread Cert.UpDilDwRefIdeal.nD Cert.UpDilDwRefIdeal.τ).loc Cert.UpDilDwRefIdeal.main_arg1)
          ∧ r.2.mem ((c.tc : Thread Cert.UpDilDwRefIdeal.nD Cert.UpDilDwRefIdeal.τ).loc Cert.UpDilDwRefIdeal.main_arg2) = m' ((c.tc : Thread Cert.UpDilDwRefIdeal.nD Cert.UpDilDwRefIdeal.τ).loc Cert.UpDilDwRefIdeal.main_arg2))

def preserves_UpDilDwLast_UpDilDwLastIdeal : Prop :=
  True

def algebraic_UpDilDwLastIdeal_UpDilDwLastRefIdeal [hUpDilDwLastIdeal : Cert.UpDilDwLastIdeal.Facts] [hUpDilDwLastRefIdeal : Cert.UpDilDwLastRefIdeal.Facts] : Prop :=
  ∀ (m : (ℓ : Loc Cert.UpDilDwLastIdeal.nD Cert.UpDilDwLastIdeal.τ Cert.UpDilDwLastIdeal.sig) → Buf (Elt Ideal) ℓ) (g : Dev Cert.UpDilDwLastIdeal.nD → PrngReg)
    (m' : (ℓ : Loc Cert.UpDilDwLastRefIdeal.nD Cert.UpDilDwLastRefIdeal.τ Cert.UpDilDwLastRefIdeal.sig) → Buf (Elt Ideal) ℓ) (g' : Dev Cert.UpDilDwLastRefIdeal.nD → PrngReg), Pre_UpDilDwLastIdeal m →
    (∀ c : Dev Cert.UpDilDwLastIdeal.nD,
      m' ((c.tc : Thread Cert.UpDilDwLastRefIdeal.nD Cert.UpDilDwLastRefIdeal.τ).loc Cert.UpDilDwLastRefIdeal.main_arg0) = m ((c.tc : Thread Cert.UpDilDwLastIdeal.nD Cert.UpDilDwLastIdeal.τ).loc Cert.UpDilDwLastIdeal.main_arg0)
      ∧ m' ((c.tc : Thread Cert.UpDilDwLastRefIdeal.nD Cert.UpDilDwLastRefIdeal.τ).loc Cert.UpDilDwLastRefIdeal.main_arg1) = m ((c.tc : Thread Cert.UpDilDwLastIdeal.nD Cert.UpDilDwLastIdeal.τ).loc Cert.UpDilDwLastIdeal.main_arg1)
      ∧ m' ((c.tc : Thread Cert.UpDilDwLastRefIdeal.nD Cert.UpDilDwLastRefIdeal.τ).loc Cert.UpDilDwLastRefIdeal.main_arg2) = m ((c.tc : Thread Cert.UpDilDwLastIdeal.nD Cert.UpDilDwLastIdeal.τ).loc Cert.UpDilDwLastIdeal.main_arg2)) →
    ∃ (v0 : (c : Dev Cert.UpDilDwLastIdeal.nD) → Buf (Elt Ideal) ((c.tc : Thread Cert.UpDilDwLastIdeal.nD Cert.UpDilDwLastIdeal.τ).loc Cert.UpDilDwLastIdeal.main_v0)),
      θ_run (Cert.UpDilDwLastIdeal.defs (F := Ideal)) (onTc (τ := Cert.UpDilDwLastIdeal.τ) (Cert.UpDilDwLastIdeal.main (F := Ideal))) ⟨m, fun _ => 0, g⟩ (fun r => ∀ c : Dev Cert.UpDilDwLastIdeal.nD,
          r.2.mem ((c.tc : Thread Cert.UpDilDwLastIdeal.nD Cert.UpDilDwLastIdeal.τ).loc Cert.UpDilDwLastIdeal.main_v0) = v0 c
          ∧ r.2.mem ((c.tc : Thread Cert.UpDilDwLastIdeal.nD Cert.UpDilDwLastIdeal.τ).loc Cert.UpDilDwLastIdeal.main_arg0) = m ((c.tc : Thread Cert.UpDilDwLastIdeal.nD Cert.UpDilDwLastIdeal.τ).loc Cert.UpDilDwLastIdeal.main_arg0)
          ∧ r.2.mem ((c.tc : Thread Cert.UpDilDwLastIdeal.nD Cert.UpDilDwLastIdeal.τ).loc Cert.UpDilDwLastIdeal.main_arg1) = m ((c.tc : Thread Cert.UpDilDwLastIdeal.nD Cert.UpDilDwLastIdeal.τ).loc Cert.UpDilDwLastIdeal.main_arg1)
          ∧ r.2.mem ((c.tc : Thread Cert.UpDilDwLastIdeal.nD Cert.UpDilDwLastIdeal.τ).loc Cert.UpDilDwLastIdeal.main_arg2) = m ((c.tc : Thread Cert.UpDilDwLastIdeal.nD Cert.UpDilDwLastIdeal.τ).loc Cert.UpDilDwLastIdeal.main_arg2))
      ∧ θ_run (Cert.UpDilDwLastRefIdeal.defs (F := Ideal)) (onTc (τ := Cert.UpDilDwLastRefIdeal.τ) (Cert.UpDilDwLastRefIdeal.main (F := Ideal))) ⟨m', fun _ => 0, g'⟩ (fun r => ∀ c : Dev Cert.UpDilDwLastRefIdeal.nD,
          r.2.mem ((c.tc : Thread Cert.UpDilDwLastRefIdeal.nD Cert.UpDilDwLastRefIdeal.τ).loc Cert.UpDilDwLastRefIdeal.main_v8) = v0 c
          ∧ r.2.mem ((c.tc : Thread Cert.UpDilDwLastRefIdeal.nD Cert.UpDilDwLastRefIdeal.τ).loc Cert.UpDilDwLastRefIdeal.main_arg0) = m' ((c.tc : Thread Cert.UpDilDwLastRefIdeal.nD Cert.UpDilDwLastRefIdeal.τ).loc Cert.UpDilDwLastRefIdeal.main_arg0)
          ∧ r.2.mem ((c.tc : Thread Cert.UpDilDwLastRefIdeal.nD Cert.UpDilDwLastRefIdeal.τ).loc Cert.UpDilDwLastRefIdeal.main_arg1) = m' ((c.tc : Thread Cert.UpDilDwLastRefIdeal.nD Cert.UpDilDwLastRefIdeal.τ).loc Cert.UpDilDwLastRefIdeal.main_arg1)
          ∧ r.2.mem ((c.tc : Thread Cert.UpDilDwLastRefIdeal.nD Cert.UpDilDwLastRefIdeal.τ).loc Cert.UpDilDwLastRefIdeal.main_arg2) = m' ((c.tc : Thread Cert.UpDilDwLastRefIdeal.nD Cert.UpDilDwLastRefIdeal.τ).loc Cert.UpDilDwLastRefIdeal.main_arg2))

def preserves_Up_UpIdeal : Prop :=
  True

def algebraic_UpIdeal_UpRefIdeal [hUpIdeal : Cert.UpIdeal.Facts] [hUpRefIdeal : Cert.UpRefIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpRefIdeal.nD Cert.UpRefIdeal.τ Cert.UpRefIdeal.sig) → Buf (Elt Ideal) ℓ) (g' : Dev Cert.UpRefIdeal.nD → PrngReg), Pre_UpIdeal m →
    (∀ c : Dev Cert.UpIdeal.nD,
      m' ((c.tc : Thread Cert.UpRefIdeal.nD Cert.UpRefIdeal.τ).loc Cert.UpRefIdeal.main_arg0) = m ((c.tc : Thread Cert.UpIdeal.nD Cert.UpIdeal.τ).loc Cert.UpIdeal.main_arg0)
      ∧ m' ((c.tc : Thread Cert.UpRefIdeal.nD Cert.UpRefIdeal.τ).loc Cert.UpRefIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpRefIdeal.defs (F := Ideal)) (onTc (τ := Cert.UpRefIdeal.τ) (Cert.UpRefIdeal.main (F := Ideal))) ⟨m', fun _ => 0, g'⟩ (fun r => ∀ c : Dev Cert.UpRefIdeal.nD,
          r.2.mem ((c.tc : Thread Cert.UpRefIdeal.nD Cert.UpRefIdeal.τ).loc Cert.UpRefIdeal.main_v2) = v0 c
          ∧ r.2.mem ((c.tc : Thread Cert.UpRefIdeal.nD Cert.UpRefIdeal.τ).loc Cert.UpRefIdeal.main_arg0) = m' ((c.tc : Thread Cert.UpRefIdeal.nD Cert.UpRefIdeal.τ).loc Cert.UpRefIdeal.main_arg0)
          ∧ r.2.mem ((c.tc : Thread Cert.UpRefIdeal.nD Cert.UpRefIdeal.τ).loc Cert.UpRefIdeal.main_arg1) = m' ((c.tc : Thread Cert.UpRefIdeal.nD Cert.UpRefIdeal.τ).loc Cert.UpRefIdeal.main_arg1))

def preserves_UpDil_UpDilIdeal : Prop :=
  True

def algebraic_UpDilIdeal_UpDilRefIdeal [hUpDilIdeal : Cert.UpDilIdeal.Facts] [hUpDilRefIdeal : Cert.UpDilRefIdeal.Facts] : Prop :=
  ∀ (m : (ℓ : Loc Cert.UpDilIdeal.nD Cert.UpDilIdeal.τ Cert.UpDilIdeal.sig) → Buf (Elt Ideal) ℓ) (g : Dev Cert.UpDilIdeal.nD → PrngReg)
    (m' : (ℓ : Loc Cert.UpDilRefIdeal.nD Cert.UpDilRefIdeal.τ Cert.UpDilRefIdeal.sig) → Buf (Elt Ideal) ℓ) (g' : Dev Cert.UpDilRefIdeal.nD → PrngReg), Pre_UpDilIdeal m →
    (∀ c : Dev Cert.UpDilIdeal.nD,
      m' ((c.tc : Thread Cert.UpDilRefIdeal.nD Cert.UpDilRefIdeal.τ).loc Cert.UpDilRefIdeal.main_arg0) = m ((c.tc : Thread Cert.UpDilIdeal.nD Cert.UpDilIdeal.τ).loc Cert.UpDilIdeal.main_arg0)
      ∧ m' ((c.tc : Thread Cert.UpDilRefIdeal.nD Cert.UpDilRefIdeal.τ).loc Cert.UpDilRefIdeal.main_arg1) = m ((c.tc : Thread Cert.UpDilIdeal.nD Cert.UpDilIdeal.τ).loc Cert.UpDilIdeal.main_arg1)) →
    ∃ (v0 : (c : Dev Cert.UpDilIdeal.nD) → Buf (Elt Ideal) ((c.tc : Thread Cert.UpDilIdeal.nD Cert.UpDilIdeal.τ).loc Cert.UpDilIdeal.main_v0)),
      θ_run (Cert.UpDilIdeal.defs (F := Ideal)) (onTc (τ := Cert.UpDilIdeal.τ) (Cert.UpDilIdeal.main (F := Ideal))) ⟨m, fun _ => 0, g⟩ (fun r => ∀ c : Dev Cert.UpDilIdeal.nD,
          r.2.mem ((c.tc : Thread Cert.UpDilIdeal.nD Cert.UpDilIdeal.τ).loc Cert.UpDilIdeal.main_v0) = v0 c
          ∧ r.2.mem ((c.tc : Thread Cert.UpDilIdeal.nD Cert.UpDilIdeal.τ).loc Cert.UpDilIdeal.main_arg0) = m ((c.tc : Thread Cert.UpDilIdeal.nD Cert.UpDilIdeal.τ).loc Cert.UpDilIdeal.main_arg0)
          ∧ r.2.mem ((c.tc : Thread Cert.UpDilIdeal.nD Cert.UpDilIdeal.τ).loc Cert.UpDilIdeal.main_arg1) = m ((c.tc : Thread Cert.UpDilIdeal.nD Cert.UpDilIdeal.τ).loc Cert.UpDilIdeal.main_arg1))
      ∧ θ_run (Cert.UpDilRefIdeal.defs (F := Ideal)) (onTc (τ := Cert.UpDilRefIdeal.τ) (Cert.UpDilRefIdeal.main (F := Ideal))) ⟨m', fun _ => 0, g'⟩ (fun r => ∀ c : Dev Cert.UpDilRefIdeal.nD,
          r.2.mem ((c.tc : Thread Cert.UpDilRefIdeal.nD Cert.UpDilRefIdeal.τ).loc Cert.UpDilRefIdeal.main_v2) = v0 c
          ∧ r.2.mem ((c.tc : Thread Cert.UpDilRefIdeal.nD Cert.UpDilRefIdeal.τ).loc Cert.UpDilRefIdeal.main_arg0) = m' ((c.tc : Thread Cert.UpDilRefIdeal.nD Cert.UpDilRefIdeal.τ).loc Cert.UpDilRefIdeal.main_arg0)
          ∧ r.2.mem ((c.tc : Thread Cert.UpDilRefIdeal.nD Cert.UpDilRefIdeal.τ).loc Cert.UpDilRefIdeal.main_arg1) = m' ((c.tc : Thread Cert.UpDilRefIdeal.nD Cert.UpDilRefIdeal.τ).loc Cert.UpDilRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2))

def preserves_SbAttn_SbAttnIdeal : Prop :=
  True

def algebraic_SbAttnIdeal_SbAttnRefIdeal [hSbAttnIdeal : Cert.SbAttnIdeal.Facts] [hSbAttnRefIdeal : Cert.SbAttnRefIdeal.Facts] : Prop :=
  ∀ (m : (ℓ : Loc Cert.SbAttnIdeal.nD Cert.SbAttnIdeal.τ Cert.SbAttnIdeal.sig) → Buf (Elt Ideal) ℓ) (g : Dev Cert.SbAttnIdeal.nD → PrngReg)
    (m' : (ℓ : Loc Cert.SbAttnRefIdeal.nD Cert.SbAttnRefIdeal.τ Cert.SbAttnRefIdeal.sig) → Buf (Elt Ideal) ℓ) (g' : Dev Cert.SbAttnRefIdeal.nD → PrngReg), Pre_SbAttnIdeal m →
    (∀ c : Dev Cert.SbAttnIdeal.nD,
      m' ((c.tc : Thread Cert.SbAttnRefIdeal.nD Cert.SbAttnRefIdeal.τ).loc Cert.SbAttnRefIdeal.main_arg0) = m ((c.tc : Thread Cert.SbAttnIdeal.nD Cert.SbAttnIdeal.τ).loc Cert.SbAttnIdeal.main_arg0)) →
    ∃ (v0 : (c : Dev Cert.SbAttnIdeal.nD) → Buf (Elt Ideal) ((c.tc : Thread Cert.SbAttnIdeal.nD Cert.SbAttnIdeal.τ).loc Cert.SbAttnIdeal.main_v0)),
      θ_run (Cert.SbAttnIdeal.defs (F := Ideal)) (onTc (τ := Cert.SbAttnIdeal.τ) (Cert.SbAttnIdeal.main (F := Ideal))) ⟨m, fun _ => 0, g⟩ (fun r => ∀ c : Dev Cert.SbAttnIdeal.nD,
          r.2.mem ((c.tc : Thread Cert.SbAttnIdeal.nD Cert.SbAttnIdeal.τ).loc Cert.SbAttnIdeal.main_v0) = v0 c
          ∧ r.2.mem ((c.tc : Thread Cert.SbAttnIdeal.nD Cert.SbAttnIdeal.τ).loc Cert.SbAttnIdeal.main_arg0) = m ((c.tc : Thread Cert.SbAttnIdeal.nD Cert.SbAttnIdeal.τ).loc Cert.SbAttnIdeal.main_arg0))
      ∧ θ_run (Cert.SbAttnRefIdeal.defs (F := Ideal)) (onTc (τ := Cert.SbAttnRefIdeal.τ) (Cert.SbAttnRefIdeal.main (F := Ideal))) ⟨m', fun _ => 0, g'⟩ (fun r => ∀ c : Dev Cert.SbAttnRefIdeal.nD,
          r.2.mem ((c.tc : Thread Cert.SbAttnRefIdeal.nD Cert.SbAttnRefIdeal.τ).loc Cert.SbAttnRefIdeal.main_v24) = v0 c
          ∧ r.2.mem ((c.tc : Thread Cert.SbAttnRefIdeal.nD Cert.SbAttnRefIdeal.τ).loc Cert.SbAttnRefIdeal.main_arg0) = m' ((c.tc : Thread Cert.SbAttnRefIdeal.nD Cert.SbAttnRefIdeal.τ).loc Cert.SbAttnRefIdeal.main_arg0))

def preserves_FoxAttn_FoxAttnIdeal : Prop :=
  True

def algebraic_FoxAttnIdeal_FoxAttnRefIdeal_pre_finite_scores [hFoxAttnIdeal : Cert.FoxAttnIdeal.Facts] [hFoxAttnRefIdeal : Cert.FoxAttnRefIdeal.Facts] [hPre_finite_scores : Cert.Pre_finite_scores.Facts] : Prop :=
  ∀ (m : (ℓ : Loc Cert.FoxAttnIdeal.nD Cert.FoxAttnIdeal.τ Cert.FoxAttnIdeal.sig) → Buf (Elt Ideal) ℓ) (g : Dev Cert.FoxAttnIdeal.nD → PrngReg)
    (m' : (ℓ : Loc Cert.FoxAttnRefIdeal.nD Cert.FoxAttnRefIdeal.τ Cert.FoxAttnRefIdeal.sig) → Buf (Elt Ideal) ℓ) (g' : Dev Cert.FoxAttnRefIdeal.nD → PrngReg), Pre_FoxAttnIdeal_finite_scores m →
    (∀ c : Dev Cert.FoxAttnIdeal.nD,
      m' ((c.tc : Thread Cert.FoxAttnRefIdeal.nD Cert.FoxAttnRefIdeal.τ).loc Cert.FoxAttnRefIdeal.main_arg0) = m ((c.tc : Thread Cert.FoxAttnIdeal.nD Cert.FoxAttnIdeal.τ).loc Cert.FoxAttnIdeal.main_arg0)
      ∧ m' ((c.tc : Thread Cert.FoxAttnRefIdeal.nD Cert.FoxAttnRefIdeal.τ).loc Cert.FoxAttnRefIdeal.main_arg1) = m ((c.tc : Thread Cert.FoxAttnIdeal.nD Cert.FoxAttnIdeal.τ).loc Cert.FoxAttnIdeal.main_arg1)
      ∧ m' ((c.tc : Thread Cert.FoxAttnRefIdeal.nD Cert.FoxAttnRefIdeal.τ).loc Cert.FoxAttnRefIdeal.main_arg2) = m ((c.tc : Thread Cert.FoxAttnIdeal.nD Cert.FoxAttnIdeal.τ).loc Cert.FoxAttnIdeal.main_arg2)
      ∧ m' ((c.tc : Thread Cert.FoxAttnRefIdeal.nD Cert.FoxAttnRefIdeal.τ).loc Cert.FoxAttnRefIdeal.main_arg3) = m ((c.tc : Thread Cert.FoxAttnIdeal.nD Cert.FoxAttnIdeal.τ).loc Cert.FoxAttnIdeal.main_arg3)) →
    ∃ (v0 : (c : Dev Cert.FoxAttnIdeal.nD) → Buf (Elt Ideal) ((c.tc : Thread Cert.FoxAttnIdeal.nD Cert.FoxAttnIdeal.τ).loc Cert.FoxAttnIdeal.main_v9_0)) (v1 : (c : Dev Cert.FoxAttnIdeal.nD) → Buf (Elt Ideal) ((c.tc : Thread Cert.FoxAttnIdeal.nD Cert.FoxAttnIdeal.τ).loc Cert.FoxAttnIdeal.main_v9_1)),
      θ_run (Cert.FoxAttnIdeal.defs (F := Ideal)) (onTc (τ := Cert.FoxAttnIdeal.τ) (Cert.FoxAttnIdeal.main (F := Ideal))) ⟨m, fun _ => 0, g⟩ (fun r => ∀ c : Dev Cert.FoxAttnIdeal.nD,
          r.2.mem ((c.tc : Thread Cert.FoxAttnIdeal.nD Cert.FoxAttnIdeal.τ).loc Cert.FoxAttnIdeal.main_v9_0) = v0 c
          ∧ r.2.mem ((c.tc : Thread Cert.FoxAttnIdeal.nD Cert.FoxAttnIdeal.τ).loc Cert.FoxAttnIdeal.main_v9_1) = v1 c
          ∧ r.2.mem ((c.tc : Thread Cert.FoxAttnIdeal.nD Cert.FoxAttnIdeal.τ).loc Cert.FoxAttnIdeal.main_arg0) = m ((c.tc : Thread Cert.FoxAttnIdeal.nD Cert.FoxAttnIdeal.τ).loc Cert.FoxAttnIdeal.main_arg0)
          ∧ r.2.mem ((c.tc : Thread Cert.FoxAttnIdeal.nD Cert.FoxAttnIdeal.τ).loc Cert.FoxAttnIdeal.main_arg1) = m ((c.tc : Thread Cert.FoxAttnIdeal.nD Cert.FoxAttnIdeal.τ).loc Cert.FoxAttnIdeal.main_arg1)
          ∧ r.2.mem ((c.tc : Thread Cert.FoxAttnIdeal.nD Cert.FoxAttnIdeal.τ).loc Cert.FoxAttnIdeal.main_arg2) = m ((c.tc : Thread Cert.FoxAttnIdeal.nD Cert.FoxAttnIdeal.τ).loc Cert.FoxAttnIdeal.main_arg2)
          ∧ r.2.mem ((c.tc : Thread Cert.FoxAttnIdeal.nD Cert.FoxAttnIdeal.τ).loc Cert.FoxAttnIdeal.main_arg3) = m ((c.tc : Thread Cert.FoxAttnIdeal.nD Cert.FoxAttnIdeal.τ).loc Cert.FoxAttnIdeal.main_arg3))
      ∧ θ_run (Cert.FoxAttnRefIdeal.defs (F := Ideal)) (onTc (τ := Cert.FoxAttnRefIdeal.τ) (Cert.FoxAttnRefIdeal.main (F := Ideal))) ⟨m', fun _ => 0, g'⟩ (fun r => ∀ c : Dev Cert.FoxAttnRefIdeal.nD,
          r.2.mem ((c.tc : Thread Cert.FoxAttnRefIdeal.nD Cert.FoxAttnRefIdeal.τ).loc Cert.FoxAttnRefIdeal.main_v46) = v0 c
          ∧ r.2.mem ((c.tc : Thread Cert.FoxAttnRefIdeal.nD Cert.FoxAttnRefIdeal.τ).loc Cert.FoxAttnRefIdeal.main_v49) = v1 c
          ∧ r.2.mem ((c.tc : Thread Cert.FoxAttnRefIdeal.nD Cert.FoxAttnRefIdeal.τ).loc Cert.FoxAttnRefIdeal.main_arg0) = m' ((c.tc : Thread Cert.FoxAttnRefIdeal.nD Cert.FoxAttnRefIdeal.τ).loc Cert.FoxAttnRefIdeal.main_arg0)
          ∧ r.2.mem ((c.tc : Thread Cert.FoxAttnRefIdeal.nD Cert.FoxAttnRefIdeal.τ).loc Cert.FoxAttnRefIdeal.main_arg1) = m' ((c.tc : Thread Cert.FoxAttnRefIdeal.nD Cert.FoxAttnRefIdeal.τ).loc Cert.FoxAttnRefIdeal.main_arg1)
          ∧ r.2.mem ((c.tc : Thread Cert.FoxAttnRefIdeal.nD Cert.FoxAttnRefIdeal.τ).loc Cert.FoxAttnRefIdeal.main_arg2) = m' ((c.tc : Thread Cert.FoxAttnRefIdeal.nD Cert.FoxAttnRefIdeal.τ).loc Cert.FoxAttnRefIdeal.main_arg2)
          ∧ r.2.mem ((c.tc : Thread Cert.FoxAttnRefIdeal.nD Cert.FoxAttnRefIdeal.τ).loc Cert.FoxAttnRefIdeal.main_arg3) = m' ((c.tc : Thread Cert.FoxAttnRefIdeal.nD Cert.FoxAttnRefIdeal.τ).loc Cert.FoxAttnRefIdeal.main_arg3))

def Claim : Prop :=
  ∃ (hKernel : Cert.Kernel.Facts) (hKernelIdeal : Cert.KernelIdeal.Facts) (hReferenceIdeal : Cert.ReferenceIdeal.Facts) (hMlpOutDx : Cert.MlpOutDx.Facts) (hMlpOutDxIdeal : Cert.MlpOutDxIdeal.Facts) (hMlpOutDxRefIdeal : Cert.MlpOutDxRefIdeal.Facts) (hProjDx : Cert.ProjDx.Facts) (hProjDxIdeal : Cert.ProjDxIdeal.Facts) (hProjDxRefIdeal : Cert.ProjDxRefIdeal.Facts) (hMlpInDx : Cert.MlpInDx.Facts) (hMlpInDxIdeal : Cert.MlpInDxIdeal.Facts) (hMlpInDxRefIdeal : Cert.MlpInDxRefIdeal.Facts) (hProj : Cert.Proj.Facts) (hProjIdeal : Cert.ProjIdeal.Facts) (hProjRefIdeal : Cert.ProjRefIdeal.Facts) (hMlpIn : Cert.MlpIn.Facts) (hMlpInIdeal : Cert.MlpInIdeal.Facts) (hMlpInRefIdeal : Cert.MlpInRefIdeal.Facts) (hMlpOut : Cert.MlpOut.Facts) (hMlpOutIdeal : Cert.MlpOutIdeal.Facts) (hMlpOutRefIdeal : Cert.MlpOutRefIdeal.Facts) (hOutProjDx : Cert.OutProjDx.Facts) (hOutProjDxIdeal : Cert.OutProjDxIdeal.Facts) (hOutProjDxRefIdeal : Cert.OutProjDxRefIdeal.Facts) (hUpDx : Cert.UpDx.Facts) (hUpDxIdeal : Cert.UpDxIdeal.Facts) (hUpDxRefIdeal : Cert.UpDxRefIdeal.Facts) (hUpDilDx : Cert.UpDilDx.Facts) (hUpDilDxIdeal : Cert.UpDilDxIdeal.Facts) (hUpDilDxRefIdeal : Cert.UpDilDxRefIdeal.Facts) (hMlpOutDw : Cert.MlpOutDw.Facts) (hMlpOutDwIdeal : Cert.MlpOutDwIdeal.Facts) (hMlpOutDwRefIdeal : Cert.MlpOutDwRefIdeal.Facts) (hMlpOutDwLast : Cert.MlpOutDwLast.Facts) (hMlpOutDwLastIdeal : Cert.MlpOutDwLastIdeal.Facts) (hMlpOutDwLastRefIdeal : Cert.MlpOutDwLastRefIdeal.Facts) (hMlpInDw : Cert.MlpInDw.Facts) (hMlpInDwIdeal : Cert.MlpInDwIdeal.Facts) (hMlpInDwRefIdeal : Cert.MlpInDwRefIdeal.Facts) (hMlpInDwLast : Cert.MlpInDwLast.Facts) (hMlpInDwLastIdeal : Cert.MlpInDwLastIdeal.Facts) (hMlpInDwLastRefIdeal : Cert.MlpInDwLastRefIdeal.Facts) (hProjDw : Cert.ProjDw.Facts) (hProjDwIdeal : Cert.ProjDwIdeal.Facts) (hProjDwRefIdeal : Cert.ProjDwRefIdeal.Facts) (hProjDwLast : Cert.ProjDwLast.Facts) (hProjDwLastIdeal : Cert.ProjDwLastIdeal.Facts) (hProjDwLastRefIdeal : Cert.ProjDwLastRefIdeal.Facts) (hForgetDw : Cert.ForgetDw.Facts) (hForgetDwIdeal : Cert.ForgetDwIdeal.Facts) (hForgetDwRefIdeal : Cert.ForgetDwRefIdeal.Facts) (hOutProjDw : Cert.OutProjDw.Facts) (hOutProjDwIdeal : Cert.OutProjDwIdeal.Facts) (hOutProjDwRefIdeal : Cert.OutProjDwRefIdeal.Facts) (hOutProjDwLast : Cert.OutProjDwLast.Facts) (hOutProjDwLastIdeal : Cert.OutProjDwLastIdeal.Facts) (hOutProjDwLastRefIdeal : Cert.OutProjDwLastRefIdeal.Facts) (hUpFoxDw : Cert.UpFoxDw.Facts) (hUpFoxDwIdeal : Cert.UpFoxDwIdeal.Facts) (hUpFoxDwRefIdeal : Cert.UpFoxDwRefIdeal.Facts) (hUpFoxDwLast : Cert.UpFoxDwLast.Facts) (hUpFoxDwLastIdeal : Cert.UpFoxDwLastIdeal.Facts) (hUpFoxDwLastRefIdeal : Cert.UpFoxDwLastRefIdeal.Facts) (hUpSbDw : Cert.UpSbDw.Facts) (hUpSbDwIdeal : Cert.UpSbDwIdeal.Facts) (hUpSbDwRefIdeal : Cert.UpSbDwRefIdeal.Facts) (hUpSbDwLast : Cert.UpSbDwLast.Facts) (hUpSbDwLastIdeal : Cert.UpSbDwLastIdeal.Facts) (hUpSbDwLastRefIdeal : Cert.UpSbDwLastRefIdeal.Facts) (hUpDilDw : Cert.UpDilDw.Facts) (hUpDilDwIdeal : Cert.UpDilDwIdeal.Facts) (hUpDilDwRefIdeal : Cert.UpDilDwRefIdeal.Facts) (hUpDilDwLast : Cert.UpDilDwLast.Facts) (hUpDilDwLastIdeal : Cert.UpDilDwLastIdeal.Facts) (hUpDilDwLastRefIdeal : Cert.UpDilDwLastRefIdeal.Facts) (hUp : Cert.Up.Facts) (hUpIdeal : Cert.UpIdeal.Facts) (hUpRefIdeal : Cert.UpRefIdeal.Facts) (hUpDil : Cert.UpDil.Facts) (hUpDilIdeal : Cert.UpDilIdeal.Facts) (hUpDilRefIdeal : Cert.UpDilRefIdeal.Facts) (hOutProj : Cert.OutProj.Facts) (hOutProjIdeal : Cert.OutProjIdeal.Facts) (hOutProjRefIdeal : Cert.OutProjRefIdeal.Facts) (hSbAttn : Cert.SbAttn.Facts) (hSbAttnIdeal : Cert.SbAttnIdeal.Facts) (hSbAttnRefIdeal : Cert.SbAttnRefIdeal.Facts) (hFoxAttn : Cert.FoxAttn.Facts) (hFoxAttnIdeal : Cert.FoxAttnIdeal.Facts) (hFoxAttnRefIdeal : Cert.FoxAttnRefIdeal.Facts) (hPre_finite_inputs : Cert.Pre_finite_inputs.Facts) (hPre_finite_scores : Cert.Pre_finite_scores.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ quiescent_MlpOutDx (hMlpOutDx := hMlpOutDx)
    ∧ quiescent_MlpOutDxIdeal (hMlpOutDxIdeal := hMlpOutDxIdeal)
    ∧ quiescent_MlpOutDxRefIdeal (hMlpOutDxRefIdeal := hMlpOutDxRefIdeal)
    ∧ quiescent_ProjDx (hProjDx := hProjDx)
    ∧ quiescent_ProjDxIdeal (hProjDxIdeal := hProjDxIdeal)
    ∧ quiescent_ProjDxRefIdeal (hProjDxRefIdeal := hProjDxRefIdeal)
    ∧ quiescent_MlpInDx (hMlpInDx := hMlpInDx)
    ∧ quiescent_MlpInDxIdeal (hMlpInDxIdeal := hMlpInDxIdeal)
    ∧ quiescent_MlpInDxRefIdeal (hMlpInDxRefIdeal := hMlpInDxRefIdeal)
    ∧ quiescent_Proj (hProj := hProj)
    ∧ quiescent_ProjIdeal (hProjIdeal := hProjIdeal)
    ∧ quiescent_ProjRefIdeal (hProjRefIdeal := hProjRefIdeal)
    ∧ quiescent_MlpIn (hMlpIn := hMlpIn)
    ∧ quiescent_MlpInIdeal (hMlpInIdeal := hMlpInIdeal)
    ∧ quiescent_MlpInRefIdeal (hMlpInRefIdeal := hMlpInRefIdeal)
    ∧ quiescent_MlpOut (hMlpOut := hMlpOut)
    ∧ quiescent_MlpOutIdeal (hMlpOutIdeal := hMlpOutIdeal)
    ∧ quiescent_MlpOutRefIdeal (hMlpOutRefIdeal := hMlpOutRefIdeal)
    ∧ quiescent_OutProjDx (hOutProjDx := hOutProjDx)
    ∧ quiescent_OutProjDxIdeal (hOutProjDxIdeal := hOutProjDxIdeal)
    ∧ quiescent_OutProjDxRefIdeal (hOutProjDxRefIdeal := hOutProjDxRefIdeal)
    ∧ quiescent_UpDx (hUpDx := hUpDx)
    ∧ quiescent_UpDxIdeal (hUpDxIdeal := hUpDxIdeal)
    ∧ quiescent_UpDxRefIdeal (hUpDxRefIdeal := hUpDxRefIdeal)
    ∧ quiescent_UpDilDx (hUpDilDx := hUpDilDx)
    ∧ quiescent_UpDilDxIdeal (hUpDilDxIdeal := hUpDilDxIdeal)
    ∧ quiescent_UpDilDxRefIdeal (hUpDilDxRefIdeal := hUpDilDxRefIdeal)
    ∧ quiescent_MlpOutDw (hMlpOutDw := hMlpOutDw)
    ∧ quiescent_MlpOutDwIdeal (hMlpOutDwIdeal := hMlpOutDwIdeal)
    ∧ quiescent_MlpOutDwRefIdeal (hMlpOutDwRefIdeal := hMlpOutDwRefIdeal)
    ∧ quiescent_MlpOutDwLast (hMlpOutDwLast := hMlpOutDwLast)
    ∧ quiescent_MlpOutDwLastIdeal (hMlpOutDwLastIdeal := hMlpOutDwLastIdeal)
    ∧ quiescent_MlpOutDwLastRefIdeal (hMlpOutDwLastRefIdeal := hMlpOutDwLastRefIdeal)
    ∧ quiescent_MlpInDw (hMlpInDw := hMlpInDw)
    ∧ quiescent_MlpInDwIdeal (hMlpInDwIdeal := hMlpInDwIdeal)
    ∧ quiescent_MlpInDwRefIdeal (hMlpInDwRefIdeal := hMlpInDwRefIdeal)
    ∧ quiescent_MlpInDwLast (hMlpInDwLast := hMlpInDwLast)
    ∧ quiescent_MlpInDwLastIdeal (hMlpInDwLastIdeal := hMlpInDwLastIdeal)
    ∧ quiescent_MlpInDwLastRefIdeal (hMlpInDwLastRefIdeal := hMlpInDwLastRefIdeal)
    ∧ quiescent_ProjDw (hProjDw := hProjDw)
    ∧ quiescent_ProjDwIdeal (hProjDwIdeal := hProjDwIdeal)
    ∧ quiescent_ProjDwRefIdeal (hProjDwRefIdeal := hProjDwRefIdeal)
    ∧ quiescent_ProjDwLast (hProjDwLast := hProjDwLast)
    ∧ quiescent_ProjDwLastIdeal (hProjDwLastIdeal := hProjDwLastIdeal)
    ∧ quiescent_ProjDwLastRefIdeal (hProjDwLastRefIdeal := hProjDwLastRefIdeal)
    ∧ quiescent_ForgetDw (hForgetDw := hForgetDw)
    ∧ quiescent_ForgetDwIdeal (hForgetDwIdeal := hForgetDwIdeal)
    ∧ quiescent_ForgetDwRefIdeal (hForgetDwRefIdeal := hForgetDwRefIdeal)
    ∧ quiescent_OutProjDw (hOutProjDw := hOutProjDw)
    ∧ quiescent_OutProjDwIdeal (hOutProjDwIdeal := hOutProjDwIdeal)
    ∧ quiescent_OutProjDwRefIdeal (hOutProjDwRefIdeal := hOutProjDwRefIdeal)
    ∧ quiescent_OutProjDwLast (hOutProjDwLast := hOutProjDwLast)
    ∧ quiescent_OutProjDwLastIdeal (hOutProjDwLastIdeal := hOutProjDwLastIdeal)
    ∧ quiescent_OutProjDwLastRefIdeal (hOutProjDwLastRefIdeal := hOutProjDwLastRefIdeal)
    ∧ quiescent_UpFoxDw (hUpFoxDw := hUpFoxDw)
    ∧ quiescent_UpFoxDwIdeal (hUpFoxDwIdeal := hUpFoxDwIdeal)
    ∧ quiescent_UpFoxDwRefIdeal (hUpFoxDwRefIdeal := hUpFoxDwRefIdeal)
    ∧ quiescent_UpFoxDwLast (hUpFoxDwLast := hUpFoxDwLast)
    ∧ quiescent_UpFoxDwLastIdeal (hUpFoxDwLastIdeal := hUpFoxDwLastIdeal)
    ∧ quiescent_UpFoxDwLastRefIdeal (hUpFoxDwLastRefIdeal := hUpFoxDwLastRefIdeal)
    ∧ quiescent_UpSbDw (hUpSbDw := hUpSbDw)
    ∧ quiescent_UpSbDwIdeal (hUpSbDwIdeal := hUpSbDwIdeal)
    ∧ quiescent_UpSbDwRefIdeal (hUpSbDwRefIdeal := hUpSbDwRefIdeal)
    ∧ quiescent_UpSbDwLast (hUpSbDwLast := hUpSbDwLast)
    ∧ quiescent_UpSbDwLastIdeal (hUpSbDwLastIdeal := hUpSbDwLastIdeal)
    ∧ quiescent_UpSbDwLastRefIdeal (hUpSbDwLastRefIdeal := hUpSbDwLastRefIdeal)
    ∧ quiescent_UpDilDw (hUpDilDw := hUpDilDw)
    ∧ quiescent_UpDilDwIdeal (hUpDilDwIdeal := hUpDilDwIdeal)
    ∧ quiescent_UpDilDwRefIdeal (hUpDilDwRefIdeal := hUpDilDwRefIdeal)
    ∧ quiescent_UpDilDwLast (hUpDilDwLast := hUpDilDwLast)
    ∧ quiescent_UpDilDwLastIdeal (hUpDilDwLastIdeal := hUpDilDwLastIdeal)
    ∧ quiescent_UpDilDwLastRefIdeal (hUpDilDwLastRefIdeal := hUpDilDwLastRefIdeal)
    ∧ quiescent_Up (hUp := hUp)
    ∧ quiescent_UpIdeal (hUpIdeal := hUpIdeal)
    ∧ quiescent_UpRefIdeal (hUpRefIdeal := hUpRefIdeal)
    ∧ quiescent_UpDil (hUpDil := hUpDil)
    ∧ quiescent_UpDilIdeal (hUpDilIdeal := hUpDilIdeal)
    ∧ quiescent_UpDilRefIdeal (hUpDilRefIdeal := hUpDilRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_SbAttn (hSbAttn := hSbAttn)
    ∧ quiescent_SbAttnIdeal (hSbAttnIdeal := hSbAttnIdeal)
    ∧ quiescent_SbAttnRefIdeal (hSbAttnRefIdeal := hSbAttnRefIdeal)
    ∧ quiescent_FoxAttn (hFoxAttn := hFoxAttn)
    ∧ quiescent_FoxAttnIdeal (hFoxAttnIdeal := hFoxAttnIdeal)
    ∧ quiescent_FoxAttnIdeal_pre_finite_scores (hFoxAttnIdeal := hFoxAttnIdeal) (hPre_finite_scores := hPre_finite_scores)
    ∧ quiescent_FoxAttnRefIdeal (hFoxAttnRefIdeal := hFoxAttnRefIdeal)
    ∧ quiescent_FoxAttnRefIdeal_pre_finite_scores (hFoxAttnRefIdeal := hFoxAttnRefIdeal) (hPre_finite_scores := hPre_finite_scores)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
    ∧ preserves_MlpOutDx_MlpOutDxIdeal
    ∧ algebraic_MlpOutDxIdeal_MlpOutDxRefIdeal (hMlpOutDxIdeal := hMlpOutDxIdeal) (hMlpOutDxRefIdeal := hMlpOutDxRefIdeal)
    ∧ preserves_ProjDx_ProjDxIdeal
    ∧ algebraic_ProjDxIdeal_ProjDxRefIdeal (hProjDxIdeal := hProjDxIdeal) (hProjDxRefIdeal := hProjDxRefIdeal)
    ∧ preserves_MlpInDx_MlpInDxIdeal
    ∧ algebraic_MlpInDxIdeal_MlpInDxRefIdeal (hMlpInDxIdeal := hMlpInDxIdeal) (hMlpInDxRefIdeal := hMlpInDxRefIdeal)
    ∧ preserves_Proj_ProjIdeal
    ∧ algebraic_ProjIdeal_ProjRefIdeal (hProjIdeal := hProjIdeal) (hProjRefIdeal := hProjRefIdeal)
    ∧ preserves_MlpIn_MlpInIdeal
    ∧ algebraic_MlpInIdeal_MlpInRefIdeal (hMlpInIdeal := hMlpInIdeal) (hMlpInRefIdeal := hMlpInRefIdeal)
    ∧ preserves_MlpOut_MlpOutIdeal
    ∧ algebraic_MlpOutIdeal_MlpOutRefIdeal (hMlpOutIdeal := hMlpOutIdeal) (hMlpOutRefIdeal := hMlpOutRefIdeal)
    ∧ preserves_OutProjDx_OutProjDxIdeal
    ∧ algebraic_OutProjDxIdeal_OutProjDxRefIdeal (hOutProjDxIdeal := hOutProjDxIdeal) (hOutProjDxRefIdeal := hOutProjDxRefIdeal)
    ∧ preserves_UpDx_UpDxIdeal
    ∧ algebraic_UpDxIdeal_UpDxRefIdeal (hUpDxIdeal := hUpDxIdeal) (hUpDxRefIdeal := hUpDxRefIdeal)
    ∧ preserves_UpDilDx_UpDilDxIdeal
    ∧ algebraic_UpDilDxIdeal_UpDilDxRefIdeal (hUpDilDxIdeal := hUpDilDxIdeal) (hUpDilDxRefIdeal := hUpDilDxRefIdeal)
    ∧ preserves_MlpOutDw_MlpOutDwIdeal
    ∧ algebraic_MlpOutDwIdeal_MlpOutDwRefIdeal (hMlpOutDwIdeal := hMlpOutDwIdeal) (hMlpOutDwRefIdeal := hMlpOutDwRefIdeal)
    ∧ preserves_MlpOutDwLast_MlpOutDwLastIdeal
    ∧ algebraic_MlpOutDwLastIdeal_MlpOutDwLastRefIdeal (hMlpOutDwLastIdeal := hMlpOutDwLastIdeal) (hMlpOutDwLastRefIdeal := hMlpOutDwLastRefIdeal)
    ∧ preserves_MlpInDw_MlpInDwIdeal
    ∧ algebraic_MlpInDwIdeal_MlpInDwRefIdeal (hMlpInDwIdeal := hMlpInDwIdeal) (hMlpInDwRefIdeal := hMlpInDwRefIdeal)
    ∧ preserves_MlpInDwLast_MlpInDwLastIdeal
    ∧ algebraic_MlpInDwLastIdeal_MlpInDwLastRefIdeal (hMlpInDwLastIdeal := hMlpInDwLastIdeal) (hMlpInDwLastRefIdeal := hMlpInDwLastRefIdeal)
    ∧ preserves_ProjDw_ProjDwIdeal
    ∧ algebraic_ProjDwIdeal_ProjDwRefIdeal (hProjDwIdeal := hProjDwIdeal) (hProjDwRefIdeal := hProjDwRefIdeal)
    ∧ preserves_ProjDwLast_ProjDwLastIdeal
    ∧ algebraic_ProjDwLastIdeal_ProjDwLastRefIdeal (hProjDwLastIdeal := hProjDwLastIdeal) (hProjDwLastRefIdeal := hProjDwLastRefIdeal)
    ∧ preserves_ForgetDw_ForgetDwIdeal
    ∧ algebraic_ForgetDwIdeal_ForgetDwRefIdeal (hForgetDwIdeal := hForgetDwIdeal) (hForgetDwRefIdeal := hForgetDwRefIdeal)
    ∧ preserves_OutProjDw_OutProjDwIdeal
    ∧ algebraic_OutProjDwIdeal_OutProjDwRefIdeal (hOutProjDwIdeal := hOutProjDwIdeal) (hOutProjDwRefIdeal := hOutProjDwRefIdeal)
    ∧ preserves_OutProjDwLast_OutProjDwLastIdeal
    ∧ algebraic_OutProjDwLastIdeal_OutProjDwLastRefIdeal (hOutProjDwLastIdeal := hOutProjDwLastIdeal) (hOutProjDwLastRefIdeal := hOutProjDwLastRefIdeal)
    ∧ preserves_UpFoxDw_UpFoxDwIdeal
    ∧ algebraic_UpFoxDwIdeal_UpFoxDwRefIdeal (hUpFoxDwIdeal := hUpFoxDwIdeal) (hUpFoxDwRefIdeal := hUpFoxDwRefIdeal)
    ∧ preserves_UpFoxDwLast_UpFoxDwLastIdeal
    ∧ algebraic_UpFoxDwLastIdeal_UpFoxDwLastRefIdeal (hUpFoxDwLastIdeal := hUpFoxDwLastIdeal) (hUpFoxDwLastRefIdeal := hUpFoxDwLastRefIdeal)
    ∧ preserves_UpSbDw_UpSbDwIdeal
    ∧ algebraic_UpSbDwIdeal_UpSbDwRefIdeal (hUpSbDwIdeal := hUpSbDwIdeal) (hUpSbDwRefIdeal := hUpSbDwRefIdeal)
    ∧ preserves_UpSbDwLast_UpSbDwLastIdeal
    ∧ algebraic_UpSbDwLastIdeal_UpSbDwLastRefIdeal (hUpSbDwLastIdeal := hUpSbDwLastIdeal) (hUpSbDwLastRefIdeal := hUpSbDwLastRefIdeal)
    ∧ preserves_UpDilDw_UpDilDwIdeal
    ∧ algebraic_UpDilDwIdeal_UpDilDwRefIdeal (hUpDilDwIdeal := hUpDilDwIdeal) (hUpDilDwRefIdeal := hUpDilDwRefIdeal)
    ∧ preserves_UpDilDwLast_UpDilDwLastIdeal
    ∧ algebraic_UpDilDwLastIdeal_UpDilDwLastRefIdeal (hUpDilDwLastIdeal := hUpDilDwLastIdeal) (hUpDilDwLastRefIdeal := hUpDilDwLastRefIdeal)
    ∧ preserves_Up_UpIdeal
    ∧ algebraic_UpIdeal_UpRefIdeal (hUpIdeal := hUpIdeal) (hUpRefIdeal := hUpRefIdeal)
    ∧ preserves_UpDil_UpDilIdeal
    ∧ algebraic_UpDilIdeal_UpDilRefIdeal (hUpDilIdeal := hUpDilIdeal) (hUpDilRefIdeal := hUpDilRefIdeal)
    ∧ preserves_OutProj_OutProjIdeal
    ∧ algebraic_OutProjIdeal_OutProjRefIdeal (hOutProjIdeal := hOutProjIdeal) (hOutProjRefIdeal := hOutProjRefIdeal)
    ∧ preserves_SbAttn_SbAttnIdeal
    ∧ algebraic_SbAttnIdeal_SbAttnRefIdeal (hSbAttnIdeal := hSbAttnIdeal) (hSbAttnRefIdeal := hSbAttnRefIdeal)
    ∧ preserves_FoxAttn_FoxAttnIdeal
    ∧ algebraic_FoxAttnIdeal_FoxAttnRefIdeal_pre_finite_scores (hFoxAttnIdeal := hFoxAttnIdeal) (hFoxAttnRefIdeal := hFoxAttnRefIdeal) (hPre_finite_scores := hPre_finite_scores)
-- ==== Pre_finite_inputs.lean ====
abbrev S4096x8704 : Shape := ⟨2, ![4096, 8704]⟩
abbrev S4096x512 : Shape := ⟨2, ![4096, 512]⟩
abbrev S_ : Shape := ⟨0, ![]⟩

class Facts : Prop where
  slices_S4096x8704_S4096x512_0_1536 : S4096x8704.Slices ![0, 1536] S4096x512
  slices_S4096x8704_S4096x512_0_2048 : S4096x8704.Slices ![0, 2048] S4096x512
  slices_S4096x8704_S4096x512_0_2560 : S4096x8704.Slices ![0, 2560] S4096x512
  bcast_S_S4096x512 : S_.BroadcastsInDim S4096x512 (![] : Fin 0 → Fin S4096x512.rank)

variable [Facts]

def fn {F : FTy → Type} [FloatOps F] (main_arg0 : FVec F S4096x8704 .f32) (main_arg1 : FVec F S4096x512 .f32) : IVec S4096x512 1 :=
  let main_v0 : FVec F S4096x512 .f32 := (extractStridedSlice S4096x512 ![0, 1536] · slices_S4096x8704_S4096x512_0_1536) main_arg0
  let main_v1 : FVec F S4096x512 .f32 := (extractStridedSlice S4096x512 ![0, 2048] · slices_S4096x8704_S4096x512_0_2048) main_arg0
  let main_v2 : FVec F S4096x512 .f32 := (extractStridedSlice S4096x512 ![0, 2560] · slices_S4096x8704_S4096x512_0_2560) main_arg0
  let main_v3 : FVec F S4096x512 .f32 := Host.absf main_v0
  let main_cst : FVec F S_ .f32 := constant S_ .f32 0x7F800000#32
  let main_v4 : FVec F S4096x512 .f32 := broadcastInDim S4096x512 ![] bcast_S_S4096x512 main_cst
  let main_v5 : IVec S4096x512 1 := cmpf .olt main_v3 main_v4
  let main_v6 : FVec F S4096x512 .f32 := Host.absf main_v1
  let main_cst_0 : FVec F S_ .f32 := constant S_ .f32 0x7F800000#32
  let main_v7 : FVec F S4096x512 .f32 := broadcastInDim S4096x512 ![] bcast_S_S4096x512 main_cst_0
  let main_v8 : IVec S4096x512 1 := cmpf .olt main_v6 main_v7
  let main_v9 : IVec S4096x512 1 := andi main_v5 main_v8
  let main_v10 : FVec F S4096x512 .f32 := Host.absf main_v2
  let main_cst_1 : FVec F S_ .f32 := constant S_ .f32 0x7F800000#32
  let main_v11 : FVec F S4096x512 .f32 := broadcastInDim S4096x512 ![] bcast_S_S4096x512 main_cst_1
  let main_v12 : IVec S4096x512 1 := cmpf .olt main_v10 main_v11
  let main_v13 : IVec S4096x512 1 := andi main_v9 main_v12
  let main_v14 : FVec F S4096x512 .f32 := Host.absf main_arg1
  let main_cst_2 : FVec F S_ .f32 := constant S_ .f32 0x7F800000#32
  let main_v15 : FVec F S4096x512 .f32 := broadcastInDim S4096x512 ![] bcast_S_S4096x512 main_cst_2
  let main_v16 : IVec S4096x512 1 := cmpf .olt main_v14 main_v15
  let main_v17 : IVec S4096x512 1 := andi main_v13 main_v16
  main_v17
-- ==== Pre_finite_scores.lean ====
abbrev S4096x512 : Shape := ⟨2, ![4096, 512]⟩
abbrev S4096x8704 : Shape := ⟨2, ![4096, 8704]⟩
abbrev S4096x128 : Shape := ⟨2, ![4096, 128]⟩
abbrev S_ : Shape := ⟨0, ![]⟩
abbrev S4096x8 : Shape := ⟨2, ![4096, 8]⟩
abbrev S4096x8x64 : Shape := ⟨3, ![4096, 8, 64]⟩

class Facts : Prop where
  bitsLt_bf16_f32 : FTy.bits .bf16 < FTy.bits .f32
  bcast_S_S4096x512 : S_.BroadcastsInDim S4096x512 (![] : Fin 0 → Fin S4096x512.rank)
  slices_S4096x128_S4096x8_0_0 : S4096x128.Slices ![0, 0] S4096x8
  bcast_S4096x8_S4096x8x64_0_1 : S4096x8.BroadcastsInDim S4096x8x64 (![0, 1] : Fin 2 → Fin S4096x8x64.rank)
  shapeCasts_S4096x8x64_S4096x512 : S4096x8x64.ShapeCasts S4096x512

variable [Facts]

def fn {F : FTy → Type} [FloatOps F] (main_arg0 : FVec F S4096x512 .bf16) (main_arg1 : FVec F S4096x512 .bf16) (main_arg2 : FVec F S4096x8704 .f32) (main_arg3 : FVec F S4096x128 .f32) : IVec S4096x512 1 :=
  let main_v0 : FVec F S4096x512 .f32 := (extf .f32 · bitsLt_bf16_f32) main_arg0
  let main_v1 : FVec F S4096x512 .f32 := Host.absf main_v0
  let main_cst : FVec F S_ .f32 := constant S_ .f32 0x7F800000#32
  let main_v2 : FVec F S4096x512 .f32 := broadcastInDim S4096x512 ![] bcast_S_S4096x512 main_cst
  let main_v3 : IVec S4096x512 1 := cmpf .olt main_v1 main_v2
  let main_v4 : FVec F S4096x512 .f32 := (extf .f32 · bitsLt_bf16_f32) main_arg1
  let main_v5 : FVec F S4096x512 .f32 := Host.absf main_v4
  let main_cst_0 : FVec F S_ .f32 := constant S_ .f32 0x7F800000#32
  let main_v6 : FVec F S4096x512 .f32 := broadcastInDim S4096x512 ![] bcast_S_S4096x512 main_cst_0
  let main_v7 : IVec S4096x512 1 := cmpf .olt main_v5 main_v6
  let main_v8 : IVec S4096x512 1 := andi main_v3 main_v7
  let main_v9 : FVec F S4096x8 .f32 := (extractStridedSlice S4096x8 ![0, 0] · slices_S4096x128_S4096x8_0_0) main_arg3
  let main_v10 : FVec F S4096x8x64 .f32 := broadcastInDim S4096x8x64 ![0, 1] bcast_S4096x8_S4096x8x64_0_1 main_v9
  let main_v11 : FVec F S4096x512 .f32 := shapeCast S4096x512 main_v10 shapeCasts_S4096x8x64_S4096x512
  let main_v12 : FVec F S4096x512 .f32 := Host.absf main_v11
  let main_cst_1 : FVec F S_ .f32 := constant S_ .f32 0x7F800000#32
  let main_v13 : FVec F S4096x512 .f32 := broadcastInDim S4096x512 ![] bcast_S_S4096x512 main_cst_1
  let main_v14 : IVec S4096x512 1 := cmpf .olt main_v12 main_v13
  let main_v15 : IVec S4096x512 1 := andi main_v8 main_v14
  main_v15
-- ==== Kernel.lean ====
abbrev S4096x8704 : Shape := ⟨2, ![4096, 8704]⟩
abbrev S4096x512 : Shape := ⟨2, ![4096, 512]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S1x128 : Shape := ⟨2, ![1, 128]⟩
abbrev S128x128 : Shape := ⟨2, ![128, 128]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩

abbrev nBuf : Space → Nat
  | .hbm => 5
  | .vmem => 17
  | .smem => 0
  | _ => 0

abbrev bufTy : (tb : Table) → Fin (tcTables nBuf tb) → BufTy
  | .hbm, ⟨0, _⟩ => ⟨S4096x8704, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x512, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S256x2048, .f32⟩
  | .local _ .vmem, ⟨15, _⟩ => ⟨S2048x128, .f32⟩
  | .local _ .vmem, ⟨16, _⟩ => ⟨S2048x128, .f32⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg2 : BitVec 32 := BitVec.ofNat 32 (i 2).val
  let c4_i32 : BitVec 32 := 4#32
  let v15 : BitVec 1 := Scalar.cmpi .eq arg2 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg2 : BitVec 32 := BitVec.ofNat 32 (i 2).val
  let c5_i32 : BitVec 32 := 5#32
  let v18 : BitVec 1 := Scalar.cmpi .eq arg2 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg2 : BitVec 32 := BitVec.ofNat 32 (i 2).val
  let c6_i32 : BitVec 32 := 6#32
  let v21 : BitVec 1 := Scalar.cmpi .eq arg2 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_9 : BitVec 32 := 0#32
  let v26 : BitVec 1 := Scalar.cmpi .ne v25 c0_i32_9
  v26

def k0_cond10 (i : grid0.Coords) : BitVec 1 :=
  let arg2 : BitVec 32 := BitVec.ofNat 32 (i 2).val
  let c7_i32_10 : BitVec 32 := 7#32
  let v27 : BitVec 1 := Scalar.cmpi .eq arg2 c7_i32_10
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== KernelIdeal.lean ====
abbrev S4096x8704 : Shape := ⟨2, ![4096, 8704]⟩
abbrev S4096x512 : Shape := ⟨2, ![4096, 512]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S1x128 : Shape := ⟨2, ![1, 128]⟩
abbrev S128x128 : Shape := ⟨2, ![128, 128]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩

abbrev nBuf : Space → Nat
  | .hbm => 5
  | .vmem => 17
  | .smem => 0
  | _ => 0

abbrev bufTy : (tb : Table) → Fin (tcTables nBuf tb) → BufTy
  | .hbm, ⟨0, _⟩ => ⟨S4096x8704, .f32⟩
  | .hbm, ⟨1, _⟩ => ⟨S4096x512, .f32⟩
  | .hbm, ⟨2, _⟩ => ⟨S4096x512, .bf16⟩
  | .hbm, ⟨3, _⟩ => ⟨S4096x512, .bf16⟩
  | .hbm, ⟨4, _⟩ => ⟨S4096x512, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S256x128, .bf16⟩
  | .local _ .vmem, ⟨9, _⟩ => ⟨S256x128, .bf16⟩
  | .local _ .vmem, ⟨10, _⟩ => ⟨S2048x128, .bf16⟩
  | .local _ .vmem, ⟨11, _⟩ => ⟨S2048x128, .bf16⟩
  | .local _ .vmem, ⟨12, _⟩ => ⟨S2048x128, .bf16⟩
  | .local _ .vmem, ⟨13, _⟩ => ⟨S2048x128, .bf16⟩
  | .local _ .vmem, ⟨14, _⟩ => ⟨S256x2048, .f32⟩
  | .local _ .vmem, ⟨15, _⟩ => ⟨S2048x128, .f32⟩
  | .local _ .vmem, ⟨16, _⟩ => ⟨S2048x128, .f32⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev main_v0_2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c0_i32_1 : BitVec 32 := 0#32
  let v3 : BitVec 1 := Scalar.cmpi .eq arg2 c0_i32_1
  let v4 : BitVec 32 := Scalar.extui v3
  let c0_i32_2 : BitVec 32 := 0#32
  let v5 : BitVec 1 := Scalar.cmpi .ne v4 c0_i32_2
  v5

def k0_cond3 (i : grid0.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_3 : BitVec 32 := 0#32
  let v8 : BitVec 1 := Scalar.cmpi .ne v7 c0_i32_3
  v8

def k0_cond4 (i : grid0.Coords) : BitVec 1 :=
  let arg2 : BitVec 32 := BitVec.ofNat 32 (i 2).val
  let c2_i32 : BitVec 32 := 2#32
  let v9 : BitVec 1 := Scalar.cmpi .eq arg2 c2_i32
  let v10 : BitVec 32 := Scalar.extui v9
  let c0_i32_4 : BitVec 32 := 0#32
  let v11 : BitVec 1 := Scalar.cmpi .ne v10 c0_i32_4
  v11

def k0_cond5 (i : grid0.Coords) : BitVec 1 :=
  let arg2 : BitVec 32 := BitVec.ofNat 32 (i 2).val
  let c3_i32 : BitVec 32 := 3#32
  let v12 : BitVec 1 := Scalar.cmpi .eq arg2 c3_i32
  let v13 : BitVec 32 := Scalar.extui v12
  let c0_i32_5 : BitVec 32 := 0#32
  let v14 : BitVec 1 := Scalar.cmpi .ne v13 c0_i32_5
  v14

def k0_cond6 (i : grid0.Coords) : BitVec 1 :=
  let arg2 : BitVec 32 := BitVec.ofNat 32 (i 2).val
  let c4_i32 : BitVec 32 := 4#32
  let v15 : BitVec 1 := Scalar.cmpi .eq arg2 c4_i32
  let v16 : BitVec 32 := Scalar.extui v15
  let c0_i32_6 : BitVec 32 := 0#32
  let v17 : BitVec 1 := Scalar.cmpi .ne v16 c0_i32_6
  v17

def k0_cond7 (i : grid0.Coords) : BitVec 1 :=
  let arg2 : BitVec 32 := BitVec.ofNat 32 (i 2).val
  let c5_i32 : BitVec 32 := 5#32
  let v18 : BitVec 1 := Scalar.cmpi .eq arg2 c5_i32
  let v19 : BitVec 32 := Scalar.extui v18
  let c0_i32_7 : BitVec 32 := 0#32
  let v20 : BitVec 1 := Scalar.cmpi .ne v19 c0_i32_7
  v20

def k0_cond8 (i : grid0.Coords) : BitVec 1 :=
  let arg2 : BitVec 32 := BitVec.ofNat 32 (i 2).val
  let c6_i32 : BitVec 32 := 6#32
  let v21 : BitVec 1 := Scalar.cmpi .eq arg2 c6_i32
  let v22 : BitVec 32 := Scalar.extui v21
  let c0_i32_8 : BitVec 32 := 0#32
  let v23 : BitVec 1 := Scalar.cmpi .ne v22 c0_i32_8
  v23

def k0_cond9 (i : grid0.Coords) : BitVec 1 :=
  let arg2 : BitVec 32 := BitVec.ofNat 32 (i 2).val
  let c7_i32 : BitVec 32 := 7#32
  let v24 : BitVec 1 := Scalar.cmpi .eq arg2 c7_i32
  let v25 : BitVec 32 := Scalar.extui v24
  let c0_i32_9 : BitVec 32 := 0#32
  let v26 : BitVec 1 := Scalar.cmpi .ne v25 c0_i32_9
  v26

def k0_cond10 (i : grid0.Coords) : BitVec 1 :=
  let arg2 : BitVec 32 := BitVec.ofNat 32 (i 2).val
  let c7_i32_10 : BitVec 32 := 7#32
  let v27 : BitVec 1 := Scalar.cmpi .eq arg2 c7_i32_10
  let v28 : BitVec 32 := Scalar.extui v27
  let c0_i32_11 : BitVec 32 := 0#32
  let v29 : BitVec 1 := Scalar.cmpi .ne v28 c0_i32_11
  v29

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== ReferenceIdeal.lean ====
abbrev S4096x8704 : Shape := ⟨2, ![4096, 8704]⟩
abbrev S4096x512 : Shape := ⟨2, ![4096, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048x2048 : Shape := ⟨2, ![2048, 2048]⟩
abbrev S2x8x64x2048 : Shape := ⟨4, ![2, 8, 64, 2048]⟩
abbrev S2x8x2048x64 : Shape := ⟨4, ![2, 8, 2048, 64]⟩

abbrev nBuf : Space → Nat
  | .hbm => 172
  | .vmem => 0
  | .smem => 0
  | _ => 0

abbrev hbmTy0_0 (i : Nat) : BufTy := match i % 128 with
  | 0 => ⟨S4096x8704, .f32⟩
  | 1 => ⟨S4096x512, .f32⟩
  | 2 => ⟨S4096x512, .f32⟩
  | 3 => ⟨S2x2048x8x64, .f32⟩
  | 4 => ⟨S4096x512, .f32⟩
  | 5 => ⟨S2x2048x8x64, .f32⟩
  | 6 => ⟨S4096x512, .f32⟩
  | 7 => ⟨S2x2048x8x64, .f32⟩
  | 8 => ⟨S2x8x2048x2048, .f32⟩
  | 9 => ⟨S_, .f32⟩
  | 10 => ⟨S2x8x2048x2048, .f32⟩
  | 11 => ⟨S2x8x2048x2048, .f32⟩
  | 12 => ⟨S2048x2048, .i32⟩
  | 13 => ⟨S2048x2048, .i32⟩
  | 14 => ⟨S2048x2048, .i1⟩
  | 15 => ⟨S2x8x2048x2048, .f32⟩
  | 16 => ⟨S2x8x2048x2048, .f32⟩
  | 17 => ⟨S_, .f32⟩
  | 18 => ⟨S2x8x2048x2048, .f32⟩
  | 19 => ⟨S2x8x2048x2048, .f32⟩
  | 20 => ⟨S2x8x2048x2048, .f32⟩
  | 21 => ⟨S2x8x2048x2048, .f32⟩
  | 22 => ⟨S2x8x2048x2048, .i1⟩
  | 23 => ⟨S2x8x2048x2048, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S_, .f32⟩
  | 32 => ⟨S2x8x2048x2048, .f32⟩
  | 33 => ⟨S2x8x2048x2048, .i1⟩
  | 34 => ⟨S_, .f32⟩
  | 35 => ⟨S2x8x2048x2048, .f32⟩
  | 36 => ⟨S2x8x2048x2048, .f32⟩
  | 37 => ⟨S_, .f32⟩
  | 38 => ⟨S2x8x2048x2048, .f32⟩
  | 39 => ⟨S2x8x2048x2048, .i1⟩
  | 40 => ⟨S_, .f32⟩
  | 41 => ⟨S2x8x2048x2048, .f32⟩
  | 42 => ⟨S2x8x2048x2048, .f32⟩
  | 43 => ⟨S2x8x2048x2048, .f32⟩
  | 44 => ⟨S2x8x2048x2048, .f32⟩
  | 45 => ⟨S_, .f32⟩
  | 46 => ⟨S_, .f32⟩
  | 47 => ⟨S_, .i1⟩
  | 48 => ⟨S_, .f32⟩
  | 49 => ⟨S_, .f32⟩
  | 50 => ⟨S_, .f32⟩
  | 51 => ⟨S_, .f32⟩
  | 52 => ⟨S2x8x2048x2048, .f32⟩
  | 53 => ⟨S2x8x2048x2048, .i1⟩
  | 54 => ⟨S_, .f32⟩
  | 55 => ⟨S2x8x2048x2048, .f32⟩
  | 56 => ⟨S2x8x2048x2048, .f32⟩
  | 57 => ⟨S2x8x2048x2048, .f32⟩
  | 58 => ⟨S2x8x2048x2048, .f32⟩
  | 59 => ⟨S2x8x2048x2048, .f32⟩
  | 60 => ⟨S_, .f32⟩
  | 61 => ⟨S2x8x2048x2048, .f32⟩
  | 62 => ⟨S2x8x2048x2048, .f32⟩
  | 63 => ⟨S2x8x2048x2048, .f32⟩
  | 64 => ⟨S_, .f32⟩
  | 65 => ⟨S_, .f32⟩
  | 66 => ⟨S2x8x2048x2048, .i1⟩
  | 67 => ⟨S2x8x2048x2048, .f32⟩
  | 68 => ⟨S2x8x2048x2048, .f32⟩
  | 69 => ⟨S_, .f32⟩
  | 70 => ⟨S2x8x2048x2048, .f32⟩
  | 71 => ⟨S_, .f32⟩
  | 72 => ⟨S_, .f32⟩
  | 73 => ⟨S2x8x2048x2048, .f32⟩
  | 74 => ⟨S2x8x2048x2048, .f32⟩
  | 75 => ⟨S2x8x2048x2048, .f32⟩
  | 76 => ⟨S_, .f32⟩
  | 77 => ⟨S2x8x2048x2048, .f32⟩
  | 78 => ⟨S2x8x2048x2048, .f32⟩
  | 79 => ⟨S2x8x2048x2048, .f32⟩
  | 80 => ⟨S2x8x2048x2048, .f32⟩
  | 81 => ⟨S2x8x2048x2048, .i1⟩
  | 82 => ⟨S2x8x2048x2048, .f32⟩
  | 83 => ⟨S2x8x2048x2048, .f32⟩
  | 84 => ⟨S2x8x2048x2048, .f32⟩
  | 85 => ⟨S2x8x2048x2048, .f32⟩
  | 86 => ⟨S2x8x2048x2048, .f32⟩
  | 87 => ⟨S2x8x2048x2048, .f32⟩
  | 88 => ⟨S2x8x2048x2048, .f32⟩
  | 89 => ⟨S2x8x2048x2048, .f32⟩
  | 90 => ⟨S_, .f32⟩
  | 91 => ⟨S2x8x2048x2048, .f32⟩
  | 92 => ⟨S2x8x2048x2048, .i1⟩
  | 93 => ⟨S_, .f32⟩
  | 94 => ⟨S2x8x2048x2048, .f32⟩
  | 95 => ⟨S2x8x2048x2048, .f32⟩
  | 96 => ⟨S_, .f32⟩
  | 97 => ⟨S2x8x2048x2048, .f32⟩
  | 98 => ⟨S2x8x2048x2048, .i1⟩
  | 99 => ⟨S_, .f32⟩
  | 100 => ⟨S2x8x2048x2048, .f32⟩
  | 101 => ⟨S2x8x2048x2048, .f32⟩
  | 102 => ⟨S2x8x2048x2048, .f32⟩
  | 103 => ⟨S2x8x2048x2048, .f32⟩
  | 104 => ⟨S_, .f32⟩
  | 105 => ⟨S_, .f32⟩
  | 106 => ⟨S_, .i1⟩
  | 107 => ⟨S_, .f32⟩
  | 108 => ⟨S_, .f32⟩
  | 109 => ⟨S_, .f32⟩
  | 110 => ⟨S_, .f32⟩
  | 111 => ⟨S2x8x2048x2048, .f32⟩
  | 112 => ⟨S2x8x2048x2048, .i1⟩
  | 113 => ⟨S_, .f32⟩
  | 114 => ⟨S2x8x2048x2048, .f32⟩
  | 115 => ⟨S2x8x2048x2048, .f32⟩
  | 116 => ⟨S2x8x2048x2048, .f32⟩
  | 117 => ⟨S2x8x2048x2048, .f32⟩
  | 118 => ⟨S2x8x2048x2048, .f32⟩
  | 119 => ⟨S_, .f32⟩
  | 120 => ⟨S2x8x2048x2048, .f32⟩
  | 121 => ⟨S2x8x2048x2048, .f32⟩
  | 122 => ⟨S2x8x2048x2048, .f32⟩
  | 123 => ⟨S2x8x2048x2048, .f32⟩
  | 124 => ⟨S2x8x2048x2048, .f32⟩
  | 125 => ⟨S_, .f32⟩
  | 126 => ⟨S_, .f32⟩
  | 127 => ⟨S2x8x2048x2048, .i1⟩
  | _ => ⟨S4096x8704, .f32⟩

abbrev hbmTy0_1 (i : Nat) : BufTy := match i % 128 with
  | 0 => ⟨S2x8x2048x2048, .f32⟩
  | 1 => ⟨S2x8x2048x2048, .f32⟩
  | 2 => ⟨S_, .f32⟩
  | 3 => ⟨S2x8x2048x2048, .f32⟩
  | 4 => ⟨S2x8x64x2048, .f32⟩
  | 5 => ⟨S2x2048x8x64, .f32⟩
  | 6 => ⟨S2x2048x8x64, .f32⟩
  | 7 => ⟨S2x8x64x2048, .f32⟩
  | 8 => ⟨S2x8x2048x2048, .f32⟩
  | 9 => ⟨S2x8x64x2048, .f32⟩
  | 10 => ⟨S2x2048x8x64, .f32⟩
  | 11 => ⟨S_, .f32⟩
  | 12 => ⟨S2x8x2048x2048, .f32⟩
  | 13 => ⟨S2x8x2048x2048, .f32⟩
  | 14 => ⟨S2x8x2048x2048, .f32⟩
  | 15 => ⟨S2x8x2048x2048, .f32⟩
  | 16 => ⟨S2x8x2048x2048, .f32⟩
  | 17 => ⟨S2x8x2048x2048, .f32⟩
  | 18 => ⟨S2x8x2048x2048, .f32⟩
  | 19 => ⟨S_, .f32⟩
  | 20 => ⟨S_, .f32⟩
  | 21 => ⟨S2x8x2048x2048, .f32⟩
  | 22 => ⟨S2x8x2048x2048, .f32⟩
  | 23 => ⟨S_, .f32⟩
  | 24 => ⟨S2x8x2048x2048, .f32⟩
  | 25 => ⟨S2x8x2048x2048, .f32⟩
  | 26 => ⟨S2x8x2048x2048, .f32⟩
  | 27 => ⟨S2x8x2048x2048, .f32⟩
  | 28 => ⟨S2x8x2048x2048, .f32⟩
  | 29 => ⟨S2x8x2048x2048, .f32⟩
  | 30 => ⟨S2x8x2048x2048, .f32⟩
  | 31 => ⟨S_, .f32⟩
  | 32 => ⟨S2x8x2048x2048, .f32⟩
  | 33 => ⟨S2x8x2048x2048, .f32⟩
  | 34 => ⟨S2x8x2048x64, .f32⟩
  | 35 => ⟨S2x2048x8x64, .f32⟩
  | 36 => ⟨S2x8x2048x64, .f32⟩
  | 37 => ⟨S2x2048x8x64, .f32⟩
  | 38 => ⟨S4096x512, .f32⟩
  | 39 => ⟨S4096x512, .bf16⟩
  | 40 => ⟨S4096x512, .f32⟩
  | 41 => ⟨S4096x512, .bf16⟩
  | 42 => ⟨S4096x512, .f32⟩
  | 43 => ⟨S4096x512, .bf16⟩
  | _ => ⟨S4096x8704, .f32⟩

abbrev hbmTy (i : Nat) : BufTy := match i / 128 with
  | 0 => hbmTy0_0 i
  | 1 => hbmTy0_1 i
  | _ => ⟨S4096x8704, .f32⟩

abbrev bufTy : (tb : Table) → Fin (tcTables nBuf tb) → BufTy
  | .hbm, ⟨i, _⟩ => hbmTy i
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_call0_v0 : Ref sig .tc := ⟨.hbm, 16, rfl⟩
abbrev main_call0_call0_cst : Ref sig .tc := ⟨.hbm, 17, rfl⟩
abbrev main_call0_call0_v0 : Ref sig .tc := ⟨.hbm, 18, rfl⟩
abbrev main_call0_call0_v1 : Ref sig .tc := ⟨.hbm, 19, rfl⟩
abbrev main_call0_call0_v2 : Ref sig .tc := ⟨.hbm, 20, rfl⟩
abbrev main_call0_call0_v3 : Ref sig .tc := ⟨.hbm, 21, rfl⟩
abbrev main_call0_call0_v4 : Ref sig .tc := ⟨.hbm, 22, rfl⟩
abbrev main_call0_call0_v5 : Ref sig .tc := ⟨.hbm, 23, rfl⟩
abbrev main_call0_call0_v6 : Ref sig .tc := ⟨.hbm, 24, rfl⟩
abbrev main_call0_call0_v7 : Ref sig .tc := ⟨.hbm, 25, rfl⟩
abbrev main_call0_call0_v8 : Ref sig .tc := ⟨.hbm, 26, rfl⟩
abbrev main_call0_call0_v9 : Ref sig .tc := ⟨.hbm, 27, rfl⟩
abbrev main_call0_call0_v10 : Ref sig .tc := ⟨.hbm, 28, rfl⟩
abbrev main_call0_call0_v11 : Ref sig .tc := ⟨.hbm, 29, rfl⟩
abbrev main_call0_v1_0 : Ref sig .tc := ⟨.hbm, 30, rfl⟩
abbrev main_call0_call0_cst_0 : Ref sig .tc := ⟨.hbm, 31, rfl⟩
abbrev main_call0_call0_v13 : Ref sig .tc := ⟨.hbm, 32, rfl⟩
abbrev main_call0_call0_v14 : Ref sig .tc := ⟨.hbm, 33, rfl⟩
abbrev main_call0_call0_cst_1 : Ref sig .tc := ⟨.hbm, 34, rfl⟩
abbrev main_call0_call0_v15 : Ref sig .tc := ⟨.hbm, 35, rfl⟩
abbrev main_call0_call0_v16 : Ref sig .tc := ⟨.hbm, 36, rfl⟩
abbrev main_call0_call0_cst_2 : Ref sig .tc := ⟨.hbm, 37, rfl⟩
abbrev main_call0_call0_v17 : Ref sig .tc := ⟨.hbm, 38, rfl⟩
abbrev main_call0_call0_v18 : Ref sig .tc := ⟨.hbm, 39, rfl⟩
abbrev main_call0_call0_cst_3 : Ref sig .tc := ⟨.hbm, 40, rfl⟩
abbrev main_call0_call0_v19 : Ref sig .tc := ⟨.hbm, 41, rfl⟩
abbrev main_call0_call0_v20 : Ref sig .tc := ⟨.hbm, 42, rfl⟩
abbrev main_call0_call0_v21 : Ref sig .tc := ⟨.hbm, 43, rfl⟩
abbrev main_v13_1 : Ref sig .tc := ⟨.hbm, 44, rfl⟩
abbrev main_call0_call0_cst_4 : Ref sig .tc := ⟨.hbm, 45, rfl⟩
abbrev main_call0_call0_cst_5 : Ref sig .tc := ⟨.hbm, 46, rfl⟩
abbrev main_call0_call0_v23 : Ref sig .tc := ⟨.hbm, 47, rfl⟩
abbrev main_call0_call0_cst_6 : Ref sig .tc := ⟨.hbm, 48, rfl⟩
abbrev main_call0_call0_cst_7 : Ref sig .tc := ⟨.hbm, 49, rfl⟩
abbrev main_call0_call0_v24 : Ref sig .tc := ⟨.hbm, 50, rfl⟩
abbrev main_call0_call0_cst_8 : Ref sig .tc := ⟨.hbm, 51, rfl⟩
abbrev main_call0_call0_v25 : Ref sig .tc := ⟨.hbm, 52, rfl⟩
abbrev main_call0_call0_v26 : Ref sig .tc := ⟨.hbm, 53, rfl⟩
abbrev main_call0_call0_cst_9 : Ref sig .tc := ⟨.hbm, 54, rfl⟩
abbrev main_call0_call0_v27 : Ref sig .tc := ⟨.hbm, 55, rfl⟩
abbrev main_call0_call0_v28 : Ref sig .tc := ⟨.hbm, 56, rfl⟩
abbrev main_call0_call0_v29 : Ref sig .tc := ⟨.hbm, 57, rfl⟩
abbrev main_call0_call0_v30 : Ref sig .tc := ⟨.hbm, 58, rfl⟩
abbrev main_call0_call0_v31 : Ref sig .tc := ⟨.hbm, 59, rfl⟩
abbrev main_call0_call0_cst_10 : Ref sig .tc := ⟨.hbm, 60, rfl⟩
abbrev main_call0_call0_v32 : Ref sig .tc := ⟨.hbm, 61, rfl⟩
abbrev main_v13_2 : Ref sig .tc := ⟨.hbm, 62, rfl⟩
abbrev main_v13_0 : Ref sig .tc := ⟨.hbm, 63, rfl⟩
abbrev main_cst_0 : Ref sig .tc := ⟨.hbm, 64, rfl⟩
abbrev main_call1_v0 : Ref sig .tc := ⟨.hbm, 65, rfl⟩
abbrev main_v14_1 : Ref sig .tc := ⟨.hbm, 66, rfl⟩
abbrev main_call1_v2 : Ref sig .tc := ⟨.hbm, 67, rfl⟩
abbrev main_v14_0 : Ref sig .tc := ⟨.hbm, 68, rfl⟩
abbrev main_call1_cst : Ref sig .tc := ⟨.hbm, 69, rfl⟩
abbrev main_v14_2 : Ref sig .tc := ⟨.hbm, 70, rfl⟩
abbrev main_call2_cst : Ref sig .tc := ⟨.hbm, 71, rfl⟩
abbrev main_call2_v0 : Ref sig .tc := ⟨.hbm, 72, rfl⟩
abbrev main_v15 : Ref sig .tc := ⟨.hbm, 73, rfl⟩
abbrev main_v16 : Ref sig .tc := ⟨.hbm, 74, rfl⟩
abbrev main_call3_v0 : Ref sig .tc := ⟨.hbm, 75, rfl⟩
abbrev main_call3_call0_cst : Ref sig .tc := ⟨.hbm, 76, rfl⟩
abbrev main_call3_call0_v0 : Ref sig .tc := ⟨.hbm, 77, rfl⟩
abbrev main_call3_call0_v1 : Ref sig .tc := ⟨.hbm, 78, rfl⟩
abbrev main_call3_call0_v2 : Ref sig .tc := ⟨.hbm, 79, rfl⟩
abbrev main_call3_call0_v3 : Ref sig .tc := ⟨.hbm, 80, rfl⟩
abbrev main_call3_call0_v4 : Ref sig .tc := ⟨.hbm, 81, rfl⟩
abbrev main_call3_call0_v5 : Ref sig .tc := ⟨.hbm, 82, rfl⟩
abbrev main_call3_call0_v6 : Ref sig .tc := ⟨.hbm, 83, rfl⟩
abbrev main_call3_call0_v7 : Ref sig .tc := ⟨.hbm, 84, rfl⟩
abbrev main_call3_call0_v8 : Ref sig .tc := ⟨.hbm, 85, rfl⟩
abbrev main_call3_call0_v9 : Ref sig .tc := ⟨.hbm, 86, rfl⟩
abbrev main_call3_call0_v10 : Ref sig .tc := ⟨.hbm, 87, rfl⟩
abbrev main_call3_call0_v11 : Ref sig .tc := ⟨.hbm, 88, rfl⟩
abbrev main_call3_v1_0 : Ref sig .tc := ⟨.hbm, 89, rfl⟩
abbrev main_call3_call0_cst_0 : Ref sig .tc := ⟨.hbm, 90, rfl⟩
abbrev main_call3_call0_v13 : Ref sig .tc := ⟨.hbm, 91, rfl⟩
abbrev main_call3_call0_v14 : Ref sig .tc := ⟨.hbm, 92, rfl⟩
abbrev main_call3_call0_cst_1 : Ref sig .tc := ⟨.hbm, 93, rfl⟩
abbrev main_call3_call0_v15 : Ref sig .tc := ⟨.hbm, 94, rfl⟩
abbrev main_call3_call0_v16 : Ref sig .tc := ⟨.hbm, 95, rfl⟩
abbrev main_call3_call0_cst_2 : Ref sig .tc := ⟨.hbm, 96, rfl⟩
abbrev main_call3_call0_v17 : Ref sig .tc := ⟨.hbm, 97, rfl⟩
abbrev main_call3_call0_v18 : Ref sig .tc := ⟨.hbm, 98, rfl⟩
abbrev main_call3_call0_cst_3 : Ref sig .tc := ⟨.hbm, 99, rfl⟩
abbrev main_call3_call0_v19 : Ref sig .tc := ⟨.hbm, 100, rfl⟩
abbrev main_call3_call0_v20 : Ref sig .tc := ⟨.hbm, 101, rfl⟩
abbrev main_call3_call0_v21 : Ref sig .tc := ⟨.hbm, 102, rfl⟩
abbrev main_v17_1 : Ref sig .tc := ⟨.hbm, 103, rfl⟩
abbrev main_call3_call0_cst_4 : Ref sig .tc := ⟨.hbm, 104, rfl⟩
abbrev main_call3_call0_cst_5 : Ref sig .tc := ⟨.hbm, 105, rfl⟩
abbrev main_call3_call0_v23 : Ref sig .tc := ⟨.hbm, 106, rfl⟩
abbrev main_call3_call0_cst_6 : Ref sig .tc := ⟨.hbm, 107, rfl⟩
abbrev main_call3_call0_cst_7 : Ref sig .tc := ⟨.hbm, 108, rfl⟩
abbrev main_call3_call0_v24 : Ref sig .tc := ⟨.hbm, 109, rfl⟩
abbrev main_call3_call0_cst_8 : Ref sig .tc := ⟨.hbm, 110, rfl⟩
abbrev main_call3_call0_v25 : Ref sig .tc := ⟨.hbm, 111, rfl⟩
abbrev main_call3_call0_v26 : Ref sig .tc := ⟨.hbm, 112, rfl⟩
abbrev main_call3_call0_cst_9 : Ref sig .tc := ⟨.hbm, 113, rfl⟩
abbrev main_call3_call0_v27 : Ref sig .tc := ⟨.hbm, 114, rfl⟩
abbrev main_call3_call0_v28 : Ref sig .tc := ⟨.hbm, 115, rfl⟩
abbrev main_call3_call0_v29 : Ref sig .tc := ⟨.hbm, 116, rfl⟩
abbrev main_call3_call0_v30 : Ref sig .tc := ⟨.hbm, 117, rfl⟩
abbrev main_call3_call0_v31 : Ref sig .tc := ⟨.hbm, 118, rfl⟩
abbrev main_call3_call0_cst_10 : Ref sig .tc := ⟨.hbm, 119, rfl⟩
abbrev main_call3_call0_v32 : Ref sig .tc := ⟨.hbm, 120, rfl⟩
abbrev main_v17_2 : Ref sig .tc := ⟨.hbm, 121, rfl⟩
abbrev main_v17_0 : Ref sig .tc := ⟨.hbm, 122, rfl⟩
abbrev main_v18 : Ref sig .tc := ⟨.hbm, 123, rfl⟩
abbrev main_v19 : Ref sig .tc := ⟨.hbm, 124, rfl⟩
abbrev main_cst_1 : Ref sig .tc := ⟨.hbm, 125, rfl⟩
abbrev main_call4_v0 : Ref sig .tc := ⟨.hbm, 126, rfl⟩
abbrev main_v20_1 : Ref sig .tc := ⟨.hbm, 127, rfl⟩
abbrev main_call4_v2 : Ref sig .tc := ⟨.hbm, 128, rfl⟩
abbrev main_v20_0 : Ref sig .tc := ⟨.hbm, 129, rfl⟩
abbrev main_call4_cst : Ref sig .tc := ⟨.hbm, 130, rfl⟩
abbrev main_v20_2 : Ref sig .tc := ⟨.hbm, 131, rfl⟩
abbrev main_v21 : Ref sig .tc := ⟨.hbm, 132, rfl⟩
abbrev main_v22 : Ref sig .tc := ⟨.hbm, 133, rfl⟩
abbrev main_v23 : Ref sig .tc := ⟨.hbm, 134, rfl⟩
abbrev main_v24 : Ref sig .tc := ⟨.hbm, 135, rfl⟩
abbrev main_v25 : Ref sig .tc := ⟨.hbm, 136, rfl⟩
abbrev main_v26 : Ref sig .tc := ⟨.hbm, 137, rfl⟩
abbrev main_v27 : Ref sig .tc := ⟨.hbm, 138, rfl⟩
abbrev main_call5_cst : Ref sig .tc := ⟨.hbm, 139, rfl⟩
abbrev main_call5_v0 : Ref sig .tc := ⟨.hbm, 140, rfl⟩
abbrev main_v28 : Ref sig .tc := ⟨.hbm, 141, rfl⟩
abbrev main_v29 : Ref sig .tc := ⟨.hbm, 142, rfl⟩
abbrev main_call6_v0 : Ref sig .tc := ⟨.hbm, 143, rfl⟩
abbrev main_call6_v1 : Ref sig .tc := ⟨.hbm, 144, rfl⟩
abbrev main_v30 : Ref sig .tc := ⟨.hbm, 145, rfl⟩
abbrev main_v31 : Ref sig .tc := ⟨.hbm, 146, rfl⟩
abbrev main_call7_cst : Ref sig .tc := ⟨.hbm, 147, rfl⟩
abbrev main_call7_v0 : Ref sig .tc := ⟨.hbm, 148, rfl⟩
abbrev main_v32 : Ref sig .tc := ⟨.hbm, 149, rfl⟩
abbrev main_v33 : Ref sig .tc := ⟨.hbm, 150, rfl⟩
abbrev main_call8_cst : Ref sig .tc := ⟨.hbm, 151, rfl⟩
abbrev main_call8_v0 : Ref sig .tc := ⟨.hbm, 152, rfl⟩
abbrev main_v34 : Ref sig .tc := ⟨.hbm, 153, rfl⟩
abbrev main_call9_v0 : Ref sig .tc := ⟨.hbm, 154, rfl⟩
abbrev main_call9_v1 : Ref sig .tc := ⟨.hbm, 155, rfl⟩
abbrev main_v35 : Ref sig .tc := ⟨.hbm, 156, rfl⟩
abbrev main_v36 : Ref sig .tc := ⟨.hbm, 157, rfl⟩
abbrev main_v37 : Ref sig .tc := ⟨.hbm, 158, rfl⟩
abbrev main_cst_2 : Ref sig .tc := ⟨.hbm, 159, rfl⟩
abbrev main_v38 : Ref sig .tc := ⟨.hbm, 160, rfl⟩
abbrev main_v39 : Ref sig .tc := ⟨.hbm, 161, rfl⟩
abbrev main_v40 : Ref sig .tc := ⟨.hbm, 162, rfl⟩
abbrev main_v41 : Ref sig .tc := ⟨.hbm, 163, rfl⟩
abbrev main_v42 : Ref sig .tc := ⟨.hbm, 164, rfl⟩
abbrev main_v43 : Ref sig .tc := ⟨.hbm, 165, rfl⟩
abbrev main_v44 : Ref sig .tc := ⟨.hbm, 166, rfl⟩
abbrev main_v45 : Ref sig .tc := ⟨.hbm, 167, rfl⟩
abbrev main_v46 : Ref sig .tc := ⟨.hbm, 168, rfl⟩
abbrev main_v47 : Ref sig .tc := ⟨.hbm, 169, rfl⟩
abbrev main_v48 : Ref sig .tc := ⟨.hbm, 170, rfl⟩
abbrev main_v49 : Ref sig .tc := ⟨.hbm, 171, rfl⟩

abbrev nD : Nat := 1
abbrev τ : Topo := Topo.v7x

variable {F : FTy → Type} [FloatOps F]
-- ==== MlpOutDx.lean ====
abbrev S4096x1024 : Shape := ⟨2, ![4096, 1024]⟩
abbrev S4096x4096 : Shape := ⟨2, ![4096, 4096]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S4096x4096, .bf16⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutDxRefIdeal.lean ====
abbrev S4096x1024 : Shape := ⟨2, ![4096, 1024]⟩
abbrev S4096x4096 : Shape := ⟨2, ![4096, 4096]⟩
abbrev S_ : Shape := ⟨0, ![]⟩

abbrev nBuf : Space → Nat
  | .hbm => 23
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .i1⟩
  | .hbm, ⟨9, _⟩ => ⟨S_, .f32⟩
  | .hbm, ⟨10, _⟩ => ⟨S4096x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x1024, .f32⟩
  | .hbm, ⟨16, _⟩ => ⟨S4096x1024, .f32⟩
  | .hbm, ⟨17, _⟩ => ⟨S4096x4096, .f32⟩
  | .hbm, ⟨18, _⟩ => ⟨S4096x4096, .f32⟩
  | .hbm, ⟨19, _⟩ => ⟨S_, .f32⟩
  | .hbm, ⟨20, _⟩ => ⟨S4096x4096, .f32⟩
  | .hbm, ⟨21, _⟩ => ⟨S4096x4096, .f32⟩
  | .hbm, ⟨22, _⟩ => ⟨S4096x4096, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_cst : Ref sig .tc := ⟨.hbm, 3, rfl⟩
abbrev main_call0_v0 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩

abbrev nD : Nat := 1
abbrev τ : Topo := Topo.v7x

variable {F : FTy → Type} [FloatOps F]
-- ==== ProjDx.lean ====
abbrev S4096x8704 : Shape := ⟨2, ![4096, 8704]⟩
abbrev S1024x8704 : Shape := ⟨2, ![1024, 8704]⟩
abbrev S4096x1024 : Shape := ⟨2, ![4096, 1024]⟩
abbrev S1024x2176 : Shape := ⟨2, ![1024, 2176]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8704, .bf16⟩
  | .hbm, ⟨1, _⟩ => ⟨S1024x8704, .bf16⟩
  | .hbm, ⟨2, _⟩ => ⟨S4096x1024, .f32⟩
  | .local _ .vmem, ⟨0, _⟩ => ⟨S1024x2176, .bf16⟩
  | .local _ .vmem, ⟨1, _⟩ => ⟨S1024x2176, .bf16⟩
  | .local _ .vmem, ⟨2, _⟩ => ⟨S1024x2176, .bf16⟩
  | .local _ .vmem, ⟨3, _⟩ => ⟨S1024x2176, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8704, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjDxRefIdeal.lean ====
abbrev S4096x8704 : Shape := ⟨2, ![4096, 8704]⟩
abbrev S1024x8704 : Shape := ⟨2, ![1024, 8704]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x8704, .bf16⟩
  | .hbm, ⟨1, _⟩ => ⟨S1024x8704, .bf16⟩
  | .hbm, ⟨2, _⟩ => ⟨S_, .f32⟩
  | .hbm, ⟨3, _⟩ => ⟨S4096x1024, .f32⟩
  | .hbm, ⟨4, _⟩ => ⟨S1024x8704, .f32⟩
  | .hbm, ⟨5, _⟩ => ⟨S4096x8704, .f32⟩
  | .hbm, ⟨6, _⟩ => ⟨S4096x8704, .f32⟩
  | .hbm, ⟨7, _⟩ => ⟨S4096x1024, .f32⟩
  | _, _ => ⟨S4096x8704, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpInDx.lean ====
abbrev S4096x4096 : Shape := ⟨2, ![4096, 4096]⟩
abbrev S1024x4096 : Shape := ⟨2, ![1024, 4096]⟩
abbrev S4096x1024 : Shape := ⟨2, ![4096, 1024]⟩
abbrev S2048x2048 : Shape := ⟨2, ![2048, 2048]⟩
abbrev S512x2048 : Shape := ⟨2, ![512, 2048]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S512x2048, .bf16⟩
  | .local _ .vmem, ⟨3, _⟩ => ⟨S512x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDxRefIdeal.lean ====
abbrev S4096x4096 : Shape := ⟨2, ![4096, 4096]⟩
abbrev S1024x4096 : Shape := ⟨2, ![1024, 4096]⟩
abbrev S_ : Shape := ⟨0, ![]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S1024x4096, .bf16⟩
  | .hbm, ⟨2, _⟩ => ⟨S_, .f32⟩
  | .hbm, ⟨3, _⟩ => ⟨S4096x1024, .f32⟩
  | .hbm, ⟨4, _⟩ => ⟨S1024x4096, .f32⟩
  | .hbm, ⟨5, _⟩ => ⟨S4096x4096, .f32⟩
  | .hbm, ⟨6, _⟩ => ⟨S4096x4096, .f32⟩
  | .hbm, ⟨7, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Proj.lean ====
abbrev S4096x1024 : Shape := ⟨2, ![4096, 1024]⟩
abbrev S1024x8704 : Shape := ⟨2, ![1024, 8704]⟩
abbrev S4096x8704 : Shape := ⟨2, ![4096, 8704]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S1024x8704, .bf16⟩
  | .hbm, ⟨2, _⟩ => ⟨S4096x8704, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 17, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjRefIdeal.lean ====
abbrev S4096x1024 : Shape := ⟨2, ![4096, 1024]⟩
abbrev S1024x8704 : Shape := ⟨2, ![1024, 8704]⟩
abbrev S4096x8704 : Shape := ⟨2, ![4096, 8704]⟩

abbrev nBuf : Space → Nat
  | .hbm => 5
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x8704, .bf16⟩
  | .hbm, ⟨2, _⟩ => ⟨S4096x1024, .f32⟩
  | .hbm, ⟨3, _⟩ => ⟨S1024x8704, .f32⟩
  | .hbm, ⟨4, _⟩ => ⟨S4096x8704, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== MlpIn.lean ====
abbrev S4096x1024 : Shape := ⟨2, ![4096, 1024]⟩
abbrev S1024x4096 : Shape := ⟨2, ![1024, 4096]⟩
abbrev S4096x4096 : Shape := ⟨2, ![4096, 4096]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x4096, .f32⟩
  | .hbm, ⟨3, _⟩ => ⟨S4096x4096, .bf16⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .bf16⟩
  | .local _ .vmem, ⟨7, _⟩ => ⟨S2048x512, .bf16⟩
  | .local _ .vmem, ⟨8, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 8, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpInRefIdeal.lean ====
abbrev S4096x1024 : Shape := ⟨2, ![4096, 1024]⟩
abbrev S1024x4096 : Shape := ⟨2, ![1024, 4096]⟩
abbrev S4096x4096 : Shape := ⟨2, ![4096, 4096]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x4096, .bf16⟩
  | .hbm, ⟨2, _⟩ => ⟨S4096x1024, .f32⟩
  | .hbm, ⟨3, _⟩ => ⟨S1024x4096, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_call0_cst : Ref sig .tc := ⟨.hbm, 5, rfl⟩
abbrev main_call0_v0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== MlpOut.lean ====
abbrev S4096x4096 : Shape := ⟨2, ![4096, 4096]⟩
abbrev S4096x1024 : Shape := ⟨2, ![4096, 1024]⟩
abbrev S2048x2048 : Shape := ⟨2, ![2048, 2048]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x1024, .f32⟩
  | .local _ .vmem, ⟨0, _⟩ => ⟨S2048x2048, .bf16⟩
  | .local _ .vmem, ⟨1, _⟩ => ⟨S2048x2048, .bf16⟩
  | .local _ .vmem, ⟨2, _⟩ => ⟨S2048x512, .bf16⟩
  | .local _ .vmem, ⟨3, _⟩ => ⟨S2048x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== MlpOutRefIdeal.lean ====
abbrev S4096x4096 : Shape := ⟨2, ![4096, 4096]⟩
abbrev S4096x1024 : Shape := ⟨2, ![4096, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S4096x4096, .f32⟩
  | .hbm, ⟨4, _⟩ => ⟨S4096x1024, .f32⟩
  | .hbm, ⟨5, _⟩ => ⟨S4096x1024, .f32⟩
  | .hbm, ⟨6, _⟩ => ⟨S4096x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== OutProjDx.lean ====
abbrev S4096x1024 : Shape := ⟨2, ![4096, 1024]⟩
abbrev S1024x1024 : Shape := ⟨2, ![1024, 1024]⟩
abbrev S2048x1024 : Shape := ⟨2, ![2048, 1024]⟩
abbrev S512x1024 : Shape := ⟨2, ![512, 1024]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S4096x1024, .f32⟩
  | .local _ .vmem, ⟨0, _⟩ => ⟨S2048x1024, .f32⟩
  | .local _ .vmem, ⟨1, _⟩ => ⟨S2048x1024, .f32⟩
  | .local _ .vmem, ⟨2, _⟩ => ⟨S512x1024, .bf16⟩
  | .local _ .vmem, ⟨3, _⟩ => ⟨S512x1024, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v10 : BitVec 1 := Scalar.cmpi .eq arg2 c0_i32_6
  let v11 : BitVec 32 := Scalar.extui v10
  let c0_i32_7 : BitVec 32 := 0#32
  let v12 : BitVec 1 := Scalar.cmpi .ne v11 c0_i32_7
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDxRefIdeal.lean ====
abbrev S4096x1024 : Shape := ⟨2, ![4096, 1024]⟩
abbrev S1024x1024 : Shape := ⟨2, ![1024, 1024]⟩
abbrev S_ : Shape := ⟨0, ![]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .bf16⟩
  | .hbm, ⟨2, _⟩ => ⟨S_, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== UpDx.lean ====
abbrev S4096x1024 : Shape := ⟨2, ![4096, 1024]⟩
abbrev S512x1024 : Shape := ⟨2, ![512, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxIdeal.lean ====
abbrev S4096x1024 : Shape := ⟨2, ![4096, 1024]⟩
abbrev S512x1024 : Shape := ⟨2, ![512, 1024]⟩
abbrev S4096x512 : Shape := ⟨2, ![4096, 512]⟩
abbrev S2048x1024 : Shape := ⟨2, ![2048, 1024]⟩
abbrev S2048x512 : Shape := ⟨2, ![2048, 512]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S4096x512, .f32⟩
  | .local _ .vmem, ⟨0, _⟩ => ⟨S2048x1024, .bf16⟩
  | .local _ .vmem, ⟨1, _⟩ => ⟨S2048x1024, .bf16⟩
  | .local _ .vmem, ⟨2, _⟩ => ⟨S512x1024, .bf16⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDxRefIdeal.lean ====
abbrev S4096x1024 : Shape := ⟨2, ![4096, 1024]⟩
abbrev S512x1024 : Shape := ⟨2, ![512, 1024]⟩
abbrev S_ : Shape := ⟨0, ![]⟩
abbrev S4096x512 : Shape := ⟨2, ![4096, 512]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S512x1024, .bf16⟩
  | .hbm, ⟨2, _⟩ => ⟨S_, .f32⟩
  | .hbm, ⟨3, _⟩ => ⟨S4096x512, .f32⟩
  | .hbm, ⟨4, _⟩ => ⟨S512x1024, .f32⟩
  | .hbm, ⟨5, _⟩ => ⟨S4096x1024, .f32⟩
  | .hbm, ⟨6, _⟩ => ⟨S4096x1024, .f32⟩
  | .hbm, ⟨7, _⟩ => ⟨S4096x512, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== UpDilDx.lean ====
abbrev S4096x1024 : Shape := ⟨2, ![4096, 1024]⟩
abbrev S256x1024 : Shape := ⟨2, ![256, 1024]⟩
abbrev S4096x256 : Shape := ⟨2, ![4096, 256]⟩
abbrev S2048x1024 : Shape := ⟨2, ![2048, 1024]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S4096x256, .f32⟩
  | .local _ .vmem, ⟨0, _⟩ => ⟨S2048x1024, .bf16⟩
  | .local _ .vmem, ⟨1, _⟩ => ⟨S2048x1024, .bf16⟩
  | .local _ .vmem, ⟨2, _⟩ => ⟨S256x1024, .bf16⟩
  | .local _ .vmem, ⟨3, _⟩ => ⟨S2048x256, .f32⟩
  | .local _ .vmem, ⟨4, _⟩ => ⟨S2048x256, .f32⟩
  | .local _ .vmem, ⟨5, _⟩ => ⟨S2048x256, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![2, 1, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S256x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDilDxRefIdeal.lean ====
abbrev S4096x1024 : Shape := ⟨2, ![4096, 1024]⟩
abbrev S256x1024 : Shape := ⟨2, ![256, 1024]⟩
abbrev S_ : Shape := ⟨0, ![]⟩
abbrev S4096x256 : Shape := ⟨2, ![4096, 256]⟩

abbrev nBuf : Space → Nat
  | .hbm => 8
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S256x1024, .bf16⟩
  | .hbm, ⟨2, _⟩ => ⟨S_, .f32⟩
  | .hbm, ⟨3, _⟩ => ⟨S4096x256, .f32⟩
  | .hbm, ⟨4, _⟩ => ⟨S256x1024, .f32⟩
  | .hbm, ⟨5, _⟩ => ⟨S4096x1024, .f32⟩
  | .hbm, ⟨6, _⟩ => ⟨S4096x1024, .f32⟩
  | .hbm, ⟨7, _⟩ => ⟨S4096x256, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== MlpOutDw.lean ====
abbrev S4096x4096 : Shape := ⟨2, ![4096, 4096]⟩
abbrev S4096x1024 : Shape := ⟨2, ![4096, 1024]⟩
abbrev S4x4608x1024 : Shape := ⟨3, ![4, 4608, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwIdeal.lean ====
abbrev S4096x4096 : Shape := ⟨2, ![4096, 4096]⟩
abbrev S4096x1024 : Shape := ⟨2, ![4096, 1024]⟩
abbrev S4x4608x1024 : Shape := ⟨3, ![4, 4608, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c4_i32 : BitVec 32 := 4#32
  let v27 : BitVec 32 := Scalar.addi c4_i32 v26
  let c0_i32_10 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwRefIdeal.lean ====
abbrev S4096x4096 : Shape := ⟨2, ![4096, 4096]⟩
abbrev S4096x1024 : Shape := ⟨2, ![4096, 1024]⟩
abbrev S4x4608x1024 : Shape := ⟨3, ![4, 4608, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x4608x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x4608x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== MlpOutDwLast.lean ====
abbrev S4096x4096 : Shape := ⟨2, ![4096, 4096]⟩
abbrev S4096x1024 : Shape := ⟨2, ![4096, 1024]⟩
abbrev S4x4608x1024 : Shape := ⟨3, ![4, 4608, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.addi c6_i32 v26
  let c0_i32_10 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwLastIdeal.lean ====
abbrev S4096x4096 : Shape := ⟨2, ![4096, 4096]⟩
abbrev S4096x1024 : Shape := ⟨2, ![4096, 1024]⟩
abbrev S4x4608x1024 : Shape := ⟨3, ![4, 4608, 1024]⟩
abbrev S2048x512 : Shape := ⟨2, ![2048, 512]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x512, .bf16⟩
  | .local _ .vmem, ⟨1, _⟩ => ⟨S2048x512, .bf16⟩
  | .local _ .vmem, ⟨2, _⟩ => ⟨S2048x1024, .f32⟩
  | .local _ .vmem, ⟨3, _⟩ => ⟨S2048x1024, .f32⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c6_i32 : BitVec 32 := 6#32
  let v27 : BitVec 32 := Scalar.addi c6_i32 v26
  let c0_i32_10 : BitVec 32 := 0#32
  ![v16.toNat, v27.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpOutDwLastRefIdeal.lean ====
abbrev S4096x4096 : Shape := ⟨2, ![4096, 4096]⟩
abbrev S4096x1024 : Shape := ⟨2, ![4096, 1024]⟩
abbrev S4x4608x1024 : Shape := ⟨3, ![4, 4608, 1024]⟩
abbrev S_ : Shape := ⟨0, ![]⟩
abbrev S1024x4096 : Shape := ⟨2, ![1024, 4096]⟩
abbrev S4x1024x1024 : Shape := ⟨3, ![4, 1024, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .f32⟩
  | .hbm, ⟨2, _⟩ => ⟨S4x4608x1024, .f32⟩
  | .hbm, ⟨3, _⟩ => ⟨S_, .f32⟩
  | .hbm, ⟨4, _⟩ => ⟨S4096x1024, .f32⟩
  | .hbm, ⟨5, _⟩ => ⟨S4096x4096, .f32⟩
  | .hbm, ⟨6, _⟩ => ⟨S4096x1024, .f32⟩
  | .hbm, ⟨7, _⟩ => ⟨S1024x4096, .f32⟩
  | .hbm, ⟨8, _⟩ => ⟨S4096x1024, .f32⟩
  | .hbm, ⟨9, _⟩ => ⟨S4x1024x1024, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x4608x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== MlpInDw.lean ====
abbrev S1024x4096 : Shape := ⟨2, ![1024, 4096]⟩
abbrev S4096x4096 : Shape := ⟨2, ![4096, 4096]⟩
abbrev S4x4608x1024 : Shape := ⟨3, ![4, 4608, 1024]⟩
abbrev S512x2048 : Shape := ⟨2, ![512, 2048]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4x4608x1024, .f32⟩
  | .hbm, ⟨3, _⟩ => ⟨S4x4608x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwIdeal.lean ====
abbrev S1024x4096 : Shape := ⟨2, ![1024, 4096]⟩
abbrev S4096x4096 : Shape := ⟨2, ![4096, 4096]⟩
abbrev S4x4608x1024 : Shape := ⟨3, ![4, 4608, 1024]⟩
abbrev S512x2048 : Shape := ⟨2, ![512, 2048]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4x4608x1024, .f32⟩
  | .hbm, ⟨3, _⟩ => ⟨S4x4608x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg0
  let c0_i32_0 : BitVec 32 := 0#32
  let c0_i32_1 : BitVec 32 := 0#32
  ![arg1.toNat, v0.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwRefIdeal.lean ====
abbrev S1024x4096 : Shape := ⟨2, ![1024, 4096]⟩
abbrev S4096x4096 : Shape := ⟨2, ![4096, 4096]⟩
abbrev S4x4608x1024 : Shape := ⟨3, ![4, 4608, 1024]⟩
abbrev S4096x1024 : Shape := ⟨2, ![4096, 1024]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4x4608x1024, .f32⟩
  | .hbm, ⟨3, _⟩ => ⟨S4096x1024, .bf16⟩
  | .hbm, ⟨4, _⟩ => ⟨S_, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x4608x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== MlpInDwLast.lean ====
abbrev S1024x4096 : Shape := ⟨2, ![1024, 4096]⟩
abbrev S4096x4096 : Shape := ⟨2, ![4096, 4096]⟩
abbrev S4x4608x1024 : Shape := ⟨3, ![4, 4608, 1024]⟩
abbrev S512x2048 : Shape := ⟨2, ![512, 2048]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4x4608x1024, .f32⟩
  | .hbm, ⟨3, _⟩ => ⟨S4x4608x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, v0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwLastIdeal.lean ====
abbrev S1024x4096 : Shape := ⟨2, ![1024, 4096]⟩
abbrev S4096x4096 : Shape := ⟨2, ![4096, 4096]⟩
abbrev S4x4608x1024 : Shape := ⟨3, ![4, 4608, 1024]⟩
abbrev S512x2048 : Shape := ⟨2, ![512, 2048]⟩
abbrev S2048x1024 : Shape := ⟨2, ![2048, 1024]⟩
abbrev S1x512x1024 : Shape := ⟨3, ![1, 512, 1024]⟩
abbrev S512x1024 : Shape := ⟨2, ![512, 1024]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4x4608x1024, .f32⟩
  | .hbm, ⟨3, _⟩ => ⟨S4x4608x1024, .f32⟩
  | .local _ .vmem, ⟨0, _⟩ => ⟨S512x2048, .bf16⟩
  | .local _ .vmem, ⟨1, _⟩ => ⟨S512x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1x512x1024, .f32⟩
  | .local _ .vmem, ⟨5, _⟩ => ⟨S1x512x1024, .f32⟩
  | .local _ .vmem, ⟨6, _⟩ => ⟨S512x1024, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.addi c2_i32 arg0
  let c0_i32 : BitVec 32 := 0#32
  let c0_i32_0 : BitVec 32 := 0#32
  ![arg1.toNat, v0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MlpInDwLastRefIdeal.lean ====
abbrev S1024x4096 : Shape := ⟨2, ![1024, 4096]⟩
abbrev S4096x4096 : Shape := ⟨2, ![4096, 4096]⟩
abbrev S4x4608x1024 : Shape := ⟨3, ![4, 4608, 1024]⟩
abbrev S4096x1024 : Shape := ⟨2, ![4096, 1024]⟩
abbrev S_ : Shape := ⟨0, ![]⟩
abbrev S1024x4x1024 : Shape := ⟨3, ![1024, 4, 1024]⟩
abbrev S4x1024x1024 : Shape := ⟨3, ![4, 1024, 1024]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x4096, .bf16⟩
  | .hbm, ⟨2, _⟩ => ⟨S4x4608x1024, .f32⟩
  | .hbm, ⟨3, _⟩ => ⟨S4096x1024, .bf16⟩
  | .hbm, ⟨4, _⟩ => ⟨S_, .f32⟩
  | .hbm, ⟨5, _⟩ => ⟨S1024x4096, .f32⟩
  | .hbm, ⟨6, _⟩ => ⟨S4096x1024, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S1024x4096, .f32⟩
  | .hbm, ⟨11, _⟩ => ⟨S1024x4x1024, .f32⟩
  | .hbm, ⟨12, _⟩ => ⟨S4x1024x1024, .f32⟩
  | .hbm, ⟨13, _⟩ => ⟨S_, .i32⟩
  | .hbm, ⟨14, _⟩ => ⟨S_, .i32⟩
  | .hbm, ⟨15, _⟩ => ⟨S_, .i32⟩
  | .hbm, ⟨16, _⟩ => ⟨S4x4608x1024, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_c_0 : Ref sig .tc := ⟨.hbm, 14, rfl⟩
abbrev main_c_1 : Ref sig .tc := ⟨.hbm, 15, rfl⟩
abbrev main_v9 : Ref sig .tc := ⟨.hbm, 16, rfl⟩

abbrev nD : Nat := 1
abbrev τ : Topo := Topo.v7x

variable {F : FTy → Type} [FloatOps F]
-- ==== ProjDw.lean ====
abbrev S1024x4096 : Shape := ⟨2, ![1024, 4096]⟩
abbrev S4096x8704 : Shape := ⟨2, ![4096, 8704]⟩
abbrev S4x2048x2304 : Shape := ⟨3, ![4, 2048, 2304]⟩
abbrev S1024x2048 : Shape := ⟨2, ![1024, 2048]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S4x2048x2304, .f32⟩
  | .hbm, ⟨3, _⟩ => ⟨S4x2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 36, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli c8_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  ![arg2.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjDwIdeal.lean ====
abbrev S1024x4096 : Shape := ⟨2, ![1024, 4096]⟩
abbrev S4096x8704 : Shape := ⟨2, ![4096, 8704]⟩
abbrev S4x2048x2304 : Shape := ⟨3, ![4, 2048, 2304]⟩
abbrev S1024x2048 : Shape := ⟨2, ![1024, 2048]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S4x2048x2304, .f32⟩
  | .hbm, ⟨3, _⟩ => ⟨S4x2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 36, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli c8_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  ![arg2.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjDwRefIdeal.lean ====
abbrev S1024x4096 : Shape := ⟨2, ![1024, 4096]⟩
abbrev S4096x8704 : Shape := ⟨2, ![4096, 8704]⟩
abbrev S4x2048x2304 : Shape := ⟨3, ![4, 2048, 2304]⟩
abbrev S4096x1024 : Shape := ⟨2, ![4096, 1024]⟩
abbrev S_ : Shape := ⟨0, ![]⟩
abbrev S1024x8704 : Shape := ⟨2, ![1024, 8704]⟩
abbrev S8704x1024 : Shape := ⟨2, ![8704, 1024]⟩
abbrev S1024x2304 : Shape := ⟨2, ![1024, 2304]⟩
abbrev S1x1024x2304 : Shape := ⟨3, ![1, 1024, 2304]⟩
abbrev S4x1024x2304 : Shape := ⟨3, ![4, 1024, 2304]⟩

abbrev nBuf : Space → Nat
  | .hbm => 24
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S4x2048x2304, .f32⟩
  | .hbm, ⟨3, _⟩ => ⟨S4096x1024, .bf16⟩
  | .hbm, ⟨4, _⟩ => ⟨S_, .f32⟩
  | .hbm, ⟨5, _⟩ => ⟨S1024x8704, .f32⟩
  | .hbm, ⟨6, _⟩ => ⟨S4096x1024, .f32⟩
  | .hbm, ⟨7, _⟩ => ⟨S4096x8704, .f32⟩
  | .hbm, ⟨8, _⟩ => ⟨S4096x8704, .f32⟩
  | .hbm, ⟨9, _⟩ => ⟨S8704x1024, .f32⟩
  | .hbm, ⟨10, _⟩ => ⟨S1024x8704, .f32⟩
  | .hbm, ⟨11, _⟩ => ⟨S1024x2304, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S1x1024x2304, .f32⟩
  | .hbm, ⟨16, _⟩ => ⟨S1x1024x2304, .f32⟩
  | .hbm, ⟨17, _⟩ => ⟨S1x1024x2304, .f32⟩
  | .hbm, ⟨18, _⟩ => ⟨S1x1024x2304, .f32⟩
  | .hbm, ⟨19, _⟩ => ⟨S4x1024x2304, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S4x2048x2304, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ProjDwLast.lean ====
abbrev S1024x4096 : Shape := ⟨2, ![1024, 4096]⟩
abbrev S4096x8704 : Shape := ⟨2, ![4096, 8704]⟩
abbrev S4x2048x2304 : Shape := ⟨3, ![4, 2048, 2304]⟩
abbrev S1024x2048 : Shape := ⟨2, ![1024, 2048]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S4x2048x2304, .f32⟩
  | .hbm, ⟨3, _⟩ => ⟨S4x2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 36, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli c8_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  ![arg2.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjDwLastIdeal.lean ====
abbrev S1024x4096 : Shape := ⟨2, ![1024, 4096]⟩
abbrev S4096x8704 : Shape := ⟨2, ![4096, 8704]⟩
abbrev S4x2048x2304 : Shape := ⟨3, ![4, 2048, 2304]⟩
abbrev S1024x2048 : Shape := ⟨2, ![1024, 2048]⟩
abbrev S2048x256 : Shape := ⟨2, ![2048, 256]⟩
abbrev S1x1024x256 : Shape := ⟨3, ![1, 1024, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S4x2048x2304, .f32⟩
  | .hbm, ⟨3, _⟩ => ⟨S4x2048x2304, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1x1024x256, .f32⟩
  | .local _ .vmem, ⟨5, _⟩ => ⟨S1x1024x256, .f32⟩
  | .local _ .vmem, ⟨6, _⟩ => ⟨S1024x256, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 36, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32 : BitVec 32 := 8#32
  let v17 : BitVec 32 := Scalar.muli c8_i32 v16
  let c9_i32_4 : BitVec 32 := 9#32
  let c0_i32_5 : BitVec 32 := 0#32
  let v18 : BitVec 1 := Scalar.cmpi .eq c9_i32_4 c0_i32_5
  let c1_i32_6 : BitVec 32 := 1#32
  let v19 : BitVec 32 := Scalar.select v18 c1_i32_6 c9_i32_4
  let v20 : BitVec 32 := Scalar.remsi arg1 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  ![arg2.toNat, v28.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let v0 : BitVec 32 := Scalar.divsi arg1 c9_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c9_i32 c0_i32_1
  let v7 : BitVec 32 := Scalar.extui v6
  let c0_i32_2 : BitVec 32 := 0#32
  let v8 : BitVec 1 := Scalar.cmpi .slt c9_i32 c0_i32_2
  let v9 : BitVec 32 := Scalar.extui v8
  let v10 : BitVec 32 := Scalar.subi v7 v9
  let v11 : BitVec 1 := Scalar.cmpi .ne v5 v10
  let v12 : BitVec 32 := Scalar.remsi arg1 c9_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c9_i32_4 : BitVec 32 := 9#32
  let c0_i32_5 : BitVec 32 := 0#32
  let v17 : BitVec 1 := Scalar.cmpi .eq c9_i32_4 c0_i32_5
  let c1_i32_6 : BitVec 32 := 1#32
  let v18 : BitVec 32 := Scalar.select v17 c1_i32_6 c9_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c1_i32_10 : BitVec 32 := 1#32
  let c0_i32_11 : BitVec 32 := 0#32
  ![v16.toNat, c1_i32_10.toNat, v26.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== ProjDwLastRefIdeal.lean ====
abbrev S1024x4096 : Shape := ⟨2, ![1024, 4096]⟩
abbrev S4096x8704 : Shape := ⟨2, ![4096, 8704]⟩
abbrev S4x2048x2304 : Shape := ⟨3, ![4, 2048, 2304]⟩
abbrev S4096x1024 : Shape := ⟨2, ![4096, 1024]⟩
abbrev S_ : Shape := ⟨0, ![]⟩
abbrev S1024x8704 : Shape := ⟨2, ![1024, 8704]⟩
abbrev S8704x1024 : Shape := ⟨2, ![8704, 1024]⟩
abbrev S1024x2304 : Shape := ⟨2, ![1024, 2304]⟩
abbrev S1x1024x2304 : Shape := ⟨3, ![1, 1024, 2304]⟩
abbrev S4x1024x2304 : Shape := ⟨3, ![4, 1024, 2304]⟩

abbrev nBuf : Space → Nat
  | .hbm => 24
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x8704, .bf16⟩
  | .hbm, ⟨2, _⟩ => ⟨S4x2048x2304, .f32⟩
  | .hbm, ⟨3, _⟩ => ⟨S4096x1024, .bf16⟩
  | .hbm, ⟨4, _⟩ => ⟨S_, .f32⟩
  | .hbm, ⟨5, _⟩ => ⟨S1024x8704, .f32⟩
  | .hbm, ⟨6, _⟩ => ⟨S4096x1024, .f32⟩
  | .hbm, ⟨7, _⟩ => ⟨S4096x8704, .f32⟩
  | .hbm, ⟨8, _⟩ => ⟨S4096x8704, .f32⟩
  | .hbm, ⟨9, _⟩ => ⟨S8704x1024, .f32⟩
  | .hbm, ⟨10, _⟩ => ⟨S1024x8704, .f32⟩
  | .hbm, ⟨11, _⟩ => ⟨S1024x2304, .f32⟩
  | .hbm, ⟨12, _⟩ => ⟨S1024x2304, .f32⟩
  | .hbm, ⟨13, _⟩ => ⟨S1024x2304, .f32⟩
  | .hbm, ⟨14, _⟩ => ⟨S1024x2304, .f32⟩
  | .hbm, ⟨15, _⟩ => ⟨S1x1024x2304, .f32⟩
  | .hbm, ⟨16, _⟩ => ⟨S1x1024x2304, .f32⟩
  | .hbm, ⟨17, _⟩ => ⟨S1x1024x2304, .f32⟩
  | .hbm, ⟨18, _⟩ => ⟨S1x1024x2304, .f32⟩
  | .hbm, ⟨19, _⟩ => ⟨S4x1024x2304, .f32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S4x2048x2304, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_c : Ref sig .tc := ⟨.hbm, 20, rfl⟩
abbrev main_c_0 : Ref sig .tc := ⟨.hbm, 21, rfl⟩
abbrev main_c_1 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== ForgetDw.lean ====
abbrev S1024x4096 : Shape := ⟨2, ![1024, 4096]⟩
abbrev S4096x256 : Shape := ⟨2, ![4096, 256]⟩
abbrev S1024x256 : Shape := ⟨2, ![1024, 256]⟩
abbrev S1024x2048 : Shape := ⟨2, ![1024, 2048]⟩
abbrev S2048x256 : Shape := ⟨2, ![2048, 256]⟩

abbrev nBuf : Space → Nat
  | .hbm => 3
  | .vmem => 6
  | .smem => 0
  | _ => 0

abbrev bufTy : (tb : Table) → Fin (tcTables nBuf tb) → BufTy
  | .hbm, ⟨0, _⟩ => ⟨S1024x4096, .bf16⟩
  | .hbm, ⟨1, _⟩ => ⟨S4096x256, .bf16⟩
  | .hbm, ⟨2, _⟩ => ⟨S1024x256, .f32⟩
  | .local _ .vmem, ⟨0, _⟩ => ⟨S1024x2048, .bf16⟩
  | .local _ .vmem, ⟨1, _⟩ => ⟨S1024x2048, .bf16⟩
  | .local _ .vmem, ⟨2, _⟩ => ⟨S2048x256, .bf16⟩
  | .local _ .vmem, ⟨3, _⟩ => ⟨S2048x256, .bf16⟩
  | .local _ .vmem, ⟨4, _⟩ => ⟨S1024x256, .f32⟩
  | .local _ .vmem, ⟨5, _⟩ => ⟨S1024x256, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S1024x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== ForgetDwRefIdeal.lean ====
abbrev S1024x4096 : Shape := ⟨2, ![1024, 4096]⟩
abbrev S4096x256 : Shape := ⟨2, ![4096, 256]⟩
abbrev S4096x1024 : Shape := ⟨2, ![4096, 1024]⟩
abbrev S_ : Shape := ⟨0, ![]⟩
abbrev S1024x256 : Shape := ⟨2, ![1024, 256]⟩
abbrev S256x1024 : Shape := ⟨2, ![256, 1024]⟩

abbrev nBuf : Space → Nat
  | .hbm => 10
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x256, .bf16⟩
  | .hbm, ⟨2, _⟩ => ⟨S4096x1024, .bf16⟩
  | .hbm, ⟨3, _⟩ => ⟨S_, .f32⟩
  | .hbm, ⟨4, _⟩ => ⟨S1024x256, .f32⟩
  | .hbm, ⟨5, _⟩ => ⟨S4096x1024, .f32⟩
  | .hbm, ⟨6, _⟩ => ⟨S4096x256, .f32⟩
  | .hbm, ⟨7, _⟩ => ⟨S4096x256, .f32⟩
  | .hbm, ⟨8, _⟩ => ⟨S256x1024, .f32⟩
  | .hbm, ⟨9, _⟩ => ⟨S1024x256, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== OutProjDw.lean ====
abbrev S4096x1024 : Shape := ⟨2, ![4096, 1024]⟩
abbrev S4x4608x1024 : Shape := ⟨3, ![4, 4608, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  ![arg0.toNat, c16_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwIdeal.lean ====
abbrev S4096x1024 : Shape := ⟨2, ![4096, 1024]⟩
abbrev S4x4608x1024 : Shape := ⟨3, ![4, 4608, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let c0_i32 : BitVec 32 := 0#32
  ![arg0.toNat, c16_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwRefIdeal.lean ====
abbrev S4096x1024 : Shape := ⟨2, ![4096, 1024]⟩
abbrev S4x4608x1024 : Shape := ⟨3, ![4, 4608, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x4608x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x4608x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== OutProjDwLast.lean ====
abbrev S4096x1024 : Shape := ⟨2, ![4096, 1024]⟩
abbrev S4x4608x1024 : Shape := ⟨3, ![4, 4608, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let c0_i32 : BitVec 32 := 0#32
  ![arg0.toNat, c17_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwLastIdeal.lean ====
abbrev S4096x1024 : Shape := ⟨2, ![4096, 1024]⟩
abbrev S4x4608x1024 : Shape := ⟨3, ![4, 4608, 1024]⟩
abbrev S2048x256 : Shape := ⟨2, ![2048, 256]⟩
abbrev S2048x1024 : Shape := ⟨2, ![2048, 1024]⟩
abbrev S1x256x1024 : Shape := ⟨3, ![1, 256, 1024]⟩
abbrev S256x1024 : Shape := ⟨2, ![256, 1024]⟩

abbrev nBuf : Space → Nat
  | .hbm => 4
  | .vmem => 7
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x4608x1024, .f32⟩
  | .hbm, ⟨3, _⟩ => ⟨S4x4608x1024, .f32⟩
  | .local _ .vmem, ⟨0, _⟩ => ⟨S2048x256, .bf16⟩
  | .local _ .vmem, ⟨1, _⟩ => ⟨S2048x256, .bf16⟩
  | .local _ .vmem, ⟨2, _⟩ => ⟨S2048x1024, .f32⟩
  | .local _ .vmem, ⟨3, _⟩ => ⟨S2048x1024, .f32⟩
  | .local _ .vmem, ⟨4, _⟩ => ⟨S1x256x1024, .f32⟩
  | .local _ .vmem, ⟨5, _⟩ => ⟨S1x256x1024, .f32⟩
  | .local _ .vmem, ⟨6, _⟩ => ⟨S256x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 1, 2], ![false, false, false]⟩

def k0_cond3 (i : grid0.Coords) : BitVec 1 :=
  let arg2 : BitVec 32 := BitVec.ofNat 32 (i 2).val
  let c1_i32 : BitVec 32 := 1#32
  let v10 : BitVec 1 := Scalar.cmpi .eq arg2 c1_i32
  let v11 : BitVec 32 := Scalar.extui v10
  let c0_i32_6 : BitVec 32 := 0#32
  let v12 : BitVec 1 := Scalar.cmpi .ne v11 c0_i32_6
  v12

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c17_i32 : BitVec 32 := 17#32
  let c0_i32 : BitVec 32 := 0#32
  ![arg0.toNat, c17_i32.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== OutProjDwLastRefIdeal.lean ====
abbrev S4096x1024 : Shape := ⟨2, ![4096, 1024]⟩
abbrev S4x4608x1024 : Shape := ⟨3, ![4, 4608, 1024]⟩
abbrev S_ : Shape := ⟨0, ![]⟩
abbrev S1024x1024 : Shape := ⟨2, ![1024, 1024]⟩
abbrev S4x256x1024 : Shape := ⟨3, ![4, 256, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .f32⟩
  | .hbm, ⟨2, _⟩ => ⟨S4x4608x1024, .f32⟩
  | .hbm, ⟨3, _⟩ => ⟨S_, .f32⟩
  | .hbm, ⟨4, _⟩ => ⟨S1024x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S4x256x1024, .f32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S4x4608x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_c_0 : Ref sig .tc := ⟨.hbm, 11, rfl⟩
abbrev main_c_1 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== UpFoxDw.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpFoxDwIdeal.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg1.toNat, c0_i32.toNat, c0_i32_0.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpFoxDwRefIdeal.lean ====
abbrev S4096x512 : Shape := ⟨2, ![4096, 512]⟩
abbrev S4096x1024 : Shape := ⟨2, ![4096, 1024]⟩
abbrev S4x2560x256 : Shape := ⟨3, ![4, 2560, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S_, .f32⟩
  | .hbm, ⟨4, _⟩ => ⟨S512x1024, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S512x4x256, .f32⟩
  | .hbm, ⟨11, _⟩ => ⟨S4x512x256, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x2560x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== UpFoxDwLast.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpFoxDwLastIdeal.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let c0_i32 : BitVec 32 := 0#32
  let c0_i32_0 : BitVec 32 := 0#32
  ![arg1.toNat, c1_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpFoxDwLastRefIdeal.lean ====
abbrev S4096x512 : Shape := ⟨2, ![4096, 512]⟩
abbrev S4096x1024 : Shape := ⟨2, ![4096, 1024]⟩
abbrev S4x2560x256 : Shape := ⟨3, ![4, 2560, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S_, .f32⟩
  | .hbm, ⟨4, _⟩ => ⟨S512x1024, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S512x4x256, .f32⟩
  | .hbm, ⟨11, _⟩ => ⟨S4x512x256, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x2560x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== UpSbDw.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg1.toNat, c2_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpSbDwIdeal.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let c0_i32 : BitVec 32 := 0#32
  let c0_i32_0 : BitVec 32 := 0#32
  ![arg1.toNat, c2_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpSbDwRefIdeal.lean ====
abbrev S4096x512 : Shape := ⟨2, ![4096, 512]⟩
abbrev S4096x1024 : Shape := ⟨2, ![4096, 1024]⟩
abbrev S4x2560x256 : Shape := ⟨3, ![4, 2560, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S_, .f32⟩
  | .hbm, ⟨4, _⟩ => ⟨S512x1024, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S512x4x256, .f32⟩
  | .hbm, ⟨11, _⟩ => ⟨S4x512x256, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x2560x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== UpSbDwLast.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![arg1.toNat, c3_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpSbDwLastIdeal.lean ====
abbrev S4096x512 : Shape := ⟨2, ![4096, 512]⟩
abbrev S4096x1024 : Shape := ⟨2, ![4096, 1024]⟩
abbrev S4x2560x256 : Shape := ⟨3, ![4, 2560, 256]⟩
abbrev S2048x512 : Shape := ⟨2, ![2048, 512]⟩
abbrev S2048x256 : Shape := ⟨2, ![2048, 256]⟩
abbrev S1x512x256 : Shape := ⟨3, ![1, 512, 256]⟩
abbrev S512x256 : Shape := ⟨2, ![512, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x512, .bf16⟩
  | .local _ .vmem, ⟨1, _⟩ => ⟨S2048x512, .bf16⟩
  | .local _ .vmem, ⟨2, _⟩ => ⟨S2048x256, .bf16⟩
  | .local _ .vmem, ⟨3, _⟩ => ⟨S2048x256, .bf16⟩
  | .local _ .vmem, ⟨4, _⟩ => ⟨S1x512x256, .f32⟩
  | .local _ .vmem, ⟨5, _⟩ => ⟨S1x512x256, .f32⟩
  | .local _ .vmem, ⟨6, _⟩ => ⟨S512x256, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let c0_i32 : BitVec 32 := 0#32
  let c0_i32_0 : BitVec 32 := 0#32
  ![arg1.toNat, c3_i32.toNat, c0_i32.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpSbDwLastRefIdeal.lean ====
abbrev S4096x512 : Shape := ⟨2, ![4096, 512]⟩
abbrev S4096x1024 : Shape := ⟨2, ![4096, 1024]⟩
abbrev S4x2560x256 : Shape := ⟨3, ![4, 2560, 256]⟩
abbrev S_ : Shape := ⟨0, ![]⟩
abbrev S512x1024 : Shape := ⟨2, ![512, 1024]⟩
abbrev S1024x512 : Shape := ⟨2, ![1024, 512]⟩
abbrev S512x4x256 : Shape := ⟨3, ![512, 4, 256]⟩
abbrev S4x512x256 : Shape := ⟨3, ![4, 512, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x1024, .bf16⟩
  | .hbm, ⟨2, _⟩ => ⟨S4x2560x256, .f32⟩
  | .hbm, ⟨3, _⟩ => ⟨S_, .f32⟩
  | .hbm, ⟨4, _⟩ => ⟨S512x1024, .f32⟩
  | .hbm, ⟨5, _⟩ => ⟨S4096x512, .f32⟩
  | .hbm, ⟨6, _⟩ => ⟨S4096x1024, .f32⟩
  | .hbm, ⟨7, _⟩ => ⟨S4096x1024, .f32⟩
  | .hbm, ⟨8, _⟩ => ⟨S1024x512, .f32⟩
  | .hbm, ⟨9, _⟩ => ⟨S512x1024, .f32⟩
  | .hbm, ⟨10, _⟩ => ⟨S512x4x256, .f32⟩
  | .hbm, ⟨11, _⟩ => ⟨S4x512x256, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x2560x256, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== UpDilDw.lean ====
abbrev S4096x256 : Shape := ⟨2, ![4096, 256]⟩
abbrev S4096x1024 : Shape := ⟨2, ![4096, 1024]⟩
abbrev S4x2560x256 : Shape := ⟨3, ![4, 2560, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let c0_i32 : BitVec 32 := 0#32
  let c0_i32_0 : BitVec 32 := 0#32
  ![arg1.toNat, c8_i32.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpDilDwIdeal.lean ====
  let c8_i32 : BitVec 32 := 8#32
  ![arg1.toNat, c8_i32.toNat, c0_i32.toNat]
-- ==== UpDilDwRefIdeal.lean ====
abbrev S4096x256 : Shape := ⟨2, ![4096, 256]⟩
abbrev S4096x1024 : Shape := ⟨2, ![4096, 1024]⟩
abbrev S4x2560x256 : Shape := ⟨3, ![4, 2560, 256]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4x2560x256, .f32⟩
  | .hbm, ⟨3, _⟩ => ⟨S_, .f32⟩
  | .hbm, ⟨4, _⟩ => ⟨S256x1024, .f32⟩
  | .hbm, ⟨5, _⟩ => ⟨S4096x256, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S256x4x256, .f32⟩
  | .hbm, ⟨11, _⟩ => ⟨S4x256x256, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x2560x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== UpDilDwLast.lean ====
abbrev S4096x256 : Shape := ⟨2, ![4096, 256]⟩
abbrev S4096x1024 : Shape := ⟨2, ![4096, 1024]⟩
abbrev S4x2560x256 : Shape := ⟨3, ![4, 2560, 256]⟩
abbrev S2048x256 : Shape := ⟨2, ![2048, 256]⟩
abbrev S1x256x256 : Shape := ⟨3, ![1, 256, 256]⟩
abbrev S256x256 : Shape := ⟨2, ![256, 256]⟩

abbrev nBuf : Space → Nat
  | .hbm => 4
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4x2560x256, .f32⟩
  | .hbm, ⟨3, _⟩ => ⟨S4x2560x256, .f32⟩
  | .local _ .vmem, ⟨0, _⟩ => ⟨S2048x256, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S1x256x256, .f32⟩
  | .local _ .vmem, ⟨5, _⟩ => ⟨S1x256x256, .f32⟩
  | .local _ .vmem, ⟨6, _⟩ => ⟨S256x256, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

def k0_cond3 (i : grid0.Coords) : BitVec 1 :=
  let arg2 : BitVec 32 := BitVec.ofNat 32 (i 2).val
  let c1_i32 : BitVec 32 := 1#32
  let v9 : BitVec 1 := Scalar.cmpi .eq arg2 c1_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c9_i32 : BitVec 32 := 9#32
  let c0_i32 : BitVec 32 := 0#32
  let c0_i32_0 : BitVec 32 := 0#32
  ![arg1.toNat, c9_i32.toNat, c0_i32.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x256x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]
-- ==== UpDilDwLastRefIdeal.lean ====
abbrev S4096x256 : Shape := ⟨2, ![4096, 256]⟩
abbrev S4096x1024 : Shape := ⟨2, ![4096, 1024]⟩
abbrev S4x2560x256 : Shape := ⟨3, ![4, 2560, 256]⟩
abbrev S_ : Shape := ⟨0, ![]⟩
abbrev S256x1024 : Shape := ⟨2, ![256, 1024]⟩
abbrev S1024x256 : Shape := ⟨2, ![1024, 256]⟩
abbrev S256x4x256 : Shape := ⟨3, ![256, 4, 256]⟩
abbrev S4x256x256 : Shape := ⟨3, ![4, 256, 256]⟩

abbrev nBuf : Space → Nat
  | .hbm => 16
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S4096x1024, .bf16⟩
  | .hbm, ⟨2, _⟩ => ⟨S4x2560x256, .f32⟩
  | .hbm, ⟨3, _⟩ => ⟨S_, .f32⟩
  | .hbm, ⟨4, _⟩ => ⟨S256x1024, .f32⟩
  | .hbm, ⟨5, _⟩ => ⟨S4096x256, .f32⟩
  | .hbm, ⟨6, _⟩ => ⟨S4096x1024, .f32⟩
  | .hbm, ⟨7, _⟩ => ⟨S4096x1024, .f32⟩
  | .hbm, ⟨8, _⟩ => ⟨S1024x256, .f32⟩
  | .hbm, ⟨9, _⟩ => ⟨S256x1024, .f32⟩
  | .hbm, ⟨10, _⟩ => ⟨S256x4x256, .f32⟩
  | .hbm, ⟨11, _⟩ => ⟨S4x256x256, .f32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S4x2560x256, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_c : Ref sig .tc := ⟨.hbm, 12, rfl⟩
abbrev main_c_0 : Ref sig .tc := ⟨.hbm, 13, rfl⟩
abbrev main_c_1 : Ref sig .tc := ⟨.hbm, 14, rfl⟩
abbrev main_v8 : Ref sig .tc := ⟨.hbm, 15, rfl⟩

abbrev nD : Nat := 1
abbrev τ : Topo := Topo.v7x

variable {F : FTy → Type} [FloatOps F]
-- ==== Up.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpIdeal.lean ====
abbrev S4096x512 : Shape := ⟨2, ![4096, 512]⟩
abbrev S512x1024 : Shape := ⟨2, ![512, 1024]⟩
abbrev S4096x1024 : Shape := ⟨2, ![4096, 1024]⟩
abbrev S2048x512 : Shape := ⟨2, ![2048, 512]⟩
abbrev S512x512 : Shape := ⟨2, ![512, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x1024, .f32⟩
  | .local _ .vmem, ⟨0, _⟩ => ⟨S2048x512, .bf16⟩
  | .local _ .vmem, ⟨1, _⟩ => ⟨S2048x512, .bf16⟩
  | .local _ .vmem, ⟨2, _⟩ => ⟨S512x512, .bf16⟩
  | .local _ .vmem, ⟨3, _⟩ => ⟨S512x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpRefIdeal.lean ====
abbrev S4096x512 : Shape := ⟨2, ![4096, 512]⟩
abbrev S512x1024 : Shape := ⟨2, ![512, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S512x1024, .bf16⟩
  | .hbm, ⟨2, _⟩ => ⟨S4096x512, .f32⟩
  | .hbm, ⟨3, _⟩ => ⟨S512x1024, .f32⟩
  | .hbm, ⟨4, _⟩ => ⟨S4096x1024, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== UpDil.lean ====
abbrev S4096x256 : Shape := ⟨2, ![4096, 256]⟩
abbrev S256x1024 : Shape := ⟨2, ![256, 1024]⟩
abbrev S4096x1024 : Shape := ⟨2, ![4096, 1024]⟩
abbrev S2048x256 : Shape := ⟨2, ![2048, 256]⟩
abbrev S256x512 : Shape := ⟨2, ![256, 512]⟩
abbrev S2048x512 : Shape := ⟨2, ![2048, 512]⟩

abbrev nBuf : Space → Nat
  | .hbm => 3
  | .vmem => 7
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x1024, .f32⟩
  | .local _ .vmem, ⟨0, _⟩ => ⟨S2048x256, .bf16⟩
  | .local _ .vmem, ⟨1, _⟩ => ⟨S2048x256, .bf16⟩
  | .local _ .vmem, ⟨2, _⟩ => ⟨S256x512, .bf16⟩
  | .local _ .vmem, ⟨3, _⟩ => ⟨S256x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | _, _ => ⟨S4096x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpDilRefIdeal.lean ====
abbrev S4096x256 : Shape := ⟨2, ![4096, 256]⟩
abbrev S256x1024 : Shape := ⟨2, ![256, 1024]⟩
abbrev S4096x1024 : Shape := ⟨2, ![4096, 1024]⟩

abbrev nBuf : Space → Nat
  | .hbm => 5
  | .vmem => 0
  | .smem => 0
  | _ => 0

abbrev bufTy : (tb : Table) → Fin (tcTables nBuf tb) → BufTy
  | .hbm, ⟨0, _⟩ => ⟨S4096x256, .bf16⟩
  | .hbm, ⟨1, _⟩ => ⟨S256x1024, .bf16⟩
  | .hbm, ⟨2, _⟩ => ⟨S4096x256, .f32⟩
  | .hbm, ⟨3, _⟩ => ⟨S256x1024, .f32⟩
  | .hbm, ⟨4, _⟩ => ⟨S4096x1024, .f32⟩
  | _, _ => ⟨S4096x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== OutProj.lean ====
abbrev S4096x1024 : Shape := ⟨2, ![4096, 1024]⟩
abbrev S1024x1024 : Shape := ⟨2, ![1024, 1024]⟩
abbrev S2048x1024 : Shape := ⟨2, ![2048, 1024]⟩
abbrev S1024x512 : Shape := ⟨2, ![1024, 512]⟩
abbrev S2048x512 : Shape := ⟨2, ![2048, 512]⟩

abbrev nBuf : Space → Nat
  | .hbm => 4
  | .vmem => 9
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .local _ .vmem, ⟨0, _⟩ => ⟨S2048x1024, .bf16⟩
  | .local _ .vmem, ⟨1, _⟩ => ⟨S2048x1024, .bf16⟩
  | .local _ .vmem, ⟨2, _⟩ => ⟨S1024x512, .bf16⟩
  | .local _ .vmem, ⟨3, _⟩ => ⟨S1024x512, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S2048x512, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 2, 1], ![false, false, false]⟩

def k0_cond3 (i : grid0.Coords) : BitVec 1 :=
  let arg2 : BitVec 32 := BitVec.ofNat 32 (i 2).val
  let c0_i32_6 : BitVec 32 := 0#32
  let v9 : BitVec 1 := Scalar.cmpi .eq arg2 c0_i32_6
  let v10 : BitVec 32 := Scalar.extui v9
  let c0_i32_7 : BitVec 32 := 0#32
  let v11 : BitVec 1 := Scalar.cmpi .ne v10 c0_i32_7
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjRefIdeal.lean ====
abbrev S4096x1024 : Shape := ⟨2, ![4096, 1024]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S4096x1024, .f32⟩
  | .hbm, ⟨4, _⟩ => ⟨S1024x1024, .f32⟩
  | .hbm, ⟨5, _⟩ => ⟨S4096x1024, .f32⟩
  | .hbm, ⟨6, _⟩ => ⟨S4096x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== SbAttn.lean ====
abbrev S4096x8704 : Shape := ⟨2, ![4096, 8704]⟩
abbrev S4096x512 : Shape := ⟨2, ![4096, 512]⟩
abbrev S256x128 : Shape := ⟨2, ![256, 128]⟩
abbrev S2048x128 : Shape := ⟨2, ![2048, 128]⟩
abbrev S256x2048 : Shape := ⟨2, ![256, 2048]⟩
abbrev S256x256 : Shape := ⟨2, ![256, 256]⟩
abbrev S1x128 : Shape := ⟨2, ![1, 128]⟩
abbrev S128x128 : Shape := ⟨2, ![128, 128]⟩
abbrev S256x1 : Shape := ⟨2, ![256, 1]⟩
abbrev S256 : Shape := ⟨1, ![256]⟩
abbrev S512x128 : Shape := ⟨2, ![512, 128]⟩
abbrev S256x512 : Shape := ⟨2, ![256, 512]⟩
abbrev S768x128 : Shape := ⟨2, ![768, 128]⟩
abbrev S256x768 : Shape := ⟨2, ![256, 768]⟩
abbrev S1024x128 : Shape := ⟨2, ![1024, 128]⟩
abbrev S256x1024 : Shape := ⟨2, ![256, 1024]⟩
abbrev S1280x128 : Shape := ⟨2, ![1280, 128]⟩
abbrev S256x1280 : Shape := ⟨2, ![256, 1280]⟩
abbrev S1536x128 : Shape := ⟨2, ![1536, 128]⟩
abbrev S256x1536 : Shape := ⟨2, ![256, 1536]⟩
abbrev S1792x128 : Shape := ⟨2, ![1792, 128]⟩
abbrev S256x1792 : Shape := ⟨2, ![256, 1792]⟩

abbrev nBuf : Space → Nat
  | .hbm => 2
  | .vmem => 9
  | .smem => 0
  | _ => 0

abbrev bufTy : (tb : Table) → Fin (tcTables nBuf tb) → BufTy
  | .hbm, ⟨0, _⟩ => ⟨S4096x8704, .f32⟩
  | .hbm, ⟨1, _⟩ => ⟨S4096x512, .bf16⟩
  | .local _ .vmem, ⟨0, _⟩ => ⟨S256x128, .f32⟩
  | .local _ .vmem, ⟨1, _⟩ => ⟨S256x128, .f32⟩
  | .local _ .vmem, ⟨2, _⟩ => ⟨S2048x128, .f32⟩
  | .local _ .vmem, ⟨3, _⟩ => ⟨S2048x128, .f32⟩
  | .local _ .vmem, ⟨4, _⟩ => ⟨S2048x128, .f32⟩
  | .local _ .vmem, ⟨5, _⟩ => ⟨S2048x128, .f32⟩
  | .local _ .vmem, ⟨6, _⟩ => ⟨S256x128, .bf16⟩
  | .local _ .vmem, ⟨7, _⟩ => ⟨S256x128, .bf16⟩
  | .local _ .vmem, ⟨8, _⟩ => ⟨S256x2048, .f32⟩
  | _, _ => ⟨S4096x8704, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg2 : BitVec 32 := BitVec.ofNat 32 (i 2).val
  let c5_i32 : BitVec 32 := 5#32
  let v15 : BitVec 1 := Scalar.cmpi .eq arg2 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg2 : BitVec 32 := BitVec.ofNat 32 (i 2).val
  let c6_i32 : BitVec 32 := 6#32
  let v18 : BitVec 1 := Scalar.cmpi .eq arg2 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c12_i32 : BitVec 32 := 12#32
  let v2 : BitVec 32 := Scalar.addi c12_i32 arg1
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.addi c16_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c20_i32 : BitVec 32 := 20#32
  let v0 : BitVec 32 := Scalar.addi c20_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== SbAttnRefIdeal.lean ====
abbrev S4096x8704 : Shape := ⟨2, ![4096, 8704]⟩
abbrev S4096x512 : Shape := ⟨2, ![4096, 512]⟩
abbrev S2x2048x8x64 : Shape := ⟨4, ![2, 2048, 8, 64]⟩
abbrev S2x8x2048x2048 : Shape := ⟨4, ![2, 8, 2048, 2048]⟩
abbrev S_ : Shape := ⟨0, ![]⟩
abbrev S2048x2048 : Shape := ⟨2, ![2048, 2048]⟩
abbrev S2x8x64x2048 : Shape := ⟨4, ![2, 8, 64, 2048]⟩

abbrev nBuf : Space → Nat
  | .hbm => 67
  | .vmem => 0
  | .smem => 0
  | _ => 0

abbrev bufTy : (tb : Table) → Fin (tcTables nBuf tb) → BufTy
  | .hbm, ⟨0, _⟩ => ⟨S4096x8704, .f32⟩
  | .hbm, ⟨1, _⟩ => ⟨S4096x512, .f32⟩
  | .hbm, ⟨2, _⟩ => ⟨S2x2048x8x64, .f32⟩
  | .hbm, ⟨3, _⟩ => ⟨S4096x512, .f32⟩
  | .hbm, ⟨4, _⟩ => ⟨S2x2048x8x64, .f32⟩
  | .hbm, ⟨5, _⟩ => ⟨S4096x512, .f32⟩
  | .hbm, ⟨6, _⟩ => ⟨S2x2048x8x64, .f32⟩
  | .hbm, ⟨7, _⟩ => ⟨S2x8x2048x2048, .f32⟩
  | .hbm, ⟨8, _⟩ => ⟨S_, .f32⟩
  | .hbm, ⟨9, _⟩ => ⟨S2x8x2048x2048, .f32⟩
  | .hbm, ⟨10, _⟩ => ⟨S2x8x2048x2048, .f32⟩
  | .hbm, ⟨11, _⟩ => ⟨S2048x2048, .i32⟩
  | .hbm, ⟨12, _⟩ => ⟨S2048x2048, .i32⟩
  | .hbm, ⟨13, _⟩ => ⟨S2048x2048, .i1⟩
  | .hbm, ⟨14, _⟩ => ⟨S2x8x2048x2048, .f32⟩
  | .hbm, ⟨15, _⟩ => ⟨S2x8x2048x2048, .f32⟩
  | .hbm, ⟨16, _⟩ => ⟨S_, .f32⟩
  | .hbm, ⟨17, _⟩ => ⟨S2x8x2048x2048, .f32⟩
  | .hbm, ⟨18, _⟩ => ⟨S2x8x2048x2048, .f32⟩
  | .hbm, ⟨19, _⟩ => ⟨S2x8x2048x2048, .f32⟩
  | .hbm, ⟨20, _⟩ => ⟨S2x8x2048x2048, .f32⟩
  | .hbm, ⟨21, _⟩ => ⟨S2x8x2048x2048, .i1⟩
  | .hbm, ⟨22, _⟩ => ⟨S2x8x2048x2048, .f32⟩
  | .hbm, ⟨23, _⟩ => ⟨S2x8x2048x2048, .f32⟩
  | .hbm, ⟨24, _⟩ => ⟨S2x8x2048x2048, .f32⟩
  | .hbm, ⟨25, _⟩ => ⟨S2x8x2048x2048, .f32⟩
  | .hbm, ⟨26, _⟩ => ⟨S2x8x2048x2048, .f32⟩
  | .hbm, ⟨27, _⟩ => ⟨S2x8x2048x2048, .f32⟩
  | .hbm, ⟨28, _⟩ => ⟨S2x8x2048x2048, .f32⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S_, .f32⟩
  | .hbm, ⟨33, _⟩ => ⟨S2x8x2048x2048, .i1⟩
  | .hbm, ⟨34, _⟩ => ⟨S2x8x2048x2048, .f32⟩
  | .hbm, ⟨35, _⟩ => ⟨S2x8x2048x2048, .f32⟩
  | .hbm, ⟨36, _⟩ => ⟨S_, .f32⟩
  | .hbm, ⟨37, _⟩ => ⟨S_, .f32⟩
  | .hbm, ⟨38, _⟩ => ⟨S2x8x2048x2048, .f32⟩
  | .hbm, ⟨39, _⟩ => ⟨S2x8x2048x2048, .f32⟩
  | .hbm, ⟨40, _⟩ => ⟨S2x8x2048x2048, .f32⟩
  | .hbm, ⟨41, _⟩ => ⟨S_, .f32⟩
  | .hbm, ⟨42, _⟩ => ⟨S2x8x2048x2048, .f32⟩
  | .hbm, ⟨43, _⟩ => ⟨S2x8x2048x2048, .f32⟩
  | .hbm, ⟨44, _⟩ => ⟨S2x8x2048x2048, .f32⟩
  | .hbm, ⟨45, _⟩ => ⟨S2x8x2048x2048, .f32⟩
  | .hbm, ⟨46, _⟩ => ⟨S2x8x2048x2048, .i1⟩
  | .hbm, ⟨47, _⟩ => ⟨S2x8x2048x2048, .f32⟩
  | .hbm, ⟨48, _⟩ => ⟨S2x8x2048x2048, .f32⟩
  | .hbm, ⟨49, _⟩ => ⟨S2x8x2048x2048, .f32⟩
  | .hbm, ⟨50, _⟩ => ⟨S2x8x2048x2048, .f32⟩
  | .hbm, ⟨51, _⟩ => ⟨S2x8x2048x2048, .f32⟩
  | .hbm, ⟨52, _⟩ => ⟨S2x8x2048x2048, .f32⟩
  | .hbm, ⟨53, _⟩ => ⟨S2x8x2048x2048, .f32⟩
  | .hbm, ⟨54, _⟩ => ⟨S2x8x2048x2048, .f32⟩
  | .hbm, ⟨55, _⟩ => ⟨S2x8x2048x2048, .f32⟩
  | .hbm, ⟨56, _⟩ => ⟨S2x8x2048x2048, .f32⟩
  | .hbm, ⟨57, _⟩ => ⟨S2x8x2048x2048, .f32⟩
  | .hbm, ⟨58, _⟩ => ⟨S_, .f32⟩
  | .hbm, ⟨59, _⟩ => ⟨S_, .f32⟩
  | .hbm, ⟨60, _⟩ => ⟨S2x8x2048x2048, .i1⟩
  | .hbm, ⟨61, _⟩ => ⟨S2x8x2048x2048, .f32⟩
  | .hbm, ⟨62, _⟩ => ⟨S2x8x2048x2048, .f32⟩
  | .hbm, ⟨63, _⟩ => ⟨S2x8x64x2048, .f32⟩
  | .hbm, ⟨64, _⟩ => ⟨S2x2048x8x64, .f32⟩
  | .hbm, ⟨65, _⟩ => ⟨S4096x512, .f32⟩
  | .hbm, ⟨66, _⟩ => ⟨S4096x512, .bf16⟩
  | _, _ => ⟨S4096x8704, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_cst : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_call0_v0 : Ref sig .tc := ⟨.hbm, 15, rfl⟩
abbrev main_call0_call0_cst : Ref sig .tc := ⟨.hbm, 16, rfl⟩
abbrev main_call0_call0_v0 : Ref sig .tc := ⟨.hbm, 17, rfl⟩
abbrev main_call0_call0_v1 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_v8 : Ref sig .tc := ⟨.hbm, 25, rfl⟩
abbrev main_call0_call0_v9 : Ref sig .tc := ⟨.hbm, 26, rfl⟩
abbrev main_call0_call0_v10 : Ref sig .tc := ⟨.hbm, 27, rfl⟩
abbrev main_call0_call0_v11 : Ref sig .tc := ⟨.hbm, 28, rfl⟩
abbrev main_call0_v1 : Ref sig .tc := ⟨.hbm, 29, rfl⟩
abbrev main_v13 : Ref sig .tc := ⟨.hbm, 30, rfl⟩
abbrev main_cst_0 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v14 : Ref sig .tc := ⟨.hbm, 35, rfl⟩
abbrev main_call2_cst : Ref sig .tc := ⟨.hbm, 36, rfl⟩
abbrev main_call2_v0 : Ref sig .tc := ⟨.hbm, 37, rfl⟩
abbrev main_v15 : Ref sig .tc := ⟨.hbm, 38, rfl⟩
abbrev main_v16 : Ref sig .tc := ⟨.hbm, 39, rfl⟩
abbrev main_call3_v0 : Ref sig .tc := ⟨.hbm, 40, rfl⟩
abbrev main_call3_call0_cst : Ref sig .tc := ⟨.hbm, 41, rfl⟩
abbrev main_call3_call0_v0 : Ref sig .tc := ⟨.hbm, 42, rfl⟩
abbrev main_call3_call0_v1 : Ref sig .tc := ⟨.hbm, 43, rfl⟩
abbrev main_call3_call0_v2 : Ref sig .tc := ⟨.hbm, 44, rfl⟩
abbrev main_call3_call0_v3 : Ref sig .tc := ⟨.hbm, 45, rfl⟩
abbrev main_call3_call0_v4 : Ref sig .tc := ⟨.hbm, 46, rfl⟩
abbrev main_call3_call0_v5 : Ref sig .tc := ⟨.hbm, 47, rfl⟩
abbrev main_call3_call0_v6 : Ref sig .tc := ⟨.hbm, 48, rfl⟩
abbrev main_call3_call0_v7 : Ref sig .tc := ⟨.hbm, 49, rfl⟩
abbrev main_call3_call0_v8 : Ref sig .tc := ⟨.hbm, 50, rfl⟩
abbrev main_call3_call0_v9 : Ref sig .tc := ⟨.hbm, 51, rfl⟩
abbrev main_call3_call0_v10 : Ref sig .tc := ⟨.hbm, 52, rfl⟩
abbrev main_call3_call0_v11 : Ref sig .tc := ⟨.hbm, 53, rfl⟩
abbrev main_call3_v1 : Ref sig .tc := ⟨.hbm, 54, rfl⟩
abbrev main_v17 : Ref sig .tc := ⟨.hbm, 55, rfl⟩
abbrev main_v18 : Ref sig .tc := ⟨.hbm, 56, rfl⟩
abbrev main_v19 : Ref sig .tc := ⟨.hbm, 57, rfl⟩
abbrev main_cst_1 : Ref sig .tc := ⟨.hbm, 58, rfl⟩
abbrev main_call4_v0 : Ref sig .tc := ⟨.hbm, 59, rfl⟩
abbrev main_call4_v1 : Ref sig .tc := ⟨.hbm, 60, rfl⟩
abbrev main_call4_v2 : Ref sig .tc := ⟨.hbm, 61, rfl⟩
abbrev main_v20 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_v24 : Ref sig .tc := ⟨.hbm, 66, rfl⟩

abbrev nD : Nat := 1
abbrev τ : Topo := Topo.v7x

variable {F : FTy → Type} [FloatOps F]
-- ==== FoxAttn.lean ====
abbrev S4096x512 : Shape := ⟨2, ![4096, 512]⟩
abbrev S4096x8704 : Shape := ⟨2, ![4096, 8704]⟩
abbrev S4096x128 : Shape := ⟨2, ![4096, 128]⟩
abbrev S4096x8 : Shape := ⟨2, ![4096, 8]⟩
abbrev S4096x8x64 : Shape := ⟨3, ![4096, 8, 64]⟩
abbrev S2x2048x128 : Shape := ⟨3, ![2, 2048, 128]⟩
abbrev S2x2048x8 : Shape := ⟨3, ![2, 2048, 8]⟩
abbrev S2x8x2048 : Shape := ⟨3, ![2, 8, 2048]⟩
abbrev S2x4x2x2048 : Shape := ⟨4, ![2, 4, 2, 2048]⟩
abbrev S_ : Shape := ⟨0, ![]⟩
abbrev S2x4x8x2048 : Shape := ⟨4, ![2, 4, 8, 2048]⟩
abbrev S64x2048 : Shape := ⟨2, ![64, 2048]⟩
abbrev S256x128 : Shape := ⟨2, ![256, 128]⟩
abbrev S2048x128 : Shape := ⟨2, ![2048, 128]⟩
abbrev S8x2048 : Shape := ⟨2, ![8, 2048]⟩
abbrev S1x128 : Shape := ⟨2, ![1, 128]⟩
abbrev S256x256 : Shape := ⟨2, ![256, 256]⟩
abbrev S256x1 : Shape := ⟨2, ![256, 1]⟩
abbrev S1x256 : Shape := ⟨2, ![1, 256]⟩
abbrev S256 : Shape := ⟨1, ![256]⟩
abbrev S512x128 : Shape := ⟨2, ![512, 128]⟩
abbrev S256x512 : Shape := ⟨2, ![256, 512]⟩
abbrev S1x512 : Shape := ⟨2, ![1, 512]⟩
abbrev S768x128 : Shape := ⟨2, ![768, 128]⟩
abbrev S256x768 : Shape := ⟨2, ![256, 768]⟩
abbrev S1x768 : Shape := ⟨2, ![1, 768]⟩
abbrev S1024x128 : Shape := ⟨2, ![1024, 128]⟩
abbrev S256x1024 : Shape := ⟨2, ![256, 1024]⟩
abbrev S1x1024 : Shape := ⟨2, ![1, 1024]⟩
abbrev S1280x128 : Shape := ⟨2, ![1280, 128]⟩
abbrev S256x1280 : Shape := ⟨2, ![256, 1280]⟩
abbrev S1x1280 : Shape := ⟨2, ![1, 1280]⟩
abbrev S1536x128 : Shape := ⟨2, ![1536, 128]⟩
abbrev S256x1536 : Shape := ⟨2, ![256, 1536]⟩
abbrev S1x1536 : Shape := ⟨2, ![1, 1536]⟩
abbrev S1792x128 : Shape := ⟨2, ![1792, 128]⟩
abbrev S256x1792 : Shape := ⟨2, ![256, 1792]⟩
abbrev S1x1792 : Shape := ⟨2, ![1, 1792]⟩

abbrev nBuf : Space → Nat
  | .hbm => 17
  | .vmem => 14
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x8704, .f32⟩
  | .hbm, ⟨3, _⟩ => ⟨S4096x128, .f32⟩
  | .hbm, ⟨4, _⟩ => ⟨S4096x8, .f32⟩
  | .hbm, ⟨5, _⟩ => ⟨S4096x8x64, .f32⟩
  | .hbm, ⟨6, _⟩ => ⟨S4096x512, .f32⟩
  | .hbm, ⟨7, _⟩ => ⟨S2x2048x128, .f32⟩
  | .hbm, ⟨8, _⟩ => ⟨S2x2048x8, .f32⟩
  | .hbm, ⟨9, _⟩ => ⟨S2x8x2048, .f32⟩
  | .hbm, ⟨10, _⟩ => ⟨S2x4x2x2048, .f32⟩
  | .hbm, ⟨11, _⟩ => ⟨S_, .i32⟩
  | .hbm, ⟨12, _⟩ => ⟨S_, .f32⟩
  | .hbm, ⟨13, _⟩ => ⟨S2x4x8x2048, .f32⟩
  | .hbm, ⟨14, _⟩ => ⟨S64x2048, .f32⟩
  | .hbm, ⟨15, _⟩ => ⟨S4096x512, .f32⟩
  | .hbm, ⟨16, _⟩ => ⟨S4096x512, .f32⟩
  | .local _ .vmem, ⟨0, _⟩ => ⟨S256x128, .bf16⟩
  | .local _ .vmem, ⟨1, _⟩ => ⟨S256x128, .bf16⟩
  | .local _ .vmem, ⟨2, _⟩ => ⟨S2048x128, .bf16⟩
  | .local _ .vmem, ⟨3, _⟩ => ⟨S2048x128, .bf16⟩
  | .local _ .vmem, ⟨4, _⟩ => ⟨S2048x128, .f32⟩
  | .local _ .vmem, ⟨5, _⟩ => ⟨S2048x128, .f32⟩
  | .local _ .vmem, ⟨6, _⟩ => ⟨S256x128, .f32⟩
  | .local _ .vmem, ⟨7, _⟩ => ⟨S256x128, .f32⟩
  | .local _ .vmem, ⟨8, _⟩ => ⟨S8x2048, .f32⟩
  | .local _ .vmem, ⟨9, _⟩ => ⟨S8x2048, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | _, _ => ⟨S4096x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c : Ref sig .tc := ⟨.hbm, 11, rfl⟩
abbrev main_call0_v0 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![2, 4, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg2 : BitVec 32 := BitVec.ofNat 32 (i 2).val
  let c1_i32 : BitVec 32 := 1#32
  let v3 : BitVec 1 := Scalar.cmpi .eq arg2 c1_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg2 : BitVec 32 := BitVec.ofNat 32 (i 2).val
  let c2_i32 : BitVec 32 := 2#32
  let v6 : BitVec 1 := Scalar.cmpi .eq arg2 c2_i32
  let v7 : BitVec 32 := Scalar.extui v6
  let c0_i32_2 : BitVec 32 := 0#32
  let v8 : BitVec 1 := Scalar.cmpi .ne v7 c0_i32_2
  v8

def k0_cond4 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_3 : BitVec 32 := 0#32
  let v11 : BitVec 1 := Scalar.cmpi .ne v10 c0_i32_3
  v11

def k0_cond5 (i : grid0.Coords) : BitVec 1 :=
  let arg2 : BitVec 32 := BitVec.ofNat 32 (i 2).val
  let c4_i32 : BitVec 32 := 4#32
  let v12 : BitVec 1 := Scalar.cmpi .eq arg2 c4_i32
  let v13 : BitVec 32 := Scalar.extui v12
  let c0_i32_4 : BitVec 32 := 0#32
  let v14 : BitVec 1 := Scalar.cmpi .ne v13 c0_i32_4
  v14

def k0_cond6 (i : grid0.Coords) : BitVec 1 :=
  let arg2 : BitVec 32 := BitVec.ofNat 32 (i 2).val
  let c5_i32 : BitVec 32 := 5#32
  let v15 : BitVec 1 := Scalar.cmpi .eq arg2 c5_i32
  let v16 : BitVec 32 := Scalar.extui v15
  let c0_i32_5 : BitVec 32 := 0#32
  let v17 : BitVec 1 := Scalar.cmpi .ne v16 c0_i32_5
  v17

def k0_cond7 (i : grid0.Coords) : BitVec 1 :=
  let arg2 : BitVec 32 := BitVec.ofNat 32 (i 2).val
  let c6_i32 : BitVec 32 := 6#32
  let v18 : BitVec 1 := Scalar.cmpi .eq arg2 c6_i32
  let v19 : BitVec 32 := Scalar.extui v18
  let c0_i32_6 : BitVec 32 := 0#32
  let v20 : BitVec 1 := Scalar.cmpi .ne v19 c0_i32_6
  v20

def k0_cond8 (i : grid0.Coords) : BitVec 1 :=
  let arg2 : BitVec 32 := BitVec.ofNat 32 (i 2).val
  let c7_i32 : BitVec 32 := 7#32
  let v21 : BitVec 1 := Scalar.cmpi .eq arg2 c7_i32
  let v22 : BitVec 32 := Scalar.extui v21
  let c0_i32_7 : BitVec 32 := 0#32
  let v23 : BitVec 1 := Scalar.cmpi .ne v22 c0_i32_7
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let v0 : BitVec 32 := Scalar.addi c0_i32 arg1
  let c0_i32_0 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.addi c8_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let v2 : BitVec 32 := Scalar.addi c0_i32 arg1
  let c0_i32_0 : BitVec 32 := 0#32
  ![v1.toNat, v2.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S2048x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S256x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S8x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S256x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== FoxAttnRefIdeal.lean ====
abbrev S4096x512 : Shape := ⟨2, ![4096, 512]⟩
abbrev S4096x8704 : Shape := ⟨2, ![4096, 8704]⟩
abbrev S4096x128 : Shape := ⟨2, ![4096, 128]⟩
abbrev S2x2048x8x64 : Shape := ⟨4, ![2, 2048, 8, 64]⟩
abbrev S4096x8 : Shape := ⟨2, ![4096, 8]⟩
abbrev S2x2048x8 : Shape := ⟨3, ![2, 2048, 8]⟩
abbrev S2x8x2048 : Shape := ⟨3, ![2, 8, 2048]⟩
abbrev S2x8x2048x2048 : Shape := ⟨4, ![2, 8, 2048, 2048]⟩
abbrev S_ : Shape := ⟨0, ![]⟩
abbrev S2x8x2048x1 : Shape := ⟨4, ![2, 8, 2048, 1]⟩
abbrev S2x8x1x2048 : Shape := ⟨4, ![2, 8, 1, 2048]⟩
abbrev S2048x2048 : Shape := ⟨2, ![2048, 2048]⟩
abbrev S2x8x64x2048 : Shape := ⟨4, ![2, 8, 64, 2048]⟩
abbrev S4096x8x64 : Shape := ⟨3, ![4096, 8, 64]⟩

abbrev nBuf : Space → Nat
  | .hbm => 64
  | .vmem => 0
  | .smem => 0
  | _ => 0

abbrev bufTy : (tb : Table) → Fin (tcTables nBuf tb) → BufTy
  | .hbm, ⟨0, _⟩ => ⟨S4096x512, .bf16⟩
  | .hbm, ⟨1, _⟩ => ⟨S4096x512, .bf16⟩
  | .hbm, ⟨2, _⟩ => ⟨S4096x8704, .f32⟩
  | .hbm, ⟨3, _⟩ => ⟨S4096x128, .f32⟩
  | .hbm, ⟨4, _⟩ => ⟨S4096x512, .f32⟩
  | .hbm, ⟨5, _⟩ => ⟨S4096x512, .f32⟩
  | .hbm, ⟨6, _⟩ => ⟨S2x2048x8x64, .f32⟩
  | .hbm, ⟨7, _⟩ => ⟨S4096x512, .f32⟩
  | .hbm, ⟨8, _⟩ => ⟨S2x2048x8x64, .f32⟩
  | .hbm, ⟨9, _⟩ => ⟨S2x2048x8x64, .f32⟩
  | .hbm, ⟨10, _⟩ => ⟨S4096x8, .f32⟩
  | .hbm, ⟨11, _⟩ => ⟨S2x2048x8, .f32⟩
  | .hbm, ⟨12, _⟩ => ⟨S2x8x2048, .f32⟩
  | .hbm, ⟨13, _⟩ => ⟨S2x8x2048x2048, .f32⟩
  | .hbm, ⟨14, _⟩ => ⟨S_, .f32⟩
  | .hbm, ⟨15, _⟩ => ⟨S2x8x2048x2048, .f32⟩
  | .hbm, ⟨16, _⟩ => ⟨S2x8x2048x2048, .f32⟩
  | .hbm, ⟨17, _⟩ => ⟨S2x8x2048x1, .f32⟩
  | .hbm, ⟨18, _⟩ => ⟨S2x8x2048x2048, .f32⟩
  | .hbm, ⟨19, _⟩ => ⟨S2x8x2048x2048, .f32⟩
  | .hbm, ⟨20, _⟩ => ⟨S2x8x1x2048, .f32⟩
  | .hbm, ⟨21, _⟩ => ⟨S2x8x2048x2048, .f32⟩
  | .hbm, ⟨22, _⟩ => ⟨S2x8x2048x2048, .f32⟩
  | .hbm, ⟨23, _⟩ => ⟨S2048x2048, .i32⟩
  | .hbm, ⟨24, _⟩ => ⟨S2048x2048, .i32⟩
  | .hbm, ⟨25, _⟩ => ⟨S2048x2048, .i1⟩
  | .hbm, ⟨26, _⟩ => ⟨S_, .f32⟩
  | .hbm, ⟨27, _⟩ => ⟨S_, .f32⟩
  | .hbm, ⟨28, _⟩ => ⟨S2x8x2048x2048, .i1⟩
  | .hbm, ⟨29, _⟩ => ⟨S2x8x2048x2048, .f32⟩
  | .hbm, ⟨30, _⟩ => ⟨S2x8x2048x2048, .f32⟩
  | .hbm, ⟨31, _⟩ => ⟨S_, .f32⟩
  | .hbm, ⟨32, _⟩ => ⟨S2x8x2048, .f32⟩
  | .hbm, ⟨33, _⟩ => ⟨S_, .f32⟩
  | .hbm, ⟨34, _⟩ => ⟨S2x8x2048, .f32⟩
  | .hbm, ⟨35, _⟩ => ⟨S2x8x2048, .f32⟩
  | .hbm, ⟨36, _⟩ => ⟨S2x8x2048x1, .f32⟩
  | .hbm, ⟨37, _⟩ => ⟨S2x8x2048x2048, .f32⟩
  | .hbm, ⟨38, _⟩ => ⟨S2x8x2048x2048, .f32⟩
  | .hbm, ⟨39, _⟩ => ⟨S2x8x2048x2048, .f32⟩
  | .hbm, ⟨40, _⟩ => ⟨S_, .f32⟩
  | .hbm, ⟨41, _⟩ => ⟨S2x8x2048, .f32⟩
  | .hbm, ⟨42, _⟩ => ⟨S2x8x2048x1, .f32⟩
  | .hbm, ⟨43, _⟩ => ⟨S2x8x2048x2048, .f32⟩
  | .hbm, ⟨44, _⟩ => ⟨S2x8x2048x2048, .f32⟩
  | .hbm, ⟨45, _⟩ => ⟨S2x8x64x2048, .f32⟩
  | .hbm, ⟨46, _⟩ => ⟨S2x2048x8x64, .f32⟩
  | .hbm, ⟨47, _⟩ => ⟨S_, .f32⟩
  | .hbm, ⟨48, _⟩ => ⟨S2x8x2048, .f32⟩
  | .hbm, ⟨49, _⟩ => ⟨S2x8x2048x1, .f32⟩
  | .hbm, ⟨50, _⟩ => ⟨S2x8x2048x2048, .f32⟩
  | .hbm, ⟨51, _⟩ => ⟨S2x8x2048x2048, .f32⟩
  | .hbm, ⟨52, _⟩ => ⟨S2x8x2048x2048, .f32⟩
  | .hbm, ⟨53, _⟩ => ⟨S_, .f32⟩
  | .hbm, ⟨54, _⟩ => ⟨S2x8x2048, .f32⟩
  | .hbm, ⟨55, _⟩ => ⟨S2x8x2048x1, .f32⟩
  | .hbm, ⟨56, _⟩ => ⟨S2x8x2048x1, .f32⟩
  | .hbm, ⟨57, _⟩ => ⟨S2x8x2048x1, .f32⟩
  | .hbm, ⟨58, _⟩ => ⟨S2x8x2048, .f32⟩
  | .hbm, ⟨59, _⟩ => ⟨S2x2048x8, .f32⟩
  | .hbm, ⟨60, _⟩ => ⟨S4096x512, .f32⟩
  | .hbm, ⟨61, _⟩ => ⟨S4096x8, .f32⟩
  | .hbm, ⟨62, _⟩ => ⟨S4096x8x64, .f32⟩
  | .hbm, ⟨63, _⟩ => ⟨S4096x512, .f32⟩
  | _, _ => ⟨S4096x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v21 : Ref sig .tc := ⟨.hbm, 30, rfl⟩
abbrev main_cst_1 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_3 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_cst_5 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩

abbrev nD : Nat := 1
abbrev τ : Topo := Topo.v7x

variable {F : FTy → Type} [FloatOps F]
-- ==== Proof.StickBreaking.lean ====
/-
  The gradient of stick-breaking attention for one head, over the real numbers. A query `t` breaks a stick of length one
  at the keys before it, from the nearest back: with the score `z t s` of key `s < t`, the share it takes is
  `σ(z t s)` of what the keys between `s` and `t` left. Written with logarithms, the weight is
  `exp (z − sp z − later)`, `sp` the softplus and `later` the sum of the softplus of the scores strictly between.
  The three gradients below are those of `y t = Σ_s att t s · v s` against an incoming gradient `D`.
-/
module

public import Mathlib.Analysis.SpecialFunctions.Log.Basic
public import Mathlib.Analysis.SpecialFunctions.Exp

@[expose] public section

noncomputable section

namespace Cert.StickBreaking

open scoped BigOperators

/-- The softplus, written the way both programs write it: `max x 0 + log (1 + exp (−|x|))`. -/
def sp (x : ℝ) : ℝ := max x 0 + Real.log (1 + Real.exp (-|x|))

/-- The exponential of the softplus of `x` is `1 + exp x`. -/
theorem exp_sp (x : ℝ) : Real.exp (sp x) = 1 + Real.exp x := by
  have hpos : (0 : ℝ) < 1 + Real.exp (-|x|) := by positivity
  unfold sp
  rw [Real.exp_add, Real.exp_log hpos]
  rcases le_total 0 x with h | h
  · rw [max_eq_left h, abs_of_nonneg h, mul_add, ← Real.exp_add]
    simp [add_comm]
  · rw [max_eq_right h, abs_of_nonpos h]
    simp

/-- Reflection: the softplus of `−x` is that of `x` less `x`. -/
theorem sp_neg (x : ℝ) : sp (-x) = sp x - x := by
  unfold sp
  rw [abs_neg]
  rcases le_total 0 x with h | h
  · rw [max_eq_right (by linarith), max_eq_left h]; ring
  · rw [max_eq_left (by linarith), max_eq_right h]; ring

/-- The share a key leaves and the share it takes add up to one. -/
theorem leave_eq (x : ℝ) : Real.exp (-x - sp (-x)) = 1 - Real.exp (x - sp x) := by
  have h := exp_sp x
  have hp : (0 : ℝ) < 1 + Real.exp x := by positivity
  rw [sp_neg, show -x - (sp x - x) = -sp x by ring, Real.exp_sub, Real.exp_neg, h]
  field_simp
  ring

/-- One head: its queries, keys, values and the incoming gradient, a row per position and a column per feature. -/
structure Head where
  /-- the queries -/
  Q : Fin 2048 → Fin 64 → ℝ
  /-- the keys -/
  K : Fin 2048 → Fin 64 → ℝ
  /-- the values -/
  V : Fin 2048 → Fin 64 → ℝ
  /-- the gradient of the attention's result -/
  D : Fin 2048 → Fin 64 → ℝ

namespace Head

variable (H : Head)

/-- The score of key `s` for query `t`. -/
def z (t s : Fin 2048) : ℝ := (∑ d, H.Q t d * H.K s d) / 8
/-- What the keys strictly between `s` and `t` took, as a logarithm. -/
def later (t s : Fin 2048) : ℝ := ∑ j : Fin 2048, if s < j ∧ j < t then sp (H.z t j) else 0
/-- The share key `s` takes of what reaches it. -/
def take (t s : Fin 2048) : ℝ := Real.exp (H.z t s - sp (H.z t s))
/-- The attention weight of key `s` for query `t`. -/
def att (t s : Fin 2048) : ℝ := if s < t then Real.exp (H.z t s - sp (H.z t s) - H.later t s) else 0
/-- The gradient with respect to the logarithm of the weight. -/
def g (t s : Fin 2048) : ℝ := (∑ d, H.D t d * H.V s d) * H.att t s
/-- The sum of those of the keys before `s`. -/
def earlier (t s : Fin 2048) : ℝ := ∑ j : Fin 2048, if j < s then H.g t j else 0
/-- The gradient with respect to the score. -/
def dz (t s : Fin 2048) : ℝ := if s < t then H.g t s - H.take t s * (H.g t s + H.earlier t s) else 0
/-- The gradient with respect to the queries. -/
def dq (t : Fin 2048) (d : Fin 64) : ℝ := (∑ s, H.dz t s * H.K s d) / 8
/-- The gradient with respect to the keys. -/
def dk (s : Fin 2048) (d : Fin 64) : ℝ := ∑ t, H.dz t s * (H.Q t d / 8)
/-- The gradient with respect to the values. -/
def dv (s : Fin 2048) (d : Fin 64) : ℝ := ∑ t, H.att t s * H.D t d

/-- A key not before the query has no weight. -/
theorem att_of_not_lt {t s : Fin 2048} (h : ¬s < t) : H.att t s = 0 := if_neg h
/-- A key not before the query has no gradient. -/
theorem g_of_not_lt {t s : Fin 2048} (h : ¬s < t) : H.g t s = 0 := by rw [g, H.att_of_not_lt h, mul_zero]
/-- A key not before the query moves no score. -/
theorem dz_of_not_lt {t s : Fin 2048} (h : ¬s < t) : H.dz t s = 0 := if_neg h

end Head

end Cert.StickBreaking

end
-- ==== Proof.Inputs.lean ====
/-
  The arrays both programs read, head by head, as real numbers, and the three gradients they are to end with, as arrays
  over the extended reals. Also the few facts about real numbers read as extended reals that both sides use.
-/
module

public import proofs.«01_k».proof.Proof.StickBreaking
public import Idealize.ShloMosaic.PureOps.Ideal.Laws
public import Idealize.ShloMosaic.Lib.IdealHost
public import Idealize.ShloMosaic.Lib.ValueIdx

@[expose] public section

noncomputable section

namespace Cert.StickBreaking

open Idealize.ShloMosaic Idealize.ShloMosaic.ValueIdx
open scoped BigOperators

/-! ## Real numbers among the extended reals -/

/-- A finite sum of real numbers, read as an extended real, is the sum of the summands read so. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The larger of two real numbers. -/
theorem coe_max (x y : ℝ) : ((max x y : ℝ) : EReal) = max (x : EReal) (y : EReal) :=
  EReal.coe_strictMono.monotone.map_max

/-- A real number's absolute value, as the programs take it. -/
theorem coe_abs (x : ℝ) : max (x : EReal) (-(x : EReal)) = ((|x| : ℝ) : EReal) := by
  rw [← EReal.coe_neg, ← coe_max]; rfl

/-- A choice between two real numbers. -/
theorem coe_ite (p : Prop) [Decidable p] (x y : ℝ) : ((if p then x else y : ℝ) : EReal) = if p then (x : EReal) else (y : EReal) := by
  split <;> rfl

/-- The softplus as an expression over the extended reals. -/
theorem softplus_coe (x : ℝ) :
    max (x : EReal) 0 + Ideal.log (1 + Ideal.exp (-((|x| : ℝ) : EReal))) = ((sp x : ℝ) : EReal) := by
  have hpos : (0 : ℝ) < 1 + Real.exp (-|x|) := by positivity
  rw [← EReal.coe_neg, Ideal.exp_coe, ← EReal.coe_one, ← EReal.coe_add, Ideal.log_coe, if_neg (not_le.mpr hpos),
    ← EReal.coe_zero, ← coe_max, ← EReal.coe_add, sp]

/-- The constant `1/8`. -/
theorem ofBits_eighth : Ideal.ofBits .f32 0x3E000000#32 = (((1 : ℝ) / 8 : ℝ) : EReal) := by
  simp [Ideal.ofBits, Ideal.ieee, -EReal.coe_mul]; norm_num

/-- The constant infinity. -/
theorem ofBits_inf : Ideal.ofBits .f32 0x7F800000#32 = ⊤ := by simp [Ideal.ofBits, Ideal.ieee]

/-! ## The arguments and the results -/

/-- The projections of all positions: a row per position of either sequence. -/
abbrev Proj := (⟨2, ![4096, 8704]⟩ : Shape).Idx → EReal
/-- An array of all positions and all heads' features. -/
abbrev Rows := (⟨2, ![4096, 512]⟩ : Shape).Idx → EReal

/-- The row of position `t` of sequence `b`. -/
def row (b : Fin 2) (t : Fin 2048) : Fin 4096 := ⟨b.val * 2048 + t.val, by have := b.isLt; have := t.isLt; omega⟩
/-- The column of feature `d` of head `h`. -/
def col (h : Fin 8) (d : Fin 64) : Fin 512 := ⟨h.val * 64 + d.val, by have := h.isLt; have := d.isLt; omega⟩
/-- Where the queries' columns lie among the projections. -/
def qcol (c : Fin 512) : Fin 8704 := ⟨1536 + c.val, by have := c.isLt; omega⟩
/-- Where the keys' columns lie. -/
def kcol (c : Fin 512) : Fin 8704 := ⟨2048 + c.val, by have := c.isLt; omega⟩
/-- Where the values' columns lie. -/
def vcol (c : Fin 512) : Fin 8704 := ⟨2560 + c.val, by have := c.isLt; omega⟩

/-- Every query, key, value and incoming gradient is a real number. -/
structure Finite (x : Proj) (y : Rows) : Prop where
  q : ∀ r c, ((x (ix2 r (qcol c))).toReal : EReal) = x (ix2 r (qcol c))
  k : ∀ r c, ((x (ix2 r (kcol c))).toReal : EReal) = x (ix2 r (kcol c))
  v : ∀ r c, ((x (ix2 r (vcol c))).toReal : EReal) = x (ix2 r (vcol c))
  d : ∀ r c, ((y (ix2 r c)).toReal : EReal) = y (ix2 r c)

/-- Head `h` of sequence `b`. -/
def head (x : Proj) (y : Rows) (b : Fin 2) (h : Fin 8) : Head where
  Q t d := (x (ix2 (row b t) (qcol (col h d)))).toReal
  K t d := (x (ix2 (row b t) (kcol (col h d)))).toReal
  V t d := (x (ix2 (row b t) (vcol (col h d)))).toReal
  D t d := (y (ix2 (row b t) (col h d))).toReal

/-- An array of rows from a function of the sequence, head, position and feature. -/
def ofRows (f : Fin 2 → Fin 8 → Fin 2048 → Fin 64 → EReal) : Rows := fun i =>
  f ⟨(i 0).val / 2048, by have := idx2_lt0 i; omega⟩ ⟨(i 1).val / 64, by have := idx2_lt1 i; omega⟩
    ⟨(i 0).val % 2048, Nat.mod_lt _ (by omega)⟩ ⟨(i 1).val % 64, Nat.mod_lt _ (by omega)⟩
/-- The same of a real-valued function. -/
def ofHeads (f : Fin 2 → Fin 8 → Fin 2048 → Fin 64 → ℝ) : Rows := ofRows fun b h t d => ((f b h t d : ℝ) : EReal)

/-- Every index of such an array is that of a sequence, head, position and feature. -/
theorem exists_row_col (i : (⟨2, ![4096, 512]⟩ : Shape).Idx) : ∃ b h t d, i = ix2 (row b t) (col h d) := by
  have h0 := idx2_lt0 i
  have h1 := idx2_lt1 i
  refine ⟨⟨(i 0).val / 2048, by omega⟩, ⟨(i 1).val / 64, by omega⟩, ⟨(i 0).val % 2048, Nat.mod_lt _ (by omega)⟩,
    ⟨(i 1).val % 64, Nat.mod_lt _ (by omega)⟩, ?_⟩
  funext a
  match a with
  | ⟨0, _⟩ => exact Fin.ext (by show (i 0).val = (i 0).val / 2048 * 2048 + (i 0).val % 2048; omega)
  | ⟨1, _⟩ => exact Fin.ext (by show (i 1).val = (i 1).val / 64 * 64 + (i 1).val % 64; omega)

/-- Such an array at a sequence, head, position and feature. -/
theorem ofRows_apply (f : Fin 2 → Fin 8 → Fin 2048 → Fin 64 → EReal) (b : Fin 2) (h : Fin 8) (t : Fin 2048) (d : Fin 64) :
    ofRows f (ix2 (row b t) (col h d)) = f b h t d := by
  have hb := b.isLt
  have hh := h.isLt
  have ht := t.isLt
  have hd := d.isLt
  unfold ofRows
  have e0 : (⟨(row b t).val / 2048, by show (b.val * 2048 + t.val) / 2048 < 2; omega⟩ : Fin 2) = b :=
    Fin.ext (by show (b.val * 2048 + t.val) / 2048 = b.val; omega)
  have e1 : (⟨(col h d).val / 64, by show (h.val * 64 + d.val) / 64 < 8; omega⟩ : Fin 8) = h :=
    Fin.ext (by show (h.val * 64 + d.val) / 64 = h.val; omega)
  have e2 : (⟨(row b t).val % 2048, Nat.mod_lt _ (by omega)⟩ : Fin 2048) = t :=
    Fin.ext (by show (b.val * 2048 + t.val) % 2048 = t.val; omega)
  have e3 : (⟨(col h d).val % 64, Nat.mod_lt _ (by omega)⟩ : Fin 64) = d :=
    Fin.ext (by show (h.val * 64 + d.val) % 64 = d.val; omega)
  show f ⟨(row b t).val / 2048, _⟩ ⟨(col h d).val / 64, _⟩ ⟨(row b t).val % 2048, _⟩ ⟨(col h d).val % 64, _⟩ = _
  rw [e0, e1, e2, e3]

theorem ofHeads_apply (f : Fin 2 → Fin 8 → Fin 2048 → Fin 64 → ℝ) (b : Fin 2) (h : Fin 8) (t : Fin 2048) (d : Fin 64) :
    ofHeads f (ix2 (row b t) (col h d)) = ((f b h t d : ℝ) : EReal) := ofRows_apply _ b h t d

/-- The gradient with respect to the queries, all heads. -/
def dQ (x : Proj) (y : Rows) : Rows := ofHeads fun b h => (head x y b h).dq
/-- The gradient with respect to the keys, all heads. -/
def dK (x : Proj) (y : Rows) : Rows := ofHeads fun b h => (head x y b h).dk
/-- The gradient with respect to the values, all heads. -/
def dV (x : Proj) (y : Rows) : Rows := ofHeads fun b h => (head x y b h).dv

end Cert.StickBreaking

end
-- ==== Proof.Weights.lean ====
/-
  The weights of stick-breaking attention over the extended reals, infinite scores included: one head's queries and keys,
  the weights they give and the values weighted by them. Where every query and key is a real number the weights are those
  of StickBreaking.
-/
module

public import proofs.«01_k».proof.Proof.Inputs

@[expose] public section

noncomputable section

namespace Cert.StickBreaking

open Idealize.ShloMosaic Idealize.ShloMosaic.ValueIdx
open scoped BigOperators

/-- The softplus over the extended reals. -/
def softp (x : EReal) : EReal := max x 0 + Ideal.log (1 + Ideal.exp (-(max x (-x))))

theorem softp_coe (x : ℝ) : softp (x : EReal) = ((sp x : ℝ) : EReal) := by
  unfold softp
  rw [coe_abs, softplus_coe]

theorem softp_top : softp ⊤ = ⊤ := by
  unfold softp
  rw [EReal.neg_top, max_eq_left (bot_le : (⊥ : EReal) ≤ ⊤), EReal.neg_top, Ideal.exp_bot, max_eq_left (le_top : (0 : EReal) ≤ ⊤), add_zero,
    ← EReal.coe_one, Ideal.log_coe, if_neg (by norm_num), Real.log_one]
  rfl

theorem softp_bot : softp ⊥ = 0 := by
  unfold softp
  rw [EReal.neg_bot, max_eq_right (bot_le : (⊥ : EReal) ≤ ⊤), EReal.neg_top, Ideal.exp_bot, max_eq_right (bot_le : (⊥ : EReal) ≤ 0), add_zero,
    ← EReal.coe_one, Ideal.log_coe, if_neg (by norm_num), Real.log_one]
  simp

theorem sp_nonneg (x : ℝ) : 0 ≤ sp x := by
  unfold sp
  have h : (0 : ℝ) ≤ Real.log (1 + Real.exp (-|x|)) := Real.log_nonneg (by have := Real.exp_pos (-|x|); linarith)
  have := le_max_right x 0
  linarith

theorem softp_nonneg (x : EReal) : 0 ≤ softp x := by
  induction x with
  | bot => rw [softp_bot]
  | coe x => rw [softp_coe]; exact_mod_cast sp_nonneg x
  | top => rw [softp_top]; exact le_top

/-- The negative of a sum of nonnegative terms. -/
theorem neg_sum {ι : Type*} (s : Finset ι) (f : ι → EReal) (hf : ∀ i, 0 ≤ f i) : -∑ i ∈ s, f i = ∑ i ∈ s, -f i := by
  classical
  have ne : ∀ x : EReal, 0 ≤ x → x ≠ ⊥ := fun x hx h => by rw [h] at hx; exact absurd hx (not_le.mpr EReal.bot_lt_zero)
  induction s using Finset.induction_on with
  | empty => simp
  | insert a s ha ih =>
    rw [Finset.sum_insert ha, Finset.sum_insert ha, ← ih,
      EReal.neg_add (Or.inl (ne _ (hf a))) (Or.inr (ne _ (Finset.sum_nonneg fun i _ => hf i))), sub_eq_add_neg]

/-- The weight written with logarithms of shares: a key's share, less what it and the keys after it left, plus what it left. -/
theorem weight_eq (z L : EReal) (hL : 0 ≤ L) :
    Ideal.exp (-softp (-z) + ((-softp z + -L) - -softp z)) = Ideal.exp (z - softp z - L) := by
  have hLb : -L ≠ ⊤ := fun h => by
    rw [EReal.neg_eq_top_iff] at h
    rw [h] at hL
    exact absurd hL (not_le.mpr EReal.bot_lt_zero)
  induction z with
  | bot => rw [EReal.neg_bot, softp_top, softp_bot, EReal.neg_top, EReal.bot_add, EReal.bot_sub, EReal.bot_sub]
  | top =>
    rw [EReal.neg_top, softp_top, softp_bot, EReal.neg_top, EReal.bot_add, EReal.bot_sub, EReal.add_bot, sub_eq_add_neg ⊤ ⊤, EReal.neg_top,
      EReal.add_bot, EReal.bot_sub]
  | coe z =>
    rw [← EReal.coe_neg, softp_coe, softp_coe, sp_neg, ← EReal.coe_neg, ← EReal.coe_neg, add_comm ((-sp z : ℝ) : EReal) (-L), EReal.add_sub_cancel_right,
      sub_eq_add_neg _ L, ← EReal.coe_sub]
    congr 3
    ring

/-- One head's queries and keys, a row per position and a column per feature. -/
structure Keys where
  /-- the queries -/
  Q : Fin 2048 → Fin 64 → EReal
  /-- the keys -/
  K : Fin 2048 → Fin 64 → EReal

namespace Keys

variable (A : Keys)

/-- The score of key `s` for query `t`. -/
def z (t s : Fin 2048) : EReal := (∑ d, A.Q t d * A.K s d) * (((1 : ℝ) / 8 : ℝ) : EReal)
/-- What the keys strictly between `s` and `t` took, as a logarithm. -/
def later (t s : Fin 2048) : EReal := ∑ j : Fin 2048, if s < j ∧ j < t then softp (A.z t j) else 0
/-- The attention weight of key `s` for query `t`. -/
def att (t s : Fin 2048) : EReal := if s < t then Ideal.exp (A.z t s - softp (A.z t s) - A.later t s) else 0
theorem later_nonneg (t s : Fin 2048) : 0 ≤ A.later t s :=
  Finset.sum_nonneg fun j _ => by
    split
    · exact softp_nonneg _
    · exact le_rfl

/-- What the keys from `s` on left, as a logarithm: what `s` left and what those after it left. -/
theorem left_from (t s : Fin 2048) :
    (∑ j : Fin 2048, if s ≤ j then (if j < t then -softp (A.z t j) else 0) else 0) = (if s < t then -softp (A.z t s) else 0) + -A.later t s := by
  have e : (if s < t then -softp (A.z t s) else 0) = ∑ j : Fin 2048, if j = s then (if j < t then -softp (A.z t j) else 0) else 0 := by
    rw [Finset.sum_ite_eq' Finset.univ s, if_pos (Finset.mem_univ s)]
  rw [e, later, neg_sum _ _ fun j => by
    split
    · exact softp_nonneg _
    · exact le_rfl, ← Finset.sum_add_distrib]
  refine Finset.sum_congr rfl fun j _ => ?_
  rcases lt_trichotomy s j with hj | hj | hj
  · rw [if_pos hj.le, if_neg hj.ne', zero_add]
    by_cases hjt : j < t
    · rw [if_pos hjt, if_pos ⟨hj, hjt⟩]
    · rw [if_neg hjt, if_neg fun hh => hjt hh.2, neg_zero]
  · subst hj
    rw [if_pos le_rfl, if_pos rfl, if_neg (fun hh : s < s ∧ s < t => lt_irrefl _ hh.1), neg_zero, add_zero]
  · rw [if_neg (not_le.mpr hj), if_neg hj.ne, if_neg fun hh : s < j ∧ j < t => lt_asymm hj hh.1, neg_zero, add_zero]

/-- The weight, masked, written with logarithms of shares. -/
theorem att_eq (t s : Fin 2048) :
    (if s < t then Ideal.exp (-softp (-A.z t s) + ((∑ j : Fin 2048, if s ≤ j then (if j < t then -softp (A.z t j) else 0) else 0)
      - (if s < t then -softp (A.z t s) else 0))) else 0) = A.att t s := by
  unfold att
  by_cases h : s < t
  · rw [if_pos h, if_pos h, A.left_from, if_pos h, weight_eq _ _ (A.later_nonneg t s), if_pos h]
  · rw [if_neg h, if_neg h]

/-- Values weighted by the weights of query `t`. -/
def out (V : Fin 2048 → Fin 64 → EReal) (t : Fin 2048) (d : Fin 64) : EReal := ∑ s, A.att t s * V s d

end Keys

/-- A factor that is a real number moves out of a sum of products. -/
theorem sum_scaled {ι : Type*} (s : Finset ι) (f g : ι → EReal) {c : ℝ} (hc : 0 ≤ c) :
    ∑ i ∈ s, f i * (c : EReal) * g i = (∑ i ∈ s, f i * g i) * (c : EReal) := by
  classical
  induction s using Finset.induction_on with
  | empty => simp
  | insert a s ha ih =>
    rw [Finset.sum_insert ha, Finset.sum_insert ha, ih, EReal.right_distrib_of_nonneg_of_ne_top (by exact_mod_cast hc) (EReal.coe_ne_top c), mul_right_comm]

/-- The queries and keys of head `h` of sequence `b` among the projections. -/
def keysOf (x : Proj) (b : Fin 2) (h : Fin 8) : Keys where
  Q t d := x (ix2 (row b t) (qcol (col h d)))
  K t d := x (ix2 (row b t) (kcol (col h d)))
/-- Its values. -/
def valuesOf (x : Proj) (b : Fin 2) (h : Fin 8) (t : Fin 2048) (d : Fin 64) : EReal := x (ix2 (row b t) (vcol (col h d)))
/-- Stick-breaking attention, all heads. -/
def attended (x : Proj) : Rows := ofRows fun b h => (keysOf x b h).out (valuesOf x b h)

/-- A head's queries and keys. -/
def Head.keys (H : Head) : Keys where
  Q t d := (H.Q t d : EReal)
  K t d := (H.K t d : EReal)

namespace Head

variable (H : Head)

theorem keys_z (t s : Fin 2048) : H.keys.z t s = ((H.z t s : ℝ) : EReal) := by
  unfold Keys.z Head.z
  refine Eq.trans ?_ (congrArg Real.toEReal (div_eq_mul_one_div _ _)).symm
  rw [EReal.coe_mul, coe_sum]
  exact congrArg (· * _) (Finset.sum_congr rfl fun d _ => (EReal.coe_mul _ _).symm)

theorem keys_later (t s : Fin 2048) : H.keys.later t s = ((H.later t s : ℝ) : EReal) := by
  unfold Keys.later Head.later
  rw [coe_sum]
  exact Finset.sum_congr rfl fun j _ => by rw [H.keys_z, softp_coe, coe_ite]; rfl

theorem keys_att (t s : Fin 2048) : H.keys.att t s = ((H.att t s : ℝ) : EReal) := by
  unfold Keys.att Head.att
  rw [coe_ite, H.keys_z, softp_coe, H.keys_later, ← EReal.coe_sub, ← EReal.coe_sub, Ideal.exp_coe]; rfl

end Head

end Cert.StickBreaking

end
-- ==== Proof.Reference.lean ====
/-
  What the reference computes: its three results, for finite arguments, are the three gradients of `StickBreaking.Head`,
  head by head. Each step of the program is read at one index (`val_…_apply`) and named as a real number.
-/
module

public import proofs.«01_k».proof.Proof.Weights
public import proofs.«01_k».proof.Proof.Gen.ReferenceIdeal.Read

@[expose] public section

set_option maxRecDepth 16384

noncomputable section

namespace Cert.StickBreaking.Ref

open Idealize.ShloMosaic Idealize.ShloMosaic.ValueIdx
open Cert.ReferenceIdeal Cert.ReferenceIdeal.Read
open scoped BigOperators

/-! ## The running sums -/

/-- A left fold of additions is the start and the sum of what was added. -/
theorem foldl_add_eq {ι : Type*} (l : List ι) (f : ι → EReal) (v : EReal) :
    l.foldl (fun r n => r + f n) v = v + (l.map f).sum := by
  induction l generalizing v with
  | nil => simp
  | cons a l ih => rw [List.foldl_cons, ih, List.map_cons, List.sum_cons, add_assoc]

/-- A position of a window along the last axis. -/
theorem symm_last (n : Fin (⟨4, ![1, 1, 1, 2048]⟩ : Shape).numel) (h : n.val < 2048) :
    (⟨4, ![1, 1, 1, 2048]⟩ : Shape).rowMajor.symm n = ix4 (0 : Fin 1) (0 : Fin 1) (0 : Fin 1) (⟨n.val, h⟩ : Fin 2048) := by
  rw [Equiv.symm_apply_eq]
  apply Fin.ext
  rw [Shape.rowMajor_val_four]
  show n.val = ((0 * 1 + 0) * 1 + 0) * 2048 + n.val
  omega

theorem numel_last : (⟨4, ![1, 1, 1, 2048]⟩ : Shape).numel = 2048 := by decide +kernel

/-- The window sum along the last axis, padded low by `lo` and high by `hi`, as the sum over the window's positions. -/
theorem windowSum_apply (lo hi : ℕ) (x : S2x8x2048x2048.Idx → EReal) (init : EReal) (h0 : init = 0)
    (h : S2x8x2048x2048.ReduceWindows ![1, 1, 1, 2048] ![1, 1, 1, 1] ![0, 0, 0, lo] ![0, 0, 0, hi] S2x8x2048x2048)
    (b : Fin 2) (c : Fin 8) (t s : Fin 2048) :
    Ideal.hostReduceWindowAdd ![1, 1, 1, 2048] ![1, 1, 1, 1] ![0, 0, 0, lo] ![0, 0, 0, hi] h x init (ix4 b c t s)
      = ∑ k : Fin 2048, if hk : lo ≤ s.val + k.val ∧ s.val + k.val - lo < 2048
          then x (ix4 b c t ⟨s.val + k.val - lo, hk.2⟩) else 0 := by
  subst h0
  unfold Ideal.hostReduceWindowAdd Host.reduceWindow
  refine (foldl_add_eq _ _ _).trans ?_
  rw [zero_add, ← List.ofFn_eq_map, List.sum_ofFn]
  refine Fintype.sum_equiv (finCongr numel_last) _ _ fun n => ?_
  have hn : n.val < 2048 := lt_of_lt_of_eq n.isLt numel_last
  have hw : ∀ a : Fin 4, ((⟨4, ![1, 1, 1, 2048]⟩ : Shape).rowMajor.symm n a).val
      = (ix4 (0 : Fin 1) (0 : Fin 1) (0 : Fin 1) (⟨n.val, hn⟩ : Fin 2048) a).val := fun a => by rw [symm_last n hn]
  have hb := b.isLt
  have hc := c.isLt
  have ht := t.isLt
  show _ = (if hk : lo ≤ s.val + n.val ∧ s.val + n.val - lo < 2048 then x (ix4 b c t ⟨s.val + n.val - lo, hk.2⟩) else 0)
  by_cases hk : lo ≤ s.val + n.val ∧ s.val + n.val - lo < 2048
  · have hin : ∀ a : Fin 4, (![0, 0, 0, lo] : Fin 4 → ℕ) a ≤ (ix4 b c t s a).val * (![1, 1, 1, 1] : Fin 4 → ℕ) a
        + ((⟨4, ![1, 1, 1, 2048]⟩ : Shape).rowMajor.symm n a).val ∧ (ix4 b c t s a).val * (![1, 1, 1, 1] : Fin 4 → ℕ) a
        + ((⟨4, ![1, 1, 1, 2048]⟩ : Shape).rowMajor.symm n a).val - (![0, 0, 0, lo] : Fin 4 → ℕ) a < S2x8x2048x2048.size a := fun a => by
      rw [hw a]
      match a with
      | ⟨0, _⟩ => show 0 ≤ b.val * 1 + 0 ∧ b.val * 1 + 0 - 0 < 2; omega
      | ⟨1, _⟩ => show 0 ≤ c.val * 1 + 0 ∧ c.val * 1 + 0 - 0 < 8; omega
      | ⟨2, _⟩ => show 0 ≤ t.val * 1 + 0 ∧ t.val * 1 + 0 - 0 < 2048; omega
      | ⟨3, _⟩ => show lo ≤ s.val * 1 + n.val ∧ s.val * 1 + n.val - lo < 2048; omega
    refine (dif_pos hin).trans (Eq.trans ?_ (dif_pos hk).symm)
    refine congrArg x (funext fun a => Fin.ext ?_)
    show (ix4 b c t s a).val * (![1, 1, 1, 1] : Fin 4 → ℕ) a + ((⟨4, ![1, 1, 1, 2048]⟩ : Shape).rowMajor.symm n a).val
      - (![0, 0, 0, lo] : Fin 4 → ℕ) a = _
    rw [hw a]
    match a with
    | ⟨0, _⟩ => show b.val * 1 + 0 - 0 = b.val; omega
    | ⟨1, _⟩ => show c.val * 1 + 0 - 0 = c.val; omega
    | ⟨2, _⟩ => show t.val * 1 + 0 - 0 = t.val; omega
    | ⟨3, _⟩ => show s.val * 1 + n.val - lo = s.val + n.val - lo; omega
  · refine (dif_neg fun hin => hk ?_).trans (Eq.symm (dif_neg hk))
    have e3 : ((⟨4, ![1, 1, 1, 2048]⟩ : Shape).rowMajor.symm n (3 : Fin 4)).val = n.val := hw 3
    have h3 := hin (3 : Fin 4)
    change lo ≤ s.val * 1 + ((⟨4, ![1, 1, 1, 2048]⟩ : Shape).rowMajor.symm n (3 : Fin 4)).val
      ∧ s.val * 1 + ((⟨4, ![1, 1, 1, 2048]⟩ : Shape).rowMajor.symm n (3 : Fin 4)).val - lo < 2048 at h3
    omega

/-- Padded high: the sum of the entries from `s` on. -/
theorem suffixSum (f : Fin 2048 → EReal) (s : Fin 2048) :
    (∑ k : Fin 2048, if hk : 0 ≤ s.val + k.val ∧ s.val + k.val - 0 < 2048 then f ⟨s.val + k.val - 0, hk.2⟩ else 0)
      = ∑ j : Fin 2048, if s ≤ j then f j else 0 := by
  have hs := s.isLt
  have e1 := Fin.sum_univ_eq_sum_range (fun k : ℕ => if hk : s.val + k < 2048 then f ⟨s.val + k, hk⟩ else 0) 2048
  have e2 := Fin.sum_univ_eq_sum_range (fun j : ℕ => if hj : s.val ≤ j ∧ j < 2048 then f ⟨j, hj.2⟩ else 0) 2048
  refine Eq.trans (Finset.sum_congr rfl fun k _ => ?_) (e1.trans (Eq.trans ?_ (e2.symm.trans (Finset.sum_congr rfl fun j _ => ?_))))
  · by_cases hk : s.val + k.val < 2048
    · rw [dif_pos ⟨Nat.zero_le _, by omega⟩, dif_pos hk]
      rfl
    · rw [dif_neg (by omega), dif_neg hk]
  · rw [← Finset.sum_range_add_sum_Ico (fun j : ℕ => if hj : s.val ≤ j ∧ j < 2048 then f ⟨j, hj.2⟩ else 0) (m := s.val) (n := 2048) (by omega)]
    rw [Finset.sum_eq_zero (s := Finset.range s.val) fun j hj => dif_neg (by rw [Finset.mem_range] at hj; omega), zero_add,
      Finset.sum_Ico_eq_sum_range, ← Finset.sum_range_add_sum_Ico (fun k : ℕ => if hk : s.val + k < 2048 then f ⟨s.val + k, hk⟩ else 0)
      (m := 2048 - s.val) (n := 2048) (by omega), Finset.sum_eq_zero (s := Finset.Ico _ _) fun j hj => dif_neg (by rw [Finset.mem_Ico] at hj; omega), add_zero]
    refine Finset.sum_congr rfl fun k hk => ?_
    rw [Finset.mem_range] at hk
    rw [dif_pos (by omega), dif_pos (by omega)]
  · by_cases hj : s ≤ j
    · rw [dif_pos ⟨hj, j.isLt⟩, if_pos hj]
    · rw [dif_neg fun h => hj h.1, if_neg hj]

/-- Padded low: the sum of the entries up to `s`. -/
theorem prefixSum (f : Fin 2048 → EReal) (s : Fin 2048) :
    (∑ k : Fin 2048, if hk : 2047 ≤ s.val + k.val ∧ s.val + k.val - 2047 < 2048 then f ⟨s.val + k.val - 2047, hk.2⟩ else 0)
      = ∑ j : Fin 2048, if j ≤ s then f j else 0 := by
  have hs := s.isLt
  have e1 := Fin.sum_univ_eq_sum_range (fun k : ℕ => if hk : 2047 ≤ s.val + k ∧ s.val + k - 2047 < 2048 then f ⟨s.val + k - 2047, hk.2⟩ else 0) 2048
  have e2 := Fin.sum_univ_eq_sum_range (fun j : ℕ => if hj : j ≤ s.val ∧ j < 2048 then f ⟨j, hj.2⟩ else 0) 2048
  refine e1.trans (Eq.trans ?_ (e2.symm.trans (Finset.sum_congr rfl fun j _ => ?_)))
  · rw [← Finset.sum_range_add_sum_Ico (fun j : ℕ => if hj : j ≤ s.val ∧ j < 2048 then f ⟨j, hj.2⟩ else 0) (m := s.val + 1) (n := 2048) (by omega),
      Finset.sum_eq_zero (s := Finset.Ico _ _) fun j hj => dif_neg (by rw [Finset.mem_Ico] at hj; omega), add_zero,
      ← Finset.sum_range_add_sum_Ico (fun k : ℕ => if hk : 2047 ≤ s.val + k ∧ s.val + k - 2047 < 2048 then f ⟨s.val + k - 2047, hk.2⟩ else 0)
      (m := 2047 - s.val) (n := 2048) (by omega), Finset.sum_eq_zero (s := Finset.range (2047 - s.val)) fun j hj => dif_neg (by rw [Finset.mem_range] at hj; omega),
      zero_add, Finset.sum_Ico_eq_sum_range, show 2048 - (2047 - s.val) = s.val + 1 by omega]
    refine Finset.sum_congr rfl fun k hk => ?_
    rw [Finset.mem_range] at hk
    rw [dif_pos (by omega), dif_pos (by omega)]
    exact congrArg f (Fin.ext (by show s.val + (2047 - s.val + k) - 2047 = k; omega))
  · by_cases hj : j ≤ s
    · rw [dif_pos ⟨hj, j.isLt⟩, if_pos hj]
    · rw [dif_neg fun h => hj h.1, if_neg hj]

/-! ## Scalars -/

/-- The printed softplus. -/
theorem softp_scalar (x : EReal) :
    Scalar.select (FloatOps.cmpf (F := Ideal) (φ := .f32) .une (FloatOps.subf (F := Ideal) (φ := .f32) x (FloatOps.ofBits (F := Ideal) .f32 0x00000000#32)) (FloatOps.subf (F := Ideal) (φ := .f32) x (FloatOps.ofBits (F := Ideal) .f32 0x00000000#32)))
      (FloatOps.addf (F := Ideal) (φ := .f32) x (FloatOps.ofBits (F := Ideal) .f32 0x00000000#32))
      (FloatOps.addf (F := Ideal) (φ := .f32) (FloatOps.maximumf (F := Ideal) (φ := .f32) x (FloatOps.ofBits (F := Ideal) .f32 0x00000000#32))
        (FloatOps.hostUnary (F := Ideal) (φ := .f32) .log1p (FloatOps.hostUnary (F := Ideal) (φ := .f32) .exp
          (FloatOps.hostNegf (F := Ideal) (φ := .f32) (FloatOps.hostAbsf (F := Ideal) (φ := .f32) (FloatOps.subf (F := Ideal) (φ := .f32) x (FloatOps.ofBits (F := Ideal) .f32 0x00000000#32)))))))
      = softp x := by
  have e0 : (FloatOps.ofBits (F := Ideal) .f32 0x00000000#32 : EReal) = 0 := Ideal.ofBits_zero_f32
  have e1 : (FloatOps.subf (F := Ideal) (φ := .f32) x (FloatOps.ofBits (F := Ideal) .f32 0x00000000#32) : EReal) = x := by
    rw [e0]; exact sub_zero _
  rw [e1, e0]
  have hc : FloatOps.cmpf (F := Ideal) (φ := .f32) .une x x = 0 := by
    show BitVec.ofBool (decide (x ≠ x)) = 0
    simp
  rw [hc]
  rfl

/-- The printed share of a real number: infinities would be set to zero. -/
theorem take_scalar (x y : ℝ) :
    FloatOps.hostUnary (F := Ideal) (φ := .f32) .exp (FloatOps.subf (F := Ideal) (φ := .f32)
      (Scalar.select (FloatOps.cmpf (F := Ideal) (φ := .f32) .oeq (x : EReal) (FloatOps.ofBits (F := Ideal) .f32 0x7F800000#32)) (FloatOps.ofBits (F := Ideal) .f32 0x00000000#32) (x : EReal))
      (Scalar.select (FloatOps.cmpf (F := Ideal) (φ := .f32) .oeq (y : EReal) (FloatOps.ofBits (F := Ideal) .f32 0x7F800000#32)) (FloatOps.ofBits (F := Ideal) .f32 0x00000000#32) (y : EReal)))
      = ((Real.exp (x - y) : ℝ) : EReal) := by
  have hi : (FloatOps.ofBits (F := Ideal) .f32 0x7F800000#32 : EReal) = ⊤ := ofBits_inf
  have hc : ∀ z : ℝ, FloatOps.cmpf (F := Ideal) (φ := .f32) .oeq (z : EReal) (FloatOps.ofBits (F := Ideal) .f32 0x7F800000#32) = 0 := fun z => by
    rw [hi]
    show BitVec.ofBool (decide ((z : EReal) = ⊤)) = 0
    simp
  rw [hc, hc]
  show Ideal.exp ((x : EReal) - (y : EReal)) = _
  rw [← EReal.coe_sub, Ideal.exp_coe]

/-! ## The arguments, head by head -/

section
variable (x : Proj) (y : Rows) (b : Fin 2) (h : Fin 8) (t s : Fin 2048) (d : Fin 64)

theorem idx_heads (i : S4096x512.Idx) (h0 : (i 0).val = (((b.val * 2048 + t.val) * 8 + h.val) * 64 + d.val) / 512)
    (h1 : (i 1).val = (((b.val * 2048 + t.val) * 8 + h.val) * 64 + d.val) % 512) : i = ix2 (row b t) (col h d) := by
  have hb := b.isLt
  have hh := h.isLt
  have ht := t.isLt
  have hd := d.isLt
  funext a
  match a with
  | ⟨0, _⟩ => exact Fin.ext (by show (i 0).val = b.val * 2048 + t.val; omega)
  | ⟨1, _⟩ => exact Fin.ext (by show (i 1).val = h.val * 64 + d.val; omega)

variable {x y}

theorem q_apply (hf : Finite x y) : val_main_v1 (F := Ideal) x (ix4 b t h d) = (((head x y b h).Q t d : ℝ) : EReal) := by
  rw [val_main_v1_apply, val_main_v0_apply, idx_heads b h t d (idx_main_v1 (ix4 b t h d)) rfl rfl]
  refine Eq.trans (congrArg x ?_) (hf.q (row b t) (col h d)).symm
  funext a
  match a with
  | ⟨0, _⟩ => rfl
  | ⟨1, _⟩ => rfl

theorem k_apply (hf : Finite x y) : val_main_v3 (F := Ideal) x (ix4 b t h d) = (((head x y b h).K t d : ℝ) : EReal) := by
  rw [val_main_v3_apply, val_main_v2_apply, idx_heads b h t d (idx_main_v3 (ix4 b t h d)) rfl rfl]
  refine Eq.trans (congrArg x ?_) (hf.k (row b t) (col h d)).symm
  funext a
  match a with
  | ⟨0, _⟩ => rfl
  | ⟨1, _⟩ => rfl

theorem v_apply (hf : Finite x y) : val_main_v5 (F := Ideal) x (ix4 b t h d) = (((head x y b h).V t d : ℝ) : EReal) := by
  rw [val_main_v5_apply, val_main_v4_apply, idx_heads b h t d (idx_main_v5 (ix4 b t h d)) rfl rfl]
  refine Eq.trans (congrArg x ?_) (hf.v (row b t) (col h d)).symm
  funext a
  match a with
  | ⟨0, _⟩ => rfl
  | ⟨1, _⟩ => rfl

theorem d_apply (hf : Finite x y) : val_main_v24 (F := Ideal) y (ix4 b h d t) = (((head x y b h).D t d : ℝ) : EReal) := by
  rw [val_main_v24_apply, val_main_v23_apply]
  have e : idx_main_v24 (ix4 b h d t) = ix4 b t h d := by funext a; fin_cases a <;> rfl
  rw [e, idx_heads b h t d (idx_main_v23 (ix4 b t h d)) rfl rfl]
  exact (hf.d (row b t) (col h d)).symm

/-! ## The forward values -/

theorem z_apply (hf : Finite x y) : val_main_v8 (F := Ideal) x (ix4 b h t s) = (((head x y b h).z t s : ℝ) : EReal) := by
  have e6 : val_main_v6 (F := Ideal) x (ix4 b h t s) = ((∑ d, (head x y b h).Q t d * (head x y b h).K s d : ℝ) : EReal) := by
    rw [val_main_v6_apply, coe_sum]
    refine Finset.sum_congr rfl fun d _ => ?_
    have el : lidx_main_v6 (ix4 b h t s) d = ix4 b t h d := by funext a; fin_cases a <;> rfl
    have er : ridx_main_v6 (ix4 b h t s) d = ix4 b s h d := by funext a; fin_cases a <;> rfl
    rw [el, er, q_apply b h t d hf, k_apply b h s d hf, EReal.coe_mul]
  rw [val_main_v8_apply, e6, val_main_v7_apply, val_main_cst_apply]
  show (((∑ d, (head x y b h).Q t d * (head x y b h).K s d : ℝ) : ℝ) : EReal) * Ideal.ofBits .f32 0x3E000000#32 = _
  rw [ofBits_eighth, ← EReal.coe_mul, Head.z, mul_one_div]

theorem negneg_apply (hf : Finite x y) : val_main_call0_v0 (F := Ideal) x (ix4 b h t s) = (((head x y b h).z t s : ℝ) : EReal) := by
  rw [val_main_call0_v0_apply, val_main_v12_apply, z_apply b h t s hf]
  show - - (((head x y b h).z t s : ℝ) : EReal) = _
  rw [neg_neg]

theorem neg_apply (hf : Finite x y) : val_main_call3_v0 (F := Ideal) x (ix4 b h t s) = ((-(head x y b h).z t s : ℝ) : EReal) := by
  rw [val_main_call3_v0_apply, z_apply b h t s hf]
  rfl

theorem sp_apply (hf : Finite x y) : val_main_call0_v1_0 (F := Ideal) x (ix4 b h t s) = ((sp ((head x y b h).z t s) : ℝ) : EReal) := by
  simp only [val_main_call0_v1_0_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, negneg_apply b h t s hf]
  exact (softp_scalar _).trans (softp_coe _)

theorem spn_apply (hf : Finite x y) : val_main_call3_v1_0 (F := Ideal) x (ix4 b h t s) = ((sp (-(head x y b h).z t s) : ℝ) : EReal) := by
  simp only [val_main_call3_v1_0_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, neg_apply b h t s hf]
  exact (softp_scalar _).trans (softp_coe _)

theorem take_apply (hf : Finite x y) : val_main_v13_1 (F := Ideal) x (ix4 b h t s) = (((head x y b h).take t s : ℝ) : EReal) := by
  simp only [val_main_v13_1_apply, val_main_call0_call0_v21_apply, val_main_call0_call0_v20_apply, val_main_call0_call0_v16_apply,
    val_main_call0_call0_v14_apply, val_main_call0_call0_v18_apply, val_main_call0_call0_v13_apply, val_main_call0_call0_v15_apply,
    val_main_call0_call0_v17_apply, val_main_call0_call0_v19_apply, val_main_call0_call0_cst_0_apply, val_main_call0_call0_cst_1_apply,
    val_main_call0_call0_cst_2_apply, val_main_call0_call0_cst_3_apply, negneg_apply b h t s hf, sp_apply b h t s hf]
  exact take_scalar _ _

theorem leave_apply (hf : Finite x y) : val_main_v17_1 (F := Ideal) x (ix4 b h t s) = ((1 - (head x y b h).take t s : ℝ) : EReal) := by
  simp only [val_main_v17_1_apply, val_main_call3_call0_v21_apply, val_main_call3_call0_v20_apply, val_main_call3_call0_v16_apply,
    val_main_call3_call0_v14_apply, val_main_call3_call0_v18_apply, val_main_call3_call0_v13_apply, val_main_call3_call0_v15_apply,
    val_main_call3_call0_v17_apply, val_main_call3_call0_v19_apply, val_main_call3_call0_cst_0_apply, val_main_call3_call0_cst_1_apply,
    val_main_call3_call0_cst_2_apply, val_main_call3_call0_cst_3_apply, neg_apply b h t s hf, spn_apply b h t s hf]
  rw [take_scalar, leave_eq]
  rfl

/-- The comparison of two positions as words. -/
theorem slt_scalar (t s : Fin 2048) : BitVec.ofBool ((BitVec.ofNat 32 s.val).slt (BitVec.ofNat 32 t.val)) = if s < t then 1 else 0 := by
  have ht := t.isLt
  have hs := s.isLt
  have e : ∀ a : ℕ, a < 2048 → (BitVec.ofNat 32 a).toInt = a := fun a ha => by
    have e : (BitVec.ofNat 32 a).toNat = a := by rw [BitVec.toNat_ofNat]; exact Nat.mod_eq_of_lt (by omega)
    rw [BitVec.toInt_eq_toNat_of_lt (by omega), e]
  rw [BitVec.slt_eq_decide, e _ ht, e _ hs]
  by_cases hst : s < t
  · rw [if_pos hst, decide_eq_true (by exact_mod_cast hst)]; rfl
  · rw [if_neg hst, decide_eq_false (by exact_mod_cast hst)]; rfl

/-- The mask: the query comes after the key. -/
theorem mask_apply : val_main_v11 (F := Ideal) (ix2 t s) = if s < t then 1 else 0 := by
  rw [val_main_v11_apply, val_main_v9_apply, val_main_v10_apply]
  exact slt_scalar t s

theorem mask14_apply : val_main_v14_1 (F := Ideal) (ix4 b h t s) = if s < t then 1 else 0 := by
  rw [val_main_v14_1_apply, ← mask_apply t s]
  exact congrArg _ (by funext a; fin_cases a <;> rfl)

theorem mask20_apply : val_main_v20_1 (F := Ideal) (ix4 b h t s) = if s < t then 1 else 0 := by
  rw [val_main_v20_1_apply, ← mask_apply t s]
  exact congrArg _ (by funext a; fin_cases a <;> rfl)

/-- A choice by a mask between a number and zero. -/
theorem choose_scalar (p : Prop) [Decidable p] (u z : EReal) (hz : z = 0) :
    Scalar.select (if p then (1 : BitVec 1) else 0) u z = if p then u else 0 := by
  subst hz
  split
  · exact select_one _ _
  · exact select_zero _ _

theorem select_scalar (p : Prop) [Decidable p] (u : ℝ) (z : EReal) (hz : z = 0) :
    Scalar.select (if p then (1 : BitVec 1) else 0) (u : EReal) z = ((if p then u else 0 : ℝ) : EReal) :=
  (choose_scalar p (u : EReal) z hz).trans (coe_ite p u 0).symm

theorem lognot_apply (hf : Finite x y) :
    val_main_v14_0 (F := Ideal) x (ix4 b h t s) = ((if s < t then -sp ((head x y b h).z t s) else 0 : ℝ) : EReal) := by
  rw [val_main_v14_0_apply, mask14_apply, val_main_v13_0_apply, sp_apply b h t s hf]
  exact select_scalar _ _ _ Ideal.ofBits_zero_f32

theorem later_apply (hf : Finite x y) : val_main_v16 (F := Ideal) x (ix4 b h t s) = ((-(head x y b h).later t s : ℝ) : EReal) := by
  have e15 : val_main_v15 (F := Ideal) x (ix4 b h t s)
      = ((∑ j : Fin 2048, if s ≤ j then (if j < t then -sp ((head x y b h).z t j) else 0) else 0 : ℝ) : EReal) := by
    unfold val_main_v15 Host.reduceWindowAdd
    rw [Ideal.hostReduceWindowAdd_def, windowSum_apply 0 2047 (val_main_v14_0 (F := Ideal) x) _
      (show val_main_call2_v0 (F := Ideal) (Shape.Idx.first Gen.h_S_) = 0 from Ideal.ofBits_zero_f32) _ b h t s]
    refine (suffixSum (fun j => val_main_v14_0 (F := Ideal) x (ix4 b h t j)) s).trans ?_
    rw [coe_sum]
    refine Finset.sum_congr rfl fun j _ => ?_
    rw [coe_ite, lognot_apply b h t j hf]
    rfl
  rw [val_main_v16_apply, e15, lognot_apply b h t s hf]
  show (_ : EReal) - _ = _
  rw [← EReal.coe_sub]
  refine congrArg Real.toEReal ?_
  have e : (if s < t then -sp ((head x y b h).z t s) else 0 : ℝ) = ∑ j : Fin 2048, if j = s then (if j < t then -sp ((head x y b h).z t j) else 0) else 0 := by
    rw [Finset.sum_ite_eq' Finset.univ s, if_pos (Finset.mem_univ s)]
  rw [e, ← Finset.sum_sub_distrib, Head.later, ← Finset.sum_neg_distrib]
  refine Finset.sum_congr rfl fun j _ => ?_
  rcases lt_trichotomy s j with hj | hj | hj
  · rw [if_pos hj.le, if_neg hj.ne', sub_zero]
    by_cases hjt : j < t
    · rw [if_pos hjt, if_pos ⟨hj, hjt⟩]
    · rw [if_neg hjt, if_neg fun hh => hjt hh.2, neg_zero]
  · subst hj
    rw [if_pos le_rfl, if_pos rfl, sub_self, if_neg fun hh => lt_irrefl _ hh.1, neg_zero]
  · rw [if_neg (not_le.mpr hj), if_neg hj.ne, sub_zero, if_neg fun hh => lt_asymm hj hh.1, neg_zero]

/-- The weight before masking. -/
theorem weight_apply (hf : Finite x y) : val_main_v19 (F := Ideal) x (ix4 b h t s)
    = ((Real.exp ((head x y b h).z t s - sp ((head x y b h).z t s) - (head x y b h).later t s) : ℝ) : EReal) := by
  rw [val_main_v19_apply, val_main_v18_apply, val_main_v17_0_apply, spn_apply b h t s hf, later_apply b h t s hf, sp_neg]
  show Ideal.exp (-((sp ((head x y b h).z t s) - (head x y b h).z t s : ℝ) : EReal) + ((-(head x y b h).later t s : ℝ) : EReal)) = _
  rw [← EReal.coe_neg, ← EReal.coe_add, Ideal.exp_coe]
  congr 2
  ring

theorem att_apply (hf : Finite x y) : val_main_v20_0 (F := Ideal) x (ix4 b h t s) = (((head x y b h).att t s : ℝ) : EReal) := by
  rw [val_main_v20_0_apply, mask20_apply, weight_apply b h t s hf]
  exact select_scalar _ _ _ Ideal.ofBits_zero_f32

/-! ## The gradients -/

theorem g_apply (hf : Finite x y) : val_main_v29 (F := Ideal) x y (ix4 b h t s) = (((head x y b h).g t s : ℝ) : EReal) := by
  have e25 : val_main_v25 (F := Ideal) x y (ix4 b h t s) = ((∑ d, (head x y b h).D t d * (head x y b h).V s d : ℝ) : EReal) := by
    rw [val_main_v25_apply, coe_sum]
    refine Finset.sum_congr rfl fun d _ => ?_
    have el : lidx_main_v25 (ix4 b h t s) d = ix4 b h d t := by funext a; fin_cases a <;> rfl
    have er : ridx_main_v25 (ix4 b h t s) d = ix4 b s h d := by funext a; fin_cases a <;> rfl
    rw [el, er, d_apply b h t d hf, v_apply b h s d hf, EReal.coe_mul]
  have e28 : val_main_v28 (F := Ideal) x y (ix4 b h t s) = ((if s < t then ∑ d, (head x y b h).D t d * (head x y b h).V s d else 0 : ℝ) : EReal) := by
    rw [val_main_v28_apply, mask20_apply, e25]
    exact select_scalar _ _ _ Ideal.ofBits_zero_f32
  rw [val_main_v29_apply, e28, weight_apply b h t s hf]
  show (_ : EReal) * _ = _
  rw [← EReal.coe_mul]
  congr 1
  rw [Head.g, Head.att]
  split <;> simp

theorem earlier_apply (hf : Finite x y) : val_main_v33 (F := Ideal) x y (ix4 b h t s) = (((head x y b h).earlier t s : ℝ) : EReal) := by
  have e32 : val_main_v32 (F := Ideal) x y (ix4 b h t s) = ((∑ j : Fin 2048, if j ≤ s then (head x y b h).g t j else 0 : ℝ) : EReal) := by
    unfold val_main_v32 Host.reduceWindowAdd
    rw [Ideal.hostReduceWindowAdd_def, windowSum_apply 2047 0 (val_main_v29 (F := Ideal) x y) _
      (show val_main_call7_v0 (F := Ideal) (Shape.Idx.first Gen.h_S_) = 0 from Ideal.ofBits_zero_f32) _ b h t s]
    refine (prefixSum (fun j => val_main_v29 (F := Ideal) x y (ix4 b h t j)) s).trans ?_
    rw [coe_sum]
    refine Finset.sum_congr rfl fun j _ => ?_
    rw [coe_ite, g_apply b h t j hf]
    rfl
  rw [val_main_v33_apply, val_main_v31_apply, e32, g_apply b h t s hf]
  show -(((head x y b h).g t s : ℝ) : EReal) + _ = _
  rw [← EReal.coe_neg, ← EReal.coe_add]
  refine congrArg Real.toEReal ?_
  have e : (head x y b h).g t s = ∑ j : Fin 2048, if j = s then (head x y b h).g t j else 0 := by
    rw [Finset.sum_ite_eq' Finset.univ s, if_pos (Finset.mem_univ s)]
  rw [e, ← Finset.sum_neg_distrib, ← Finset.sum_add_distrib, Head.earlier]
  refine Finset.sum_congr rfl fun j _ => ?_
  rcases lt_trichotomy j s with hj | hj | hj
  · rw [if_pos hj.le, if_neg hj.ne, if_pos hj]; ring
  · subst hj
    rw [if_pos le_rfl, if_pos rfl, if_neg (lt_irrefl _)]; ring
  · rw [if_neg (not_le.mpr hj), if_neg hj.ne', if_neg (lt_asymm hj)]; ring

theorem dz_apply (hf : Finite x y) : val_main_v39 (F := Ideal) x y (ix4 b h t s) = (((head x y b h).dz t s / 8 : ℝ) : EReal) := by
  have e34 : val_main_v34 (F := Ideal) x y (ix4 b h t s) = ((if s < t then (head x y b h).earlier t s else 0 : ℝ) : EReal) := by
    rw [val_main_v34_apply, mask14_apply, earlier_apply b h t s hf]
    exact select_scalar _ _ _ Ideal.ofBits_zero_f32
  rw [val_main_v39_apply, val_main_v37_apply, val_main_v30_apply, val_main_call6_v1_apply, val_main_call6_v0_apply, val_main_v36_apply,
    val_main_v35_apply, val_main_call9_v1_apply, val_main_call9_v0_apply, e34, g_apply b h t s hf, leave_apply b h t s hf, take_apply b h t s hf,
    val_main_v38_apply, val_main_cst_2_apply]
  show (-(-(((head x y b h).g t s : ℝ) : EReal) * ((1 - (head x y b h).take t s : ℝ) : EReal))
    + - -(-((if s < t then (head x y b h).earlier t s else 0 : ℝ) : EReal) * (((head x y b h).take t s : ℝ) : EReal))) * Ideal.ofBits .f32 0x3E000000#32 = _
  rw [ofBits_eighth]
  simp only [← EReal.coe_neg, ← EReal.coe_mul, ← EReal.coe_add]
  congr 1
  rw [Head.dz]
  by_cases hst : s < t
  · rw [if_pos hst, if_pos hst]; ring
  · rw [if_neg hst, if_neg hst, (head x y b h).g_of_not_lt hst]; ring

/-! ## The results -/

theorem idx_rows (i : S2x2048x8x64.Idx) (h0 : (i 0).val = ((row b t).val * 512 + (col h d).val) / 1048576) (h1 : (i 1).val = ((row b t).val * 512 + (col h d).val) / 512 % 2048)
    (h2 : (i 2).val = ((row b t).val * 512 + (col h d).val) / 64 % 8) (h3 : (i 3).val = ((row b t).val * 512 + (col h d).val) % 64) : i = ix4 b t h d := by
  have hb := b.isLt
  have hh := h.isLt
  have ht := t.isLt
  have hd := d.isLt
  have hr : (row b t).val = b.val * 2048 + t.val := rfl
  have hc : (col h d).val = h.val * 64 + d.val := rfl
  funext a
  match a with
  | ⟨0, _⟩ => exact Fin.ext (by show (i 0).val = b.val; omega)
  | ⟨1, _⟩ => exact Fin.ext (by show (i 1).val = t.val; omega)
  | ⟨2, _⟩ => exact Fin.ext (by show (i 2).val = h.val; omega)
  | ⟨3, _⟩ => exact Fin.ext (by show (i 3).val = d.val; omega)

theorem dq_eq (hf : Finite x y) : val_main_v45 (F := Ideal) x y = dQ x y := by
  funext i
  obtain ⟨b, h, t, d, rfl⟩ := exists_row_col i
  rw [dQ, ofHeads_apply, val_main_v45_apply, val_main_v44_apply, idx_rows b h t d (idx_main_v44 (ix2 (row b t) (col h d))) rfl rfl rfl rfl, val_main_v43_apply]
  have e : idx_main_v43 (ix4 b t h d) = ix4 b h t d := by funext a; fin_cases a <;> rfl
  rw [e, val_main_v42_apply]
  show (_ : EReal) = _
  rw [Head.dq, Finset.sum_div, coe_sum]
  refine Finset.sum_congr rfl fun s _ => ?_
  have el : lidx_main_v42 (ix4 b h t d) s = ix4 b h t s := by funext a; fin_cases a <;> rfl
  have er : ridx_main_v42 (ix4 b h t d) s = ix4 b s h d := by funext a; fin_cases a <;> rfl
  rw [el, er, dz_apply b h t s hf, k_apply b h s d hf, ← EReal.coe_mul]
  congr 1
  ring

theorem dk_eq (hf : Finite x y) : val_main_v47 (F := Ideal) x y = dK x y := by
  funext i
  obtain ⟨b, h, s, d, rfl⟩ := exists_row_col i
  rw [dK, ofHeads_apply, val_main_v47_apply, val_main_v46_apply, idx_rows b h s d (idx_main_v46 (ix2 (row b s) (col h d))) rfl rfl rfl rfl, val_main_v41_apply]
  have e : idx_main_v41 (ix4 b s h d) = ix4 b h s d := by funext a; fin_cases a <;> rfl
  rw [e, val_main_v40_apply]
  show (_ : EReal) = _
  rw [Head.dk, coe_sum]
  refine Finset.sum_congr rfl fun t _ => ?_
  have el : lidx_main_v40 (ix4 b h s d) t = ix4 b h t s := by funext a; fin_cases a <;> rfl
  have er : ridx_main_v40 (ix4 b h s d) t = ix4 b t h d := by funext a; fin_cases a <;> rfl
  rw [el, er, dz_apply b h t s hf, q_apply b h t d hf, ← EReal.coe_mul]
  congr 1
  ring

theorem dv_eq (hf : Finite x y) : val_main_v49 (F := Ideal) x y = dV x y := by
  funext i
  obtain ⟨b, h, s, d, rfl⟩ := exists_row_col i
  rw [dV, ofHeads_apply, val_main_v49_apply, val_main_v48_apply, idx_rows b h s d (idx_main_v48 (ix2 (row b s) (col h d))) rfl rfl rfl rfl, val_main_v27_apply]
  have e : idx_main_v27 (ix4 b s h d) = ix4 b h d s := by funext a; fin_cases a <;> rfl
  rw [e, val_main_v26_apply]
  show (_ : EReal) = _
  rw [Head.dv, coe_sum]
  refine Finset.sum_congr rfl fun t _ => ?_
  have el : lidx_main_v26 (ix4 b h d s) t = ix4 b h d t := by funext a; fin_cases a <;> rfl
  have er : ridx_main_v26 (ix4 b h d s) t = ix4 b h t s := by funext a; fin_cases a <;> rfl
  rw [el, er, d_apply b h t d hf, att_apply b h t s hf, ← EReal.coe_mul]
  congr 1
  ring

end

end Cert.StickBreaking.Ref

end
-- ==== Proof.Tile.lean ====
/-
  What one point of the grid computes, in the attention and in its gradient, written once for every number of keys before
  the tile. A tile of 256 queries reads `W` keys strictly before it (the bulk) and its own 256 (the diagonal, masked); the
  body is printed anew for each `W`, and each printed form is this text at its `W` (Cases, SbAttnCases). The running sums go by blocks of 128 columns, each block
  stored into a scratch of 2048 columns as it is computed: the lists of stores below, newest first.
-/
module

public import proofs.«01_k».proof.Proof.Gen.KernelIdeal.Skeleton

@[expose] public section

noncomputable section

namespace Cert.StickBreaking.Tile

open Idealize.ShloMosaic Idealize.ShloMosaic.TcCoe
open Cert.KernelIdeal Cert.KernelIdeal.Gen

variable {F : FTy → Type} [FloatOps F] {Sg : RefSig}

/-- A matrix's shape. -/
abbrev Mat (a b : ℕ) : Shape := ⟨2, ![a, b]⟩

/-- The product of the transpose of a `K × M` by a `K × N` matrix: both operands contracted on their first axis. -/
def dimsTN (M K N : ℕ) : DotDims (Mat K M) (Mat K N) (Mat M N) where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

/-! ## The pieces of one head -/

/-- The scores of 256 queries against `W` keys. -/
def scores {W : ℕ} (q : FVec F (Mat 256 128) .bf16) (k : FVec F (Mat W 128) .bf16) : FVec F (Mat 256 W) .f32 :=
  matmul (DotDims.transposedRhs 256 128 W) none q k (constant (Mat 256 W) .f32 0x00000000#32)

/-- Their softplus. -/
def softplus {W : ℕ} (z : FVec F (Mat 256 W) .f32) : FVec F (Mat 256 W) .f32 :=
  addf (maximumf z (broadcast (Mat 256 W) (Scalar.ofBits .f32 0x00000000#32)))
    (log (addf (broadcast (Mat 256 W) (Scalar.ofBits .f32 0x3F800000#32))
      (exp (subf (broadcast (Mat 256 W) (Scalar.ofBits .f32 0x00000000#32)) (absf z)))))

/-- A matrix's entries where the mask holds, zero elsewhere. -/
def masked {W : ℕ} (ok : IVec (Mat 256 W) 1) (x : FVec F (Mat 256 W) .f32) : FVec F (Mat 256 W) .f32 :=
  select ok x (broadcast (Mat 256 W) (Scalar.ofBits .f32 0x00000000#32))

/-- A block of 128 columns lies within `W` columns. -/
theorem slices_block {W k : ℕ} (h : 128 * (k + 1) ≤ W) : (Mat 256 W).Slices ![0, 128 * k] (Mat 256 128) :=
  ⟨rfl, fun a => by
    match a with
    | ⟨0, _⟩ => show 0 + 256 ≤ 256; omega
    | ⟨1, _⟩ => show 128 * k + 128 ≤ W; omega⟩

/-- Block `k` of 128 columns. -/
def block {W : ℕ} (x : FVec F (Mat 256 W) .f32) (k : ℕ) (h : 128 * (k + 1) ≤ W) : FVec F (Mat 256 128) .f32 :=
  extractStridedSlice (Mat 256 128) ![0, 128 * k] x (slices_block h)

/-- A block's running sums within the block, by a triangle of ones, and the carry added. -/
def sums (tri : FVec F (Mat 128 128) .bf16) (carry : FVec F (Mat 256 1) .f32) (b : FVec F (Mat 256 128) .f32) : FVec F (Mat 256 128) .f32 :=
  shapeCast (Mat 256 128) (addf (matmul (DotDims.plain 256 128 128) none (truncf .bf16 b Facts₀.bitsLt_bf16_f32) tri (constant (Mat 256 128) .f32 0x00000000#32))
    (broadcastTo (Mat 256 128) carry Facts₀.broadcasts_S256x1_S256x128)) Facts₀.shapeCasts_S256x128_S256x128

/-- The carry after a block. -/
def next (carry : FVec F (Mat 256 1) .f32) (b : FVec F (Mat 256 128) .f32) : FVec F (Mat 256 1) .f32 :=
  addf carry (shapeCast (Mat 256 1) (multiReduction .add [1] S256 b 0x00000000#32 Facts₀.reduces_S256x128_S256 (.inl rfl) rfl) Facts₀.shapeCasts_S256_S256x1)

/-- The columns a block is stored at. -/
theorem inb_block {W st k : ℕ} (h : 128 * (k + 1) ≤ W) (hst : st + W ≤ 2048) :
    ∀ a, (![0, st + 128 * k] : Fin 2 → ℕ) a + S256x128.size a ≤ S256x2048.size a := fun a => by
  match a with
  | ⟨0, _⟩ => show 0 + 256 ≤ 256; omega
  | ⟨1, _⟩ => show st + 128 * k + 128 ≤ 2048; omega

/-- The stores into the scratch. -/
abbrev Stores (F : FTy → Type) := List (View.Piece (Elt F) S256x2048 .f32)

/-- One block's store. -/
def store {W : ℕ} (st k : ℕ) (h : 128 * (k + 1) ≤ W) (hst : st + W ≤ 2048) (x : FVec F (Mat 256 128) .f32) : View.Piece (Elt F) S256x2048 .f32 :=
  ⟨Rect.unit (s := S256x2048) ![0, st + 128 * k] S256x128.size (inb_block h hst), x⟩

/-- The carry after the blocks from `n − 1` down to zero. -/
def downCarry {W : ℕ} (x : FVec F (Mat 256 W) .f32) : (n : ℕ) → 128 * n ≤ W → FVec F (Mat 256 1) .f32 → FVec F (Mat 256 1) .f32
  | 0, _, c => c
  | n + 1, h, c => downCarry x n (by omega) (next c (block x n h))

/-- The stores of the sums from the right: blocks from `n − 1` down to zero. -/
def down {W : ℕ} (tri : FVec F (Mat 128 128) .bf16) (x : FVec F (Mat 256 W) .f32) (st : ℕ) (hst : st + W ≤ 2048) :
    (n : ℕ) → 128 * n ≤ W → FVec F (Mat 256 1) .f32 → Stores F → Stores F
  | 0, _, _, L => L
  | n + 1, h, c, L => down tri x st hst n (by omega) (next c (block x n h)) (store st n h hst (sums tri c (block x n h)) :: L)

/-- The carry after the blocks from zero up to `n − 1`. -/
def upCarry {W : ℕ} (x : FVec F (Mat 256 W) .f32) (c : FVec F (Mat 256 1) .f32) : (n : ℕ) → 128 * n ≤ W → FVec F (Mat 256 1) .f32
  | 0, _ => c
  | n + 1, h => next (upCarry x c n (by omega)) (block x n h)

/-- The stores of the sums from the left: blocks from zero up to `n − 1`. -/
def up {W : ℕ} (tri : FVec F (Mat 128 128) .bf16) (x : FVec F (Mat 256 W) .f32) (st : ℕ) (hst : st + W ≤ 2048) (c : FVec F (Mat 256 1) .f32) (L : Stores F) :
    (n : ℕ) → 128 * n ≤ W → Stores F
  | 0, _ => L
  | n + 1, h => store st n h hst (sums tri (upCarry x c n (by omega)) (block x n h)) :: up tri x st hst c L n (by omega)

/-- Columns `st … st + W` of the scratch. -/
theorem inb_cols {W st : ℕ} (hst : st + W ≤ 2048) : ∀ a, (![0, st] : Fin 2 → ℕ) a + (Mat 256 W).size a ≤ S256x2048.size a := fun a => by
  match a with
  | ⟨0, _⟩ => show 0 + 256 ≤ 256; omega
  | ⟨1, _⟩ => exact hst

/-- What a load of columns `st … st + W` reads after some stores. -/
def cols {κ : Kind} {b : Space} (v : View Sg κ b S256x2048 .f32) (L : Stores F) (st W : ℕ) (hst : st + W ≤ 2048) : FVec F (Mat 256 W) .f32 :=
  View.readCov v L (Rect.unit (s := S256x2048) ![0, st] (Mat 256 W).size (inb_cols hst)).toLoadRect

/-- Ones below the diagonal: row after column. -/
def triAfter : FVec F (Mat 128 128) .bf16 :=
  truncf .bf16 (sitofp .f32 (extui 32 (cmpi .sgt (iota .tc (Mat 128 128) 32 [0] Facts₀.iota_S128x128_d0_w32)
    (iota .tc (Mat 128 128) 32 [1] Facts₀.iota_S128x128_d1_w32)) Facts₀.natLt_1_32)) Facts₀.bitsLt_bf16_f32
/-- Ones above the diagonal: row before column. -/
def triBefore : FVec F (Mat 128 128) .bf16 :=
  truncf .bf16 (sitofp .f32 (extui 32 (cmpi .slt (iota .tc (Mat 128 128) 32 [0] Facts₀.iota_S128x128_d0_w32)
    (iota .tc (Mat 128 128) 32 [1] Facts₀.iota_S128x128_d1_w32)) Facts₀.natLt_1_32)) Facts₀.bitsLt_bf16_f32
/-- The diagonal's mask: row after column. -/
def diag : IVec (Mat 256 256) 1 :=
  cmpi .sgt (subi (iota .tc (Mat 256 256) 32 [0] Facts₀.iota_S256x256_d0_w32) (iota .tc (Mat 256 256) 32 [1] Facts₀.iota_S256x256_d1_w32))
    (broadcast (Mat 256 256) 0#32)
/-- The lanes of the first head of a pair. -/
def laneA : IVec (Mat 1 128) 1 := cmpi .slt (iota .tc (Mat 1 128) 32 [1] Facts₀.iota_S1x128_d1_w32) (broadcast (Mat 1 128) 64#32)
/-- The lanes of the second. -/
def laneB : IVec (Mat 1 128) 1 := xori laneA (constantI (Mat 1 128) 1 1#1)
/-- A choice by lanes. -/
def byLane {φ : FTy} (lane : IVec (Mat 1 128) 1) {M : ℕ} (h : S1x128.Broadcasts (Mat M 128)) (x y : FVec F (Mat M 128) φ) : FVec F (Mat M 128) φ :=
  select (broadcastTo (Mat M 128) (shapeCast (Mat 1 128) lane Facts₀.shapeCasts_S1x128_S1x128) h) x y
/-- One head's lanes of 256 rows, zero elsewhere. -/
def only (lane : IVec (Mat 1 128) 1) (x : FVec F (Mat 256 128) .bf16) : FVec F (Mat 256 128) .bf16 :=
  byLane lane Facts₀.broadcasts_S1x128_S256x128 x (broadcast (Mat 256 128) (Scalar.ofBits .bf16 0x0000#16))
/-- No carry. -/
def zeroCarry : FVec F (Mat 256 1) .f32 := broadcast (Mat 256 1) (Scalar.ofBits .f32 0x00000000#32)

/-- The gradient with respect to the weights' logarithms: the incoming gradient against the values, times the weight. -/
def logGrad {W : ℕ} (d : FVec F (Mat 256 128) .bf16) (v : FVec F (Mat W 128) .bf16) (att : FVec F (Mat 256 W) .f32) : FVec F (Mat 256 W) .f32 :=
  mulf (scores d v) att

/-- The gradient with respect to the scores: `g − exp logBeta · (g + earlier)`. -/
def scoreGrad {W : ℕ} (g lb e : FVec F (Mat 256 W) .f32) : FVec F (Mat 256 W) .f32 := subf g (mulf (exp lb) (addf g e))

/-- The product of a 256 × W matrix's transpose by 256 rows. -/
def dotTN {W : ℕ} (a : FVec F (Mat 256 W) .bf16) (b : FVec F (Mat 256 128) .bf16) : FVec F (Mat W 128) .f32 :=
  matmul (dimsTN W 256 128) none a b (constant (Mat W 128) .f32 0x00000000#32)
/-- The product of a 256 × W matrix by W rows. -/
def dotNN {W : ℕ} (a : FVec F (Mat 256 W) .bf16) (b : FVec F (Mat W 128) .bf16) : FVec F (Mat 256 128) .f32 :=
  matmul (DotDims.plain 256 W 128) none a b (constant (Mat 256 128) .f32 0x00000000#32)
/-- The format of the matrix unit's operands. -/
def half {s : Shape} (x : FVec F s .f32) : FVec F s .bf16 := truncf .bf16 x Facts₀.bitsLt_bf16_f32
/-- A factor of one eighth. -/
def eighth (x : FVec F (Mat 256 128) .f32) : FVec F (Mat 256 128) .f32 := mulf x (broadcast (Mat 256 128) (Scalar.ofBits .f32 0x3E000000#32))
/-- Nothing added yet. -/
def zeroRows : FVec F (Mat 256 128) .f32 := broadcast (Mat 256 128) (Scalar.ofBits .f32 0x00000000#32)

/-! ## One head of a tile -/

/-- What a head of a tile reads of its own positions: the queries (scaled), the incoming gradients, the keys and the values. -/
structure Arg (F : FTy → Type) where
  q : FVec F (Mat 256 128) .bf16
  d : FVec F (Mat 256 128) .bf16
  k : FVec F (Mat 256 128) .bf16
  v : FVec F (Mat 256 128) .bf16

theorem inb_bulk {W : ℕ} (h : W + 256 ≤ 2048) : 0 + W ≤ 2048 := by omega
theorem le_two : 128 * 2 ≤ 256 := by omega
theorem first_le : 0 + 256 ≤ 2048 := by omega

section Head
variable {κ : Kind} {b : Space} (v : View Sg κ b S256x2048 .f32) {W : ℕ} (n : ℕ) (hn : 128 * n ≤ W) (hW : W + 256 ≤ 2048)
variable (T : Arg F) (kb vb : FVec F (Mat W 128) .bf16) (lane : IVec (Mat 1 128) 1) (L D U : Stores F)

/-- The scores on the diagonal and in the bulk. -/
def zd : FVec F (Mat 256 256) .f32 := scores (only lane T.q) T.k
def zb : FVec F (Mat 256 W) .f32 := scores (only lane T.q) kb
/-- The softplus of the diagonal's scores, masked. -/
def spd : FVec F (Mat 256 256) .f32 := masked diag (softplus (zd T lane))
/-- The stores of the sums from the right, with no bulk: the diagonal's two blocks. -/
def downOwn : Stores F := down triAfter (spd T lane) W hW 2 le_two zeroCarry L
/-- With a bulk: the diagonal's blocks, then the bulk's. -/
def downAll : Stores F :=
  down triAfter (softplus (zb T kb lane)) 0 (inb_bulk hW) n hn (downCarry (spd T lane) 2 le_two zeroCarry) (downOwn hW T lane L)
/-- The logarithm of the share a key takes of what reaches it. -/
def lbd : FVec F (Mat 256 256) .f32 := subf (zd T lane) (softplus (zd T lane))
def lbb : FVec F (Mat 256 W) .f32 := subf (zb T kb lane) (softplus (zb T kb lane))
/-- The weights, read after the stores `D` of the sums from the right. -/
def attd : FVec F (Mat 256 256) .f32 := masked diag (exp (subf (lbd T lane) (cols v D W 256 hW)))
def attb : FVec F (Mat 256 W) .f32 := exp (subf (lbb T kb lane) (cols v D 0 W (inb_bulk hW)))
/-- The gradients of the weights' logarithms. -/
def gd : FVec F (Mat 256 256) .f32 := logGrad (only lane T.d) T.v (attd v hW T lane D)
def gb : FVec F (Mat 256 W) .f32 := logGrad (only lane T.d) vb (attb v hW T kb lane D)
/-- The stores of the sums from the left, with no bulk: the diagonal's two blocks. -/
def upOwn : Stores F := up triBefore (gd v hW T lane D) W hW zeroCarry D 2 le_two
/-- With a bulk: the bulk's blocks, then the diagonal's. -/
def upAll : Stores F :=
  up triBefore (gd v hW T lane D) W hW (upCarry (gb v hW T kb vb lane D) zeroCarry n hn)
    (up triBefore (gb v hW T kb vb lane D) 0 (inb_bulk hW) zeroCarry D n hn) 2 le_two
/-- The gradients of the scores, read after the stores `U` of the sums from the left. -/
def dzd : FVec F (Mat 256 256) .bf16 := half (masked diag (scoreGrad (gd v hW T lane D) (lbd T lane) (cols v U W 256 hW)))
def dzb : FVec F (Mat 256 W) .bf16 := half (scoreGrad (gb v hW T kb vb lane D) (lbb T kb lane) (cols v U 0 W (inb_bulk hW)))
/-- The weighted values, without and with a bulk. -/
def attendOwn : FVec F (Mat 256 128) .f32 := addf zeroRows (dotNN (half (attd v hW T lane D)) T.v)
def attendAll : FVec F (Mat 256 128) .f32 := addf (addf zeroRows (dotNN (half (attb v hW T kb lane D)) vb)) (dotNN (half (attd v hW T lane D)) T.v)
/-- The values' and the keys' gradients. -/
def dvd : FVec F (Mat 256 128) .f32 := dotTN (half (attd v hW T lane D)) T.d
def dvb : FVec F (Mat W 128) .f32 := dotTN (half (attb v hW T kb lane D)) T.d
def dkd : FVec F (Mat 256 128) .f32 := dotTN (dzd v hW T lane D U) T.q
def dkb : FVec F (Mat W 128) .f32 := dotTN (dzb v hW T kb vb lane D U) T.q
/-- The queries' gradient, without and with a bulk. -/
def dqOwn : FVec F (Mat 256 128) .f32 := eighth (addf zeroRows (dotNN (dzd v hW T lane D U) T.k))
def dqAll : FVec F (Mat 256 128) .f32 := eighth (addf (addf zeroRows (dotNN (dzb v hW T kb vb lane D U) kb)) (dotNN (dzd v hW T lane D U) T.k))
end Head

/-! ## Both heads of a pair, the first head's stores before the second's -/

section Pair
variable {κ : Kind} {b : Space} (v : View Sg κ b S256x2048 .f32) {W : ℕ} (n : ℕ) (hn : 128 * n ≤ W) (hW : W + 256 ≤ 2048)
variable (T : Arg F) (kb vb : FVec F (Mat W 128) .bf16)

def dA : Stores F := downAll n hn hW T kb laneA []
def uA : Stores F := upAll v n hn hW T kb vb laneA (dA n hn hW T kb)
def dB : Stores F := downAll n hn hW T kb laneB (uA v n hn hW T kb vb)
def uB : Stores F := upAll v n hn hW T kb vb laneB (dB v n hn hW T kb vb)
/-- The tile of the queries' gradient. -/
def outQ : FVec F (Mat 256 128) .bf16 :=
  half (byLane laneA Facts₀.broadcasts_S1x128_S256x128
    (dqAll v hW T kb vb laneA (dA n hn hW T kb) (uA v n hn hW T kb vb)) (dqAll v hW T kb vb laneB (dB v n hn hW T kb vb) (uB v n hn hW T kb vb)))
/-- What the tile adds to the keys' and the values' gradients, on the diagonal and in the bulk. -/
def addKd : FVec F (Mat 256 128) .f32 :=
  byLane laneA Facts₀.broadcasts_S1x128_S256x128
    (dkd v hW T laneA (dA n hn hW T kb) (uA v n hn hW T kb vb)) (dkd v hW T laneB (dB v n hn hW T kb vb) (uB v n hn hW T kb vb))
def addVd : FVec F (Mat 256 128) .f32 :=
  byLane laneA Facts₀.broadcasts_S1x128_S256x128 (dvd v hW T laneA (dA n hn hW T kb)) (dvd v hW T laneB (dB v n hn hW T kb vb))
def addKb (h : S1x128.Broadcasts (Mat W 128)) : FVec F (Mat W 128) .f32 :=
  byLane laneA h (dkb v hW T kb vb laneA (dA n hn hW T kb) (uA v n hn hW T kb vb)) (dkb v hW T kb vb laneB (dB v n hn hW T kb vb) (uB v n hn hW T kb vb))
def addVb (h : S1x128.Broadcasts (Mat W 128)) : FVec F (Mat W 128) .f32 :=
  byLane laneA h (dvb v hW T kb laneA (dA n hn hW T kb)) (dvb v hW T kb laneB (dB v n hn hW T kb vb))

/-! The same for the first tile, which has no keys before it. -/

def dA₀ : Stores F := downOwn (W := 0) first_le T laneA []
def uA₀ : Stores F := upOwn v (W := 0) first_le T laneA (dA₀ T)
def dB₀ : Stores F := downOwn (W := 0) first_le T laneB (uA₀ v T)
def uB₀ : Stores F := upOwn v (W := 0) first_le T laneB (dB₀ v T)
def outQ₀ : FVec F (Mat 256 128) .bf16 :=
  half (byLane laneA Facts₀.broadcasts_S1x128_S256x128
    (dqOwn v (W := 0) first_le T laneA (dA₀ T) (uA₀ v T)) (dqOwn v (W := 0) first_le T laneB (dB₀ v T) (uB₀ v T)))
def addK₀ : FVec F (Mat 256 128) .f32 :=
  byLane laneA Facts₀.broadcasts_S1x128_S256x128
    (dkd v (W := 0) first_le T laneA (dA₀ T) (uA₀ v T)) (dkd v (W := 0) first_le T laneB (dB₀ v T) (uB₀ v T))
def addV₀ : FVec F (Mat 256 128) .f32 :=
  byLane laneA Facts₀.broadcasts_S1x128_S256x128 (dvd v (W := 0) first_le T laneA (dA₀ T)) (dvd v (W := 0) first_le T laneB (dB₀ v T))

/-! The weighted values alone: the second head's sums from the right follow the first's. -/

def dB' : Stores F := downAll n hn hW T kb laneB (dA n hn hW T kb)
/-- The tile of the attention's result. -/
def outO : FVec F (Mat 256 128) .bf16 :=
  half (byLane laneA Facts₀.broadcasts_S1x128_S256x128 (attendAll v hW T kb vb laneA (dA n hn hW T kb)) (attendAll v hW T kb vb laneB (dB' n hn hW T kb)))
def dB₀' : Stores F := downOwn (W := 0) first_le T laneB (dA₀ T)
def outO₀ : FVec F (Mat 256 128) .bf16 :=
  half (byLane laneA Facts₀.broadcasts_S1x128_S256x128 (attendOwn v (W := 0) first_le T laneA (dA₀ T)) (attendOwn v (W := 0) first_le T laneB (dB₀' T)))
end Pair

/-! ## The accumulators -/

/-- Rows `st … st + M` of an array of 2048 rows. -/
theorem inb_rows {M st : ℕ} (h : st + M ≤ 2048) : ∀ a, (![st, 0] : Fin 2 → ℕ) a + (Mat M 128).size a ≤ S2048x128.size a := fun a => by
  match a with
  | ⟨0, _⟩ => exact h
  | ⟨1, _⟩ => show 0 + 128 ≤ 128; omega

/-- Those rows as a rectangle. -/
def rows (st M : ℕ) (h : st + M ≤ 2048) : Rect S2048x128 := Rect.unit (s := S2048x128) ![st, 0] (Mat M 128).size (inb_rows h)

/-- The whole of a 256 × 128 block. -/
def tileRect : Rect S256x128 := Rect.unit (s := S256x128) ![0, 0] S256x128.size Facts₀.inb_S256x128_S256x128_0_0

/-- An accumulator's stores at a tile with a bulk: the bulk's rows, then the diagonal's, each read and added to. -/
def accStores {κ : Kind} {b : Space} (v : View Sg κ b S2048x128 .f32) (f : v.ty.Contents (Elt F)) {W : ℕ} (hW : W + 256 ≤ 2048)
    (xb : FVec F (Mat W 128) .f32) (xd : FVec F (Mat 256 128) .f32) (hb : (Mat W 128).ShapeCasts (Mat W 128)) : List (View.Piece (Elt F) S2048x128 .f32) :=
  [⟨rows W 256 hW, shapeCast (Mat 256 128) (addf (v.readAt (Elt F) (rows W 256 hW).toLoadRect f) xd) Facts₀.shapeCasts_S256x128_S256x128⟩,
   ⟨rows 0 W (inb_bulk hW), shapeCast (Mat W 128) (addf (v.readAt (Elt F) (rows 0 W (inb_bulk hW)).toLoadRect f) xb) hb⟩]

end Cert.StickBreaking.Tile

end
-- ==== Proof.Point.lean ====
/-
  What a point of the grid leaves, as a statement: the block it stores into the first output and the two accumulators, by
  the text of Tile over what the point reads. Two forms: a point with keys before its tile, and the first of a row.
-/
module

public import proofs.«01_k».proof.Proof.Gen.KernelIdeal.Value
public import proofs.«01_k».proof.Proof.Tile

@[expose] public section

set_option maxRecDepth 16384

noncomputable section

namespace Cert.StickBreaking.Tile

open Idealize.ShloMosaic Idealize.ShloMosaic.TcCoe
open Cert.KernelIdeal Cert.KernelIdeal.Gen

variable {F : FTy → Type} [FloatOps F]

/-- The whole of a 2048 × 128 array. -/
def wholeRect : Rect S2048x128 := Rect.unit (s := S2048x128) ![0, 0] S2048x128.size Facts₀.inb_S2048x128_S2048x128_0_0

section
variable (m : (ℓ : Loc nD τ sig) → Buf (Elt F) ℓ) (c : Dev nD) (t : Fin cfg0.N)

/-- What the point reads of its own positions. -/
def ownArg {W : ℕ} (hW : W + 256 ≤ 2048) : Arg F where
  q := half (eighth (View.readAt (Elt F) (ms0_0 t).view tileRect.toLoadRect ((hs0_0 t).unread (iblk m c 0 t))))
  d := half (View.readAt (Elt F) (ms0_3 t).view tileRect.toLoadRect ((hs0_3 t).unread (iblk m c 3 t)))
  k := half (View.readAt (Elt F) (ms0_1 t).view (rows W 256 hW).toLoadRect ((hs0_1 t).unread (iblk m c 1 t)))
  v := half (View.readAt (Elt F) (ms0_2 t).view (rows W 256 hW).toLoadRect ((hs0_2 t).unread (iblk m c 2 t)))
/-- The keys before it. -/
def bulkK {W : ℕ} (hW : W + 256 ≤ 2048) : FVec F (Mat W 128) .bf16 :=
  half (View.readAt (Elt F) (ms0_1 t).view (rows 0 W (inb_bulk hW)).toLoadRect ((hs0_1 t).unread (iblk m c 1 t)))
/-- The values before it. -/
def bulkV {W : ℕ} (hW : W + 256 ≤ 2048) : FVec F (Mat W 128) .bf16 :=
  half (View.readAt (Elt F) (ms0_2 t).view (rows 0 W (inb_bulk hW)).toLoadRect ((hs0_2 t).unread (iblk m c 2 t)))

/-- The point before. -/
def before := outsAt0 m c (t.val - 1) (Nat.lt_of_le_of_lt (Nat.sub_le _ _) t.isLt)

/-- The keys' accumulator's stores at a point with a bulk. -/
def storesK {W : ℕ} (n : ℕ) (hn : 128 * n ≤ W) (hW : W + 256 ≤ 2048) (hc : (Mat W 128).ShapeCasts (Mat W 128)) (hb : S1x128.Broadcasts (Mat W 128)) :=
  accStores scM0_1.view ((Memref.isWhole_whole _).unread (before m c t).2.2.2.1) hW
    (addKb scM0_0.view n hn hW (ownArg m c t hW) (bulkK m c t hW) (bulkV m c t hW) hb)
    (addKd scM0_0.view n hn hW (ownArg m c t hW) (bulkK m c t hW) (bulkV m c t hW)) hc
/-- The values' accumulator's. -/
def storesV {W : ℕ} (n : ℕ) (hn : 128 * n ≤ W) (hW : W + 256 ≤ 2048) (hc : (Mat W 128).ShapeCasts (Mat W 128)) (hb : S1x128.Broadcasts (Mat W 128)) :=
  accStores scM0_2.view ((Memref.isWhole_whole _).unread (before m c t).2.2.2.2) hW
    (addVb scM0_0.view n hn hW (ownArg m c t hW) (bulkK m c t hW) (bulkV m c t hW) hb)
    (addVd scM0_0.view n hn hW (ownArg m c t hW) (bulkK m c t hW) (bulkV m c t hW)) hc

/-- A point with `W` keys before its tile. -/
def IsTile {W : ℕ} (n : ℕ) (hn : 128 * n ≤ W) (hW : W + 256 ≤ 2048) (hc : (Mat W 128).ShapeCasts (Mat W 128)) (hb : S1x128.Broadcasts (Mat W 128)) : Prop :=
  (outsAt0 m c t.val t.isLt).1 = VO0_4.read (Elt F) (VO0_4.writes (Elt F) VO0_4.junk
      [⟨tileRect, outQ scM0_0.view n hn hW (ownArg m c t hW) (bulkK m c t hW) (bulkV m c t hW)⟩])
  ∧ (outsAt0 m c t.val t.isLt).2.2.2.1 = scM0_1.view.read (Elt F) (scM0_1.view.writes (Elt F)
      ((Memref.isWhole_whole _).unread (before m c t).2.2.2.1) (storesK m c t n hn hW hc hb))
  ∧ (outsAt0 m c t.val t.isLt).2.2.2.2 = scM0_2.view.read (Elt F) (scM0_2.view.writes (Elt F)
      ((Memref.isWhole_whole _).unread (before m c t).2.2.2.2) (storesV m c t n hn hW hc hb))
/-- The last point of a row also writes the accumulators back. -/
def IsLast {W : ℕ} (n : ℕ) (hn : 128 * n ≤ W) (hW : W + 256 ≤ 2048) (hc : (Mat W 128).ShapeCasts (Mat W 128)) (hb : S1x128.Broadcasts (Mat W 128)) : Prop :=
  (outsAt0 m c t.val t.isLt).1 = VO0_4.read (Elt F) (VO0_4.writes (Elt F) VO0_4.junk
      [⟨tileRect, outQ scM0_0.view n hn hW (ownArg m c t hW) (bulkK m c t hW) (bulkV m c t hW)⟩])
  ∧ (outsAt0 m c t.val t.isLt).2.1 = VO0_5.read (Elt F) (VO0_5.writes (Elt F) VO0_5.junk
      [⟨wholeRect, half (scM0_1.view.readCov (storesK m c t n hn hW hc hb) wholeRect.toLoadRect)⟩])
  ∧ (outsAt0 m c t.val t.isLt).2.2.1 = VO0_6.read (Elt F) (VO0_6.writes (Elt F) VO0_6.junk
      [⟨wholeRect, half (scM0_2.view.readCov (storesV m c t n hn hW hc hb) wholeRect.toLoadRect)⟩])

/-- Zero everywhere, stored before the first tile. -/
def zeroPiece : View.Piece (Elt F) S2048x128 .f32 :=
  ⟨wholeRect, shapeCast S2048x128 (broadcast S2048x128 (Scalar.ofBits (F := F) .f32 0x00000000#32)) Facts₀.shapeCasts_S2048x128_S2048x128⟩

/-- An accumulator's stores at the first point of a row: zero, then the diagonal's rows. -/
def firstStores {κ : Kind} {b : Space} (v : View sig κ b S2048x128 .f32) (x : FVec F (Mat 256 128) .f32) : List (View.Piece (Elt F) S2048x128 .f32) :=
  [⟨rows 0 256 first_le, shapeCast (Mat 256 128) (addf (v.readCov [zeroPiece] (rows 0 256 first_le).toLoadRect) x) Facts₀.shapeCasts_S256x128_S256x128⟩, zeroPiece]

/-- The first point of a row. -/
def IsFirst : Prop :=
  (outsAt0 m c t.val t.isLt).1 = VO0_4.read (Elt F) (VO0_4.writes (Elt F) VO0_4.junk [⟨tileRect, outQ₀ scM0_0.view (ownArg m c t first_le)⟩])
  ∧ (outsAt0 m c t.val t.isLt).2.2.2.1 = VS0_1.read (Elt F) (VS0_1.writes (Elt F) VS0_1.junk
      (firstStores scM0_1.view (addK₀ scM0_0.view (ownArg m c t first_le))))
  ∧ (outsAt0 m c t.val t.isLt).2.2.2.2 = VS0_2.read (Elt F) (VS0_2.writes (Elt F) VS0_2.junk
      (firstStores scM0_2.view (addV₀ scM0_0.view (ownArg m c t first_le))))
end

end Cert.StickBreaking.Tile

end
-- ==== Proof.Pieces.lean ====
/-
  The pieces of Tile read at one index, over the extended reals: products as sums, the masks as conditions, a load after
  some stores as the newest store that holds the place.
-/
module

public import proofs.«01_k».proof.Proof.Tile
public import proofs.«01_k».proof.Proof.Weights
public import Idealize.ShloMosaic.Lib.MatmulPlain
public import Idealize.ShloMosaic.Lib.WritesUnit
public import Idealize.ShloMosaic.Lib.Pipeline.Value

@[expose] public section

set_option maxRecDepth 16384

noncomputable section

namespace Cert.StickBreaking.Tile

open Idealize.ShloMosaic Idealize.ShloMosaic.ValueIdx Idealize.ShloMosaic.TcCoe
open Cert.KernelIdeal Cert.KernelIdeal.Gen
open scoped BigOperators

/-! ## Products -/

theorem zero_add_sum (φ : FTy) (b : BitVec φ.bits) (hb : Ideal.ofBits φ b = 0) (s : EReal) : Ideal.ofBits φ b + s = s := by rw [hb, zero_add]

theorem scores_apply {W : ℕ} (q : FVec Ideal (Mat 256 128) .bf16) (k : FVec Ideal (Mat W 128) .bf16) (r : Fin 256) (c : Fin W) :
    scores q k (ix2 r c) = ∑ l : Fin 128, q (ix2 r l) * k (ix2 c l) :=
  (Ideal.matmul_transposedRhs_apply none q k (constant (F := Ideal) (Mat 256 W) .f32 0x00000000#32) r c).trans
    (zero_add_sum .f32 0x00000000#32 Ideal.ofBits_zero_f32 _)

theorem dotNN_apply {W : ℕ} (a : FVec Ideal (Mat 256 W) .bf16) (b : FVec Ideal (Mat W 128) .bf16) (r : Fin 256) (l : Fin 128) :
    dotNN a b (ix2 r l) = ∑ c : Fin W, a (ix2 r c) * b (ix2 c l) :=
  (Ideal.matmul_plain_apply none a b (constant (F := Ideal) (Mat 256 128) .f32 0x00000000#32) r l).trans
    (zero_add_sum .f32 0x00000000#32 Ideal.ofBits_zero_f32 _)

theorem dimsTN_rank (M K N : ℕ) : (dimsTN M K N).contr.rank = 1 := rfl
theorem dimsTN_size (M K N : ℕ) : (dimsTN M K N).contr.size ⟨0, by rw [dimsTN_rank]; exact Nat.one_pos⟩ = K := rfl

theorem dotTN_apply {W : ℕ} (a : FVec Ideal (Mat 256 W) .bf16) (b : FVec Ideal (Mat 256 128) .bf16) (c : Fin W) (l : Fin 128) :
    dotTN a b (ix2 c l) = ∑ r : Fin 256, a (ix2 r c) * b (ix2 r l) := by
  refine Eq.trans ?_ (zero_add_sum .f32 0x00000000#32 Ideal.ofBits_zero_f32 _)
  refine (Ideal.matmul_apply (dimsTN W 256 128) none a b (constant (F := Ideal) (Mat W 128) .f32 0x00000000#32) (ix2 c l)).trans ?_
  rw [← Equiv.sum_comp (contrEquiv1 _ 256 (dimsTN_rank W 256 128) (dimsTN_size W 256 128)).symm]
  refine congrArg (Ideal.ofBits .f32 0x00000000#32 + ·) (Finset.sum_congr rfl fun k _ => ?_)
  have hk := contrEquiv1_symm_val _ 256 (dimsTN_rank W 256 128) (dimsTN_size W 256 128) k
  have el : (dimsTN W 256 128).lhsIdx (ix2 c l) ((contrEquiv1 _ 256 (dimsTN_rank W 256 128) (dimsTN_size W 256 128)).symm k) = ix2 k c := by
    funext x; apply Fin.ext
    match x with
    | ⟨0, _⟩ => exact hk
    | ⟨1, _⟩ => rfl
  have er : (dimsTN W 256 128).rhsIdx (ix2 c l) ((contrEquiv1 _ 256 (dimsTN_rank W 256 128) (dimsTN_size W 256 128)).symm k) = ix2 k l := by
    funext x; apply Fin.ext
    match x with
    | ⟨0, _⟩ => exact hk
    | ⟨1, _⟩ => rfl
  rw [el, er]

/-! ## Masks -/

theorem toInt_small {a : ℕ} (ha : a < 2048) : (BitVec.ofNat 32 a).toInt = a := by
  have e : (BitVec.ofNat 32 a).toNat = a := by rw [BitVec.toNat_ofNat]; exact Nat.mod_eq_of_lt (by omega)
  rw [BitVec.toInt_eq_toNat_of_lt (by omega), e]

/-- Comparing two small numbers as signed words. -/
theorem slt_small {a b : ℕ} (ha : a < 2048) (hb : b < 2048) :
    BitVec.ofBool ((BitVec.ofNat 32 a).slt (BitVec.ofNat 32 b)) = if a < b then 1 else 0 := by
  rw [BitVec.slt_eq_decide, toInt_small ha, toInt_small hb]
  by_cases h : a < b
  · rw [if_pos h, decide_eq_true (by exact_mod_cast h)]; rfl
  · rw [if_neg h, decide_eq_false (by exact_mod_cast h)]; rfl

theorem diag_apply (r c : Fin 256) : diag (ix2 r c) = if c < r then 1 else 0 := by
  have hr := r.isLt
  have hc := c.isLt
  show BitVec.ofBool ((0#32).slt (BitVec.ofNat 32 (0 * 256 + r.val) - BitVec.ofNat 32 (0 * 256 + c.val))) = _
  rw [Nat.zero_mul, Nat.zero_add, Nat.zero_add, BitVec.slt_eq_decide]
  have e : (BitVec.ofNat 32 r.val - BitVec.ofNat 32 c.val).toInt = (r.val : ℤ) - c.val := by
    rw [BitVec.toInt_sub, toInt_small (by omega), toInt_small (by omega)]
    exact Int.bmod_eq_of_le (by omega) (by omega)
  rw [e]
  by_cases h : c < r
  · rw [if_pos h, decide_eq_true (by have : c.val < r.val := h; show (0 : ℤ) < _; omega)]; rfl
  · rw [if_neg h, decide_eq_false (by have : ¬c.val < r.val := h; show ¬(0 : ℤ) < _; omega)]; rfl

/-- One or zero from a mask bit. -/
theorem tri_bit (p : Prop) [Decidable p] (b : BitVec 1) (hb : b = if p then 1 else 0) :
    FloatOps.truncf (F := Ideal) .bf16 Facts₀.bitsLt_bf16_f32 (FloatOps.sitofp (F := Ideal) .f32 (b.setWidth 32)) = ((if p then 1 else 0 : ℝ) : EReal) := by
  subst hb
  split
  · show (((BitVec.setWidth 32 (1 : BitVec 1)).toInt : ℝ) : EReal) = _
    rw [show (BitVec.setWidth 32 (1 : BitVec 1)).toInt = 1 by decide]; simp
  · show (((BitVec.setWidth 32 (0 : BitVec 1)).toInt : ℝ) : EReal) = _
    rw [show (BitVec.setWidth 32 (0 : BitVec 1)).toInt = 0 by decide]; simp

theorem triAfter_apply (i j : Fin 128) : triAfter (F := Ideal) (ix2 i j) = ((if j.val < i.val then 1 else 0 : ℝ) : EReal) := by
  refine tri_bit _ _ ?_
  show BitVec.ofBool ((BitVec.ofNat 32 (0 * 128 + j.val)).slt (BitVec.ofNat 32 (0 * 128 + i.val))) = _
  rw [Nat.zero_mul, Nat.zero_add, Nat.zero_add]
  exact slt_small (by omega) (by omega)

theorem triBefore_apply (i j : Fin 128) : triBefore (F := Ideal) (ix2 i j) = ((if i.val < j.val then 1 else 0 : ℝ) : EReal) := by
  refine tri_bit _ _ ?_
  show BitVec.ofBool ((BitVec.ofNat 32 (0 * 128 + i.val)).slt (BitVec.ofNat 32 (0 * 128 + j.val))) = _
  rw [Nat.zero_mul, Nat.zero_add, Nat.zero_add]
  exact slt_small (by omega) (by omega)

theorem laneA_apply (l : Fin 128) : laneA (ix2 (0 : Fin 1) l) = if l.val < 64 then 1 else 0 := by
  show BitVec.ofBool ((BitVec.ofNat 32 (0 * 128 + l.val)).slt (BitVec.ofNat 32 64)) = _
  rw [Nat.zero_mul, Nat.zero_add]
  exact slt_small (by omega) (by omega)

theorem laneB_apply (l : Fin 128) : laneB (ix2 (0 : Fin 1) l) = if 64 ≤ l.val then 1 else 0 := by
  show laneA (ix2 (0 : Fin 1) l) ^^^ 1#1 = _
  rw [laneA_apply]
  by_cases h : l.val < 64
  · rw [if_pos h, if_neg (by omega)]; rfl
  · rw [if_neg h, if_pos (by omega)]; rfl

theorem byLane_apply {φ : FTy} (lane : IVec (Mat 1 128) 1) {M : ℕ} (h : S1x128.Broadcasts (Mat M 128)) (x y : FVec Ideal (Mat M 128) φ) (r : Fin M) (l : Fin 128) :
    byLane lane h x y (ix2 r l) = Scalar.select (lane (ix2 (0 : Fin 1) l)) (x (ix2 r l)) (y (ix2 r l)) := by
  unfold byLane
  rw [select_apply, shapeCast_self]
  refine congrArg (fun b => Scalar.select b _ _) (broadcastTo_apply lane h (ix2 r l) (ix2 (0 : Fin 1) l) fun a => ?_)
  match a with
  | ⟨0, _⟩ => rfl
  | ⟨1, _⟩ => rfl

theorem masked_apply {W : ℕ} (ok : IVec (Mat 256 W) 1) (x : FVec Ideal (Mat 256 W) .f32) (i : (Mat 256 W).Idx) :
    masked ok x i = Scalar.select (ok i) (x i) 0 :=
  congrArg (Scalar.select (ok i) (x i)) Ideal.ofBits_zero_f32

/-- A choice by a mask between a number and zero. -/
theorem select_zero_if (p : Prop) [Decidable p] (u : EReal) : Scalar.select (if p then (1 : BitVec 1) else 0) u 0 = if p then u else 0 := by
  split
  · exact select_one _ _
  · exact select_zero _ _

theorem select_zero_real (p : Prop) [Decidable p] (u : ℝ) :
    Scalar.select (if p then (1 : BitVec 1) else 0) (u : EReal) 0 = ((if p then u else 0 : ℝ) : EReal) := by
  rw [select_zero_if, coe_ite]; rfl

/-! ## Elementwise -/

theorem softplus_apply {W : ℕ} (z : FVec Ideal (Mat 256 W) .f32) (i : (Mat 256 W).Idx) : softplus z i = softp (z i) := by
  show max (z i) (Ideal.ofBits .f32 0x00000000#32) + Ideal.log (Ideal.ofBits .f32 0x3F800000#32 + Ideal.exp (Ideal.ofBits .f32 0x00000000#32 - max (z i) (-(z i)))) = _
  rw [Ideal.ofBits_zero_f32, Ideal.ofBits_one_f32, zero_sub]; rfl

theorem eighth_apply (x : FVec Ideal (Mat 256 128) .f32) (i : (Mat 256 128).Idx) : eighth x i = x i * (((1 : ℝ) / 8 : ℝ) : EReal) := by
  show x i * Ideal.ofBits .f32 0x3E000000#32 = _
  rw [ofBits_eighth]

theorem zeroRows_apply (i : (Mat 256 128).Idx) : zeroRows (F := Ideal) i = 0 := Ideal.ofBits_zero_f32
theorem zeroCarry_apply (i : (Mat 256 1).Idx) : zeroCarry (F := Ideal) i = 0 := Ideal.ofBits_zero_f32

theorem block_apply {W : ℕ} (x : FVec Ideal (Mat 256 W) .f32) (k : ℕ) (h : 128 * (k + 1) ≤ W) (r : Fin 256) (j : Fin 128) :
    block x k h (ix2 r j) = x (ix2 r ⟨128 * k + j.val, by omega⟩) := by
  refine extractStridedSlice_apply _ x (slices_block h) (ix2 r j) (ix2 r ⟨128 * k + j.val, by omega⟩) fun a => ?_
  match a with
  | ⟨0, _⟩ => exact (Nat.zero_add _).symm
  | ⟨1, _⟩ => rfl

theorem sums_apply (tri : FVec Ideal (Mat 128 128) .bf16) (c : FVec Ideal (Mat 256 1) .f32) (b : FVec Ideal (Mat 256 128) .f32) (r : Fin 256) (j : Fin 128) :
    sums tri c b (ix2 r j) = (∑ i : Fin 128, b (ix2 r i) * tri (ix2 i j)) + c (ix2 r (0 : Fin 1)) := by
  unfold sums
  rw [shapeCast_self, addf_apply]
  refine congrArg₂ (· + ·) ((Ideal.matmul_plain_apply none (truncf .bf16 b Facts₀.bitsLt_bf16_f32) tri (constant (F := Ideal) (Mat 256 128) .f32 0x00000000#32) r j).trans
    (zero_add_sum .f32 0x00000000#32 Ideal.ofBits_zero_f32 _)) (broadcastTo_apply c _ (ix2 r j) (ix2 r (0 : Fin 1)) fun a => ?_)
  match a with
  | ⟨0, _⟩ => rfl
  | ⟨1, _⟩ => rfl

theorem next_apply (c : FVec Ideal (Mat 256 1) .f32) (b : FVec Ideal (Mat 256 128) .f32) (r : Fin 256) :
    next c b (ix2 r (0 : Fin 1)) = c (ix2 r (0 : Fin 1)) + ∑ j : Fin 128, b (ix2 r j) := by
  unfold next
  rw [addf_apply, shapeCast_apply _ Facts₀.shapeCasts_S256_S256x1 (ix2 r (0 : Fin 1)) (ix1 r) (by
    rw [Shape.rowMajor_val_two, Shape.rowMajor_val_one]; show r.val = r.val * 1 + 0; omega)]
  refine congrArg (c (ix2 r (0 : Fin 1)) + ·) ((Ideal.multiReduction_add_single b _ _ _ _ (ix1 r)).trans (Finset.sum_congr rfl fun j _ => congrArg b ?_))
  funext a
  match a with
  | ⟨0, _⟩ => rfl
  | ⟨1, _⟩ => rfl

/-! ## Loads after stores -/

section
variable {Sg : RefSig} {κ : Kind} {b : Space} (v : View Sg κ b S256x2048 .f32) (f : v.ty.Contents (Elt Ideal))

/-- The scratch after some stores, read at one place. -/
def after (L : Stores Ideal) (r : Fin 256) (c : Fin 2048) : EReal := v.read (Elt Ideal) (v.writes (Elt Ideal) f L) (ix2 r c)

theorem after_hit {W st k : ℕ} (h : 128 * (k + 1) ≤ W) (hst : st + W ≤ 2048) (x : FVec Ideal (Mat 256 128) .f32) (L : Stores Ideal) (r : Fin 256) (c : Fin 2048)
    (j : Fin 128) (hj : c.val = st + 128 * k + j.val) : after v f (store st k h hst x :: L) r c = x (ix2 r j) := by
  refine View.read_writes_cons_unit_of_mem (Val := Elt Ideal) v f (off := ![0, st + 128 * k]) (off' := ![0, st + 128 * k]) (inb_block h hst) x L (ix2 r c) (ix2 r j) rfl
    (Fin.forall_fin_two.mpr ⟨(Nat.zero_add _).symm, hj⟩)

theorem after_miss {W st k : ℕ} (h : 128 * (k + 1) ≤ W) (hst : st + W ≤ 2048) (x : FVec Ideal (Mat 256 128) .f32) (L : Stores Ideal) (r : Fin 256) (c : Fin 2048)
    (hc : c.val < st + 128 * k ∨ st + 128 * k + 128 ≤ c.val) : after v f (store st k h hst x :: L) r c = after v f L r c :=
  View.read_writes_cons_unit_of_not_mem (Val := Elt Ideal) v f (off := ![0, st + 128 * k]) (off' := ![0, st + 128 * k]) (inb_block h hst) x L (ix2 r c) rfl (1 : Fin 2) hc

theorem cols_apply (L : Stores Ideal) (st W : ℕ) (hst : st + W ≤ 2048) (r : Fin 256) (c : Fin W) :
    cols v L st W hst (ix2 r c) = after v v.junk L r ⟨st + c.val, by omega⟩ := by
  refine congrArg (v.read (Elt Ideal) (v.writes (Elt Ideal) v.junk L)) ?_
  funext a
  match a with
  | ⟨0, _⟩ => exact Fin.ext (by show 0 + 1 * r.val = r.val; omega)
  | ⟨1, _⟩ => exact Fin.ext (by show st + 1 * c.val = st + c.val; omega)
end

section
variable {Sg : RefSig}

/-- A load of the whole of a block. -/
theorem load_tile {M : Memref Sg .tc .vmem S256x128 .f32} (h : M.IsWhole) (X : FVec Ideal S256x128 .f32) (r : Fin 256) (l : Fin 128) :
    View.readAt (Elt Ideal) M.view tileRect.toLoadRect (h.unread X) (ix2 r l) = X (ix2 r l) := by
  show M.view.read (Elt Ideal) (h.unread X) _ = _
  rw [Memref.IsWhole.read_unread]
  refine congrArg X (funext fun x => ?_)
  match x with
  | ⟨0, _⟩ => exact Fin.ext (by show 0 + 1 * r.val = r.val; omega)
  | ⟨1, _⟩ => exact Fin.ext (by show 0 + 1 * l.val = l.val; omega)

/-- One store of the whole of a block, read back. -/
theorem tile_stored (v : View Sg .tc .vmem S256x128 .bf16) (f : v.ty.Contents (Elt Ideal)) (x : FVec Ideal (Mat 256 128) .bf16) (r : Fin 256) (l : Fin 128) :
    v.read (Elt Ideal) (v.writes (Elt Ideal) f [⟨tileRect, x⟩]) (ix2 r l) = x (ix2 r l) :=
  View.read_writes_cons_unit_of_mem (Val := Elt Ideal) v f (off := ![0, 0]) (off' := ![0, 0]) Facts₀.inb_S256x128_S256x128_0_0 x [] (ix2 r l) (ix2 r l) rfl
    (Fin.forall_fin_two.mpr ⟨(Nat.zero_add _).symm, (Nat.zero_add _).symm⟩)

/-- A load of some rows of a block. -/
theorem load_rows {M : Memref Sg .tc .vmem S2048x128 .f32} (h : M.IsWhole) (X : FVec Ideal S2048x128 .f32) {st K : ℕ} (hst : st + K ≤ 2048) (r : Fin K) (l : Fin 128) :
    View.readAt (Elt Ideal) M.view (rows st K hst).toLoadRect (h.unread X) (ix2 r l) = X (ix2 ⟨st + r.val, by omega⟩ l) := by
  show M.view.read (Elt Ideal) (h.unread X) _ = _
  rw [Memref.IsWhole.read_unread]
  refine congrArg X (funext fun x => ?_)
  match x with
  | ⟨0, _⟩ => exact Fin.ext (by show st + 1 * r.val = st + r.val; omega)
  | ⟨1, _⟩ => exact Fin.ext (by show 0 + 1 * l.val = l.val; omega)
end

end Cert.StickBreaking.Tile

end
-- ==== Proof.Sums.lean ====
/-
  The running sums of a tile: what the stores of blocks of 128 columns leave in the scratch, as sums over intervals of columns.
-/
module

public import proofs.«01_k».proof.Proof.Pieces

@[expose] public section

set_option maxRecDepth 16384

noncomputable section

namespace Cert.StickBreaking.Tile

open Idealize.ShloMosaic Idealize.ShloMosaic.ValueIdx
open Cert.KernelIdeal Cert.KernelIdeal.Gen
open scoped BigOperators

/-! ## Sums over intervals -/

section
variable {M : Type*} [AddCommMonoid M] (g : ℕ → M) (m n j : ℕ)

theorem sum_block : ∑ i : Fin n, g (m + i.val) = ∑ i ∈ Finset.Ico m (m + n), g i := by
  rw [Fin.sum_univ_eq_sum_range (fun i => g (m + i)) n, Finset.sum_Ico_eq_sum_range, Nat.add_sub_cancel_left]

theorem sum_block_after : ∑ i : Fin n, (if j < i.val then g (m + i.val) else 0) = ∑ i ∈ Finset.Ico (m + j + 1) (m + n), g i := by
  rw [Fin.sum_univ_eq_sum_range (fun i => if j < i then g (m + i) else 0) n, ← Finset.sum_filter,
    show (Finset.range n).filter (fun i => j < i) = Finset.Ico (j + 1) n by ext i; simp; omega, Finset.sum_Ico_add]
  congr 2 <;> omega

theorem sum_block_before (hj : j ≤ n) : ∑ i : Fin n, (if i.val < j then g (m + i.val) else 0) = ∑ i ∈ Finset.Ico m (m + j), g i := by
  rw [Fin.sum_univ_eq_sum_range (fun i => if i < j then g (m + i) else 0) n, ← Finset.sum_filter,
    show (Finset.range n).filter (fun i => i < j) = Finset.Ico 0 j by ext i; simp; omega, Finset.sum_Ico_add]
  congr 2 <;> omega
end

/-- A number times a one or a zero. -/
theorem mul_bit (x : EReal) (p : Prop) [Decidable p] : x * ((if p then 1 else 0 : ℝ) : EReal) = if p then x else 0 := by
  split
  · rw [EReal.coe_one, mul_one]
  · rw [EReal.coe_zero, mul_zero]

section
variable {W : ℕ} (x : FVec Ideal (Mat 256 W) .f32) (f : Fin 256 → ℕ → EReal) (hx : ∀ (r : Fin 256) (c : Fin W), x (ix2 r c) = f r c.val)
include hx

theorem block_at (k : ℕ) (h : 128 * (k + 1) ≤ W) (r : Fin 256) (j : Fin 128) : block x k h (ix2 r j) = f r (128 * k + j.val) := by
  rw [block_apply, hx]

theorem next_at (c : FVec Ideal (Mat 256 1) .f32) (C : Fin 256 → EReal) (hc : ∀ r, c (ix2 r (0 : Fin 1)) = C r)
    (k : ℕ) (h : 128 * (k + 1) ≤ W) (r : Fin 256) :
    next c (block x k h) (ix2 r (0 : Fin 1)) = C r + ∑ i ∈ Finset.Ico (128 * k) (128 * (k + 1)), f r i := by
  rw [next_apply, hc, Finset.sum_congr rfl fun j _ => block_at x f hx k h r j]
  exact congrArg (C r + ·) (sum_block (f r) (128 * k) 128)

theorem sums_after_at (c : FVec Ideal (Mat 256 1) .f32) (C : Fin 256 → EReal) (hc : ∀ r, c (ix2 r (0 : Fin 1)) = C r)
    (k : ℕ) (h : 128 * (k + 1) ≤ W) (r : Fin 256) (j : Fin 128) :
    sums triAfter c (block x k h) (ix2 r j) = C r + ∑ i ∈ Finset.Ico (128 * k + j.val + 1) (128 * (k + 1)), f r i := by
  rw [sums_apply, hc, Finset.sum_congr rfl fun i _ => show _ = if j.val < i.val then f r (128 * k + i.val) else 0 by
    rw [block_at x f hx, triAfter_apply, mul_bit], add_comm]
  exact congrArg (C r + ·) (sum_block_after (f r) (128 * k) 128 j.val)

theorem sums_before_at (c : FVec Ideal (Mat 256 1) .f32) (C : Fin 256 → EReal) (hc : ∀ r, c (ix2 r (0 : Fin 1)) = C r)
    (k : ℕ) (h : 128 * (k + 1) ≤ W) (r : Fin 256) (j : Fin 128) :
    sums triBefore c (block x k h) (ix2 r j) = C r + ∑ i ∈ Finset.Ico (128 * k) (128 * k + j.val), f r i := by
  rw [sums_apply, hc, Finset.sum_congr rfl fun i _ => show _ = if i.val < j.val then f r (128 * k + i.val) else 0 by
    rw [block_at x f hx, triBefore_apply, mul_bit], add_comm]
  exact congrArg (C r + ·) (sum_block_before (f r) (128 * k) 128 j.val j.isLt.le)

/-- The carry after the blocks from the right: the sum of every column. -/
theorem downCarry_at (n : ℕ) (h : 128 * n ≤ W) (c : FVec Ideal (Mat 256 1) .f32) (C : Fin 256 → EReal) (hc : ∀ r, c (ix2 r (0 : Fin 1)) = C r) (r : Fin 256) :
    downCarry x n h c (ix2 r (0 : Fin 1)) = (C r + ∑ i ∈ Finset.range (128 * n), f r i) := by
  induction n generalizing c C with
  | zero => rw [Nat.mul_zero, Finset.range_zero, Finset.sum_empty, add_zero]; exact hc r
  | succ n ih =>
    refine (ih _ _ _ (next_at x f hx c C hc n h)).trans ?_
    rw [add_assoc, add_comm (∑ i ∈ Finset.Ico _ _, _), Finset.range_eq_Ico, Finset.sum_Ico_consecutive _ (Nat.zero_le _) (by omega), Finset.range_eq_Ico]

theorem upCarry_at (n : ℕ) (h : 128 * n ≤ W) (c : FVec Ideal (Mat 256 1) .f32) (C : Fin 256 → EReal) (hc : ∀ r, c (ix2 r (0 : Fin 1)) = C r) (r : Fin 256) :
    upCarry x c n h (ix2 r (0 : Fin 1)) = (C r + ∑ i ∈ Finset.range (128 * n), f r i) := by
  induction n generalizing r with
  | zero => rw [Nat.mul_zero, Finset.range_zero, Finset.sum_empty, add_zero]; exact hc r
  | succ n ih =>
    refine (next_at x f hx _ _ (ih (by omega)) n h r).trans ?_
    rw [add_assoc, Finset.range_eq_Ico, Finset.sum_Ico_consecutive _ (Nat.zero_le _) (by omega), Finset.range_eq_Ico]

variable {Sg : RefSig} {κ : Kind} {b : Space} (v : View Sg κ b S256x2048 .f32) (f₀ : v.ty.Contents (Elt Ideal))

/-- The scratch after the stores from the right. -/
theorem after_down (st : ℕ) (hst : st + W ≤ 2048) (n : ℕ) (h : 128 * n ≤ W) (c : FVec Ideal (Mat 256 1) .f32) (C : Fin 256 → EReal)
    (hc : ∀ r, c (ix2 r (0 : Fin 1)) = C r) (L : Stores Ideal) (r : Fin 256) (y : Fin 2048) :
    after v f₀ (down triAfter x st hst n h c L) r y
      = if st ≤ y.val ∧ y.val < st + 128 * n then (C r + ∑ i ∈ Finset.Ico (y.val - st + 1) (128 * n), f r i) else after v f₀ L r y := by
  induction n generalizing c C L with
  | zero => rw [if_neg (by omega)]; rfl
  | succ n ih =>
    refine (ih _ _ _ (next_at x f hx c C hc n h) _).trans ?_
    by_cases h1 : st ≤ y.val ∧ y.val < st + 128 * n
    · rw [if_pos h1, if_pos (by omega), add_assoc, add_comm (∑ i ∈ Finset.Ico (128 * n) _, _), Finset.sum_Ico_consecutive _ (by omega) (by omega)]
    · rw [if_neg h1]
      by_cases h2 : st ≤ y.val ∧ y.val < st + 128 * (n + 1)
      · rw [if_pos h2, after_hit v f₀ h hst _ L r y ⟨y.val - st - 128 * n, by omega⟩ (by show y.val = st + 128 * n + (y.val - st - 128 * n); omega),
          sums_after_at x f hx c C hc n h]
        refine congrArg (fun a => (C r + ∑ i ∈ Finset.Ico a (128 * (n + 1)), f r i)) ?_
        show 128 * n + (y.val - st - 128 * n) + 1 = _
        omega
      · rw [if_neg h2, after_miss v f₀ h hst _ L r y (by omega)]

/-- The scratch after the stores from the left. -/
theorem after_up (st : ℕ) (hst : st + W ≤ 2048) (n : ℕ) (h : 128 * n ≤ W) (c : FVec Ideal (Mat 256 1) .f32) (C : Fin 256 → EReal)
    (hc : ∀ r, c (ix2 r (0 : Fin 1)) = C r) (L : Stores Ideal) (r : Fin 256) (y : Fin 2048) :
    after v f₀ (up triBefore x st hst c L n h) r y
      = if st ≤ y.val ∧ y.val < st + 128 * n then (C r + ∑ i ∈ Finset.range (y.val - st), f r i) else after v f₀ L r y := by
  induction n with
  | zero => rw [if_neg (by omega)]; rfl
  | succ n ih =>
    show after v f₀ (store st n h hst (sums triBefore (upCarry x c n (by omega)) (block x n h)) :: up triBefore x st hst c L n (by omega)) r y = _
    by_cases h2 : st + 128 * n ≤ y.val ∧ y.val < st + 128 * (n + 1)
    · rw [if_pos (by omega), after_hit v f₀ h hst _ _ r y ⟨y.val - st - 128 * n, by omega⟩ (by show y.val = st + 128 * n + (y.val - st - 128 * n); omega),
        sums_before_at x f hx _ _ (upCarry_at x f hx n (by omega) c C hc) n h]
      rw [add_assoc, Finset.range_eq_Ico, Finset.sum_Ico_consecutive _ (Nat.zero_le _) (by omega), Finset.range_eq_Ico]
      refine congrArg (fun a => C r + ∑ i ∈ Finset.Ico 0 a, f r i) ?_
      show 128 * n + (y.val - st - 128 * n) = _
      omega
    · rw [after_miss v f₀ h hst _ _ r y (by omega), ih]
      by_cases h1 : st ≤ y.val ∧ y.val < st + 128 * n
      · rw [if_pos h1, if_pos (by omega)]
      · rw [if_neg h1, if_neg (by omega)]

end

end Cert.StickBreaking.Tile

end
-- ==== Proof.HeadTile.lean ====
/-
  One head of a tile of 256 queries, `W` keys before it: what each quantity of Tile is, as that quantity of the head at the
  tile's positions. Scores, sums from the right and weights over the extended reals, whatever the queries and keys; the
  gradients over the real numbers, where what the tile reads is finite.
-/
module

public import proofs.«01_k».proof.Proof.Sums

@[expose] public section

set_option maxRecDepth 16384

noncomputable section

namespace Cert.StickBreaking.Tile

open Idealize.ShloMosaic Idealize.ShloMosaic.ValueIdx
open Cert.KernelIdeal Cert.KernelIdeal.Gen
open scoped BigOperators

/-! ## Lanes and positions -/

/-- The lane of feature `d` of the pair's head `a`. -/
def lane (a : Fin 2) (d : Fin 64) : Fin 128 := ⟨64 * a.val + d.val, by have := a.isLt; have := d.isLt; omega⟩

theorem exists_lane (l : Fin 128) : ∃ a d, l = lane a d :=
  ⟨⟨l.val / 64, by omega⟩, ⟨l.val % 64, Nat.mod_lt _ (by omega)⟩, Fin.ext (by show l.val = 64 * (l.val / 64) + l.val % 64; omega)⟩

theorem sum_lanes {M : Type*} [AddCommMonoid M] (f : Fin 128 → M) : ∑ l, f l = ∑ a, ∑ d, f (lane a d) := by
  rw [← Fintype.sum_prod_type']
  refine (Fintype.sum_equiv (finProdFinEquiv (m := 2) (n := 64)) _ _ fun p => ?_).symm
  exact congrArg f (Fin.ext (by show 64 * p.1.val + p.2.val = p.2.val + 64 * p.1.val; omega))

/-- Position `r` of the tile. -/
def pos {W : ℕ} (hW : W + 256 ≤ 2048) (r : Fin 256) : Fin 2048 := ⟨W + r.val, by have := r.isLt; omega⟩
/-- A position before the tile. -/
def old {W : ℕ} (hW : W + 256 ≤ 2048) (c : Fin W) : Fin 2048 := ⟨c.val, by have := c.isLt; omega⟩

section
variable {M : Type*} [AddCommMonoid M] (f : Fin 2048 → M)

/-- A function of positions, zero past the last one. -/
def ext (n : ℕ) : M := if h : n < 2048 then f ⟨n, h⟩ else 0

theorem ext_val (s : Fin 2048) : ext f s.val = f s := dif_pos s.isLt

theorem sum_ext : ∑ s, f s = ∑ n ∈ Finset.range 2048, ext f n := by
  rw [← Fin.sum_univ_eq_sum_range]
  exact Finset.sum_congr rfl fun s _ => (ext_val f s).symm

/-- A sum over all positions of a function that vanishes past the tile: the positions before the tile, then the tile's. -/
theorem sum_split {W : ℕ} (hW : W + 256 ≤ 2048) (h0 : ∀ s : Fin 2048, W + 256 ≤ s.val → f s = 0) :
    ∑ s, f s = ∑ c : Fin W, f (old hW c) + ∑ c : Fin 256, f (pos hW c) := by
  have e1 : ∑ c : Fin W, f (old hW c) = ∑ n ∈ Finset.Ico 0 W, ext f n := by
    rw [← Finset.range_eq_Ico, ← Fin.sum_univ_eq_sum_range]
    exact Finset.sum_congr rfl fun c _ => (ext_val f (old hW c)).symm
  have e2 : ∑ c : Fin 256, f (pos hW c) = ∑ n ∈ Finset.Ico W (W + 256), ext f n := by
    rw [← sum_block]
    exact Finset.sum_congr rfl fun c _ => (ext_val f (pos hW c)).symm
  rw [sum_ext, e1, e2, Finset.sum_Ico_consecutive _ (Nat.zero_le _) (by omega), Finset.range_eq_Ico,
    ← Finset.sum_Ico_consecutive _ (Nat.zero_le (W + 256)) hW, Finset.sum_eq_zero (s := Finset.Ico (W + 256) 2048), add_zero]
  intro n hn
  have hn := Finset.mem_Ico.mp hn
  unfold ext
  rw [dif_pos hn.2]
  exact h0 _ hn.1
end

/-- What a mask of lanes must be to choose head `a`. -/
def Chooses (m : IVec (Mat 1 128) 1) (a : Fin 2) : Prop := ∀ a' d, m (ix2 (0 : Fin 1) (lane a' d)) = if a' = a then 1 else 0

theorem chooses_A : Chooses laneA 0 := fun a' d => by
  have hd := d.isLt
  rw [laneA_apply]
  refine if_congr ?_ rfl rfl
  show 64 * a'.val + d.val < 64 ↔ a' = 0
  rw [Fin.ext_iff]; show _ ↔ a'.val = 0
  omega

theorem chooses_B : Chooses laneB 1 := fun a' d => by
  have hd := d.isLt
  have ha := a'.isLt
  rw [laneB_apply]
  refine if_congr ?_ rfl rfl
  show 64 ≤ 64 * a'.val + d.val ↔ a' = 1
  rw [Fin.ext_iff]; show _ ↔ a'.val = 1
  omega

/-- Rows with one head's lanes kept, against rows: the sum over that head's features. -/
theorem scores_lanes {W : ℕ} {m : IVec (Mat 1 128) 1} {a : Fin 2} (hm : Chooses m a) (q : FVec Ideal (Mat 256 128) .bf16) (k : FVec Ideal (Mat W 128) .bf16)
    (r : Fin 256) (c : Fin W) : scores (only m q) k (ix2 r c) = ∑ d, q (ix2 r (lane a d)) * k (ix2 c (lane a d)) := by
  have key : ∀ a' d, only m q (ix2 r (lane a' d)) * k (ix2 c (lane a' d)) = if a' = a then q (ix2 r (lane a' d)) * k (ix2 c (lane a' d)) else 0 := fun a' d => by
    unfold only
    rw [byLane_apply, hm a' d, show broadcast (Mat 256 128) (Scalar.ofBits (F := Ideal) .bf16 0x0000#16) (ix2 r (lane a' d)) = (0 : EReal) from Ideal.ofBits_zero_bf16,
      select_zero_if, ite_mul, zero_mul]
  rw [scores_apply, sum_lanes, Finset.sum_eq_single a]
  · exact Finset.sum_congr rfl fun d _ => (key a d).trans (if_pos rfl)
  · intro a' _ ha
    exact Finset.sum_eq_zero fun d _ => (key a' d).trans (if_neg ha)
  · exact fun h => absurd (Finset.mem_univ a) h

theorem scores_only {W : ℕ} {m : IVec (Mat 1 128) 1} {a : Fin 2} (hm : Chooses m a) (q : FVec Ideal (Mat 256 128) .bf16) (k : FVec Ideal (Mat W 128) .bf16)
    (r : Fin 256) (c : Fin W) (qr kr : Fin 2 → Fin 64 → ℝ) (hq : ∀ a d, q (ix2 r (lane a d)) = ((qr a d : ℝ) : EReal))
    (hk : ∀ a d, k (ix2 c (lane a d)) = ((kr a d : ℝ) : EReal)) : scores (only m q) k (ix2 r c) = ((∑ d, qr a d * kr a d : ℝ) : EReal) := by
  rw [scores_lanes hm, coe_sum]
  exact Finset.sum_congr rfl fun d _ => by rw [hq, hk, EReal.coe_mul]

/-- What a tile reads of the queries and keys of a pair of heads. -/
structure Scans {W : ℕ} (hW : W + 256 ≤ 2048) (A : Fin 2 → Keys) (T : Arg Ideal) (kb : FVec Ideal (Mat W 128) .bf16) : Prop where
  q : ∀ r a d, T.q (ix2 r (lane a d)) = (A a).Q (pos hW r) d * (((1 : ℝ) / 8 : ℝ) : EReal)
  k : ∀ c a d, T.k (ix2 c (lane a d)) = (A a).K (pos hW c) d
  kb : ∀ c a d, kb (ix2 c (lane a d)) = (A a).K (old hW c) d

/-- What a tile reads of a pair of heads. -/
structure Reads {W : ℕ} (hW : W + 256 ≤ 2048) (H : Fin 2 → Head) (T : Arg Ideal) (kb vb : FVec Ideal (Mat W 128) .bf16) : Prop where
  q : ∀ r a d, T.q (ix2 r (lane a d)) = (((H a).Q (pos hW r) d / 8 : ℝ) : EReal)
  d : ∀ r a d, T.d (ix2 r (lane a d)) = (((H a).D (pos hW r) d : ℝ) : EReal)
  k : ∀ c a d, T.k (ix2 c (lane a d)) = (((H a).K (pos hW c) d : ℝ) : EReal)
  v : ∀ c a d, T.v (ix2 c (lane a d)) = (((H a).V (pos hW c) d : ℝ) : EReal)
  kb : ∀ c a d, kb (ix2 c (lane a d)) = (((H a).K (old hW c) d : ℝ) : EReal)
  vb : ∀ c a d, vb (ix2 c (lane a d)) = (((H a).V (old hW c) d : ℝ) : EReal)

theorem Reads.scans {W : ℕ} {hW : W + 256 ≤ 2048} {H : Fin 2 → Head} {T : Arg Ideal} {kb vb : FVec Ideal (Mat W 128) .bf16} (R : Reads hW H T kb vb) :
    Scans hW (fun a => (H a).keys) T kb where
  q r a d := (R.q r a d).trans ((congrArg Real.toEReal (div_eq_mul_one_div _ _)).trans (EReal.coe_mul _ _))
  k := R.k
  kb := R.kb

theorem pos_lt {W : ℕ} (hW : W + 256 ≤ 2048) (c r : Fin 256) : pos hW c < pos hW r ↔ c < r := by
  rw [Fin.lt_def, Fin.lt_def]; show W + c.val < W + r.val ↔ _; omega
theorem old_lt {W : ℕ} (hW : W + 256 ≤ 2048) (c : Fin W) (r : Fin 256) : old hW c < pos hW r := by
  rw [Fin.lt_def]; show c.val < W + r.val; omega

/-! ## Scores -/

section
variable {Sg : RefSig} {κ : Kind} {b : Space} (v : View Sg κ b S256x2048 .f32) {W : ℕ} (n : ℕ) (hn : 128 * n ≤ W) (hnW : 128 * n = W) (hW : W + 256 ≤ 2048)
variable {A : Fin 2 → Keys} {T : Arg Ideal} {kb vb : FVec Ideal (Mat W 128) .bf16} (R : Scans hW A T kb)
variable {m : IVec (Mat 1 128) 1} {a : Fin 2} (hm : Chooses m a)

/-- What key `j` took from query `t`, as a logarithm; nothing if it is not before the query. -/
def took (A : Keys) (t j : Fin 2048) : EReal := if j < t then softp (A.z t j) else 0

theorem later_eq {W : ℕ} (hW : W + 256 ≤ 2048) (A : Keys) (r : Fin 256) (s : Fin 2048) :
    A.later (pos hW r) s = ∑ j ∈ Finset.Ico (s.val + 1) (W + 256), ext (took A (pos hW r)) j := by
  unfold Keys.later
  rw [sum_ext, show Finset.Ico (s.val + 1) (W + 256) = (Finset.range 2048).filter (fun j => s.val < j ∧ j < W + 256) by ext j; simp; omega, Finset.sum_filter]
  refine Finset.sum_congr rfl fun j hj => ?_
  have hj := Finset.mem_range.mp hj
  have hr := r.isLt
  unfold ext took
  rw [dif_pos hj, dif_pos hj]
  show (if s.val < j ∧ j < W + r.val then softp (A.z (pos hW r) ⟨j, hj⟩) else 0)
    = if s.val < j ∧ j < W + 256 then (if j < W + r.val then softp (A.z (pos hW r) ⟨j, hj⟩) else 0) else 0
  split_ifs <;> first | rfl | omega

theorem zeroCarry_at (r : Fin 256) : zeroCarry (F := Ideal) (ix2 r (0 : Fin 1)) = (fun _ => 0 : Fin 256 → EReal) r := zeroCarry_apply _

include R hm

theorem zd_at (r c : Fin 256) : zd T m (ix2 r c) = (A a).z (pos hW r) (pos hW c) := by
  refine (scores_lanes hm T.q T.k r c).trans (Eq.trans ?_ (sum_scaled _ _ _ (by norm_num)))
  exact Finset.sum_congr rfl fun d _ => by rw [R.q, R.k]

theorem zb_at (r : Fin 256) (c : Fin W) : zb T kb m (ix2 r c) = (A a).z (pos hW r) (old hW c) := by
  refine (scores_lanes hm T.q kb r c).trans (Eq.trans ?_ (sum_scaled _ _ _ (by norm_num)))
  exact Finset.sum_congr rfl fun d _ => by rw [R.q, R.kb]

theorem lbd_at (r c : Fin 256) : lbd T m (ix2 r c) = (A a).z (pos hW r) (pos hW c) - softp ((A a).z (pos hW r) (pos hW c)) := by
  unfold lbd
  rw [subf_apply, softplus_apply, zd_at hW R hm]

theorem lbb_at (r : Fin 256) (c : Fin W) : lbb T kb m (ix2 r c) = (A a).z (pos hW r) (old hW c) - softp ((A a).z (pos hW r) (old hW c)) := by
  unfold lbb
  rw [subf_apply, softplus_apply, zb_at hW R hm]

/-! ## The sums from the right -/

theorem spd_at (r c : Fin 256) : spd T m (ix2 r c) = ext (took (A a) (pos hW r)) (W + c.val) := by
  unfold spd
  rw [masked_apply, diag_apply, softplus_apply, zd_at hW R hm, select_zero_if]
  exact (if_congr (pos_lt hW c r).symm rfl rfl).trans (ext_val (took (A a) (pos hW r)) (pos hW c)).symm

theorem spb_at (r : Fin 256) (c : Fin W) : softplus (zb T kb m) (ix2 r c) = ext (took (A a) (pos hW r)) c.val := by
  rw [softplus_apply, zb_at hW R hm]
  exact (if_pos (old_lt hW c r)).symm.trans (ext_val (took (A a) (pos hW r)) (old hW c)).symm

include hnW in
/-- The scratch after the stores from the right holds what the keys between took. -/
theorem after_downAll (f₀ : v.ty.Contents (Elt Ideal)) (L : Stores Ideal) (r : Fin 256) (y : Fin 2048) (hy : y.val < W + 256) :
    after v f₀ (downAll n hn hW T kb m L) r y = (A a).later (pos hW r) y := by
  have hcar := downCarry_at (spd T m) (fun r c => ext (took (A a) (pos hW r)) (W + c)) (spd_at hW R hm) 2 le_two zeroCarry (fun _ => 0) zeroCarry_at
  unfold downAll downOwn
  rw [after_down (softplus (zb T kb m)) (fun r c => ext (took (A a) (pos hW r)) c) (spb_at hW R hm) v f₀ 0 (inb_bulk hW) n hn _ _ hcar,
    after_down (spd T m) (fun r c => ext (took (A a) (pos hW r)) (W + c)) (spd_at hW R hm) v f₀ W hW 2 le_two zeroCarry (fun _ => 0) zeroCarry_at, later_eq]
  have hs : ∀ k, ∑ i ∈ Finset.Ico k 256, ext (took (A a) (pos hW r)) (W + i) = ∑ i ∈ Finset.Ico (k + W) (W + 256), ext (took (A a) (pos hW r)) i := fun k => by
    rw [Finset.sum_Ico_add, Nat.add_comm 256 W]
  by_cases h : y.val < W
  · rw [if_pos (by omega), Nat.sub_zero, hnW, zero_add, Finset.range_eq_Ico, show 128 * 2 = 256 from rfl, hs, Nat.zero_add, add_comm,
      Finset.sum_Ico_consecutive _ (by omega) (by omega)]
  · rw [if_neg (by omega), if_pos (by omega), zero_add, show 128 * 2 = 256 from rfl, hs, show y.val - W + 1 + W = y.val + 1 by omega]

/-! ## Weights and weighted values -/

variable (D : Stores Ideal) (hD : ∀ r (y : Fin 2048), y.val < W + 256 → after v v.junk D r y = (A a).later (pos hW r) y)
include hD

theorem attd_at (r c : Fin 256) : attd v hW T m D (ix2 r c) = (A a).att (pos hW r) (pos hW c) := by
  unfold attd
  rw [masked_apply, diag_apply, show ∀ x : FVec Ideal (Mat 256 256) .f32, exp x (ix2 r c) = Ideal.exp (x (ix2 r c)) from fun _ => rfl, subf_apply,
    lbd_at hW R hm, cols_apply, hD r ⟨W + c.val, by omega⟩ (by show W + c.val < _; omega), select_zero_if]
  exact if_congr (pos_lt hW c r).symm rfl rfl

theorem attb_at (r : Fin 256) (c : Fin W) : attb v hW T kb m D (ix2 r c) = (A a).att (pos hW r) (old hW c) := by
  unfold attb
  rw [show ∀ x : FVec Ideal (Mat 256 W) .f32, exp x (ix2 r c) = Ideal.exp (x (ix2 r c)) from fun _ => rfl, subf_apply,
    lbb_at hW R hm, cols_apply, hD r ⟨0 + c.val, by omega⟩ (by show 0 + c.val < _; omega)]
  refine Eq.trans ?_ (if_pos (old_lt hW c r)).symm
  rw [show (⟨0 + c.val, by omega⟩ : Fin 2048) = old hW c from Fin.ext (Nat.zero_add _)]

omit R hm hD in
theorem out_split {W : ℕ} (hW : W + 256 ≤ 2048) (A : Keys) (V : Fin 2048 → Fin 64 → EReal) (r : Fin 256) (d : Fin 64) :
    A.out V (pos hW r) d = ∑ c : Fin W, A.att (pos hW r) (old hW c) * V (old hW c) d + ∑ c : Fin 256, A.att (pos hW r) (pos hW c) * V (pos hW c) d :=
  sum_split (fun s => A.att (pos hW r) s * V s d) hW fun s hs => by
    have hr := r.isLt
    rw [Keys.att, if_neg (by rw [Fin.lt_def]; show ¬s.val < W + r.val; omega), zero_mul]

variable (V : Fin 2 → Fin 2048 → Fin 64 → EReal) (hV : ∀ c a d, T.v (ix2 c (lane a d)) = V a (pos hW c) d)
include hV

theorem ownO (r : Fin 256) (d : Fin 64) :
    dotNN (half (attd v hW T m D)) T.v (ix2 r (lane a d)) = ∑ c : Fin 256, (A a).att (pos hW r) (pos hW c) * V a (pos hW c) d := by
  rw [dotNN_apply]
  exact Finset.sum_congr rfl fun c _ => congrArg₂ (· * ·) (attd_at v hW R hm D hD r c) (hV c a d)

theorem attendAll_at (hVb : ∀ c a d, vb (ix2 c (lane a d)) = V a (old hW c) d) (r : Fin 256) (d : Fin 64) :
    attendAll v hW T kb vb m D (ix2 r (lane a d)) = (A a).out (V a) (pos hW r) d := by
  unfold attendAll
  rw [addf_apply, addf_apply, zeroRows_apply, zero_add, ownO v hW R hm D hD V hV, out_split hW, dotNN_apply]
  exact congrArg (· + _) (Finset.sum_congr rfl fun c _ => congrArg₂ (· * ·) (attb_at v hW R hm D hD r c) (hVb c a d))

end

/-- The first tile has no keys before it. -/
theorem attendOwn_at {Sg : RefSig} {κ : Kind} {b : Space} (v : View Sg κ b S256x2048 .f32) {A : Fin 2 → Keys} {T : Arg Ideal} {kb : FVec Ideal (Mat 0 128) .bf16}
    (R : Scans first_le A T kb) {m : IVec (Mat 1 128) 1} {a : Fin 2} (hm : Chooses m a) (D : Stores Ideal)
    (hD : ∀ r (y : Fin 2048), y.val < 0 + 256 → after v v.junk D r y = (A a).later (pos first_le r) y)
    (V : Fin 2 → Fin 2048 → Fin 64 → EReal) (hV : ∀ c a d, T.v (ix2 c (lane a d)) = V a (pos first_le c) d) (r : Fin 256) (d : Fin 64) :
    attendOwn v (W := 0) first_le T m D (ix2 r (lane a d)) = (A a).out (V a) (pos first_le r) d := by
  unfold attendOwn
  rw [addf_apply, zeroRows_apply, zero_add, ownO v first_le R hm D hD V hV, out_split first_le, Fin.sum_univ_zero, zero_add]

/-! ## The gradients of the weights' logarithms -/

section
variable {Sg : RefSig} {κ : Kind} {b : Space} (v : View Sg κ b S256x2048 .f32) {W : ℕ} (n : ℕ) (hn : 128 * n ≤ W) (hnW : 128 * n = W) (hW : W + 256 ≤ 2048)
variable {H : Fin 2 → Head} {T : Arg Ideal} {kb vb : FVec Ideal (Mat W 128) .bf16} (R : Reads hW H T kb vb)
variable {m : IVec (Mat 1 128) 1} {a : Fin 2} (hm : Chooses m a)
include R hm

theorem lbd_real (r c : Fin 256) : lbd T m (ix2 r c) = (((H a).z (pos hW r) (pos hW c) - sp ((H a).z (pos hW r) (pos hW c)) : ℝ) : EReal) := by
  rw [lbd_at hW R.scans hm, Head.keys_z, softp_coe, ← EReal.coe_sub]

theorem lbb_real (r : Fin 256) (c : Fin W) : lbb T kb m (ix2 r c) = (((H a).z (pos hW r) (old hW c) - sp ((H a).z (pos hW r) (old hW c)) : ℝ) : EReal) := by
  rw [lbb_at hW R.scans hm, Head.keys_z, softp_coe, ← EReal.coe_sub]

variable (D : Stores Ideal) (hD : ∀ r (y : Fin 2048), y.val < W + 256 → after v v.junk D r y = (H a).keys.later (pos hW r) y)
include hD

theorem attd_real (r c : Fin 256) : attd v hW T m D (ix2 r c) = (((H a).att (pos hW r) (pos hW c) : ℝ) : EReal) :=
  (attd_at v hW R.scans hm D hD r c).trans ((H a).keys_att _ _)

theorem attb_real (r : Fin 256) (c : Fin W) : attb v hW T kb m D (ix2 r c) = (((H a).att (pos hW r) (old hW c) : ℝ) : EReal) :=
  (attb_at v hW R.scans hm D hD r c).trans ((H a).keys_att _ _)

theorem gd_real (r c : Fin 256) : gd v hW T m D (ix2 r c) = ((ext ((H a).g (pos hW r)) (W + c.val) : ℝ) : EReal) := by
  unfold gd logGrad
  rw [mulf_apply, scores_only hm T.d T.v r c _ _ (fun a d => R.d r a d) (fun a d => R.v c a d), attd_real v hW R hm D hD, ← EReal.coe_mul]
  exact congrArg Real.toEReal (ext_val ((H a).g (pos hW r)) (pos hW c)).symm

theorem gb_real (r : Fin 256) (c : Fin W) : gb v hW T kb vb m D (ix2 r c) = ((ext ((H a).g (pos hW r)) c.val : ℝ) : EReal) := by
  unfold gb logGrad
  rw [mulf_apply, scores_only hm T.d vb r c _ _ (fun a d => R.d r a d) (fun a d => R.vb c a d), attb_real v hW R hm D hD, ← EReal.coe_mul]
  exact congrArg Real.toEReal (ext_val ((H a).g (pos hW r)) (old hW c)).symm

/-! ## The sums from the left -/

omit R hm hD in
theorem earlier_eq (H : Head) (t s : Fin 2048) : H.earlier t s = ∑ j ∈ Finset.range s.val, ext (H.g t) j := by
  unfold Head.earlier
  have hs := s.isLt
  rw [sum_ext, show Finset.range s.val = (Finset.range 2048).filter (fun j => j < s.val) by ext j; simp; omega, Finset.sum_filter]
  refine Finset.sum_congr rfl fun j hj => ?_
  have hj := Finset.mem_range.mp hj
  unfold ext
  rw [dif_pos hj, dif_pos hj]
  exact if_congr Iff.rfl rfl rfl

include hnW in
/-- The scratch after the stores from the left holds the sums over the keys before. -/
theorem after_upAll (f₀ : v.ty.Contents (Elt Ideal)) (r : Fin 256) (y : Fin 2048) (hy : y.val < W + 256) :
    after v f₀ (upAll v n hn hW T kb vb m D) r y = (((H a).earlier (pos hW r) y : ℝ) : EReal) := by
  have hd := fun (r c : Fin 256) => gd_real v hW R hm D hD r c
  have hb := fun (r : Fin 256) (c : Fin W) => gb_real v hW R hm D hD r c
  have hcar := upCarry_at (gb v hW T kb vb m D) (fun r c => ((ext ((H a).g (pos hW r)) c : ℝ) : EReal)) hb n hn zeroCarry (fun _ => 0) zeroCarry_at
  unfold upAll
  rw [after_up (gd v hW T m D) (fun r c => ((ext ((H a).g (pos hW r)) (W + c) : ℝ) : EReal)) hd v f₀ W hW 2 le_two _ _ hcar,
    after_up (gb v hW T kb vb m D) (fun r c => ((ext ((H a).g (pos hW r)) c : ℝ) : EReal)) hb v f₀ 0 (inb_bulk hW) n hn zeroCarry (fun _ => 0) zeroCarry_at, earlier_eq, coe_sum]
  by_cases h : y.val < W
  · rw [if_neg (by omega), if_pos (by omega), zero_add, Nat.sub_zero]
  · rw [if_pos (by omega), zero_add, hnW, Finset.range_eq_Ico, Finset.range_eq_Ico,
      Finset.sum_Ico_add (fun i => ((ext ((H a).g (pos hW r)) i : ℝ) : EReal)), Nat.zero_add,
      show y.val - W + W = y.val by omega, Finset.sum_Ico_consecutive _ (by omega) (by omega), Finset.range_eq_Ico]

/-! ## The three gradients -/

variable (U : Stores Ideal) (hU : ∀ r (y : Fin 2048), y.val < W + 256 → after v v.junk U r y = (((H a).earlier (pos hW r) y : ℝ) : EReal))

theorem dvd_real (c : Fin 256) (d : Fin 64) :
    dvd v hW T m D (ix2 c (lane a d)) = ((∑ r, (H a).att (pos hW r) (pos hW c) * (H a).D (pos hW r) d : ℝ) : EReal) := by
  unfold dvd
  rw [dotTN_apply, coe_sum]
  refine Finset.sum_congr rfl fun r _ => ?_
  rw [R.d, EReal.coe_mul]
  exact congrArg (· * _) (attd_real v hW R hm D hD r c)

theorem dvb_real (c : Fin W) (d : Fin 64) :
    dvb v hW T kb m D (ix2 c (lane a d)) = ((∑ r, (H a).att (pos hW r) (old hW c) * (H a).D (pos hW r) d : ℝ) : EReal) := by
  unfold dvb
  rw [dotTN_apply, coe_sum]
  refine Finset.sum_congr rfl fun r _ => ?_
  rw [R.d, EReal.coe_mul]
  exact congrArg (· * _) (attb_real v hW R hm D hD r c)

include hU

theorem dzd_real (r c : Fin 256) : dzd v hW T m D U (ix2 r c) = (((H a).dz (pos hW r) (pos hW c) : ℝ) : EReal) := by
  unfold dzd half scoreGrad
  rw [truncf_apply]
  refine (masked_apply _ _ _).trans ?_
  rw [diag_apply, subf_apply, mulf_apply, addf_apply, show ∀ x : FVec Ideal (Mat 256 256) .f32, exp x (ix2 r c) = Ideal.exp (x (ix2 r c)) from fun _ => rfl,
    lbd_real hW R hm, gd_real v hW R hm D hD, cols_apply, hU r ⟨W + c.val, by omega⟩ (by show W + c.val < _; omega), Ideal.exp_coe, ← EReal.coe_add, ← EReal.coe_mul,
    ← EReal.coe_sub, select_zero_real, show ext ((H a).g (pos hW r)) (W + c.val) = (H a).g (pos hW r) (pos hW c) from ext_val _ (pos hW c)]
  exact congrArg Real.toEReal (if_congr (pos_lt hW c r).symm rfl rfl)

theorem dzb_real (r : Fin 256) (c : Fin W) : dzb v hW T kb vb m D U (ix2 r c) = (((H a).dz (pos hW r) (old hW c) : ℝ) : EReal) := by
  unfold dzb half scoreGrad
  rw [truncf_apply]
  show subf _ _ (ix2 r c) = _
  rw [subf_apply, mulf_apply, addf_apply, show ∀ x : FVec Ideal (Mat 256 W) .f32, exp x (ix2 r c) = Ideal.exp (x (ix2 r c)) from fun _ => rfl,
    lbb_real hW R hm, gb_real v hW R hm D hD, cols_apply, hU r ⟨0 + c.val, by omega⟩ (by show 0 + c.val < _; omega), Ideal.exp_coe, ← EReal.coe_add, ← EReal.coe_mul,
    ← EReal.coe_sub, show ext ((H a).g (pos hW r)) c.val = (H a).g (pos hW r) (old hW c) from ext_val _ (old hW c)]
  refine congrArg Real.toEReal (Eq.trans ?_ (if_pos (old_lt hW c r)).symm)
  rw [show (⟨0 + c.val, by omega⟩ : Fin 2048) = old hW c from Fin.ext (Nat.zero_add _)]
  rfl

theorem dkd_real (c : Fin 256) (d : Fin 64) :
    dkd v hW T m D U (ix2 c (lane a d)) = ((∑ r, (H a).dz (pos hW r) (pos hW c) * ((H a).Q (pos hW r) d / 8) : ℝ) : EReal) := by
  unfold dkd
  rw [dotTN_apply, coe_sum]
  exact Finset.sum_congr rfl fun r _ => by rw [R.q, dzd_real v hW R hm D hD U hU, EReal.coe_mul]

theorem dkb_real (c : Fin W) (d : Fin 64) :
    dkb v hW T kb vb m D U (ix2 c (lane a d)) = ((∑ r, (H a).dz (pos hW r) (old hW c) * ((H a).Q (pos hW r) d / 8) : ℝ) : EReal) := by
  unfold dkb
  rw [dotTN_apply, coe_sum]
  exact Finset.sum_congr rfl fun r _ => by rw [R.q, dzb_real v hW R hm D hD U hU, EReal.coe_mul]

omit R hm hD hU in
theorem dq_split {W : ℕ} (hW : W + 256 ≤ 2048) (H : Head) (r : Fin 256) (d : Fin 64) :
    H.dq (pos hW r) d = (∑ c : Fin W, H.dz (pos hW r) (old hW c) * H.K (old hW c) d + ∑ c : Fin 256, H.dz (pos hW r) (pos hW c) * H.K (pos hW c) d) * (1 / 8) := by
  unfold Head.dq
  rw [sum_split (fun s => H.dz (pos hW r) s * H.K s d) hW fun s hs => by
    have hr := r.isLt
    rw [H.dz_of_not_lt (by rw [Fin.lt_def]; show ¬s.val < W + r.val; omega), zero_mul]]
  ring

theorem ownQ (r : Fin 256) (d : Fin 64) :
    dotNN (dzd v hW T m D U) T.k (ix2 r (lane a d)) = ((∑ c : Fin 256, (H a).dz (pos hW r) (pos hW c) * (H a).K (pos hW c) d : ℝ) : EReal) := by
  rw [dotNN_apply, coe_sum]
  exact Finset.sum_congr rfl fun c _ => by rw [R.k, dzd_real v hW R hm D hD U hU, EReal.coe_mul]

theorem bulkQ (r : Fin 256) (d : Fin 64) :
    dotNN (dzb v hW T kb vb m D U) kb (ix2 r (lane a d)) = ((∑ c : Fin W, (H a).dz (pos hW r) (old hW c) * (H a).K (old hW c) d : ℝ) : EReal) := by
  rw [dotNN_apply, coe_sum]
  exact Finset.sum_congr rfl fun c _ => by rw [R.kb, dzb_real v hW R hm D hD U hU, EReal.coe_mul]

theorem dqAll_real (r : Fin 256) (d : Fin 64) : dqAll v hW T kb vb m D U (ix2 r (lane a d)) = (((H a).dq (pos hW r) d : ℝ) : EReal) := by
  unfold dqAll
  rw [eighth_apply, addf_apply, addf_apply, zeroRows_apply, zero_add, ownQ v hW R hm D hD U hU, bulkQ v hW R hm D hD U hU, dq_split, ← EReal.coe_add, ← EReal.coe_mul]

end

/-- The first tile has no keys before it. -/
theorem dqOwn_real {Sg : RefSig} {κ : Kind} {b : Space} (v : View Sg κ b S256x2048 .f32) {H : Fin 2 → Head} {T : Arg Ideal} {kb vb : FVec Ideal (Mat 0 128) .bf16}
    (R : Reads first_le H T kb vb) {m : IVec (Mat 1 128) 1} {a : Fin 2} (hm : Chooses m a) (D : Stores Ideal)
    (hD : ∀ r (y : Fin 2048), y.val < 0 + 256 → after v v.junk D r y = (H a).keys.later (pos first_le r) y) (U : Stores Ideal)
    (hU : ∀ r (y : Fin 2048), y.val < 0 + 256 → after v v.junk U r y = (((H a).earlier (pos first_le r) y : ℝ) : EReal)) (r : Fin 256) (d : Fin 64) :
    dqOwn v (W := 0) first_le T m D U (ix2 r (lane a d)) = (((H a).dq (pos first_le r) d : ℝ) : EReal) := by
  unfold dqOwn
  rw [eighth_apply, addf_apply, zeroRows_apply, zero_add, ownQ v first_le R hm D hD U hU, dq_split, ← EReal.coe_mul, Fin.sum_univ_zero, zero_add]

end Cert.StickBreaking.Tile

end
-- ==== Proof.Pair.lean ====
/-
  Both heads of a tile: what it stores of the queries' gradient and what it adds to the two accumulators; and the
  accumulators after a tile, as sums over the queries up to its last.
-/
module

public import proofs.«01_k».proof.Proof.HeadTile

@[expose] public section

set_option maxRecDepth 16384

noncomputable section

namespace Cert.StickBreaking.Tile

open Idealize.ShloMosaic Idealize.ShloMosaic.ValueIdx
open Cert.KernelIdeal Cert.KernelIdeal.Gen
open scoped BigOperators

/-- A choice by lanes between what holds the first head and what holds the second. -/
theorem byLane_pair {φ : FTy} {M : ℕ} (h : S1x128.Broadcasts (Mat M 128)) (x y : FVec Ideal (Mat M 128) φ) (r : Fin M) (d : Fin 64) (e : Fin 2 → EReal)
    (hx : x (ix2 r (lane 0 d)) = e 0) (hy : y (ix2 r (lane 1 d)) = e 1) (a : Fin 2) : byLane laneA h x y (ix2 r (lane a d)) = e a := by
  rw [byLane_apply, chooses_A a d]
  match a with
  | ⟨0, _⟩ => exact (select_one _ _).trans hx
  | ⟨1, _⟩ => exact (select_zero _ _).trans hy

section
variable {Sg : RefSig} {κ : Kind} {b : Space} (v : View Sg κ b S256x2048 .f32) {W : ℕ} (n : ℕ) (hn : 128 * n ≤ W) (hnW : 128 * n = W) (hW : W + 256 ≤ 2048)
variable {H : Fin 2 → Head} {T : Arg Ideal} {kb vb : FVec Ideal (Mat W 128) .bf16} (R : Reads hW H T kb vb)
include R hnW

theorem dA_real (r : Fin 256) (y : Fin 2048) (hy : y.val < W + 256) : after v v.junk (dA n hn hW T kb) r y = (H 0).keys.later (pos hW r) y :=
  after_downAll v n hn hnW hW R.scans chooses_A _ _ r y hy
theorem uA_real (r : Fin 256) (y : Fin 2048) (hy : y.val < W + 256) : after v v.junk (uA v n hn hW T kb vb) r y = (((H 0).earlier (pos hW r) y : ℝ) : EReal) :=
  after_upAll v n hn hnW hW R chooses_A _ (dA_real v n hn hnW hW R) _ r y hy
theorem dB_real (r : Fin 256) (y : Fin 2048) (hy : y.val < W + 256) : after v v.junk (dB v n hn hW T kb vb) r y = (H 1).keys.later (pos hW r) y :=
  after_downAll v n hn hnW hW R.scans chooses_B _ _ r y hy
theorem uB_real (r : Fin 256) (y : Fin 2048) (hy : y.val < W + 256) : after v v.junk (uB v n hn hW T kb vb) r y = (((H 1).earlier (pos hW r) y : ℝ) : EReal) :=
  after_upAll v n hn hnW hW R chooses_B _ (dB_real v n hn hnW hW R) _ r y hy

theorem outQ_real (r : Fin 256) (a : Fin 2) (d : Fin 64) : outQ v n hn hW T kb vb (ix2 r (lane a d)) = (((H a).dq (pos hW r) d : ℝ) : EReal) :=
  byLane_pair _ _ _ r d (fun a => (((H a).dq (pos hW r) d : ℝ) : EReal))
    (dqAll_real v hW R chooses_A _ (dA_real v n hn hnW hW R) _ (uA_real v n hn hnW hW R) r d)
    (dqAll_real v hW R chooses_B _ (dB_real v n hn hnW hW R) _ (uB_real v n hn hnW hW R) r d) a

theorem addKd_real (c : Fin 256) (a : Fin 2) (d : Fin 64) :
    addKd v n hn hW T kb vb (ix2 c (lane a d)) = ((∑ r, (H a).dz (pos hW r) (pos hW c) * ((H a).Q (pos hW r) d / 8) : ℝ) : EReal) :=
  byLane_pair _ _ _ c d (fun a => ((∑ r, (H a).dz (pos hW r) (pos hW c) * ((H a).Q (pos hW r) d / 8) : ℝ) : EReal))
    (dkd_real v hW R chooses_A _ (dA_real v n hn hnW hW R) _ (uA_real v n hn hnW hW R) c d)
    (dkd_real v hW R chooses_B _ (dB_real v n hn hnW hW R) _ (uB_real v n hn hnW hW R) c d) a

theorem addVd_real (c : Fin 256) (a : Fin 2) (d : Fin 64) :
    addVd v n hn hW T kb vb (ix2 c (lane a d)) = ((∑ r, (H a).att (pos hW r) (pos hW c) * (H a).D (pos hW r) d : ℝ) : EReal) :=
  byLane_pair _ _ _ c d (fun a => ((∑ r, (H a).att (pos hW r) (pos hW c) * (H a).D (pos hW r) d : ℝ) : EReal))
    (dvd_real v hW R chooses_A _ (dA_real v n hn hnW hW R) c d) (dvd_real v hW R chooses_B _ (dB_real v n hn hnW hW R) c d) a

theorem addKb_real (h : S1x128.Broadcasts (Mat W 128)) (c : Fin W) (a : Fin 2) (d : Fin 64) :
    addKb v n hn hW T kb vb h (ix2 c (lane a d)) = ((∑ r, (H a).dz (pos hW r) (old hW c) * ((H a).Q (pos hW r) d / 8) : ℝ) : EReal) :=
  byLane_pair _ _ _ c d (fun a => ((∑ r, (H a).dz (pos hW r) (old hW c) * ((H a).Q (pos hW r) d / 8) : ℝ) : EReal))
    (dkb_real v hW R chooses_A _ (dA_real v n hn hnW hW R) _ (uA_real v n hn hnW hW R) c d)
    (dkb_real v hW R chooses_B _ (dB_real v n hn hnW hW R) _ (uB_real v n hn hnW hW R) c d) a

theorem addVb_real (h : S1x128.Broadcasts (Mat W 128)) (c : Fin W) (a : Fin 2) (d : Fin 64) :
    addVb v n hn hW T kb vb h (ix2 c (lane a d)) = ((∑ r, (H a).att (pos hW r) (old hW c) * (H a).D (pos hW r) d : ℝ) : EReal) :=
  byLane_pair _ _ _ c d (fun a => ((∑ r, (H a).att (pos hW r) (old hW c) * (H a).D (pos hW r) d : ℝ) : EReal))
    (dvb_real v hW R chooses_A _ (dA_real v n hn hnW hW R) c d) (dvb_real v hW R chooses_B _ (dB_real v n hn hnW hW R) c d) a
end

/-! ## The first tile -/

section
variable {Sg : RefSig} {κ : Kind} {b : Space} (v : View Sg κ b S256x2048 .f32)
variable {H : Fin 2 → Head} {T : Arg Ideal} {kb vb : FVec Ideal (Mat 0 128) .bf16} (R : Reads first_le H T kb vb)
include R

theorem outQ₀_real (r : Fin 256) (a : Fin 2) (d : Fin 64) : outQ₀ v T (ix2 r (lane a d)) = (((H a).dq (pos first_le r) d : ℝ) : EReal) :=
  byLane_pair _ _ _ r d (fun a => (((H a).dq (pos first_le r) d : ℝ) : EReal))
    (dqOwn_real v R chooses_A _ (dA_real v 0 (Nat.le_refl 0) rfl first_le R) _ (uA_real v 0 (Nat.le_refl 0) rfl first_le R) r d)
    (dqOwn_real v R chooses_B _ (dB_real v 0 (Nat.le_refl 0) rfl first_le R) _ (uB_real v 0 (Nat.le_refl 0) rfl first_le R) r d) a

theorem addK₀_real (c : Fin 256) (a : Fin 2) (d : Fin 64) :
    addK₀ v T (ix2 c (lane a d)) = ((∑ r, (H a).dz (pos first_le r) (pos first_le c) * ((H a).Q (pos first_le r) d / 8) : ℝ) : EReal) :=
  addKd_real v 0 (Nat.le_refl 0) rfl first_le R c a d

theorem addV₀_real (c : Fin 256) (a : Fin 2) (d : Fin 64) :
    addV₀ v T (ix2 c (lane a d)) = ((∑ r, (H a).att (pos first_le r) (pos first_le c) * (H a).D (pos first_le r) d : ℝ) : EReal) :=
  addVd_real v 0 (Nat.le_refl 0) rfl first_le R c a d
end

/-! ## The weighted values -/

section
variable {Sg : RefSig} {κ : Kind} {b : Space} (v : View Sg κ b S256x2048 .f32) {W : ℕ} (n : ℕ) (hn : 128 * n ≤ W) (hnW : 128 * n = W) (hW : W + 256 ≤ 2048)
variable {A : Fin 2 → Keys} {T : Arg Ideal} {kb vb : FVec Ideal (Mat W 128) .bf16} (R : Scans hW A T kb)
variable (V : Fin 2 → Fin 2048 → Fin 64 → EReal) (hV : ∀ c a d, T.v (ix2 c (lane a d)) = V a (pos hW c) d)

include R hnW hV in
theorem outO_at (hVb : ∀ c a d, vb (ix2 c (lane a d)) = V a (old hW c) d) (r : Fin 256) (a : Fin 2) (d : Fin 64) :
    outO v n hn hW T kb vb (ix2 r (lane a d)) = (A a).out (V a) (pos hW r) d :=
  byLane_pair _ _ _ r d (fun a => (A a).out (V a) (pos hW r) d)
    (attendAll_at v hW R chooses_A _ (after_downAll v n hn hnW hW R chooses_A _ _) V hV hVb r d)
    (attendAll_at v hW R chooses_B _ (after_downAll v n hn hnW hW R chooses_B _ _) V hV hVb r d) a
end

section
variable {Sg : RefSig} {κ : Kind} {b : Space} (v : View Sg κ b S256x2048 .f32) {A : Fin 2 → Keys} {T : Arg Ideal} {kb : FVec Ideal (Mat 0 128) .bf16}
variable (R : Scans first_le A T kb)
include R

/-- The sums from the right with no bulk. -/
theorem after_downOwn {m : IVec (Mat 1 128) 1} {a : Fin 2} (hm : Chooses m a) (f₀ : v.ty.Contents (Elt Ideal)) (L : Stores Ideal) (r : Fin 256) (y : Fin 2048)
    (hy : y.val < 0 + 256) : after v f₀ (downOwn (W := 0) first_le T m L) r y = (A a).later (pos first_le r) y :=
  (congrArg (fun S => after v f₀ S r y) (show downOwn (W := 0) first_le T m L = downAll 0 (Nat.le_refl 0) first_le T kb m L from rfl)).trans
    (after_downAll v 0 (Nat.le_refl 0) rfl first_le R hm f₀ L r y hy)

theorem outO₀_at (V : Fin 2 → Fin 2048 → Fin 64 → EReal) (hV : ∀ c a d, T.v (ix2 c (lane a d)) = V a (pos first_le c) d)
    (r : Fin 256) (a : Fin 2) (d : Fin 64) : outO₀ v T (ix2 r (lane a d)) = (A a).out (V a) (pos first_le r) d :=
  byLane_pair Facts₀.broadcasts_S1x128_S256x128 (attendOwn v (W := 0) first_le T laneA (dA₀ T)) (attendOwn v (W := 0) first_le T laneB (dB₀' T))
    r d (fun a => (A a).out (V a) (pos first_le r) d)
    (attendOwn_at v R chooses_A (dA₀ T) (fun r y hy => after_downOwn v R chooses_A v.junk [] r y hy) V hV r d)
    (attendOwn_at v R chooses_B (dB₀' T) (fun r y hy => after_downOwn v R chooses_B v.junk (dA₀ T) r y hy) V hV r d) a
end

/-! ## The accumulators -/

section
variable {Sg : RefSig} {κ : Kind} {b : Space} (v : View Sg κ b S2048x128 .f32)

/-- An accumulator at one place after a tile's stores. -/
theorem acc_apply (f f' : v.ty.Contents (Elt Ideal)) {W : ℕ} (hW : W + 256 ≤ 2048) (xb : FVec Ideal (Mat W 128) .f32) (xd : FVec Ideal (Mat 256 128) .f32)
    (hb : (Mat W 128).ShapeCasts (Mat W 128)) (s : Fin 2048) (l : Fin 128) :
    v.read (Elt Ideal) (v.writes (Elt Ideal) f' (accStores v f hW xb xd hb)) (ix2 s l)
      = if h : s.val < W then v.read (Elt Ideal) f (ix2 s l) + xb (ix2 ⟨s.val, h⟩ l)
        else if h' : s.val < W + 256 then v.read (Elt Ideal) f (ix2 s l) + xd (ix2 ⟨s.val - W, by omega⟩ l)
        else v.read (Elt Ideal) f' (ix2 s l) := by
  unfold accStores rows
  by_cases h : s.val < W
  · rw [dif_pos h]
    refine (View.read_writes_cons_unit_of_not_mem (Val := Elt Ideal) v f' (off := ![W, 0]) (off' := ![W, 0]) (inb_rows (M := 256) hW) _ _ (ix2 s l) rfl (0 : Fin 2) (Or.inl h)).trans ?_
    refine (View.read_writes_cons_unit_of_mem (Val := Elt Ideal) v f' (off := ![0, 0]) (off' := ![0, 0]) (inb_rows (M := W) (inb_bulk hW)) _ _ (ix2 s l) (ix2 (⟨s.val, h⟩ : Fin W) l) rfl
      (Fin.forall_fin_two.mpr ⟨(Nat.zero_add _).symm, (Nat.zero_add _).symm⟩)).trans ?_
    refine (congrFun (shapeCast_self (s := Mat W 128) _ hb) (ix2 (⟨s.val, h⟩ : Fin W) l)).trans ?_
    refine congrArg (fun i => v.read (Elt Ideal) f i + _) (funext fun a => ?_)
    match a with
    | ⟨0, _⟩ => exact Fin.ext (by show 0 + 1 * s.val = s.val; omega)
    | ⟨1, _⟩ => exact Fin.ext (by show 0 + 1 * l.val = l.val; omega)
  · rw [dif_neg h]
    by_cases h' : s.val < W + 256
    · rw [dif_pos h']
      refine (View.read_writes_cons_unit_of_mem (Val := Elt Ideal) v f' (off := ![W, 0]) (off' := ![W, 0]) (inb_rows (M := 256) hW) _ _ (ix2 s l) (ix2 (⟨s.val - W, by omega⟩ : Fin 256) l) rfl
        (Fin.forall_fin_two.mpr ⟨(Nat.add_sub_of_le (Nat.le_of_not_lt h)).symm, (Nat.zero_add _).symm⟩)).trans ?_
      refine (congrFun (shapeCast_self (s := Mat 256 128) _ Facts₀.shapeCasts_S256x128_S256x128) (ix2 (⟨s.val - W, by omega⟩ : Fin 256) l)).trans ?_
      refine congrArg (fun i => v.read (Elt Ideal) f i + _) (funext fun a => ?_)
      match a with
      | ⟨0, _⟩ => exact Fin.ext (by show W + 1 * (s.val - W) = s.val; omega)
      | ⟨1, _⟩ => exact Fin.ext (by show 0 + 1 * l.val = l.val; omega)
    · rw [dif_neg h']
      refine (View.read_writes_cons_unit_of_not_mem (Val := Elt Ideal) v f' (off := ![W, 0]) (off' := ![W, 0]) (inb_rows (M := 256) hW) _ _ (ix2 s l) rfl (0 : Fin 2) (Or.inr (Nat.le_of_not_lt h'))).trans ?_
      refine (View.read_writes_cons_unit_of_not_mem (Val := Elt Ideal) v f' (off := ![0, 0]) (off' := ![0, 0]) (inb_rows (M := W) (inb_bulk hW)) _ _ (ix2 s l) rfl (0 : Fin 2)
        (Or.inr (by show 0 + W ≤ s.val; omega))).trans rfl
end

/-- The sum of a function of positions over the first `N`. -/
def upto (f : Fin 2048 → ℝ) (N : ℕ) : ℝ := ∑ k ∈ Finset.range N, ext f k

theorem upto_all (f : Fin 2048 → ℝ) : upto f 2048 = ∑ t, f t := (sum_ext f).symm

theorem upto_tile {W : ℕ} (hW : W + 256 ≤ 2048) (f : Fin 2048 → ℝ) : upto f (W + 256) = upto f W + ∑ r, f (pos hW r) := by
  have e : ∑ r : Fin 256, f (pos hW r) = ∑ k ∈ Finset.Ico W (W + 256), ext f k := by
    rw [← sum_block]
    exact Finset.sum_congr rfl fun r _ => (ext_val f (pos hW r)).symm
  unfold upto
  rw [e, Finset.range_eq_Ico, Finset.range_eq_Ico, Finset.sum_Ico_consecutive _ (Nat.zero_le _) (by omega)]

/-- An accumulator that holds the sums over the queries before the tile holds, after the tile, those up to the tile's last. -/
theorem acc_step {Sg : RefSig} {κ : Kind} {b : Space} (v : View Sg κ b S2048x128 .f32) (f f' : v.ty.Contents (Elt Ideal)) {W : ℕ} (hW : W + 256 ≤ 2048)
    (xb : FVec Ideal (Mat W 128) .f32) (xd : FVec Ideal (Mat 256 128) .f32) (hb : (Mat W 128).ShapeCasts (Mat W 128))
    (G : Fin 2 → Fin 2048 → Fin 64 → Fin 2048 → ℝ) (hG : ∀ a s d t, ¬s < t → G a s d t = 0)
    (hf : ∀ s a d, v.read (Elt Ideal) f (ix2 s (lane a d)) = ((upto (G a s d) W : ℝ) : EReal))
    (hf' : ∀ s a d, W + 256 ≤ s.val → v.read (Elt Ideal) f' (ix2 s (lane a d)) = ((upto (G a s d) W : ℝ) : EReal))
    (hxb : ∀ c a d, xb (ix2 c (lane a d)) = ((∑ r, G a (old hW c) d (pos hW r) : ℝ) : EReal))
    (hxd : ∀ c a d, xd (ix2 c (lane a d)) = ((∑ r, G a (pos hW c) d (pos hW r) : ℝ) : EReal)) (s : Fin 2048) (a : Fin 2) (d : Fin 64) :
    v.read (Elt Ideal) (v.writes (Elt Ideal) f' (accStores v f hW xb xd hb)) (ix2 s (lane a d)) = ((upto (G a s d) (W + 256) : ℝ) : EReal) := by
  rw [acc_apply, upto_tile hW]
  by_cases h : s.val < W
  · rw [dif_pos h, hf, hxb, ← EReal.coe_add]
    rfl
  · rw [dif_neg h]
    by_cases h' : s.val < W + 256
    · rw [dif_pos h', hf, hxd, ← EReal.coe_add, show pos hW ⟨s.val - W, by omega⟩ = s from Fin.ext (by show W + (s.val - W) = s.val; omega)]
    · rw [dif_neg h', hf' s a d (by omega), Finset.sum_eq_zero fun r _ => hG a s d (pos hW r) (by
        have := r.isLt
        rw [Fin.lt_def]; show ¬s.val < W + r.val; omega), add_zero]

end Cert.StickBreaking.Tile

end
-- ==== Proof.Windows.lean ====
/-
  Where each point of the grid reads and writes: point `t` works on sequence `t / 32`, on the pair of heads `t / 8 % 4` and
  on the tile of queries `t % 8`; what it reads is those heads' queries, keys, values and incoming gradients.
-/
module

public import proofs.«01_k».proof.Proof.Point
public import proofs.«01_k».proof.Proof.Pair

@[expose] public section

set_option maxRecDepth 16384

noncomputable section

namespace Cert.StickBreaking.Tile

open Idealize.ShloMosaic Idealize.ShloMosaic.ValueIdx Idealize.ShloMosaic.TcCoe
open Cert.KernelIdeal Cert.KernelIdeal.Gen
open scoped BigOperators

theorem index_0 : ∀ t : Fin cfg0.N, win0_0.index t = ![t.val / 32 * 8 + t.val % 8, 12 + t.val / 8 % 4] :=
  (by decide +kernel : ∀ t : Fin grid0.N, _)
theorem index_1 : ∀ t : Fin cfg0.N, win0_1.index t = ![t.val / 32, 16 + t.val / 8 % 4] := (by decide +kernel : ∀ t : Fin grid0.N, _)
theorem index_2 : ∀ t : Fin cfg0.N, win0_2.index t = ![t.val / 32, 20 + t.val / 8 % 4] := (by decide +kernel : ∀ t : Fin grid0.N, _)
theorem index_3 : ∀ t : Fin cfg0.N, win0_3.index t = ![t.val / 32 * 8 + t.val % 8, t.val / 8 % 4] := (by decide +kernel : ∀ t : Fin grid0.N, _)
theorem index_4 : ∀ t : Fin cfg0.N, win0_4.index t = ![t.val / 32 * 8 + t.val % 8, t.val / 8 % 4] := (by decide +kernel : ∀ t : Fin grid0.N, _)
theorem index_5 : ∀ t : Fin cfg0.N, win0_5.index t = ![t.val / 32, t.val / 8 % 4] := (by decide +kernel : ∀ t : Fin grid0.N, _)
theorem index_6 : ∀ t : Fin cfg0.N, win0_6.index t = ![t.val / 32, t.val / 8 % 4] := (by decide +kernel : ∀ t : Fin grid0.N, _)

theorem point_lt (t : Fin cfg0.N) : t.val < 64 := t.isLt

/-- The sequence a point works on. -/
def seq (t : Fin cfg0.N) : Fin 2 := ⟨t.val / 32, by have h := point_lt t; omega⟩
/-- The pair's heads. -/
def hd (t : Fin cfg0.N) (a : Fin 2) : Fin 8 := ⟨2 * (t.val / 8 % 4) + a.val, by have := a.isLt; omega⟩

section
variable (m : (ℓ : Loc nD τ sig) → Buf (Elt Ideal) ℓ) (c : Dev nD) (t : Fin cfg0.N)

/-- The projections. -/
def argX : Proj := m ((c : Thread nD τ).loc main_arg0)
/-- The gradients of the attention's result. -/
def argY : Rows := m ((c : Thread nD τ).loc main_arg1)
/-- The heads a point works on. -/
def heads (a : Fin 2) : Head := head (argX m c) (argY m c) (seq t) (hd t a)

theorem iblk_q {W : ℕ} (hW : W + 256 ≤ 2048) (ht : 256 * (t.val % 8) = W) (r : Fin 256) (a : Fin 2) (d : Fin 64) :
    (iblk m c 0 t : FVec Ideal S256x128 .f32) (ix2 r (lane a d)) = argX m c (ix2 (row (seq t) (pos hW r)) (qcol (col (hd t a) d))) := by
  unfold iblk
  rw [View.read_apply]
  refine congrArg (argX m c) (funext fun x => Fin.ext ?_)
  match x with
  | ⟨0, _⟩ =>
    show win0_0.index t 0 * 256 + 1 * r.val = t.val / 32 * 2048 + (W + r.val)
    rw [index_0]; show (t.val / 32 * 8 + t.val % 8) * 256 + 1 * r.val = _; omega
  | ⟨1, _⟩ =>
    show win0_0.index t 1 * 128 + 1 * (64 * a.val + d.val) = 1536 + ((2 * (t.val / 8 % 4) + a.val) * 64 + d.val)
    rw [index_0]; show (12 + t.val / 8 % 4) * 128 + 1 * (64 * a.val + d.val) = _; omega

theorem iblk_d {W : ℕ} (hW : W + 256 ≤ 2048) (ht : 256 * (t.val % 8) = W) (r : Fin 256) (a : Fin 2) (d : Fin 64) :
    (iblk m c 3 t : FVec Ideal S256x128 .f32) (ix2 r (lane a d)) = argY m c (ix2 (row (seq t) (pos hW r)) (col (hd t a) d)) := by
  unfold iblk
  rw [View.read_apply]
  refine congrArg (argY m c) (funext fun x => Fin.ext ?_)
  match x with
  | ⟨0, _⟩ =>
    show win0_3.index t 0 * 256 + 1 * r.val = t.val / 32 * 2048 + (W + r.val)
    rw [index_3]; show (t.val / 32 * 8 + t.val % 8) * 256 + 1 * r.val = _; omega
  | ⟨1, _⟩ =>
    show win0_3.index t 1 * 128 + 1 * (64 * a.val + d.val) = (2 * (t.val / 8 % 4) + a.val) * 64 + d.val
    rw [index_3]; show (t.val / 8 % 4) * 128 + 1 * (64 * a.val + d.val) = _; omega

theorem iblk_k (s : Fin 2048) (a : Fin 2) (d : Fin 64) :
    (iblk m c 1 t : FVec Ideal S2048x128 .f32) (ix2 s (lane a d)) = argX m c (ix2 (row (seq t) s) (kcol (col (hd t a) d))) := by
  unfold iblk
  rw [View.read_apply]
  refine congrArg (argX m c) (funext fun x => Fin.ext ?_)
  match x with
  | ⟨0, _⟩ =>
    show win0_1.index t 0 * 2048 + 1 * s.val = t.val / 32 * 2048 + s.val
    rw [index_1]; show t.val / 32 * 2048 + 1 * s.val = _; omega
  | ⟨1, _⟩ =>
    show win0_1.index t 1 * 128 + 1 * (64 * a.val + d.val) = 2048 + ((2 * (t.val / 8 % 4) + a.val) * 64 + d.val)
    rw [index_1]; show (16 + t.val / 8 % 4) * 128 + 1 * (64 * a.val + d.val) = _; omega

theorem iblk_v (s : Fin 2048) (a : Fin 2) (d : Fin 64) :
    (iblk m c 2 t : FVec Ideal S2048x128 .f32) (ix2 s (lane a d)) = argX m c (ix2 (row (seq t) s) (vcol (col (hd t a) d))) := by
  unfold iblk
  rw [View.read_apply]
  refine congrArg (argX m c) (funext fun x => Fin.ext ?_)
  match x with
  | ⟨0, _⟩ =>
    show win0_2.index t 0 * 2048 + 1 * s.val = t.val / 32 * 2048 + s.val
    rw [index_2]; show t.val / 32 * 2048 + 1 * s.val = _; omega
  | ⟨1, _⟩ =>
    show win0_2.index t 1 * 128 + 1 * (64 * a.val + d.val) = 2560 + ((2 * (t.val / 8 % 4) + a.val) * 64 + d.val)
    rw [index_2]; show (20 + t.val / 8 % 4) * 128 + 1 * (64 * a.val + d.val) = _; omega
end

/-- What a point reads, as its heads' quantities at the tile's positions and at those before. -/
theorem reads (m : (ℓ : Loc nD τ sig) → Buf (Elt Ideal) ℓ) (c : Dev nD) (hf : Finite (argX m c) (argY m c)) (t : Fin cfg0.N)
    {W : ℕ} (hW : W + 256 ≤ 2048) (ht : 256 * (t.val % 8) = W) : Reads hW (heads m c t) (ownArg m c t hW) (bulkK m c t hW) (bulkV m c t hW) where
  q r a d := by
    refine (eighth_apply (View.readAt (Elt Ideal) (ms0_0 t).view tileRect.toLoadRect ((hs0_0 t).unread (iblk m c 0 t))) (ix2 r (lane a d))).trans ?_
    rw [load_tile (hs0_0 t) (iblk m c 0 t) r (lane a d), iblk_q m c t hW ht, ← hf.q, ← EReal.coe_mul]
    exact congrArg Real.toEReal (by rw [mul_one_div]; rfl)
  d r a d := by
    refine (load_tile (hs0_3 t) (iblk m c 3 t) r (lane a d)).trans ?_
    rw [iblk_d m c t hW ht, ← hf.d]; rfl
  k r a d := by
    refine (load_rows (hs0_1 t) (iblk m c 1 t) hW r (lane a d)).trans ?_
    rw [iblk_k, ← hf.k]; rfl
  v r a d := by
    refine (load_rows (hs0_2 t) (iblk m c 2 t) hW r (lane a d)).trans ?_
    rw [iblk_v, ← hf.v]; rfl
  kb r a d := by
    refine (load_rows (hs0_1 t) (iblk m c 1 t) (inb_bulk hW) r (lane a d)).trans ?_
    rw [iblk_k, ← hf.k, show (⟨0 + r.val, by omega⟩ : Fin 2048) = old hW r from Fin.ext (Nat.zero_add _)]; rfl
  vb r a d := by
    refine (load_rows (hs0_2 t) (iblk m c 2 t) (inb_bulk hW) r (lane a d)).trans ?_
    rw [iblk_v, ← hf.v, show (⟨0 + r.val, by omega⟩ : Fin 2048) = old hW r from Fin.ext (Nat.zero_add _)]; rfl

end Cert.StickBreaking.Tile

end
-- ==== Proof.Accumulate.lean ====
/-
  What the points leave, tile after tile of a row of the grid: each tile of the queries' gradient, and the two accumulators as
  sums over the queries so far; at a row's last point, the keys' and the values' gradients.
-/
module

public import proofs.«01_k».proof.Proof.Windows

@[expose] public section

set_option maxRecDepth 16384

noncomputable section

namespace Cert.StickBreaking.Tile

open Idealize.ShloMosaic Idealize.ShloMosaic.ValueIdx Idealize.ShloMosaic.TcCoe
open Cert.KernelIdeal Cert.KernelIdeal.Gen
open scoped BigOperators

/-- What query `t` adds to the gradient of key `s`. -/
def partK (H : Fin 2 → Head) (a : Fin 2) (s : Fin 2048) (d : Fin 64) (t : Fin 2048) : ℝ := (H a).dz t s * ((H a).Q t d / 8)
/-- What query `t` adds to the gradient of value `s`. -/
def partV (H : Fin 2 → Head) (a : Fin 2) (s : Fin 2048) (d : Fin 64) (t : Fin 2048) : ℝ := (H a).att t s * (H a).D t d

theorem partK_zero (H : Fin 2 → Head) (a : Fin 2) (s : Fin 2048) (d : Fin 64) (t : Fin 2048) (h : ¬s < t) : partK H a s d t = 0 := by
  unfold partK; rw [Head.dz_of_not_lt _ h, zero_mul]
theorem partV_zero (H : Fin 2 → Head) (a : Fin 2) (s : Fin 2048) (d : Fin 64) (t : Fin 2048) (h : ¬s < t) : partV H a s d t = 0 := by
  unfold partV; rw [Head.att_of_not_lt _ h, zero_mul]

/-- An accumulator holding the sums over the first `N` queries. -/
def Holds (X : FVec Ideal S2048x128 .f32) (G : Fin 2 → Fin 2048 → Fin 64 → Fin 2048 → ℝ) (N : ℕ) : Prop :=
  ∀ s a d, X (ix2 s (lane a d)) = ((upto (G a s d) N : ℝ) : EReal)

theorem whole_stored {e : EltTy} (v : View sig .tc .vmem S2048x128 e) (f : v.ty.Contents (Elt Ideal)) (x : (Mat 2048 128).Idx → Elt Ideal e) (s : Fin 2048) (l : Fin 128) :
    v.read (Elt Ideal) (v.writes (Elt Ideal) f [⟨wholeRect, x⟩]) (ix2 s l) = x (ix2 s l) :=
  View.read_writes_cons_unit_of_mem (Val := Elt Ideal) v f (off := ![0, 0]) (off' := ![0, 0]) Facts₀.inb_S2048x128_S2048x128_0_0 x [] (ix2 s l) (ix2 s l) rfl
    (Fin.forall_fin_two.mpr ⟨(Nat.zero_add _).symm, (Nat.zero_add _).symm⟩)

/-- What the first point of a row leaves in an accumulator. -/
theorem first_stored (v : View sig .tc .vmem S2048x128 .f32) (f : v.ty.Contents (Elt Ideal)) (x : FVec Ideal (Mat 256 128) .f32)
    (G : Fin 2 → Fin 2048 → Fin 64 → Fin 2048 → ℝ) (hG : ∀ a s d t, ¬s < t → G a s d t = 0)
    (hx : ∀ c a d, x (ix2 c (lane a d)) = ((∑ r, G a (pos first_le c) d (pos first_le r) : ℝ) : EReal)) :
    Holds (v.read (Elt Ideal) (v.writes (Elt Ideal) f (firstStores v x))) G 256 := fun s a d => by
  have zero : ∀ f' i, v.read (Elt Ideal) (v.writes (Elt Ideal) f' [zeroPiece]) i = (0 : EReal) := fun f' i => by
    obtain ⟨s, l, rfl⟩ : ∃ (s : Fin 2048) (l : Fin 128), i = ix2 s l := ⟨i 0, i 1, eq_ix2 i⟩
    refine (whole_stored v f' _ s l).trans ?_
    rw [shapeCast_self]
    exact Ideal.ofBits_zero_f32
  have e : upto (G a s d) 256 = ∑ r, G a s d (pos first_le r) := by
    have := upto_tile first_le (G a s d)
    rw [Nat.zero_add] at this
    rw [this, upto, Finset.range_zero, Finset.sum_empty, zero_add]
  rw [e]
  unfold firstStores rows
  by_cases h : s.val < 256
  · refine (View.read_writes_cons_unit_of_mem (Val := Elt Ideal) v f (off := ![0, 0]) (off' := ![0, 0]) (inb_rows (M := 256) first_le) _ _ (ix2 s (lane a d))
      (ix2 (⟨s.val, h⟩ : Fin 256) (lane a d)) rfl (Fin.forall_fin_two.mpr ⟨(Nat.zero_add _).symm, (Nat.zero_add _).symm⟩)).trans ?_
    refine (congrFun (shapeCast_self (s := Mat 256 128) _ Facts₀.shapeCasts_S256x128_S256x128) (ix2 (⟨s.val, h⟩ : Fin 256) (lane a d))).trans ?_
    refine (congrArg (fun z : EReal => z + x (ix2 (⟨s.val, h⟩ : Fin 256) (lane a d))) (zero v.junk _)).trans ?_
    rw [zero_add, hx, show pos first_le ⟨s.val, h⟩ = s from Fin.ext (Nat.zero_add _)]
  · refine (View.read_writes_cons_unit_of_not_mem (Val := Elt Ideal) v f (off := ![0, 0]) (off' := ![0, 0]) (inb_rows (M := 256) first_le) _ _ (ix2 s (lane a d)) rfl (0 : Fin 2)
      (Or.inr (by show 0 + 256 ≤ s.val; omega))).trans ?_
    rw [zero, Finset.sum_eq_zero fun r _ => hG a s d (pos first_le r) (by
      have := r.isLt
      rw [Fin.lt_def]; show ¬s.val < 0 + r.val; omega)]
    rfl

section
variable (m : (ℓ : Loc nD τ sig) → Buf (Elt Ideal) ℓ) (c : Dev nD) (hf : Finite (argX m c) (argY m c)) (t : Fin cfg0.N)

/-- The tile of the queries' gradient that point `t` stores. -/
def QDone : Prop := ∀ (W : ℕ) (hW : W + 256 ≤ 2048), 256 * (t.val % 8) = W → ∀ r a d,
  ((outsAt0 m c t.val t.isLt).1 : FVec Ideal S256x128 .bf16) (ix2 r (lane a d)) = (((heads m c t a).dq (pos hW r) d : ℝ) : EReal)

/-- The accumulators after point `t`. -/
def AccDone (N : ℕ) : Prop :=
  Holds (outsAt0 m c t.val t.isLt).2.2.2.1 (partK (heads m c t)) N ∧ Holds (outsAt0 m c t.val t.isLt).2.2.2.2 (partV (heads m c t)) N
/-- The same of the point before, for this point's heads. -/
def AccBefore (N : ℕ) : Prop := Holds (before m c t).2.2.2.1 (partK (heads m c t)) N ∧ Holds (before m c t).2.2.2.2 (partV (heads m c t)) N

include hf

theorem first_done (h : IsFirst m c t) (ht : t.val % 8 = 0) : QDone m c t ∧ AccDone m c t 256 := by
  have R := reads m c hf t first_le (by rw [ht])
  obtain ⟨hq, hk, hv⟩ := h
  refine ⟨fun W hW hm r a d => ?_, ?_, ?_⟩
  · obtain rfl : W = 0 := by omega
    rw [hq]
    exact (tile_stored VO0_4 _ _ r (lane a d)).trans (outQ₀_real _ R r a d)
  · rw [hk]
    exact first_stored _ _ _ _ (partK_zero _) (addK₀_real _ R)
  · rw [hv]
    exact first_stored _ _ _ _ (partV_zero _) (addV₀_real _ R)

section
variable {W : ℕ} (n : ℕ) (hn : 128 * n ≤ W) (hnW : 128 * n = W) (hW : W + 256 ≤ 2048) (hc : (Mat W 128).ShapeCasts (Mat W 128)) (hb : S1x128.Broadcasts (Mat W 128))
  (ht : 256 * (t.val % 8) = W) (hacc : AccBefore m c t W)
include hnW ht

theorem tile_q (hq : (outsAt0 m c t.val t.isLt).1 = VO0_4.read (Elt Ideal) (VO0_4.writes (Elt Ideal) VO0_4.junk
      [⟨tileRect, outQ scM0_0.view n hn hW (ownArg m c t hW) (bulkK m c t hW) (bulkV m c t hW)⟩])) : QDone m c t := fun W' hW' hm r a d => by
  obtain rfl : W' = W := by omega
  rw [hq]
  exact (tile_stored VO0_4 _ _ r (lane a d)).trans (outQ_real _ n hn hnW hW (reads m c hf t hW ht) r a d)

include hacc

theorem storesK_done (f : scM0_1.view.ty.Contents (Elt Ideal)) (hfull : ∀ s : Fin 2048, W + 256 ≤ s.val → ∀ l, scM0_1.view.read (Elt Ideal) f (ix2 s l) = (before m c t).2.2.2.1 (ix2 s l)) :
    Holds (scM0_1.view.read (Elt Ideal) (scM0_1.view.writes (Elt Ideal) f (storesK m c t n hn hW hc hb))) (partK (heads m c t)) (W + 256) := fun s a d => by
  have R := reads m c hf t hW ht
  have e : ∀ i, scM0_1.view.read (Elt Ideal) ((Memref.isWhole_whole _).unread (before m c t).2.2.2.1) i = (before m c t).2.2.2.1 i :=
    fun i => congrFun (Memref.IsWhole.read_unread _ _) i
  exact acc_step scM0_1.view _ f hW _ _ hc (partK (heads m c t)) (partK_zero _) (fun s a d => (e _).trans (hacc.1 s a d))
    (fun s a d h => (hfull s h _).trans (hacc.1 s a d)) (addKb_real _ n hn hnW hW R hb) (addKd_real _ n hn hnW hW R) s a d

theorem storesV_done (f : scM0_2.view.ty.Contents (Elt Ideal)) (hfull : ∀ s : Fin 2048, W + 256 ≤ s.val → ∀ l, scM0_2.view.read (Elt Ideal) f (ix2 s l) = (before m c t).2.2.2.2 (ix2 s l)) :
    Holds (scM0_2.view.read (Elt Ideal) (scM0_2.view.writes (Elt Ideal) f (storesV m c t n hn hW hc hb))) (partV (heads m c t)) (W + 256) := fun s a d => by
  have R := reads m c hf t hW ht
  have e : ∀ i, scM0_2.view.read (Elt Ideal) ((Memref.isWhole_whole _).unread (before m c t).2.2.2.2) i = (before m c t).2.2.2.2 i :=
    fun i => congrFun (Memref.IsWhole.read_unread _ _) i
  exact acc_step scM0_2.view _ f hW _ _ hc (partV (heads m c t)) (partV_zero _) (fun s a d => (e _).trans (hacc.2 s a d))
    (fun s a d h => (hfull s h _).trans (hacc.2 s a d)) (addVb_real _ n hn hnW hW R hb) (addVd_real _ n hn hnW hW R) s a d

theorem tile_done (h : IsTile m c t n hn hW hc hb) : QDone m c t ∧ AccDone m c t (W + 256) := by
  obtain ⟨hq, hk, hv⟩ := h
  refine ⟨tile_q m c hf t n hn hnW hW ht hq, ?_, ?_⟩
  · rw [hk]
    exact storesK_done m c hf t n hn hnW hW hc hb ht hacc _ fun s _ l => congrFun (Memref.IsWhole.read_unread _ _) _
  · rw [hv]
    exact storesV_done m c hf t n hn hnW hW hc hb ht hacc _ fun s _ l => congrFun (Memref.IsWhole.read_unread _ _) _

omit hnW ht hacc hf in
theorem whole_idx (s : Fin 2048) (l : Fin 128) : wholeRect.toLoadRect.idx (ix2 s l) = (ix2 s l : S2048x128.Idx) := funext fun x => by
  match x with
  | ⟨0, _⟩ => exact Fin.ext (by show 0 + 1 * s.val = s.val; omega)
  | ⟨1, _⟩ => exact Fin.ext (by show 0 + 1 * l.val = l.val; omega)

omit hnW ht hacc hf in
/-- An accumulator written back: what its stores leave, at each place. -/
theorem written_back (v : View sig .tc .vmem S2048x128 .bf16) (u : View sig .tc .vmem S2048x128 .f32) (L : List (View.Piece (Elt Ideal) S2048x128 .f32)) (s : Fin 2048) (l : Fin 128) :
    v.read (Elt Ideal) (v.writes (Elt Ideal) v.junk [⟨wholeRect, half (F := Ideal) (s := Mat 2048 128) (u.readCov L wholeRect.toLoadRect)⟩]) (ix2 s l)
      = u.read (Elt Ideal) (u.writes (Elt Ideal) u.junk L) (ix2 s l) :=
  (whole_stored v _ _ s l).trans (congrArg (u.read (Elt Ideal) (u.writes (Elt Ideal) u.junk L)) (whole_idx s l))

theorem last_k (hlast : W + 256 = 2048) (hk : (outsAt0 m c t.val t.isLt).2.1 = VO0_5.read (Elt Ideal) (VO0_5.writes (Elt Ideal) VO0_5.junk
      [⟨wholeRect, half (F := Ideal) (s := Mat 2048 128) (scM0_1.view.readCov (storesK m c t n hn hW hc hb) wholeRect.toLoadRect)⟩])) (s : Fin 2048) (a : Fin 2) (d : Fin 64) :
    ((outsAt0 m c t.val t.isLt).2.1 : FVec Ideal S2048x128 .bf16) (ix2 s (lane a d)) = (((heads m c t a).dk s d : ℝ) : EReal) := by
  rw [hk]
  refine (written_back VO0_5 scM0_1.view (storesK m c t n hn hW hc hb) s (lane a d)).trans ?_
  refine (storesK_done m c hf t n hn hnW hW hc hb ht hacc _ (fun s h => absurd s.isLt (by omega)) s a d).trans ?_
  rw [hlast, upto_all]; rfl

theorem last_v (hlast : W + 256 = 2048) (hv : (outsAt0 m c t.val t.isLt).2.2.1 = VO0_6.read (Elt Ideal) (VO0_6.writes (Elt Ideal) VO0_6.junk
      [⟨wholeRect, half (F := Ideal) (s := Mat 2048 128) (scM0_2.view.readCov (storesV m c t n hn hW hc hb) wholeRect.toLoadRect)⟩])) (s : Fin 2048) (a : Fin 2) (d : Fin 64) :
    ((outsAt0 m c t.val t.isLt).2.2.1 : FVec Ideal S2048x128 .bf16) (ix2 s (lane a d)) = (((heads m c t a).dv s d : ℝ) : EReal) := by
  rw [hv]
  refine (written_back VO0_6 scM0_2.view (storesV m c t n hn hW hc hb) s (lane a d)).trans ?_
  refine (storesV_done m c hf t n hn hnW hW hc hb ht hacc _ (fun s h => absurd s.isLt (by omega)) s a d).trans ?_
  rw [hlast, upto_all]; rfl
end

end

end Cert.StickBreaking.Tile

end
-- ==== Proof.Cases.lean ====
/-
  The first point of a row and the points with 256, 512, 768 and 1024 keys before their tile are the text of Tile.
-/
module

public import proofs.«01_k».proof.Proof.Point

@[expose] public section

set_option maxRecDepth 16384

noncomputable section

namespace Cert.StickBreaking.Tile

open Idealize.ShloMosaic Idealize.ShloMosaic.TcCoe
open Cert.KernelIdeal Cert.KernelIdeal.Gen

variable {F : FTy → Type} [FloatOps F] (m : (ℓ : Loc nD τ sig) → Buf (Elt F) ℓ) (c : Dev nD) (t : Fin cfg0.N)

theorem tile_A (h : t.val % 8 = 0) : IsFirst m c t := by
  unfold IsFirst
  rw [outsAt0_A m c t h h (by omega) (by omega) (by omega) (by omega) (by omega) (by omega) (by omega) (by omega)]
  refine ⟨?_, ?_, ?_⟩
  · unfold out0_A_4 kernelRun0_A
    dsimp only
    rfl
  · unfold sout0_A_1 kernelRun0_A firstStores
    dsimp only
    rfl
  · unfold sout0_A_2 kernelRun0_A firstStores
    dsimp only
    rfl

set_option maxHeartbeats 1000000 in
theorem tile_B (h : t.val % 8 = 1) :
    IsTile m c t (W := 256) 2 (by omega) (by omega) Facts₀.shapeCasts_S256x128_S256x128 Facts₀.broadcasts_S1x128_S256x128 := by
  unfold IsTile
  rw [outsAt0_B m c t (by omega) (by omega) h (by omega) (by omega) (by omega) (by omega) (by omega) (by omega) (by omega)]
  refine ⟨?_, ?_, ?_⟩
  · unfold out0_B_4 kernelRun0_B
    dsimp only
    rfl
  · unfold sout0_B_1 kernelRun0_B storesK accStores
    dsimp only
    rfl
  · unfold sout0_B_2 kernelRun0_B storesV accStores
    dsimp only
    rfl

set_option maxHeartbeats 1000000 in
theorem tile_C (h : t.val % 8 = 2) :
    IsTile m c t (W := 512) 4 (by omega) (by omega) Facts₀.shapeCasts_S512x128_S512x128 Facts₀.broadcasts_S1x128_S512x128 := by
  unfold IsTile
  rw [outsAt0_C m c t (by omega) (by omega) (by omega) h (by omega) (by omega) (by omega) (by omega) (by omega) (by omega)]
  refine ⟨?_, ?_, ?_⟩
  · unfold out0_C_4 kernelRun0_C
    dsimp only
    rfl
  · unfold sout0_C_1 kernelRun0_C storesK accStores
    dsimp only
    rfl
  · unfold sout0_C_2 kernelRun0_C storesV accStores
    dsimp only
    rfl

set_option maxHeartbeats 2000000 in
theorem tile_D (h : t.val % 8 = 3) :
    IsTile m c t (W := 768) 6 (by omega) (by omega) Facts₀.shapeCasts_S768x128_S768x128 Facts₀.broadcasts_S1x128_S768x128 := by
  unfold IsTile
  rw [outsAt0_D m c t (by omega) (by omega) (by omega) (by omega) h (by omega) (by omega) (by omega) (by omega) (by omega)]
  refine ⟨?_, ?_, ?_⟩
  · unfold out0_D_4 kernelRun0_D
    dsimp only
    rfl
  · unfold sout0_D_1 kernelRun0_D storesK accStores
    dsimp only
    rfl
  · unfold sout0_D_2 kernelRun0_D storesV accStores
    dsimp only
    rfl

set_option maxHeartbeats 4000000 in
theorem tile_E (h : t.val % 8 = 4) :
    IsTile m c t (W := 1024) 8 (by omega) (by omega) Facts₀.shapeCasts_S1024x128_S1024x128 Facts₀.broadcasts_S1x128_S1024x128 := by
  unfold IsTile
  rw [outsAt0_E m c t (by omega) (by omega) (by omega) (by omega) (by omega) h (by omega) (by omega) (by omega) (by omega)]
  refine ⟨?_, ?_, ?_⟩
  · unfold out0_E_4 kernelRun0_E
    dsimp only
    rfl
  · unfold sout0_E_1 kernelRun0_E storesK accStores
    dsimp only
    rfl
  · unfold sout0_E_2 kernelRun0_E storesV accStores
    dsimp only
    rfl

end Cert.StickBreaking.Tile

end
-- ==== Proof.CasesF.lean ====
/-
  The points with 1280 keys before their tile are the text of Tile.
-/
module

public import proofs.«01_k».proof.Proof.Point

@[expose] public section

set_option maxRecDepth 16384

noncomputable section

namespace Cert.StickBreaking.Tile

open Idealize.ShloMosaic Idealize.ShloMosaic.TcCoe
open Cert.KernelIdeal Cert.KernelIdeal.Gen

variable {F : FTy → Type} [FloatOps F] (m : (ℓ : Loc nD τ sig) → Buf (Elt F) ℓ) (c : Dev nD) (t : Fin cfg0.N)

set_option maxHeartbeats 8000000 in
theorem tile_F (h : t.val % 8 = 5) :
    IsTile m c t (W := 1280) 10 (by omega) (by omega) Facts₀.shapeCasts_S1280x128_S1280x128 Facts₀.broadcasts_S1x128_S1280x128 := by
  unfold IsTile
  rw [outsAt0_F m c t (by omega) (by omega) (by omega) (by omega) (by omega) (by omega) h (by omega) (by omega) (by omega)]
  refine ⟨?_, ?_, ?_⟩
  · unfold out0_F_4 kernelRun0_F
    dsimp only
    rfl
  · unfold sout0_F_1 kernelRun0_F storesK accStores
    dsimp only
    rfl
  · unfold sout0_F_2 kernelRun0_F storesV accStores
    dsimp only
    rfl

end Cert.StickBreaking.Tile

end
-- ==== Proof.CasesG.lean ====
/-
  The points with 1536 keys before their tile are the text of Tile.
-/
module

public import proofs.«01_k».proof.Proof.Point

@[expose] public section

set_option maxRecDepth 16384

noncomputable section

namespace Cert.StickBreaking.Tile

open Idealize.ShloMosaic Idealize.ShloMosaic.TcCoe
open Cert.KernelIdeal Cert.KernelIdeal.Gen

variable {F : FTy → Type} [FloatOps F] (m : (ℓ : Loc nD τ sig) → Buf (Elt F) ℓ) (c : Dev nD) (t : Fin cfg0.N)

set_option maxHeartbeats 8000000 in
theorem tile_G (h : t.val % 8 = 6) :
    IsTile m c t (W := 1536) 12 (by omega) (by omega) Facts₀.shapeCasts_S1536x128_S1536x128 Facts₀.broadcasts_S1x128_S1536x128 := by
  unfold IsTile
  rw [outsAt0_G m c t (by omega) (by omega) (by omega) (by omega) (by omega) (by omega) (by omega) h (by omega) (by omega)]
  refine ⟨?_, ?_, ?_⟩
  · unfold out0_G_4 kernelRun0_G
    dsimp only
    rfl
  · unfold sout0_G_1 kernelRun0_G storesK accStores
    dsimp only
    rfl
  · unfold sout0_G_2 kernelRun0_G storesV accStores
    dsimp only
    rfl

end Cert.StickBreaking.Tile

end
-- ==== Proof.CasesH.lean ====
/-
  The last point of a row, with 1792 keys before its tile, is the text of Tile.
-/
module

public import proofs.«01_k».proof.Proof.Point

@[expose] public section

set_option maxRecDepth 16384

noncomputable section

namespace Cert.StickBreaking.Tile

open Idealize.ShloMosaic Idealize.ShloMosaic.TcCoe
open Cert.KernelIdeal Cert.KernelIdeal.Gen

variable {F : FTy → Type} [FloatOps F] (m : (ℓ : Loc nD τ sig) → Buf (Elt F) ℓ) (c : Dev nD) (t : Fin cfg0.N)

set_option maxHeartbeats 16000000 in
theorem tile_H (h : t.val % 8 = 7) :
    IsLast m c t (W := 1792) 14 (by omega) (by omega) Facts₀.shapeCasts_S1792x128_S1792x128 Facts₀.broadcasts_S1x128_S1792x128 := by
  unfold IsLast
  rw [outsAt0_H m c t (by omega) (by omega) (by omega) (by omega) (by omega) (by omega) (by omega) (by omega) h h]
  refine ⟨?_, ?_, ?_⟩
  · unfold out0_H_4 kernelRun0_H
    dsimp only
    rfl
  · unfold out0_H_5 kernelRun0_H storesK accStores
    dsimp only
    rfl
  · unfold out0_H_6 kernelRun0_H storesV accStores
    dsimp only
    rfl

end Cert.StickBreaking.Tile

end
-- ==== Proof.KernelValue.lean ====
/-
  The kernel's three results: row by row of the grid, then block by block of the arrays.
-/
module

public import proofs.«01_k».proof.Proof.Accumulate
public import proofs.«01_k».proof.Proof.Cases
public import proofs.«01_k».proof.Proof.CasesF
public import proofs.«01_k».proof.Proof.CasesG
public import proofs.«01_k».proof.Proof.CasesH
public import Idealize.ShloMosaic.Lib.Pipeline.ValueKit

@[expose] public section

set_option maxRecDepth 16384

noncomputable section

namespace Cert.StickBreaking.Tile

open Idealize.ShloMosaic hiding ix2 eq_ix2
open Idealize.ShloMosaic.ValueIdx Idealize.ShloMosaic.TcCoe
open Cert.KernelIdeal Cert.KernelIdeal.Gen
open scoped BigOperators

section
variable (m : (ℓ : Loc nD τ sig) → Buf (Elt Ideal) ℓ) (c : Dev nD) (hf : Finite (argX m c) (argY m c))

/-- The point before in the same row works on the same heads. -/
theorem before_done (t : Fin cfg0.N) (ht : t.val % 8 ≠ 0) (N : ℕ)
    (h : AccDone m c ⟨t.val - 1, Nat.lt_of_le_of_lt (Nat.sub_le _ _) t.isLt⟩ N) : AccBefore m c t N := by
  have e : heads m c ⟨t.val - 1, Nat.lt_of_le_of_lt (Nat.sub_le _ _) t.isLt⟩ = heads m c t := funext fun a => by
    unfold heads
    rw [show seq ⟨t.val - 1, Nat.lt_of_le_of_lt (Nat.sub_le _ _) t.isLt⟩ = seq t from Fin.ext (by show (t.val - 1) / 32 = t.val / 32; omega),
      show hd ⟨t.val - 1, Nat.lt_of_le_of_lt (Nat.sub_le _ _) t.isLt⟩ a = hd t a from Fin.ext (by show 2 * ((t.val - 1) / 8 % 4) + a.val = 2 * (t.val / 8 % 4) + a.val; omega)]
  unfold AccDone at h
  rw [e] at h
  exact h

include hf

theorem row_0 (t : Fin cfg0.N) (ht : t.val % 8 = 0) : QDone m c t ∧ AccDone m c t 256 := first_done m c hf t (tile_A m c t ht) ht
theorem row_1 (t : Fin cfg0.N) (ht : t.val % 8 = 1) : QDone m c t ∧ AccDone m c t (256 + 256) :=
  tile_done m c hf t 2 _ rfl _ _ _ (by rw [ht]) (before_done m c t (by omega) _ (row_0 m c hf _ (by show (t.val - 1) % 8 = 0; omega)).2) (tile_B m c t ht)
theorem row_2 (t : Fin cfg0.N) (ht : t.val % 8 = 2) : QDone m c t ∧ AccDone m c t (512 + 256) :=
  tile_done m c hf t 4 _ rfl _ _ _ (by rw [ht]) (before_done m c t (by omega) _ (row_1 m c hf _ (by show (t.val - 1) % 8 = 1; omega)).2) (tile_C m c t ht)
theorem row_3 (t : Fin cfg0.N) (ht : t.val % 8 = 3) : QDone m c t ∧ AccDone m c t (768 + 256) :=
  tile_done m c hf t 6 _ rfl _ _ _ (by rw [ht]) (before_done m c t (by omega) _ (row_2 m c hf _ (by show (t.val - 1) % 8 = 2; omega)).2) (tile_D m c t ht)
theorem row_4 (t : Fin cfg0.N) (ht : t.val % 8 = 4) : QDone m c t ∧ AccDone m c t (1024 + 256) :=
  tile_done m c hf t 8 _ rfl _ _ _ (by rw [ht]) (before_done m c t (by omega) _ (row_3 m c hf _ (by show (t.val - 1) % 8 = 3; omega)).2) (tile_E m c t ht)
theorem row_5 (t : Fin cfg0.N) (ht : t.val % 8 = 5) : QDone m c t ∧ AccDone m c t (1280 + 256) :=
  tile_done m c hf t 10 _ rfl _ _ _ (by rw [ht]) (before_done m c t (by omega) _ (row_4 m c hf _ (by show (t.val - 1) % 8 = 4; omega)).2) (tile_F m c t ht)
theorem row_6 (t : Fin cfg0.N) (ht : t.val % 8 = 6) : QDone m c t ∧ AccDone m c t (1536 + 256) :=
  tile_done m c hf t 12 _ rfl _ _ _ (by rw [ht]) (before_done m c t (by omega) _ (row_5 m c hf _ (by show (t.val - 1) % 8 = 5; omega)).2) (tile_G m c t ht)
theorem acc_7 (t : Fin cfg0.N) (ht : t.val % 8 = 7) : AccBefore m c t (1536 + 256) :=
  before_done m c t (by omega) _ (row_6 m c hf _ (by show (t.val - 1) % 8 = 6; omega)).2

theorem all_q (t : Fin cfg0.N) : QDone m c t := by
  have h8 : t.val % 8 < 8 := Nat.mod_lt _ (by omega)
  by_cases h0 : t.val % 8 = 0
  · exact (row_0 m c hf t h0).1
  by_cases h1 : t.val % 8 = 1
  · exact (row_1 m c hf t h1).1
  by_cases h2 : t.val % 8 = 2
  · exact (row_2 m c hf t h2).1
  by_cases h3 : t.val % 8 = 3
  · exact (row_3 m c hf t h3).1
  by_cases h4 : t.val % 8 = 4
  · exact (row_4 m c hf t h4).1
  by_cases h5 : t.val % 8 = 5
  · exact (row_5 m c hf t h5).1
  by_cases h6 : t.val % 8 = 6
  · exact (row_6 m c hf t h6).1
  have h7 : t.val % 8 = 7 := by omega
  exact tile_q m c hf t 14 _ rfl _ (by rw [h7]) (tile_H m c t h7).1

theorem k_7 (t : Fin cfg0.N) (ht : t.val % 8 = 7) (s : Fin 2048) (a : Fin 2) (d : Fin 64) :
    ((outsAt0 m c t.val t.isLt).2.1 : FVec Ideal S2048x128 .bf16) (ix2 s (lane a d)) = (((heads m c t a).dk s d : ℝ) : EReal) :=
  last_k m c hf t 14 _ rfl _ _ _ (by rw [ht]) (acc_7 m c hf t ht) rfl (tile_H m c t ht).2.1 s a d
theorem v_7 (t : Fin cfg0.N) (ht : t.val % 8 = 7) (s : Fin 2048) (a : Fin 2) (d : Fin 64) :
    ((outsAt0 m c t.val t.isLt).2.2.1 : FVec Ideal S2048x128 .bf16) (ix2 s (lane a d)) = (((heads m c t a).dv s d : ℝ) : EReal) :=
  last_v m c hf t 14 _ rfl _ _ _ (by rw [ht]) (acc_7 m c hf t ht) rfl (tile_H m c t ht).2.2 s a d

/-! ## The arrays -/

theorem array_q : (dats m 0 c).arrAt 4 cfg0.N = dQ (argX m c) (argY m c) := by
  refine (dats m 0 c).arrAt_eq_of_covers 4 _ (by decide +kernel) fun t _ y => ?_
  blk_simp
  rw [after0_4]
  obtain ⟨r, l, rfl⟩ : ∃ (r : Fin 256) (l : Fin 128), y = ix2 r l := ⟨y 0, y 1, eq_ix2 y⟩
  obtain ⟨a, d, rfl⟩ := exists_lane l
  have hW : 256 * (t.val % 8) + 256 ≤ 2048 := by omega
  have e : (win0_4.blk t).view.emb (ix2 r (lane a d)) = ix2 (row (seq t) (pos hW r)) (col (hd t a) d) := funext fun x => Fin.ext (by
    match x with
    | ⟨0, _⟩ =>
      show win0_4.index t 0 * 256 + 1 * r.val = t.val / 32 * 2048 + (256 * (t.val % 8) + r.val)
      rw [index_4]; show (t.val / 32 * 8 + t.val % 8) * 256 + 1 * r.val = _; omega
    | ⟨1, _⟩ =>
      show win0_4.index t 1 * 128 + 1 * (64 * a.val + d.val) = (2 * (t.val / 8 % 4) + a.val) * 64 + d.val
      rw [index_4]; show (t.val / 8 % 4) * 128 + 1 * (64 * a.val + d.val) = _; omega)
  refine Eq.trans ?_ (congrArg (dQ (argX m c) (argY m c)) e).symm
  exact (all_q m c hf t _ hW rfl r a d).trans (ofHeads_apply (fun b h => (head (argX m c) (argY m c) b h).dq) (seq t) (hd t a) (pos hW r) d).symm

theorem array_k : (dats m 0 c).arrAt 5 cfg0.N = dK (argX m c) (argY m c) := by
  refine (dats m 0 c).arrAt_eq_of_covers 5 _ (by decide +kernel) fun t ht y => ?_
  blk_simp
  rw [after0_5]
  obtain ⟨r, l, rfl⟩ : ∃ (r : Fin 2048) (l : Fin 128), y = ix2 r l := ⟨y 0, y 1, eq_ix2 y⟩
  obtain ⟨a, d, rfl⟩ := exists_lane l
  have e : (win0_5.blk t).view.emb (ix2 r (lane a d)) = ix2 (row (seq t) r) (col (hd t a) d) := funext fun x => Fin.ext (by
    match x with
    | ⟨0, _⟩ =>
      show win0_5.index t 0 * 2048 + 1 * r.val = t.val / 32 * 2048 + r.val
      rw [index_5]; show t.val / 32 * 2048 + 1 * r.val = _; omega
    | ⟨1, _⟩ =>
      show win0_5.index t 1 * 128 + 1 * (64 * a.val + d.val) = (2 * (t.val / 8 % 4) + a.val) * 64 + d.val
      rw [index_5]; show (t.val / 8 % 4) * 128 + 1 * (64 * a.val + d.val) = _; omega)
  refine Eq.trans ?_ (congrArg (dK (argX m c) (argY m c)) e).symm
  exact (k_7 m c hf t ((flush0_5 t).mp ht) r a d).trans (ofHeads_apply (fun b h => (head (argX m c) (argY m c) b h).dk) (seq t) (hd t a) r d).symm

theorem array_v : (dats m 0 c).arrAt 6 cfg0.N = dV (argX m c) (argY m c) := by
  refine (dats m 0 c).arrAt_eq_of_covers 6 _ (by decide +kernel) fun t ht y => ?_
  blk_simp
  rw [after0_6]
  obtain ⟨r, l, rfl⟩ : ∃ (r : Fin 2048) (l : Fin 128), y = ix2 r l := ⟨y 0, y 1, eq_ix2 y⟩
  obtain ⟨a, d, rfl⟩ := exists_lane l
  have e : (win0_6.blk t).view.emb (ix2 r (lane a d)) = ix2 (row (seq t) r) (col (hd t a) d) := funext fun x => Fin.ext (by
    match x with
    | ⟨0, _⟩ =>
      show win0_6.index t 0 * 2048 + 1 * r.val = t.val / 32 * 2048 + r.val
      rw [index_6]; show t.val / 32 * 2048 + 1 * r.val = _; omega
    | ⟨1, _⟩ =>
      show win0_6.index t 1 * 128 + 1 * (64 * a.val + d.val) = (2 * (t.val / 8 % 4) + a.val) * 64 + d.val
      rw [index_6]; show (t.val / 8 % 4) * 128 + 1 * (64 * a.val + d.val) = _; omega)
  refine Eq.trans ?_ (congrArg (dV (argX m c) (argY m c)) e).symm
  exact (v_7 m c hf t ((flush0_6 t).mp ht) r a d).trans (ofHeads_apply (fun b h => (head (argX m c) (argY m c) b h).dv) (seq t) (hd t a) r d).symm

end

end Cert.StickBreaking.Tile

end
-- ==== Proof.SbAttnPoint.lean ====
/-
  What a point of the attention's grid leaves, as a statement: the block it stores, by the text of Tile over what the point
  reads. Two forms: a point with keys before its tile, and the first of a row.
-/
module

public import proofs.«01_k».proof.Proof.Gen.SbAttnIdeal.Value
public import proofs.«01_k».proof.Proof.Tile

@[expose] public section

set_option maxRecDepth 16384

noncomputable section

namespace Cert.StickBreaking.Attend

open Idealize.ShloMosaic Idealize.ShloMosaic.TcCoe
open Cert.SbAttnIdeal Cert.SbAttnIdeal.Gen Cert.StickBreaking.Tile

variable {F : FTy → Type} [FloatOps F]
variable (m : (ℓ : Loc nD τ sig) → Buf (Elt F) ℓ) (c : Dev nD) (t : Fin cfg0.N)

/-- What the point reads of its own positions; no incoming gradient. -/
def ownArg {W : ℕ} (hW : W + 256 ≤ 2048) : Arg F where
  q := half (eighth (View.readAt (Elt F) (ms0_0 t).view tileRect.toLoadRect ((hs0_0 t).unread (iblk m c 0 t))))
  d := half zeroRows
  k := half (View.readAt (Elt F) (ms0_1 t).view (rows W 256 hW).toLoadRect ((hs0_1 t).unread (iblk m c 1 t)))
  v := half (View.readAt (Elt F) (ms0_2 t).view (rows W 256 hW).toLoadRect ((hs0_2 t).unread (iblk m c 2 t)))
/-- The keys before it. -/
def bulkK {W : ℕ} (hW : W + 256 ≤ 2048) : FVec F (Mat W 128) .bf16 :=
  half (View.readAt (Elt F) (ms0_1 t).view (rows 0 W (inb_bulk hW)).toLoadRect ((hs0_1 t).unread (iblk m c 1 t)))
/-- The values before it. -/
def bulkV {W : ℕ} (hW : W + 256 ≤ 2048) : FVec F (Mat W 128) .bf16 :=
  half (View.readAt (Elt F) (ms0_2 t).view (rows 0 W (inb_bulk hW)).toLoadRect ((hs0_2 t).unread (iblk m c 2 t)))

/-- A point with `W` keys before its tile. -/
def IsTile {W : ℕ} (n : ℕ) (hn : 128 * n ≤ W) (hW : W + 256 ≤ 2048) : Prop :=
  outsAt0 m c t.val t.isLt = VO0_3.read (Elt F) (VO0_3.writes (Elt F) VO0_3.junk
      [⟨tileRect, outO scM0_0.view n hn hW (ownArg m c t hW) (bulkK m c t hW) (bulkV m c t hW)⟩])

/-- The first point of a row. -/
def IsFirst : Prop :=
  outsAt0 m c t.val t.isLt = VO0_3.read (Elt F) (VO0_3.writes (Elt F) VO0_3.junk [⟨tileRect, outO₀ scM0_0.view (ownArg m c t first_le)⟩])

end Cert.StickBreaking.Attend

end
-- ==== Proof.SbAttnCases.lean ====
/-
  The first point of a row and the points with 256, 512, 768 and 1024 keys before their tile are the text of Tile.
-/
module

public import proofs.«01_k».proof.Proof.SbAttnPoint

@[expose] public section

set_option maxRecDepth 16384

noncomputable section

namespace Cert.StickBreaking.Attend

open Idealize.ShloMosaic Idealize.ShloMosaic.TcCoe
open Cert.SbAttnIdeal Cert.SbAttnIdeal.Gen Cert.StickBreaking.Tile

variable {F : FTy → Type} [FloatOps F] (m : (ℓ : Loc nD τ sig) → Buf (Elt F) ℓ) (c : Dev nD) (t : Fin cfg0.N)

theorem tile_A (h : t.val % 8 = 0) : IsFirst m c t := by
  unfold IsFirst
  rw [outsAt0_A m c t h (by omega) (by omega) (by omega) (by omega) (by omega) (by omega) (by omega)]
  unfold out0_A_3 kernelRun0_A
  dsimp only
  rfl

set_option maxHeartbeats 1000000 in
theorem tile_B (h : t.val % 8 = 1) : IsTile m c t (W := 256) 2 (by omega) (by omega) := by
  unfold IsTile
  rw [outsAt0_B m c t (by omega) h (by omega) (by omega) (by omega) (by omega) (by omega) (by omega)]
  unfold out0_B_3 kernelRun0_B
  dsimp only
  rfl

set_option maxHeartbeats 1000000 in
theorem tile_C (h : t.val % 8 = 2) : IsTile m c t (W := 512) 4 (by omega) (by omega) := by
  unfold IsTile
  rw [outsAt0_C m c t (by omega) (by omega) h (by omega) (by omega) (by omega) (by omega) (by omega)]
  unfold out0_C_3 kernelRun0_C
  dsimp only
  rfl

set_option maxHeartbeats 2000000 in
theorem tile_D (h : t.val % 8 = 3) : IsTile m c t (W := 768) 6 (by omega) (by omega) := by
  unfold IsTile
  rw [outsAt0_D m c t (by omega) (by omega) (by omega) h (by omega) (by omega) (by omega) (by omega)]
  unfold out0_D_3 kernelRun0_D
  dsimp only
  rfl

set_option maxHeartbeats 4000000 in
theorem tile_E (h : t.val % 8 = 4) : IsTile m c t (W := 1024) 8 (by omega) (by omega) := by
  unfold IsTile
  rw [outsAt0_E m c t (by omega) (by omega) (by omega) (by omega) h (by omega) (by omega) (by omega)]
  unfold out0_E_3 kernelRun0_E
  dsimp only
  rfl

end Cert.StickBreaking.Attend

end
-- ==== Proof.SbAttnCasesF.lean ====
/-
  The points with 1280 keys before their tile are the text of Tile.
-/
module

public import proofs.«01_k».proof.Proof.SbAttnPoint

@[expose] public section

set_option maxRecDepth 16384

noncomputable section

namespace Cert.StickBreaking.Attend

open Idealize.ShloMosaic Idealize.ShloMosaic.TcCoe
open Cert.SbAttnIdeal Cert.SbAttnIdeal.Gen Cert.StickBreaking.Tile

variable {F : FTy → Type} [FloatOps F] (m : (ℓ : Loc nD τ sig) → Buf (Elt F) ℓ) (c : Dev nD) (t : Fin cfg0.N)

set_option maxHeartbeats 8000000 in
theorem tile_F (h : t.val % 8 = 5) : IsTile m c t (W := 1280) 10 (by omega) (by omega) := by
  unfold IsTile
  rw [outsAt0_F m c t (by omega) (by omega) (by omega) (by omega) (by omega) h (by omega) (by omega)]
  unfold out0_F_3 kernelRun0_F
  dsimp only
  rfl

end Cert.StickBreaking.Attend

end
-- ==== Proof.SbAttnCasesG.lean ====
/-
  The points with 1536 keys before their tile are the text of Tile.
-/
module

public import proofs.«01_k».proof.Proof.SbAttnPoint

@[expose] public section

set_option maxRecDepth 16384

noncomputable section

namespace Cert.StickBreaking.Attend

open Idealize.ShloMosaic Idealize.ShloMosaic.TcCoe
open Cert.SbAttnIdeal Cert.SbAttnIdeal.Gen Cert.StickBreaking.Tile

variable {F : FTy → Type} [FloatOps F] (m : (ℓ : Loc nD τ sig) → Buf (Elt F) ℓ) (c : Dev nD) (t : Fin cfg0.N)

set_option maxHeartbeats 8000000 in
theorem tile_G (h : t.val % 8 = 6) : IsTile m c t (W := 1536) 12 (by omega) (by omega) := by
  unfold IsTile
  rw [outsAt0_G m c t (by omega) (by omega) (by omega) (by omega) (by omega) (by omega) h (by omega)]
  unfold out0_G_3 kernelRun0_G
  dsimp only
  rfl

end Cert.StickBreaking.Attend

end
-- ==== Proof.SbAttnCasesH.lean ====
/-
  The points with 1792 keys before their tile are the text of Tile.
-/
module

public import proofs.«01_k».proof.Proof.SbAttnPoint

@[expose] public section

set_option maxRecDepth 16384

noncomputable section

namespace Cert.StickBreaking.Attend

open Idealize.ShloMosaic Idealize.ShloMosaic.TcCoe
open Cert.SbAttnIdeal Cert.SbAttnIdeal.Gen Cert.StickBreaking.Tile

variable {F : FTy → Type} [FloatOps F] (m : (ℓ : Loc nD τ sig) → Buf (Elt F) ℓ) (c : Dev nD) (t : Fin cfg0.N)

set_option maxHeartbeats 8000000 in
theorem tile_H (h : t.val % 8 = 7) : IsTile m c t (W := 1792) 14 (by omega) (by omega) := by
  unfold IsTile
  rw [outsAt0_H m c t (by omega) (by omega) (by omega) (by omega) (by omega) (by omega) (by omega) h]
  unfold out0_H_3 kernelRun0_H
  dsimp only
  rfl

end Cert.StickBreaking.Attend

end
-- ==== Proof.SbAttnForward.lean ====
/-
  The result of the stick-breaking attention's kernel: where each point of the grid reads and writes, what it stores there,
  and the array all points leave. Point `t` works on sequence `t / 32`, on the pair of heads `t / 8 % 4` and on the tile of
  queries `t % 8`.
-/
module

public import proofs.«01_k».proof.Proof.Pair
public import proofs.«01_k».proof.Proof.SbAttnCases
public import proofs.«01_k».proof.Proof.SbAttnCasesF
public import proofs.«01_k».proof.Proof.SbAttnCasesG
public import proofs.«01_k».proof.Proof.SbAttnCasesH
public import Idealize.ShloMosaic.Lib.Pipeline.ValueKit

@[expose] public section

set_option maxRecDepth 16384

noncomputable section

namespace Cert.StickBreaking.Attend

open Idealize.ShloMosaic hiding ix2 eq_ix2
open Idealize.ShloMosaic.ValueIdx Idealize.ShloMosaic.TcCoe
open Cert.SbAttnIdeal Cert.SbAttnIdeal.Gen Cert.StickBreaking.Tile
open scoped BigOperators

theorem index_0 : ∀ t : Fin cfg0.N, win0_0.index t = ![t.val / 32 * 8 + t.val % 8, 12 + t.val / 8 % 4] :=
  (by decide +kernel : ∀ t : Fin grid0.N, _)
theorem index_1 : ∀ t : Fin cfg0.N, win0_1.index t = ![t.val / 32, 16 + t.val / 8 % 4] := (by decide +kernel : ∀ t : Fin grid0.N, _)
theorem index_2 : ∀ t : Fin cfg0.N, win0_2.index t = ![t.val / 32, 20 + t.val / 8 % 4] := (by decide +kernel : ∀ t : Fin grid0.N, _)
theorem index_3 : ∀ t : Fin cfg0.N, win0_3.index t = ![t.val / 32 * 8 + t.val % 8, t.val / 8 % 4] := (by decide +kernel : ∀ t : Fin grid0.N, _)

theorem point_lt (t : Fin cfg0.N) : t.val < 64 := t.isLt

/-- The sequence a point works on. -/
def seq (t : Fin cfg0.N) : Fin 2 := ⟨t.val / 32, by have h := point_lt t; omega⟩
/-- The pair's heads. -/
def hd (t : Fin cfg0.N) (a : Fin 2) : Fin 8 := ⟨2 * (t.val / 8 % 4) + a.val, by have := a.isLt; omega⟩

section
variable (m : (ℓ : Loc nD τ sig) → Buf (Elt Ideal) ℓ) (c : Dev nD) (t : Fin cfg0.N)

/-- The projections. -/
def argX : Proj := m ((c : Thread nD τ).loc main_arg0)
/-- The queries and keys of the heads a point works on. -/
def keysAt (a : Fin 2) : Keys := keysOf (argX m c) (seq t) (hd t a)
/-- Their values. -/
def valuesAt (a : Fin 2) : Fin 2048 → Fin 64 → EReal := valuesOf (argX m c) (seq t) (hd t a)

theorem iblk_q {W : ℕ} (hW : W + 256 ≤ 2048) (ht : 256 * (t.val % 8) = W) (r : Fin 256) (a : Fin 2) (d : Fin 64) :
    (iblk m c 0 t : FVec Ideal S256x128 .f32) (ix2 r (lane a d)) = (keysAt m c t a).Q (pos hW r) d := by
  unfold iblk
  rw [View.read_apply]
  refine congrArg (argX m c) (funext fun x => Fin.ext ?_)
  match x with
  | ⟨0, _⟩ =>
    show win0_0.index t 0 * 256 + 1 * r.val = t.val / 32 * 2048 + (W + r.val)
    rw [index_0]; show (t.val / 32 * 8 + t.val % 8) * 256 + 1 * r.val = _; omega
  | ⟨1, _⟩ =>
    show win0_0.index t 1 * 128 + 1 * (64 * a.val + d.val) = 1536 + ((2 * (t.val / 8 % 4) + a.val) * 64 + d.val)
    rw [index_0]; show (12 + t.val / 8 % 4) * 128 + 1 * (64 * a.val + d.val) = _; omega

theorem iblk_k (s : Fin 2048) (a : Fin 2) (d : Fin 64) :
    (iblk m c 1 t : FVec Ideal S2048x128 .f32) (ix2 s (lane a d)) = (keysAt m c t a).K s d := by
  unfold iblk
  rw [View.read_apply]
  refine congrArg (argX m c) (funext fun x => Fin.ext ?_)
  match x with
  | ⟨0, _⟩ =>
    show win0_1.index t 0 * 2048 + 1 * s.val = t.val / 32 * 2048 + s.val
    rw [index_1]; show t.val / 32 * 2048 + 1 * s.val = _; omega
  | ⟨1, _⟩ =>
    show win0_1.index t 1 * 128 + 1 * (64 * a.val + d.val) = 2048 + ((2 * (t.val / 8 % 4) + a.val) * 64 + d.val)
    rw [index_1]; show (16 + t.val / 8 % 4) * 128 + 1 * (64 * a.val + d.val) = _; omega

theorem iblk_v (s : Fin 2048) (a : Fin 2) (d : Fin 64) :
    (iblk m c 2 t : FVec Ideal S2048x128 .f32) (ix2 s (lane a d)) = valuesAt m c t a s d := by
  unfold iblk
  rw [View.read_apply]
  refine congrArg (argX m c) (funext fun x => Fin.ext ?_)
  match x with
  | ⟨0, _⟩ =>
    show win0_2.index t 0 * 2048 + 1 * s.val = t.val / 32 * 2048 + s.val
    rw [index_2]; show t.val / 32 * 2048 + 1 * s.val = _; omega
  | ⟨1, _⟩ =>
    show win0_2.index t 1 * 128 + 1 * (64 * a.val + d.val) = 2560 + ((2 * (t.val / 8 % 4) + a.val) * 64 + d.val)
    rw [index_2]; show (20 + t.val / 8 % 4) * 128 + 1 * (64 * a.val + d.val) = _; omega

/-! ## What a point reads -/

section
variable {W : ℕ} (hW : W + 256 ≤ 2048)

theorem scans (ht : 256 * (t.val % 8) = W) : Scans hW (keysAt m c t) (ownArg m c t hW) (bulkK m c t hW) where
  q r a d := by
    refine (eighth_apply (View.readAt (Elt Ideal) (ms0_0 t).view tileRect.toLoadRect ((hs0_0 t).unread (iblk m c 0 t))) (ix2 r (lane a d))).trans ?_
    rw [load_tile (hs0_0 t) (iblk m c 0 t) r (lane a d), iblk_q m c t hW ht]
  k r a d := (load_rows (hs0_1 t) (iblk m c 1 t) hW r (lane a d)).trans (iblk_k m c t (pos hW r) a d)
  kb r a d := by
    refine (load_rows (hs0_1 t) (iblk m c 1 t) (inb_bulk hW) r (lane a d)).trans ?_
    rw [iblk_k, show (⟨0 + r.val, by omega⟩ : Fin 2048) = old hW r from Fin.ext (Nat.zero_add _)]

theorem own_values (r : Fin 256) (a : Fin 2) (d : Fin 64) : (ownArg m c t hW).v (ix2 r (lane a d)) = valuesAt m c t a (pos hW r) d :=
  (load_rows (hs0_2 t) (iblk m c 2 t) hW r (lane a d)).trans (iblk_v m c t (pos hW r) a d)

theorem bulk_values (r : Fin W) (a : Fin 2) (d : Fin 64) : bulkV m c t hW (ix2 r (lane a d)) = valuesAt m c t a (old hW r) d := by
  refine (load_rows (hs0_2 t) (iblk m c 2 t) (inb_bulk hW) r (lane a d)).trans ?_
  rw [iblk_v, show (⟨0 + r.val, by omega⟩ : Fin 2048) = old hW r from Fin.ext (Nat.zero_add _)]
end

/-! ## What it stores -/

/-- The tile of the result that point `t` stores. -/
def Done : Prop := ∀ (W : ℕ) (hW : W + 256 ≤ 2048), 256 * (t.val % 8) = W → ∀ r a d,
  (outsAt0 m c t.val t.isLt : FVec Ideal S256x128 .bf16) (ix2 r (lane a d)) = (keysAt m c t a).out (valuesAt m c t a) (pos hW r) d

theorem first_done (h : IsFirst m c t) (ht : t.val % 8 = 0) : Done m c t := fun W hW hm r a d => by
  obtain rfl : W = 0 := by omega
  unfold IsFirst at h
  rw [h]
  exact (tile_stored VO0_3 _ _ r (lane a d)).trans (outO₀_at _ (scans m c t first_le hm) (valuesAt m c t) (own_values m c t first_le) r a d)

theorem tile_done {W : ℕ} (n : ℕ) (hn : 128 * n ≤ W) (hnW : 128 * n = W) (hW : W + 256 ≤ 2048) (ht : 256 * (t.val % 8) = W)
    (h : IsTile m c t n hn hW) : Done m c t := fun W' hW' hm r a d => by
  obtain rfl : W' = W := by omega
  unfold IsTile at h
  rw [h]
  exact (tile_stored VO0_3 _ _ r (lane a d)).trans
    (outO_at _ n hn hnW hW (scans m c t hW ht) (valuesAt m c t) (own_values m c t hW) (bulk_values m c t hW) r a d)

theorem all_done : Done m c t := by
  have h8 : t.val % 8 < 8 := Nat.mod_lt _ (by omega)
  by_cases h0 : t.val % 8 = 0
  · exact first_done m c t (tile_A m c t h0) h0
  by_cases h1 : t.val % 8 = 1
  · exact tile_done m c t 2 _ rfl _ (by rw [h1]) (tile_B m c t h1)
  by_cases h2 : t.val % 8 = 2
  · exact tile_done m c t 4 _ rfl _ (by rw [h2]) (tile_C m c t h2)
  by_cases h3 : t.val % 8 = 3
  · exact tile_done m c t 6 _ rfl _ (by rw [h3]) (tile_D m c t h3)
  by_cases h4 : t.val % 8 = 4
  · exact tile_done m c t 8 _ rfl _ (by rw [h4]) (tile_E m c t h4)
  by_cases h5 : t.val % 8 = 5
  · exact tile_done m c t 10 _ rfl _ (by rw [h5]) (tile_F m c t h5)
  by_cases h6 : t.val % 8 = 6
  · exact tile_done m c t 12 _ rfl _ (by rw [h6]) (tile_G m c t h6)
  have h7 : t.val % 8 = 7 := by omega
  exact tile_done m c t 14 _ rfl _ (by rw [h7]) (tile_H m c t h7)

end

/-! ## The array -/

variable (m : (ℓ : Loc nD τ sig) → Buf (Elt Ideal) ℓ) (c : Dev nD)

/-- The attention of all heads is what the grid leaves. -/
theorem array : (dats m 0 c).arrAt 3 cfg0.N = attended (argX m c) := by
  refine (dats m 0 c).arrAt_eq_of_covers 3 _ (by decide +kernel) fun t _ y => ?_
  blk_simp
  rw [after0_3]
  obtain ⟨r, l, rfl⟩ : ∃ (r : Fin 256) (l : Fin 128), y = ix2 r l := ⟨y 0, y 1, eq_ix2 y⟩
  obtain ⟨a, d, rfl⟩ := exists_lane l
  have hW : 256 * (t.val % 8) + 256 ≤ 2048 := by omega
  have e : (win0_3.blk t).view.emb (ix2 r (lane a d)) = ix2 (row (seq t) (pos hW r)) (col (hd t a) d) := funext fun x => Fin.ext (by
    match x with
    | ⟨0, _⟩ =>
      show win0_3.index t 0 * 256 + 1 * r.val = t.val / 32 * 2048 + (256 * (t.val % 8) + r.val)
      rw [index_3]; show (t.val / 32 * 8 + t.val % 8) * 256 + 1 * r.val = _; omega
    | ⟨1, _⟩ =>
      show win0_3.index t 1 * 128 + 1 * (64 * a.val + d.val) = (2 * (t.val / 8 % 4) + a.val) * 64 + d.val
      rw [index_3]; show (t.val / 8 % 4) * 128 + 1 * (64 * a.val + d.val) = _; omega)
  refine Eq.trans ?_ (congrArg (attended (argX m c)) e).symm
  exact (all_done m c t _ hW rfl r a d).trans (ofRows_apply (fun b h => (keysOf (argX m c) b h).out (valuesOf (argX m c) b h)) (seq t) (hd t a) (pos hW r) d).symm

end Cert.StickBreaking.Attend

end
-- ==== Proof.SbAttnRef.lean ====
/-
  What the reference of the attention computes: head by head, the values weighted by the stick-breaking weights. Nothing is
  asked of the arguments.
-/
module

public import proofs.«01_k».proof.Proof.Reference
public import proofs.«01_k».proof.Proof.Gen.SbAttnRefIdeal.Read

@[expose] public section

set_option maxRecDepth 16384

noncomputable section

namespace Cert.StickBreaking.AttendRef

open Idealize.ShloMosaic Idealize.ShloMosaic.ValueIdx
open Cert.SbAttnRefIdeal Cert.SbAttnRefIdeal.Read Cert.StickBreaking.Ref
open scoped BigOperators

variable (x : Proj) (b : Fin 2) (h : Fin 8) (t s : Fin 2048) (d : Fin 64)

theorem q_at : val_main_v1 (F := Ideal) x (ix4 b t h d) = (keysOf x b h).Q t d := by
  rw [val_main_v1_apply, val_main_v0_apply, idx_heads b h t d (idx_main_v1 (ix4 b t h d)) rfl rfl]
  refine congrArg x (funext fun a => ?_)
  match a with
  | ⟨0, _⟩ => rfl
  | ⟨1, _⟩ => rfl

theorem k_at : val_main_v3 (F := Ideal) x (ix4 b t h d) = (keysOf x b h).K t d := by
  rw [val_main_v3_apply, val_main_v2_apply, idx_heads b h t d (idx_main_v3 (ix4 b t h d)) rfl rfl]
  refine congrArg x (funext fun a => ?_)
  match a with
  | ⟨0, _⟩ => rfl
  | ⟨1, _⟩ => rfl

theorem v_at : val_main_v5 (F := Ideal) x (ix4 b t h d) = valuesOf x b h t d := by
  rw [val_main_v5_apply, val_main_v4_apply, idx_heads b h t d (idx_main_v5 (ix4 b t h d)) rfl rfl]
  refine congrArg x (funext fun a => ?_)
  match a with
  | ⟨0, _⟩ => rfl
  | ⟨1, _⟩ => rfl

theorem z_at : val_main_v8 (F := Ideal) x (ix4 b h t s) = (keysOf x b h).z t s := by
  have e6 : val_main_v6 (F := Ideal) x (ix4 b h t s) = ∑ d, (keysOf x b h).Q t d * (keysOf x b h).K s d := by
    rw [val_main_v6_apply]
    refine Finset.sum_congr rfl fun d _ => ?_
    have el : lidx_main_v6 (ix4 b h t s) d = ix4 b t h d := by funext a; fin_cases a <;> rfl
    have er : ridx_main_v6 (ix4 b h t s) d = ix4 b s h d := by funext a; fin_cases a <;> rfl
    rw [el, er, q_at, k_at]
  rw [val_main_v8_apply, e6, val_main_v7_apply, val_main_cst_apply]
  exact congrArg (fun e : EReal => (∑ d, (keysOf x b h).Q t d * (keysOf x b h).K s d) * e) ofBits_eighth

theorem negneg_at : val_main_call0_v0 (F := Ideal) x (ix4 b h t s) = (keysOf x b h).z t s := by
  rw [val_main_call0_v0_apply, val_main_v12_apply, z_at]
  exact neg_neg ((keysOf x b h).z t s)

theorem neg_at : val_main_call3_v0 (F := Ideal) x (ix4 b h t s) = -(keysOf x b h).z t s := by
  rw [val_main_call3_v0_apply, z_at]
  rfl

theorem left_at : val_main_v13 (F := Ideal) x (ix4 b h t s) = -softp ((keysOf x b h).z t s) := by
  simp only [val_main_v13_apply, val_main_call0_v1_apply, val_main_call0_call0_v4_apply, val_main_call0_call0_v6_apply, val_main_call0_call0_v11_apply,
    val_main_call0_call0_v1_apply, val_main_call0_call0_v10_apply, val_main_call0_call0_v9_apply, val_main_call0_call0_v8_apply,
    val_main_call0_call0_v7_apply, val_main_call0_call0_v3_apply, val_main_call0_call0_v0_apply, val_main_call0_call0_v2_apply,
    val_main_call0_call0_v5_apply, val_main_call0_call0_cst_apply, negneg_at]
  exact congrArg Neg.neg (softp_scalar _)

theorem took_at : val_main_v17 (F := Ideal) x (ix4 b h t s) = -softp (-(keysOf x b h).z t s) := by
  simp only [val_main_v17_apply, val_main_call3_v1_apply, val_main_call3_call0_v4_apply, val_main_call3_call0_v6_apply, val_main_call3_call0_v11_apply,
    val_main_call3_call0_v1_apply, val_main_call3_call0_v10_apply, val_main_call3_call0_v9_apply, val_main_call3_call0_v8_apply,
    val_main_call3_call0_v7_apply, val_main_call3_call0_v3_apply, val_main_call3_call0_v0_apply, val_main_call3_call0_v2_apply,
    val_main_call3_call0_v5_apply, val_main_call3_call0_cst_apply, neg_at]
  exact congrArg Neg.neg (softp_scalar _)

theorem mask_at : val_main_v11 (F := Ideal) (ix2 t s) = if s < t then 1 else 0 := by
  rw [val_main_v11_apply, val_main_v9_apply, val_main_v10_apply]
  exact slt_scalar t s

theorem masked_at : val_main_v14 (F := Ideal) x (ix4 b h t s) = if s < t then -softp ((keysOf x b h).z t s) else 0 := by
  have e : idx_main_call1_v1 (ix4 b h t s) = ix2 t s := by funext a; fin_cases a <;> rfl
  rw [val_main_v14_apply, val_main_call1_v1_apply, e, mask_at, left_at]
  exact choose_scalar _ _ _ Ideal.ofBits_zero_f32

theorem from_at : val_main_v15 (F := Ideal) x (ix4 b h t s)
    = ∑ j : Fin 2048, if s ≤ j then (if j < t then -softp ((keysOf x b h).z t j) else 0) else 0 := by
  unfold val_main_v15 Host.reduceWindowAdd
  rw [Ideal.hostReduceWindowAdd_def, windowSum_apply 0 2047 (val_main_v14 (F := Ideal) x) _
    (show val_main_call2_v0 (F := Ideal) (Shape.Idx.first Gen.h_S_) = 0 from Ideal.ofBits_zero_f32) _ b h t s]
  refine (suffixSum (fun j => val_main_v14 (F := Ideal) x (ix4 b h t j)) s).trans ?_
  exact Finset.sum_congr rfl fun j _ => by rw [masked_at]

theorem att_at : val_main_v20 (F := Ideal) x (ix4 b h t s) = (keysOf x b h).att t s := by
  have e : idx_main_call4_v1 (ix4 b h t s) = ix2 t s := by funext a; fin_cases a <;> rfl
  rw [val_main_v20_apply, val_main_call4_v1_apply, e, mask_at, val_main_v19_apply, val_main_v18_apply, val_main_v16_apply, took_at, from_at, masked_at]
  exact (choose_scalar _ _ _ Ideal.ofBits_zero_f32).trans ((keysOf x b h).att_eq t s)

/-- The reference's result. -/
theorem read : val_main_v24 (F := Ideal) x = attended x := by
  funext i
  obtain ⟨b, h, t, d, rfl⟩ := exists_row_col i
  rw [val_main_v24_apply, val_main_v23_apply, idx_rows b h t d (idx_main_v23 (ix2 (row b t) (col h d))) rfl rfl rfl rfl, val_main_v22_apply]
  have e : idx_main_v22 (ix4 b t h d) = ix4 b h d t := by funext a; fin_cases a <;> rfl
  rw [e, val_main_v21_apply]
  refine Eq.trans (Finset.sum_congr rfl fun s _ => ?_) (ofRows_apply (fun b h => (keysOf x b h).out (valuesOf x b h)) b h t d).symm
  have el : lidx_main_v21 (ix4 b h d t) s = ix4 b s h d := by funext a; fin_cases a <;> rfl
  have er : ridx_main_v21 (ix4 b h d t) s = ix4 b h t s := by funext a; fin_cases a <;> rfl
  rw [el, er, v_at, att_at, mul_comm]

end Cert.StickBreaking.AttendRef

end
-- ==== Proof.SbAttnClaims.lean ====
/-
  The claims about stick-breaking attention, forward: kernel and reference end with the same array, whatever the arguments.
-/
module

public import proofs.«01_k».proof.Defs
public import proofs.«01_k».proof.Proof.SbAttnForward
public import proofs.«01_k».proof.Proof.SbAttnRef
public import proofs.«01_k».proof.Proof.Gen.SbAttnRefIdeal.Run
public import Idealize.ShloMosaic.Adequacy
public import Idealize.ShloMosaic.Init

@[expose] public section

noncomputable section

namespace Cert.StickBreaking

open Idealize.ShloMosaic Idealize.SL.Sem

/-- Kernel and reference both end with the attention of all heads. -/
theorem attend : Cert.algebraic_SbAttnIdeal_SbAttnRefIdeal := by
  intro m g m' g' _ hargs
  refine ⟨fun c => attended (Attend.argX m c),
    (θ_run _ _ _).mono (fun r h c => ⟨(h c).1.trans (Attend.array m c), (h c).2⟩) (Cert.SbAttnIdeal.Value.run_blocks (F := Ideal) m g),
    (θ_run _ _ _).mono (fun r h c => ⟨(h c).1.trans ?_, (h c).2⟩) (Cert.SbAttnRefIdeal.Value.run (F := Ideal) m' g')⟩
  refine (Cert.SbAttnRefIdeal.Read.val_main_v24_eq _ _).trans ?_
  rw [hargs c]
  exact AttendRef.read _

theorem attend_frame : Cert.quiescent_SbAttnRefIdeal := fun m g _ =>
  (θ_run _ _ _).mono (fun r h => ⟨fun c => (h c).2, sem_eq_zero_of_no_sems (by decide) r.2⟩)
    (Cert.SbAttnRefIdeal.Value.run (F := Ideal) m g)

end Cert.StickBreaking

end
-- ==== Proof.SoftTile.lean ====
/-
  What one point of the forgetting attention's grid computes, written once for every number of keys before the tile: a tile
  of 256 queries against the `W` keys before it (the bulk) and its own 256 (the diagonal, masked), a softmax over both, with
  a bias of the query added to each score and one of the key taken off.
-/
module

public import proofs.«01_k».proof.Proof.Tile

@[expose] public section

noncomputable section

namespace Cert.Forgetting

open Idealize.ShloMosaic Idealize.ShloMosaic.TcCoe
open Cert.KernelIdeal Cert.KernelIdeal.Gen Cert.StickBreaking.Tile

variable {F : FTy → Type} [FloatOps F]

/-! ## Shapes -/

theorem spreads_col (W : ℕ) : (Mat 256 1).Broadcasts (Mat 256 W) :=
  ⟨le_rfl, fun a => by
    match a with
    | ⟨0, _⟩ => exact .inr fun _ => rfl
    | ⟨1, _⟩ => exact .inl rfl⟩

theorem spreads_row (W : ℕ) : (Mat 1 W).Broadcasts (Mat 256 W) :=
  ⟨le_rfl, fun a => by
    match a with
    | ⟨0, _⟩ => exact .inl rfl
    | ⟨1, _⟩ => exact .inr fun _ => rfl⟩

theorem drops_row (W : ℕ) : (Mat 256 W).Reduces [1] S256 :=
  ⟨rfl, Nat.one_pos, fun b => by
    match b with
    | ⟨0, _⟩ => rfl⟩

theorem casts_self (s : Shape) : s.ShapeCasts s := rfl

/-! ## The pieces of one head -/

/-- The scores with the biases. -/
def biased {W : ℕ} (z : FVec F (Mat 256 W) .f32) (f : FVec F (Mat 256 1) .f32) (g : FVec F (Mat 1 W) .f32) : FVec F (Mat 256 W) .f32 :=
  subf (addf z (broadcastTo (Mat 256 W) (shapeCast (Mat 256 1) f (casts_self _)) (spreads_col W)))
    (broadcastTo (Mat 256 W) (shapeCast (Mat 1 W) g (casts_self _)) (spreads_row W))
/-- The diagonal's mask: row at or after column. -/
def upto : IVec (Mat 256 256) 1 :=
  cmpi .sge (subi (iota .tc (Mat 256 256) 32 [0] Facts₀.iota_S256x256_d0_w32) (iota .tc (Mat 256 256) 32 [1] Facts₀.iota_S256x256_d1_w32))
    (broadcast (Mat 256 256) 0#32)
/-- A matrix's entries where the mask holds, minus infinity elsewhere. -/
def hidden (x : FVec F (Mat 256 256) .f32) : FVec F (Mat 256 256) .f32 :=
  select upto x (broadcast (Mat 256 256) (Scalar.ofBits .f32 0xFF800000#32))
/-- Each row's largest entry. -/
def rowMax {W : ℕ} (x : FVec F (Mat 256 W) .f32) : FVec F (Mat 256 1) .f32 :=
  shapeCast (Mat 256 1) (multiReduction .maximumf [1] S256 x 0xFF800000#32 (drops_row W) (.inl rfl) rfl) Facts₀.shapeCasts_S256_S256x1
/-- Each row's sum. -/
def rowSum {W : ℕ} (x : FVec F (Mat 256 W) .f32) : FVec F (Mat 256 1) .f32 :=
  shapeCast (Mat 256 1) (multiReduction .add [1] S256 x 0x00000000#32 (drops_row W) (.inl rfl) rfl) Facts₀.shapeCasts_S256_S256x1
/-- A number per row, along the row. -/
def along (W : ℕ) (x : FVec F (Mat 256 1) .f32) : FVec F (Mat 256 W) .f32 := broadcastTo (Mat 256 W) x (spreads_col W)
/-- The exponentials of the scores less a number per row. -/
def powers {W : ℕ} (x : FVec F (Mat 256 W) .f32) (m : FVec F (Mat 256 1) .f32) : FVec F (Mat 256 W) .f32 := exp (subf x (along W m))

section Head
variable {W : ℕ} (xd : FVec F (Mat 256 256) .f32) (xb : FVec F (Mat 256 W) .f32) (vd : FVec F (Mat 256 128) .bf16) (vb : FVec F (Mat W 128) .bf16)

/-- The largest score, with a bulk. -/
def maxAll : FVec F (Mat 256 1) .f32 := maximumf (rowMax xb) (rowMax xd)
/-- The sum of the exponentials, without and with a bulk. -/
def denOwn (m : FVec F (Mat 256 1) .f32) : FVec F (Mat 256 1) .f32 := addf zeroCarry (rowSum (powers xd m))
def denAll (m : FVec F (Mat 256 1) .f32) : FVec F (Mat 256 1) .f32 := addf (addf zeroCarry (rowSum (powers xb m))) (rowSum (powers xd m))
/-- The weighted values, without and with a bulk. -/
def meanOwn (m : FVec F (Mat 256 1) .f32) : FVec F (Mat 256 128) .f32 :=
  divf (addf zeroRows (dotNN (half (powers xd m)) vd)) (along 128 (denOwn xd m))
def meanAll (m : FVec F (Mat 256 1) .f32) : FVec F (Mat 256 128) .f32 :=
  divf (addf (addf zeroRows (dotNN (half (powers xb m)) vb)) (dotNN (half (powers xd m)) vd)) (along 128 (denAll xd xb m))
/-- The logarithm of the sum of the exponentials of the scores. -/
def logSum (m den : FVec F (Mat 256 1) .f32) : FVec F (Mat 256 1) .f32 := addf m (log den)
end Head

/-! ## Both heads of a pair -/

/-- What a point reads of its own positions: the queries (scaled), keys and values, and the heads' biases. -/
structure Own (F : FTy → Type) where
  q : FVec F (Mat 256 128) .bf16
  k : FVec F (Mat 256 128) .bf16
  v : FVec F (Mat 256 128) .bf16
  f : Fin 2 → FVec F (Mat 256 1) .f32
  g : Fin 2 → FVec F (Mat 1 256) .f32
/-- What it reads of the positions before. -/
structure Bulk (F : FTy → Type) (W : ℕ) where
  k : FVec F (Mat W 128) .bf16
  v : FVec F (Mat W 128) .bf16
  g : Fin 2 → FVec F (Mat 1 W) .f32

section Pair
variable {W : ℕ} (T : Own F) (B : Bulk F W)

/-- A head's scores on the diagonal and in the bulk. -/
def xd (lane : IVec (Mat 1 128) 1) (a : Fin 2) : FVec F (Mat 256 256) .f32 := hidden (biased (scores (only lane T.q) T.k) (T.f a) (T.g a))
def xb (lane : IVec (Mat 1 128) 1) (a : Fin 2) : FVec F (Mat 256 W) .f32 := biased (scores (only lane T.q) B.k) (T.f a) (B.g a)
/-- A head's largest scores. -/
def mOwn (lane : IVec (Mat 1 128) 1) (a : Fin 2) : FVec F (Mat 256 1) .f32 := rowMax (xd T lane a)
def mAll (lane : IVec (Mat 1 128) 1) (a : Fin 2) : FVec F (Mat 256 1) .f32 := maxAll (xd T lane a) (xb T B lane a)
/-- A head's results. -/
def oOwn (lane : IVec (Mat 1 128) 1) (a : Fin 2) : FVec F (Mat 256 128) .f32 := meanOwn (xd T lane a) T.v (mOwn T lane a)
def oAll (lane : IVec (Mat 1 128) 1) (a : Fin 2) : FVec F (Mat 256 128) .f32 := meanAll (xd T lane a) (xb T B lane a) T.v B.v (mAll T B lane a)
def lOwn (lane : IVec (Mat 1 128) 1) (a : Fin 2) : FVec F (Mat 256 1) .f32 := logSum (mOwn T lane a) (denOwn (xd T lane a) (mOwn T lane a))
def lAll (lane : IVec (Mat 1 128) 1) (a : Fin 2) : FVec F (Mat 256 1) .f32 :=
  logSum (mAll T B lane a) (denAll (xd T lane a) (xb T B lane a) (mAll T B lane a))
/-- A number per row of each head, along the head's lanes. -/
def perHead (x y : FVec F (Mat 256 1) .f32) : FVec F (Mat 256 128) .f32 :=
  byLane laneA Facts₀.broadcasts_S1x128_S256x128 (along 128 (shapeCast (Mat 256 1) x (casts_self _))) (along 128 (shapeCast (Mat 256 1) y (casts_self _)))
/-- The tiles a point stores, without and with a bulk. -/
def outOwn : FVec F (Mat 256 128) .f32 := byLane laneA Facts₀.broadcasts_S1x128_S256x128 (oOwn T laneA 0) (oOwn T laneB 1)
def outAll : FVec F (Mat 256 128) .f32 := byLane laneA Facts₀.broadcasts_S1x128_S256x128 (oAll T B laneA 0) (oAll T B laneB 1)
def lseOwn : FVec F (Mat 256 128) .f32 := perHead (lOwn T laneA 0) (lOwn T laneB 1)
def lseAll : FVec F (Mat 256 128) .f32 := perHead (lAll T B laneA 0) (lAll T B laneB 1)
end Pair

/-! ## Loads -/

/-- The column of a tile that holds head `a`'s biases. -/
theorem inb_bias (a : Fin 2) : ∀ x, (![0, 64 * a.val] : Fin 2 → ℕ) x + (Mat 256 1).size x ≤ S256x128.size x := fun x => by
  have := a.isLt
  match x with
  | ⟨0, _⟩ => show 0 + 256 ≤ 256; omega
  | ⟨1, _⟩ => show 64 * a.val + 1 ≤ 128; omega
def biasRect (a : Fin 2) : Rect S256x128 := Rect.unit (s := S256x128) ![0, 64 * a.val] (Mat 256 1).size (inb_bias a)

/-- Keys `st … st + K` of the row that holds head `a`'s biases. -/
theorem inb_keys (a : Fin 2) {st K : ℕ} (h : st + K ≤ 2048) :
    ∀ x, (![a.val, st] : Fin 2 → ℕ) x + (Mat 1 K).size x ≤ (Mat 8 2048).size x := fun x => by
  have := a.isLt
  match x with
  | ⟨0, _⟩ => show a.val + 1 ≤ 8; omega
  | ⟨1, _⟩ => exact h
def keyRect (a : Fin 2) (st K : ℕ) (h : st + K ≤ 2048) : Rect (Mat 8 2048) := Rect.unit (s := Mat 8 2048) ![a.val, st] (Mat 1 K).size (inb_keys a h)

/-- A factor of one eighth. -/
def eighthHalf (x : FVec F (Mat 256 128) .bf16) : FVec F (Mat 256 128) .bf16 := mulf x (broadcast (Mat 256 128) (Scalar.ofBits .bf16 0x3E00#16))

end Cert.Forgetting

end
-- ==== Proof.Softmax.lean ====
/-
  Forgetting attention over the real numbers: the scores of a head, the exponentials of the scores less any number, and that
  the weights and the logarithm of the sum do not depend on that number. Then both results as arrays.
-/
module

public import proofs.«01_k».proof.Proof.Weights

@[expose] public section

noncomputable section

namespace Cert.Forgetting

open Idealize.ShloMosaic Idealize.ShloMosaic.ValueIdx Cert.StickBreaking
open scoped BigOperators

/-- The largest of some values, none of them infinite above and one of them not infinite below, is a real number. -/
theorem fold_real {ι : Type*} (s : Finset ι) (f : ι → EReal) (h : ∀ i ∈ s, f i ≠ ⊤) {j : ι} (hj : j ∈ s) (hb : f j ≠ ⊥) :
    ∃ μ : ℝ, s.fold max ⊥ f = (μ : EReal) := by
  have h1 : s.fold max ⊥ f < ⊤ := (Finset.fold_max_lt _).mpr ⟨bot_lt_top, fun i hi => lt_top_iff_ne_top.mpr (h i hi)⟩
  have h2 : ⊥ < s.fold max ⊥ f := (Finset.lt_fold_max _).mpr (.inr ⟨j, hj, bot_lt_iff_ne_bot.mpr hb⟩)
  exact ⟨_, (EReal.coe_toReal h1.ne h2.ne').symm⟩

/-- The largest of some values, none infinite above, is not infinite above. -/
theorem fold_ne_top {ι : Type*} (s : Finset ι) (f : ι → EReal) (h : ∀ i ∈ s, f i ≠ ⊤) : s.fold max ⊥ f ≠ ⊤ :=
  ((Finset.fold_max_lt _).mpr ⟨bot_lt_top, fun i hi => lt_top_iff_ne_top.mpr (h i hi)⟩).ne

/-- The constant minus infinity. -/
theorem ofBits_neg_inf : Ideal.ofBits .f32 0xFF800000#32 = ⊥ := by simp [Ideal.ofBits, Ideal.ieee]

/-- One head: queries, keys and the biases. -/
structure Soft where
  Q : Fin 2048 → Fin 64 → ℝ
  K : Fin 2048 → Fin 64 → ℝ
  f : Fin 2048 → ℝ

namespace Soft
variable (A : Soft) (μ : ℝ) (t s : Fin 2048)

/-- The score of key `s` for query `t`. -/
def x : ℝ := (∑ d, A.Q t d * A.K s d) * (1 / 8) + A.f t - A.f s
/-- The same, minus infinity at later keys. -/
def e : EReal := if s ≤ t then ((A.x t s : ℝ) : EReal) else ⊥
/-- The exponential of the score less `μ`, zero at later keys. -/
def p : ℝ := if s ≤ t then Real.exp (A.x t s - μ) else 0
/-- The sum of the exponentials. -/
def den : ℝ := ∑ s, A.p μ t s
/-- The weighted values. -/
def out (V : Fin 2048 → Fin 64 → EReal) (d : Fin 64) : EReal := ∑ s, ((A.p 0 t s * (1 / A.den 0 t) : ℝ) : EReal) * V s d
/-- The logarithm of the sum of the exponentials of the scores. -/
def lse : ℝ := Real.log (A.den 0 t)

theorem e_ne_top : A.e t s ≠ ⊤ := by
  unfold e; split
  · exact EReal.coe_ne_top _
  · exact bot_ne_top

theorem e_self : A.e t t ≠ ⊥ := by
  unfold e; rw [if_pos le_rfl]; exact EReal.coe_ne_bot _

theorem power : Ideal.exp (A.e t s - (μ : EReal)) = ((A.p μ t s : ℝ) : EReal) := by
  unfold e p
  split
  · rw [← EReal.coe_sub, Ideal.exp_coe]
  · rw [EReal.bot_sub]; rfl

theorem p_nonneg : 0 ≤ A.p μ t s := by
  unfold p; split
  · exact (Real.exp_pos _).le
  · exact le_rfl

theorem den_pos : 0 < A.den μ t :=
  Finset.sum_pos' (fun s _ => A.p_nonneg μ t s) ⟨t, Finset.mem_univ _, by unfold p; rw [if_pos le_rfl]; exact Real.exp_pos _⟩

theorem p_shift : A.p μ t s = A.p 0 t s * Real.exp (-μ) := by
  unfold p; split
  · rw [← Real.exp_add]; congr 1; ring
  · rw [zero_mul]

theorem den_shift : A.den μ t = A.den 0 t * Real.exp (-μ) := by
  unfold den
  rw [Finset.sum_mul]
  exact Finset.sum_congr rfl fun s _ => A.p_shift μ t s

theorem weight : A.p μ t s * (1 / A.den μ t) = A.p 0 t s * (1 / A.den 0 t) := by
  have h := (A.den_pos 0 t).ne'
  have h' := (Real.exp_pos (-μ)).ne'
  rw [A.p_shift, A.den_shift]
  field_simp

theorem mean (V : Fin 2048 → Fin 64 → EReal) (d : Fin 64) :
    Ideal.div (∑ s, ((A.p μ t s : ℝ) : EReal) * V s d) ((A.den μ t : ℝ) : EReal) = A.out t V d := by
  rw [Ideal.div_coe (A.den_pos μ t).ne', ← sum_scaled _ _ _ (by have := A.den_pos μ t; positivity)]
  exact Finset.sum_congr rfl fun s _ => by rw [← EReal.coe_mul, A.weight]

theorem share (v : EReal) : v * Ideal.div ((A.p μ t s : ℝ) : EReal) ((A.den μ t : ℝ) : EReal) = ((A.p 0 t s * (1 / A.den 0 t) : ℝ) : EReal) * v := by
  rw [Ideal.div_coe (A.den_pos μ t).ne', ← EReal.coe_mul, A.weight, mul_comm]

theorem log_den : (μ : EReal) + Ideal.log ((A.den μ t : ℝ) : EReal) = ((A.lse t : ℝ) : EReal) := by
  rw [Ideal.log_coe, if_neg (not_le.mpr (A.den_pos μ t)), ← EReal.coe_add, lse, A.den_shift,
    Real.log_mul (A.den_pos 0 t).ne' (Real.exp_pos _).ne', Real.log_exp]
  congr 1; ring

end Soft

/-! ## The arrays -/

/-- The biases of all positions: a column per head. -/
abbrev Biases := (⟨2, ![4096, 128]⟩ : Shape).Idx → EReal

/-- A head's column of biases. -/
def bcol (h : Fin 8) : Fin 128 := ⟨h.val, by have := h.isLt; omega⟩

/-- Head `h` of sequence `b`. -/
def softOf (q k : Rows) (f : Biases) (b : Fin 2) (h : Fin 8) : Soft where
  Q t d := (q (ix2 (row b t) (col h d))).toReal
  K t d := (k (ix2 (row b t) (col h d))).toReal
  f t := (f (ix2 (row b t) (bcol h))).toReal
/-- Its values, among the projections. -/
def foxValues (x : Proj) (b : Fin 2) (h : Fin 8) (s : Fin 2048) (d : Fin 64) : EReal :=
  x (ix2 (row b s) (⟨1024 + (col h d).val, by have := (col h d).isLt; omega⟩ : Fin 8704))

/-- Every query, key and bias is a real number. -/
structure FiniteScores (q k : Rows) (f : Biases) : Prop where
  q : ∀ r c, ((q (ix2 r c)).toReal : EReal) = q (ix2 r c)
  k : ∀ r c, ((k (ix2 r c)).toReal : EReal) = k (ix2 r c)
  f : ∀ r h, ((f (ix2 r (bcol h))).toReal : EReal) = f (ix2 r (bcol h))

/-- The attention of all heads. -/
def foxOut (q k : Rows) (x : Proj) (f : Biases) : Rows := ofRows fun b h t d => (softOf q k f b h).out t (foxValues x b h) d
/-- The logarithms of the sums, along each head's features. -/
def foxLse (q k : Rows) (f : Biases) : Rows := ofRows fun b h t _ => (((softOf q k f b h).lse t : ℝ) : EReal)

end Cert.Forgetting

end
-- ==== Proof.SoftTileValue.lean ====
/-
  What the text of SoftTile computes, over the extended reals and for every number of keys before the tile: the attention of
  both heads at the tile's positions, and the logarithms of their sums, where queries, keys and biases are real numbers.
-/
module

public import proofs.«01_k».proof.Proof.SoftTile
public import proofs.«01_k».proof.Proof.Softmax
public import proofs.«01_k».proof.Proof.Pair

@[expose] public section

set_option maxRecDepth 16384

noncomputable section

namespace Cert.Forgetting

open Idealize.ShloMosaic Idealize.ShloMosaic.ValueIdx Idealize.ShloMosaic.TcCoe
open Cert.KernelIdeal Cert.KernelIdeal.Gen Cert.StickBreaking Cert.StickBreaking.Tile
open scoped BigOperators

/-! ## The pieces at one index -/

theorem along_apply {W : ℕ} (x : FVec Ideal (Mat 256 1) .f32) (h : (Mat 256 1).Broadcasts (Mat 256 W)) (r : Fin 256) (c : Fin W) :
    broadcastTo (Mat 256 W) x h (ix2 r c) = x (ix2 r (0 : Fin 1)) :=
  broadcastTo_apply x h (ix2 r c) (ix2 r (0 : Fin 1)) fun a => by
    match a with
    | ⟨0, _⟩ => rfl
    | ⟨1, _⟩ => rfl

theorem biased_apply {W : ℕ} (z : FVec Ideal (Mat 256 W) .f32) (f : FVec Ideal (Mat 256 1) .f32) (g : FVec Ideal (Mat 1 W) .f32) (r : Fin 256) (c : Fin W) :
    biased z f g (ix2 r c) = z (ix2 r c) + f (ix2 r (0 : Fin 1)) - g (ix2 (0 : Fin 1) c) := by
  unfold biased
  rw [subf_apply, addf_apply, shapeCast_self, shapeCast_self, along_apply]
  refine congrArg (z (ix2 r c) + f (ix2 r (0 : Fin 1)) - ·) (broadcastTo_apply g (spreads_row W) (ix2 r c) (ix2 (0 : Fin 1) c) fun a => ?_)
  match a with
  | ⟨0, _⟩ => rfl
  | ⟨1, _⟩ =>
    show c.val = if W = 1 then 0 else c.val
    split
    · have := c.isLt; omega
    · rfl

theorem upto_apply (r c : Fin 256) : upto (ix2 r c) = if c ≤ r then 1 else 0 := by
  have hr := r.isLt
  have hc := c.isLt
  show BitVec.ofBool ((0#32).sle (BitVec.ofNat 32 (0 * 256 + r.val) - BitVec.ofNat 32 (0 * 256 + c.val))) = _
  rw [Nat.zero_mul, Nat.zero_add, Nat.zero_add, BitVec.sle_eq_decide]
  have e : (BitVec.ofNat 32 r.val - BitVec.ofNat 32 c.val).toInt = (r.val : ℤ) - c.val := by
    rw [BitVec.toInt_sub, toInt_small (by omega), toInt_small (by omega)]
    exact Int.bmod_eq_of_le (by omega) (by omega)
  rw [e]
  by_cases h : c ≤ r
  · rw [if_pos h, decide_eq_true (by have : c.val ≤ r.val := h; show (0 : ℤ) ≤ _; omega)]; rfl
  · rw [if_neg h, decide_eq_false (by have : ¬c.val ≤ r.val := h; show ¬(0 : ℤ) ≤ _; omega)]; rfl

theorem hidden_apply (x : FVec Ideal (Mat 256 256) .f32) (r c : Fin 256) : hidden x (ix2 r c) = if c ≤ r then x (ix2 r c) else ⊥ := by
  unfold hidden
  rw [select_apply, upto_apply]
  split
  · exact select_one _ _
  · exact (select_zero _ _).trans ofBits_neg_inf

theorem rowMax_apply {W : ℕ} (x : FVec Ideal (Mat 256 W) .f32) (r : Fin 256) :
    rowMax x (ix2 r (0 : Fin 1)) = (Finset.univ : Finset (Fin W)).fold max ⊥ fun c => x (ix2 r c) := by
  unfold rowMax
  rw [shapeCast_apply _ Facts₀.shapeCasts_S256_S256x1 (ix2 r (0 : Fin 1)) (ix1 r) (by
    rw [Shape.rowMajor_val_two, Shape.rowMajor_val_one]; show r.val = r.val * 1 + 0; omega)]
  refine (Ideal.multiReduction_maximumf_single x _ (drops_row W) _ _ (ix1 r)).trans ?_
  have e : (x ∘ (drops_row W).lift (ix1 r)) = fun c : Fin W => x (ix2 r c) := funext fun c => congrArg x (by
    funext a
    match a with
    | ⟨0, _⟩ => rfl
    | ⟨1, _⟩ => rfl)
  exact (congrArg (fun f => Finset.fold max (Ideal.ofBits .f32 0xFF800000#32) f (Finset.univ : Finset (Fin W))) e).trans
    (congrArg (fun z => Finset.fold max z _ _) ofBits_neg_inf)

theorem rowSum_apply {W : ℕ} (x : FVec Ideal (Mat 256 W) .f32) (r : Fin 256) : rowSum x (ix2 r (0 : Fin 1)) = ∑ c : Fin W, x (ix2 r c) := by
  unfold rowSum
  rw [shapeCast_apply _ Facts₀.shapeCasts_S256_S256x1 (ix2 r (0 : Fin 1)) (ix1 r) (by
    rw [Shape.rowMajor_val_two, Shape.rowMajor_val_one]; show r.val = r.val * 1 + 0; omega)]
  refine (Ideal.multiReduction_add_single x _ (drops_row W) _ _ (ix1 r)).trans (Finset.sum_congr rfl fun c _ => congrArg x ?_)
  funext a
  match a with
  | ⟨0, _⟩ => rfl
  | ⟨1, _⟩ => rfl

theorem powers_apply {W : ℕ} (x : FVec Ideal (Mat 256 W) .f32) (m : FVec Ideal (Mat 256 1) .f32) (r : Fin 256) (c : Fin W) :
    powers x m (ix2 r c) = Ideal.exp (x (ix2 r c) - m (ix2 r (0 : Fin 1))) := by
  unfold powers along
  rw [show ∀ y : FVec Ideal (Mat 256 W) .f32, exp y (ix2 r c) = Ideal.exp (y (ix2 r c)) from fun _ => rfl, subf_apply, along_apply]

/-- The larger of a real number and a value not infinite above is real. -/
theorem max_real {x : EReal} (hx : x ≠ ⊤) (μ : ℝ) : ∃ ν : ℝ, max x (μ : EReal) = (ν : EReal) := by
  rcases max_choice x (μ : EReal) with h | h
  · refine ⟨x.toReal, ?_⟩
    rw [h]
    refine (EReal.coe_toReal hx fun hb => ?_).symm
    have : (μ : EReal) ≤ x := h ▸ le_max_right x (μ : EReal)
    rw [hb, le_bot_iff] at this
    exact EReal.coe_ne_bot _ this
  · exact ⟨μ, h⟩

/-! ## One head -/

/-- What a tile reads of a pair of heads: of its own positions, and of those before. -/
structure HoldsOwn {W : ℕ} (hW : W + 256 ≤ 2048) (A : Fin 2 → Soft) (V : Fin 2 → Fin 2048 → Fin 64 → EReal) (T : Own Ideal) : Prop where
  q : ∀ r a d, T.q (ix2 r (lane a d)) = (((A a).Q (pos hW r) d * (1 / 8) : ℝ) : EReal)
  k : ∀ c a d, T.k (ix2 c (lane a d)) = (((A a).K (pos hW c) d : ℝ) : EReal)
  v : ∀ c a d, T.v (ix2 c (lane a d)) = V a (pos hW c) d
  f : ∀ r a, T.f a (ix2 r (0 : Fin 1)) = (((A a).f (pos hW r) : ℝ) : EReal)
  g : ∀ c a, T.g a (ix2 (0 : Fin 1) c) = (((A a).f (pos hW c) : ℝ) : EReal)

structure HoldsBulk {W : ℕ} (hW : W + 256 ≤ 2048) (A : Fin 2 → Soft) (V : Fin 2 → Fin 2048 → Fin 64 → EReal) (B : Bulk Ideal W) : Prop where
  k : ∀ c a d, B.k (ix2 c (lane a d)) = (((A a).K (old hW c) d : ℝ) : EReal)
  v : ∀ c a d, B.v (ix2 c (lane a d)) = V a (old hW c) d
  g : ∀ c a, B.g a (ix2 (0 : Fin 1) c) = (((A a).f (old hW c) : ℝ) : EReal)

theorem score_eq (A : Soft) (t s : Fin 2048) :
    ((∑ d, A.Q t d * (1 / 8) * A.K s d : ℝ) : EReal) + ((A.f t : ℝ) : EReal) - ((A.f s : ℝ) : EReal) = ((A.x t s : ℝ) : EReal) := by
  rw [← EReal.coe_add, ← EReal.coe_sub]
  unfold Soft.x
  rw [Finset.sum_mul]
  exact congrArg (fun z : ℝ => ((z + A.f t - A.f s : ℝ) : EReal)) (Finset.sum_congr rfl fun d _ => by ring)

theorem pos_le {W : ℕ} (hW : W + 256 ≤ 2048) (c r : Fin 256) : pos hW c ≤ pos hW r ↔ c ≤ r := by
  rw [Fin.le_def, Fin.le_def]; show W + c.val ≤ W + r.val ↔ _; omega

theorem p_late {W : ℕ} (hW : W + 256 ≤ 2048) (A : Soft) (μ : ℝ) (r : Fin 256) {s : Fin 2048} (hs : W + 256 ≤ s.val) : A.p μ (pos hW r) s = 0 := by
  have hr := r.isLt
  rw [Soft.p, if_neg (by rw [Fin.le_def]; show ¬s.val ≤ W + r.val; omega)]

theorem den_split {W : ℕ} (hW : W + 256 ≤ 2048) (A : Soft) (μ : ℝ) (r : Fin 256) :
    ((A.den μ (pos hW r) : ℝ) : EReal) = ∑ c : Fin W, ((A.p μ (pos hW r) (old hW c) : ℝ) : EReal) + ∑ c : Fin 256, ((A.p μ (pos hW r) (pos hW c) : ℝ) : EReal) := by
  rw [Soft.den, coe_sum]
  exact sum_split (fun s => ((A.p μ (pos hW r) s : ℝ) : EReal)) hW fun s hs => by rw [p_late hW A μ r hs]; rfl

theorem mean_split {W : ℕ} (hW : W + 256 ≤ 2048) (A : Soft) (V : Fin 2048 → Fin 64 → EReal) (μ : ℝ) (r : Fin 256) (d : Fin 64) :
    ∑ s, ((A.p μ (pos hW r) s : ℝ) : EReal) * V s d
      = ∑ c : Fin W, ((A.p μ (pos hW r) (old hW c) : ℝ) : EReal) * V (old hW c) d + ∑ c : Fin 256, ((A.p μ (pos hW r) (pos hW c) : ℝ) : EReal) * V (pos hW c) d :=
  sum_split (fun s => ((A.p μ (pos hW r) s : ℝ) : EReal) * V s d) hW fun s hs => by rw [p_late hW A μ r hs]; exact zero_mul _

section
variable {W : ℕ} {hW : W + 256 ≤ 2048} {A : Fin 2 → Soft} {V : Fin 2 → Fin 2048 → Fin 64 → EReal} {T : Own Ideal} {B : Bulk Ideal W}
variable (R : HoldsOwn hW A V T) (S : HoldsBulk hW A V B) {m : IVec (Mat 1 128) 1} {a : Fin 2} (hm : Chooses m a)

include R hm in
theorem xd_at (r c : Fin 256) : xd T m a (ix2 r c) = (A a).e (pos hW r) (pos hW c) := by
  unfold xd
  rw [hidden_apply, biased_apply, scores_only hm T.q T.k r c (fun a d => (A a).Q (pos hW r) d * (1 / 8)) (fun a d => (A a).K (pos hW c) d) (fun a d => R.q r a d) (fun a d => R.k c a d), R.f, R.g, score_eq]
  exact if_congr (pos_le hW c r).symm rfl rfl

include R S hm in
theorem xb_at (r : Fin 256) (c : Fin W) : xb T B m a (ix2 r c) = (A a).e (pos hW r) (old hW c) := by
  unfold xb
  rw [biased_apply, scores_only hm T.q B.k r c (fun a d => (A a).Q (pos hW r) d * (1 / 8)) (fun a d => (A a).K (old hW c) d) (fun a d => R.q r a d) (fun a d => S.k c a d), R.f, S.g, score_eq]
  exact (if_pos (old_lt hW c r).le).symm

include R hm in
theorem mOwn_real (r : Fin 256) : ∃ μ : ℝ, mOwn T m a (ix2 r (0 : Fin 1)) = (μ : EReal) := by
  unfold mOwn
  rw [rowMax_apply]
  exact fold_real _ _ (fun c _ => by rw [xd_at R hm]; exact (A a).e_ne_top _ _) (Finset.mem_univ r) (by rw [xd_at R hm]; exact (A a).e_self _)

include R S hm in
theorem mAll_real (r : Fin 256) : ∃ μ : ℝ, mAll T B m a (ix2 r (0 : Fin 1)) = (μ : EReal) := by
  obtain ⟨μ, hμ⟩ := mOwn_real R hm r
  unfold mAll maxAll
  rw [show ∀ x y : FVec Ideal (Mat 256 1) .f32, maximumf x y (ix2 r (0 : Fin 1)) = max (x (ix2 r (0 : Fin 1))) (y (ix2 r (0 : Fin 1))) from fun _ _ => rfl]
  unfold mOwn at hμ
  rw [hμ, rowMax_apply]
  exact max_real (fold_ne_top _ _ fun c _ => by rw [xb_at R S hm]; exact (A a).e_ne_top _ _) μ

section
variable {M : FVec Ideal (Mat 256 1) .f32} {r : Fin 256} {μ : ℝ} (hμ : M (ix2 r (0 : Fin 1)) = (μ : EReal))
include R hm hμ

theorem pd_at (c : Fin 256) : powers (xd T m a) M (ix2 r c) = (((A a).p μ (pos hW r) (pos hW c) : ℝ) : EReal) := by
  rw [powers_apply, xd_at R hm, hμ, Soft.power]

include S in
theorem pb_at (c : Fin W) : powers (xb T B m a) M (ix2 r c) = (((A a).p μ (pos hW r) (old hW c) : ℝ) : EReal) := by
  rw [powers_apply, xb_at R S hm, hμ, Soft.power]

include S in
theorem denAll_at : denAll (xd T m a) (xb T B m a) M (ix2 r (0 : Fin 1)) = (((A a).den μ (pos hW r) : ℝ) : EReal) := by
  unfold denAll
  rw [addf_apply, addf_apply, zeroCarry_apply, zero_add, rowSum_apply, rowSum_apply, den_split hW]
  exact congrArg₂ (· + ·) (Finset.sum_congr rfl fun c _ => pb_at R S hm hμ c) (Finset.sum_congr rfl fun c _ => pd_at R hm hμ c)

include S in
theorem meanAll_at (d : Fin 64) : meanAll (xd T m a) (xb T B m a) T.v B.v M (ix2 r (lane a d)) = (A a).out (pos hW r) (V a) d := by
  unfold meanAll along
  rw [show ∀ x y : FVec Ideal (Mat 256 128) .f32, divf x y (ix2 r (lane a d)) = Ideal.div (x (ix2 r (lane a d))) (y (ix2 r (lane a d))) from fun _ _ => rfl,
    along_apply, denAll_at R S hm hμ, addf_apply, addf_apply, zeroRows_apply, zero_add, dotNN_apply, dotNN_apply, ← (A a).mean μ, mean_split hW]
  refine congrArg (fun z => Ideal.div z _) (congrArg₂ (· + ·) (Finset.sum_congr rfl fun c _ => ?_) (Finset.sum_congr rfl fun c _ => ?_))
  · exact congrArg₂ (· * ·) (pb_at R S hm hμ c) (S.v c a d)
  · exact congrArg₂ (· * ·) (pd_at R hm hμ c) (R.v c a d)
end

include R S hm in
theorem oAll_at (r : Fin 256) (d : Fin 64) : oAll T B m a (ix2 r (lane a d)) = (A a).out (pos hW r) (V a) d := by
  obtain ⟨μ, hμ⟩ := mAll_real R S hm r
  exact meanAll_at R S hm hμ d

include R S hm in
theorem lAll_at (r : Fin 256) : lAll T B m a (ix2 r (0 : Fin 1)) = (((A a).lse (pos hW r) : ℝ) : EReal) := by
  obtain ⟨μ, hμ⟩ := mAll_real R S hm r
  unfold lAll logSum
  rw [addf_apply, show ∀ x : FVec Ideal (Mat 256 1) .f32, log x (ix2 r (0 : Fin 1)) = Ideal.log (x (ix2 r (0 : Fin 1))) from fun _ => rfl, denAll_at R S hm hμ, hμ, Soft.log_den]
end

/-! ## The first tile: no keys before it -/

section
variable {A : Fin 2 → Soft} {V : Fin 2 → Fin 2048 → Fin 64 → EReal} {T : Own Ideal} (R : HoldsOwn first_le A V T)
variable {m : IVec (Mat 1 128) 1} {a : Fin 2} (hm : Chooses m a)
include R hm

theorem denOwn_at {M : FVec Ideal (Mat 256 1) .f32} {r : Fin 256} {μ : ℝ} (hμ : M (ix2 r (0 : Fin 1)) = (μ : EReal)) :
    denOwn (xd T m a) M (ix2 r (0 : Fin 1)) = (((A a).den μ (pos first_le r) : ℝ) : EReal) := by
  unfold denOwn
  rw [addf_apply, zeroCarry_apply, zero_add, rowSum_apply, den_split first_le, Fin.sum_univ_zero, zero_add]
  exact Finset.sum_congr rfl fun c _ => pd_at R hm hμ c

theorem oOwn_at (r : Fin 256) (d : Fin 64) : oOwn T m a (ix2 r (lane a d)) = (A a).out (pos first_le r) (V a) d := by
  obtain ⟨μ, hμ⟩ := mOwn_real R hm r
  unfold oOwn meanOwn along
  rw [show ∀ x y : FVec Ideal (Mat 256 128) .f32, divf x y (ix2 r (lane a d)) = Ideal.div (x (ix2 r (lane a d))) (y (ix2 r (lane a d))) from fun _ _ => rfl,
    along_apply, denOwn_at R hm hμ, addf_apply, zeroRows_apply, zero_add, dotNN_apply, ← (A a).mean μ, mean_split first_le, Fin.sum_univ_zero, zero_add]
  exact congrArg (fun z => Ideal.div z _) (Finset.sum_congr rfl fun c _ => congrArg₂ (· * ·) (pd_at R hm hμ c) (R.v c a d))

theorem lOwn_at (r : Fin 256) : lOwn T m a (ix2 r (0 : Fin 1)) = (((A a).lse (pos first_le r) : ℝ) : EReal) := by
  obtain ⟨μ, hμ⟩ := mOwn_real R hm r
  unfold lOwn logSum
  rw [addf_apply, show ∀ x : FVec Ideal (Mat 256 1) .f32, log x (ix2 r (0 : Fin 1)) = Ideal.log (x (ix2 r (0 : Fin 1))) from fun _ => rfl, denOwn_at R hm hμ, hμ, Soft.log_den]
end

/-! ## Both heads -/

theorem perHead_at (x y : FVec Ideal (Mat 256 1) .f32) (r : Fin 256) (e : Fin 2 → EReal) (hx : x (ix2 r (0 : Fin 1)) = e 0) (hy : y (ix2 r (0 : Fin 1)) = e 1)
    (a : Fin 2) (d : Fin 64) : perHead x y (ix2 r (lane a d)) = e a := by
  refine byLane_pair _ _ _ r d e ?_ ?_ a
  · unfold along; rw [along_apply, shapeCast_self]; exact hx
  · unfold along; rw [along_apply, shapeCast_self]; exact hy

section
variable {W : ℕ} {hW : W + 256 ≤ 2048} {A : Fin 2 → Soft} {V : Fin 2 → Fin 2048 → Fin 64 → EReal} {T : Own Ideal} {B : Bulk Ideal W}
variable (R : HoldsOwn hW A V T) (S : HoldsBulk hW A V B) (r : Fin 256) (a : Fin 2) (d : Fin 64)
include R S

theorem outAll_at : outAll T B (ix2 r (lane a d)) = (A a).out (pos hW r) (V a) d :=
  byLane_pair _ _ _ r d (fun a => (A a).out (pos hW r) (V a) d) (oAll_at R S chooses_A r d) (oAll_at R S chooses_B r d) a

theorem lseAll_at : lseAll T B (ix2 r (lane a d)) = (((A a).lse (pos hW r) : ℝ) : EReal) :=
  perHead_at _ _ r (fun a => (((A a).lse (pos hW r) : ℝ) : EReal)) (lAll_at R S chooses_A r) (lAll_at R S chooses_B r) a d
end

section
variable {A : Fin 2 → Soft} {V : Fin 2 → Fin 2048 → Fin 64 → EReal} {T : Own Ideal} (R : HoldsOwn first_le A V T) (r : Fin 256) (a : Fin 2) (d : Fin 64)
include R

theorem outOwn_at : outOwn T (ix2 r (lane a d)) = (A a).out (pos first_le r) (V a) d :=
  byLane_pair _ _ _ r d (fun a => (A a).out (pos first_le r) (V a) d) (oOwn_at R chooses_A r d) (oOwn_at R chooses_B r d) a

theorem lseOwn_at : lseOwn T (ix2 r (lane a d)) = (((A a).lse (pos first_le r) : ℝ) : EReal) :=
  perHead_at _ _ r (fun a => (((A a).lse (pos first_le r) : ℝ) : EReal)) (lOwn_at R chooses_A r) (lOwn_at R chooses_B r) a d
end

end Cert.Forgetting

end
-- ==== Proof.FoxAttnPoint.lean ====
/-
  What a point of the forgetting attention's grid leaves, as a statement: the two blocks it stores, by the text of SoftTile
  over what the point reads. Two forms: a point with keys before its tile, and the first of a row.
-/
module

public import proofs.«01_k».proof.Proof.Gen.FoxAttnIdeal.Value
public import proofs.«01_k».proof.Proof.SoftTile

@[expose] public section

set_option maxRecDepth 16384

noncomputable section

namespace Cert.Forgetting

open Idealize.ShloMosaic Idealize.ShloMosaic.TcCoe
open Cert.FoxAttnIdeal Cert.FoxAttnIdeal.Gen Cert.StickBreaking.Tile

variable {F : FTy → Type} [FloatOps F]
variable (m : (ℓ : Loc nD τ sig) → Buf (Elt F) ℓ) (c : Dev nD) (t : Fin cfg0.N)

/-- What the point reads of its own positions. -/
def ownArg {W : ℕ} (hW : W + 256 ≤ 2048) : Own F where
  q := eighthHalf (View.readAt (Elt F) (ms0_0 t).view tileRect.toLoadRect ((hs0_0 t).unread (iblk m c 0 t)))
  k := View.readAt (Elt F) (ms0_1 t).view (rows W 256 hW).toLoadRect ((hs0_1 t).unread (iblk m c 1 t))
  v := half (View.readAt (Elt F) (ms0_2 t).view (rows W 256 hW).toLoadRect ((hs0_2 t).unread (iblk m c 2 t)))
  f a := View.readAt (Elt F) (ms0_3 t).view (biasRect a).toLoadRect ((hs0_3 t).unread (iblk m c 3 t))
  g a := View.readAt (Elt F) (ms0_4 t).view (keyRect a W 256 hW).toLoadRect ((hs0_4 t).unread (iblk m c 4 t))
/-- What it reads of the positions before. -/
def bulkArg {W : ℕ} (hW : W + 256 ≤ 2048) : Bulk F W where
  k := View.readAt (Elt F) (ms0_1 t).view (rows 0 W (inb_bulk hW)).toLoadRect ((hs0_1 t).unread (iblk m c 1 t))
  v := half (View.readAt (Elt F) (ms0_2 t).view (rows 0 W (inb_bulk hW)).toLoadRect ((hs0_2 t).unread (iblk m c 2 t)))
  g a := View.readAt (Elt F) (ms0_4 t).view (keyRect a 0 W (inb_bulk hW)).toLoadRect ((hs0_4 t).unread (iblk m c 4 t))

/-- Two tiles stored. -/
def Stored (x y : FVec F (Mat 256 128) .f32) : Prop :=
  outsAt0 m c t.val t.isLt = (VO0_5.read (Elt F) (VO0_5.writes (Elt F) VO0_5.junk [⟨tileRect, x⟩]), VO0_6.read (Elt F) (VO0_6.writes (Elt F) VO0_6.junk [⟨tileRect, y⟩]))

/-- A point with `W` keys before its tile. -/
def IsTile {W : ℕ} (hW : W + 256 ≤ 2048) : Prop :=
  Stored m c t (outAll (ownArg m c t hW) (bulkArg m c t hW)) (lseAll (ownArg m c t hW) (bulkArg m c t hW))

/-- The first point of a row. -/
def IsFirst : Prop := Stored m c t (outOwn (ownArg m c t first_le)) (lseOwn (ownArg m c t first_le))

end Cert.Forgetting

end
-- ==== Proof.FoxAttnCases.lean ====
/-
  Each printed form of the forgetting attention's body is the text of SoftTile at its number of keys before the tile.
-/
module

public import proofs.«01_k».proof.Proof.FoxAttnPoint

@[expose] public section

set_option maxRecDepth 16384

noncomputable section

namespace Cert.Forgetting

open Idealize.ShloMosaic Idealize.ShloMosaic.TcCoe
open Cert.FoxAttnIdeal Cert.FoxAttnIdeal.Gen Cert.StickBreaking.Tile

variable {F : FTy → Type} [FloatOps F] (m : (ℓ : Loc nD τ sig) → Buf (Elt F) ℓ) (c : Dev nD) (t : Fin cfg0.N)

set_option maxHeartbeats 1000000 in
theorem tile_A (h : t.val % 8 = 0) : IsFirst m c t := by
  unfold IsFirst Stored
  rw [outsAt0_A m c t h (by omega) (by omega) (by omega) (by omega) (by omega) (by omega) (by omega)]
  unfold out0_A_5 out0_A_6 kernelRun0_A
  dsimp only
  rfl

set_option maxHeartbeats 1000000 in
theorem tile_B (h : t.val % 8 = 1) : IsTile m c t (W := 256) (by omega) := by
  unfold IsTile Stored
  rw [outsAt0_B m c t (by omega) h (by omega) (by omega) (by omega) (by omega) (by omega) (by omega)]
  unfold out0_B_5 out0_B_6 kernelRun0_B
  dsimp only
  rfl

set_option maxHeartbeats 1000000 in
theorem tile_C (h : t.val % 8 = 2) : IsTile m c t (W := 512) (by omega) := by
  unfold IsTile Stored
  rw [outsAt0_C m c t (by omega) (by omega) h (by omega) (by omega) (by omega) (by omega) (by omega)]
  unfold out0_C_5 out0_C_6 kernelRun0_C
  dsimp only
  rfl

set_option maxHeartbeats 1000000 in
theorem tile_D (h : t.val % 8 = 3) : IsTile m c t (W := 768) (by omega) := by
  unfold IsTile Stored
  rw [outsAt0_D m c t (by omega) (by omega) (by omega) h (by omega) (by omega) (by omega) (by omega)]
  unfold out0_D_5 out0_D_6 kernelRun0_D
  dsimp only
  rfl

set_option maxHeartbeats 1000000 in
theorem tile_E (h : t.val % 8 = 4) : IsTile m c t (W := 1024) (by omega) := by
  unfold IsTile Stored
  rw [outsAt0_E m c t (by omega) (by omega) (by omega) (by omega) h (by omega) (by omega) (by omega)]
  unfold out0_E_5 out0_E_6 kernelRun0_E
  dsimp only
  rfl

set_option maxHeartbeats 1000000 in
theorem tile_F (h : t.val % 8 = 5) : IsTile m c t (W := 1280) (by omega) := by
  unfold IsTile Stored
  rw [outsAt0_F m c t (by omega) (by omega) (by omega) (by omega) (by omega) h (by omega) (by omega)]
  unfold out0_F_5 out0_F_6 kernelRun0_F
  dsimp only
  rfl

set_option maxHeartbeats 1000000 in
theorem tile_G (h : t.val % 8 = 6) : IsTile m c t (W := 1536) (by omega) := by
  unfold IsTile Stored
  rw [outsAt0_G m c t (by omega) (by omega) (by omega) (by omega) (by omega) (by omega) h (by omega)]
  unfold out0_G_5 out0_G_6 kernelRun0_G
  dsimp only
  rfl

set_option maxHeartbeats 1000000 in
theorem tile_H (h : t.val % 8 = 7) : IsTile m c t (W := 1792) (by omega) := by
  unfold IsTile Stored
  rw [outsAt0_H m c t (by omega) (by omega) (by omega) (by omega) (by omega) (by omega) (by omega) h]
  unfold out0_H_5 out0_H_6 kernelRun0_H
  dsimp only
  rfl

end Cert.Forgetting

end
-- ==== Proof.Precondition.lean ====
/-
  What the precondition says: every query, key, value and incoming gradient is a real number.
-/
module

public import proofs.«01_k».proof.Proof.Inputs
public import proofs.«01_k».proof.Pre_finite_inputs
public import Idealize.ShloMosaic.Lib.ValueIdx

@[expose] public section

set_option maxRecDepth 16384

noncomputable section

namespace Cert.StickBreaking.Pre

open Idealize.ShloMosaic Idealize.ShloMosaic.ValueIdx
open Cert.Pre_finite_inputs

/-- The side conditions the precondition's operations take. -/
instance facts : Cert.Pre_finite_inputs.Facts where
  slices_S4096x8704_S4096x512_0_1536 := by decide
  slices_S4096x8704_S4096x512_0_2048 := by decide
  slices_S4096x8704_S4096x512_0_2560 := by decide
  bcast_S_S4096x512 := by decide

/-- Two bits whose conjunction is one are both one. -/
theorem both {a b : BitVec 1} (h : IntOp.andi a b = 1#1) : a = 1#1 ∧ b = 1#1 := by
  revert a b; decide

/-- A value of absolute value below infinity is a real number. -/
theorem real_of_lt {x : Ideal .f32}
    (h : FloatOps.cmpf .olt (FloatOps.hostAbsf x) (FloatOps.ofBits (F := Ideal) .f32 0x7F800000#32) = 1#1) :
    (((x : EReal).toReal : ℝ) : EReal) = x := by
  have e : Ideal.ofBits .f32 0x7F800000#32 = ⊤ := by simp [Ideal.ofBits, Ideal.ieee]
  have h' : Ideal.cmp .olt (max (x : EReal) (-(x : EReal))) (Ideal.ofBits .f32 0x7F800000#32) = 1#1 := h
  rw [e] at h'
  have hlt : max (x : EReal) (-(x : EReal)) < ⊤ := by
    by_contra hn
    simp [Ideal.cmp, hn] at h'
  rw [max_lt_iff] at hlt
  refine EReal.coe_toReal (ne_of_lt hlt.1) fun hb => ?_
  have := hlt.2
  rw [hb] at this
  simp at this

/-- The slice of the projection that starts at column `o`, at a row and a column. -/
theorem slice_apply (x : Proj) (o : ℕ) (ho : o + 512 ≤ 8704) (h : S4096x8704.Slices ![0, o] S4096x512) (r : Fin 4096) (c : Fin 512) :
    extractStridedSlice S4096x512 ![0, o] (s := S4096x8704) x h (ix2 r c) = x (ix2 r (⟨o + c.val, by have := c.isLt; omega⟩ : Fin 8704)) := by
  refine congrArg x ?_
  funext a
  match a with
  | ⟨0, _⟩ => exact Fin.ext (by show 0 + r.val = r.val; omega)
  | ⟨1, _⟩ => exact Fin.ext rfl

/-- The precondition makes the arguments finite. -/
theorem finite_of_pre (x : Proj) (y : Rows) (h : Cert.Pre_finite_inputs.fn (F := Ideal) x y = fun _ => 1#1) : Finite x y := by
  have hb := fun r c => congrFun h (ix2 (r : Fin 4096) (c : Fin 512))
  have hq := fun r c => real_of_lt (both (both (both (hb r c)).1).1).1
  have hk := fun r c => real_of_lt (both (both (both (hb r c)).1).1).2
  have hv := fun r c => real_of_lt (both (both (hb r c)).1).2
  have hd := fun r c => real_of_lt (both (hb r c)).2
  refine ⟨fun r c => ?_, fun r c => ?_, fun r c => ?_, hd⟩
  · have := hq r c; beta_reduce at this; rw [slice_apply x 1536 (by omega)] at this; exact this
  · have := hk r c; beta_reduce at this; rw [slice_apply x 2048 (by omega)] at this; exact this
  · have := hv r c; beta_reduce at this; rw [slice_apply x 2560 (by omega)] at this; exact this

end Cert.StickBreaking.Pre

end
-- ==== Proof.FoxPrecondition.lean ====
/-
  What the precondition of the forgetting attention says: every query, key and bias is a real number.
-/
module

public import proofs.«01_k».proof.Proof.Softmax
public import proofs.«01_k».proof.Proof.Precondition
public import proofs.«01_k».proof.Pre_finite_scores
public import Idealize.ShloMosaic.Lib.Pipeline.Value

@[expose] public section

set_option maxRecDepth 16384

noncomputable section

namespace Cert.Forgetting

open Idealize.ShloMosaic Idealize.ShloMosaic.ValueIdx Cert.StickBreaking

/-! ## The heads' biases, as the host spreads them -/

/-- The heads' columns of biases. -/
theorem heads_apply {α : Type} (f : (⟨2, ![4096, 128]⟩ : Shape).Idx → α) (hs : (⟨2, ![4096, 128]⟩ : Shape).Slices ![0, 0] ⟨2, ![4096, 8]⟩) (r : Fin 4096) (h : Fin 8) :
    extractStridedSlice ⟨2, ![4096, 8]⟩ ![0, 0] f hs (ix2 r h) = f (ix2 r (bcol h)) :=
  extractStridedSlice_apply _ f hs (ix2 r h) (ix2 r (bcol h)) fun a => by
    match a with
    | ⟨0, _⟩ => exact (Nat.zero_add _).symm
    | ⟨1, _⟩ => exact (Nat.zero_add _).symm

/-- A number per row and head, along the head's features. -/
theorem spread_apply {α : Type} (y : (⟨2, ![4096, 8]⟩ : Shape).Idx → α)
    (hb : (⟨2, ![4096, 8]⟩ : Shape).BroadcastsInDim ⟨3, ![4096, 8, 64]⟩ (![0, 1] : Fin 2 → Fin 3)) (hc : (⟨3, ![4096, 8, 64]⟩ : Shape).ShapeCasts ⟨2, ![4096, 512]⟩)
    (r : Fin 4096) (h : Fin 8) (d : Fin 64) :
    shapeCast ⟨2, ![4096, 512]⟩ (broadcastInDim ⟨3, ![4096, 8, 64]⟩ (![0, 1] : Fin 2 → Fin 3) hb y) hc (ix2 r (col h d)) = y (ix2 r h) := by
  rw [shapeCast_apply _ hc (ix2 r (col h d)) (ix3 r h d) (by
    rw [Shape.rowMajor_val_three, Shape.rowMajor_val_two]
    show (r.val * 8 + h.val) * 64 + d.val = r.val * 512 + (h.val * 64 + d.val)
    omega)]
  exact broadcastInDim_apply _ hb y (ix3 r h d) (ix2 r h) fun a => by
    match a with
    | ⟨0, _⟩ => rfl
    | ⟨1, _⟩ => rfl

namespace Pre
open Cert.Pre_finite_scores Cert.Pre_finite_scores.Facts

/-- The side conditions the precondition's operations take. -/
instance facts : Cert.Pre_finite_scores.Facts where
  bitsLt_bf16_f32 := by decide
  bcast_S_S4096x512 := by decide
  slices_S4096x128_S4096x8_0_0 := by decide
  bcast_S4096x8_S4096x8x64_0_1 := by decide
  shapeCasts_S4096x8x64_S4096x512 := by decide

/-- The precondition makes queries, keys and biases finite. -/
theorem finite_of_pre (q k : Rows) (x : Proj) (f : Biases) (h : Cert.Pre_finite_scores.fn (F := Ideal) q k x f = fun _ => 1#1) : FiniteScores q k f := by
  have hb := fun r c => congrFun h (ix2 (r : Fin 4096) (c : Fin 512))
  have hq := fun r c => StickBreaking.Pre.real_of_lt (StickBreaking.Pre.both (StickBreaking.Pre.both (hb r c)).1).1
  have hk := fun r c => StickBreaking.Pre.real_of_lt (StickBreaking.Pre.both (StickBreaking.Pre.both (hb r c)).1).2
  have hf := fun r c => StickBreaking.Pre.real_of_lt (StickBreaking.Pre.both (hb r c)).2
  refine ⟨hq, hk, fun r c => ?_⟩
  have := hf r (col c 0)
  rw [spread_apply] at this
  have e := heads_apply f slices_S4096x128_S4096x8_0_0 r c
  rw [← e]
  exact this
end Pre

end Cert.Forgetting

end
-- ==== Proof.FoxAttnInputs.lean ====
/-
  The two arrays of biases the host prepares for the forgetting attention's kernel: a bias per row along each head's features,
  and a row per head, the heads in pairs of eight rows.
-/
module

public import proofs.«01_k».proof.Proof.FoxPrecondition
public import proofs.«01_k».proof.Proof.Gen.FoxAttnIdeal.Value
public import Idealize.ShloMosaic.Lib.KernelVsHost

@[expose] public section

set_option maxRecDepth 16384

noncomputable section

namespace Cert.Forgetting.Attend

open Idealize.ShloMosaic
open Idealize.ShloMosaic.ValueIdx Idealize.ShloMosaic.TcCoe Idealize.ShloMosaic.StableHlo
open Cert.FoxAttnIdeal Cert.FoxAttnIdeal.Gen Cert.StickBreaking

variable (m : (ℓ : Loc nD τ sig) → Buf (Elt Ideal) ℓ) (c : Dev nD)

/-- The queries, keys, projections and biases. -/
def argQ : Rows := m ((c : Thread nD τ).loc main_arg0)
def argK : Rows := m ((c : Thread nD τ).loc main_arg1)
def argX : Proj := m ((c : Thread nD τ).loc main_arg2)
def argF : Biases := m ((c : Thread nD τ).loc main_arg3)

set_option maxHeartbeats 2000000 in
theorem V_main_v2 : V m c main_v2 = shapeCast S4096x512 (broadcastInDim S4096x8x64 ![0, 1] Facts₀.bcast_S4096x8_S4096x8x64_0_1
    (extractStridedSlice S4096x8 ![0, 0] (argF m c) Facts₀.slices_S4096x128_S4096x8_0_0)) Facts₀.shapeCasts_S4096x8x64_S4096x512 := by
  unfold V
  simp only [hostOps0, hostOps0_1, hostOps0_2, List.flatten_cons, List.flatten_nil, List.append_nil, List.cons_append, List.nil_append,
    TRef.binary, TRef.unary, TRef.toBuf, TRef.ofBuf, cast_eq]
  after_results_simp <;> rfl

set_option maxHeartbeats 2000000 in
theorem V_main_v8 : V m c main_v8 = shapeCast S64x2048 (pad S2x4x8x2048 ![0, 0, 0, 0] ![0, 0, 6, 0] ![0, 0, 0, 0]
    (shapeCast S2x4x2x2048 (transpose S2x8x2048 [0, 2, 1] (extractStridedSlice S2x2048x8 ![0, 0, 0]
      (shapeCast S2x2048x128 (argF m c) Facts₀.shapeCasts_S4096x128_S2x2048x128) Facts₀.slices_S2x2048x128_S2x2048x8_0_0_0) Facts₀.transposes_S2x2048x8_S2x8x2048_0_2_1)
      Facts₀.shapeCasts_S2x8x2048_S2x4x2x2048)
    (sitofp (F := Ideal) .f32 (constantI S_ 32 0#32)) Facts₀.pads_S2x4x2x2048_S2x4x8x2048_000_000_060_000 Facts₀.h_S_) Facts₀.shapeCasts_S2x4x8x2048_S64x2048 := by
  unfold V
  simp only [hostOps0, hostOps0_1, hostOps0_2, List.flatten_cons, List.flatten_nil, List.append_nil, List.cons_append, List.nil_append,
    TRef.binary, TRef.unary, TRef.toBuf, TRef.ofBuf, cast_eq]
  after_results_simp <;> rfl

theorem bias_cols (r : Fin 4096) (h : Fin 8) (d : Fin 64) : (V m c main_v2 : Rows) (ix2 r (col h d)) = argF m c (ix2 r (bcol h)) := by
  rw [V_main_v2]
  exact (spread_apply _ _ _ r h d).trans (heads_apply _ _ r h)

theorem bias_rows (b : Fin 2) (p : Fin 4) (a : Fin 2) (s : Fin 2048) :
    (V m c main_v8 : (⟨2, ![64, 2048]⟩ : Shape).Idx → EReal) (ix2 (⟨(b.val * 4 + p.val) * 8 + a.val, by omega⟩ : Fin 64) s)
      = argF m c (ix2 (row b s) (bcol ⟨2 * p.val + a.val, by omega⟩)) := by
  have hb := b.isLt
  have hp := p.isLt
  have ha := a.isLt
  have hs := s.isLt
  rw [V_main_v8]
  refine (shapeCast_apply _ _ _ (ix4 b p (⟨a.val, by omega⟩ : Fin 8) s) (by
    rw [Shape.rowMajor_val_four, Shape.rowMajor_val_two]
    show ((b.val * 4 + p.val) * 8 + a.val) * 2048 + s.val = ((b.val * 4 + p.val) * 8 + a.val) * 2048 + s.val
    rfl)).trans ?_
  refine (pad_apply_of_inside _ _ _ _ _ _ _ _ (ix4 b p a s) fun x => by
    match x with
    | ⟨0, _⟩ => show b.val = 0 + b.val * (0 + 1); omega
    | ⟨1, _⟩ => show p.val = 0 + p.val * (0 + 1); omega
    | ⟨2, _⟩ => show a.val = 0 + a.val * (0 + 1); omega
    | ⟨3, _⟩ => show s.val = 0 + s.val * (0 + 1); omega).trans ?_
  refine (shapeCast_apply _ _ _ (ix3 b (⟨2 * p.val + a.val, by omega⟩ : Fin 8) s) (by
    rw [Shape.rowMajor_val_three, Shape.rowMajor_val_four]
    show (b.val * 8 + (2 * p.val + a.val)) * 2048 + s.val = ((b.val * 4 + p.val) * 2 + a.val) * 2048 + s.val
    omega)).trans ?_
  refine (transpose_apply _ _ _ _ (ix3 b s (⟨2 * p.val + a.val, by omega⟩ : Fin 8)) fun x => by
    match x with
    | ⟨0, _⟩ => rfl
    | ⟨1, _⟩ => rfl
    | ⟨2, _⟩ => rfl).trans ?_
  refine (extractStridedSlice_apply _ _ _ _ (ix3 b s (bcol ⟨2 * p.val + a.val, by omega⟩)) fun x => by
    match x with
    | ⟨0, _⟩ => exact (Nat.zero_add _).symm
    | ⟨1, _⟩ => exact (Nat.zero_add _).symm
    | ⟨2, _⟩ => exact (Nat.zero_add _).symm).trans ?_
  exact shapeCast_apply _ _ _ (ix2 (row b s) (bcol ⟨2 * p.val + a.val, by omega⟩)) (by
    rw [Shape.rowMajor_val_three, Shape.rowMajor_val_two]
    show (b.val * 2048 + s.val) * 128 + (2 * p.val + a.val) = (b.val * 2048 + s.val) * 128 + (2 * p.val + a.val)
    rfl)

end Cert.Forgetting.Attend

end
-- ==== Proof.FoxAttnForward.lean ====
/-
  The results of the forgetting attention's kernel: where each point of the grid reads and writes, what it stores there, and
  the two arrays all points leave. Point `t` works on sequence `t / 32`, on the pair of heads `t / 8 % 4` and on the tile of
  queries `t % 8`.
-/
module

public import proofs.«01_k».proof.Proof.SoftTileValue
public import proofs.«01_k».proof.Proof.FoxAttnCases
public import proofs.«01_k».proof.Proof.FoxAttnInputs
public import Idealize.ShloMosaic.Lib.Pipeline.ValueKit

@[expose] public section

set_option maxRecDepth 16384

noncomputable section

namespace Cert.Forgetting

open Idealize.ShloMosaic hiding ix2 eq_ix2
open Idealize.ShloMosaic.ValueIdx Idealize.ShloMosaic.TcCoe
open Cert.StickBreaking Cert.StickBreaking.Tile
open scoped BigOperators

/-! ## Loads and stores -/

section
variable {Sg : RefSig} {e : EltTy}

/-- A load of the whole of a block. -/
theorem read_tile {M : Memref Sg .tc .vmem (Mat 256 128) e} (h : M.IsWhole) (X : (Mat 256 128).Idx → Elt Ideal e) (r : Fin 256) (l : Fin 128) :
    View.readAt (Elt Ideal) M.view tileRect.toLoadRect (h.unread X) (ix2 r l) = X (ix2 r l) := by
  show M.view.read (Elt Ideal) (h.unread X) _ = _
  rw [Memref.IsWhole.read_unread]
  refine congrArg X (funext fun x => ?_)
  match x with
  | ⟨0, _⟩ => exact Fin.ext (by show 0 + 1 * r.val = r.val; omega)
  | ⟨1, _⟩ => exact Fin.ext (by show 0 + 1 * l.val = l.val; omega)

/-- A load of some rows of a block. -/
theorem read_rows {M : Memref Sg .tc .vmem (Mat 2048 128) e} (h : M.IsWhole) (X : (Mat 2048 128).Idx → Elt Ideal e) {st K : ℕ} (hst : st + K ≤ 2048) (r : Fin K)
    (l : Fin 128) (s : Fin 2048) (hs : s.val = st + r.val) :
    View.readAt (Elt Ideal) M.view (rows st K hst).toLoadRect (h.unread X) (ix2 r l) = X (ix2 s l) := by
  show M.view.read (Elt Ideal) (h.unread X) _ = _
  rw [Memref.IsWhole.read_unread]
  refine congrArg X (funext fun x => ?_)
  match x with
  | ⟨0, _⟩ => exact Fin.ext (by show st + 1 * r.val = s.val; omega)
  | ⟨1, _⟩ => exact Fin.ext (by show 0 + 1 * l.val = l.val; omega)

/-- A load of a head's biases, by rows. -/
theorem read_bias {M : Memref Sg .tc .vmem (Mat 256 128) e} (h : M.IsWhole) (X : (Mat 256 128).Idx → Elt Ideal e) (a : Fin 2) (r : Fin 256) :
    View.readAt (Elt Ideal) M.view (biasRect a).toLoadRect (h.unread X) (ix2 r (0 : Fin 1)) = X (ix2 r (lane a 0)) := by
  show M.view.read (Elt Ideal) (h.unread X) _ = _
  rw [Memref.IsWhole.read_unread]
  refine congrArg X (funext fun x => ?_)
  match x with
  | ⟨0, _⟩ => exact Fin.ext (by show 0 + 1 * r.val = r.val; omega)
  | ⟨1, _⟩ => exact Fin.ext (by show 64 * a.val + 1 * 0 = 64 * a.val + 0; omega)

/-- A load of a head's biases, by columns. -/
theorem read_keys {M : Memref Sg .tc .vmem (Mat 8 2048) e} (h : M.IsWhole) (X : (Mat 8 2048).Idx → Elt Ideal e) (a : Fin 2) {st K : ℕ} (hst : st + K ≤ 2048)
    (c : Fin K) (s : Fin 2048) (hs : s.val = st + c.val) :
    View.readAt (Elt Ideal) M.view (keyRect a st K hst).toLoadRect (h.unread X) (ix2 (0 : Fin 1) c) = X (ix2 (⟨a.val, by omega⟩ : Fin 8) s) := by
  show M.view.read (Elt Ideal) (h.unread X) _ = _
  rw [Memref.IsWhole.read_unread]
  refine congrArg X (funext fun x => ?_)
  match x with
  | ⟨0, _⟩ => exact Fin.ext (by show a.val + 1 * 0 = a.val; omega)
  | ⟨1, _⟩ => exact Fin.ext (by show st + 1 * c.val = s.val; omega)

/-- One store of the whole of a block, read back. -/
theorem stored_tile (v : View Sg .tc .vmem (Mat 256 128) .f32) (f : v.ty.Contents (Elt Ideal)) (x : FVec Ideal (Mat 256 128) .f32) (r : Fin 256) (l : Fin 128) :
    v.read (Elt Ideal) (v.writes (Elt Ideal) f [⟨tileRect, x⟩]) (ix2 r l) = x (ix2 r l) :=
  View.read_writes_cons_unit_of_mem (Val := Elt Ideal) v f (off := ![0, 0]) (off' := ![0, 0]) Cert.KernelIdeal.Facts₀.inb_S256x128_S256x128_0_0 x [] (ix2 r l) (ix2 r l) rfl
    (Fin.forall_fin_two.mpr ⟨(Nat.zero_add _).symm, (Nat.zero_add _).symm⟩)
end

theorem eighthHalf_apply (x : FVec Ideal (Mat 256 128) .bf16) (i : (Mat 256 128).Idx) : eighthHalf x i = x i * (((1 : ℝ) / 8 : ℝ) : EReal) := by
  have e : Ideal.ofBits .bf16 0x3E00#16 = (((1 : ℝ) / 8 : ℝ) : EReal) := by
    simp [Ideal.ofBits, Ideal.ieee, -EReal.coe_mul]; norm_num
  show x i * Ideal.ofBits .bf16 0x3E00#16 = _
  rw [e]

namespace Attend

open Cert.FoxAttnIdeal Cert.FoxAttnIdeal.Gen

theorem index_0 : ∀ t : Fin cfg0.N, win0_0.index t = ![t.val / 32 * 8 + t.val % 8, t.val / 8 % 4] := (by decide +kernel : ∀ t : Fin grid0.N, _)
theorem index_1 : ∀ t : Fin cfg0.N, win0_1.index t = ![t.val / 32, t.val / 8 % 4] := (by decide +kernel : ∀ t : Fin grid0.N, _)
theorem index_2 : ∀ t : Fin cfg0.N, win0_2.index t = ![t.val / 32, 8 + t.val / 8 % 4] := (by decide +kernel : ∀ t : Fin grid0.N, _)
theorem index_3 : ∀ t : Fin cfg0.N, win0_3.index t = ![t.val / 32 * 8 + t.val % 8, t.val / 8 % 4] := (by decide +kernel : ∀ t : Fin grid0.N, _)
theorem index_4 : ∀ t : Fin cfg0.N, win0_4.index t = ![t.val / 32 * 4 + t.val / 8 % 4, 0] := (by decide +kernel : ∀ t : Fin grid0.N, _)
theorem index_5 : ∀ t : Fin cfg0.N, win0_5.index t = ![t.val / 32 * 8 + t.val % 8, t.val / 8 % 4] := (by decide +kernel : ∀ t : Fin grid0.N, _)
theorem index_6 : ∀ t : Fin cfg0.N, win0_6.index t = ![t.val / 32 * 8 + t.val % 8, t.val / 8 % 4] := (by decide +kernel : ∀ t : Fin grid0.N, _)

theorem point_lt (t : Fin cfg0.N) : t.val < 64 := t.isLt

/-- The sequence a point works on. -/
def seq (t : Fin cfg0.N) : Fin 2 := ⟨t.val / 32, by have h := point_lt t; omega⟩
/-- The pair of heads. -/
def pair (t : Fin cfg0.N) : Fin 4 := ⟨t.val / 8 % 4, Nat.mod_lt _ (by omega)⟩
/-- The pair's heads. -/
def hd (t : Fin cfg0.N) (a : Fin 2) : Fin 8 := ⟨2 * (pair t).val + a.val, by have := a.isLt; have := (pair t).isLt; omega⟩

section
variable (m : (ℓ : Loc nD τ sig) → Buf (Elt Ideal) ℓ) (c : Dev nD) (t : Fin cfg0.N)

/-- The heads a point works on. -/
def softAt (a : Fin 2) : Soft := softOf (argQ m c) (argK m c) (argF m c) (seq t) (hd t a)
/-- Their values. -/
def valuesAt (a : Fin 2) : Fin 2048 → Fin 64 → EReal := foxValues (argX m c) (seq t) (hd t a)

/-! ## Its blocks -/

theorem iblk_q {W : ℕ} (hW : W + 256 ≤ 2048) (ht : 256 * (t.val % 8) = W) (r : Fin 256) (a : Fin 2) (d : Fin 64) :
    (iblk m c 0 t : FVec Ideal S256x128 .bf16) (ix2 r (lane a d)) = argQ m c (ix2 (row (seq t) (pos hW r)) (col (hd t a) d)) := by
  unfold iblk
  rw [View.read_apply]
  refine (congrArg (V m c main_arg0 : Rows) (funext fun x => Fin.ext ?_)).trans (congrFun (V_main_arg0 m c) _)
  match x with
  | ⟨0, _⟩ =>
    show win0_0.index t 0 * 256 + 1 * r.val = t.val / 32 * 2048 + (W + r.val)
    rw [index_0]; show (t.val / 32 * 8 + t.val % 8) * 256 + 1 * r.val = _; omega
  | ⟨1, _⟩ =>
    show win0_0.index t 1 * 128 + 1 * (64 * a.val + d.val) = (2 * (t.val / 8 % 4) + a.val) * 64 + d.val
    rw [index_0]; show (t.val / 8 % 4) * 128 + 1 * (64 * a.val + d.val) = _; omega

theorem iblk_k (s : Fin 2048) (a : Fin 2) (d : Fin 64) :
    (iblk m c 1 t : FVec Ideal S2048x128 .bf16) (ix2 s (lane a d)) = argK m c (ix2 (row (seq t) s) (col (hd t a) d)) := by
  unfold iblk
  rw [View.read_apply]
  refine (congrArg (V m c main_arg1 : Rows) (funext fun x => Fin.ext ?_)).trans (congrFun (V_main_arg1 m c) _)
  match x with
  | ⟨0, _⟩ =>
    show win0_1.index t 0 * 2048 + 1 * s.val = t.val / 32 * 2048 + s.val
    rw [index_1]; show t.val / 32 * 2048 + 1 * s.val = _; omega
  | ⟨1, _⟩ =>
    show win0_1.index t 1 * 128 + 1 * (64 * a.val + d.val) = (2 * (t.val / 8 % 4) + a.val) * 64 + d.val
    rw [index_1]; show (t.val / 8 % 4) * 128 + 1 * (64 * a.val + d.val) = _; omega

theorem iblk_v (s : Fin 2048) (a : Fin 2) (d : Fin 64) :
    (iblk m c 2 t : FVec Ideal S2048x128 .f32) (ix2 s (lane a d)) = valuesAt m c t a s d := by
  unfold iblk
  rw [View.read_apply]
  refine (congrArg (V m c main_arg2 : Proj) (funext fun x => Fin.ext ?_)).trans (congrFun (V_main_arg2 m c) _)
  match x with
  | ⟨0, _⟩ =>
    show win0_2.index t 0 * 2048 + 1 * s.val = t.val / 32 * 2048 + s.val
    rw [index_2]; show t.val / 32 * 2048 + 1 * s.val = _; omega
  | ⟨1, _⟩ =>
    show win0_2.index t 1 * 128 + 1 * (64 * a.val + d.val) = 1024 + ((2 * (t.val / 8 % 4) + a.val) * 64 + d.val)
    rw [index_2]; show (8 + t.val / 8 % 4) * 128 + 1 * (64 * a.val + d.val) = _; omega

theorem iblk_f {W : ℕ} (hW : W + 256 ≤ 2048) (ht : 256 * (t.val % 8) = W) (r : Fin 256) (a : Fin 2) :
    (iblk m c 3 t : FVec Ideal S256x128 .f32) (ix2 r (lane a 0)) = argF m c (ix2 (row (seq t) (pos hW r)) (bcol (hd t a))) := by
  unfold iblk
  rw [View.read_apply]
  refine (congrArg (V m c main_v2 : Rows) (funext fun x => Fin.ext ?_)).trans (bias_cols m c (row (seq t) (pos hW r)) (hd t a) 0)
  match x with
  | ⟨0, _⟩ =>
    show win0_3.index t 0 * 256 + 1 * r.val = t.val / 32 * 2048 + (W + r.val)
    rw [index_3]; show (t.val / 32 * 8 + t.val % 8) * 256 + 1 * r.val = _; omega
  | ⟨1, _⟩ =>
    show win0_3.index t 1 * 128 + 1 * (64 * a.val + 0) = (2 * (t.val / 8 % 4) + a.val) * 64 + 0
    rw [index_3]; show (t.val / 8 % 4) * 128 + 1 * (64 * a.val + 0) = _; omega

theorem iblk_g (s : Fin 2048) (a : Fin 2) :
    (iblk m c 4 t : FVec Ideal S8x2048 .f32) (ix2 (⟨a.val, by omega⟩ : Fin 8) s) = argF m c (ix2 (row (seq t) s) (bcol (hd t a))) := by
  unfold iblk
  rw [View.read_apply]
  refine (congrArg (V m c main_v8 : (⟨2, ![64, 2048]⟩ : Shape).Idx → EReal) (funext fun x => Fin.ext ?_)).trans (bias_rows m c (seq t) (pair t) a s)
  match x with
  | ⟨0, _⟩ =>
    show win0_4.index t 0 * 8 + 1 * a.val = (t.val / 32 * 4 + t.val / 8 % 4) * 8 + a.val
    rw [index_4]; show (t.val / 32 * 4 + t.val / 8 % 4) * 8 + 1 * a.val = _; omega
  | ⟨1, _⟩ =>
    show win0_4.index t 1 * 2048 + 1 * s.val = s.val
    rw [index_4]; show 0 * 2048 + 1 * s.val = _; omega

/-! ## What a point reads -/

section
variable {W : ℕ} (hW : W + 256 ≤ 2048) (H : FiniteScores (argQ m c) (argK m c) (argF m c))
include H

theorem holdsOwn (ht : 256 * (t.val % 8) = W) : HoldsOwn hW (softAt m c t) (valuesAt m c t) (ownArg m c t hW) where
  q r a d := by
    refine (eighthHalf_apply (View.readAt (Elt Ideal) (ms0_0 t).view tileRect.toLoadRect ((hs0_0 t).unread (iblk m c 0 t))) (ix2 r (lane a d))).trans ?_
    rw [EReal.coe_mul]
    exact congrArg (· * _) ((read_tile (hs0_0 t) (iblk m c 0 t) r (lane a d)).trans ((iblk_q m c t hW ht r a d).trans (H.q _ _).symm))
  k r a d := (read_rows (hs0_1 t) (iblk m c 1 t) hW r (lane a d) (pos hW r) rfl).trans ((iblk_k m c t (pos hW r) a d).trans (H.k _ _).symm)
  v r a d := (read_rows (hs0_2 t) (iblk m c 2 t) hW r (lane a d) (pos hW r) rfl).trans (iblk_v m c t (pos hW r) a d)
  f r a := (read_bias (hs0_3 t) (iblk m c 3 t) a r).trans ((iblk_f m c t hW ht r a).trans (H.f _ _).symm)
  g r a := (read_keys (hs0_4 t) (iblk m c 4 t) a hW r (pos hW r) rfl).trans ((iblk_g m c t (pos hW r) a).trans (H.f _ _).symm)

theorem holdsBulk : HoldsBulk hW (softAt m c t) (valuesAt m c t) (bulkArg m c t hW) where
  k r a d := (read_rows (hs0_1 t) (iblk m c 1 t) (inb_bulk hW) r (lane a d) (old hW r) (Nat.zero_add _).symm).trans ((iblk_k m c t (old hW r) a d).trans (H.k _ _).symm)
  v r a d := (read_rows (hs0_2 t) (iblk m c 2 t) (inb_bulk hW) r (lane a d) (old hW r) (Nat.zero_add _).symm).trans (iblk_v m c t (old hW r) a d)
  g r a := (read_keys (hs0_4 t) (iblk m c 4 t) a (inb_bulk hW) r (old hW r) (Nat.zero_add _).symm).trans ((iblk_g m c t (old hW r) a).trans (H.f _ _).symm)
end

/-! ## What it stores -/

/-- The tiles of the results that point `t` stores. -/
def Done : Prop := ∀ (W : ℕ) (hW : W + 256 ≤ 2048), 256 * (t.val % 8) = W → ∀ r a d,
  ((outsAt0 m c t.val t.isLt).1 : FVec Ideal S256x128 .f32) (ix2 r (lane a d)) = (softAt m c t a).out (pos hW r) (valuesAt m c t a) d
    ∧ ((outsAt0 m c t.val t.isLt).2 : FVec Ideal S256x128 .f32) (ix2 r (lane a d)) = (((softAt m c t a).lse (pos hW r) : ℝ) : EReal)

/-- Two tiles stored, read back. -/
theorem stored_at {x y : FVec Ideal (Mat 256 128) .f32} (h : Stored m c t x y) (r : Fin 256) (l : Fin 128) :
    ((outsAt0 m c t.val t.isLt).1 : FVec Ideal S256x128 .f32) (ix2 r l) = x (ix2 r l)
      ∧ ((outsAt0 m c t.val t.isLt).2 : FVec Ideal S256x128 .f32) (ix2 r l) = y (ix2 r l) := by
  unfold Stored at h
  rw [h]
  dsimp only
  exact ⟨stored_tile VO0_5 VO0_5.junk x r l, stored_tile VO0_6 VO0_6.junk y r l⟩

variable (H : FiniteScores (argQ m c) (argK m c) (argF m c))
include H

theorem first_done (h : IsFirst m c t) (ht : t.val % 8 = 0) : Done m c t := by
  intro W hW hm r a d
  obtain rfl : W = 0 := by omega
  have S := stored_at m c t h r (lane a d)
  have R := holdsOwn m c t first_le H hm
  exact ⟨S.1.trans (outOwn_at R r a d), S.2.trans (lseOwn_at R r a d)⟩

theorem tile_done {W : ℕ} (hW : W + 256 ≤ 2048) (ht : 256 * (t.val % 8) = W) (h : IsTile m c t hW) : Done m c t := by
  intro W' hW' hm r a d
  obtain rfl : W' = W := by omega
  have S := stored_at m c t h r (lane a d)
  have R := holdsOwn m c t hW H ht
  have B := holdsBulk m c t hW H
  exact ⟨S.1.trans (outAll_at R B r a d), S.2.trans (lseAll_at R B r a d)⟩

theorem all_done : Done m c t := by
  have h8 : t.val % 8 < 8 := Nat.mod_lt _ (by omega)
  by_cases h0 : t.val % 8 = 0
  · exact first_done m c t H (tile_A m c t h0) h0
  by_cases h1 : t.val % 8 = 1
  · exact tile_done m c t H _ (by rw [h1]) (tile_B m c t h1)
  by_cases h2 : t.val % 8 = 2
  · exact tile_done m c t H _ (by rw [h2]) (tile_C m c t h2)
  by_cases h3 : t.val % 8 = 3
  · exact tile_done m c t H _ (by rw [h3]) (tile_D m c t h3)
  by_cases h4 : t.val % 8 = 4
  · exact tile_done m c t H _ (by rw [h4]) (tile_E m c t h4)
  by_cases h5 : t.val % 8 = 5
  · exact tile_done m c t H _ (by rw [h5]) (tile_F m c t h5)
  by_cases h6 : t.val % 8 = 6
  · exact tile_done m c t H _ (by rw [h6]) (tile_G m c t h6)
  have h7 : t.val % 8 = 7 := by omega
  exact tile_done m c t H _ (by rw [h7]) (tile_H m c t h7)

end

/-! ## The arrays -/

variable (m : (ℓ : Loc nD τ sig) → Buf (Elt Ideal) ℓ) (c : Dev nD) (H : FiniteScores (argQ m c) (argK m c) (argF m c))
include H

/-- The attention of all heads is what the grid leaves in its first result. -/
theorem array_out : (dats m 0 c).arrAt 5 cfg0.N = foxOut (argQ m c) (argK m c) (argX m c) (argF m c) := by
  refine (dats m 0 c).arrAt_eq_of_covers 5 _ (by decide +kernel) fun t _ y => ?_
  blk_simp
  rw [after0_5]
  obtain ⟨r, l, rfl⟩ : ∃ (r : Fin 256) (l : Fin 128), y = ix2 r l := ⟨y 0, y 1, eq_ix2 y⟩
  obtain ⟨a, d, rfl⟩ := exists_lane l
  have hW : 256 * (t.val % 8) + 256 ≤ 2048 := by omega
  have e : (win0_5.blk t).view.emb (ix2 r (lane a d)) = ix2 (row (seq t) (pos hW r)) (col (hd t a) d) := funext fun x => Fin.ext (by
    match x with
    | ⟨0, _⟩ =>
      show win0_5.index t 0 * 256 + 1 * r.val = t.val / 32 * 2048 + (256 * (t.val % 8) + r.val)
      rw [index_5]; show (t.val / 32 * 8 + t.val % 8) * 256 + 1 * r.val = _; omega
    | ⟨1, _⟩ =>
      show win0_5.index t 1 * 128 + 1 * (64 * a.val + d.val) = (2 * (t.val / 8 % 4) + a.val) * 64 + d.val
      rw [index_5]; show (t.val / 8 % 4) * 128 + 1 * (64 * a.val + d.val) = _; omega)
  refine Eq.trans ?_ (congrArg (foxOut (argQ m c) (argK m c) (argX m c) (argF m c)) e).symm
  exact (all_done m c t H _ hW rfl r a d).1.trans
    (ofRows_apply (fun b h t d => (softOf (argQ m c) (argK m c) (argF m c) b h).out t (foxValues (argX m c) b h) d) (seq t) (hd t a) (pos hW r) d).symm

/-- The logarithms of the sums are what it leaves in its second. -/
theorem array_lse : (dats m 0 c).arrAt 6 cfg0.N = foxLse (argQ m c) (argK m c) (argF m c) := by
  refine (dats m 0 c).arrAt_eq_of_covers 6 _ (by decide +kernel) fun t _ y => ?_
  blk_simp
  rw [after0_6]
  obtain ⟨r, l, rfl⟩ : ∃ (r : Fin 256) (l : Fin 128), y = ix2 r l := ⟨y 0, y 1, eq_ix2 y⟩
  obtain ⟨a, d, rfl⟩ := exists_lane l
  have hW : 256 * (t.val % 8) + 256 ≤ 2048 := by omega
  have e : (win0_6.blk t).view.emb (ix2 r (lane a d)) = ix2 (row (seq t) (pos hW r)) (col (hd t a) d) := funext fun x => Fin.ext (by
    match x with
    | ⟨0, _⟩ =>
      show win0_6.index t 0 * 256 + 1 * r.val = t.val / 32 * 2048 + (256 * (t.val % 8) + r.val)
      rw [index_6]; show (t.val / 32 * 8 + t.val % 8) * 256 + 1 * r.val = _; omega
    | ⟨1, _⟩ =>
      show win0_6.index t 1 * 128 + 1 * (64 * a.val + d.val) = (2 * (t.val / 8 % 4) + a.val) * 64 + d.val
      rw [index_6]; show (t.val / 8 % 4) * 128 + 1 * (64 * a.val + d.val) = _; omega)
  refine Eq.trans ?_ (congrArg (foxLse (argQ m c) (argK m c) (argF m c)) e).symm
  exact (all_done m c t H _ hW rfl r a d).2.trans
    (ofRows_apply (fun b h t _ => (((softOf (argQ m c) (argK m c) (argF m c) b h).lse t : ℝ) : EReal)) (seq t) (hd t a) (pos hW r) d).symm

end Attend

end Cert.Forgetting

end
-- ==== Proof.FoxAttnRef.lean ====
/-
  What the reference of the forgetting attention computes: head by head, the values weighted by the softmax of the scores,
  and the logarithm of the sum of the scores' exponentials, where the queries, keys and biases are real numbers.
-/
module

public import proofs.«01_k».proof.Proof.Reference
public import proofs.«01_k».proof.Proof.Softmax
public import proofs.«01_k».proof.Proof.Gen.FoxAttnRefIdeal.Read

@[expose] public section

set_option maxRecDepth 16384

noncomputable section

namespace Cert.Forgetting.Ref

open Idealize.ShloMosaic Idealize.ShloMosaic.ValueIdx
open Cert.FoxAttnRefIdeal Cert.FoxAttnRefIdeal.Read Cert.StickBreaking Cert.StickBreaking.Ref
open scoped BigOperators

/-- Comparing two positions as signed words. -/
theorem sge_scalar (t s : Fin 2048) : BitVec.ofBool ((BitVec.ofNat 32 s.val).sle (BitVec.ofNat 32 t.val)) = if s ≤ t then 1 else 0 := by
  have h := slt_scalar s t
  rw [BitVec.sle_eq_not_slt]
  by_cases hst : s ≤ t
  · rw [if_neg (not_lt.mpr hst)] at h
    rw [if_pos hst]
    revert h
    cases (BitVec.ofNat 32 t.val).slt (BitVec.ofNat 32 s.val) <;> decide
  · rw [if_pos (not_le.mp hst)] at h
    rw [if_neg hst]
    revert h
    cases (BitVec.ofNat 32 t.val).slt (BitVec.ofNat 32 s.val) <;> decide

theorem choose_bot (p : Prop) [Decidable p] (u z : EReal) (hz : z = ⊥) : Scalar.select (if p then (1 : BitVec 1) else 0) u z = if p then u else ⊥ := by
  subst hz
  split
  · exact select_one _ _
  · exact select_zero _ _

/-- The host's maximum along the last axis, from minus infinity. -/
theorem hostMax_apply (y : S2x8x2048x2048.Idx → EReal) (h' : S2x8x2048x2048.ReducesTo [3] S2x8x2048) (hu : 0 < S_.numel) (b : Fin 2) (h : Fin 8) (t : Fin 2048) :
    Host.reduce (FloatOps.maximumf (F := Ideal) (φ := .f32)) y (constant (F := Ideal) S_ .f32 0xFF800000#32) h' hu (ix3 b h t)
      = (Finset.univ : Finset (Fin 2048)).fold max ⊥ fun s => y (ix4 b h t s) := by
  have hr : S2x8x2048x2048.Reduces [3] S2x8x2048 := by decide
  refine (Host.reduce_eq_fold_single (FloatOps.maximumf (F := Ideal) (φ := .f32)) y _ h' hr hu (ix3 b h t)).trans ?_
  have e : (y ∘ hr.lift (ix3 b h t)) = fun s : Fin 2048 => y (ix4 b h t s) := funext fun s => congrArg y (by funext a; fin_cases a <;> rfl)
  exact (congrArg (fun f => Finset.fold max (Ideal.ofBits .f32 0xFF800000#32) f (Finset.univ : Finset (Fin 2048))) e).trans
    (congrArg (fun z => Finset.fold max z _ _) ofBits_neg_inf)

variable {q k : Rows} {f : Biases} (H : FiniteScores q k f) (x : Proj) (b : Fin 2) (h : Fin 8) (t s : Fin 2048) (d : Fin 64)

include H in
theorem q_at : val_main_v2 (F := Ideal) q (ix4 b t h d) = (((softOf q k f b h).Q t d : ℝ) : EReal) := by
  rw [val_main_v2_apply, idx_heads b h t d (idx_main_v2 (ix4 b t h d)) rfl rfl]
  exact (H.q _ _).symm

include H in
theorem k_at : val_main_v4 (F := Ideal) k (ix4 b t h d) = (((softOf q k f b h).K t d : ℝ) : EReal) := by
  rw [val_main_v4_apply, idx_heads b h t d (idx_main_v4 (ix4 b t h d)) rfl rfl]
  exact (H.k _ _).symm

theorem v_at : val_main_v5 (F := Ideal) x (ix4 b t h d) = foxValues x b h t d := by
  rw [val_main_v5_apply, val_main_v0_apply, idx_heads b h t d (idx_main_v5 (ix4 b t h d)) rfl rfl]
  refine congrArg x (funext fun a => ?_)
  match a with
  | ⟨0, _⟩ => rfl
  | ⟨1, _⟩ => rfl

include H in
theorem f_at : val_main_v8 (F := Ideal) f (ix3 b h t) = (((softOf q k f b h).f t : ℝ) : EReal) := by
  rw [val_main_v8_apply, val_main_v7_apply, val_main_v6_apply]
  refine Eq.trans (congrArg f (funext fun a => ?_)) (H.f (row b t) h).symm
  have hb := b.isLt
  have hh := h.isLt
  have ht := t.isLt
  match a with
  | ⟨0, _⟩ => exact Fin.ext (by show ((b.val * 2048 + t.val) * 8 + h.val) / 8 = b.val * 2048 + t.val; omega)
  | ⟨1, _⟩ => exact Fin.ext (by show ((b.val * 2048 + t.val) * 8 + h.val) % 8 = h.val; omega)

include H in
theorem x_at : val_main_v17 (F := Ideal) q k f (ix4 b h t s) = (((softOf q k f b h).x t s : ℝ) : EReal) := by
  have e9 : val_main_v9 (F := Ideal) q k (ix4 b h t s) = ((∑ d, (softOf q k f b h).Q t d * (softOf q k f b h).K s d : ℝ) : EReal) := by
    rw [val_main_v9_apply, coe_sum]
    refine Finset.sum_congr rfl fun d _ => ?_
    have el : lidx_main_v9 (ix4 b h t s) d = ix4 b t h d := by funext a; fin_cases a <;> rfl
    have er : ridx_main_v9 (ix4 b h t s) d = ix4 b s h d := by funext a; fin_cases a <;> rfl
    rw [el, er, q_at H, k_at H, EReal.coe_mul]
  have e13 : val_main_v13 (F := Ideal) f (ix4 b h t s) = (((softOf q k f b h).f t : ℝ) : EReal) := by
    rw [val_main_v13_apply, val_main_v12_apply]
    have e : idx_main_v12 (idx_main_v13 (ix4 b h t s)) = ix3 b h t := by funext a; fin_cases a <;> rfl
    rw [e, f_at H]
  have e16 : val_main_v16 (F := Ideal) f (ix4 b h t s) = (((softOf q k f b h).f s : ℝ) : EReal) := by
    rw [val_main_v16_apply, val_main_v15_apply]
    have e : idx_main_v15 (idx_main_v16 (ix4 b h t s)) = ix3 b h s := by funext a; fin_cases a <;> rfl
    rw [e, f_at H]
  rw [val_main_v17_apply, val_main_v14_apply, val_main_v11_apply, val_main_v10_apply, val_main_cst_apply, e9, e13, e16]
  unfold Soft.x
  rw [EReal.coe_sub, EReal.coe_add, EReal.coe_mul, ← ofBits_eighth]
  rfl

theorem mask_at : val_main_v20 (F := Ideal) (ix2 t s) = if s ≤ t then 1 else 0 := by
  rw [val_main_v20_apply, val_main_v18_apply, val_main_v19_apply]
  exact sge_scalar t s

include H in
theorem e_at : val_main_v21 (F := Ideal) q k f (ix4 b h t s) = (softOf q k f b h).e t s := by
  have e : idx_main_call0_v1 (ix4 b h t s) = ix2 t s := by funext a; fin_cases a <;> rfl
  rw [val_main_v21_apply, val_main_call0_v1_apply, e, mask_at, x_at H, val_main_call0_v2_apply, val_main_call0_v0_apply, val_main_cst_0_apply]
  exact choose_bot _ _ _ ofBits_neg_inf

include H in
/-- The largest score of a query is a real number. -/
theorem max_at : ∃ μ : ℝ, val_main_v22 (F := Ideal) q k f (ix3 b h t) = (μ : EReal) := by
  obtain ⟨μ, hμ⟩ := fold_real (Finset.univ : Finset (Fin 2048)) (fun s => (softOf q k f b h).e t s) (fun s _ => (softOf q k f b h).e_ne_top t s)
    (Finset.mem_univ t) ((softOf q k f b h).e_self t)
  refine ⟨μ, ?_⟩
  unfold val_main_v22
  refine (hostMax_apply (val_main_v21 (F := Ideal) q k f) _ _ b h t).trans ?_
  rw [← hμ]
  exact congrArg (fun g => Finset.fold max ⊥ g (Finset.univ : Finset (Fin 2048))) (funext fun s => e_at H b h t s)

section
variable {μ : ℝ} (hμ : val_main_v22 (F := Ideal) q k f (ix3 b h t) = (μ : EReal))
include H hμ

theorem p_at : val_main_v28 (F := Ideal) q k f (ix4 b h t s) = (((softOf q k f b h).p μ t s : ℝ) : EReal) := by
  have e : idx_main_v25 (idx_main_v26 (ix4 b h t s)) = ix3 b h t := by funext a; fin_cases a <;> rfl
  rw [val_main_v28_apply, val_main_v27_apply, e_at H, val_main_v26_apply, val_main_v25_apply, e, val_main_v24_apply, hμ, val_main_v23_apply, val_main_cst_2_apply]
  refine Eq.trans ?_ ((softOf q k f b h).power μ t s)
  refine congrArg (fun z : EReal => Ideal.exp ((softOf q k f b h).e t s - z)) ?_
  show max (Ideal.ofBits .f32 0xFF800000#32) (μ : EReal) = _
  rw [ofBits_neg_inf]; exact max_bot_left _

theorem den_at : val_main_v29 (F := Ideal) q k f (ix3 b h t) = (((softOf q k f b h).den μ t : ℝ) : EReal) := by
  rw [val_main_v29_apply, val_main_cst_3_apply]
  refine (congrArg (· + _) Ideal.ofBits_zero_f32).trans ?_
  rw [zero_add, Soft.den, coe_sum]
  refine Finset.sum_congr rfl fun s _ => ?_
  have e : idx_main_v29 (ix3 b h t) s = ix4 b h t s := by funext a; fin_cases a <;> rfl
  rw [e, p_at H b h t s hμ]

theorem p_at' : val_main_v39 (F := Ideal) q k f (ix4 b h t s) = (((softOf q k f b h).p μ t s : ℝ) : EReal) := by
  have e : idx_main_v36 (idx_main_v37 (ix4 b h t s)) = ix3 b h t := by funext a; fin_cases a <;> rfl
  rw [val_main_v39_apply, val_main_v38_apply, e_at H, val_main_v37_apply, val_main_v36_apply, e, show val_main_v35 (F := Ideal) q k f = val_main_v22 (F := Ideal) q k f from rfl, hμ]
  exact (softOf q k f b h).power μ t s

theorem den_at' : val_main_v40 (F := Ideal) q k f (ix3 b h t) = (((softOf q k f b h).den μ t : ℝ) : EReal) := by
  rw [val_main_v40_apply, val_main_cst_5_apply]
  refine (congrArg (· + _) Ideal.ofBits_zero_f32).trans ?_
  rw [zero_add, Soft.den, coe_sum]
  refine Finset.sum_congr rfl fun s _ => ?_
  have e : idx_main_v40 (ix3 b h t) s = ix4 b h t s := by funext a; fin_cases a <;> rfl
  rw [e, p_at' H b h t s hμ]
end

include H in
/-- The reference's first result. -/
theorem read_out : val_main_v46 (F := Ideal) q k x f = foxOut q k x f := by
  funext i
  obtain ⟨b, h, t, d, rfl⟩ := exists_row_col i
  obtain ⟨μ, hμ⟩ := max_at H b h t
  rw [val_main_v46_apply, idx_rows b h t d (idx_main_v46 (ix2 (row b t) (col h d))) rfl rfl rfl rfl, val_main_v34_apply]
  have e : idx_main_v34 (ix4 b t h d) = ix4 b h d t := by funext a; fin_cases a <;> rfl
  rw [e, val_main_v33_apply]
  refine Eq.trans (Finset.sum_congr rfl fun s _ => ?_) (ofRows_apply (fun b h t d => (softOf q k f b h).out t (foxValues x b h) d) b h t d).symm
  have el : lidx_main_v33 (ix4 b h d t) s = ix4 b s h d := by funext a; fin_cases a <;> rfl
  have er : ridx_main_v33 (ix4 b h d t) s = ix4 b h t s := by funext a; fin_cases a <;> rfl
  have e' : idx_main_v30 (idx_main_v31 (ix4 b h t s)) = ix3 b h t := by funext a; fin_cases a <;> rfl
  rw [el, er, v_at, val_main_v32_apply, p_at H b h t s hμ, val_main_v31_apply, val_main_v30_apply, e', den_at H b h t hμ]
  exact (softOf q k f b h).share μ t s (foxValues x b h s d)

include H in
/-- The reference's second result. -/
theorem read_lse : val_main_v49 (F := Ideal) q k f = foxLse q k f := by
  funext i
  obtain ⟨b, h, t, d, rfl⟩ := exists_row_col i
  obtain ⟨μ, hμ⟩ := max_at H b h t
  rw [val_main_v49_apply, val_main_v48_apply, val_main_v47_apply, val_main_v45_apply, val_main_v44_apply]
  have hb := b.isLt
  have hh := h.isLt
  have ht := t.isLt
  have hd := d.isLt
  have hr : (row b t).val = b.val * 2048 + t.val := rfl
  have hc : (col h d).val = h.val * 64 + d.val := rfl
  have e47 : idx_main_v47 (idx_main_v48 (idx_main_v49 (ix2 (row b t) (col h d)))) = ix3 b t h := by
    have e0 : ((row b t).val * 512 + (col h d).val) / 512 = b.val * 2048 + t.val := by omega
    have e1 : ((row b t).val * 512 + (col h d).val) / 64 % 8 = h.val := by omega
    funext a
    match a with
    | ⟨0, _⟩ => exact Fin.ext (by
        show (((row b t).val * 512 + (col h d).val) / 512 * 8 + ((row b t).val * 512 + (col h d).val) / 64 % 8) / 16384 = b.val
        rw [e0, e1]; omega)
    | ⟨1, _⟩ => exact Fin.ext (by
        show (((row b t).val * 512 + (col h d).val) / 512 * 8 + ((row b t).val * 512 + (col h d).val) / 64 % 8) / 8 % 2048 = t.val
        rw [e0, e1]; omega)
    | ⟨2, _⟩ => exact Fin.ext (by
        show (((row b t).val * 512 + (col h d).val) / 512 * 8 + ((row b t).val * 512 + (col h d).val) / 64 % 8) % 8 = h.val
        rw [e0, e1]; omega)
  rw [e47]
  have e44 : idx_main_v44 (idx_main_v45 (ix3 b t h)) = ix4 b h t (0 : Fin 1) := by
    funext a
    match a with
    | ⟨0, _⟩ => exact Fin.ext (by show ((b.val * 8 + h.val) * 2048 + t.val) / 16384 = b.val; omega)
    | ⟨1, _⟩ => exact Fin.ext (by show ((b.val * 8 + h.val) * 2048 + t.val) / 2048 % 8 = h.val; omega)
    | ⟨2, _⟩ => exact Fin.ext (by show ((b.val * 8 + h.val) * 2048 + t.val) / 1 % 2048 = t.val; omega)
    | ⟨3, _⟩ => rfl
  have e36 : idx_main_v36 (ix4 b h t (0 : Fin 1)) = ix3 b h t := by funext a; fin_cases a <;> rfl
  have e41 : idx_main_v41 (ix4 b h t (0 : Fin 1)) = ix3 b h t := by funext a; fin_cases a <;> rfl
  rw [e44, val_main_v43_apply, val_main_v42_apply, val_main_v36_apply, val_main_v41_apply, e36, e41,
    show val_main_v35 (F := Ideal) q k f = val_main_v22 (F := Ideal) q k f from rfl, hμ, den_at' H b h t hμ]
  exact ((softOf q k f b h).log_den μ t).trans (ofRows_apply (fun b h t _ => (((softOf q k f b h).lse t : ℝ) : EReal)) b h t d).symm

end Cert.Forgetting.Ref

end
-- ==== Proof.FoxAttnClaims.lean ====
/-
  The claims about the forgetting attention, forward: kernel and reference end with the same two arrays, where queries, keys
  and biases are real numbers.
-/
module

public import proofs.«01_k».proof.Defs
public import proofs.«01_k».proof.Proof.FoxAttnForward
public import proofs.«01_k».proof.Proof.FoxAttnRef
public import proofs.«01_k».proof.Proof.Gen.FoxAttnRefIdeal.Run
public import Idealize.ShloMosaic.Adequacy
public import Idealize.ShloMosaic.Init

@[expose] public section

noncomputable section

namespace Cert.Forgetting

open Idealize.ShloMosaic Idealize.SL.Sem

/-- Kernel and reference both end with the attention of all heads and the logarithms of their sums. -/
theorem attend : Cert.algebraic_FoxAttnIdeal_FoxAttnRefIdeal_pre_finite_scores := by
  intro m g m' g' hpre hargs
  have H := fun c => Pre.finite_of_pre _ _ _ _ (hpre c)
  refine ⟨fun c => foxOut (Attend.argQ m c) (Attend.argK m c) (Attend.argX m c) (Attend.argF m c), fun c => foxLse (Attend.argQ m c) (Attend.argK m c) (Attend.argF m c),
    (θ_run _ _ _).mono (fun r h c => ⟨(h c).1.trans (Attend.array_out m c (H c)), (h c).2.1.trans (Attend.array_lse m c (H c)), (h c).2.2⟩)
      (Cert.FoxAttnIdeal.Value.run_blocks (F := Ideal) m g),
    (θ_run _ _ _).mono (fun r h c => ⟨(h c).1.trans ?_, (h c).2.1.trans ?_, (h c).2.2⟩) (Cert.FoxAttnRefIdeal.Value.run (F := Ideal) m' g')⟩
  · refine (Cert.FoxAttnRefIdeal.Read.val_main_v46_eq _ _).trans ?_
    rw [(hargs c).1, (hargs c).2.1, (hargs c).2.2.1, (hargs c).2.2.2]
    exact Ref.read_out (H c) _
  · refine (Cert.FoxAttnRefIdeal.Read.val_main_v49_eq _ _).trans ?_
    rw [(hargs c).1, (hargs c).2.1, (hargs c).2.2.2]
    exact Ref.read_lse (H c)

theorem attend_frame : Cert.quiescent_FoxAttnRefIdeal := fun m g _ =>
  (θ_run _ _ _).mono (fun r h => ⟨fun c => (h c).2.2, sem_eq_zero_of_no_sems (by decide) r.2⟩)
    (Cert.FoxAttnRefIdeal.Value.run (F := Ideal) m g)

end Cert.Forgetting

end
-- ==== Proof.Products.lean ====
/-
  Products of matrices over the extended reals, and what the tile of a product is: the sum, over the steps along the
  contracted axis, of the products of the blocks.
-/
module

public import Idealize.ShloMosaic.Lib.MatmulPlain
public import Idealize.ShloMosaic.Lib.ValueIdx
public import Idealize.ShloMosaic.Lib.Pipeline.ValueKit

@[expose] public section

noncomputable section

namespace Cert.Products

open Idealize.ShloMosaic
open scoped BigOperators

/-- The shape of a matrix. -/
abbrev Mat (M N : ℕ) : Shape := ⟨2, ![M, N]⟩

variable {M N K : ℕ}

/-- The product of two matrices. -/
def mul (A : (Mat M K).Idx → EReal) (B : (Mat K N).Idx → EReal) : (Mat M N).Idx → EReal :=
  fun i => ∑ k : Fin K, A (ix2 (i 0) k) * B (ix2 k (i 1))

/-- The product with the second matrix transposed. -/
def mulT (A : (Mat M K).Idx → EReal) (B : (Mat N K).Idx → EReal) : (Mat M N).Idx → EReal :=
  fun i => ∑ k : Fin K, A (ix2 (i 0) k) * B (ix2 (i 1) k)

/-- The product with the first matrix transposed. -/
def tMul (A : (Mat K M).Idx → EReal) (B : (Mat K N).Idx → EReal) : (Mat M N).Idx → EReal :=
  fun i => ∑ k : Fin K, A (ix2 k (i 0)) * B (ix2 k (i 1))

theorem mul_apply (A : (Mat M K).Idx → EReal) (B : (Mat K N).Idx → EReal) (r : Fin M) (c : Fin N) :
    mul A B (ix2 r c) = ∑ k : Fin K, A (ix2 r k) * B (ix2 k c) := rfl
theorem mulT_apply (A : (Mat M K).Idx → EReal) (B : (Mat N K).Idx → EReal) (r : Fin M) (c : Fin N) :
    mulT A B (ix2 r c) = ∑ k : Fin K, A (ix2 r k) * B (ix2 c k) := rfl
theorem tMul_apply (A : (Mat K M).Idx → EReal) (B : (Mat K N).Idx → EReal) (r : Fin M) (c : Fin N) :
    tMul A B (ix2 r c) = ∑ k : Fin K, A (ix2 k r) * B (ix2 k c) := rfl

/-- The shape of a stack of matrices. -/
abbrev Stack (C R N : ℕ) : Shape := ⟨3, ![C, R, N]⟩

variable {C R H : ℕ}

/-- A stack with `H` rows of each matrix, from row `first` on, replaced. -/
def putRows (first : ℕ) (W : (Stack C R N).Idx → EReal) (G : Fin C → Fin H → Fin N → EReal) : (Stack C R N).Idx → EReal :=
  fun i => if h : first ≤ (i 1).val ∧ (i 1).val < first + H then G (i 0) ⟨(i 1).val - first, by omega⟩ (i 2) else W i

theorem putRows_inside {first : ℕ} (W : (Stack C R N).Idx → EReal) (G : Fin C → Fin H → Fin N → EReal) (p : Fin C) (q : Fin R) (r : Fin H)
    (c : Fin N) (h : q.val = first + r.val) : putRows first W G (ix3 p q c) = G p r c := by
  have hr := r.isLt
  refine (dif_pos (show first ≤ q.val ∧ q.val < first + H by omega)).trans ?_
  exact congrArg (G p · c) (Fin.ext (by show q.val - first = r.val; omega))

theorem putRows_outside {first : ℕ} (W : (Stack C R N).Idx → EReal) (G : Fin C → Fin H → Fin N → EReal) (i : (Stack C R N).Idx)
    (h : ¬(first ≤ (i 1).val ∧ (i 1).val < first + H)) : putRows first W G i = W i := dif_neg h

/-- A matrix read as a stack of one. -/
theorem shapeCast_stack {α : Type} (v : (Mat H N).Idx → α) (h : (Mat H N).ShapeCasts (Stack 1 H N)) (p : Fin 1) (r : Fin H) (c : Fin N) :
    shapeCast (Stack 1 H N) v h (ix3 p r c) = v (ix2 r c) :=
  (shapeCast_addUnit_apply ![H, N] v h (ix3 p r c)).trans (congrArg v (funext fun a => match a with | ⟨0, _⟩ => rfl | ⟨1, _⟩ => rfl))

/-- A stack put together from its matrices. -/
theorem concatenate_stack {α : Type} (f : Fin C → (Stack 1 H N).Idx → α)
    (h : Shape.Concatenates ((List.ofFn fun n : Fin C => (⟨Stack 1 H N, f n⟩ : (s : Shape) × (s.Idx → α))).map (·.1)) (Stack C H N) 0)
    (p : Fin C) (r : Fin H) (c : Fin N) :
    concatenate (Stack C H N) 0 (List.ofFn fun n : Fin C => (⟨Stack 1 H N, f n⟩ : (s : Shape) × (s.Idx → α))) h (ix3 p r c) = f p (ix3 0 r c) :=
  concatenate_ofFn_unit_apply 0 f h rfl rfl (ix3 p r c) p rfl (ix3 0 r c) fun b hb => match b, hb with
    | ⟨0, _⟩, hb => absurd rfl hb
    | ⟨1, _⟩, _ => rfl
    | ⟨2, _⟩, _ => rfl

/-- The rows of a matrix, `H` to each matrix of a stack. -/
def rowShards {M : ℕ} (P : (Mat M N).Idx → EReal) (h : C * H ≤ M := by decide) : Fin C → Fin H → Fin N → EReal :=
  fun p r c => P (ix2 ⟨H * p.val + r.val, by
    have := Nat.mul_le_mul_left H p.isLt; rw [Nat.mul_succ, Nat.mul_comm H C] at this; omega⟩ c)

/-- Columns of a matrix for each matrix of a stack, those of the next one `stride` later. -/
def columnShards {M : ℕ} (stride : ℕ) (P : (Mat H M).Idx → EReal) (h : stride * C + N ≤ stride + M := by decide) : Fin C → Fin H → Fin N → EReal :=
  fun p r c => P (ix2 r ⟨stride * p.val + c.val, by
    have := Nat.mul_le_mul_left stride p.isLt; rw [Nat.mul_succ] at this; omega⟩)

/-- An update of whole rows at a place where it fits. -/
theorem update_rows (W : (Stack C R N).Idx → EReal) (U : (Stack C H N).Idx → EReal) (start : Fin 3 → Int) (first : ℕ)
    (h : (Stack C R N).Slices (fun _ => 0) (Stack C H N)) (h0 : start 0 = 0) (h1 : start 1 = first) (h2 : start 2 = 0)
    (hf : first + H ≤ R) :
    Host.dynamicUpdateSlice W U start h = putRows first W (fun p r c => U (ix3 p r c)) := by
  have c0 : Host.clampedStart (Stack C R N) (Stack C H N) h.1 start 0 = 0 := Host.clampedStart_of_le _ _ _ 0 h0 (by show 0 + C ≤ C; omega)
  have c1 : Host.clampedStart (Stack C R N) (Stack C H N) h.1 start 1 = first := Host.clampedStart_of_le _ _ _ first h1 hf
  have c2 : Host.clampedStart (Stack C R N) (Stack C H N) h.1 start 2 = 0 := Host.clampedStart_of_le _ _ _ 0 h2 (by show 0 + N ≤ N; omega)
  funext i
  rw [Host.dynamicUpdateSlice_apply]
  by_cases hi : first ≤ (i 1).val ∧ (i 1).val < first + H
  · rw [dif_pos, putRows, dif_pos hi]
    · refine congrArg U (funext fun x => Fin.ext ?_)
      match x with
      | ⟨0, _⟩ => show (i 0).val - Host.clampedStart (Stack C R N) (Stack C H N) h.1 start 0 = (i 0).val; rw [c0]; rfl
      | ⟨1, _⟩ => show (i 1).val - Host.clampedStart (Stack C R N) (Stack C H N) h.1 start 1 = (i 1).val - first; rw [c1]
      | ⟨2, _⟩ => show (i 2).val - Host.clampedStart (Stack C R N) (Stack C H N) h.1 start 2 = (i 2).val; rw [c2]; rfl
    · intro a
      match a with
      | ⟨0, _⟩ => exact ⟨by show Host.clampedStart (Stack C R N) (Stack C H N) h.1 start 0 ≤ _; rw [c0]; exact Nat.zero_le _,
          by show (i 0).val < Host.clampedStart (Stack C R N) (Stack C H N) h.1 start 0 + C; rw [c0, Nat.zero_add]; exact (i 0).isLt⟩
      | ⟨1, _⟩ => exact ⟨by show Host.clampedStart (Stack C R N) (Stack C H N) h.1 start 1 ≤ (i 1).val; rw [c1]; exact hi.1,
          by show (i 1).val < Host.clampedStart (Stack C R N) (Stack C H N) h.1 start 1 + H; rw [c1]; exact hi.2⟩
      | ⟨2, _⟩ => exact ⟨by show Host.clampedStart (Stack C R N) (Stack C H N) h.1 start 2 ≤ _; rw [c2]; exact Nat.zero_le _,
          by show (i 2).val < Host.clampedStart (Stack C R N) (Stack C H N) h.1 start 2 + N; rw [c2, Nat.zero_add]; exact (i 2).isLt⟩
  · rw [dif_neg, putRows, dif_neg hi]
    intro hin
    have := hin 1
    rw [c1] at this
    exact hi this

/-- The square of the positive part. -/
def reluSquared {S : Shape} (X : S.Idx → EReal) : S.Idx → EReal := fun i => max (X i) 0 * max (X i) 0

/-- A gradient times the derivative of the square of the positive part. -/
def reluSquaredGrad {S : Shape} (G U : S.Idx → EReal) : S.Idx → EReal :=
  fun i => G i * (Ideal.ofBits .f32 0x40000000#32 * max (U i) 0)

variable {φ₁ φ₂ : FTy}

/-- A product that starts from zero is the product. -/
theorem dot_plain (a : FVec Ideal (Mat M K) φ₁) (b : FVec Ideal (Mat K N) φ₂) (i : (Mat M N).Idx) :
    matmul (DotDims.plain M K N) none a b (constant (F := Ideal) (Mat M N) .f32 0x00000000#32) i = mul a b i := by
  obtain ⟨r, c, rfl⟩ : ∃ (r : Fin M) (c : Fin N), i = ix2 r c := ⟨i 0, i 1, eq_ix2 i⟩
  refine (Ideal.matmul_plain_apply none a b _ r c).trans ?_
  show Ideal.ofBits .f32 0x00000000#32 + _ = _
  rw [Ideal.ofBits_zero_f32, zero_add]; rfl

theorem dot_transposed (a : FVec Ideal (Mat M K) φ₁) (b : FVec Ideal (Mat N K) φ₂) (i : (Mat M N).Idx) :
    matmul (DotDims.transposedRhs M K N) none a b (constant (F := Ideal) (Mat M N) .f32 0x00000000#32) i = mulT a b i := by
  obtain ⟨r, c, rfl⟩ : ∃ (r : Fin M) (c : Fin N), i = ix2 r c := ⟨i 0, i 1, eq_ix2 i⟩
  refine (Ideal.matmul_transposedRhs_apply none a b _ r c).trans ?_
  show Ideal.ofBits .f32 0x00000000#32 + _ = _
  rw [Ideal.ofBits_zero_f32, zero_add]; rfl

/-- The dimensions of a product whose left matrix is transposed. -/
def dimsTransposedLhs (M N K : ℕ) (wf : DotDims.WF (Mat K M) (Mat K N) (Mat M N) [0] [0] [1] [1] [] []) : DotDims (Mat K M) (Mat K N) (Mat M N) where
  lhsContracting := [0]
  rhsContracting := [0]
  lhsNonContracting := [1]
  rhsNonContracting := [1]
  lhsBatch := []
  rhsBatch := []
  wf := wf

theorem dot_transposed_left (wf : DotDims.WF (Mat K M) (Mat K N) (Mat M N) [0] [0] [1] [1] [] []) (a : FVec Ideal (Mat K M) φ₁)
    (b : FVec Ideal (Mat K N) φ₂) (i : (Mat M N).Idx) :
    matmul (dimsTransposedLhs M N K wf) none a b (constant (F := Ideal) (Mat M N) .f32 0x00000000#32) i = tMul a b i := by
  obtain ⟨r, c, rfl⟩ : ∃ (r : Fin M) (c : Fin N), i = ix2 r c := ⟨i 0, i 1, eq_ix2 i⟩
  refine (Ideal.matmul_apply (dimsTransposedLhs M N K wf) none a b _ (ix2 r c)).trans ?_
  rw [← Equiv.sum_comp (ValueIdx.contrEquiv1 (dimsTransposedLhs M N K wf) K rfl rfl).symm]
  refine Eq.trans (congrArg₂ (· + ·) Ideal.ofBits_zero_f32 (Finset.sum_congr rfl fun k _ => ?_)) (zero_add _)
  have hk := ValueIdx.contrEquiv1_symm_val (dimsTransposedLhs M N K wf) K rfl rfl k
  refine congrArg₂ (· * ·) (congrArg a (funext fun x => Fin.ext ?_)) (congrArg b (funext fun x => Fin.ext ?_))
  all_goals match x with
    | ⟨0, _⟩ => exact hk
    | ⟨1, _⟩ => rfl

end Cert.Products

end
-- ==== Proof.MlpOutDx.lean ====
/-
  The gradient of the MLP's hidden units: the incoming gradient times the transposed weights, times the derivative of the
  square of the positive part.
-/
module

public import proofs.«01_k».proof.Proof.Gen.MlpOutDxIdeal.Value
public import proofs.«01_k».proof.Proof.Gen.MlpOutDxRefIdeal.Read
public import proofs.«01_k».proof.Proof.Products

@[expose] public section

noncomputable section

namespace Cert.MlpOutDxIdeal.Product

open Idealize.ShloMosaic
open Idealize.SL.Sem Idealize.ShloMosaic.TcCoe
open Cert.MlpOutDxIdeal Cert.MlpOutDxIdeal.Gen Cert.Products

theorem index_0 : ∀ t : Fin cfg0.N, win0_0.index t = ![t.val / 8, 0] := (by decide +kernel : ∀ t : Fin grid0.N, _)
theorem index_1 : ∀ t : Fin cfg0.N, win0_1.index t = ![t.val % 8, 0] := (by decide +kernel : ∀ t : Fin grid0.N, _)
theorem index_2 : ∀ t : Fin cfg0.N, win0_2.index t = ![t.val / 8, t.val % 8] := (by decide +kernel : ∀ t : Fin grid0.N, _)
theorem index_3 : ∀ t : Fin cfg0.N, win0_3.index t = ![t.val / 8, t.val % 8] := (by decide +kernel : ∀ t : Fin grid0.N, _)

variable (m : (ℓ : Loc nD τ sig) → Buf (Elt Ideal) ℓ) (c : Dev nD)

/-- The incoming gradient. -/
def argA : (Mat 4096 1024).Idx → EReal := m ((c : Thread nD τ).loc main_arg0)
/-- The weights. -/
def argB : (Mat 4096 1024).Idx → EReal := m ((c : Thread nD τ).loc main_arg1)
/-- The hidden units before the nonlinearity. -/
def argU : (Mat 4096 4096).Idx → EReal := m ((c : Thread nD τ).loc main_arg2)

/-- The product of a point's blocks is the product, read at the block's place. -/
theorem part_apply (t : Fin cfg0.N) (j : (Mat 2048 512).Idx) :
    k0_pay1 (F := Ideal) (iblk m c 0 t) (iblk m c 1 t) j = mulT (argA m c) (argB m c) ((win0_3.blk t).view.emb j) := by
  refine (dot_transposed _ _ j).trans (Finset.sum_congr rfl fun k _ => ?_)
  have ha : argA m c = V m c main_arg0 := rfl
  have hb : argB m c = V m c main_arg1 := rfl
  rw [ha, hb]
  refine congrArg₂ (· * ·) ?_ ?_
  · show (iblk m c 0 t : FVec Ideal S2048x1024 .f32) _ = _
    blk_ext [iblk, V, index_0, index_1, index_3]
  · blk_ext [iblk, V, index_0, index_1, index_3]

theorem unit_apply (t : Fin cfg0.N) (j : (Mat 2048 512).Idx) :
    (iblk m c 2 t : FVec Ideal S2048x512 .f32) j = argU m c ((win0_3.blk t).view.emb j) := by
  have hu : argU m c = V m c main_arg2 := rfl
  rw [hu]
  blk_ext [iblk, V, index_2, index_3]

theorem out_apply (t : Fin cfg0.N) (j : (Mat 2048 512).Idx) :
    outsAt0 m c t j = reluSquaredGrad (mulT (argA m c) (argB m c)) (argU m c) ((win0_3.blk t).view.emb j) := by
  unfold outsAt0
  frame_out [k0_pay2, shapeCast_self]
  rw [reluSquaredGrad, ← part_apply m c t j, ← unit_apply m c t j]
  show _ * (Ideal.ofBits .f32 0x40000000#32 * max _ (Ideal.ofBits .f32 0x00000000#32)) = _
  rw [Ideal.ofBits_zero_f32]

theorem array : (dats m 0 c).arrAt 3 cfg0.N = reluSquaredGrad (mulT (argA m c) (argB m c)) (argU m c) := by
  refine (dats m 0 c).arrAt_eq_of_covers 3 _ (by decide +kernel) fun t _ y => ?_
  blk_simp
  rw [after0_3]
  exact out_apply m c t y

end Cert.MlpOutDxIdeal.Product

namespace Cert.MlpOutDxRefIdeal.Product

open Idealize.ShloMosaic
open Cert.MlpOutDxRefIdeal Cert.MlpOutDxRefIdeal.Read Cert.Products

theorem read_product (a : (Mat 4096 1024).Idx → EReal) (b : (Mat 4096 1024).Idx → EReal) : val_main_v9 (F := Ideal) a b = mulT a b := by
  funext i
  rw [val_main_v9_apply]
  refine Finset.sum_congr rfl fun k _ => ?_
  rw [val_main_v7_apply]
  refine congrArg₂ (· * ·) (congrArg a (funext fun x => ?_)) (congrArg b (funext fun x => ?_))
  all_goals match x with
    | ⟨0, _⟩ => rfl
    | ⟨1, _⟩ => rfl

theorem read (a : (Mat 4096 1024).Idx → EReal) (b : (Mat 4096 1024).Idx → EReal) (u : (Mat 4096 4096).Idx → EReal) :
    val_main_v13 (F := Ideal) a b u = reluSquaredGrad (mulT a b) u := by
  funext i
  rw [reluSquaredGrad, ← read_product]
  rw [val_main_v13_apply, val_main_v12_apply, val_main_v10_apply]
  show Scalar.select (Ideal.cmp .ogt (u i) (Ideal.ofBits .f32 0x00000000#32))
    (_ * (Ideal.ofBits .f32 0x40000000#32 * max (u i) (Ideal.ofBits .f32 0x00000000#32))) (Ideal.ofBits .f32 0x00000000#32) = _
  rw [Ideal.ofBits_zero_f32, Scalar.select, Ideal.cmp]
  by_cases h : 0 < u i
  · rw [if_pos (by rw [decide_eq_true h]; rfl)]
  · rw [if_neg (by rw [decide_eq_false h]; decide), max_eq_right (not_lt.mp h), mul_zero, mul_zero]

end Cert.MlpOutDxRefIdeal.Product

end
-- ==== Proof.ProjDx.lean ====
/-
  The gradient of the projection's input: the incoming gradient times the transposed weights, in four steps of 2176 of the
  8704 columns.
-/
module

public import proofs.«01_k».proof.Proof.Gen.ProjDxIdeal.Value
public import proofs.«01_k».proof.Proof.Gen.ProjDxRefIdeal.Read
public import proofs.«01_k».proof.Proof.Products

@[expose] public section

noncomputable section

namespace Cert.ProjDxIdeal.Product

open Idealize.ShloMosaic
open Idealize.SL.Sem Idealize.ShloMosaic.TcCoe
open Cert.ProjDxIdeal Cert.ProjDxIdeal.Gen Cert.Products

theorem index_0 : ∀ t : Fin cfg0.N, win0_0.index t = ![t.val / 4, t.val % 4] := (by decide +kernel : ∀ t : Fin grid0.N, _)
theorem index_1 : ∀ t : Fin cfg0.N, win0_1.index t = ![0, t.val % 4] := (by decide +kernel : ∀ t : Fin grid0.N, _)
theorem index_2 : ∀ t : Fin cfg0.N, win0_2.index t = ![t.val / 4, 0] := (by decide +kernel : ∀ t : Fin grid0.N, _)

variable (m : (ℓ : Loc nD τ sig) → Buf (Elt Ideal) ℓ) (c : Dev nD)

/-- The incoming gradient. -/
def argA : (Mat 4096 8704).Idx → EReal := m ((c : Thread nD τ).loc main_arg0)
/-- The weights. -/
def argB : (Mat 1024 8704).Idx → EReal := m ((c : Thread nD τ).loc main_arg1)

/-- The product of a point's blocks. -/
def part (t : Fin cfg0.N) : (Mat 1024 1024).Idx → EReal := mulT (iblk m c 0 t : FVec Ideal S1024x2176 .bf16) (iblk m c 1 t : FVec Ideal S1024x2176 .bf16)

theorem pay_part (t : Fin cfg0.N) (j : (Mat 1024 1024).Idx) : k0_pay1 (F := Ideal) (iblk m c 0 t) (iblk m c 1 t) j = part m c t j :=
  dot_transposed _ _ j

theorem acc_first (t : Fin cfg0.N) (h0 : t.val % 4 = 0) (j : (Mat 1024 1024).Idx) :
    (outsAt0 m c t.val t.isLt).2 j = 0 + part m c t j := by
  rw [outsAt0_A m c t h0 (by omega) (by omega)]
  frame_out [k0_pay2, shapeCast_self]
  rw [zero_add, pay_part]

theorem acc_next (t : Fin cfg0.N) (h0 : ¬t.val % 4 = 0) (j : (Mat 1024 1024).Idx) :
    (outsAt0 m c t.val t.isLt).2 j = (outsAt0 m c (t.val - 1) (Nat.lt_of_le_of_lt (Nat.sub_le _ _) t.isLt)).2 j + part m c t j := by
  rw [← pay_part]
  by_cases h3 : t.val % 4 = 3
  · rw [outsAt0_C m c t h0 (by omega) h3]
    frame_out [k0_pay3, shapeCast_self]
    exact congrArg (· + _) (congrFun (Memref.IsWhole.read_unread _ _) j)
  · rw [outsAt0_B m c t h0 (by omega) h3]
    frame_out [k0_pay3, shapeCast_self]
    exact congrArg (· + _) (congrFun (Memref.IsWhole.read_unread _ _) j)

theorem out_last (t : Fin cfg0.N) (h : t.val % 4 = 3) : (outsAt0 m c t.val t.isLt).1 = (outsAt0 m c t.val t.isLt).2 := by
  rw [outsAt0_C m c t (by omega) (by omega) h]
  frame_out

theorem out_apply (t : Fin cfg0.N) (h : t.val % 4 = 3) (j : (Mat 1024 1024).Idx) :
    (outsAt0 m c t.val t.isLt).1 j = mulT (argA m c) (argB m c) ((win0_2.blk t).view.emb j) := by
  rw [out_last m c t h, Pipeline.eq_sum_fin_of_reset_step_apply_of_flush (fun n h => (outsAt0 m c n h).2) 4 (fun _ => 0) (part m c)
    (acc_first m c) (acc_next m c) t h j, zero_add]
  refine Fin.sum_mul_add_congr fun s k hl => ?_
  have ha : argA m c = V m c main_arg0 := rfl
  have hb : argB m c = V m c main_arg1 := rfl
  rw [ha, hb]
  congr 1 <;> blk_ext [iblk, V, index_0, index_1, index_2]

theorem array : (dats m 0 c).arrAt 2 cfg0.N = mulT (argA m c) (argB m c) := by
  refine (dats m 0 c).arrAt_eq_of_covers 2 _ (by decide +kernel) fun t ht y => ?_
  blk_simp
  rw [after0_2]
  exact out_apply m c t ((flush0_2 t).mp ht) y

end Cert.ProjDxIdeal.Product

namespace Cert.ProjDxRefIdeal.Product

open Idealize.ShloMosaic
open Cert.ProjDxRefIdeal Cert.ProjDxRefIdeal.Read Cert.Products

theorem read (a : (Mat 4096 8704).Idx → EReal) (b : (Mat 1024 8704).Idx → EReal) : val_main_v4 (F := Ideal) a b = mulT a b := by
  funext i
  rw [val_main_v4_apply]
  refine Finset.sum_congr rfl fun k _ => ?_
  rw [val_main_v3_apply, val_main_v1_apply]
  refine congrArg₂ (· * ·) (congrArg a (funext fun x => ?_)) (congrArg b (funext fun x => ?_))
  all_goals match x with
    | ⟨0, _⟩ => rfl
    | ⟨1, _⟩ => rfl

end Cert.ProjDxRefIdeal.Product

end
-- ==== Proof.MlpInDx.lean ====
/-
  The gradient of the MLP's input: the incoming gradient times the transposed weights, in two steps of 2048 of the 4096
  hidden units.
-/
module

public import proofs.«01_k».proof.Proof.Gen.MlpInDxIdeal.Value
public import proofs.«01_k».proof.Proof.Gen.MlpInDxRefIdeal.Read
public import proofs.«01_k».proof.Proof.Products

@[expose] public section

noncomputable section

namespace Cert.MlpInDxIdeal.Product

open Idealize.ShloMosaic
open Idealize.SL.Sem  Idealize.ShloMosaic.TcCoe
open Cert.MlpInDxIdeal Cert.MlpInDxIdeal.Gen Cert.Products

theorem index_0 : ∀ t : Fin cfg0.N, win0_0.index t = ![t.val / 4, t.val % 2] := (by decide +kernel : ∀ t : Fin grid0.N, _)
theorem index_1 : ∀ t : Fin cfg0.N, win0_1.index t = ![t.val / 2 % 2, t.val % 2] := (by decide +kernel : ∀ t : Fin grid0.N, _)
theorem index_2 : ∀ t : Fin cfg0.N, win0_2.index t = ![t.val / 4, t.val / 2 % 2] := (by decide +kernel : ∀ t : Fin grid0.N, _)

variable (m : (ℓ : Loc nD τ sig) → Buf (Elt Ideal) ℓ) (c : Dev nD)

/-- The incoming gradient and the weights. -/
def argA : (Mat 4096 4096).Idx → EReal := m ((c : Thread nD τ).loc main_arg0)
def argB : (Mat 1024 4096).Idx → EReal := m ((c : Thread nD τ).loc main_arg1)

/-- The product of a point's blocks. -/
def part (t : Fin cfg0.N) : (Mat 2048 512).Idx → EReal := mulT (iblk m c 0 t : FVec Ideal S2048x2048 .bf16) (iblk m c 1 t : FVec Ideal S512x2048 .bf16)

theorem pay_part (t : Fin cfg0.N) (j : (Mat 2048 512).Idx) : k0_pay1 (F := Ideal) (iblk m c 0 t) (iblk m c 1 t) j = part m c t j :=
  dot_transposed _ _ j

theorem acc_first (t : Fin cfg0.N) (h0 : t.val % 2 = 0) (j : (Mat 2048 512).Idx) :
    (outsAt0 m c t.val t.isLt).2 j = 0 + part m c t j := by
  rw [outsAt0_A m c t h0 (by omega) (by omega)]
  frame_out [k0_pay2, shapeCast_self]
  rw [zero_add, pay_part]

theorem acc_next (t : Fin cfg0.N) (h0 : ¬t.val % 2 = 0) (j : (Mat 2048 512).Idx) :
    (outsAt0 m c t.val t.isLt).2 j = (outsAt0 m c (t.val - 1) (Nat.lt_of_le_of_lt (Nat.sub_le _ _) t.isLt)).2 j + part m c t j := by
  rw [outsAt0_B m c t h0 (by omega) (by omega)]
  frame_out [k0_pay3, shapeCast_self]
  rw [← pay_part]
  exact congrArg (· + _) (congrFun (Memref.IsWhole.read_unread _ _) j)

theorem out_last (t : Fin cfg0.N) (h0 : t.val % 2 = 1) :
    (outsAt0 m c t.val t.isLt).1 = (outsAt0 m c t.val t.isLt).2 := by
  rw [outsAt0_B m c t (by omega) (by omega) (by omega)]
  frame_out

theorem out_apply (t : Fin cfg0.N) (h : t.val % 2 = 1) (j : (Mat 2048 512).Idx) :
    (outsAt0 m c t.val t.isLt).1 j = mulT (argA m c) (argB m c) ((win0_2.blk t).view.emb j) := by
  rw [out_last m c t h, Pipeline.eq_sum_fin_of_reset_step_apply_of_flush (fun n h => (outsAt0 m c n h).2) 2 (fun _ => 0) (part m c)
    (acc_first m c) (acc_next m c) t h j, zero_add]
  refine Fin.sum_mul_add_congr fun s k hl => ?_
  have ha : argA m c = V m c main_arg0 := rfl
  have hb : argB m c = V m c main_arg1 := rfl
  rw [ha, hb]
  congr 1 <;> blk_ext [iblk, V, index_0, index_1, index_2]

theorem array : (dats m 0 c).arrAt 2 cfg0.N = mulT (argA m c) (argB m c) := by
  refine (dats m 0 c).arrAt_eq_of_covers 2 _ (by decide +kernel) fun t ht y => ?_
  blk_simp
  rw [after0_2]
  exact out_apply m c t ((flush0_2 t).mp ht) y

end Cert.MlpInDxIdeal.Product

namespace Cert.MlpInDxRefIdeal.Product

open Idealize.ShloMosaic
open Cert.MlpInDxRefIdeal Cert.MlpInDxRefIdeal.Read Cert.Products

theorem read (a : (Mat 4096 4096).Idx → EReal) (b : (Mat 1024 4096).Idx → EReal) : val_main_v4 (F := Ideal) a b = mulT a b := by
  funext i
  rw [val_main_v4_apply]
  refine Finset.sum_congr rfl fun k _ => ?_
  rw [val_main_v3_apply, val_main_v1_apply]
  refine congrArg₂ (· * ·) (congrArg a (funext fun x => ?_)) (congrArg b (funext fun x => ?_))
  all_goals match x with
    | ⟨0, _⟩ => rfl
    | ⟨1, _⟩ => rfl

end Cert.MlpInDxRefIdeal.Product

end
-- ==== Proof.Proj.lean ====
/-
  The projection: the normed rows times the weights, block by block.
-/
module

public import proofs.«01_k».proof.Proof.Gen.ProjIdeal.Value
public import proofs.«01_k».proof.Proof.Gen.ProjRefIdeal.Read
public import proofs.«01_k».proof.Proof.Products

@[expose] public section

noncomputable section

namespace Cert.ProjIdeal.Product

open Idealize.ShloMosaic
open Idealize.SL.Sem Idealize.ShloMosaic.TcCoe
open Cert.ProjIdeal Cert.ProjIdeal.Gen Cert.Products

theorem index_0 : ∀ t : Fin cfg0.N, win0_0.index t = ![t.val / 17, 0] := (by decide +kernel : ∀ t : Fin grid0.N, _)
theorem index_1 : ∀ t : Fin cfg0.N, win0_1.index t = ![0, t.val % 17] := (by decide +kernel : ∀ t : Fin grid0.N, _)
theorem index_2 : ∀ t : Fin cfg0.N, win0_2.index t = ![t.val / 17, t.val % 17] := (by decide +kernel : ∀ t : Fin grid0.N, _)

variable (m : (ℓ : Loc nD τ sig) → Buf (Elt Ideal) ℓ) (c : Dev nD)

/-- The normed rows. -/
def argA : (Mat 4096 1024).Idx → EReal := m ((c : Thread nD τ).loc main_arg0)
/-- The weights. -/
def argB : (Mat 1024 8704).Idx → EReal := m ((c : Thread nD τ).loc main_arg1)

theorem out_apply (t : Fin cfg0.N) (j : (Mat 2048 512).Idx) :
    outsAt0 m c t j = mul (argA m c) (argB m c) ((win0_2.blk t).view.emb j) := by
  unfold outsAt0
  frame_out [k0_pay2, shapeCast_self]
  refine (dot_plain _ _ j).trans (Finset.sum_congr rfl fun k _ => ?_)
  have ha : argA m c = V m c main_arg0 := rfl
  have hb : argB m c = V m c main_arg1 := rfl
  rw [ha, hb]
  congr 1 <;> blk_ext [iblk, V, index_0, index_1, index_2]

theorem array : (dats m 0 c).arrAt 2 cfg0.N = mul (argA m c) (argB m c) := by
  refine (dats m 0 c).arrAt_eq_of_covers 2 _ (by decide +kernel) fun t _ y => ?_
  blk_simp
  rw [after0_2]
  exact out_apply m c t y

end Cert.ProjIdeal.Product

namespace Cert.ProjRefIdeal.Product

open Idealize.ShloMosaic
open Cert.ProjRefIdeal Cert.ProjRefIdeal.Read Cert.Products

theorem read (a : (Mat 4096 1024).Idx → EReal) (b : (Mat 1024 8704).Idx → EReal) : val_main_v2 (F := Ideal) a b = mul a b := by
  funext i
  rw [val_main_v2_apply]
  refine Finset.sum_congr rfl fun k _ => ?_
  rw [val_main_v0_apply, val_main_v1_apply]
  refine congrArg₂ (· * ·) (congrArg a (funext fun x => ?_)) (congrArg b (funext fun x => ?_))
  all_goals match x with
    | ⟨0, _⟩ => rfl
    | ⟨1, _⟩ => rfl

end Cert.ProjRefIdeal.Product

end
-- ==== Proof.MlpIn.lean ====
/-
  The MLP's first product and the square of its positive part, block by block.
-/
module

public import proofs.«01_k».proof.Proof.Gen.MlpInIdeal.Value
public import proofs.«01_k».proof.Proof.Gen.MlpInRefIdeal.Read
public import proofs.«01_k».proof.Proof.Products

@[expose] public section

noncomputable section

namespace Cert.MlpInIdeal.Product

open Idealize.ShloMosaic
open Idealize.SL.Sem Idealize.ShloMosaic.TcCoe
open Cert.MlpInIdeal Cert.MlpInIdeal.Gen Cert.Products

theorem index_0 : ∀ t : Fin cfg0.N, win0_0.index t = ![t.val / 8, 0] := (by decide +kernel : ∀ t : Fin grid0.N, _)
theorem index_1 : ∀ t : Fin cfg0.N, win0_1.index t = ![0, t.val % 8] := (by decide +kernel : ∀ t : Fin grid0.N, _)
theorem index_2 : ∀ t : Fin cfg0.N, win0_2.index t = ![t.val / 8, t.val % 8] := (by decide +kernel : ∀ t : Fin grid0.N, _)
theorem index_3 : ∀ t : Fin cfg0.N, win0_3.index t = ![t.val / 8, t.val % 8] := (by decide +kernel : ∀ t : Fin grid0.N, _)

variable (m : (ℓ : Loc nD τ sig) → Buf (Elt Ideal) ℓ) (c : Dev nD)

/-- The normed rows. -/
def argA : (Mat 4096 1024).Idx → EReal := m ((c : Thread nD τ).loc main_arg0)
/-- The weights. -/
def argB : (Mat 1024 4096).Idx → EReal := m ((c : Thread nD τ).loc main_arg1)

/-- The product of a point's blocks is the product, read at the block's place. -/
theorem part_apply (t : Fin cfg0.N) (j : (Mat 2048 512).Idx) :
    k0_pay1 (F := Ideal) (iblk m c 0 t) (iblk m c 1 t) j = mul (argA m c) (argB m c) ((win0_2.blk t).view.emb j) := by
  refine (dot_plain _ _ j).trans (Finset.sum_congr rfl fun k _ => ?_)
  have ha : argA m c = V m c main_arg0 := rfl
  have hb : argB m c = V m c main_arg1 := rfl
  rw [ha, hb]
  congr 1 <;> blk_ext [iblk, V, index_0, index_1, index_2]

theorem out_apply (t : Fin cfg0.N) (j : (Mat 2048 512).Idx) :
    (outsAt0 m c t).1 j = mul (argA m c) (argB m c) ((win0_2.blk t).view.emb j) := by
  unfold outsAt0
  frame_out [k0_pay2, shapeCast_self]
  exact part_apply m c t j

theorem act_apply (t : Fin cfg0.N) (j : (Mat 2048 512).Idx) :
    (outsAt0 m c t).2 j = reluSquared (mul (argA m c) (argB m c)) ((win0_3.blk t).view.emb j) := by
  unfold outsAt0
  frame_out [k0_pay2, shapeCast_self]
  have e : (win0_3.blk t).view.emb j = (win0_2.blk t).view.emb j := by blk_ext [index_2, index_3]
  rw [e, reluSquared, ← part_apply m c t j]
  show max _ (Ideal.ofBits .f32 0x00000000#32) * max _ (Ideal.ofBits .f32 0x00000000#32) = _
  rw [Ideal.ofBits_zero_f32]

theorem array : (dats m 0 c).arrAt 2 cfg0.N = mul (argA m c) (argB m c) := by
  refine (dats m 0 c).arrAt_eq_of_covers 2 _ (by decide +kernel) fun t _ y => ?_
  blk_simp
  rw [after0_2]
  exact out_apply m c t y

theorem array_act : (dats m 0 c).arrAt 3 cfg0.N = reluSquared (mul (argA m c) (argB m c)) := by
  refine (dats m 0 c).arrAt_eq_of_covers 3 _ (by decide +kernel) fun t _ y => ?_
  blk_simp
  rw [after0_3]
  exact act_apply m c t y

end Cert.MlpInIdeal.Product

namespace Cert.MlpInRefIdeal.Product

open Idealize.ShloMosaic
open Cert.MlpInRefIdeal Cert.MlpInRefIdeal.Read Cert.Products

theorem read (a : (Mat 4096 1024).Idx → EReal) (b : (Mat 1024 4096).Idx → EReal) : val_main_v2 (F := Ideal) a b = mul a b := by
  funext i
  rw [val_main_v2_apply]
  refine Finset.sum_congr rfl fun k _ => ?_
  rw [val_main_v0_apply, val_main_v1_apply]
  refine congrArg₂ (· * ·) (congrArg a (funext fun x => ?_)) (congrArg b (funext fun x => ?_))
  all_goals match x with
    | ⟨0, _⟩ => rfl
    | ⟨1, _⟩ => rfl

theorem read_act (a : (Mat 4096 1024).Idx → EReal) (b : (Mat 1024 4096).Idx → EReal) :
    val_main_v5 (F := Ideal) a b = reluSquared (mul a b) := by
  funext i
  rw [reluSquared, ← read]
  show max _ (Ideal.ofBits .f32 0x00000000#32) * max _ (Ideal.ofBits .f32 0x00000000#32) = _
  rw [Ideal.ofBits_zero_f32]

end Cert.MlpInRefIdeal.Product

end
-- ==== Proof.MlpOut.lean ====
/-
  The MLP's second product, added to the residual: in two steps of 2048 of the 4096 hidden units.
-/
module

public import proofs.«01_k».proof.Proof.Gen.MlpOutIdeal.Value
public import proofs.«01_k».proof.Proof.Gen.MlpOutRefIdeal.Read
public import proofs.«01_k».proof.Proof.Products

@[expose] public section

noncomputable section

namespace Cert.MlpOutIdeal.Product

open Idealize.ShloMosaic
open Idealize.SL.Sem Idealize.ShloMosaic.TcCoe
open Cert.MlpOutIdeal Cert.MlpOutIdeal.Gen Cert.Products

theorem index_0 : ∀ t : Fin cfg0.N, win0_0.index t = ![t.val / 4, t.val % 2] := (by decide +kernel : ∀ t : Fin grid0.N, _)
theorem index_1 : ∀ t : Fin cfg0.N, win0_1.index t = ![t.val % 2, t.val / 2 % 2] := (by decide +kernel : ∀ t : Fin grid0.N, _)
theorem index_2 : ∀ t : Fin cfg0.N, win0_2.index t = ![t.val / 4, t.val / 2 % 2] := (by decide +kernel : ∀ t : Fin grid0.N, _)
theorem index_3 : ∀ t : Fin cfg0.N, win0_3.index t = ![t.val / 4, t.val / 2 % 2] := (by decide +kernel : ∀ t : Fin grid0.N, _)

variable (m : (ℓ : Loc nD τ sig) → Buf (Elt Ideal) ℓ) (c : Dev nD)

/-- The hidden units. -/
def argA : (Mat 4096 4096).Idx → EReal := m ((c : Thread nD τ).loc main_arg0)
/-- The weights. -/
def argB : (Mat 4096 1024).Idx → EReal := m ((c : Thread nD τ).loc main_arg1)
/-- The residual. -/
def argR : (Mat 4096 1024).Idx → EReal := m ((c : Thread nD τ).loc main_arg2)

/-- The product of a point's blocks. -/
def part (t : Fin cfg0.N) : (Mat 2048 512).Idx → EReal := mul (iblk m c 0 t : FVec Ideal S2048x2048 .bf16) (iblk m c 1 t : FVec Ideal S2048x512 .bf16)

theorem pay_part (t : Fin cfg0.N) (j : (Mat 2048 512).Idx) : k0_pay1 (F := Ideal) (iblk m c 0 t) (iblk m c 1 t) j = part m c t j :=
  dot_plain _ _ j

theorem acc_first (t : Fin cfg0.N) (h0 : t.val % 2 = 0) (j : (Mat 2048 512).Idx) :
    (outsAt0 m c t.val t.isLt).2 j = 0 + part m c t j := by
  rw [outsAt0_A m c t h0 (by omega) (by omega)]
  frame_out [k0_pay2, shapeCast_self]
  rw [zero_add, pay_part]

theorem acc_next (t : Fin cfg0.N) (h0 : ¬t.val % 2 = 0) (j : (Mat 2048 512).Idx) :
    (outsAt0 m c t.val t.isLt).2 j = (outsAt0 m c (t.val - 1) (Nat.lt_of_le_of_lt (Nat.sub_le _ _) t.isLt)).2 j + part m c t j := by
  rw [← pay_part, outsAt0_B m c t h0 (by omega) (by omega)]
  frame_out [k0_pay3, shapeCast_self]
  exact congrArg (· + _) (congrFun (Memref.IsWhole.read_unread _ _) j)

theorem out_last (t : Fin cfg0.N) (h : t.val % 2 = 1) (j : (Mat 2048 512).Idx) :
    (outsAt0 m c t.val t.isLt).1 j = (outsAt0 m c t.val t.isLt).2 j + (iblk m c 2 t : FVec Ideal S2048x512 .f32) j := by
  rw [outsAt0_B m c t (by omega) (by omega) (by omega)]
  frame_out [k0_pay4]
  rfl

theorem out_apply (t : Fin cfg0.N) (h : t.val % 2 = 1) (j : (Mat 2048 512).Idx) :
    (outsAt0 m c t.val t.isLt).1 j
      = mul (argA m c) (argB m c) ((win0_3.blk t).view.emb j) + argR m c ((win0_3.blk t).view.emb j) := by
  rw [out_last m c t h, Pipeline.eq_sum_fin_of_reset_step_apply_of_flush (fun n h => (outsAt0 m c n h).2) 2 (fun _ => 0) (part m c)
    (acc_first m c) (acc_next m c) t h j, zero_add]
  have ha : argA m c = V m c main_arg0 := rfl
  have hb : argB m c = V m c main_arg1 := rfl
  have hr : argR m c = V m c main_arg2 := rfl
  refine congrArg₂ (· + ·) (Fin.sum_mul_add_congr fun s k hl => ?_) ?_
  · rw [ha, hb]
    congr 1 <;> blk_ext [iblk, V, index_0, index_1, index_3]
  · rw [hr]
    blk_ext [iblk, V, index_2, index_3]

theorem array : (dats m 0 c).arrAt 3 cfg0.N = fun i => argR m c i + mul (argA m c) (argB m c) i := by
  refine (dats m 0 c).arrAt_eq_of_covers 3 _ (by decide +kernel) fun t ht y => ?_
  blk_simp
  rw [after0_3]
  exact (out_apply m c t ((flush0_3 t).mp ht) y).trans (add_comm _ _)

end Cert.MlpOutIdeal.Product

namespace Cert.MlpOutRefIdeal.Product

open Idealize.ShloMosaic
open Cert.MlpOutRefIdeal Cert.MlpOutRefIdeal.Read Cert.Products

theorem read (a : (Mat 4096 4096).Idx → EReal) (b : (Mat 4096 1024).Idx → EReal) (r : (Mat 4096 1024).Idx → EReal) :
    val_main_v3 (F := Ideal) a b r = fun i => r i + mul a b i := by
  funext i
  refine congrArg (r i + ·) ?_
  rw [val_main_v2_apply]
  refine Finset.sum_congr rfl fun k _ => ?_
  rw [val_main_v0_apply, val_main_v1_apply]
  refine congrArg₂ (· * ·) (congrArg a (funext fun x => ?_)) (congrArg b (funext fun x => ?_))
  all_goals match x with
    | ⟨0, _⟩ => rfl
    | ⟨1, _⟩ => rfl

end Cert.MlpOutRefIdeal.Product

end
-- ==== Proof.ProductClaims.lean ====
/-
  The claims about the products with the activations, backward and forward: each kernel's array is the product, and so is
  its reference's.
-/
module

public import proofs.«01_k».proof.Defs
public import proofs.«01_k».proof.Proof.MlpOutDx
public import proofs.«01_k».proof.Proof.ProjDx
public import proofs.«01_k».proof.Proof.MlpInDx
public import proofs.«01_k».proof.Proof.Proj
public import proofs.«01_k».proof.Proof.MlpIn
public import proofs.«01_k».proof.Proof.MlpOut
public import proofs.«01_k».proof.Proof.Gen.MlpOutDxRefIdeal.Run
public import proofs.«01_k».proof.Proof.Gen.ProjDxRefIdeal.Run
public import proofs.«01_k».proof.Proof.Gen.MlpInDxRefIdeal.Run
public import proofs.«01_k».proof.Proof.Gen.ProjRefIdeal.Run
public import proofs.«01_k».proof.Proof.Gen.MlpInRefIdeal.Run
public import proofs.«01_k».proof.Proof.Gen.MlpOutRefIdeal.Run
public import Idealize.ShloMosaic.Adequacy
public import Idealize.ShloMosaic.Init

@[expose] public section

noncomputable section

namespace Cert.ProductClaims

open Idealize.ShloMosaic Idealize.SL.Sem

section MlpOutDx
open Cert.MlpOutDxIdeal.Product

/-- Kernel and reference both end with the gradient of the hidden units. -/
theorem mlpOutDx : Cert.algebraic_MlpOutDxIdeal_MlpOutDxRefIdeal := by
  intro m g m' g' _ hargs
  refine ⟨fun c => Products.reluSquaredGrad (Products.mulT (argA m c) (argB m c)) (argU m c),
    (θ_run _ _ _).mono (fun r h c => ⟨(h c).1.trans (array m c), (h c).2⟩) (Cert.MlpOutDxIdeal.Value.run_blocks (F := Ideal) m g),
    (θ_run _ _ _).mono (fun r h c => ⟨(h c).1.trans ?_, (h c).2⟩) (Cert.MlpOutDxRefIdeal.Value.run (F := Ideal) m' g')⟩
  refine (Cert.MlpOutDxRefIdeal.Read.val_main_v13_eq _ _ _).trans ?_
  rw [(hargs c).1, (hargs c).2.1, (hargs c).2.2]
  exact Cert.MlpOutDxRefIdeal.Product.read _ _ _

theorem mlpOutDx_frame : Cert.quiescent_MlpOutDxRefIdeal := fun m g _ =>
  (θ_run _ _ _).mono (fun r h => ⟨fun c => (h c).2, sem_eq_zero_of_no_sems (by decide) r.2⟩)
    (Cert.MlpOutDxRefIdeal.Value.run (F := Ideal) m g)

end MlpOutDx

section ProjDx
open Cert.ProjDxIdeal.Product

/-- Kernel and reference both end with the gradient of the projection's input. -/
theorem projDx : Cert.algebraic_ProjDxIdeal_ProjDxRefIdeal := by
  intro m g m' g' _ hargs
  refine ⟨fun c => Products.mulT (argA m c) (argB m c),
    (θ_run _ _ _).mono (fun r h c => ⟨(h c).1.trans (array m c), (h c).2⟩) (Cert.ProjDxIdeal.Value.run_blocks (F := Ideal) m g),
    (θ_run _ _ _).mono (fun r h c => ⟨(h c).1.trans ?_, (h c).2⟩) (Cert.ProjDxRefIdeal.Value.run (F := Ideal) m' g')⟩
  refine (Cert.ProjDxRefIdeal.Read.val_main_v4_eq _ _).trans ?_
  rw [(hargs c).1, (hargs c).2]
  exact Cert.ProjDxRefIdeal.Product.read _ _

theorem projDx_frame : Cert.quiescent_ProjDxRefIdeal := fun m g _ =>
  (θ_run _ _ _).mono (fun r h => ⟨fun c => (h c).2, sem_eq_zero_of_no_sems (by decide) r.2⟩)
    (Cert.ProjDxRefIdeal.Value.run (F := Ideal) m g)

end ProjDx

section MlpInDx
open Cert.MlpInDxIdeal.Product

/-- Kernel and reference both end with the gradient of the MLP's input. -/
theorem mlpInDx : Cert.algebraic_MlpInDxIdeal_MlpInDxRefIdeal := by
  intro m g m' g' _ hargs
  refine ⟨fun c => Products.mulT (argA m c) (argB m c),
    (θ_run _ _ _).mono (fun r h c => ⟨(h c).1.trans (array m c), (h c).2⟩) (Cert.MlpInDxIdeal.Value.run_blocks (F := Ideal) m g),
    (θ_run _ _ _).mono (fun r h c => ⟨(h c).1.trans ?_, (h c).2⟩) (Cert.MlpInDxRefIdeal.Value.run (F := Ideal) m' g')⟩
  refine (Cert.MlpInDxRefIdeal.Read.val_main_v4_eq _ _).trans ?_
  rw [(hargs c).1, (hargs c).2]
  exact Cert.MlpInDxRefIdeal.Product.read _ _

theorem mlpInDx_frame : Cert.quiescent_MlpInDxRefIdeal := fun m g _ =>
  (θ_run _ _ _).mono (fun r h => ⟨fun c => (h c).2, sem_eq_zero_of_no_sems (by decide) r.2⟩)
    (Cert.MlpInDxRefIdeal.Value.run (F := Ideal) m g)

end MlpInDx

section Proj
open Cert.ProjIdeal.Product

/-- Kernel and reference both end with the projections. -/
theorem proj : Cert.algebraic_ProjIdeal_ProjRefIdeal := by
  intro m g m' g' _ hargs
  refine ⟨fun c => Products.mul (argA m c) (argB m c),
    (θ_run _ _ _).mono (fun r h c => ⟨(h c).1.trans (array m c), (h c).2⟩) (Cert.ProjIdeal.Value.run_blocks (F := Ideal) m g),
    (θ_run _ _ _).mono (fun r h c => ⟨(h c).1.trans ?_, (h c).2⟩) (Cert.ProjRefIdeal.Value.run (F := Ideal) m' g')⟩
  refine (Cert.ProjRefIdeal.Read.val_main_v2_eq _ _).trans ?_
  rw [(hargs c).1, (hargs c).2]
  exact Cert.ProjRefIdeal.Product.read _ _

theorem proj_frame : Cert.quiescent_ProjRefIdeal := fun m g _ =>
  (θ_run _ _ _).mono (fun r h => ⟨fun c => (h c).2, sem_eq_zero_of_no_sems (by decide) r.2⟩)
    (Cert.ProjRefIdeal.Value.run (F := Ideal) m g)

end Proj

section MlpIn
open Cert.MlpInIdeal.Product

/-- Kernel and reference both end with the hidden units and the squares of their positive parts. -/
theorem mlpIn : Cert.algebraic_MlpInIdeal_MlpInRefIdeal := by
  intro m g m' g' _ hargs
  refine ⟨fun c => Products.mul (argA m c) (argB m c), fun c => Products.reluSquared (Products.mul (argA m c) (argB m c)),
    (θ_run _ _ _).mono (fun r h c => ⟨(h c).1.trans (array m c), (h c).2.1.trans (array_act m c), (h c).2.2⟩)
      (Cert.MlpInIdeal.Value.run_blocks (F := Ideal) m g),
    (θ_run _ _ _).mono (fun r h c => ⟨(h c).1.trans ?_, (h c).2.1.trans ?_, (h c).2.2⟩)
      (Cert.MlpInRefIdeal.Value.run (F := Ideal) m' g')⟩
  · refine (Cert.MlpInRefIdeal.Read.val_main_v2_eq _ _).trans ?_
    rw [(hargs c).1, (hargs c).2]
    exact Cert.MlpInRefIdeal.Product.read _ _
  · refine (Cert.MlpInRefIdeal.Read.val_main_v5_eq _ _).trans ?_
    rw [(hargs c).1, (hargs c).2]
    exact Cert.MlpInRefIdeal.Product.read_act _ _

theorem mlpIn_frame : Cert.quiescent_MlpInRefIdeal := fun m g _ =>
  (θ_run _ _ _).mono (fun r h => ⟨fun c => (h c).2.2, sem_eq_zero_of_no_sems (by decide) r.2⟩)
    (Cert.MlpInRefIdeal.Value.run (F := Ideal) m g)

end MlpIn

section MlpOut
open Cert.MlpOutIdeal.Product

/-- Kernel and reference both end with the residual stream plus the MLP's second product. -/
theorem mlpOut : Cert.algebraic_MlpOutIdeal_MlpOutRefIdeal := by
  intro m g m' g' _ hargs
  refine ⟨fun c i => argR m c i + Products.mul (argA m c) (argB m c) i,
    (θ_run _ _ _).mono (fun r h c => ⟨(h c).1.trans (array m c), (h c).2⟩) (Cert.MlpOutIdeal.Value.run_blocks (F := Ideal) m g),
    (θ_run _ _ _).mono (fun r h c => ⟨(h c).1.trans ?_, (h c).2⟩) (Cert.MlpOutRefIdeal.Value.run (F := Ideal) m' g')⟩
  refine (Cert.MlpOutRefIdeal.Read.val_main_v3_eq _ _ _).trans ?_
  rw [(hargs c).1, (hargs c).2.1, (hargs c).2.2]
  exact Cert.MlpOutRefIdeal.Product.read _ _ _

theorem mlpOut_frame : Cert.quiescent_MlpOutRefIdeal := fun m g _ =>
  (θ_run _ _ _).mono (fun r h => ⟨fun c => (h c).2, sem_eq_zero_of_no_sems (by decide) r.2⟩)
    (Cert.MlpOutRefIdeal.Value.run (F := Ideal) m g)

end MlpOut

end Cert.ProductClaims

end
-- ==== Proof.Ups.lean ====
/-
  The products that raise the attention branches to the model's width: the forgetting and stick-breaking heads, of 512
  columns, and the dilated heads, of 256.
-/
module

public import proofs.«01_k».proof.Proof.Gen.UpIdeal.Value
public import proofs.«01_k».proof.Proof.Gen.UpRefIdeal.Read
public import proofs.«01_k».proof.Proof.Gen.UpDilIdeal.Value
public import proofs.«01_k».proof.Proof.Gen.UpDilRefIdeal.Read
public import proofs.«01_k».proof.Proof.Products

@[expose] public section

noncomputable section

namespace Cert.UpIdeal.Product

open Idealize.ShloMosaic
open Idealize.SL.Sem Idealize.ShloMosaic.TcCoe
open Cert.UpIdeal Cert.UpIdeal.Gen Cert.Products

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

variable (m : (ℓ : Loc nD τ sig) → Buf (Elt Ideal) ℓ) (c : Dev nD)

/-- The heads and the weights. -/
def argA : (Mat 4096 512).Idx → EReal := m ((c : Thread nD τ).loc main_arg0)
def argB : (Mat 512 1024).Idx → EReal := m ((c : Thread nD τ).loc main_arg1)

theorem out_apply (t : Fin cfg0.N) (j : (Mat 2048 512).Idx) :
    outsAt0 m c t j = mul (argA m c) (argB m c) ((win0_2.blk t).view.emb j) := by
  unfold outsAt0
  frame_out [k0_pay2, shapeCast_self]
  refine (dot_plain _ _ j).trans (Finset.sum_congr rfl fun k _ => ?_)
  have ha : argA m c = V m c main_arg0 := rfl
  have hb : argB m c = V m c main_arg1 := rfl
  rw [ha, hb]
  congr 1 <;> blk_ext [iblk, V, index_0, index_1, index_2]

theorem array : (dats m 0 c).arrAt 2 cfg0.N = mul (argA m c) (argB m c) := by
  refine (dats m 0 c).arrAt_eq_of_covers 2 _ (by decide +kernel) fun t _ y => ?_
  blk_simp
  rw [after0_2]
  exact out_apply m c t y

end Cert.UpIdeal.Product

namespace Cert.UpRefIdeal.Product

open Idealize.ShloMosaic
open Cert.UpRefIdeal Cert.UpRefIdeal.Read Cert.Products

theorem read (a : (Mat 4096 512).Idx → EReal) (b : (Mat 512 1024).Idx → EReal) : val_main_v2 (F := Ideal) a b = mul a b := by
  funext i
  rw [val_main_v2_apply]
  refine Finset.sum_congr rfl fun k _ => ?_
  rw [val_main_v0_apply, val_main_v1_apply]
  refine congrArg₂ (· * ·) (congrArg a (funext fun x => ?_)) (congrArg b (funext fun x => ?_))
  all_goals match x with
    | ⟨0, _⟩ => rfl
    | ⟨1, _⟩ => rfl

end Cert.UpRefIdeal.Product

namespace Cert.UpDilIdeal.Product

open Idealize.ShloMosaic
open Idealize.SL.Sem Idealize.ShloMosaic.TcCoe
open Cert.UpDilIdeal Cert.UpDilIdeal.Gen Cert.Products

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)

variable (m : (ℓ : Loc nD τ sig) → Buf (Elt Ideal) ℓ) (c : Dev nD)

/-- The heads and the weights. -/
def argA : (Mat 4096 256).Idx → EReal := m ((c : Thread nD τ).loc main_arg0)
def argB : (Mat 256 1024).Idx → EReal := m ((c : Thread nD τ).loc main_arg1)

theorem out_apply (t : Fin cfg0.N) (j : (Mat 2048 512).Idx) :
    outsAt0 m c t j = mul (argA m c) (argB m c) ((win0_2.blk t).view.emb j) := by
  unfold outsAt0
  frame_out [k0_pay2, shapeCast_self]
  refine (dot_plain _ _ j).trans (Finset.sum_congr rfl fun k _ => ?_)
  have ha : argA m c = V m c main_arg0 := rfl
  have hb : argB m c = V m c main_arg1 := rfl
  rw [ha, hb]
  congr 1 <;> blk_ext [iblk, V, index_0, index_1, index_2]

theorem array : (dats m 0 c).arrAt 2 cfg0.N = mul (argA m c) (argB m c) := by
  refine (dats m 0 c).arrAt_eq_of_covers 2 _ (by decide +kernel) fun t _ y => ?_
  blk_simp
  rw [after0_2]
  exact out_apply m c t y

end Cert.UpDilIdeal.Product

namespace Cert.UpDilRefIdeal.Product

open Idealize.ShloMosaic
open Cert.UpDilRefIdeal Cert.UpDilRefIdeal.Read Cert.Products

theorem read (a : (Mat 4096 256).Idx → EReal) (b : (Mat 256 1024).Idx → EReal) : val_main_v2 (F := Ideal) a b = mul a b := by
  funext i
  rw [val_main_v2_apply]
  refine Finset.sum_congr rfl fun k _ => ?_
  rw [val_main_v0_apply, val_main_v1_apply]
  refine congrArg₂ (· * ·) (congrArg a (funext fun x => ?_)) (congrArg b (funext fun x => ?_))
  all_goals match x with
    | ⟨0, _⟩ => rfl
    | ⟨1, _⟩ => rfl

end Cert.UpDilRefIdeal.Product

end
-- ==== Proof.OutGradients.lean ====
/-
  The gradients of what the output projection and the raising products read: the incoming gradient times the transposed
  weights.
-/
module

public import proofs.«01_k».proof.Proof.Gen.OutProjDxIdeal.Value
public import proofs.«01_k».proof.Proof.Gen.OutProjDxRefIdeal.Read
public import proofs.«01_k».proof.Proof.Gen.UpDxIdeal.Value
public import proofs.«01_k».proof.Proof.Gen.UpDxRefIdeal.Read
public import proofs.«01_k».proof.Proof.Gen.UpDilDxIdeal.Value
public import proofs.«01_k».proof.Proof.Gen.UpDilDxRefIdeal.Read
public import proofs.«01_k».proof.Proof.Products

@[expose] public section

noncomputable section

namespace Cert.OutProjDxIdeal.Product

open Idealize.ShloMosaic
open Idealize.SL.Sem Idealize.ShloMosaic.TcCoe
open Cert.OutProjDxIdeal Cert.OutProjDxIdeal.Gen Cert.Products

theorem index_0 : ∀ t : Fin cfg0.N, win0_0.index t = ![t.val / 2, 0] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 2, t.val % 2] := (by decide +kernel : ∀ t : Fin grid0.N, _)

variable (m : (ℓ : Loc nD τ sig) → Buf (Elt Ideal) ℓ) (c : Dev nD)

/-- The incoming gradient and the weights. -/
def argA : (Mat 4096 1024).Idx → EReal := m ((c : Thread nD τ).loc main_arg0)
def argB : (Mat 1024 1024).Idx → EReal := m ((c : Thread nD τ).loc main_arg1)

theorem out_apply (t : Fin cfg0.N) (j : (Mat 2048 512).Idx) :
    outsAt0 m c t j = mulT (argA m c) (argB m c) ((win0_2.blk t).view.emb j) := by
  unfold outsAt0
  frame_out [k0_pay2, shapeCast_self]
  refine (dot_transposed _ _ j).trans (Finset.sum_congr rfl fun k _ => ?_)
  have ha : argA m c = V m c main_arg0 := rfl
  have hb : argB m c = V m c main_arg1 := rfl
  rw [ha, hb]
  refine congrArg₂ (· * ·) ?_ ?_
  · show (iblk m c 0 t : FVec Ideal S2048x1024 .f32) _ = _
    blk_ext [iblk, V, index_0, index_1, index_2]
  · blk_ext [iblk, V, index_0, index_1, index_2]

theorem array : (dats m 0 c).arrAt 2 cfg0.N = mulT (argA m c) (argB m c) := by
  refine (dats m 0 c).arrAt_eq_of_covers 2 _ (by decide +kernel) fun t _ y => ?_
  blk_simp
  rw [after0_2]
  exact out_apply m c t y

end Cert.OutProjDxIdeal.Product

namespace Cert.OutProjDxRefIdeal.Product

open Idealize.ShloMosaic
open Cert.OutProjDxRefIdeal Cert.OutProjDxRefIdeal.Read Cert.Products

theorem read (a : (Mat 4096 1024).Idx → EReal) (b : (Mat 1024 1024).Idx → EReal) : val_main_v3 (F := Ideal) a b = mulT a b := by
  funext i
  rw [val_main_v3_apply]
  refine Finset.sum_congr rfl fun k _ => ?_
  rw [val_main_v1_apply]
  refine congrArg₂ (· * ·) (congrArg a (funext fun x => ?_)) (congrArg b (funext fun x => ?_))
  all_goals match x with
    | ⟨0, _⟩ => rfl
    | ⟨1, _⟩ => rfl

end Cert.OutProjDxRefIdeal.Product

namespace Cert.UpDxIdeal.Product

open Idealize.ShloMosaic
open Idealize.SL.Sem Idealize.ShloMosaic.TcCoe
open Cert.UpDxIdeal Cert.UpDxIdeal.Gen Cert.Products

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

/-- The incoming gradient and the weights. -/
def argA : (Mat 4096 1024).Idx → EReal := m ((c : Thread nD τ).loc main_arg0)
def argB : (Mat 512 1024).Idx → EReal := m ((c : Thread nD τ).loc main_arg1)

theorem out_apply (t : Fin cfg0.N) (j : (Mat 2048 512).Idx) :
    outsAt0 m c t j = mulT (argA m c) (argB m c) ((win0_2.blk t).view.emb j) := by
  unfold outsAt0
  frame_out [k0_pay2, shapeCast_self]
  refine (dot_transposed _ _ j).trans (Finset.sum_congr rfl fun k _ => ?_)
  have ha : argA m c = V m c main_arg0 := rfl
  have hb : argB m c = V m c main_arg1 := rfl
  rw [ha, hb]
  congr 1 <;> blk_ext [iblk, V, index_0, index_1, index_2]

theorem array : (dats m 0 c).arrAt 2 cfg0.N = mulT (argA m c) (argB m c) := by
  refine (dats m 0 c).arrAt_eq_of_covers 2 _ (by decide +kernel) fun t _ y => ?_
  blk_simp
  rw [after0_2]
  exact out_apply m c t y

end Cert.UpDxIdeal.Product

namespace Cert.UpDxRefIdeal.Product

open Idealize.ShloMosaic
open Cert.UpDxRefIdeal Cert.UpDxRefIdeal.Read Cert.Products

theorem read (a : (Mat 4096 1024).Idx → EReal) (b : (Mat 512 1024).Idx → EReal) : val_main_v4 (F := Ideal) a b = mulT a b := by
  funext i
  rw [val_main_v4_apply]
  refine Finset.sum_congr rfl fun k _ => ?_
  rw [val_main_v3_apply, val_main_v1_apply]
  refine congrArg₂ (· * ·) (congrArg a (funext fun x => ?_)) (congrArg b (funext fun x => ?_))
  all_goals match x with
    | ⟨0, _⟩ => rfl
    | ⟨1, _⟩ => rfl

end Cert.UpDxRefIdeal.Product

namespace Cert.UpDilDxIdeal.Product

open Idealize.ShloMosaic
open Idealize.SL.Sem Idealize.ShloMosaic.TcCoe
open Cert.UpDilDxIdeal Cert.UpDilDxIdeal.Gen Cert.Products

theorem index_0 : ∀ t : Fin cfg0.N, win0_0.index t = ![t.val, 0] := (by decide +kernel : ∀ t : Fin grid0.N, _)
theorem index_1 : ∀ t : Fin cfg0.N, win0_1.index t = ![0, 0] := (by decide +kernel : ∀ t : Fin grid0.N, _)
theorem index_2 : ∀ t : Fin cfg0.N, win0_2.index t = ![t.val, 0] := (by decide +kernel : ∀ t : Fin grid0.N, _)

variable (m : (ℓ : Loc nD τ sig) → Buf (Elt Ideal) ℓ) (c : Dev nD)

/-- The incoming gradient and the weights. -/
def argA : (Mat 4096 1024).Idx → EReal := m ((c : Thread nD τ).loc main_arg0)
def argB : (Mat 256 1024).Idx → EReal := m ((c : Thread nD τ).loc main_arg1)

theorem out_apply (t : Fin cfg0.N) (j : (Mat 2048 256).Idx) :
    outsAt0 m c t j = mulT (argA m c) (argB m c) ((win0_2.blk t).view.emb j) := by
  unfold outsAt0
  frame_out [k0_pay2, shapeCast_self]
  refine (dot_transposed _ _ j).trans (Finset.sum_congr rfl fun k _ => ?_)
  have ha : argA m c = V m c main_arg0 := rfl
  have hb : argB m c = V m c main_arg1 := rfl
  rw [ha, hb]
  congr 1 <;> blk_ext [iblk, V, index_0, index_1, index_2]

theorem array : (dats m 0 c).arrAt 2 cfg0.N = mulT (argA m c) (argB m c) := by
  refine (dats m 0 c).arrAt_eq_of_covers 2 _ (by decide +kernel) fun t _ y => ?_
  blk_simp
  rw [after0_2]
  exact out_apply m c t y

end Cert.UpDilDxIdeal.Product

namespace Cert.UpDilDxRefIdeal.Product

open Idealize.ShloMosaic
open Cert.UpDilDxRefIdeal Cert.UpDilDxRefIdeal.Read Cert.Products

theorem read (a : (Mat 4096 1024).Idx → EReal) (b : (Mat 256 1024).Idx → EReal) : val_main_v4 (F := Ideal) a b = mulT a b := by
  funext i
  rw [val_main_v4_apply]
  refine Finset.sum_congr rfl fun k _ => ?_
  rw [val_main_v3_apply, val_main_v1_apply]
  refine congrArg₂ (· * ·) (congrArg a (funext fun x => ?_)) (congrArg b (funext fun x => ?_))
  all_goals match x with
    | ⟨0, _⟩ => rfl
    | ⟨1, _⟩ => rfl

end Cert.UpDilDxRefIdeal.Product

end
-- ==== Proof.OutProj.lean ====
/-
  The output projection: the merged heads times the weights, added to the residual.
-/
module

public import proofs.«01_k».proof.Proof.Gen.OutProjIdeal.Value
public import proofs.«01_k».proof.Proof.Gen.OutProjRefIdeal.Read
public import proofs.«01_k».proof.Proof.Products

@[expose] public section

noncomputable section

namespace Cert.OutProjIdeal.Product

open Idealize.ShloMosaic
open Idealize.SL.Sem Idealize.ShloMosaic.TcCoe
open Cert.OutProjIdeal Cert.OutProjIdeal.Gen Cert.Products

theorem index_0 : ∀ t : Fin cfg0.N, win0_0.index t = ![t.val / 2, 0] := (by decide +kernel : ∀ t : Fin grid0.N, _)
theorem index_1 : ∀ t : Fin cfg0.N, win0_1.index t = ![0, t.val % 2] := (by decide +kernel : ∀ t : Fin grid0.N, _)
theorem index_2 : ∀ t : Fin cfg0.N, win0_2.index t = ![t.val / 2, t.val % 2] := (by decide +kernel : ∀ t : Fin grid0.N, _)
theorem index_3 : ∀ t : Fin cfg0.N, win0_3.index t = ![t.val / 2, t.val % 2] := (by decide +kernel : ∀ t : Fin grid0.N, _)

variable (m : (ℓ : Loc nD τ sig) → Buf (Elt Ideal) ℓ) (c : Dev nD)

/-- The merged heads, the weights and the residual. -/
def argA : (Mat 4096 1024).Idx → EReal := m ((c : Thread nD τ).loc main_arg0)
def argB : (Mat 1024 1024).Idx → EReal := m ((c : Thread nD τ).loc main_arg1)
def argR : (Mat 4096 1024).Idx → EReal := m ((c : Thread nD τ).loc main_arg2)

theorem part_apply (t : Fin cfg0.N) (j : (Mat 2048 512).Idx) :
    k0_pay1 (F := Ideal) (iblk m c 0 t) (iblk m c 1 t) j = mul (argA m c) (argB m c) ((win0_3.blk t).view.emb j) := by
  refine (dot_plain _ _ j).trans (Finset.sum_congr rfl fun k _ => ?_)
  have ha : argA m c = V m c main_arg0 := rfl
  have hb : argB m c = V m c main_arg1 := rfl
  rw [ha, hb]
  congr 1 <;> blk_ext [iblk, V, index_0, index_1, index_3]

theorem residual_apply (t : Fin cfg0.N) (j : (Mat 2048 512).Idx) :
    (iblk m c 2 t : FVec Ideal S2048x512 .f32) j = argR m c ((win0_3.blk t).view.emb j) := by
  have hr : argR m c = V m c main_arg2 := rfl
  rw [hr]
  blk_ext [iblk, V, index_2, index_3]

theorem out_apply (t : Fin cfg0.N) (j : (Mat 2048 512).Idx) :
    outsAt0 m c t j = mul (argA m c) (argB m c) ((win0_3.blk t).view.emb j) + argR m c ((win0_3.blk t).view.emb j) := by
  rw [← part_apply, ← residual_apply]
  unfold outsAt0
  frame_out [k0_pay4, k0_pay2, shapeCast_self]
  rfl

theorem array : (dats m 0 c).arrAt 3 cfg0.N = fun i => argR m c i + mul (argA m c) (argB m c) i := by
  refine (dats m 0 c).arrAt_eq_of_covers 3 _ (by decide +kernel) fun t _ y => ?_
  blk_simp
  rw [after0_3]
  exact (out_apply m c t y).trans (add_comm _ _)

end Cert.OutProjIdeal.Product

namespace Cert.OutProjRefIdeal.Product

open Idealize.ShloMosaic
open Cert.OutProjRefIdeal Cert.OutProjRefIdeal.Read Cert.Products

theorem read (a : (Mat 4096 1024).Idx → EReal) (b : (Mat 1024 1024).Idx → EReal) (r : (Mat 4096 1024).Idx → EReal) :
    val_main_v3 (F := Ideal) a b r = fun i => r i + mul a b i := by
  funext i
  refine congrArg (r i + ·) ?_
  rw [val_main_v2_apply]
  refine Finset.sum_congr rfl fun k _ => ?_
  rw [val_main_v0_apply, val_main_v1_apply]
  refine congrArg₂ (· * ·) (congrArg a (funext fun x => ?_)) (congrArg b (funext fun x => ?_))
  all_goals match x with
    | ⟨0, _⟩ => rfl
    | ⟨1, _⟩ => rfl

end Cert.OutProjRefIdeal.Product

end
-- ==== Proof.ForgetDw.lean ====
/-
  The gradient of the forget gate's weights: the transposed normed rows times the incoming gradient, in two steps of 2048
  tokens.
-/
module

public import proofs.«01_k».proof.Proof.Gen.ForgetDwIdeal.Value
public import proofs.«01_k».proof.Proof.Gen.ForgetDwRefIdeal.Read
public import proofs.«01_k».proof.Proof.Products

@[expose] public section

noncomputable section

namespace Cert.ForgetDwIdeal.Product

open Idealize.ShloMosaic
open Idealize.SL.Sem  Idealize.ShloMosaic.TcCoe
open Cert.ForgetDwIdeal Cert.ForgetDwIdeal.Gen Cert.Products

theorem index_0 : ∀ t : Fin cfg0.N, win0_0.index t = ![0, t.val % 2] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![0, 0] := (by decide +kernel : ∀ t : Fin grid0.N, _)

variable (m : (ℓ : Loc nD τ sig) → Buf (Elt Ideal) ℓ) (c : Dev nD)

/-- The transposed normed rows and the incoming gradient. -/
def argA : (Mat 1024 4096).Idx → EReal := m ((c : Thread nD τ).loc main_arg0)
def argB : (Mat 4096 256).Idx → EReal := m ((c : Thread nD τ).loc main_arg1)

/-- The product of a point's blocks. -/
def part (t : Fin cfg0.N) : (Mat 1024 256).Idx → EReal := mul (iblk m c 0 t : FVec Ideal S1024x2048 .bf16) (iblk m c 1 t : FVec Ideal S2048x256 .bf16)

theorem pay_part (t : Fin cfg0.N) (j : (Mat 1024 256).Idx) : k0_pay1 (F := Ideal) (iblk m c 0 t) (iblk m c 1 t) j = part m c t j :=
  dot_plain _ _ j

theorem acc_first (t : Fin cfg0.N) (h0 : t.val % 2 = 0) (j : (Mat 1024 256).Idx) :
    (outsAt0 m c t.val t.isLt).2 j = 0 + part m c t j := by
  rw [outsAt0_A m c t h0 (by omega) (by omega)]
  frame_out [k0_pay2, shapeCast_self]
  rw [zero_add, pay_part]

theorem acc_next (t : Fin cfg0.N) (h0 : ¬t.val % 2 = 0) (j : (Mat 1024 256).Idx) :
    (outsAt0 m c t.val t.isLt).2 j = (outsAt0 m c (t.val - 1) (Nat.lt_of_le_of_lt (Nat.sub_le _ _) t.isLt)).2 j + part m c t j := by
  rw [outsAt0_B m c t h0 (by omega) (by omega)]
  frame_out [k0_pay3, shapeCast_self]
  rw [← pay_part]
  exact congrArg (· + _) (congrFun (Memref.IsWhole.read_unread _ _) j)

theorem out_last (t : Fin cfg0.N) (h0 : t.val % 2 = 1) :
    (outsAt0 m c t.val t.isLt).1 = (outsAt0 m c t.val t.isLt).2 := by
  rw [outsAt0_B m c t (by omega) (by omega) (by omega)]
  frame_out

theorem out_apply (t : Fin cfg0.N) (h : t.val % 2 = 1) (j : (Mat 1024 256).Idx) :
    (outsAt0 m c t.val t.isLt).1 j = mul (argA m c) (argB m c) ((win0_2.blk t).view.emb j) := by
  rw [out_last m c t h, Pipeline.eq_sum_fin_of_reset_step_apply_of_flush (fun n h => (outsAt0 m c n h).2) 2 (fun _ => 0) (part m c)
    (acc_first m c) (acc_next m c) t h j, zero_add]
  refine Fin.sum_mul_add_congr fun s k hl => ?_
  have ha : argA m c = V m c main_arg0 := rfl
  have hb : argB m c = V m c main_arg1 := rfl
  rw [ha, hb]
  congr 1 <;> blk_ext [iblk, V, index_0, index_1, index_2]

theorem array : (dats m 0 c).arrAt 2 cfg0.N = mul (argA m c) (argB m c) := by
  refine (dats m 0 c).arrAt_eq_of_covers 2 _ (by decide +kernel) fun t ht y => ?_
  blk_simp
  rw [after0_2]
  exact out_apply m c t ((flush0_2 t).mp ht) y

end Cert.ForgetDwIdeal.Product

namespace Cert.ForgetDwRefIdeal.Product

open Idealize.ShloMosaic
open Cert.ForgetDwRefIdeal Cert.ForgetDwRefIdeal.Read Cert.Products

theorem read (a : (Mat 1024 4096).Idx → EReal) (b : (Mat 4096 256).Idx → EReal) : val_main_v6 (F := Ideal) a b = mul a b := by
  funext i
  rw [val_main_v6_apply, val_main_v5_apply]
  refine Finset.sum_congr rfl fun k _ => ?_
  rw [val_main_v2_apply, val_main_v4_apply, val_main_v0_apply, mul_comm]
  refine congrArg₂ (· * ·) (congrArg a (funext fun x => ?_)) (congrArg b (funext fun x => ?_))
  all_goals match x with
    | ⟨0, _⟩ => rfl
    | ⟨1, _⟩ => rfl

end Cert.ForgetDwRefIdeal.Product

end
-- ==== Proof.OutClaims.lean ====
/-
  The claims about the raising products and the output projection, forward and backward, and the gradient of the forget
  gate's weights.
-/
module

public import proofs.«01_k».proof.Defs
public import proofs.«01_k».proof.Proof.Ups
public import proofs.«01_k».proof.Proof.OutGradients
public import proofs.«01_k».proof.Proof.OutProj
public import proofs.«01_k».proof.Proof.ForgetDw
public import proofs.«01_k».proof.Proof.Gen.OutProjDxRefIdeal.Run
public import proofs.«01_k».proof.Proof.Gen.UpDxRefIdeal.Run
public import proofs.«01_k».proof.Proof.Gen.UpDilDxRefIdeal.Run
public import proofs.«01_k».proof.Proof.Gen.ForgetDwRefIdeal.Run
public import proofs.«01_k».proof.Proof.Gen.UpRefIdeal.Run
public import proofs.«01_k».proof.Proof.Gen.UpDilRefIdeal.Run
public import proofs.«01_k».proof.Proof.Gen.OutProjRefIdeal.Run
public import Idealize.ShloMosaic.Adequacy
public import Idealize.ShloMosaic.Init

@[expose] public section

noncomputable section

namespace Cert.ProductClaims

open Idealize.ShloMosaic Idealize.SL.Sem

section OutProjDx
open Cert.OutProjDxIdeal.Product

/-- Kernel and reference both end with the gradient of the merged heads. -/
theorem outProjDx : Cert.algebraic_OutProjDxIdeal_OutProjDxRefIdeal := by
  intro m g m' g' _ hargs
  refine ⟨fun c => Products.mulT (argA m c) (argB m c),
    (θ_run _ _ _).mono (fun r h c => ⟨(h c).1.trans (array m c), (h c).2⟩) (Cert.OutProjDxIdeal.Value.run_blocks (F := Ideal) m g),
    (θ_run _ _ _).mono (fun r h c => ⟨(h c).1.trans ?_, (h c).2⟩) (Cert.OutProjDxRefIdeal.Value.run (F := Ideal) m' g')⟩
  refine (Cert.OutProjDxRefIdeal.Read.val_main_v3_eq _ _).trans ?_
  rw [(hargs c).1, (hargs c).2]
  exact Cert.OutProjDxRefIdeal.Product.read _ _

theorem outProjDx_frame : Cert.quiescent_OutProjDxRefIdeal := fun m g _ =>
  (θ_run _ _ _).mono (fun r h => ⟨fun c => (h c).2, sem_eq_zero_of_no_sems (by decide) r.2⟩)
    (Cert.OutProjDxRefIdeal.Value.run (F := Ideal) m g)

end OutProjDx

section UpDx
open Cert.UpDxIdeal.Product

/-- Kernel and reference both end with the gradient of the forgetting or stick-breaking heads. -/
theorem upDx : Cert.algebraic_UpDxIdeal_UpDxRefIdeal := by
  intro m g m' g' _ hargs
  refine ⟨fun c => Products.mulT (argA m c) (argB m c),
    (θ_run _ _ _).mono (fun r h c => ⟨(h c).1.trans (array m c), (h c).2⟩) (Cert.UpDxIdeal.Value.run_blocks (F := Ideal) m g),
    (θ_run _ _ _).mono (fun r h c => ⟨(h c).1.trans ?_, (h c).2⟩) (Cert.UpDxRefIdeal.Value.run (F := Ideal) m' g')⟩
  refine (Cert.UpDxRefIdeal.Read.val_main_v4_eq _ _).trans ?_
  rw [(hargs c).1, (hargs c).2]
  exact Cert.UpDxRefIdeal.Product.read _ _

theorem upDx_frame : Cert.quiescent_UpDxRefIdeal := fun m g _ =>
  (θ_run _ _ _).mono (fun r h => ⟨fun c => (h c).2, sem_eq_zero_of_no_sems (by decide) r.2⟩)
    (Cert.UpDxRefIdeal.Value.run (F := Ideal) m g)

end UpDx

section UpDilDx
open Cert.UpDilDxIdeal.Product

/-- Kernel and reference both end with the gradient of the dilated heads. -/
theorem upDilDx : Cert.algebraic_UpDilDxIdeal_UpDilDxRefIdeal := by
  intro m g m' g' _ hargs
  refine ⟨fun c => Products.mulT (argA m c) (argB m c),
    (θ_run _ _ _).mono (fun r h c => ⟨(h c).1.trans (array m c), (h c).2⟩) (Cert.UpDilDxIdeal.Value.run_blocks (F := Ideal) m g),
    (θ_run _ _ _).mono (fun r h c => ⟨(h c).1.trans ?_, (h c).2⟩) (Cert.UpDilDxRefIdeal.Value.run (F := Ideal) m' g')⟩
  refine (Cert.UpDilDxRefIdeal.Read.val_main_v4_eq _ _).trans ?_
  rw [(hargs c).1, (hargs c).2]
  exact Cert.UpDilDxRefIdeal.Product.read _ _

theorem upDilDx_frame : Cert.quiescent_UpDilDxRefIdeal := fun m g _ =>
  (θ_run _ _ _).mono (fun r h => ⟨fun c => (h c).2, sem_eq_zero_of_no_sems (by decide) r.2⟩)
    (Cert.UpDilDxRefIdeal.Value.run (F := Ideal) m g)

end UpDilDx

section ForgetDw
open Cert.ForgetDwIdeal.Product

/-- Kernel and reference both end with the gradient of the forget gate's weights. -/
theorem forgetDw : Cert.algebraic_ForgetDwIdeal_ForgetDwRefIdeal := by
  intro m g m' g' _ hargs
  refine ⟨fun c => Products.mul (argA m c) (argB m c),
    (θ_run _ _ _).mono (fun r h c => ⟨(h c).1.trans (array m c), (h c).2⟩) (Cert.ForgetDwIdeal.Value.run_blocks (F := Ideal) m g),
    (θ_run _ _ _).mono (fun r h c => ⟨(h c).1.trans ?_, (h c).2⟩) (Cert.ForgetDwRefIdeal.Value.run (F := Ideal) m' g')⟩
  refine (Cert.ForgetDwRefIdeal.Read.val_main_v6_eq _ _).trans ?_
  rw [(hargs c).1, (hargs c).2]
  exact Cert.ForgetDwRefIdeal.Product.read _ _

theorem forgetDw_frame : Cert.quiescent_ForgetDwRefIdeal := fun m g _ =>
  (θ_run _ _ _).mono (fun r h => ⟨fun c => (h c).2, sem_eq_zero_of_no_sems (by decide) r.2⟩)
    (Cert.ForgetDwRefIdeal.Value.run (F := Ideal) m g)

end ForgetDw

section Up
open Cert.UpIdeal.Product

/-- Kernel and reference both end with the raised forgetting or stick-breaking heads. -/
theorem up : Cert.algebraic_UpIdeal_UpRefIdeal := by
  intro m g m' g' _ hargs
  refine ⟨fun c => Products.mul (argA m c) (argB m c),
    (θ_run _ _ _).mono (fun r h c => ⟨(h c).1.trans (array m c), (h c).2⟩) (Cert.UpIdeal.Value.run_blocks (F := Ideal) m g),
    (θ_run _ _ _).mono (fun r h c => ⟨(h c).1.trans ?_, (h c).2⟩) (Cert.UpRefIdeal.Value.run (F := Ideal) m' g')⟩
  refine (Cert.UpRefIdeal.Read.val_main_v2_eq _ _).trans ?_
  rw [(hargs c).1, (hargs c).2]
  exact Cert.UpRefIdeal.Product.read _ _

theorem up_frame : Cert.quiescent_UpRefIdeal := fun m g _ =>
  (θ_run _ _ _).mono (fun r h => ⟨fun c => (h c).2, sem_eq_zero_of_no_sems (by decide) r.2⟩)
    (Cert.UpRefIdeal.Value.run (F := Ideal) m g)

end Up

section UpDil
open Cert.UpDilIdeal.Product

/-- Kernel and reference both end with the raised dilated heads. -/
theorem upDil : Cert.algebraic_UpDilIdeal_UpDilRefIdeal := by
  intro m g m' g' _ hargs
  refine ⟨fun c => Products.mul (argA m c) (argB m c),
    (θ_run _ _ _).mono (fun r h c => ⟨(h c).1.trans (array m c), (h c).2⟩) (Cert.UpDilIdeal.Value.run_blocks (F := Ideal) m g),
    (θ_run _ _ _).mono (fun r h c => ⟨(h c).1.trans ?_, (h c).2⟩) (Cert.UpDilRefIdeal.Value.run (F := Ideal) m' g')⟩
  refine (Cert.UpDilRefIdeal.Read.val_main_v2_eq _ _).trans ?_
  rw [(hargs c).1, (hargs c).2]
  exact Cert.UpDilRefIdeal.Product.read _ _

theorem upDil_frame : Cert.quiescent_UpDilRefIdeal := fun m g _ =>
  (θ_run _ _ _).mono (fun r h => ⟨fun c => (h c).2, sem_eq_zero_of_no_sems (by decide) r.2⟩)
    (Cert.UpDilRefIdeal.Value.run (F := Ideal) m g)

end UpDil

section OutProj
open Cert.OutProjIdeal.Product

/-- Kernel and reference both end with the residual plus the projected heads. -/
theorem outProj : Cert.algebraic_OutProjIdeal_OutProjRefIdeal := by
  intro m g m' g' _ hargs
  refine ⟨fun c i => argR m c i + Products.mul (argA m c) (argB m c) i,
    (θ_run _ _ _).mono (fun r h c => ⟨(h c).1.trans (array m c), (h c).2⟩) (Cert.OutProjIdeal.Value.run_blocks (F := Ideal) m g),
    (θ_run _ _ _).mono (fun r h c => ⟨(h c).1.trans ?_, (h c).2⟩) (Cert.OutProjRefIdeal.Value.run (F := Ideal) m' g')⟩
  refine (Cert.OutProjRefIdeal.Read.val_main_v3_eq _ _ _).trans ?_
  rw [(hargs c).1, (hargs c).2.1, (hargs c).2.2]
  exact Cert.OutProjRefIdeal.Product.read _ _ _

theorem outProj_frame : Cert.quiescent_OutProjRefIdeal := fun m g _ =>
  (θ_run _ _ _).mono (fun r h => ⟨fun c => (h c).2, sem_eq_zero_of_no_sems (by decide) r.2⟩)
    (Cert.OutProjRefIdeal.Value.run (F := Ideal) m g)

end OutProj

end Cert.ProductClaims

end
-- ==== Proof.WeightGradient.lean ====
/-
  What the kernels of the weights' gradients share: a tile is visited twice, once for each half of the tokens. The first
  visit starts the running sum, the second adds to it and writes the tile into the buffer.
-/
module

public import proofs.«01_k».proof.Proof.Products

@[expose] public section

noncomputable section

namespace Cert.Products

open Idealize.ShloMosaic
open scoped BigOperators

variable {T H L : ℕ}

/-- Two visits of each tile. `outs` is what a point leaves, the tile and the running sum; `part` is what it adds. -/
structure TwoVisits (outs : (n : ℕ) → n < T → ((Stack 1 H L).Idx → EReal) × ((Mat H L).Idx → EReal)) (part : Fin T → (Mat H L).Idx → EReal) : Prop where
  first : ∀ t : Fin T, t.val % 2 = 0 → ∀ j, (outs t.val t.isLt).2 j = 0 + part t j
  second : ∀ t : Fin T, ¬t.val % 2 = 0 → ∀ j,
    (outs t.val t.isLt).2 j = (outs (t.val - 1) (Nat.lt_of_le_of_lt (Nat.sub_le _ _) t.isLt)).2 j + part t j
  written : ∀ t : Fin T, t.val % 2 = 1 → ∀ p r l, (outs t.val t.isLt).1 (ix3 p r l) = (outs t.val t.isLt).2 (ix2 r l)

variable {outs : (n : ℕ) → n < T → ((Stack 1 H L).Idx → EReal) × ((Mat H L).Idx → EReal)} {K J M N : ℕ}

/-- If each visit adds the half of a sum, the tile written is the sum. -/
theorem TwoVisits.eq_sum {term : Fin T → Fin K → (Mat H L).Idx → EReal} (s : TwoVisits outs (fun t j => ∑ k : Fin K, term t k j))
    (hK : J = 2 * K) (f : Fin J → EReal) (t : Fin T) (h : t.val % 2 = 1) (p : Fin 1) (r : Fin H) (l : Fin L)
    (hf : ∀ (t' : Fin T), t'.val / 2 = t.val / 2 → ∀ (k : Fin K) (k' : Fin J), k'.val = t'.val % 2 * K + k.val → term t' k (ix2 r l) = f k') :
    (outs t.val t.isLt).1 (ix3 p r l) = ∑ k : Fin J, f k := by
  rw [s.written t h, Pipeline.eq_sum_fin_of_reset_step_apply_of_flush (fun n h => (outs n h).2) 2 (fun _ => 0) _ s.first s.second t h (ix2 r l),
    zero_add]
  refine Fin.sum_mul_add_congr (fun v k hl => hf _ (by show (2 * (t.val / 2) + v.val) / 2 = t.val / 2; omega) k _ ?_) hK
  show v.val * K + k.val = (2 * (t.val / 2) + v.val) % 2 * K + k.val
  rw [show (2 * (t.val / 2) + v.val) % 2 = v.val by omega]

/-- The tile is the product's, the first matrix being transposed. -/
theorem TwoVisits.eq_tMul {a : Fin T → (Mat K H).Idx → EReal} {b : Fin T → (Mat K L).Idx → EReal} (s : TwoVisits outs (fun t => tMul (a t) (b t)))
    (A : (Mat J M).Idx → EReal) (B : (Mat J N).Idx → EReal) (hK : J = 2 * K) (t : Fin T) (h : t.val % 2 = 1) (p : Fin 1) (r : Fin H) (l : Fin L)
    (u : Fin M) (v : Fin N)
    (ha : ∀ t' : Fin T, t'.val / 2 = t.val / 2 → ∀ (k : Fin K) (k' : Fin J), k'.val = t'.val % 2 * K + k.val → a t' (ix2 k r) = A (ix2 k' u))
    (hb : ∀ t' : Fin T, t'.val / 2 = t.val / 2 → ∀ (k : Fin K) (k' : Fin J), k'.val = t'.val % 2 * K + k.val → b t' (ix2 k l) = B (ix2 k' v)) :
    (outs t.val t.isLt).1 (ix3 p r l) = tMul A B (ix2 u v) :=
  TwoVisits.eq_sum (term := fun t k (j : (Mat H L).Idx) => a t (ix2 k (j 0)) * b t (ix2 k (j 1))) s hK (fun k => A (ix2 k u) * B (ix2 k v)) t h p r l
    fun t' e k k' hk => congrArg₂ (· * ·) (ha t' e k k' hk) (hb t' e k k' hk)

/-- The tile is the product's. -/
theorem TwoVisits.eq_mul {a : Fin T → (Mat H K).Idx → EReal} {b : Fin T → (Mat K L).Idx → EReal} (s : TwoVisits outs (fun t => mul (a t) (b t)))
    (A : (Mat M J).Idx → EReal) (B : (Mat J N).Idx → EReal) (hK : J = 2 * K) (t : Fin T) (h : t.val % 2 = 1) (p : Fin 1) (r : Fin H) (l : Fin L)
    (u : Fin M) (v : Fin N)
    (ha : ∀ t' : Fin T, t'.val / 2 = t.val / 2 → ∀ (k : Fin K) (k' : Fin J), k'.val = t'.val % 2 * K + k.val → a t' (ix2 r k) = A (ix2 u k'))
    (hb : ∀ t' : Fin T, t'.val / 2 = t.val / 2 → ∀ (k : Fin K) (k' : Fin J), k'.val = t'.val % 2 * K + k.val → b t' (ix2 k l) = B (ix2 k' v)) :
    (outs t.val t.isLt).1 (ix3 p r l) = mul A B (ix2 u v) :=
  TwoVisits.eq_sum (term := fun t k (j : (Mat H L).Idx) => a t (ix2 (j 0) k) * b t (ix2 k (j 1))) s hK (fun k => A (ix2 u k) * B (ix2 k v)) t h p r l
    fun t' e k k' hk => congrArg₂ (· * ·) (ha t' e k k' hk) (hb t' e k k' hk)

end Cert.Products

end
-- ==== Proof.MlpOutDw.lean ====
/-
  The gradient of the weights of the MLP's second product, for both layers: the transposed activations times the incoming
  gradient, in two steps of 2048 tokens. Each of the four shards of the buffer gets 1024 rows of it: from row 2048 on for
  the first layer, from row 3072 on for the last.
-/
module

public import proofs.«01_k».proof.Proof.Gen.MlpOutDwIdeal.Value
public import proofs.«01_k».proof.Proof.Gen.MlpOutDwRefIdeal.Read
public import proofs.«01_k».proof.Proof.Gen.MlpOutDwLastIdeal.Value
public import proofs.«01_k».proof.Proof.Gen.MlpOutDwLastRefIdeal.Read
public import proofs.«01_k».proof.Proof.WeightGradient

@[expose] public section

noncomputable section

namespace Cert.MlpOutDwIdeal.Product

open Idealize.ShloMosaic
open Idealize.SL.Sem  Idealize.ShloMosaic.TcCoe
open Cert.MlpOutDwIdeal Cert.MlpOutDwIdeal.Gen Cert.Products

theorem index_0 : ∀ t : Fin cfg0.N, win0_0.index t = ![t.val % 2, t.val / 2] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 4, 4 + t.val / 2 % 2, 0] := (by decide +kernel : ∀ t : Fin grid0.N, _)

variable (m : (ℓ : Loc nD τ sig) → Buf (Elt Ideal) ℓ) (c : Dev nD)

/-- The activations, the incoming gradient and the buffer. -/
def argA : (Mat 4096 4096).Idx → EReal := m ((c : Thread nD τ).loc main_arg0)
def argB : (Mat 4096 1024).Idx → EReal := m ((c : Thread nD τ).loc main_arg1)
def argC : (Stack 4 4608 1024).Idx → EReal := m ((c : Thread nD τ).loc main_arg2)

theorem visits : TwoVisits (outsAt0 m c) (fun t : Fin cfg0.N => tMul (iblk m c 0 t : FVec Ideal S2048x512 .bf16) (iblk m c 1 t : FVec Ideal S2048x1024 .f32)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 1024) (u : Fin 4096) (v : Fin 1024)
    (hu : u.val = 512 * (t.val / 2) + r.val) (hv : v.val = l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 2048 (argC m c) (rowShards (H := 1024) (tMul (argA m c) (argB m c))) := by
  refine (dats m 0 c).arrAt_eq_of_coversWhere_of_agree 2 _ (fun β => 4 ≤ β 1 ∧ β 1 < 6) (by decide +kernel) (fun t ht y => ?_) (fun j hj => ?_)
  · obtain ⟨p, r, l, rfl⟩ : ∃ (p : Fin 1) (r : Fin 512) (l : Fin 1024), y = ix3 p r l := ⟨y 0, y 1, y 2, eq_ix3 y⟩
    have hN : t.val < 16 := t.isLt
    have e : (win0_2.blk t).view.emb (ix3 p r l) = ix3 ⟨t.val / 4, by omega⟩ ⟨2048 + (512 * (t.val / 2 % 2) + r.val), by omega⟩ l := by
      blk_ext [index_2]
    blk_simp
    rw [after0_2, e, putRows_inside _ _ _ _ ⟨512 * (t.val / 2 % 2) + r.val, by omega⟩ _ rfl]
    refine out_apply m c t ((flush0_2 t).mp ht) p r l _ _ ?_ ?_
    · show 1024 * (t.val / 4) + (512 * (t.val / 2 % 2) + r.val) = _; omega
    · rfl
  · blk_simp [Pipeline.Window.cell_apply] at hj
    refine Eq.trans rfl (putRows_outside _ _ _ ?_).symm
    show ¬(2048 ≤ (j 1).val ∧ (j 1).val < 2048 + 1024)
    omega

end Cert.MlpOutDwIdeal.Product

namespace Cert.MlpOutDwRefIdeal.Product

open Idealize.ShloMosaic
open Cert.MlpOutDwRefIdeal Cert.MlpOutDwRefIdeal.Read Cert.Products

theorem shards (a : (Mat 4096 4096).Idx → EReal) (b : (Mat 4096 1024).Idx → EReal) :
    (fun p r l => val_main_v5 (F := Ideal) a b (ix3 p r l)) = rowShards (tMul a b) := by
  funext p r l
  rw [val_main_v5_apply, val_main_v4_apply, val_main_v3_apply]
  show _ = tMul a b (ix2 ⟨1024 * p.val + r.val, _⟩ l)
  refine Finset.sum_congr rfl fun k _ => ?_
  rw [val_main_v1_apply, mul_comm]
  refine congrArg₂ (· * ·) (congrArg a (funext fun x => Fin.ext ?_)) (congrArg b (funext fun x => Fin.ext ?_))
  · match x with
    | ⟨0, _⟩ => rfl
    | ⟨1, _⟩ => show ((p.val * 1024 + r.val) * 1024 + l.val) / 1024 = 1024 * p.val + r.val; omega
  · match x with
    | ⟨0, _⟩ => rfl
    | ⟨1, _⟩ => show ((p.val * 1024 + r.val) * 1024 + l.val) % 1024 = l.val; omega

theorem read (a : (Mat 4096 4096).Idx → EReal) (b : (Mat 4096 1024).Idx → EReal) (w : (Stack 4 4608 1024).Idx → EReal) :
    val_main_v6 (F := Ideal) a b w = putRows 2048 w (rowShards (H := 1024) (tMul a b)) :=
  (update_rows _ _ _ 2048 _ rfl rfl rfl (by decide)).trans (congrArg _ (shards a b))

end Cert.MlpOutDwRefIdeal.Product

/-! ## The last layer -/

namespace Cert.MlpOutDwLastIdeal.Product

open Idealize.ShloMosaic
open Idealize.SL.Sem  Idealize.ShloMosaic.TcCoe
open Cert.MlpOutDwLastIdeal Cert.MlpOutDwLastIdeal.Gen Cert.Products

theorem index_0 : ∀ t : Fin cfg0.N, win0_0.index t = ![t.val % 2, t.val / 2] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 4, 6 + t.val / 2 % 2, 0] := (by decide +kernel : ∀ t : Fin grid0.N, _)

variable (m : (ℓ : Loc nD τ sig) → Buf (Elt Ideal) ℓ) (c : Dev nD)

/-- The activations, the incoming gradient and the buffer. -/
def argA : (Mat 4096 4096).Idx → EReal := m ((c : Thread nD τ).loc main_arg0)
def argB : (Mat 4096 1024).Idx → EReal := m ((c : Thread nD τ).loc main_arg1)
def argC : (Stack 4 4608 1024).Idx → EReal := m ((c : Thread nD τ).loc main_arg2)

theorem visits : TwoVisits (outsAt0 m c) (fun t : Fin cfg0.N => tMul (iblk m c 0 t : FVec Ideal S2048x512 .bf16) (iblk m c 1 t : FVec Ideal S2048x1024 .f32)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 1024) (u : Fin 4096) (v : Fin 1024)
    (hu : u.val = 512 * (t.val / 2) + r.val) (hv : v.val = l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 3072 (argC m c) (rowShards (H := 1024) (tMul (argA m c) (argB m c))) := by
  refine (dats m 0 c).arrAt_eq_of_coversWhere_of_agree 2 _ (fun β => 6 ≤ β 1 ∧ β 1 < 8) (by decide +kernel) (fun t ht y => ?_) (fun j hj => ?_)
  · obtain ⟨p, r, l, rfl⟩ : ∃ (p : Fin 1) (r : Fin 512) (l : Fin 1024), y = ix3 p r l := ⟨y 0, y 1, y 2, eq_ix3 y⟩
    have hN : t.val < 16 := t.isLt
    have e : (win0_2.blk t).view.emb (ix3 p r l) = ix3 ⟨t.val / 4, by omega⟩ ⟨3072 + (512 * (t.val / 2 % 2) + r.val), by omega⟩ l := by
      blk_ext [index_2]
    blk_simp
    rw [after0_2, e, putRows_inside _ _ _ _ ⟨512 * (t.val / 2 % 2) + r.val, by omega⟩ _ rfl]
    refine out_apply m c t ((flush0_2 t).mp ht) p r l _ _ ?_ ?_
    · show 1024 * (t.val / 4) + (512 * (t.val / 2 % 2) + r.val) = _; omega
    · rfl
  · blk_simp [Pipeline.Window.cell_apply] at hj
    refine Eq.trans rfl (putRows_outside _ _ _ ?_).symm
    show ¬(3072 ≤ (j 1).val ∧ (j 1).val < 3072 + 1024)
    omega

end Cert.MlpOutDwLastIdeal.Product

namespace Cert.MlpOutDwLastRefIdeal.Product

open Idealize.ShloMosaic
open Cert.MlpOutDwLastRefIdeal Cert.MlpOutDwLastRefIdeal.Read Cert.Products

theorem read (a : (Mat 4096 4096).Idx → EReal) (b : (Mat 4096 1024).Idx → EReal) (w : (Stack 4 4608 1024).Idx → EReal) :
    val_main_v6 (F := Ideal) a b w = putRows 3072 w (rowShards (H := 1024) (tMul a b)) :=
  (update_rows _ _ _ 3072 _ rfl rfl rfl (by decide)).trans (congrArg _ (Cert.MlpOutDwRefIdeal.Product.shards a b))

end Cert.MlpOutDwLastRefIdeal.Product

end
-- ==== Proof.MlpInDw.lean ====
/-
  The gradient of the weights of the MLP's first product, for both layers: the transposed rows into the MLP times the
  gradient of the hidden units, in two steps of 2048 tokens. Each of the four shards of the buffer gets 1024 columns of
  it: in its rows from 0 on for the first layer, from 1024 on for the last.
-/
module

public import proofs.«01_k».proof.Proof.Gen.MlpInDwIdeal.Value
public import proofs.«01_k».proof.Proof.Gen.MlpInDwRefIdeal.Read
public import proofs.«01_k».proof.Proof.Gen.MlpInDwLastIdeal.Value
public import proofs.«01_k».proof.Proof.Gen.MlpInDwLastRefIdeal.Read
public import proofs.«01_k».proof.Proof.WeightGradient

@[expose] public section

noncomputable section

namespace Cert.MlpInDwIdeal.Product

open Idealize.ShloMosaic
open Idealize.SL.Sem  Idealize.ShloMosaic.TcCoe
open Cert.MlpInDwIdeal Cert.MlpInDwIdeal.Gen Cert.Products

theorem index_0 : ∀ t : Fin cfg0.N, win0_0.index t = ![t.val / 8, t.val % 2] := (by decide +kernel : ∀ t : Fin grid0.N, _)
theorem index_1 : ∀ t : Fin cfg0.N, win0_1.index t = ![t.val % 2, t.val / 2 % 4] := (by decide +kernel : ∀ t : Fin grid0.N, _)
theorem index_2 : ∀ t : Fin cfg0.N, win0_2.index t = ![t.val / 2 % 4, t.val / 8, 0] := (by decide +kernel : ∀ t : Fin grid0.N, _)

variable (m : (ℓ : Loc nD τ sig) → Buf (Elt Ideal) ℓ) (c : Dev nD)

/-- The transposed rows into the MLP, the gradient of its hidden units and the buffer. -/
def argA : (Mat 1024 4096).Idx → EReal := m ((c : Thread nD τ).loc main_arg0)
def argB : (Mat 4096 4096).Idx → EReal := m ((c : Thread nD τ).loc main_arg1)
def argC : (Stack 4 4608 1024).Idx → EReal := m ((c : Thread nD τ).loc main_arg2)

theorem visits : TwoVisits (outsAt0 m c) (fun t : Fin cfg0.N => mul (iblk m c 0 t : FVec Ideal S512x2048 .bf16) (iblk m c 1 t : FVec Ideal S2048x1024 .bf16)) where
  first t h j := by
    rw [outsAt0_A m c t h (by omega) (by omega)]
    frame_out [k0_pay2, shapeCast_self]
    rw [zero_add]
    exact dot_plain _ _ j
  second t h j := by
    rw [outsAt0_B m c t h (by omega) (by omega)]
    frame_out [k0_pay3, shapeCast_self]
    exact congrArg₂ (· + ·) (congrFun (Memref.IsWhole.read_unread _ _) j) (dot_plain _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 1024) (u : Fin 1024) (v : Fin 4096)
    (hu : u.val = 512 * (t.val / 8) + r.val) (hv : v.val = 1024 * (t.val / 2 % 4) + l.val) :
    (outsAt0 m c t.val t.isLt).1 (ix3 p r l) = mul (argA m c) (argB m c) (ix2 u v) := by
  refine (visits m c).eq_mul (argA m c) (argB m c) rfl t h p r l u v (fun t' e k k' hk => ?_) (fun t' e k k' hk => ?_)
  · show _ = V m c main_arg0 (ix2 u k'); blk_ext [iblk, V, index_0]
  · show _ = V m c main_arg1 (ix2 k' v); blk_ext [iblk, V, index_1]

theorem array : (dats m 0 c).arrAt 2 cfg0.N = putRows 0 (argC m c) (columnShards (N := 1024) 1024 (mul (argA m c) (argB m c))) := by
  refine (dats m 0 c).arrAt_eq_of_coversWhere_of_agree 2 _ (fun β => β 1 < 2) (by decide +kernel) (fun t ht y => ?_) (fun j hj => ?_)
  · obtain ⟨p, r, l, rfl⟩ : ∃ (p : Fin 1) (r : Fin 512) (l : Fin 1024), y = ix3 p r l := ⟨y 0, y 1, y 2, eq_ix3 y⟩
    have hN : t.val < 16 := t.isLt
    have e : (win0_2.blk t).view.emb (ix3 p r l) = ix3 ⟨t.val / 2 % 4, by omega⟩ ⟨0 + (512 * (t.val / 8) + r.val), by omega⟩ l := by
      blk_ext [index_2]
    blk_simp
    rw [after0_2, e, putRows_inside _ _ _ _ ⟨512 * (t.val / 8) + r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(0 ≤ (j 1).val ∧ (j 1).val < 0 + 1024)
    omega

end Cert.MlpInDwIdeal.Product

namespace Cert.MlpInDwRefIdeal.Product

open Idealize.ShloMosaic
open Cert.MlpInDwRefIdeal Cert.MlpInDwRefIdeal.Read Cert.Products

theorem shards (a : (Mat 1024 4096).Idx → EReal) (b : (Mat 4096 4096).Idx → EReal) :
    (fun p r l => val_main_v8 (F := Ideal) a b (ix3 p r l)) = columnShards 1024 (mul a b) := by
  funext p r l
  rw [val_main_v8_apply, val_main_v7_apply, val_main_v6_apply, val_main_v5_apply]
  show _ = mul a b (ix2 r ⟨1024 * p.val + l.val, _⟩)
  refine Finset.sum_congr rfl fun k _ => ?_
  rw [val_main_v2_apply, val_main_v4_apply, val_main_v0_apply, mul_comm]
  refine congrArg₂ (· * ·) (congrArg a (funext fun x => Fin.ext ?_)) (congrArg b (funext fun x => Fin.ext ?_))
  · match x with
    | ⟨0, _⟩ => show ((r.val * 4 + p.val) * 1024 + l.val) / 4096 = r.val; omega
    | ⟨1, _⟩ => rfl
  · match x with
    | ⟨0, _⟩ => rfl
    | ⟨1, _⟩ => show ((r.val * 4 + p.val) * 1024 + l.val) % 4096 = 1024 * p.val + l.val; omega

theorem read (a : (Mat 1024 4096).Idx → EReal) (b : (Mat 4096 4096).Idx → EReal) (w : (Stack 4 4608 1024).Idx → EReal) :
    val_main_v9 (F := Ideal) a b w = putRows 0 w (columnShards (N := 1024) 1024 (mul a b)) :=
  (update_rows _ _ _ 0 _ rfl rfl rfl (by decide)).trans (congrArg _ (shards a b))

end Cert.MlpInDwRefIdeal.Product

/-! ## The last layer -/

namespace Cert.MlpInDwLastIdeal.Product

open Idealize.ShloMosaic
open Idealize.SL.Sem  Idealize.ShloMosaic.TcCoe
open Cert.MlpInDwLastIdeal Cert.MlpInDwLastIdeal.Gen Cert.Products

theorem index_0 : ∀ t : Fin cfg0.N, win0_0.index t = ![t.val / 8, t.val % 2] := (by decide +kernel : ∀ t : Fin grid0.N, _)
theorem index_1 : ∀ t : Fin cfg0.N, win0_1.index t = ![t.val % 2, t.val / 2 % 4] := (by decide +kernel : ∀ t : Fin grid0.N, _)
theorem index_2 : ∀ t : Fin cfg0.N, win0_2.index t = ![t.val / 2 % 4, 2 + t.val / 8, 0] := (by decide +kernel : ∀ t : Fin grid0.N, _)

variable (m : (ℓ : Loc nD τ sig) → Buf (Elt Ideal) ℓ) (c : Dev nD)

/-- The transposed rows into the MLP, the gradient of its hidden units and the buffer. -/
def argA : (Mat 1024 4096).Idx → EReal := m ((c : Thread nD τ).loc main_arg0)
def argB : (Mat 4096 4096).Idx → EReal := m ((c : Thread nD τ).loc main_arg1)
def argC : (Stack 4 4608 1024).Idx → EReal := m ((c : Thread nD τ).loc main_arg2)

theorem visits : TwoVisits (outsAt0 m c) (fun t : Fin cfg0.N => mul (iblk m c 0 t : FVec Ideal S512x2048 .bf16) (iblk m c 1 t : FVec Ideal S2048x1024 .bf16)) where
  first t h j := by
    rw [outsAt0_A m c t h (by omega) (by omega)]
    frame_out [k0_pay2, shapeCast_self]
    rw [zero_add]
    exact dot_plain _ _ j
  second t h j := by
    rw [outsAt0_B m c t h (by omega) (by omega)]
    frame_out [k0_pay3, shapeCast_self]
    exact congrArg₂ (· + ·) (congrFun (Memref.IsWhole.read_unread _ _) j) (dot_plain _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 1024) (u : Fin 1024) (v : Fin 4096)
    (hu : u.val = 512 * (t.val / 8) + r.val) (hv : v.val = 1024 * (t.val / 2 % 4) + l.val) :
    (outsAt0 m c t.val t.isLt).1 (ix3 p r l) = mul (argA m c) (argB m c) (ix2 u v) := by
  refine (visits m c).eq_mul (argA m c) (argB m c) rfl t h p r l u v (fun t' e k k' hk => ?_) (fun t' e k k' hk => ?_)
  · show _ = V m c main_arg0 (ix2 u k'); blk_ext [iblk, V, index_0]
  · show _ = V m c main_arg1 (ix2 k' v); blk_ext [iblk, V, index_1]

theorem array : (dats m 0 c).arrAt 2 cfg0.N = putRows 1024 (argC m c) (columnShards (N := 1024) 1024 (mul (argA m c) (argB m c))) := by
  refine (dats m 0 c).arrAt_eq_of_coversWhere_of_agree 2 _ (fun β => 2 ≤ β 1 ∧ β 1 < 4) (by decide +kernel) (fun t ht y => ?_) (fun j hj => ?_)
  · obtain ⟨p, r, l, rfl⟩ : ∃ (p : Fin 1) (r : Fin 512) (l : Fin 1024), y = ix3 p r l := ⟨y 0, y 1, y 2, eq_ix3 y⟩
    have hN : t.val < 16 := t.isLt
    have e : (win0_2.blk t).view.emb (ix3 p r l) = ix3 ⟨t.val / 2 % 4, by omega⟩ ⟨1024 + (512 * (t.val / 8) + r.val), by omega⟩ l := by
      blk_ext [index_2]
    blk_simp
    rw [after0_2, e, putRows_inside _ _ _ _ ⟨512 * (t.val / 8) + r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(1024 ≤ (j 1).val ∧ (j 1).val < 1024 + 1024)
    omega

end Cert.MlpInDwLastIdeal.Product

namespace Cert.MlpInDwLastRefIdeal.Product

open Idealize.ShloMosaic
open Cert.MlpInDwLastRefIdeal Cert.MlpInDwLastRefIdeal.Read Cert.Products

theorem read (a : (Mat 1024 4096).Idx → EReal) (b : (Mat 4096 4096).Idx → EReal) (w : (Stack 4 4608 1024).Idx → EReal) :
    val_main_v9 (F := Ideal) a b w = putRows 1024 w (columnShards (N := 1024) 1024 (mul a b)) :=
  (update_rows _ _ _ 1024 _ rfl rfl rfl (by decide)).trans (congrArg _ (Cert.MlpInDwRefIdeal.Product.shards a b))

end Cert.MlpInDwLastRefIdeal.Product

end
-- ==== Proof.ProjDw.lean ====
/-
  The gradient of the projection's weights, for both layers: the transposed normed rows times the incoming gradient, in
  two steps of 2048 tokens. Each of the four shards of the buffer gets 2304 columns of it, those of the next one 2048
  later: in its rows from 0 on for the first layer, from 1024 on for the last.
-/
module

public import proofs.«01_k».proof.Proof.Gen.ProjDwIdeal.Value
public import proofs.«01_k».proof.Proof.Gen.ProjDwRefIdeal.Read
public import proofs.«01_k».proof.Proof.Gen.ProjDwLastIdeal.Value
public import proofs.«01_k».proof.Proof.Gen.ProjDwLastRefIdeal.Read
public import proofs.«01_k».proof.Proof.WeightGradient

@[expose] public section

noncomputable section

namespace Cert.ProjDwIdeal.Product

open Idealize.ShloMosaic
open Idealize.SL.Sem  Idealize.ShloMosaic.TcCoe
open Cert.ProjDwIdeal Cert.ProjDwIdeal.Gen Cert.Products

theorem index_0 : ∀ t : Fin cfg0.N, win0_0.index t = ![0, t.val % 2] := (by decide +kernel : ∀ t : Fin grid0.N, _)
theorem index_1 : ∀ t : Fin cfg0.N, win0_1.index t = ![t.val % 2, 8 * (t.val / 18) + t.val / 2 % 9] := (by decide +kernel : ∀ t : Fin grid0.N, _)
theorem index_2 : ∀ t : Fin cfg0.N, win0_2.index t = ![t.val / 18, 0, t.val / 2 % 9] := (by decide +kernel : ∀ t : Fin grid0.N, _)

variable (m : (ℓ : Loc nD τ sig) → Buf (Elt Ideal) ℓ) (c : Dev nD)

/-- The transposed normed rows, the incoming gradient and the buffer. -/
def argA : (Mat 1024 4096).Idx → EReal := m ((c : Thread nD τ).loc main_arg0)
def argB : (Mat 4096 8704).Idx → EReal := m ((c : Thread nD τ).loc main_arg1)
def argC : (Stack 4 2048 2304).Idx → EReal := m ((c : Thread nD τ).loc main_arg2)

theorem visits : TwoVisits (outsAt0 m c) (fun t : Fin cfg0.N => mul (iblk m c 0 t : FVec Ideal S1024x2048 .bf16) (iblk m c 1 t : FVec Ideal S2048x256 .bf16)) where
  first t h j := by
    rw [outsAt0_A m c t h (by omega) (by omega)]
    frame_out [k0_pay2, shapeCast_self]
    rw [zero_add]
    exact dot_plain _ _ j
  second t h j := by
    rw [outsAt0_B m c t h (by omega) (by omega)]
    frame_out [k0_pay3, shapeCast_self]
    exact congrArg₂ (· + ·) (congrFun (Memref.IsWhole.read_unread _ _) j) (dot_plain _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 1024) (l : Fin 256) (u : Fin 1024) (v : Fin 8704)
    (hu : u.val = r.val) (hv : v.val = 256 * (8 * (t.val / 18) + t.val / 2 % 9) + l.val) :
    (outsAt0 m c t.val t.isLt).1 (ix3 p r l) = mul (argA m c) (argB m c) (ix2 u v) := by
  refine (visits m c).eq_mul (argA m c) (argB m c) rfl t h p r l u v (fun t' e k k' hk => ?_) (fun t' e k k' hk => ?_)
  · show _ = V m c main_arg0 (ix2 u k'); blk_ext [iblk, V, index_0]
  · show _ = V m c main_arg1 (ix2 k' v); blk_ext [iblk, V, index_1]

theorem array : (dats m 0 c).arrAt 2 cfg0.N = putRows 0 (argC m c) (columnShards (N := 2304) 2048 (mul (argA m c) (argB m c))) := by
  refine (dats m 0 c).arrAt_eq_of_coversWhere_of_agree 2 _ (fun β => β 1 = 0) (by decide +kernel) (fun t ht y => ?_) (fun j hj => ?_)
  · obtain ⟨p, r, l, rfl⟩ : ∃ (p : Fin 1) (r : Fin 1024) (l : Fin 256), y = ix3 p r l := ⟨y 0, y 1, y 2, eq_ix3 y⟩
    have hN : t.val < 72 := t.isLt
    have e : (win0_2.blk t).view.emb (ix3 p r l) = ix3 ⟨t.val / 18, by omega⟩ ⟨0 + (r.val), by omega⟩ ⟨256 * (t.val / 2 % 9) + l.val, by omega⟩ := by
      blk_ext [index_2]
    blk_simp
    rw [after0_2, e, putRows_inside _ _ _ _ ⟨r.val, by omega⟩ _ rfl]
    refine out_apply m c t ((flush0_2 t).mp ht) p r l _ _ ?_ ?_
    · rfl
    · show 2048 * (t.val / 18) + (256 * (t.val / 2 % 9) + l.val) = _; omega
  · blk_simp [Pipeline.Window.cell_apply] at hj
    refine Eq.trans rfl (putRows_outside _ _ _ ?_).symm
    show ¬(0 ≤ (j 1).val ∧ (j 1).val < 0 + 1024)
    omega

end Cert.ProjDwIdeal.Product

namespace Cert.ProjDwRefIdeal.Product

open Idealize.ShloMosaic
open Cert.ProjDwRefIdeal Cert.ProjDwRefIdeal.Read Cert.Products

/-- The product, before it is cut. -/
theorem product (a : (Mat 1024 4096).Idx → EReal) (b : (Mat 4096 8704).Idx → EReal) : val_main_v6 (F := Ideal) a b = mul a b := by
  funext i
  rw [val_main_v6_apply, val_main_v5_apply]
  refine Finset.sum_congr rfl fun k _ => ?_
  rw [val_main_v2_apply, val_main_v4_apply, val_main_v0_apply, mul_comm]
  refine congrArg₂ (· * ·) (congrArg a (funext fun x => ?_)) (congrArg b (funext fun x => ?_))
  all_goals match x with
    | ⟨0, _⟩ => rfl
    | ⟨1, _⟩ => rfl

theorem at_column (j : (Mat 1024 8704).Idx) (r : Fin 1024) (q : Fin 8704) (h0 : j 0 = r) (h1 : (j 1).val = q.val) : j = ix2 r q :=
  (eq_ix2 j).trans (congrArg₂ ix2 h0 (Fin.ext h1))

theorem shards (a : (Mat 1024 4096).Idx → EReal) (b : (Mat 4096 8704).Idx → EReal) :
    (fun p r l => val_main_v15 (F := Ideal) a b (ix3 p r l)) = columnShards 2048 (mul a b) := by
  funext p r l
  rw [← product]
  refine (concatenate_stack ![val_main_v11 (F := Ideal) a b, val_main_v12 (F := Ideal) a b, val_main_v13 (F := Ideal) a b, val_main_v14 (F := Ideal) a b]
    _ p r l).trans ?_
  match p with
  | ⟨0, _⟩ => exact (val_main_v11_apply (F := Ideal) a b _).trans ((val_main_v7_apply (F := Ideal) a b _).trans (congrArg _ (at_column _ r _ rfl (Nat.zero_add _).symm)))
  | ⟨1, _⟩ => exact (val_main_v12_apply (F := Ideal) a b _).trans ((val_main_v8_apply (F := Ideal) a b _).trans (congrArg _ (at_column _ r _ rfl rfl)))
  | ⟨2, _⟩ => exact (val_main_v13_apply (F := Ideal) a b _).trans ((val_main_v9_apply (F := Ideal) a b _).trans (congrArg _ (at_column _ r _ rfl rfl)))
  | ⟨3, _⟩ => exact (val_main_v14_apply (F := Ideal) a b _).trans ((val_main_v10_apply (F := Ideal) a b _).trans (congrArg _ (at_column _ r _ rfl rfl)))

theorem read (a : (Mat 1024 4096).Idx → EReal) (b : (Mat 4096 8704).Idx → EReal) (w : (Stack 4 2048 2304).Idx → EReal) :
    val_main_v16 (F := Ideal) a b w = putRows 0 w (columnShards (N := 2304) 2048 (mul a b)) :=
  (update_rows _ _ _ 0 _ rfl rfl rfl (by decide)).trans (congrArg _ (shards a b))

end Cert.ProjDwRefIdeal.Product

/-! ## The last layer -/

namespace Cert.ProjDwLastIdeal.Product

open Idealize.ShloMosaic
open Idealize.SL.Sem  Idealize.ShloMosaic.TcCoe
open Cert.ProjDwLastIdeal Cert.ProjDwLastIdeal.Gen Cert.Products

theorem index_0 : ∀ t : Fin cfg0.N, win0_0.index t = ![0, t.val % 2] := (by decide +kernel : ∀ t : Fin grid0.N, _)
theorem index_1 : ∀ t : Fin cfg0.N, win0_1.index t = ![t.val % 2, 8 * (t.val / 18) + t.val / 2 % 9] := (by decide +kernel : ∀ t : Fin grid0.N, _)
theorem index_2 : ∀ t : Fin cfg0.N, win0_2.index t = ![t.val / 18, 1, t.val / 2 % 9] := (by decide +kernel : ∀ t : Fin grid0.N, _)

variable (m : (ℓ : Loc nD τ sig) → Buf (Elt Ideal) ℓ) (c : Dev nD)

/-- The transposed normed rows, the incoming gradient and the buffer. -/
def argA : (Mat 1024 4096).Idx → EReal := m ((c : Thread nD τ).loc main_arg0)
def argB : (Mat 4096 8704).Idx → EReal := m ((c : Thread nD τ).loc main_arg1)
def argC : (Stack 4 2048 2304).Idx → EReal := m ((c : Thread nD τ).loc main_arg2)

theorem visits : TwoVisits (outsAt0 m c) (fun t : Fin cfg0.N => mul (iblk m c 0 t : FVec Ideal S1024x2048 .bf16) (iblk m c 1 t : FVec Ideal S2048x256 .bf16)) where
  first t h j := by
    rw [outsAt0_A m c t h (by omega) (by omega)]
    frame_out [k0_pay2, shapeCast_self]
    rw [zero_add]
    exact dot_plain _ _ j
  second t h j := by
    rw [outsAt0_B m c t h (by omega) (by omega)]
    frame_out [k0_pay3, shapeCast_self]
    exact congrArg₂ (· + ·) (congrFun (Memref.IsWhole.read_unread _ _) j) (dot_plain _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 1024) (l : Fin 256) (u : Fin 1024) (v : Fin 8704)
    (hu : u.val = r.val) (hv : v.val = 256 * (8 * (t.val / 18) + t.val / 2 % 9) + l.val) :
    (outsAt0 m c t.val t.isLt).1 (ix3 p r l) = mul (argA m c) (argB m c) (ix2 u v) := by
  refine (visits m c).eq_mul (argA m c) (argB m c) rfl t h p r l u v (fun t' e k k' hk => ?_) (fun t' e k k' hk => ?_)
  · show _ = V m c main_arg0 (ix2 u k'); blk_ext [iblk, V, index_0]
  · show _ = V m c main_arg1 (ix2 k' v); blk_ext [iblk, V, index_1]

theorem array : (dats m 0 c).arrAt 2 cfg0.N = putRows 1024 (argC m c) (columnShards (N := 2304) 2048 (mul (argA m c) (argB m c))) := by
  refine (dats m 0 c).arrAt_eq_of_coversWhere_of_agree 2 _ (fun β => β 1 = 1) (by decide +kernel) (fun t ht y => ?_) (fun j hj => ?_)
  · obtain ⟨p, r, l, rfl⟩ : ∃ (p : Fin 1) (r : Fin 1024) (l : Fin 256), y = ix3 p r l := ⟨y 0, y 1, y 2, eq_ix3 y⟩
    have hN : t.val < 72 := t.isLt
    have e : (win0_2.blk t).view.emb (ix3 p r l) = ix3 ⟨t.val / 18, by omega⟩ ⟨1024 + (r.val), by omega⟩ ⟨256 * (t.val / 2 % 9) + l.val, by omega⟩ := by
      blk_ext [index_2]
    blk_simp
    rw [after0_2, e, putRows_inside _ _ _ _ ⟨r.val, by omega⟩ _ rfl]
    refine out_apply m c t ((flush0_2 t).mp ht) p r l _ _ ?_ ?_
    · rfl
    · show 2048 * (t.val / 18) + (256 * (t.val / 2 % 9) + l.val) = _; omega
  · blk_simp [Pipeline.Window.cell_apply] at hj
    refine Eq.trans rfl (putRows_outside _ _ _ ?_).symm
    show ¬(1024 ≤ (j 1).val ∧ (j 1).val < 1024 + 1024)
    omega

end Cert.ProjDwLastIdeal.Product

namespace Cert.ProjDwLastRefIdeal.Product

open Idealize.ShloMosaic
open Cert.ProjDwLastRefIdeal Cert.ProjDwLastRefIdeal.Read Cert.Products

theorem read (a : (Mat 1024 4096).Idx → EReal) (b : (Mat 4096 8704).Idx → EReal) (w : (Stack 4 2048 2304).Idx → EReal) :
    val_main_v16 (F := Ideal) a b w = putRows 1024 w (columnShards (N := 2304) 2048 (mul a b)) :=
  (update_rows _ _ _ 1024 _ rfl rfl rfl (by decide)).trans (congrArg _ (Cert.ProjDwRefIdeal.Product.shards a b))

end Cert.ProjDwLastRefIdeal.Product

end
-- ==== Proof.OutProjDw.lean ====
/-
  The gradient of the weights of the output projection, for both layers: the transposed merged heads times the incoming
  gradient, in two steps of 2048 tokens. Each of the four shards of the buffer gets 256 rows of it: from row 4096 on for
  the first layer, from row 4352 on for the last.
-/
module

public import proofs.«01_k».proof.Proof.Gen.OutProjDwIdeal.Value
public import proofs.«01_k».proof.Proof.Gen.OutProjDwRefIdeal.Read
public import proofs.«01_k».proof.Proof.Gen.OutProjDwLastIdeal.Value
public import proofs.«01_k».proof.Proof.Gen.OutProjDwLastRefIdeal.Read
public import proofs.«01_k».proof.Proof.WeightGradient

@[expose] public section

noncomputable section

namespace Cert.OutProjDwIdeal.Product

open Idealize.ShloMosaic
open Idealize.SL.Sem  Idealize.ShloMosaic.TcCoe
open Cert.OutProjDwIdeal Cert.OutProjDwIdeal.Gen Cert.Products

theorem index_0 : ∀ t : Fin cfg0.N, win0_0.index t = ![t.val % 2, t.val / 2] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 2, 16, 0] := (by decide +kernel : ∀ t : Fin grid0.N, _)

variable (m : (ℓ : Loc nD τ sig) → Buf (Elt Ideal) ℓ) (c : Dev nD)

/-- The merged heads, the incoming gradient and the buffer. -/
def argA : (Mat 4096 1024).Idx → EReal := m ((c : Thread nD τ).loc main_arg0)
def argB : (Mat 4096 1024).Idx → EReal := m ((c : Thread nD τ).loc main_arg1)
def argC : (Stack 4 4608 1024).Idx → EReal := m ((c : Thread nD τ).loc main_arg2)

theorem visits : TwoVisits (outsAt0 m c) (fun t : Fin cfg0.N => tMul (iblk m c 0 t : FVec Ideal S2048x256 .bf16) (iblk m c 1 t : FVec Ideal S2048x1024 .f32)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 256) (l : Fin 1024) (u : Fin 1024) (v : Fin 1024)
    (hu : u.val = 256 * (t.val / 2) + r.val) (hv : v.val = l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 4096 (argC m c) (rowShards (H := 256) (tMul (argA m c) (argB m c))) := by
  refine (dats m 0 c).arrAt_eq_of_coversWhere_of_agree 2 _ (fun β => β 1 = 16) (by decide +kernel) (fun t ht y => ?_) (fun j hj => ?_)
  · obtain ⟨p, r, l, rfl⟩ : ∃ (p : Fin 1) (r : Fin 256) (l : Fin 1024), y = ix3 p r l := ⟨y 0, y 1, y 2, eq_ix3 y⟩
    have hN : t.val < 8 := t.isLt
    have e : (win0_2.blk t).view.emb (ix3 p r l) = ix3 ⟨t.val / 2, by omega⟩ ⟨4096 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · exact rfl
    · rfl
  · blk_simp [Pipeline.Window.cell_apply] at hj
    refine Eq.trans rfl (putRows_outside _ _ _ ?_).symm
    show ¬(4096 ≤ (j 1).val ∧ (j 1).val < 4096 + 256)
    omega

end Cert.OutProjDwIdeal.Product

namespace Cert.OutProjDwRefIdeal.Product

open Idealize.ShloMosaic
open Cert.OutProjDwRefIdeal Cert.OutProjDwRefIdeal.Read Cert.Products

theorem shards (a : (Mat 4096 1024).Idx → EReal) (b : (Mat 4096 1024).Idx → EReal) :
    (fun p r l => val_main_v5 (F := Ideal) a b (ix3 p r l)) = rowShards (tMul a b) := by
  funext p r l
  rw [val_main_v5_apply, val_main_v4_apply, val_main_v3_apply]
  show _ = tMul a b (ix2 ⟨256 * p.val + r.val, _⟩ l)
  refine Finset.sum_congr rfl fun k _ => ?_
  rw [val_main_v1_apply, mul_comm]
  refine congrArg₂ (· * ·) (congrArg a (funext fun x => Fin.ext ?_)) (congrArg b (funext fun x => Fin.ext ?_))
  · match x with
    | ⟨0, _⟩ => rfl
    | ⟨1, _⟩ => show ((p.val * 256 + r.val) * 1024 + l.val) / 1024 = 256 * p.val + r.val; omega
  · match x with
    | ⟨0, _⟩ => rfl
    | ⟨1, _⟩ => show ((p.val * 256 + r.val) * 1024 + l.val) % 1024 = l.val; omega

theorem read (a : (Mat 4096 1024).Idx → EReal) (b : (Mat 4096 1024).Idx → EReal) (w : (Stack 4 4608 1024).Idx → EReal) :
    val_main_v6 (F := Ideal) a b w = putRows 4096 w (rowShards (H := 256) (tMul a b)) :=
  (update_rows _ _ _ 4096 _ rfl rfl rfl (by decide)).trans (congrArg _ (shards a b))

end Cert.OutProjDwRefIdeal.Product

/-! ## The last layer -/

namespace Cert.OutProjDwLastIdeal.Product

open Idealize.ShloMosaic
open Idealize.SL.Sem  Idealize.ShloMosaic.TcCoe
open Cert.OutProjDwLastIdeal Cert.OutProjDwLastIdeal.Gen Cert.Products

theorem index_0 : ∀ t : Fin cfg0.N, win0_0.index t = ![t.val % 2, t.val / 2] := (by decide +kernel : ∀ t : Fin grid0.N, _)
theorem index_1 : ∀ t : Fin cfg0.N, win0_1.index t = ![t.val % 2, 0] := (by decide +kernel : ∀ t : Fin grid0.N, _)
theorem index_2 : ∀ t : Fin cfg0.N, win0_2.index t = ![t.val / 2, 17, 0] := (by decide +kernel : ∀ t : Fin grid0.N, _)

variable (m : (ℓ : Loc nD τ sig) → Buf (Elt Ideal) ℓ) (c : Dev nD)

/-- The merged heads, the incoming gradient and the buffer. -/
def argA : (Mat 4096 1024).Idx → EReal := m ((c : Thread nD τ).loc main_arg0)
def argB : (Mat 4096 1024).Idx → EReal := m ((c : Thread nD τ).loc main_arg1)
def argC : (Stack 4 4608 1024).Idx → EReal := m ((c : Thread nD τ).loc main_arg2)

theorem visits : TwoVisits (outsAt0 m c) (fun t : Fin cfg0.N => tMul (iblk m c 0 t : FVec Ideal S2048x256 .bf16) (iblk m c 1 t : FVec Ideal S2048x1024 .f32)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 256) (l : Fin 1024) (u : Fin 1024) (v : Fin 1024)
    (hu : u.val = 256 * (t.val / 2) + r.val) (hv : v.val = l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 4352 (argC m c) (rowShards (H := 256) (tMul (argA m c) (argB m c))) := by
  refine (dats m 0 c).arrAt_eq_of_coversWhere_of_agree 2 _ (fun β => β 1 = 17) (by decide +kernel) (fun t ht y => ?_) (fun j hj => ?_)
  · obtain ⟨p, r, l, rfl⟩ : ∃ (p : Fin 1) (r : Fin 256) (l : Fin 1024), y = ix3 p r l := ⟨y 0, y 1, y 2, eq_ix3 y⟩
    have hN : t.val < 8 := t.isLt
    have e : (win0_2.blk t).view.emb (ix3 p r l) = ix3 ⟨t.val / 2, by omega⟩ ⟨4352 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · exact rfl
    · rfl
  · blk_simp [Pipeline.Window.cell_apply] at hj
    refine Eq.trans rfl (putRows_outside _ _ _ ?_).symm
    show ¬(4352 ≤ (j 1).val ∧ (j 1).val < 4352 + 256)
    omega

end Cert.OutProjDwLastIdeal.Product

namespace Cert.OutProjDwLastRefIdeal.Product

open Idealize.ShloMosaic
open Cert.OutProjDwLastRefIdeal Cert.OutProjDwLastRefIdeal.Read Cert.Products

theorem read (a : (Mat 4096 1024).Idx → EReal) (b : (Mat 4096 1024).Idx → EReal) (w : (Stack 4 4608 1024).Idx → EReal) :
    val_main_v6 (F := Ideal) a b w = putRows 4352 w (rowShards (H := 256) (tMul a b)) :=
  (update_rows _ _ _ 4352 _ rfl rfl rfl (by decide)).trans (congrArg _ (Cert.OutProjDwRefIdeal.Product.shards a b))

end Cert.OutProjDwLastRefIdeal.Product

end
-- ==== Proof.UpFoxDw.lean ====
/-
  The gradient of the weights that raise the forgetting heads, for both layers: the transposed heads times the incoming
  gradient, in two steps of 2048 tokens. Each of the four shards of the buffer gets 256 columns of it: in its rows from 0
  on for the first layer, from 512 on for the last.
-/
module

public import proofs.«01_k».proof.Proof.Gen.UpFoxDwIdeal.Value
public import proofs.«01_k».proof.Proof.Gen.UpFoxDwRefIdeal.Read
public import proofs.«01_k».proof.Proof.Gen.UpFoxDwLastIdeal.Value
public import proofs.«01_k».proof.Proof.Gen.UpFoxDwLastRefIdeal.Read
public import proofs.«01_k».proof.Proof.WeightGradient

@[expose] public section

noncomputable section

namespace Cert.UpFoxDwIdeal.Product

open Idealize.ShloMosaic
open Idealize.SL.Sem  Idealize.ShloMosaic.TcCoe
open Cert.UpFoxDwIdeal Cert.UpFoxDwIdeal.Gen Cert.Products

theorem index_0 : ∀ t : Fin cfg0.N, win0_0.index t = ![t.val % 2, 0] := (by decide +kernel : ∀ t : Fin grid0.N, _)
theorem index_1 : ∀ t : Fin cfg0.N, win0_1.index t = ![t.val % 2, t.val / 2] := (by decide +kernel : ∀ t : Fin grid0.N, _)
theorem index_2 : ∀ t : Fin cfg0.N, win0_2.index t = ![t.val / 2, 0, 0] := (by decide +kernel : ∀ t : Fin grid0.N, _)

variable (m : (ℓ : Loc nD τ sig) → Buf (Elt Ideal) ℓ) (c : Dev nD)

/-- The heads, the incoming gradient and the buffer. -/
def argA : (Mat 4096 512).Idx → EReal := m ((c : Thread nD τ).loc main_arg0)
def argB : (Mat 4096 1024).Idx → EReal := m ((c : Thread nD τ).loc main_arg1)
def argC : (Stack 4 2560 256).Idx → EReal := m ((c : Thread nD τ).loc main_arg2)

theorem visits : TwoVisits (outsAt0 m c) (fun t : Fin cfg0.N => tMul (iblk m c 0 t : FVec Ideal S2048x512 .bf16) (iblk m c 1 t : FVec Ideal S2048x256 .bf16)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 256) (u : Fin 512) (v : Fin 1024)
    (hu : u.val = r.val) (hv : v.val = 256 * (t.val / 2) + l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 0 (argC m c) (columnShards (N := 256) 256 (tMul (argA m c) (argB m c))) := by
  refine (dats m 0 c).arrAt_eq_of_coversWhere_of_agree 2 _ (fun β => β 1 = 0) (by decide +kernel) (fun t ht y => ?_) (fun j hj => ?_)
  · obtain ⟨p, r, l, rfl⟩ : ∃ (p : Fin 1) (r : Fin 512) (l : Fin 256), y = ix3 p r l := ⟨y 0, y 1, y 2, eq_ix3 y⟩
    have hN : t.val < 8 := t.isLt
    have e : (win0_2.blk t).view.emb (ix3 p r l) = ix3 ⟨t.val / 2, by omega⟩ ⟨0 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(0 ≤ (j 1).val ∧ (j 1).val < 0 + 512)
    omega

end Cert.UpFoxDwIdeal.Product

namespace Cert.UpFoxDwRefIdeal.Product

open Idealize.ShloMosaic
open Cert.UpFoxDwRefIdeal Cert.UpFoxDwRefIdeal.Read Cert.Products

theorem shards (a : (Mat 4096 512).Idx → EReal) (b : (Mat 4096 1024).Idx → EReal) :
    (fun p r l => val_main_v7 (F := Ideal) a b (ix3 p r l)) = columnShards 256 (tMul a b) := by
  funext p r l
  rw [val_main_v7_apply, val_main_v6_apply, val_main_v5_apply, val_main_v4_apply]
  show _ = tMul a b (ix2 r ⟨256 * p.val + l.val, _⟩)
  refine Finset.sum_congr rfl fun k _ => ?_
  rw [val_main_v1_apply, val_main_v3_apply, mul_comm]
  refine congrArg₂ (· * ·) (congrArg a (funext fun x => Fin.ext ?_)) (congrArg b (funext fun x => Fin.ext ?_))
  · match x with
    | ⟨0, _⟩ => rfl
    | ⟨1, _⟩ => show ((r.val * 4 + p.val) * 256 + l.val) / 1024 = r.val; omega
  · match x with
    | ⟨0, _⟩ => rfl
    | ⟨1, _⟩ => show ((r.val * 4 + p.val) * 256 + l.val) % 1024 = 256 * p.val + l.val; omega

theorem read (a : (Mat 4096 512).Idx → EReal) (b : (Mat 4096 1024).Idx → EReal) (w : (Stack 4 2560 256).Idx → EReal) :
    val_main_v8 (F := Ideal) a b w = putRows 0 w (columnShards (N := 256) 256 (tMul a b)) :=
  (update_rows _ _ _ 0 _ rfl rfl rfl (by decide)).trans (congrArg _ (shards a b))

end Cert.UpFoxDwRefIdeal.Product

/-! ## The last layer -/

namespace Cert.UpFoxDwLastIdeal.Product

open Idealize.ShloMosaic
open Idealize.SL.Sem  Idealize.ShloMosaic.TcCoe
open Cert.UpFoxDwLastIdeal Cert.UpFoxDwLastIdeal.Gen Cert.Products

theorem index_0 : ∀ t : Fin cfg0.N, win0_0.index t = ![t.val % 2, 0] := (by decide +kernel : ∀ t : Fin grid0.N, _)
theorem index_1 : ∀ t : Fin cfg0.N, win0_1.index t = ![t.val % 2, t.val / 2] := (by decide +kernel : ∀ t : Fin grid0.N, _)
theorem index_2 : ∀ t : Fin cfg0.N, win0_2.index t = ![t.val / 2, 1, 0] := (by decide +kernel : ∀ t : Fin grid0.N, _)

variable (m : (ℓ : Loc nD τ sig) → Buf (Elt Ideal) ℓ) (c : Dev nD)

/-- The heads, the incoming gradient and the buffer. -/
def argA : (Mat 4096 512).Idx → EReal := m ((c : Thread nD τ).loc main_arg0)
def argB : (Mat 4096 1024).Idx → EReal := m ((c : Thread nD τ).loc main_arg1)
def argC : (Stack 4 2560 256).Idx → EReal := m ((c : Thread nD τ).loc main_arg2)

theorem visits : TwoVisits (outsAt0 m c) (fun t : Fin cfg0.N => tMul (iblk m c 0 t : FVec Ideal S2048x512 .bf16) (iblk m c 1 t : FVec Ideal S2048x256 .bf16)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 256) (u : Fin 512) (v : Fin 1024)
    (hu : u.val = r.val) (hv : v.val = 256 * (t.val / 2) + l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 512 (argC m c) (columnShards (N := 256) 256 (tMul (argA m c) (argB m c))) := by
  refine (dats m 0 c).arrAt_eq_of_coversWhere_of_agree 2 _ (fun β => β 1 = 1) (by decide +kernel) (fun t ht y => ?_) (fun j hj => ?_)
  · obtain ⟨p, r, l, rfl⟩ : ∃ (p : Fin 1) (r : Fin 512) (l : Fin 256), y = ix3 p r l := ⟨y 0, y 1, y 2, eq_ix3 y⟩
    have hN : t.val < 8 := t.isLt
    have e : (win0_2.blk t).view.emb (ix3 p r l) = ix3 ⟨t.val / 2, by omega⟩ ⟨512 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(512 ≤ (j 1).val ∧ (j 1).val < 512 + 512)
    omega

end Cert.UpFoxDwLastIdeal.Product

namespace Cert.UpFoxDwLastRefIdeal.Product

open Idealize.ShloMosaic
open Cert.UpFoxDwLastRefIdeal Cert.UpFoxDwLastRefIdeal.Read Cert.Products

theorem read (a : (Mat 4096 512).Idx → EReal) (b : (Mat 4096 1024).Idx → EReal) (w : (Stack 4 2560 256).Idx → EReal) :
    val_main_v8 (F := Ideal) a b w = putRows 512 w (columnShards (N := 256) 256 (tMul a b)) :=
  (update_rows _ _ _ 512 _ rfl rfl rfl (by decide)).trans (congrArg _ (Cert.UpFoxDwRefIdeal.Product.shards a b))

end Cert.UpFoxDwLastRefIdeal.Product

end
-- ==== Proof.UpSbDw.lean ====
/-
  The gradient of the weights that raise the stick-breaking heads, for both layers: the transposed heads times the incoming
  gradient, in two steps of 2048 tokens. Each of the four shards of the buffer gets 256 columns of it: in its rows from
  1024 on for the first layer, from 1536 on for the last.
-/
module

public import proofs.«01_k».proof.Proof.Gen.UpSbDwIdeal.Value
public import proofs.«01_k».proof.Proof.Gen.UpSbDwRefIdeal.Read
public import proofs.«01_k».proof.Proof.Gen.UpSbDwLastIdeal.Value
public import proofs.«01_k».proof.Proof.Gen.UpSbDwLastRefIdeal.Read
public import proofs.«01_k».proof.Proof.WeightGradient

@[expose] public section

noncomputable section

namespace Cert.UpSbDwIdeal.Product

open Idealize.ShloMosaic
open Idealize.SL.Sem  Idealize.ShloMosaic.TcCoe
open Cert.UpSbDwIdeal Cert.UpSbDwIdeal.Gen Cert.Products

theorem index_0 : ∀ t : Fin cfg0.N, win0_0.index t = ![t.val % 2, 0] := (by decide +kernel : ∀ t : Fin grid0.N, _)
theorem index_1 : ∀ t : Fin cfg0.N, win0_1.index t = ![t.val % 2, t.val / 2] := (by decide +kernel : ∀ t : Fin grid0.N, _)
theorem index_2 : ∀ t : Fin cfg0.N, win0_2.index t = ![t.val / 2, 2, 0] := (by decide +kernel : ∀ t : Fin grid0.N, _)

variable (m : (ℓ : Loc nD τ sig) → Buf (Elt Ideal) ℓ) (c : Dev nD)

/-- The heads, the incoming gradient and the buffer. -/
def argA : (Mat 4096 512).Idx → EReal := m ((c : Thread nD τ).loc main_arg0)
def argB : (Mat 4096 1024).Idx → EReal := m ((c : Thread nD τ).loc main_arg1)
def argC : (Stack 4 2560 256).Idx → EReal := m ((c : Thread nD τ).loc main_arg2)

theorem visits : TwoVisits (outsAt0 m c) (fun t : Fin cfg0.N => tMul (iblk m c 0 t : FVec Ideal S2048x512 .bf16) (iblk m c 1 t : FVec Ideal S2048x256 .bf16)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 256) (u : Fin 512) (v : Fin 1024)
    (hu : u.val = r.val) (hv : v.val = 256 * (t.val / 2) + l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 1024 (argC m c) (columnShards (N := 256) 256 (tMul (argA m c) (argB m c))) := by
  refine (dats m 0 c).arrAt_eq_of_coversWhere_of_agree 2 _ (fun β => β 1 = 2) (by decide +kernel) (fun t ht y => ?_) (fun j hj => ?_)
  · obtain ⟨p, r, l, rfl⟩ : ∃ (p : Fin 1) (r : Fin 512) (l : Fin 256), y = ix3 p r l := ⟨y 0, y 1, y 2, eq_ix3 y⟩
    have hN : t.val < 8 := t.isLt
    have e : (win0_2.blk t).view.emb (ix3 p r l) = ix3 ⟨t.val / 2, by omega⟩ ⟨1024 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(1024 ≤ (j 1).val ∧ (j 1).val < 1024 + 512)
    omega

end Cert.UpSbDwIdeal.Product

namespace Cert.UpSbDwRefIdeal.Product

open Idealize.ShloMosaic
open Cert.UpSbDwRefIdeal Cert.UpSbDwRefIdeal.Read Cert.Products

theorem shards (a : (Mat 4096 512).Idx → EReal) (b : (Mat 4096 1024).Idx → EReal) :
    (fun p r l => val_main_v7 (F := Ideal) a b (ix3 p r l)) = columnShards 256 (tMul a b) := by
  funext p r l
  rw [val_main_v7_apply, val_main_v6_apply, val_main_v5_apply, val_main_v4_apply]
  show _ = tMul a b (ix2 r ⟨256 * p.val + l.val, _⟩)
  refine Finset.sum_congr rfl fun k _ => ?_
  rw [val_main_v1_apply, val_main_v3_apply, mul_comm]
  refine congrArg₂ (· * ·) (congrArg a (funext fun x => Fin.ext ?_)) (congrArg b (funext fun x => Fin.ext ?_))
  · match x with
    | ⟨0, _⟩ => rfl
    | ⟨1, _⟩ => show ((r.val * 4 + p.val) * 256 + l.val) / 1024 = r.val; omega
  · match x with
    | ⟨0, _⟩ => rfl
    | ⟨1, _⟩ => show ((r.val * 4 + p.val) * 256 + l.val) % 1024 = 256 * p.val + l.val; omega

theorem read (a : (Mat 4096 512).Idx → EReal) (b : (Mat 4096 1024).Idx → EReal) (w : (Stack 4 2560 256).Idx → EReal) :
    val_main_v8 (F := Ideal) a b w = putRows 1024 w (columnShards (N := 256) 256 (tMul a b)) :=
  (update_rows _ _ _ 1024 _ rfl rfl rfl (by decide)).trans (congrArg _ (shards a b))

end Cert.UpSbDwRefIdeal.Product

/-! ## The last layer -/

namespace Cert.UpSbDwLastIdeal.Product

open Idealize.ShloMosaic
open Idealize.SL.Sem  Idealize.ShloMosaic.TcCoe
open Cert.UpSbDwLastIdeal Cert.UpSbDwLastIdeal.Gen Cert.Products

theorem index_0 : ∀ t : Fin cfg0.N, win0_0.index t = ![t.val % 2, 0] := (by decide +kernel : ∀ t : Fin grid0.N, _)
theorem index_1 : ∀ t : Fin cfg0.N, win0_1.index t = ![t.val % 2, t.val / 2] := (by decide +kernel : ∀ t : Fin grid0.N, _)
theorem index_2 : ∀ t : Fin cfg0.N, win0_2.index t = ![t.val / 2, 3, 0] := (by decide +kernel : ∀ t : Fin grid0.N, _)

variable (m : (ℓ : Loc nD τ sig) → Buf (Elt Ideal) ℓ) (c : Dev nD)

/-- The heads, the incoming gradient and the buffer. -/
def argA : (Mat 4096 512).Idx → EReal := m ((c : Thread nD τ).loc main_arg0)
def argB : (Mat 4096 1024).Idx → EReal := m ((c : Thread nD τ).loc main_arg1)
def argC : (Stack 4 2560 256).Idx → EReal := m ((c : Thread nD τ).loc main_arg2)

theorem visits : TwoVisits (outsAt0 m c) (fun t : Fin cfg0.N => tMul (iblk m c 0 t : FVec Ideal S2048x512 .bf16) (iblk m c 1 t : FVec Ideal S2048x256 .bf16)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 512) (l : Fin 256) (u : Fin 512) (v : Fin 1024)
    (hu : u.val = r.val) (hv : v.val = 256 * (t.val / 2) + l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 1536 (argC m c) (columnShards (N := 256) 256 (tMul (argA m c) (argB m c))) := by
  refine (dats m 0 c).arrAt_eq_of_coversWhere_of_agree 2 _ (fun β => β 1 = 3) (by decide +kernel) (fun t ht y => ?_) (fun j hj => ?_)
  · obtain ⟨p, r, l, rfl⟩ : ∃ (p : Fin 1) (r : Fin 512) (l : Fin 256), y = ix3 p r l := ⟨y 0, y 1, y 2, eq_ix3 y⟩
    have hN : t.val < 8 := t.isLt
    have e : (win0_2.blk t).view.emb (ix3 p r l) = ix3 ⟨t.val / 2, by omega⟩ ⟨1536 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(1536 ≤ (j 1).val ∧ (j 1).val < 1536 + 512)
    omega

end Cert.UpSbDwLastIdeal.Product

namespace Cert.UpSbDwLastRefIdeal.Product

open Idealize.ShloMosaic
open Cert.UpSbDwLastRefIdeal Cert.UpSbDwLastRefIdeal.Read Cert.Products

theorem read (a : (Mat 4096 512).Idx → EReal) (b : (Mat 4096 1024).Idx → EReal) (w : (Stack 4 2560 256).Idx → EReal) :
    val_main_v8 (F := Ideal) a b w = putRows 1536 w (columnShards (N := 256) 256 (tMul a b)) :=
  (update_rows _ _ _ 1536 _ rfl rfl rfl (by decide)).trans (congrArg _ (Cert.UpSbDwRefIdeal.Product.shards a b))

end Cert.UpSbDwLastRefIdeal.Product

end
-- ==== Proof.UpDilDw.lean ====
/-
  The gradient of the weights that raise the dilated heads, for both layers: the transposed heads times the incoming
  gradient, in two steps of 2048 tokens. Each of the four shards of the buffer gets 256 columns of it: in its rows from
  2048 on for the first layer, from 2304 on for the last.
-/
module

public import proofs.«01_k».proof.Proof.Gen.UpDilDwIdeal.Value
public import proofs.«01_k».proof.Proof.Gen.UpDilDwRefIdeal.Read
public import proofs.«01_k».proof.Proof.Gen.UpDilDwLastIdeal.Value
public import proofs.«01_k».proof.Proof.Gen.UpDilDwLastRefIdeal.Read
public import proofs.«01_k».proof.Proof.WeightGradient

@[expose] public section

noncomputable section

namespace Cert.UpDilDwIdeal.Product

open Idealize.ShloMosaic
open Idealize.SL.Sem  Idealize.ShloMosaic.TcCoe
open Cert.UpDilDwIdeal Cert.UpDilDwIdeal.Gen Cert.Products

theorem index_0 : ∀ t : Fin cfg0.N, win0_0.index t = ![t.val % 2, 0] := (by decide +kernel : ∀ t : Fin grid0.N, _)
theorem index_1 : ∀ t : Fin cfg0.N, win0_1.index t = ![t.val % 2, t.val / 2] := (by decide +kernel : ∀ t : Fin grid0.N, _)
theorem index_2 : ∀ t : Fin cfg0.N, win0_2.index t = ![t.val / 2, 8, 0] := (by decide +kernel : ∀ t : Fin grid0.N, _)

variable (m : (ℓ : Loc nD τ sig) → Buf (Elt Ideal) ℓ) (c : Dev nD)

/-- The heads, the incoming gradient and the buffer. -/
def argA : (Mat 4096 256).Idx → EReal := m ((c : Thread nD τ).loc main_arg0)
def argB : (Mat 4096 1024).Idx → EReal := m ((c : Thread nD τ).loc main_arg1)
def argC : (Stack 4 2560 256).Idx → EReal := m ((c : Thread nD τ).loc main_arg2)

theorem visits : TwoVisits (outsAt0 m c) (fun t : Fin cfg0.N => tMul (iblk m c 0 t : FVec Ideal S2048x256 .bf16) (iblk m c 1 t : FVec Ideal S2048x256 .bf16)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 256) (l : Fin 256) (u : Fin 256) (v : Fin 1024)
    (hu : u.val = r.val) (hv : v.val = 256 * (t.val / 2) + l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 2048 (argC m c) (columnShards (N := 256) 256 (tMul (argA m c) (argB m c))) := by
  refine (dats m 0 c).arrAt_eq_of_coversWhere_of_agree 2 _ (fun β => β 1 = 8) (by decide +kernel) (fun t ht y => ?_) (fun j hj => ?_)
  · obtain ⟨p, r, l, rfl⟩ : ∃ (p : Fin 1) (r : Fin 256) (l : Fin 256), y = ix3 p r l := ⟨y 0, y 1, y 2, eq_ix3 y⟩
    have hN : t.val < 8 := t.isLt
    have e : (win0_2.blk t).view.emb (ix3 p r l) = ix3 ⟨t.val / 2, by omega⟩ ⟨2048 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(2048 ≤ (j 1).val ∧ (j 1).val < 2048 + 256)
    omega

end Cert.UpDilDwIdeal.Product

namespace Cert.UpDilDwRefIdeal.Product

open Idealize.ShloMosaic
open Cert.UpDilDwRefIdeal Cert.UpDilDwRefIdeal.Read Cert.Products

theorem shards (a : (Mat 4096 256).Idx → EReal) (b : (Mat 4096 1024).Idx → EReal) :
    (fun p r l => val_main_v7 (F := Ideal) a b (ix3 p r l)) = columnShards 256 (tMul a b) := by
  funext p r l
  rw [val_main_v7_apply, val_main_v6_apply, val_main_v5_apply, val_main_v4_apply]
  show _ = tMul a b (ix2 r ⟨256 * p.val + l.val, _⟩)
  refine Finset.sum_congr rfl fun k _ => ?_
  rw [val_main_v1_apply, val_main_v3_apply, mul_comm]
  refine congrArg₂ (· * ·) (congrArg a (funext fun x => Fin.ext ?_)) (congrArg b (funext fun x => Fin.ext ?_))
  · match x with
    | ⟨0, _⟩ => rfl
    | ⟨1, _⟩ => show ((r.val * 4 + p.val) * 256 + l.val) / 1024 = r.val; omega
  · match x with
    | ⟨0, _⟩ => rfl
    | ⟨1, _⟩ => show ((r.val * 4 + p.val) * 256 + l.val) % 1024 = 256 * p.val + l.val; omega

theorem read (a : (Mat 4096 256).Idx → EReal) (b : (Mat 4096 1024).Idx → EReal) (w : (Stack 4 2560 256).Idx → EReal) :
    val_main_v8 (F := Ideal) a b w = putRows 2048 w (columnShards (N := 256) 256 (tMul a b)) :=
  (update_rows _ _ _ 2048 _ rfl rfl rfl (by decide)).trans (congrArg _ (shards a b))

end Cert.UpDilDwRefIdeal.Product

/-! ## The last layer -/

namespace Cert.UpDilDwLastIdeal.Product

open Idealize.ShloMosaic
open Idealize.SL.Sem  Idealize.ShloMosaic.TcCoe
open Cert.UpDilDwLastIdeal Cert.UpDilDwLastIdeal.Gen Cert.Products

theorem index_0 : ∀ t : Fin cfg0.N, win0_0.index t = ![t.val % 2, 0] := (by decide +kernel : ∀ t : Fin grid0.N, _)
theorem index_1 : ∀ t : Fin cfg0.N, win0_1.index t = ![t.val % 2, t.val / 2] := (by decide +kernel : ∀ t : Fin grid0.N, _)
theorem index_2 : ∀ t : Fin cfg0.N, win0_2.index t = ![t.val / 2, 9, 0] := (by decide +kernel : ∀ t : Fin grid0.N, _)

variable (m : (ℓ : Loc nD τ sig) → Buf (Elt Ideal) ℓ) (c : Dev nD)

/-- The heads, the incoming gradient and the buffer. -/
def argA : (Mat 4096 256).Idx → EReal := m ((c : Thread nD τ).loc main_arg0)
def argB : (Mat 4096 1024).Idx → EReal := m ((c : Thread nD τ).loc main_arg1)
def argC : (Stack 4 2560 256).Idx → EReal := m ((c : Thread nD τ).loc main_arg2)

theorem visits : TwoVisits (outsAt0 m c) (fun t : Fin cfg0.N => tMul (iblk m c 0 t : FVec Ideal S2048x256 .bf16) (iblk m c 1 t : FVec Ideal S2048x256 .bf16)) where
  first t h j := by
    rw [outsAt0_A m c t h (by omega) (by omega)]
    frame_out [k0_pay2, shapeCast_self]
    rw [zero_add]
    exact dot_transposed_left _ _ _ j
  second t h j := by
    rw [outsAt0_B m c t h (by omega) (by omega)]
    frame_out [k0_pay3, shapeCast_self]
    exact congrArg₂ (· + ·) (congrFun (Memref.IsWhole.read_unread _ _) j) (dot_transposed_left _ _ _ j)
  written t h p r l := by
    rw [outsAt0_B m c t (by omega) (by omega) (by omega)]
    frame_out [k0_pay4]
    exact shapeCast_stack _ _ p r l

theorem out_apply (t : Fin cfg0.N) (h : t.val % 2 = 1) (p : Fin 1) (r : Fin 256) (l : Fin 256) (u : Fin 256) (v : Fin 1024)
    (hu : u.val = r.val) (hv : v.val = 256 * (t.val / 2) + l.val) :
    (outsAt0 m c t.val t.isLt).1 (ix3 p r l) = tMul (argA m c) (argB m c) (ix2 u v) := by
  refine (visits m c).eq_tMul (argA m c) (argB m c) rfl t h p r l u v (fun t' e k k' hk => ?_) (fun t' e k k' hk => ?_)
  · show _ = V m c main_arg0 (ix2 k' u); blk_ext [iblk, V, index_0]
  · show _ = V m c main_arg1 (ix2 k' v); blk_ext [iblk, V, index_1]

theorem array : (dats m 0 c).arrAt 2 cfg0.N = putRows 2304 (argC m c) (columnShards (N := 256) 256 (tMul (argA m c) (argB m c))) := by
  refine (dats m 0 c).arrAt_eq_of_coversWhere_of_agree 2 _ (fun β => β 1 = 9) (by decide +kernel) (fun t ht y => ?_) (fun j hj => ?_)
  · obtain ⟨p, r, l, rfl⟩ : ∃ (p : Fin 1) (r : Fin 256) (l : Fin 256), y = ix3 p r l := ⟨y 0, y 1, y 2, eq_ix3 y⟩
    have hN : t.val < 8 := t.isLt
    have e : (win0_2.blk t).view.emb (ix3 p r l) = ix3 ⟨t.val / 2, by omega⟩ ⟨2304 + (r.val), by omega⟩ l := by
      blk_ext [index_2]
    blk_simp
    rw [after0_2, e, putRows_inside _ _ _ _ ⟨r.val, by omega⟩ _ rfl]
    refine out_apply m c t ((flush0_2 t).mp ht) p r l _ _ ?_ ?_
    · rfl
    · rfl
  · blk_simp [Pipeline.Window.cell_apply] at hj
    refine Eq.trans rfl (putRows_outside _ _ _ ?_).symm
    show ¬(2304 ≤ (j 1).val ∧ (j 1).val < 2304 + 256)
    omega

end Cert.UpDilDwLastIdeal.Product

namespace Cert.UpDilDwLastRefIdeal.Product

open Idealize.ShloMosaic
open Cert.UpDilDwLastRefIdeal Cert.UpDilDwLastRefIdeal.Read Cert.Products

theorem read (a : (Mat 4096 256).Idx → EReal) (b : (Mat 4096 1024).Idx → EReal) (w : (Stack 4 2560 256).Idx → EReal) :
    val_main_v8 (F := Ideal) a b w = putRows 2304 w (columnShards (N := 256) 256 (tMul a b)) :=
  (update_rows _ _ _ 2304 _ rfl rfl rfl (by decide)).trans (congrArg _ (Cert.UpDilDwRefIdeal.Product.shards a b))

end Cert.UpDilDwLastRefIdeal.Product

end
-- ==== Proof.WeightClaims.lean ====
/-
  The claims about the gradients of the weights: each kernel stores its product in rows of the shards of a buffer, and so
  does its reference.
-/
module

public import proofs.«01_k».proof.Defs
public import proofs.«01_k».proof.Proof.MlpOutDw
public import proofs.«01_k».proof.Proof.MlpInDw
public import proofs.«01_k».proof.Proof.ProjDw
public import proofs.«01_k».proof.Proof.OutProjDw
public import proofs.«01_k».proof.Proof.UpFoxDw
public import proofs.«01_k».proof.Proof.UpSbDw
public import proofs.«01_k».proof.Proof.UpDilDw
public import proofs.«01_k».proof.Proof.Gen.MlpOutDwRefIdeal.Run
public import proofs.«01_k».proof.Proof.Gen.MlpOutDwLastRefIdeal.Run
public import proofs.«01_k».proof.Proof.Gen.MlpInDwRefIdeal.Run
public import proofs.«01_k».proof.Proof.Gen.MlpInDwLastRefIdeal.Run
public import proofs.«01_k».proof.Proof.Gen.ProjDwRefIdeal.Run
public import proofs.«01_k».proof.Proof.Gen.ProjDwLastRefIdeal.Run
public import proofs.«01_k».proof.Proof.Gen.OutProjDwRefIdeal.Run
public import proofs.«01_k».proof.Proof.Gen.OutProjDwLastRefIdeal.Run
public import proofs.«01_k».proof.Proof.Gen.UpFoxDwRefIdeal.Run
public import proofs.«01_k».proof.Proof.Gen.UpFoxDwLastRefIdeal.Run
public import proofs.«01_k».proof.Proof.Gen.UpSbDwRefIdeal.Run
public import proofs.«01_k».proof.Proof.Gen.UpSbDwLastRefIdeal.Run
public import proofs.«01_k».proof.Proof.Gen.UpDilDwRefIdeal.Run
public import proofs.«01_k».proof.Proof.Gen.UpDilDwLastRefIdeal.Run
public import Idealize.ShloMosaic.Adequacy
public import Idealize.ShloMosaic.Init

@[expose] public section

noncomputable section

namespace Cert.ProductClaims

open Idealize.ShloMosaic Idealize.SL.Sem

section MlpOutDw
open Cert.MlpOutDwIdeal.Product

/-- Kernel and reference both end with the buffer that holds the first layer's gradient of the MLP's second weights. -/
theorem mlpOutDw : Cert.algebraic_MlpOutDwIdeal_MlpOutDwRefIdeal := by
  intro m g m' g' _ hargs
  refine ⟨fun c => Products.putRows 2048 (argC m c) (Products.rowShards (H := 1024) (Products.tMul (argA m c) (argB m c))),
    (θ_run _ _ _).mono (fun r h c => ⟨(h c).1.trans (array m c), (h c).2⟩) (Cert.MlpOutDwIdeal.Value.run_blocks (F := Ideal) m g),
    (θ_run _ _ _).mono (fun r h c => ⟨(h c).1.trans ?_, (h c).2⟩) (Cert.MlpOutDwRefIdeal.Value.run (F := Ideal) m' g')⟩
  refine (Cert.MlpOutDwRefIdeal.Read.val_main_v6_eq _ _ _).trans ?_
  rw [(hargs c).1, (hargs c).2.1, (hargs c).2.2]
  exact Cert.MlpOutDwRefIdeal.Product.read _ _ _

theorem mlpOutDw_frame : Cert.quiescent_MlpOutDwRefIdeal := fun m g _ =>
  (θ_run _ _ _).mono (fun r h => ⟨fun c => (h c).2, sem_eq_zero_of_no_sems (by decide) r.2⟩)
    (Cert.MlpOutDwRefIdeal.Value.run (F := Ideal) m g)

end MlpOutDw

section MlpOutDwLast
open Cert.MlpOutDwLastIdeal.Product

/-- The same for the last layer. -/
theorem mlpOutDwLast : Cert.algebraic_MlpOutDwLastIdeal_MlpOutDwLastRefIdeal := by
  intro m g m' g' _ hargs
  refine ⟨fun c => Products.putRows 3072 (argC m c) (Products.rowShards (H := 1024) (Products.tMul (argA m c) (argB m c))),
    (θ_run _ _ _).mono (fun r h c => ⟨(h c).1.trans (array m c), (h c).2⟩) (Cert.MlpOutDwLastIdeal.Value.run_blocks (F := Ideal) m g),
    (θ_run _ _ _).mono (fun r h c => ⟨(h c).1.trans ?_, (h c).2⟩) (Cert.MlpOutDwLastRefIdeal.Value.run (F := Ideal) m' g')⟩
  refine (Cert.MlpOutDwLastRefIdeal.Read.val_main_v6_eq _ _ _).trans ?_
  rw [(hargs c).1, (hargs c).2.1, (hargs c).2.2]
  exact Cert.MlpOutDwLastRefIdeal.Product.read _ _ _

theorem mlpOutDwLast_frame : Cert.quiescent_MlpOutDwLastRefIdeal := fun m g _ =>
  (θ_run _ _ _).mono (fun r h => ⟨fun c => (h c).2, sem_eq_zero_of_no_sems (by decide) r.2⟩)
    (Cert.MlpOutDwLastRefIdeal.Value.run (F := Ideal) m g)

end MlpOutDwLast

section MlpInDw
open Cert.MlpInDwIdeal.Product

/-- Kernel and reference both end with the buffer that holds the first layer's gradient of the MLP's first weights. -/
theorem mlpInDw : Cert.algebraic_MlpInDwIdeal_MlpInDwRefIdeal := by
  intro m g m' g' _ hargs
  refine ⟨fun c => Products.putRows 0 (argC m c) (Products.columnShards (N := 1024) 1024 (Products.mul (argA m c) (argB m c))),
    (θ_run _ _ _).mono (fun r h c => ⟨(h c).1.trans (array m c), (h c).2⟩) (Cert.MlpInDwIdeal.Value.run_blocks (F := Ideal) m g),
    (θ_run _ _ _).mono (fun r h c => ⟨(h c).1.trans ?_, (h c).2⟩) (Cert.MlpInDwRefIdeal.Value.run (F := Ideal) m' g')⟩
  refine (Cert.MlpInDwRefIdeal.Read.val_main_v9_eq _ _ _).trans ?_
  rw [(hargs c).1, (hargs c).2.1, (hargs c).2.2]
  exact Cert.MlpInDwRefIdeal.Product.read _ _ _

theorem mlpInDw_frame : Cert.quiescent_MlpInDwRefIdeal := fun m g _ =>
  (θ_run _ _ _).mono (fun r h => ⟨fun c => (h c).2, sem_eq_zero_of_no_sems (by decide) r.2⟩)
    (Cert.MlpInDwRefIdeal.Value.run (F := Ideal) m g)

end MlpInDw

section MlpInDwLast
open Cert.MlpInDwLastIdeal.Product

/-- The same for the last layer. -/
theorem mlpInDwLast : Cert.algebraic_MlpInDwLastIdeal_MlpInDwLastRefIdeal := by
  intro m g m' g' _ hargs
  refine ⟨fun c => Products.putRows 1024 (argC m c) (Products.columnShards (N := 1024) 1024 (Products.mul (argA m c) (argB m c))),
    (θ_run _ _ _).mono (fun r h c => ⟨(h c).1.trans (array m c), (h c).2⟩) (Cert.MlpInDwLastIdeal.Value.run_blocks (F := Ideal) m g),
    (θ_run _ _ _).mono (fun r h c => ⟨(h c).1.trans ?_, (h c).2⟩) (Cert.MlpInDwLastRefIdeal.Value.run (F := Ideal) m' g')⟩
  refine (Cert.MlpInDwLastRefIdeal.Read.val_main_v9_eq _ _ _).trans ?_
  rw [(hargs c).1, (hargs c).2.1, (hargs c).2.2]
  exact Cert.MlpInDwLastRefIdeal.Product.read _ _ _

theorem mlpInDwLast_frame : Cert.quiescent_MlpInDwLastRefIdeal := fun m g _ =>
  (θ_run _ _ _).mono (fun r h => ⟨fun c => (h c).2, sem_eq_zero_of_no_sems (by decide) r.2⟩)
    (Cert.MlpInDwLastRefIdeal.Value.run (F := Ideal) m g)

end MlpInDwLast

section ProjDw
open Cert.ProjDwIdeal.Product

/-- Kernel and reference both end with the buffer that holds the first layer's gradient of the projection's weights. -/
theorem projDw : Cert.algebraic_ProjDwIdeal_ProjDwRefIdeal := by
  intro m g m' g' _ hargs
  refine ⟨fun c => Products.putRows 0 (argC m c) (Products.columnShards (N := 2304) 2048 (Products.mul (argA m c) (argB m c))),
    (θ_run _ _ _).mono (fun r h c => ⟨(h c).1.trans (array m c), (h c).2⟩) (Cert.ProjDwIdeal.Value.run_blocks (F := Ideal) m g),
    (θ_run _ _ _).mono (fun r h c => ⟨(h c).1.trans ?_, (h c).2⟩) (Cert.ProjDwRefIdeal.Value.run (F := Ideal) m' g')⟩
  refine (Cert.ProjDwRefIdeal.Read.val_main_v16_eq _ _ _).trans ?_
  rw [(hargs c).1, (hargs c).2.1, (hargs c).2.2]
  exact Cert.ProjDwRefIdeal.Product.read _ _ _

theorem projDw_frame : Cert.quiescent_ProjDwRefIdeal := fun m g _ =>
  (θ_run _ _ _).mono (fun r h => ⟨fun c => (h c).2, sem_eq_zero_of_no_sems (by decide) r.2⟩)
    (Cert.ProjDwRefIdeal.Value.run (F := Ideal) m g)

end ProjDw

section ProjDwLast
open Cert.ProjDwLastIdeal.Product

/-- The same for the last layer. -/
theorem projDwLast : Cert.algebraic_ProjDwLastIdeal_ProjDwLastRefIdeal := by
  intro m g m' g' _ hargs
  refine ⟨fun c => Products.putRows 1024 (argC m c) (Products.columnShards (N := 2304) 2048 (Products.mul (argA m c) (argB m c))),
    (θ_run _ _ _).mono (fun r h c => ⟨(h c).1.trans (array m c), (h c).2⟩) (Cert.ProjDwLastIdeal.Value.run_blocks (F := Ideal) m g),
    (θ_run _ _ _).mono (fun r h c => ⟨(h c).1.trans ?_, (h c).2⟩) (Cert.ProjDwLastRefIdeal.Value.run (F := Ideal) m' g')⟩
  refine (Cert.ProjDwLastRefIdeal.Read.val_main_v16_eq _ _ _).trans ?_
  rw [(hargs c).1, (hargs c).2.1, (hargs c).2.2]
  exact Cert.ProjDwLastRefIdeal.Product.read _ _ _

theorem projDwLast_frame : Cert.quiescent_ProjDwLastRefIdeal := fun m g _ =>
  (θ_run _ _ _).mono (fun r h => ⟨fun c => (h c).2, sem_eq_zero_of_no_sems (by decide) r.2⟩)
    (Cert.ProjDwLastRefIdeal.Value.run (F := Ideal) m g)

end ProjDwLast

section OutProjDw
open Cert.OutProjDwIdeal.Product

/-- Kernel and reference both end with the buffer that holds the first layer's gradient of the output projection's weights. -/
theorem outProjDw : Cert.algebraic_OutProjDwIdeal_OutProjDwRefIdeal := by
  intro m g m' g' _ hargs
  refine ⟨fun c => Products.putRows 4096 (argC m c) (Products.rowShards (H := 256) (Products.tMul (argA m c) (argB m c))),
    (θ_run _ _ _).mono (fun r h c => ⟨(h c).1.trans (array m c), (h c).2⟩) (Cert.OutProjDwIdeal.Value.run_blocks (F := Ideal) m g),
    (θ_run _ _ _).mono (fun r h c => ⟨(h c).1.trans ?_, (h c).2⟩) (Cert.OutProjDwRefIdeal.Value.run (F := Ideal) m' g')⟩
  refine (Cert.OutProjDwRefIdeal.Read.val_main_v6_eq _ _ _).trans ?_
  rw [(hargs c).1, (hargs c).2.1, (hargs c).2.2]
  exact Cert.OutProjDwRefIdeal.Product.read _ _ _

theorem outProjDw_frame : Cert.quiescent_OutProjDwRefIdeal := fun m g _ =>
  (θ_run _ _ _).mono (fun r h => ⟨fun c => (h c).2, sem_eq_zero_of_no_sems (by decide) r.2⟩)
    (Cert.OutProjDwRefIdeal.Value.run (F := Ideal) m g)

end OutProjDw

section OutProjDwLast
open Cert.OutProjDwLastIdeal.Product

/-- The same for the last layer. -/
theorem outProjDwLast : Cert.algebraic_OutProjDwLastIdeal_OutProjDwLastRefIdeal := by
  intro m g m' g' _ hargs
  refine ⟨fun c => Products.putRows 4352 (argC m c) (Products.rowShards (H := 256) (Products.tMul (argA m c) (argB m c))),
    (θ_run _ _ _).mono (fun r h c => ⟨(h c).1.trans (array m c), (h c).2⟩) (Cert.OutProjDwLastIdeal.Value.run_blocks (F := Ideal) m g),
    (θ_run _ _ _).mono (fun r h c => ⟨(h c).1.trans ?_, (h c).2⟩) (Cert.OutProjDwLastRefIdeal.Value.run (F := Ideal) m' g')⟩
  refine (Cert.OutProjDwLastRefIdeal.Read.val_main_v6_eq _ _ _).trans ?_
  rw [(hargs c).1, (hargs c).2.1, (hargs c).2.2]
  exact Cert.OutProjDwLastRefIdeal.Product.read _ _ _

theorem outProjDwLast_frame : Cert.quiescent_OutProjDwLastRefIdeal := fun m g _ =>
  (θ_run _ _ _).mono (fun r h => ⟨fun c => (h c).2, sem_eq_zero_of_no_sems (by decide) r.2⟩)
    (Cert.OutProjDwLastRefIdeal.Value.run (F := Ideal) m g)

end OutProjDwLast

section UpFoxDw
open Cert.UpFoxDwIdeal.Product

/-- Kernel and reference both end with the buffer that holds the first layer's gradient of the forgetting heads' raising weights. -/
theorem upFoxDw : Cert.algebraic_UpFoxDwIdeal_UpFoxDwRefIdeal := by
  intro m g m' g' _ hargs
  refine ⟨fun c => Products.putRows 0 (argC m c) (Products.columnShards (N := 256) 256 (Products.tMul (argA m c) (argB m c))),
    (θ_run _ _ _).mono (fun r h c => ⟨(h c).1.trans (array m c), (h c).2⟩) (Cert.UpFoxDwIdeal.Value.run_blocks (F := Ideal) m g),
    (θ_run _ _ _).mono (fun r h c => ⟨(h c).1.trans ?_, (h c).2⟩) (Cert.UpFoxDwRefIdeal.Value.run (F := Ideal) m' g')⟩
  refine (Cert.UpFoxDwRefIdeal.Read.val_main_v8_eq _ _ _).trans ?_
  rw [(hargs c).1, (hargs c).2.1, (hargs c).2.2]
  exact Cert.UpFoxDwRefIdeal.Product.read _ _ _

theorem upFoxDw_frame : Cert.quiescent_UpFoxDwRefIdeal := fun m g _ =>
  (θ_run _ _ _).mono (fun r h => ⟨fun c => (h c).2, sem_eq_zero_of_no_sems (by decide) r.2⟩)
    (Cert.UpFoxDwRefIdeal.Value.run (F := Ideal) m g)

end UpFoxDw

section UpFoxDwLast
open Cert.UpFoxDwLastIdeal.Product

/-- The same for the last layer. -/
theorem upFoxDwLast : Cert.algebraic_UpFoxDwLastIdeal_UpFoxDwLastRefIdeal := by
  intro m g m' g' _ hargs
  refine ⟨fun c => Products.putRows 512 (argC m c) (Products.columnShards (N := 256) 256 (Products.tMul (argA m c) (argB m c))),
    (θ_run _ _ _).mono (fun r h c => ⟨(h c).1.trans (array m c), (h c).2⟩) (Cert.UpFoxDwLastIdeal.Value.run_blocks (F := Ideal) m g),
    (θ_run _ _ _).mono (fun r h c => ⟨(h c).1.trans ?_, (h c).2⟩) (Cert.UpFoxDwLastRefIdeal.Value.run (F := Ideal) m' g')⟩
  refine (Cert.UpFoxDwLastRefIdeal.Read.val_main_v8_eq _ _ _).trans ?_
  rw [(hargs c).1, (hargs c).2.1, (hargs c).2.2]
  exact Cert.UpFoxDwLastRefIdeal.Product.read _ _ _

theorem upFoxDwLast_frame : Cert.quiescent_UpFoxDwLastRefIdeal := fun m g _ =>
  (θ_run _ _ _).mono (fun r h => ⟨fun c => (h c).2, sem_eq_zero_of_no_sems (by decide) r.2⟩)
    (Cert.UpFoxDwLastRefIdeal.Value.run (F := Ideal) m g)

end UpFoxDwLast

section UpSbDw
open Cert.UpSbDwIdeal.Product

/-- Kernel and reference both end with the buffer that holds the first layer's gradient of the stick-breaking heads' raising weights. -/
theorem upSbDw : Cert.algebraic_UpSbDwIdeal_UpSbDwRefIdeal := by
  intro m g m' g' _ hargs
  refine ⟨fun c => Products.putRows 1024 (argC m c) (Products.columnShards (N := 256) 256 (Products.tMul (argA m c) (argB m c))),
    (θ_run _ _ _).mono (fun r h c => ⟨(h c).1.trans (array m c), (h c).2⟩) (Cert.UpSbDwIdeal.Value.run_blocks (F := Ideal) m g),
    (θ_run _ _ _).mono (fun r h c => ⟨(h c).1.trans ?_, (h c).2⟩) (Cert.UpSbDwRefIdeal.Value.run (F := Ideal) m' g')⟩
  refine (Cert.UpSbDwRefIdeal.Read.val_main_v8_eq _ _ _).trans ?_
  rw [(hargs c).1, (hargs c).2.1, (hargs c).2.2]
  exact Cert.UpSbDwRefIdeal.Product.read _ _ _

theorem upSbDw_frame : Cert.quiescent_UpSbDwRefIdeal := fun m g _ =>
  (θ_run _ _ _).mono (fun r h => ⟨fun c => (h c).2, sem_eq_zero_of_no_sems (by decide) r.2⟩)
    (Cert.UpSbDwRefIdeal.Value.run (F := Ideal) m g)

end UpSbDw

section UpSbDwLast
open Cert.UpSbDwLastIdeal.Product

/-- The same for the last layer. -/
theorem upSbDwLast : Cert.algebraic_UpSbDwLastIdeal_UpSbDwLastRefIdeal := by
  intro m g m' g' _ hargs
  refine ⟨fun c => Products.putRows 1536 (argC m c) (Products.columnShards (N := 256) 256 (Products.tMul (argA m c) (argB m c))),
    (θ_run _ _ _).mono (fun r h c => ⟨(h c).1.trans (array m c), (h c).2⟩) (Cert.UpSbDwLastIdeal.Value.run_blocks (F := Ideal) m g),
    (θ_run _ _ _).mono (fun r h c => ⟨(h c).1.trans ?_, (h c).2⟩) (Cert.UpSbDwLastRefIdeal.Value.run (F := Ideal) m' g')⟩
  refine (Cert.UpSbDwLastRefIdeal.Read.val_main_v8_eq _ _ _).trans ?_
  rw [(hargs c).1, (hargs c).2.1, (hargs c).2.2]
  exact Cert.UpSbDwLastRefIdeal.Product.read _ _ _

theorem upSbDwLast_frame : Cert.quiescent_UpSbDwLastRefIdeal := fun m g _ =>
  (θ_run _ _ _).mono (fun r h => ⟨fun c => (h c).2, sem_eq_zero_of_no_sems (by decide) r.2⟩)
    (Cert.UpSbDwLastRefIdeal.Value.run (F := Ideal) m g)

end UpSbDwLast

section UpDilDw
open Cert.UpDilDwIdeal.Product

/-- Kernel and reference both end with the buffer that holds the first layer's gradient of the dilated heads' raising weights. -/
theorem upDilDw : Cert.algebraic_UpDilDwIdeal_UpDilDwRefIdeal := by
  intro m g m' g' _ hargs
  refine ⟨fun c => Products.putRows 2048 (argC m c) (Products.columnShards (N := 256) 256 (Products.tMul (argA m c) (argB m c))),
    (θ_run _ _ _).mono (fun r h c => ⟨(h c).1.trans (array m c), (h c).2⟩) (Cert.UpDilDwIdeal.Value.run_blocks (F := Ideal) m g),
    (θ_run _ _ _).mono (fun r h c => ⟨(h c).1.trans ?_, (h c).2⟩) (Cert.UpDilDwRefIdeal.Value.run (F := Ideal) m' g')⟩
  refine (Cert.UpDilDwRefIdeal.Read.val_main_v8_eq _ _ _).trans ?_
  rw [(hargs c).1, (hargs c).2.1, (hargs c).2.2]
  exact Cert.UpDilDwRefIdeal.Product.read _ _ _

theorem upDilDw_frame : Cert.quiescent_UpDilDwRefIdeal := fun m g _ =>
  (θ_run _ _ _).mono (fun r h => ⟨fun c => (h c).2, sem_eq_zero_of_no_sems (by decide) r.2⟩)
    (Cert.UpDilDwRefIdeal.Value.run (F := Ideal) m g)

end UpDilDw

section UpDilDwLast
open Cert.UpDilDwLastIdeal.Product

/-- The same for the last layer. -/
theorem upDilDwLast : Cert.algebraic_UpDilDwLastIdeal_UpDilDwLastRefIdeal := by
  intro m g m' g' _ hargs
  refine ⟨fun c => Products.putRows 2304 (argC m c) (Products.columnShards (N := 256) 256 (Products.tMul (argA m c) (argB m c))),
    (θ_run _ _ _).mono (fun r h c => ⟨(h c).1.trans (array m c), (h c).2⟩) (Cert.UpDilDwLastIdeal.Value.run_blocks (F := Ideal) m g),
    (θ_run _ _ _).mono (fun r h c => ⟨(h c).1.trans ?_, (h c).2⟩) (Cert.UpDilDwLastRefIdeal.Value.run (F := Ideal) m' g')⟩
  refine (Cert.UpDilDwLastRefIdeal.Read.val_main_v8_eq _ _ _).trans ?_
  rw [(hargs c).1, (hargs c).2.1, (hargs c).2.2]
  exact Cert.UpDilDwLastRefIdeal.Product.read _ _ _

theorem upDilDwLast_frame : Cert.quiescent_UpDilDwLastRefIdeal := fun m g _ =>
  (θ_run _ _ _).mono (fun r h => ⟨fun c => (h c).2, sem_eq_zero_of_no_sems (by decide) r.2⟩)
    (Cert.UpDilDwLastRefIdeal.Value.run (F := Ideal) m g)

end UpDilDwLast

end Cert.ProductClaims

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.MlpOutDx
public import proofs.«01_k».proof.Proof.Gen.MlpOutDx.Skeleton
public import proofs.«01_k».proof.Proof.Gen.MlpOutDx.Launch
public import proofs.«01_k».proof.Proof.Gen.MlpOutDx.Points
public import proofs.«01_k».proof.Proof.Gen.MlpOutDx.Frame
public import proofs.«01_k».proof.Proof.Gen.MlpOutDxIdeal
public import proofs.«01_k».proof.Proof.Gen.MlpOutDxIdeal.Skeleton
public import proofs.«01_k».proof.Proof.Gen.MlpOutDxIdeal.Launch
public import proofs.«01_k».proof.Proof.Gen.MlpOutDxIdeal.Points
public import proofs.«01_k».proof.Proof.Gen.MlpOutDxIdeal.Frame
public import proofs.«01_k».proof.Proof.Gen.MlpOutDxIdeal.Value
public import proofs.«01_k».proof.Proof.Gen.MlpOutDxRefIdeal
public import proofs.«01_k».proof.Proof.Gen.MlpOutDxRefIdeal.Run
public import proofs.«01_k».proof.Proof.Gen.MlpOutDxRefIdeal.Read
public import proofs.«01_k».proof.Proof.Gen.ProjDx
public import proofs.«01_k».proof.Proof.Gen.ProjDx.Skeleton
public import proofs.«01_k».proof.Proof.Gen.ProjDx.Launch
public import proofs.«01_k».proof.Proof.Gen.ProjDx.Points
public import proofs.«01_k».proof.Proof.Gen.ProjDx.Frame
public import proofs.«01_k».proof.Proof.Gen.ProjDxIdeal
public import proofs.«01_k».proof.Proof.Gen.ProjDxIdeal.Skeleton
public import proofs.«01_k».proof.Proof.Gen.ProjDxIdeal.Launch
public import proofs.«01_k».proof.Proof.Gen.ProjDxIdeal.Points
public import proofs.«01_k».proof.Proof.Gen.ProjDxIdeal.Frame
public import proofs.«01_k».proof.Proof.Gen.ProjDxIdeal.Value
public import proofs.«01_k».proof.Proof.Gen.ProjDxRefIdeal
public import proofs.«01_k».proof.Proof.Gen.ProjDxRefIdeal.Run
public import proofs.«01_k».proof.Proof.Gen.ProjDxRefIdeal.Read
public import proofs.«01_k».proof.Proof.Gen.MlpInDx
public import proofs.«01_k».proof.Proof.Gen.MlpInDx.Skeleton
public import proofs.«01_k».proof.Proof.Gen.MlpInDx.Launch
public import proofs.«01_k».proof.Proof.Gen.MlpInDx.Points
public import proofs.«01_k».proof.Proof.Gen.MlpInDx.Frame
public import proofs.«01_k».proof.Proof.Gen.MlpInDxIdeal
public import proofs.«01_k».proof.Proof.Gen.MlpInDxIdeal.Skeleton
public import proofs.«01_k».proof.Proof.Gen.MlpInDxIdeal.Launch
public import proofs.«01_k».proof.Proof.Gen.MlpInDxIdeal.Points
public import proofs.«01_k».proof.Proof.Gen.MlpInDxIdeal.Frame
public import proofs.«01_k».proof.Proof.Gen.MlpInDxIdeal.Value
public import proofs.«01_k».proof.Proof.Gen.MlpInDxRefIdeal
public import proofs.«01_k».proof.Proof.Gen.MlpInDxRefIdeal.Run
public import proofs.«01_k».proof.Proof.Gen.MlpInDxRefIdeal.Read
public import proofs.«01_k».proof.Proof.Gen.Proj
public import proofs.«01_k».proof.Proof.Gen.Proj.Skeleton
public import proofs.«01_k».proof.Proof.Gen.Proj.Launch
public import proofs.«01_k».proof.Proof.Gen.Proj.Points
public import proofs.«01_k».proof.Proof.Gen.Proj.Frame
public import proofs.«01_k».proof.Proof.Gen.ProjIdeal
public import proofs.«01_k».proof.Proof.Gen.ProjIdeal.Skeleton
public import proofs.«01_k».proof.Proof.Gen.ProjIdeal.Launch
public import proofs.«01_k».proof.Proof.Gen.ProjIdeal.Points
public import proofs.«01_k».proof.Proof.Gen.ProjIdeal.Frame
public import proofs.«01_k».proof.Proof.Gen.ProjIdeal.Value
public import proofs.«01_k».proof.Proof.Gen.ProjRefIdeal
public import proofs.«01_k».proof.Proof.Gen.ProjRefIdeal.Run
public import proofs.«01_k».proof.Proof.Gen.ProjRefIdeal.Read
public import proofs.«01_k».proof.Proof.Gen.MlpIn
public import proofs.«01_k».proof.Proof.Gen.MlpIn.Skeleton
public import proofs.«01_k».proof.Proof.Gen.MlpIn.Launch
public import proofs.«01_k».proof.Proof.Gen.MlpIn.Points
public import proofs.«01_k».proof.Proof.Gen.MlpIn.Frame
public import proofs.«01_k».proof.Proof.Gen.MlpInIdeal
public import proofs.«01_k».proof.Proof.Gen.MlpInIdeal.Skeleton
public import proofs.«01_k».proof.Proof.Gen.MlpInIdeal.Launch
public import proofs.«01_k».proof.Proof.Gen.MlpInIdeal.Points
public import proofs.«01_k».proof.Proof.Gen.MlpInIdeal.Frame
public import proofs.«01_k».proof.Proof.Gen.MlpInIdeal.Value
public import proofs.«01_k».proof.Proof.Gen.MlpInRefIdeal
public import proofs.«01_k».proof.Proof.Gen.MlpInRefIdeal.Run
public import proofs.«01_k».proof.Proof.Gen.MlpInRefIdeal.Read
public import proofs.«01_k».proof.Proof.Gen.MlpOut
public import proofs.«01_k».proof.Proof.Gen.MlpOut.Skeleton
public import proofs.«01_k».proof.Proof.Gen.MlpOut.Launch
public import proofs.«01_k».proof.Proof.Gen.MlpOut.Points
public import proofs.«01_k».proof.Proof.Gen.MlpOut.Frame
public import proofs.«01_k».proof.Proof.Gen.MlpOutIdeal
public import proofs.«01_k».proof.Proof.Gen.MlpOutIdeal.Skeleton
public import proofs.«01_k».proof.Proof.Gen.MlpOutIdeal.Launch
public import proofs.«01_k».proof.Proof.Gen.MlpOutIdeal.Points
public import proofs.«01_k».proof.Proof.Gen.MlpOutIdeal.Frame
public import proofs.«01_k».proof.Proof.Gen.MlpOutIdeal.Value
public import proofs.«01_k».proof.Proof.Gen.MlpOutRefIdeal
public import proofs.«01_k».proof.Proof.Gen.MlpOutRefIdeal.Run
public import proofs.«01_k».proof.Proof.Gen.MlpOutRefIdeal.Read
public import proofs.«01_k».proof.Proof.Gen.OutProjDx
public import proofs.«01_k».proof.Proof.Gen.OutProjDx.Skeleton
public import proofs.«01_k».proof.Proof.Gen.OutProjDx.Launch
public import proofs.«01_k».proof.Proof.Gen.OutProjDx.Points
public import proofs.«01_k».proof.Proof.Gen.OutProjDx.Frame
public import proofs.«01_k».proof.Proof.Gen.OutProjDxIdeal
public import proofs.«01_k».proof.Proof.Gen.OutProjDxIdeal.Skeleton
public import proofs.«01_k».proof.Proof.Gen.OutProjDxIdeal.Launch
public import proofs.«01_k».proof.Proof.Gen.OutProjDxIdeal.Points
public import proofs.«01_k».proof.Proof.Gen.OutProjDxIdeal.Frame
public import proofs.«01_k».proof.Proof.Gen.OutProjDxIdeal.Value
public import proofs.«01_k».proof.Proof.Gen.OutProjDxRefIdeal
public import proofs.«01_k».proof.Proof.Gen.OutProjDxRefIdeal.Run
public import proofs.«01_k».proof.Proof.Gen.OutProjDxRefIdeal.Read
public import proofs.«01_k».proof.Proof.Gen.UpDx
public import proofs.«01_k».proof.Proof.Gen.UpDx.Skeleton
public import proofs.«01_k».proof.Proof.Gen.UpDx.Launch
public import proofs.«01_k».proof.Proof.Gen.UpDx.Points
public import proofs.«01_k».proof.Proof.Gen.UpDx.Frame
public import proofs.«01_k».proof.Proof.Gen.UpDxIdeal
public import proofs.«01_k».proof.Proof.Gen.UpDxIdeal.Skeleton
public import proofs.«01_k».proof.Proof.Gen.UpDxIdeal.Launch
public import proofs.«01_k».proof.Proof.Gen.UpDxIdeal.Points
public import proofs.«01_k».proof.Proof.Gen.UpDxIdeal.Frame
public import proofs.«01_k».proof.Proof.Gen.UpDxIdeal.Value
public import proofs.«01_k».proof.Proof.Gen.UpDxRefIdeal
public import proofs.«01_k».proof.Proof.Gen.UpDxRefIdeal.Run
public import proofs.«01_k».proof.Proof.Gen.UpDxRefIdeal.Read
public import proofs.«01_k».proof.Proof.Gen.UpDilDx
public import proofs.«01_k».proof.Proof.Gen.UpDilDx.Skeleton
public import proofs.«01_k».proof.Proof.Gen.UpDilDx.Launch
public import proofs.«01_k».proof.Proof.Gen.UpDilDx.Points
public import proofs.«01_k».proof.Proof.Gen.UpDilDx.Frame
public import proofs.«01_k».proof.Proof.Gen.UpDilDxIdeal
public import proofs.«01_k».proof.Proof.Gen.UpDilDxIdeal.Skeleton
public import proofs.«01_k».proof.Proof.Gen.UpDilDxIdeal.Launch
public import proofs.«01_k».proof.Proof.Gen.UpDilDxIdeal.Points
public import proofs.«01_k».proof.Proof.Gen.UpDilDxIdeal.Frame
public import proofs.«01_k».proof.Proof.Gen.UpDilDxIdeal.Value
public import proofs.«01_k».proof.Proof.Gen.UpDilDxRefIdeal
public import proofs.«01_k».proof.Proof.Gen.UpDilDxRefIdeal.Run
public import proofs.«01_k».proof.Proof.Gen.UpDilDxRefIdeal.Read
public import proofs.«01_k».proof.Proof.Gen.MlpOutDw
public import proofs.«01_k».proof.Proof.Gen.MlpOutDw.Skeleton
public import proofs.«01_k».proof.Proof.Gen.MlpOutDw.Launch
public import proofs.«01_k».proof.Proof.Gen.MlpOutDw.Points
public import proofs.«01_k».proof.Proof.Gen.MlpOutDw.Frame
public import proofs.«01_k».proof.Proof.Gen.MlpOutDwIdeal
public import proofs.«01_k».proof.Proof.Gen.MlpOutDwIdeal.Skeleton
public import proofs.«01_k».proof.Proof.Gen.MlpOutDwIdeal.Launch
public import proofs.«01_k».proof.Proof.Gen.MlpOutDwIdeal.Points
public import proofs.«01_k».proof.Proof.Gen.MlpOutDwIdeal.Frame
public import proofs.«01_k».proof.Proof.Gen.MlpOutDwIdeal.Value
public import proofs.«01_k».proof.Proof.Gen.MlpOutDwRefIdeal
public import proofs.«01_k».proof.Proof.Gen.MlpOutDwRefIdeal.Run
public import proofs.«01_k».proof.Proof.Gen.MlpOutDwRefIdeal.Read
public import proofs.«01_k».proof.Proof.Gen.MlpOutDwLast
public import proofs.«01_k».proof.Proof.Gen.MlpOutDwLast.Skeleton
public import proofs.«01_k».proof.Proof.Gen.MlpOutDwLast.Launch
public import proofs.«01_k».proof.Proof.Gen.MlpOutDwLast.Points
public import proofs.«01_k».proof.Proof.Gen.MlpOutDwLast.Frame
public import proofs.«01_k».proof.Proof.Gen.MlpOutDwLastIdeal
public import proofs.«01_k».proof.Proof.Gen.MlpOutDwLastIdeal.Skeleton
public import proofs.«01_k».proof.Proof.Gen.MlpOutDwLastIdeal.Launch
public import proofs.«01_k».proof.Proof.Gen.MlpOutDwLastIdeal.Points
public import proofs.«01_k».proof.Proof.Gen.MlpOutDwLastIdeal.Frame
public import proofs.«01_k».proof.Proof.Gen.MlpOutDwLastIdeal.Value
public import proofs.«01_k».proof.Proof.Gen.MlpOutDwLastRefIdeal
public import proofs.«01_k».proof.Proof.Gen.MlpOutDwLastRefIdeal.Run
public import proofs.«01_k».proof.Proof.Gen.MlpOutDwLastRefIdeal.Read
public import proofs.«01_k».proof.Proof.Gen.MlpInDw
public import proofs.«01_k».proof.Proof.Gen.MlpInDw.Skeleton
public import proofs.«01_k».proof.Proof.Gen.MlpInDw.Launch
public import proofs.«01_k».proof.Proof.Gen.MlpInDw.Points
public import proofs.«01_k».proof.Proof.Gen.MlpInDw.Frame
public import proofs.«01_k».proof.Proof.Gen.MlpInDwIdeal
public import proofs.«01_k».proof.Proof.Gen.MlpInDwIdeal.Skeleton
public import proofs.«01_k».proof.Proof.Gen.MlpInDwIdeal.Launch
public import proofs.«01_k».proof.Proof.Gen.MlpInDwIdeal.Points
public import proofs.«01_k».proof.Proof.Gen.MlpInDwIdeal.Frame
public import proofs.«01_k».proof.Proof.Gen.MlpInDwIdeal.Value
public import proofs.«01_k».proof.Proof.Gen.MlpInDwRefIdeal
public import proofs.«01_k».proof.Proof.Gen.MlpInDwRefIdeal.Run
public import proofs.«01_k».proof.Proof.Gen.MlpInDwRefIdeal.Read
public import proofs.«01_k».proof.Proof.Gen.MlpInDwLast
public import proofs.«01_k».proof.Proof.Gen.MlpInDwLast.Skeleton
public import proofs.«01_k».proof.Proof.Gen.MlpInDwLast.Launch
public import proofs.«01_k».proof.Proof.Gen.MlpInDwLast.Points
public import proofs.«01_k».proof.Proof.Gen.MlpInDwLast.Frame
public import proofs.«01_k».proof.Proof.Gen.MlpInDwLastIdeal
public import proofs.«01_k».proof.Proof.Gen.MlpInDwLastIdeal.Skeleton
public import proofs.«01_k».proof.Proof.Gen.MlpInDwLastIdeal.Launch
public import proofs.«01_k».proof.Proof.Gen.MlpInDwLastIdeal.Points
public import proofs.«01_k».proof.Proof.Gen.MlpInDwLastIdeal.Frame
public import proofs.«01_k».proof.Proof.Gen.MlpInDwLastIdeal.Value
public import proofs.«01_k».proof.Proof.Gen.MlpInDwLastRefIdeal
public import proofs.«01_k».proof.Proof.Gen.MlpInDwLastRefIdeal.Run
public import proofs.«01_k».proof.Proof.Gen.MlpInDwLastRefIdeal.Read
public import proofs.«01_k».proof.Proof.Gen.ProjDw
public import proofs.«01_k».proof.Proof.Gen.ProjDw.Skeleton
public import proofs.«01_k».proof.Proof.Gen.ProjDw.Launch
public import proofs.«01_k».proof.Proof.Gen.ProjDw.Points
public import proofs.«01_k».proof.Proof.Gen.ProjDw.Frame
public import proofs.«01_k».proof.Proof.Gen.ProjDwIdeal
public import proofs.«01_k».proof.Proof.Gen.ProjDwIdeal.Skeleton
public import proofs.«01_k».proof.Proof.Gen.ProjDwIdeal.Launch
public import proofs.«01_k».proof.Proof.Gen.ProjDwIdeal.Points
public import proofs.«01_k».proof.Proof.Gen.ProjDwIdeal.Frame
public import proofs.«01_k».proof.Proof.Gen.ProjDwIdeal.Value
public import proofs.«01_k».proof.Proof.Gen.ProjDwRefIdeal
public import proofs.«01_k».proof.Proof.Gen.ProjDwRefIdeal.Run
public import proofs.«01_k».proof.Proof.Gen.ProjDwRefIdeal.Read
public import proofs.«01_k».proof.Proof.Gen.ProjDwLast
public import proofs.«01_k».proof.Proof.Gen.ProjDwLast.Skeleton
public import proofs.«01_k».proof.Proof.Gen.ProjDwLast.Launch
public import proofs.«01_k».proof.Proof.Gen.ProjDwLast.Points
public import proofs.«01_k».proof.Proof.Gen.ProjDwLast.Frame
public import proofs.«01_k».proof.Proof.Gen.ProjDwLastIdeal
public import proofs.«01_k».proof.Proof.Gen.ProjDwLastIdeal.Skeleton
public import proofs.«01_k».proof.Proof.Gen.ProjDwLastIdeal.Launch
public import proofs.«01_k».proof.Proof.Gen.ProjDwLastIdeal.Points
public import proofs.«01_k».proof.Proof.Gen.ProjDwLastIdeal.Frame
public import proofs.«01_k».proof.Proof.Gen.ProjDwLastIdeal.Value
public import proofs.«01_k».proof.Proof.Gen.ProjDwLastRefIdeal
public import proofs.«01_k».proof.Proof.Gen.ProjDwLastRefIdeal.Run
public import proofs.«01_k».proof.Proof.Gen.ProjDwLastRefIdeal.Read
public import proofs.«01_k».proof.Proof.Gen.ForgetDw
public import proofs.«01_k».proof.Proof.Gen.ForgetDw.Skeleton
public import proofs.«01_k».proof.Proof.Gen.ForgetDw.Launch
public import proofs.«01_k».proof.Proof.Gen.ForgetDw.Points
public import proofs.«01_k».proof.Proof.Gen.ForgetDw.Frame
public import proofs.«01_k».proof.Proof.Gen.ForgetDwIdeal
public import proofs.«01_k».proof.Proof.Gen.ForgetDwIdeal.Skeleton
public import proofs.«01_k».proof.Proof.Gen.ForgetDwIdeal.Launch
public import proofs.«01_k».proof.Proof.Gen.ForgetDwIdeal.Points
public import proofs.«01_k».proof.Proof.Gen.ForgetDwIdeal.Frame
public import proofs.«01_k».proof.Proof.Gen.ForgetDwIdeal.Value
public import proofs.«01_k».proof.Proof.Gen.ForgetDwRefIdeal
public import proofs.«01_k».proof.Proof.Gen.ForgetDwRefIdeal.Run
public import proofs.«01_k».proof.Proof.Gen.ForgetDwRefIdeal.Read
public import proofs.«01_k».proof.Proof.Gen.OutProjDw
public import proofs.«01_k».proof.Proof.Gen.OutProjDw.Skeleton
public import proofs.«01_k».proof.Proof.Gen.OutProjDw.Launch
public import proofs.«01_k».proof.Proof.Gen.OutProjDw.Points
public import proofs.«01_k».proof.Proof.Gen.OutProjDw.Frame
public import proofs.«01_k».proof.Proof.Gen.OutProjDwIdeal
public import proofs.«01_k».proof.Proof.Gen.OutProjDwIdeal.Skeleton
public import proofs.«01_k».proof.Proof.Gen.OutProjDwIdeal.Launch
public import proofs.«01_k».proof.Proof.Gen.OutProjDwIdeal.Points
public import proofs.«01_k».proof.Proof.Gen.OutProjDwIdeal.Frame
public import proofs.«01_k».proof.Proof.Gen.OutProjDwIdeal.Value
public import proofs.«01_k».proof.Proof.Gen.OutProjDwRefIdeal
public import proofs.«01_k».proof.Proof.Gen.OutProjDwRefIdeal.Run
public import proofs.«01_k».proof.Proof.Gen.OutProjDwRefIdeal.Read
public import proofs.«01_k».proof.Proof.Gen.OutProjDwLast
public import proofs.«01_k».proof.Proof.Gen.OutProjDwLast.Skeleton
public import proofs.«01_k».proof.Proof.Gen.OutProjDwLast.Launch
public import proofs.«01_k».proof.Proof.Gen.OutProjDwLast.Points
public import proofs.«01_k».proof.Proof.Gen.OutProjDwLast.Frame
public import proofs.«01_k».proof.Proof.Gen.OutProjDwLastIdeal
public import proofs.«01_k».proof.Proof.Gen.OutProjDwLastIdeal.Skeleton
public import proofs.«01_k».proof.Proof.Gen.OutProjDwLastIdeal.Launch
public import proofs.«01_k».proof.Proof.Gen.OutProjDwLastIdeal.Points
public import proofs.«01_k».proof.Proof.Gen.OutProjDwLastIdeal.Frame
public import proofs.«01_k».proof.Proof.Gen.OutProjDwLastIdeal.Value
public import proofs.«01_k».proof.Proof.Gen.OutProjDwLastRefIdeal
public import proofs.«01_k».proof.Proof.Gen.OutProjDwLastRefIdeal.Run
public import proofs.«01_k».proof.Proof.Gen.OutProjDwLastRefIdeal.Read
public import proofs.«01_k».proof.Proof.Gen.UpFoxDw
public import proofs.«01_k».proof.Proof.Gen.UpFoxDw.Skeleton
public import proofs.«01_k».proof.Proof.Gen.UpFoxDw.Launch
public import proofs.«01_k».proof.Proof.Gen.UpFoxDw.Points
public import proofs.«01_k».proof.Proof.Gen.UpFoxDw.Frame
public import proofs.«01_k».proof.Proof.Gen.UpFoxDwIdeal
public import proofs.«01_k».proof.Proof.Gen.UpFoxDwIdeal.Skeleton
public import proofs.«01_k».proof.Proof.Gen.UpFoxDwIdeal.Launch
public import proofs.«01_k».proof.Proof.Gen.UpFoxDwIdeal.Points
public import proofs.«01_k».proof.Proof.Gen.UpFoxDwIdeal.Frame
public import proofs.«01_k».proof.Proof.Gen.UpFoxDwIdeal.Value
public import proofs.«01_k».proof.Proof.Gen.UpFoxDwRefIdeal
public import proofs.«01_k».proof.Proof.Gen.UpFoxDwRefIdeal.Run
public import proofs.«01_k».proof.Proof.Gen.UpFoxDwRefIdeal.Read
public import proofs.«01_k».proof.Proof.Gen.UpFoxDwLast
public import proofs.«01_k».proof.Proof.Gen.UpFoxDwLast.Skeleton
public import proofs.«01_k».proof.Proof.Gen.UpFoxDwLast.Launch
public import proofs.«01_k».proof.Proof.Gen.UpFoxDwLast.Points
public import proofs.«01_k».proof.Proof.Gen.UpFoxDwLast.Frame
public import proofs.«01_k».proof.Proof.Gen.UpFoxDwLastIdeal
public import proofs.«01_k».proof.Proof.Gen.UpFoxDwLastIdeal.Skeleton
public import proofs.«01_k».proof.Proof.Gen.UpFoxDwLastIdeal.Launch
public import proofs.«01_k».proof.Proof.Gen.UpFoxDwLastIdeal.Points
public import proofs.«01_k».proof.Proof.Gen.UpFoxDwLastIdeal.Frame
public import proofs.«01_k».proof.Proof.Gen.UpFoxDwLastIdeal.Value
public import proofs.«01_k».proof.Proof.Gen.UpFoxDwLastRefIdeal
public import proofs.«01_k».proof.Proof.Gen.UpFoxDwLastRefIdeal.Run
public import proofs.«01_k».proof.Proof.Gen.UpFoxDwLastRefIdeal.Read
public import proofs.«01_k».proof.Proof.Gen.UpSbDw
public import proofs.«01_k».proof.Proof.Gen.UpSbDw.Skeleton
public import proofs.«01_k».proof.Proof.Gen.UpSbDw.Launch
public import proofs.«01_k».proof.Proof.Gen.UpSbDw.Points
public import proofs.«01_k».proof.Proof.Gen.UpSbDw.Frame
public import proofs.«01_k».proof.Proof.Gen.UpSbDwIdeal
public import proofs.«01_k».proof.Proof.Gen.UpSbDwIdeal.Skeleton
public import proofs.«01_k».proof.Proof.Gen.UpSbDwIdeal.Launch
public import proofs.«01_k».proof.Proof.Gen.UpSbDwIdeal.Points
public import proofs.«01_k».proof.Proof.Gen.UpSbDwIdeal.Frame
public import proofs.«01_k».proof.Proof.Gen.UpSbDwIdeal.Value
public import proofs.«01_k».proof.Proof.Gen.UpSbDwRefIdeal
public import proofs.«01_k».proof.Proof.Gen.UpSbDwRefIdeal.Run
public import proofs.«01_k».proof.Proof.Gen.UpSbDwRefIdeal.Read
public import proofs.«01_k».proof.Proof.Gen.UpSbDwLast
public import proofs.«01_k».proof.Proof.Gen.UpSbDwLast.Skeleton
public import proofs.«01_k».proof.Proof.Gen.UpSbDwLast.Launch
public import proofs.«01_k».proof.Proof.Gen.UpSbDwLast.Points
public import proofs.«01_k».proof.Proof.Gen.UpSbDwLast.Frame
public import proofs.«01_k».proof.Proof.Gen.UpSbDwLastIdeal
public import proofs.«01_k».proof.Proof.Gen.UpSbDwLastIdeal.Skeleton
public import proofs.«01_k».proof.Proof.Gen.UpSbDwLastIdeal.Launch
public import proofs.«01_k».proof.Proof.Gen.UpSbDwLastIdeal.Points
public import proofs.«01_k».proof.Proof.Gen.UpSbDwLastIdeal.Frame
public import proofs.«01_k».proof.Proof.Gen.UpSbDwLastIdeal.Value
public import proofs.«01_k».proof.Proof.Gen.UpSbDwLastRefIdeal
public import proofs.«01_k».proof.Proof.Gen.UpSbDwLastRefIdeal.Run
public import proofs.«01_k».proof.Proof.Gen.UpSbDwLastRefIdeal.Read
public import proofs.«01_k».proof.Proof.Gen.UpDilDw
public import proofs.«01_k».proof.Proof.Gen.UpDilDw.Skeleton
public import proofs.«01_k».proof.Proof.Gen.UpDilDw.Launch
public import proofs.«01_k».proof.Proof.Gen.UpDilDw.Points
public import proofs.«01_k».proof.Proof.Gen.UpDilDw.Frame
public import proofs.«01_k».proof.Proof.Gen.UpDilDwIdeal
public import proofs.«01_k».proof.Proof.Gen.UpDilDwIdeal.Skeleton
public import proofs.«01_k».proof.Proof.Gen.UpDilDwIdeal.Launch
public import proofs.«01_k».proof.Proof.Gen.UpDilDwIdeal.Points
public import proofs.«01_k».proof.Proof.Gen.UpDilDwIdeal.Frame
public import proofs.«01_k».proof.Proof.Gen.UpDilDwIdeal.Value
public import proofs.«01_k».proof.Proof.Gen.UpDilDwRefIdeal
public import proofs.«01_k».proof.Proof.Gen.UpDilDwRefIdeal.Run
public import proofs.«01_k».proof.Proof.Gen.UpDilDwRefIdeal.Read
public import proofs.«01_k».proof.Proof.Gen.UpDilDwLast
public import proofs.«01_k».proof.Proof.Gen.UpDilDwLast.Skeleton
public import proofs.«01_k».proof.Proof.Gen.UpDilDwLast.Launch
public import proofs.«01_k».proof.Proof.Gen.UpDilDwLast.Points
public import proofs.«01_k».proof.Proof.Gen.UpDilDwLast.Frame
public import proofs.«01_k».proof.Proof.Gen.UpDilDwLastIdeal
public import proofs.«01_k».proof.Proof.Gen.UpDilDwLastIdeal.Skeleton
public import proofs.«01_k».proof.Proof.Gen.UpDilDwLastIdeal.Launch
public import proofs.«01_k».proof.Proof.Gen.UpDilDwLastIdeal.Points
public import proofs.«01_k».proof.Proof.Gen.UpDilDwLastIdeal.Frame
public import proofs.«01_k».proof.Proof.Gen.UpDilDwLastIdeal.Value
public import proofs.«01_k».proof.Proof.Gen.UpDilDwLastRefIdeal
public import proofs.«01_k».proof.Proof.Gen.UpDilDwLastRefIdeal.Run
public import proofs.«01_k».proof.Proof.Gen.UpDilDwLastRefIdeal.Read
public import proofs.«01_k».proof.Proof.Gen.Up
public import proofs.«01_k».proof.Proof.Gen.Up.Skeleton
public import proofs.«01_k».proof.Proof.Gen.Up.Launch
public import proofs.«01_k».proof.Proof.Gen.Up.Points
public import proofs.«01_k».proof.Proof.Gen.Up.Frame
public import proofs.«01_k».proof.Proof.Gen.UpIdeal
public import proofs.«01_k».proof.Proof.Gen.UpIdeal.Skeleton
public import proofs.«01_k».proof.Proof.Gen.UpIdeal.Launch
public import proofs.«01_k».proof.Proof.Gen.UpIdeal.Points
public import proofs.«01_k».proof.Proof.Gen.UpIdeal.Frame
public import proofs.«01_k».proof.Proof.Gen.UpIdeal.Value
public import proofs.«01_k».proof.Proof.Gen.UpRefIdeal
public import proofs.«01_k».proof.Proof.Gen.UpRefIdeal.Run
public import proofs.«01_k».proof.Proof.Gen.UpRefIdeal.Read
public import proofs.«01_k».proof.Proof.Gen.UpDil
public import proofs.«01_k».proof.Proof.Gen.UpDil.Skeleton
public import proofs.«01_k».proof.Proof.Gen.UpDil.Launch
public import proofs.«01_k».proof.Proof.Gen.UpDil.Points
public import proofs.«01_k».proof.Proof.Gen.UpDil.Frame
public import proofs.«01_k».proof.Proof.Gen.UpDilIdeal
public import proofs.«01_k».proof.Proof.Gen.UpDilIdeal.Skeleton
public import proofs.«01_k».proof.Proof.Gen.UpDilIdeal.Launch
public import proofs.«01_k».proof.Proof.Gen.UpDilIdeal.Points
public import proofs.«01_k».proof.Proof.Gen.UpDilIdeal.Frame
public import proofs.«01_k».proof.Proof.Gen.UpDilIdeal.Value
public import proofs.«01_k».proof.Proof.Gen.UpDilRefIdeal
public import proofs.«01_k».proof.Proof.Gen.UpDilRefIdeal.Run
public import proofs.«01_k».proof.Proof.Gen.UpDilRefIdeal.Read
public import proofs.«01_k».proof.Proof.Gen.OutProj
public import proofs.«01_k».proof.Proof.Gen.OutProj.Skeleton
public import proofs.«01_k».proof.Proof.Gen.OutProj.Launch
public import proofs.«01_k».proof.Proof.Gen.OutProj.Points
public import proofs.«01_k».proof.Proof.Gen.OutProj.Frame
public import proofs.«01_k».proof.Proof.Gen.OutProjIdeal
public import proofs.«01_k».proof.Proof.Gen.OutProjIdeal.Skeleton
public import proofs.«01_k».proof.Proof.Gen.OutProjIdeal.Launch
public import proofs.«01_k».proof.Proof.Gen.OutProjIdeal.Points
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.SbAttn
public import proofs.«01_k».proof.Proof.Gen.SbAttn.Skeleton
public import proofs.«01_k».proof.Proof.Gen.SbAttn.Launch
public import proofs.«01_k».proof.Proof.Gen.SbAttn.Points
public import proofs.«01_k».proof.Proof.Gen.SbAttn.Frame
public import proofs.«01_k».proof.Proof.Gen.SbAttnIdeal
public import proofs.«01_k».proof.Proof.Gen.SbAttnIdeal.Skeleton
public import proofs.«01_k».proof.Proof.Gen.SbAttnIdeal.Launch
public import proofs.«01_k».proof.Proof.Gen.SbAttnIdeal.Points
public import proofs.«01_k».proof.Proof.Gen.SbAttnIdeal.Frame
public import proofs.«01_k».proof.Proof.Gen.SbAttnIdeal.Value
public import proofs.«01_k».proof.Proof.Gen.SbAttnRefIdeal
public import proofs.«01_k».proof.Proof.Gen.SbAttnRefIdeal.Run
public import proofs.«01_k».proof.Proof.Gen.SbAttnRefIdeal.Read
public import proofs.«01_k».proof.Proof.Gen.FoxAttn
public import proofs.«01_k».proof.Proof.Gen.FoxAttn.Skeleton
public import proofs.«01_k».proof.Proof.Gen.FoxAttn.Launch
public import proofs.«01_k».proof.Proof.Gen.FoxAttn.Points
public import proofs.«01_k».proof.Proof.Gen.FoxAttn.Frame
public import proofs.«01_k».proof.Proof.Gen.FoxAttnIdeal
public import proofs.«01_k».proof.Proof.Gen.FoxAttnIdeal.Skeleton
public import proofs.«01_k».proof.Proof.Gen.FoxAttnIdeal.Launch
public import proofs.«01_k».proof.Proof.Gen.FoxAttnIdeal.Points
public import proofs.«01_k».proof.Proof.Gen.FoxAttnIdeal.Frame
public import proofs.«01_k».proof.Proof.Gen.FoxAttnIdeal.Value
public import proofs.«01_k».proof.Proof.Gen.FoxAttnRefIdeal
public import proofs.«01_k».proof.Proof.Gen.FoxAttnRefIdeal.Run
public import proofs.«01_k».proof.Proof.Gen.FoxAttnRefIdeal.Read
public import proofs.«01_k».proof.Proof.Reference
public import proofs.«01_k».proof.Proof.KernelValue
public import proofs.«01_k».proof.Proof.SbAttnClaims
public import proofs.«01_k».proof.Proof.FoxAttnClaims
public import proofs.«01_k».proof.Proof.Precondition
public import proofs.«01_k».proof.Proof.ProductClaims
public import proofs.«01_k».proof.Proof.OutClaims
public import proofs.«01_k».proof.Proof.WeightClaims
public import Idealize.ShloMosaic.Adequacy
public import Idealize.ShloMosaic.Init

@[expose] public section

noncomputable section

namespace Cert.Proof

open Idealize.ShloMosaic Idealize.SL.Sem
open Cert.StickBreaking

/-- The kernel's three arrays are the three gradients, and so are the reference's. -/
theorem algebraic : Cert.algebraic_KernelIdeal_ReferenceIdeal_pre_finite_inputs := by
  intro m g m' g' hpre hargs
  have hf : ∀ c : Dev Cert.KernelIdeal.nD, Finite (Tile.argX m c) (Tile.argY m c) := fun c => Pre.finite_of_pre _ _ (hpre c)
  have hx : ∀ c : Dev Cert.KernelIdeal.nD,
      m' ((c.tc : Thread Cert.ReferenceIdeal.nD Cert.ReferenceIdeal.τ).loc Cert.ReferenceIdeal.main_arg0) = Tile.argX m c := fun c => (hargs c).1
  have hy : ∀ c : Dev Cert.KernelIdeal.nD,
      m' ((c.tc : Thread Cert.ReferenceIdeal.nD Cert.ReferenceIdeal.τ).loc Cert.ReferenceIdeal.main_arg1) = Tile.argY m c := fun c => (hargs c).2
  refine ⟨fun c => dQ (Tile.argX m c) (Tile.argY m c), fun c => dK (Tile.argX m c) (Tile.argY m c),
    fun c => dV (Tile.argX m c) (Tile.argY m c), ?_, ?_⟩
  · refine (θ_run _ _ _).mono (fun r h c => ?_) (Cert.KernelIdeal.Value.run_blocks (F := Ideal) m g)
    obtain ⟨h0, h1, h2, ha, hb⟩ := h c
    exact ⟨h0.trans (Tile.array_q m c (hf c)), h1.trans (Tile.array_k m c (hf c)), h2.trans (Tile.array_v m c (hf c)), ha, hb⟩
  · refine (θ_run _ _ _).mono (fun r h c => ?_) (Cert.ReferenceIdeal.Value.run (F := Ideal) m' g')
    obtain ⟨h0, h1, h2, ha, hb⟩ := h c
    refine ⟨(h0.trans (Cert.ReferenceIdeal.Read.val_main_v45_eq m' c)).trans ?_,
      (h1.trans (Cert.ReferenceIdeal.Read.val_main_v47_eq m' c)).trans ?_,
      (h2.trans (Cert.ReferenceIdeal.Read.val_main_v49_eq m' c)).trans ?_, ha, hb⟩
    · rw [hx c, hy c]; exact Ref.dq_eq (hf c)
    · rw [hx c, hy c]; exact Ref.dk_eq (hf c)
    · rw [hx c, hy c]; exact Ref.dv_eq (hf c)

/-- The reference runs, keeps its arguments and holds no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩
      (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run _ _ _).mono (fun r h => ⟨fun c => (h c).2.2.2, sem_eq_zero_of_no_sems (by decide) r.2⟩)
    (Cert.ReferenceIdeal.Value.run (F := Ideal) m g)

theorem claim : Cert.Claim := ⟨Cert.Kernel.Gen.facts, Cert.KernelIdeal.Gen.facts, Cert.ReferenceIdeal.Gen.facts,
  Cert.MlpOutDx.Gen.facts, Cert.MlpOutDxIdeal.Gen.facts, Cert.MlpOutDxRefIdeal.Gen.facts,
  Cert.ProjDx.Gen.facts, Cert.ProjDxIdeal.Gen.facts, Cert.ProjDxRefIdeal.Gen.facts,
  Cert.MlpInDx.Gen.facts, Cert.MlpInDxIdeal.Gen.facts, Cert.MlpInDxRefIdeal.Gen.facts,
  Cert.Proj.Gen.facts, Cert.ProjIdeal.Gen.facts, Cert.ProjRefIdeal.Gen.facts,
  Cert.MlpIn.Gen.facts, Cert.MlpInIdeal.Gen.facts, Cert.MlpInRefIdeal.Gen.facts,
  Cert.MlpOut.Gen.facts, Cert.MlpOutIdeal.Gen.facts, Cert.MlpOutRefIdeal.Gen.facts,
  Cert.OutProjDx.Gen.facts, Cert.OutProjDxIdeal.Gen.facts, Cert.OutProjDxRefIdeal.Gen.facts,
  Cert.UpDx.Gen.facts, Cert.UpDxIdeal.Gen.facts, Cert.UpDxRefIdeal.Gen.facts,
  Cert.UpDilDx.Gen.facts, Cert.UpDilDxIdeal.Gen.facts, Cert.UpDilDxRefIdeal.Gen.facts,
  Cert.MlpOutDw.Gen.facts, Cert.MlpOutDwIdeal.Gen.facts, Cert.MlpOutDwRefIdeal.Gen.facts,
  Cert.MlpOutDwLast.Gen.facts, Cert.MlpOutDwLastIdeal.Gen.facts, Cert.MlpOutDwLastRefIdeal.Gen.facts,
  Cert.MlpInDw.Gen.facts, Cert.MlpInDwIdeal.Gen.facts, Cert.MlpInDwRefIdeal.Gen.facts,
  Cert.MlpInDwLast.Gen.facts, Cert.MlpInDwLastIdeal.Gen.facts, Cert.MlpInDwLastRefIdeal.Gen.facts,
  Cert.ProjDw.Gen.facts, Cert.ProjDwIdeal.Gen.facts, Cert.ProjDwRefIdeal.Gen.facts,
  Cert.ProjDwLast.Gen.facts, Cert.ProjDwLastIdeal.Gen.facts, Cert.ProjDwLastRefIdeal.Gen.facts,
  Cert.ForgetDw.Gen.facts, Cert.ForgetDwIdeal.Gen.facts, Cert.ForgetDwRefIdeal.Gen.facts,
  Cert.OutProjDw.Gen.facts, Cert.OutProjDwIdeal.Gen.facts, Cert.OutProjDwRefIdeal.Gen.facts,
  Cert.OutProjDwLast.Gen.facts, Cert.OutProjDwLastIdeal.Gen.facts, Cert.OutProjDwLastRefIdeal.Gen.facts,
  Cert.UpFoxDw.Gen.facts, Cert.UpFoxDwIdeal.Gen.facts, Cert.UpFoxDwRefIdeal.Gen.facts,
  Cert.UpFoxDwLast.Gen.facts, Cert.UpFoxDwLastIdeal.Gen.facts, Cert.UpFoxDwLastRefIdeal.Gen.facts,
  Cert.UpSbDw.Gen.facts, Cert.UpSbDwIdeal.Gen.facts, Cert.UpSbDwRefIdeal.Gen.facts,
  Cert.UpSbDwLast.Gen.facts, Cert.UpSbDwLastIdeal.Gen.facts, Cert.UpSbDwLastRefIdeal.Gen.facts,
  Cert.UpDilDw.Gen.facts, Cert.UpDilDwIdeal.Gen.facts, Cert.UpDilDwRefIdeal.Gen.facts,
  Cert.UpDilDwLast.Gen.facts, Cert.UpDilDwLastIdeal.Gen.facts, Cert.UpDilDwLastRefIdeal.Gen.facts,
  Cert.Up.Gen.facts, Cert.UpIdeal.Gen.facts, Cert.UpRefIdeal.Gen.facts,
  Cert.UpDil.Gen.facts, Cert.UpDilIdeal.Gen.facts, Cert.UpDilRefIdeal.Gen.facts,
  Cert.OutProj.Gen.facts, Cert.OutProjIdeal.Gen.facts, Cert.OutProjRefIdeal.Gen.facts,
  Cert.SbAttn.Gen.facts, Cert.SbAttnIdeal.Gen.facts, Cert.SbAttnRefIdeal.Gen.facts,
  Cert.FoxAttn.Gen.facts, Cert.FoxAttnIdeal.Gen.facts, Cert.FoxAttnRefIdeal.Gen.facts,
  Pre.facts, Forgetting.Pre.facts,
  fun m ρ _ => Cert.Kernel.Gen.frame m ρ, fun m ρ _ => Cert.KernelIdeal.Gen.frame m ρ, fun m ρ _ => Cert.KernelIdeal.Gen.frame m ρ,
  fun m ρ _ => frame_reference m ρ, fun m ρ _ => frame_reference m ρ,
  fun m ρ _ => Cert.MlpOutDx.Gen.frame m ρ, fun m ρ _ => Cert.MlpOutDxIdeal.Gen.frame m ρ, ProductClaims.mlpOutDx_frame,
  fun m ρ _ => Cert.ProjDx.Gen.frame m ρ, fun m ρ _ => Cert.ProjDxIdeal.Gen.frame m ρ, ProductClaims.projDx_frame,
  fun m ρ _ => Cert.MlpInDx.Gen.frame m ρ, fun m ρ _ => Cert.MlpInDxIdeal.Gen.frame m ρ, ProductClaims.mlpInDx_frame,
  fun m ρ _ => Cert.Proj.Gen.frame m ρ, fun m ρ _ => Cert.ProjIdeal.Gen.frame m ρ, ProductClaims.proj_frame,
  fun m ρ _ => Cert.MlpIn.Gen.frame m ρ, fun m ρ _ => Cert.MlpInIdeal.Gen.frame m ρ, ProductClaims.mlpIn_frame,
  fun m ρ _ => Cert.MlpOut.Gen.frame m ρ, fun m ρ _ => Cert.MlpOutIdeal.Gen.frame m ρ, ProductClaims.mlpOut_frame,
  fun m ρ _ => Cert.OutProjDx.Gen.frame m ρ, fun m ρ _ => Cert.OutProjDxIdeal.Gen.frame m ρ, ProductClaims.outProjDx_frame,
  fun m ρ _ => Cert.UpDx.Gen.frame m ρ, fun m ρ _ => Cert.UpDxIdeal.Gen.frame m ρ, ProductClaims.upDx_frame,
  fun m ρ _ => Cert.UpDilDx.Gen.frame m ρ, fun m ρ _ => Cert.UpDilDxIdeal.Gen.frame m ρ, ProductClaims.upDilDx_frame,
  fun m ρ _ => Cert.MlpOutDw.Gen.frame m ρ, fun m ρ _ => Cert.MlpOutDwIdeal.Gen.frame m ρ, ProductClaims.mlpOutDw_frame,
  fun m ρ _ => Cert.MlpOutDwLast.Gen.frame m ρ, fun m ρ _ => Cert.MlpOutDwLastIdeal.Gen.frame m ρ, ProductClaims.mlpOutDwLast_frame,
  fun m ρ _ => Cert.MlpInDw.Gen.frame m ρ, fun m ρ _ => Cert.MlpInDwIdeal.Gen.frame m ρ, ProductClaims.mlpInDw_frame,
  fun m ρ _ => Cert.MlpInDwLast.Gen.frame m ρ, fun m ρ _ => Cert.MlpInDwLastIdeal.Gen.frame m ρ, ProductClaims.mlpInDwLast_frame,
  fun m ρ _ => Cert.ProjDw.Gen.frame m ρ, fun m ρ _ => Cert.ProjDwIdeal.Gen.frame m ρ, ProductClaims.projDw_frame,
  fun m ρ _ => Cert.ProjDwLast.Gen.frame m ρ, fun m ρ _ => Cert.ProjDwLastIdeal.Gen.frame m ρ, ProductClaims.projDwLast_frame,
  fun m ρ _ => Cert.ForgetDw.Gen.frame m ρ, fun m ρ _ => Cert.ForgetDwIdeal.Gen.frame m ρ, ProductClaims.forgetDw_frame,
  fun m ρ _ => Cert.OutProjDw.Gen.frame m ρ, fun m ρ _ => Cert.OutProjDwIdeal.Gen.frame m ρ, ProductClaims.outProjDw_frame,
  fun m ρ _ => Cert.OutProjDwLast.Gen.frame m ρ, fun m ρ _ => Cert.OutProjDwLastIdeal.Gen.frame m ρ, ProductClaims.outProjDwLast_frame,
  fun m ρ _ => Cert.UpFoxDw.Gen.frame m ρ, fun m ρ _ => Cert.UpFoxDwIdeal.Gen.frame m ρ, ProductClaims.upFoxDw_frame,
  fun m ρ _ => Cert.UpFoxDwLast.Gen.frame m ρ, fun m ρ _ => Cert.UpFoxDwLastIdeal.Gen.frame m ρ, ProductClaims.upFoxDwLast_frame,
  fun m ρ _ => Cert.UpSbDw.Gen.frame m ρ, fun m ρ _ => Cert.UpSbDwIdeal.Gen.frame m ρ, ProductClaims.upSbDw_frame,
  fun m ρ _ => Cert.UpSbDwLast.Gen.frame m ρ, fun m ρ _ => Cert.UpSbDwLastIdeal.Gen.frame m ρ, ProductClaims.upSbDwLast_frame,
  fun m ρ _ => Cert.UpDilDw.Gen.frame m ρ, fun m ρ _ => Cert.UpDilDwIdeal.Gen.frame m ρ, ProductClaims.upDilDw_frame,
  fun m ρ _ => Cert.UpDilDwLast.Gen.frame m ρ, fun m ρ _ => Cert.UpDilDwLastIdeal.Gen.frame m ρ, ProductClaims.upDilDwLast_frame,
  fun m ρ _ => Cert.Up.Gen.frame m ρ, fun m ρ _ => Cert.UpIdeal.Gen.frame m ρ, ProductClaims.up_frame,
  fun m ρ _ => Cert.UpDil.Gen.frame m ρ, fun m ρ _ => Cert.UpDilIdeal.Gen.frame m ρ, ProductClaims.upDil_frame,
  fun m ρ _ => Cert.OutProj.Gen.frame m ρ, fun m ρ _ => Cert.OutProjIdeal.Gen.frame m ρ, ProductClaims.outProj_frame,
  fun m ρ _ => Cert.SbAttn.Gen.frame m ρ, fun m ρ _ => Cert.SbAttnIdeal.Gen.frame m ρ, StickBreaking.attend_frame,
  fun m ρ _ => Cert.FoxAttn.Gen.frame m ρ, fun m ρ _ => Cert.FoxAttnIdeal.Gen.frame m ρ, fun m ρ _ => Cert.FoxAttnIdeal.Gen.frame m ρ,
  Forgetting.attend_frame, fun m ρ _ => Forgetting.attend_frame m ρ trivial,
  trivial, algebraic,
  trivial, ProductClaims.mlpOutDx,
  trivial, ProductClaims.projDx,
  trivial, ProductClaims.mlpInDx,
  trivial, ProductClaims.proj,
  trivial, ProductClaims.mlpIn,
  trivial, ProductClaims.mlpOut,
  trivial, ProductClaims.outProjDx,
  trivial, ProductClaims.upDx,
  trivial, ProductClaims.upDilDx,
  trivial, ProductClaims.mlpOutDw,
  trivial, ProductClaims.mlpOutDwLast,
  trivial, ProductClaims.mlpInDw,
  trivial, ProductClaims.mlpInDwLast,
  trivial, ProductClaims.projDw,
  trivial, ProductClaims.projDwLast,
  trivial, ProductClaims.forgetDw,
  trivial, ProductClaims.outProjDw,
  trivial, ProductClaims.outProjDwLast,
  trivial, ProductClaims.upFoxDw,
  trivial, ProductClaims.upFoxDwLast,
  trivial, ProductClaims.upSbDw,
  trivial, ProductClaims.upSbDwLast,
  trivial, ProductClaims.upDilDw,
  trivial, ProductClaims.upDilDwLast,
  trivial, ProductClaims.up,
  trivial, ProductClaims.upDil,
  trivial, ProductClaims.outProj,
  trivial, StickBreaking.attend,
  trivial, Forgetting.attend⟩

end Cert.Proof

end
